-- ==== Defs.lean ====
def Pre_Swap (m : (ℓ : Loc Cert.Swap.nD Cert.Swap.τ Cert.Swap.sig) → Buf (Elt Bits) ℓ) : Prop :=
  True

def Pre_SwapIdeal (m : (ℓ : Loc Cert.SwapIdeal.nD Cert.SwapIdeal.τ Cert.SwapIdeal.sig) → Buf (Elt Ideal) ℓ) : Prop :=
  True

def Pre_SwapRefIdeal (m : (ℓ : Loc Cert.SwapRefIdeal.nD Cert.SwapRefIdeal.τ Cert.SwapRefIdeal.sig) → Buf (Elt Ideal) ℓ) : Prop :=
  True

def Pre_Scatter (m : (ℓ : Loc Cert.Scatter.nD Cert.Scatter.τ Cert.Scatter.sig) → Buf (Elt Bits) ℓ) : Prop :=
  True

def Pre_ScatterIdeal (m : (ℓ : Loc Cert.ScatterIdeal.nD Cert.ScatterIdeal.τ Cert.ScatterIdeal.sig) → Buf (Elt Ideal) ℓ) : Prop :=
  True

def Pre_ScatterRefIdeal (m : (ℓ : Loc Cert.ScatterRefIdeal.nD Cert.ScatterRefIdeal.τ Cert.ScatterRefIdeal.sig) → Buf (Elt Ideal) ℓ) : Prop :=
  True

def Pre_Cores (m : (ℓ : Loc Cert.Cores.nD Cert.Cores.τ Cert.Cores.sig) → Buf (Elt Bits) ℓ) : Prop :=
  True

def Pre_CoresIdeal (m : (ℓ : Loc Cert.CoresIdeal.nD Cert.CoresIdeal.τ Cert.CoresIdeal.sig) → Buf (Elt Ideal) ℓ) : Prop :=
  True

def Pre_CoresRefIdeal (m : (ℓ : Loc Cert.CoresRefIdeal.nD Cert.CoresRefIdeal.τ Cert.CoresRefIdeal.sig) → Buf (Elt Ideal) ℓ) : Prop :=
  True

def Pre_Chips (m : (ℓ : Loc Cert.Chips.nD Cert.Chips.τ Cert.Chips.sig) → Buf (Elt Bits) ℓ) : Prop :=
  True

def Pre_ChipsIdeal (m : (ℓ : Loc Cert.ChipsIdeal.nD Cert.ChipsIdeal.τ Cert.ChipsIdeal.sig) → Buf (Elt Ideal) ℓ) : Prop :=
  True

def Pre_ChipsRefIdeal (m : (ℓ : Loc Cert.ChipsRefIdeal.nD Cert.ChipsRefIdeal.τ Cert.ChipsRefIdeal.sig) → Buf (Elt Ideal) ℓ) : Prop :=
  True

def Pre_AddCores (m : (ℓ : Loc Cert.AddCores.nD Cert.AddCores.τ Cert.AddCores.sig) → Buf (Elt Bits) ℓ) : Prop :=
  True

def Pre_AddCoresIdeal (m : (ℓ : Loc Cert.AddCoresIdeal.nD Cert.AddCoresIdeal.τ Cert.AddCoresIdeal.sig) → Buf (Elt Ideal) ℓ) : Prop :=
  True

def Pre_AddCoresRefIdeal (m : (ℓ : Loc Cert.AddCoresRefIdeal.nD Cert.AddCoresRefIdeal.τ Cert.AddCoresRefIdeal.sig) → Buf (Elt Ideal) ℓ) : Prop :=
  True

def Pre_AddChips (m : (ℓ : Loc Cert.AddChips.nD Cert.AddChips.τ Cert.AddChips.sig) → Buf (Elt Bits) ℓ) : Prop :=
  True

def Pre_AddChipsIdeal (m : (ℓ : Loc Cert.AddChipsIdeal.nD Cert.AddChipsIdeal.τ Cert.AddChipsIdeal.sig) → Buf (Elt Ideal) ℓ) : Prop :=
  True

def Pre_AddChipsRefIdeal (m : (ℓ : Loc Cert.AddChipsRefIdeal.nD Cert.AddChipsRefIdeal.τ Cert.AddChipsRefIdeal.sig) → Buf (Elt Ideal) ℓ) : Prop :=
  True

def Pre_AdamSplit (m : (ℓ : Loc Cert.AdamSplit.nD Cert.AdamSplit.τ Cert.AdamSplit.sig) → Buf (Elt Bits) ℓ) : Prop :=
  True

def Pre_AdamSplitIdeal (m : (ℓ : Loc Cert.AdamSplitIdeal.nD Cert.AdamSplitIdeal.τ Cert.AdamSplitIdeal.sig) → Buf (Elt Ideal) ℓ) : Prop :=
  True

def Pre_AdamSplitRefIdeal (m : (ℓ : Loc Cert.AdamSplitRefIdeal.nD Cert.AdamSplitRefIdeal.τ Cert.AdamSplitRefIdeal.sig) → Buf (Elt Ideal) ℓ) : Prop :=
  True

def Pre_AdamRep (m : (ℓ : Loc Cert.AdamRep.nD Cert.AdamRep.τ Cert.AdamRep.sig) → Buf (Elt Bits) ℓ) : Prop :=
  True

def Pre_AdamRepIdeal (m : (ℓ : Loc Cert.AdamRepIdeal.nD Cert.AdamRepIdeal.τ Cert.AdamRepIdeal.sig) → Buf (Elt Ideal) ℓ) : Prop :=
  True

def Pre_AdamRepRefIdeal (m : (ℓ : Loc Cert.AdamRepRefIdeal.nD Cert.AdamRepRefIdeal.τ Cert.AdamRepRefIdeal.sig) → Buf (Elt Ideal) ℓ) : Prop :=
  True

def Pre_GradX (m : (ℓ : Loc Cert.GradX.nD Cert.GradX.τ Cert.GradX.sig) → Buf (Elt Bits) ℓ) : Prop :=
  True

def Pre_GradXIdeal (m : (ℓ : Loc Cert.GradXIdeal.nD Cert.GradXIdeal.τ Cert.GradXIdeal.sig) → Buf (Elt Ideal) ℓ) : Prop :=
  True

def Pre_GradXRefIdeal (m : (ℓ : Loc Cert.GradXRefIdeal.nD Cert.GradXRefIdeal.τ Cert.GradXRefIdeal.sig) → Buf (Elt Ideal) ℓ) : Prop :=
  True

def Pre_FfnNorm (m : (ℓ : Loc Cert.FfnNorm.nD Cert.FfnNorm.τ Cert.FfnNorm.sig) → Buf (Elt Bits) ℓ) : Prop :=
  True

def Pre_FfnNormIdeal (m : (ℓ : Loc Cert.FfnNormIdeal.nD Cert.FfnNormIdeal.τ Cert.FfnNormIdeal.sig) → Buf (Elt Ideal) ℓ) : Prop :=
  True

def Pre_FfnNormRefIdeal (m : (ℓ : Loc Cert.FfnNormRefIdeal.nD Cert.FfnNormRefIdeal.τ Cert.FfnNormRefIdeal.sig) → Buf (Elt Ideal) ℓ) : Prop :=
  True

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpRefIdeal (m : (ℓ : Loc Cert.FfnUpRefIdeal.nD Cert.FfnUpRefIdeal.τ Cert.FfnUpRefIdeal.sig) → Buf (Elt Ideal) ℓ) : Prop :=
  True

def Pre_FfnAct (m : (ℓ : Loc Cert.FfnAct.nD Cert.FfnAct.τ Cert.FfnAct.sig) → Buf (Elt Bits) ℓ) : Prop :=
  True

def Pre_FfnActIdeal (m : (ℓ : Loc Cert.FfnActIdeal.nD Cert.FfnActIdeal.τ Cert.FfnActIdeal.sig) → Buf (Elt Ideal) ℓ) : Prop :=
  True

def Pre_FfnActRefIdeal (m : (ℓ : Loc Cert.FfnActRefIdeal.nD Cert.FfnActRefIdeal.τ Cert.FfnActRefIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownRefIdeal (m : (ℓ : Loc Cert.FfnDownRefIdeal.nD Cert.FfnDownRefIdeal.τ Cert.FfnDownRefIdeal.sig) → Buf (Elt Ideal) ℓ) : Prop :=
  True

def Pre_FfnDownDx (m : (ℓ : Loc Cert.FfnDownDx.nD Cert.FfnDownDx.τ Cert.FfnDownDx.sig) → Buf (Elt Bits) ℓ) : Prop :=
  True

def Pre_FfnDownDxIdeal (m : (ℓ : Loc Cert.FfnDownDxIdeal.nD Cert.FfnDownDxIdeal.τ Cert.FfnDownDxIdeal.sig) → Buf (Elt Ideal) ℓ) : Prop :=
  True

def Pre_FfnDownDxRefIdeal (m : (ℓ : Loc Cert.FfnDownDxRefIdeal.nD Cert.FfnDownDxRefIdeal.τ Cert.FfnDownDxRefIdeal.sig) → Buf (Elt Ideal) ℓ) : Prop :=
  True

def Pre_FfnDownDw (m : (ℓ : Loc Cert.FfnDownDw.nD Cert.FfnDownDw.τ Cert.FfnDownDw.sig) → Buf (Elt Bits) ℓ) : Prop :=
  True

def Pre_FfnDownDwIdeal (m : (ℓ : Loc Cert.FfnDownDwIdeal.nD Cert.FfnDownDwIdeal.τ Cert.FfnDownDwIdeal.sig) → Buf (Elt Ideal) ℓ) : Prop :=
  True

def Pre_FfnDownDwRefIdeal (m : (ℓ : Loc Cert.FfnDownDwRefIdeal.nD Cert.FfnDownDwRefIdeal.τ Cert.FfnDownDwRefIdeal.sig) → Buf (Elt Ideal) ℓ) : Prop :=
  True

def Pre_FfnUpDx (m : (ℓ : Loc Cert.FfnUpDx.nD Cert.FfnUpDx.τ Cert.FfnUpDx.sig) → Buf (Elt Bits) ℓ) : Prop :=
  True

def Pre_FfnUpDxIdeal (m : (ℓ : Loc Cert.FfnUpDxIdeal.nD Cert.FfnUpDxIdeal.τ Cert.FfnUpDxIdeal.sig) → Buf (Elt Ideal) ℓ) : Prop :=
  True

def Pre_FfnUpDxRefIdeal (m : (ℓ : Loc Cert.FfnUpDxRefIdeal.nD Cert.FfnUpDxRefIdeal.τ Cert.FfnUpDxRefIdeal.sig) → Buf (Elt Ideal) ℓ) : Prop :=
  True

def Pre_FfnUpDw (m : (ℓ : Loc Cert.FfnUpDw.nD Cert.FfnUpDw.τ Cert.FfnUpDw.sig) → Buf (Elt Bits) ℓ) : Prop :=
  True

def Pre_FfnUpDwIdeal (m : (ℓ : Loc Cert.FfnUpDwIdeal.nD Cert.FfnUpDwIdeal.τ Cert.FfnUpDwIdeal.sig) → Buf (Elt Ideal) ℓ) : Prop :=
  True

def Pre_FfnUpDwRefIdeal (m : (ℓ : Loc Cert.FfnUpDwRefIdeal.nD Cert.FfnUpDwRefIdeal.τ Cert.FfnUpDwRefIdeal.sig) → Buf (Elt Ideal) ℓ) : Prop :=
  True

def Pre_EvenIn (m : (ℓ : Loc Cert.EvenIn.nD Cert.EvenIn.τ Cert.EvenIn.sig) → Buf (Elt Bits) ℓ) : Prop :=
  True

def Pre_EvenInIdeal (m : (ℓ : Loc Cert.EvenInIdeal.nD Cert.EvenInIdeal.τ Cert.EvenInIdeal.sig) → Buf (Elt Ideal) ℓ) : Prop :=
  True

def Pre_EvenInRefIdeal (m : (ℓ : Loc Cert.EvenInRefIdeal.nD Cert.EvenInRefIdeal.τ Cert.EvenInRefIdeal.sig) → Buf (Elt Ideal) ℓ) : Prop :=
  True

def Pre_EvenOut (m : (ℓ : Loc Cert.EvenOut.nD Cert.EvenOut.τ Cert.EvenOut.sig) → Buf (Elt Bits) ℓ) : Prop :=
  True

def Pre_EvenOutIdeal (m : (ℓ : Loc Cert.EvenOutIdeal.nD Cert.EvenOutIdeal.τ Cert.EvenOutIdeal.sig) → Buf (Elt Ideal) ℓ) : Prop :=
  True

def Pre_EvenOutRefIdeal (m : (ℓ : Loc Cert.EvenOutRefIdeal.nD Cert.EvenOutRefIdeal.τ Cert.EvenOutRefIdeal.sig) → Buf (Elt Ideal) ℓ) : Prop :=
  True

def Pre_EvenOutDx (m : (ℓ : Loc Cert.EvenOutDx.nD Cert.EvenOutDx.τ Cert.EvenOutDx.sig) → Buf (Elt Bits) ℓ) : Prop :=
  True

def Pre_EvenOutDxIdeal (m : (ℓ : Loc Cert.EvenOutDxIdeal.nD Cert.EvenOutDxIdeal.τ Cert.EvenOutDxIdeal.sig) → Buf (Elt Ideal) ℓ) : Prop :=
  True

def Pre_EvenOutDxRefIdeal (m : (ℓ : Loc Cert.EvenOutDxRefIdeal.nD Cert.EvenOutDxRefIdeal.τ Cert.EvenOutDxRefIdeal.sig) → Buf (Elt Ideal) ℓ) : Prop :=
  True

def Pre_EvenOutDw (m : (ℓ : Loc Cert.EvenOutDw.nD Cert.EvenOutDw.τ Cert.EvenOutDw.sig) → Buf (Elt Bits) ℓ) : Prop :=
  True

def Pre_EvenOutDwIdeal (m : (ℓ : Loc Cert.EvenOutDwIdeal.nD Cert.EvenOutDwIdeal.τ Cert.EvenOutDwIdeal.sig) → Buf (Elt Ideal) ℓ) : Prop :=
  True

def Pre_EvenOutDwRefIdeal (m : (ℓ : Loc Cert.EvenOutDwRefIdeal.nD Cert.EvenOutDwRefIdeal.τ Cert.EvenOutDwRefIdeal.sig) → Buf (Elt Ideal) ℓ) : Prop :=
  True

def Pre_EvenInDx (m : (ℓ : Loc Cert.EvenInDx.nD Cert.EvenInDx.τ Cert.EvenInDx.sig) → Buf (Elt Bits) ℓ) : Prop :=
  True

def Pre_EvenInDxIdeal (m : (ℓ : Loc Cert.EvenInDxIdeal.nD Cert.EvenInDxIdeal.τ Cert.EvenInDxIdeal.sig) → Buf (Elt Ideal) ℓ) : Prop :=
  True

def Pre_EvenInDxRefIdeal (m : (ℓ : Loc Cert.EvenInDxRefIdeal.nD Cert.EvenInDxRefIdeal.τ Cert.EvenInDxRefIdeal.sig) → Buf (Elt Ideal) ℓ) : Prop :=
  True

def Pre_EvenInDw (m : (ℓ : Loc Cert.EvenInDw.nD Cert.EvenInDw.τ Cert.EvenInDw.sig) → Buf (Elt Bits) ℓ) : Prop :=
  True

def Pre_EvenInDwIdeal (m : (ℓ : Loc Cert.EvenInDwIdeal.nD Cert.EvenInDwIdeal.τ Cert.EvenInDwIdeal.sig) → Buf (Elt Ideal) ℓ) : Prop :=
  True

def Pre_EvenInDwRefIdeal (m : (ℓ : Loc Cert.EvenInDwRefIdeal.nD Cert.EvenInDwRefIdeal.τ Cert.EvenInDwRefIdeal.sig) → Buf (Elt Ideal) ℓ) : Prop :=
  True

def Pre_OddIn (m : (ℓ : Loc Cert.OddIn.nD Cert.OddIn.τ Cert.OddIn.sig) → Buf (Elt Bits) ℓ) : Prop :=
  True

def Pre_OddInIdeal (m : (ℓ : Loc Cert.OddInIdeal.nD Cert.OddInIdeal.τ Cert.OddInIdeal.sig) → Buf (Elt Ideal) ℓ) : Prop :=
  True

def Pre_OddInRefIdeal (m : (ℓ : Loc Cert.OddInRefIdeal.nD Cert.OddInRefIdeal.τ Cert.OddInRefIdeal.sig) → Buf (Elt Ideal) ℓ) : Prop :=
  True

def Pre_OddOut (m : (ℓ : Loc Cert.OddOut.nD Cert.OddOut.τ Cert.OddOut.sig) → Buf (Elt Bits) ℓ) : Prop :=
  True

def Pre_OddOutIdeal (m : (ℓ : Loc Cert.OddOutIdeal.nD Cert.OddOutIdeal.τ Cert.OddOutIdeal.sig) → Buf (Elt Ideal) ℓ) : Prop :=
  True

def Pre_OddOutRefIdeal (m : (ℓ : Loc Cert.OddOutRefIdeal.nD Cert.OddOutRefIdeal.τ Cert.OddOutRefIdeal.sig) → Buf (Elt Ideal) ℓ) : Prop :=
  True

def Pre_OddOutDx (m : (ℓ : Loc Cert.OddOutDx.nD Cert.OddOutDx.τ Cert.OddOutDx.sig) → Buf (Elt Bits) ℓ) : Prop :=
  True

def Pre_OddOutDxIdeal (m : (ℓ : Loc Cert.OddOutDxIdeal.nD Cert.OddOutDxIdeal.τ Cert.OddOutDxIdeal.sig) → Buf (Elt Ideal) ℓ) : Prop :=
  True

def Pre_OddOutDxRefIdeal (m : (ℓ : Loc Cert.OddOutDxRefIdeal.nD Cert.OddOutDxRefIdeal.τ Cert.OddOutDxRefIdeal.sig) → Buf (Elt Ideal) ℓ) : Prop :=
  True

def Pre_OddOutDw (m : (ℓ : Loc Cert.OddOutDw.nD Cert.OddOutDw.τ Cert.OddOutDw.sig) → Buf (Elt Bits) ℓ) : Prop :=
  True

def Pre_OddOutDwIdeal (m : (ℓ : Loc Cert.OddOutDwIdeal.nD Cert.OddOutDwIdeal.τ Cert.OddOutDwIdeal.sig) → Buf (Elt Ideal) ℓ) : Prop :=
  True

def Pre_OddOutDwRefIdeal (m : (ℓ : Loc Cert.OddOutDwRefIdeal.nD Cert.OddOutDwRefIdeal.τ Cert.OddOutDwRefIdeal.sig) → Buf (Elt Ideal) ℓ) : Prop :=
  True

def Pre_OddInDx (m : (ℓ : Loc Cert.OddInDx.nD Cert.OddInDx.τ Cert.OddInDx.sig) → Buf (Elt Bits) ℓ) : Prop :=
  True

def Pre_OddInDxIdeal (m : (ℓ : Loc Cert.OddInDxIdeal.nD Cert.OddInDxIdeal.τ Cert.OddInDxIdeal.sig) → Buf (Elt Ideal) ℓ) : Prop :=
  True

def Pre_OddInDxRefIdeal (m : (ℓ : Loc Cert.OddInDxRefIdeal.nD Cert.OddInDxRefIdeal.τ Cert.OddInDxRefIdeal.sig) → Buf (Elt Ideal) ℓ) : Prop :=
  True

def Pre_OddInDw (m : (ℓ : Loc Cert.OddInDw.nD Cert.OddInDw.τ Cert.OddInDw.sig) → Buf (Elt Bits) ℓ) : Prop :=
  True

def Pre_OddInDwIdeal (m : (ℓ : Loc Cert.OddInDwIdeal.nD Cert.OddInDwIdeal.τ Cert.OddInDwIdeal.sig) → Buf (Elt Ideal) ℓ) : Prop :=
  True

def Pre_OddInDwRefIdeal (m : (ℓ : Loc Cert.OddInDwRefIdeal.nD Cert.OddInDwRefIdeal.τ Cert.OddInDwRefIdeal.sig) → Buf (Elt Ideal) ℓ) : Prop :=
  True

def Pre_MlaUq (m : (ℓ : Loc Cert.MlaUq.nD Cert.MlaUq.τ Cert.MlaUq.sig) → Buf (Elt Bits) ℓ) : Prop :=
  True

def Pre_MlaUqIdeal (m : (ℓ : Loc Cert.MlaUqIdeal.nD Cert.MlaUqIdeal.τ Cert.MlaUqIdeal.sig) → Buf (Elt Ideal) ℓ) : Prop :=
  True

def Pre_MlaUqRefIdeal (m : (ℓ : Loc Cert.MlaUqRefIdeal.nD Cert.MlaUqRefIdeal.τ Cert.MlaUqRefIdeal.sig) → Buf (Elt Ideal) ℓ) : Prop :=
  True

def Pre_MlaUkv (m : (ℓ : Loc Cert.MlaUkv.nD Cert.MlaUkv.τ Cert.MlaUkv.sig) → Buf (Elt Bits) ℓ) : Prop :=
  True

def Pre_MlaUkvIdeal (m : (ℓ : Loc Cert.MlaUkvIdeal.nD Cert.MlaUkvIdeal.τ Cert.MlaUkvIdeal.sig) → Buf (Elt Ideal) ℓ) : Prop :=
  True

def Pre_MlaUkvRefIdeal (m : (ℓ : Loc Cert.MlaUkvRefIdeal.nD Cert.MlaUkvRefIdeal.τ Cert.MlaUkvRefIdeal.sig) → Buf (Elt Ideal) ℓ) : Prop :=
  True

def Pre_MlaUqDx (m : (ℓ : Loc Cert.MlaUqDx.nD Cert.MlaUqDx.τ Cert.MlaUqDx.sig) → Buf (Elt Bits) ℓ) : Prop :=
  True

def Pre_MlaUqDxIdeal (m : (ℓ : Loc Cert.MlaUqDxIdeal.nD Cert.MlaUqDxIdeal.τ Cert.MlaUqDxIdeal.sig) → Buf (Elt Ideal) ℓ) : Prop :=
  True

def Pre_MlaUqDxRefIdeal (m : (ℓ : Loc Cert.MlaUqDxRefIdeal.nD Cert.MlaUqDxRefIdeal.τ Cert.MlaUqDxRefIdeal.sig) → Buf (Elt Ideal) ℓ) : Prop :=
  True

def Pre_MlaUqDw (m : (ℓ : Loc Cert.MlaUqDw.nD Cert.MlaUqDw.τ Cert.MlaUqDw.sig) → Buf (Elt Bits) ℓ) : Prop :=
  True

def Pre_MlaUqDwIdeal (m : (ℓ : Loc Cert.MlaUqDwIdeal.nD Cert.MlaUqDwIdeal.τ Cert.MlaUqDwIdeal.sig) → Buf (Elt Ideal) ℓ) : Prop :=
  True

def Pre_MlaUqDwRefIdeal (m : (ℓ : Loc Cert.MlaUqDwRefIdeal.nD Cert.MlaUqDwRefIdeal.τ Cert.MlaUqDwRefIdeal.sig) → Buf (Elt Ideal) ℓ) : Prop :=
  True

def Pre_MlaUkvDx (m : (ℓ : Loc Cert.MlaUkvDx.nD Cert.MlaUkvDx.τ Cert.MlaUkvDx.sig) → Buf (Elt Bits) ℓ) : Prop :=
  True

def Pre_MlaUkvDxIdeal (m : (ℓ : Loc Cert.MlaUkvDxIdeal.nD Cert.MlaUkvDxIdeal.τ Cert.MlaUkvDxIdeal.sig) → Buf (Elt Ideal) ℓ) : Prop :=
  True

def Pre_MlaUkvDxRefIdeal (m : (ℓ : Loc Cert.MlaUkvDxRefIdeal.nD Cert.MlaUkvDxRefIdeal.τ Cert.MlaUkvDxRefIdeal.sig) → Buf (Elt Ideal) ℓ) : Prop :=
  True

def Pre_MlaUkvDw (m : (ℓ : Loc Cert.MlaUkvDw.nD Cert.MlaUkvDw.τ Cert.MlaUkvDw.sig) → Buf (Elt Bits) ℓ) : Prop :=
  True

def Pre_MlaUkvDwIdeal (m : (ℓ : Loc Cert.MlaUkvDwIdeal.nD Cert.MlaUkvDwIdeal.τ Cert.MlaUkvDwIdeal.sig) → Buf (Elt Ideal) ℓ) : Prop :=
  True

def Pre_MlaUkvDwRefIdeal (m : (ℓ : Loc Cert.MlaUkvDwRefIdeal.nD Cert.MlaUkvDwRefIdeal.τ Cert.MlaUkvDwRefIdeal.sig) → Buf (Elt Ideal) ℓ) : Prop :=
  True

def Pre_KvNorm (m : (ℓ : Loc Cert.KvNorm.nD Cert.KvNorm.τ Cert.KvNorm.sig) → Buf (Elt Bits) ℓ) : Prop :=
  True

def Pre_KvNormIdeal (m : (ℓ : Loc Cert.KvNormIdeal.nD Cert.KvNormIdeal.τ Cert.KvNormIdeal.sig) → Buf (Elt Ideal) ℓ) : Prop :=
  True

def Pre_KvNormRefIdeal (m : (ℓ : Loc Cert.KvNormRefIdeal.nD Cert.KvNormRefIdeal.τ Cert.KvNormRefIdeal.sig) → Buf (Elt Ideal) ℓ) : Prop :=
  True

def Pre_KvNormBwd (m : (ℓ : Loc Cert.KvNormBwd.nD Cert.KvNormBwd.τ Cert.KvNormBwd.sig) → Buf (Elt Bits) ℓ) : Prop :=
  True

def Pre_KvNormBwdIdeal (m : (ℓ : Loc Cert.KvNormBwdIdeal.nD Cert.KvNormBwdIdeal.τ Cert.KvNormBwdIdeal.sig) → Buf (Elt Ideal) ℓ) : Prop :=
  True

def Pre_KvNormBwdRefIdeal (m : (ℓ : Loc Cert.KvNormBwdRefIdeal.nD Cert.KvNormBwdRefIdeal.τ Cert.KvNormBwdRefIdeal.sig) → Buf (Elt Ideal) ℓ) : Prop :=
  True

def Pre_GlaPost (m : (ℓ : Loc Cert.GlaPost.nD Cert.GlaPost.τ Cert.GlaPost.sig) → Buf (Elt Bits) ℓ) : Prop :=
  True

def Pre_GlaPostIdeal (m : (ℓ : Loc Cert.GlaPostIdeal.nD Cert.GlaPostIdeal.τ Cert.GlaPostIdeal.sig) → Buf (Elt Ideal) ℓ) : Prop :=
  True

def Pre_GlaPostRefIdeal (m : (ℓ : Loc Cert.GlaPostRefIdeal.nD Cert.GlaPostRefIdeal.τ Cert.GlaPostRefIdeal.sig) → Buf (Elt Ideal) ℓ) : Prop :=
  True

def Pre_SumWide (m : (ℓ : Loc Cert.SumWide.nD Cert.SumWide.τ Cert.SumWide.sig) → Buf (Elt Bits) ℓ) : Prop :=
  True

def Pre_SumWideIdeal (m : (ℓ : Loc Cert.SumWideIdeal.nD Cert.SumWideIdeal.τ Cert.SumWideIdeal.sig) → Buf (Elt Ideal) ℓ) : Prop :=
  True

def Pre_SumWideRefIdeal (m : (ℓ : Loc Cert.SumWideRefIdeal.nD Cert.SumWideRefIdeal.τ Cert.SumWideRefIdeal.sig) → Buf (Elt Ideal) ℓ) : Prop :=
  True

def Pre_SumHalf (m : (ℓ : Loc Cert.SumHalf.nD Cert.SumHalf.τ Cert.SumHalf.sig) → Buf (Elt Bits) ℓ) : Prop :=
  True

def Pre_SumHalfIdeal (m : (ℓ : Loc Cert.SumHalfIdeal.nD Cert.SumHalfIdeal.τ Cert.SumHalfIdeal.sig) → Buf (Elt Ideal) ℓ) : Prop :=
  True

def Pre_SumHalfRefIdeal (m : (ℓ : Loc Cert.SumHalfRefIdeal.nD Cert.SumHalfRefIdeal.τ Cert.SumHalfRefIdeal.sig) → Buf (Elt Ideal) ℓ) : Prop :=
  True

def Pre_SumLane (m : (ℓ : Loc Cert.SumLane.nD Cert.SumLane.τ Cert.SumLane.sig) → Buf (Elt Bits) ℓ) : Prop :=
  True

def Pre_SumLaneIdeal (m : (ℓ : Loc Cert.SumLaneIdeal.nD Cert.SumLaneIdeal.τ Cert.SumLaneIdeal.sig) → Buf (Elt Ideal) ℓ) : Prop :=
  True

def Pre_SumLaneRefIdeal (m : (ℓ : Loc Cert.SumLaneRefIdeal.nD Cert.SumLaneRefIdeal.τ Cert.SumLaneRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_SwapRef (m : (ℓ : Loc Cert.SwapRef.nD Cert.SwapRef.τ Cert.SwapRef.sig) → Buf (Elt Bits) ℓ) : Prop :=
  True

def Pre_ScatterRef (m : (ℓ : Loc Cert.ScatterRef.nD Cert.ScatterRef.τ Cert.ScatterRef.sig) → Buf (Elt Bits) ℓ) : Prop :=
  True

def Pre_CoresRef (m : (ℓ : Loc Cert.CoresRef.nD Cert.CoresRef.τ Cert.CoresRef.sig) → Buf (Elt Bits) ℓ) : Prop :=
  True

def Pre_ChipsRef (m : (ℓ : Loc Cert.ChipsRef.nD Cert.ChipsRef.τ Cert.ChipsRef.sig) → Buf (Elt Bits) ℓ) : Prop :=
  True

def Pre_AddCoresRef (m : (ℓ : Loc Cert.AddCoresRef.nD Cert.AddCoresRef.τ Cert.AddCoresRef.sig) → Buf (Elt Bits) ℓ) : Prop :=
  True

def Pre_AddChipsRef (m : (ℓ : Loc Cert.AddChipsRef.nD Cert.AddChipsRef.τ Cert.AddChipsRef.sig) → Buf (Elt Bits) ℓ) : Prop :=
  True

def Pre_SumWideRef (m : (ℓ : Loc Cert.SumWideRef.nD Cert.SumWideRef.τ Cert.SumWideRef.sig) → Buf (Elt Bits) ℓ) : Prop :=
  True

def Pre_SumHalfRef (m : (ℓ : Loc Cert.SumHalfRef.nD Cert.SumHalfRef.τ Cert.SumHalfRef.sig) → Buf (Elt Bits) ℓ) : Prop :=
  True

def Pre_SumLaneRef (m : (ℓ : Loc Cert.SumLaneRef.nD Cert.SumLaneRef.τ Cert.SumLaneRef.sig) → Buf (Elt Bits) ℓ) : Prop :=
  True

def quiescent_Swap [hSwap : Cert.Swap.Facts] : Prop :=
  ∀ (m : (ℓ : Loc Cert.Swap.nD Cert.Swap.τ Cert.Swap.sig) → Buf (Elt Bits) ℓ) (g : Dev Cert.Swap.nD → PrngReg), Pre_Swap m →
    θ_run (Cert.Swap.defs (F := Bits)) (onTc (τ := Cert.Swap.τ) (Cert.Swap.main (F := Bits))) ⟨m, fun _ => 0, g⟩ (fun r => (∀ c : Dev Cert.Swap.nD,
      r.2.mem ((c.tc : Thread Cert.Swap.nD Cert.Swap.τ).loc Cert.Swap.main_arg0) = m ((c.tc : Thread Cert.Swap.nD Cert.Swap.τ).loc Cert.Swap.main_arg0))
      ∧ r.2.sem = fun _ => 0)

def quiescent_SwapIdeal [hSwapIdeal : Cert.SwapIdeal.Facts] : Prop :=
  ∀ (m : (ℓ : Loc Cert.SwapIdeal.nD Cert.SwapIdeal.τ Cert.SwapIdeal.sig) → Buf (Elt Ideal) ℓ) (g : Dev Cert.SwapIdeal.nD → PrngReg), Pre_SwapIdeal m →
    θ_run (Cert.SwapIdeal.defs (F := Ideal)) (onTc (τ := Cert.SwapIdeal.τ) (Cert.SwapIdeal.main (F := Ideal))) ⟨m, fun _ => 0, g⟩ (fun r => (∀ c : Dev Cert.SwapIdeal.nD,
      r.2.mem ((c.tc : Thread Cert.SwapIdeal.nD Cert.SwapIdeal.τ).loc Cert.SwapIdeal.main_arg0) = m ((c.tc : Thread Cert.SwapIdeal.nD Cert.SwapIdeal.τ).loc Cert.SwapIdeal.main_arg0))
      ∧ r.2.sem = fun _ => 0)

def quiescent_SwapRefIdeal [hSwapRefIdeal : Cert.SwapRefIdeal.Facts] : Prop :=
  ∀ (m : (ℓ : Loc Cert.SwapRefIdeal.nD Cert.SwapRefIdeal.τ Cert.SwapRefIdeal.sig) → Buf (Elt Ideal) ℓ) (g : Dev Cert.SwapRefIdeal.nD → PrngReg), Pre_SwapRefIdeal m →
    θ_run (Cert.SwapRefIdeal.defs (F := Ideal)) (onTc (τ := Cert.SwapRefIdeal.τ) (Cert.SwapRefIdeal.main (F := Ideal))) ⟨m, fun _ => 0, g⟩ (fun r => (∀ c : Dev Cert.SwapRefIdeal.nD,
      r.2.mem ((c.tc : Thread Cert.SwapRefIdeal.nD Cert.SwapRefIdeal.τ).loc Cert.SwapRefIdeal.main_arg0) = m ((c.tc : Thread Cert.SwapRefIdeal.nD Cert.SwapRefIdeal.τ).loc Cert.SwapRefIdeal.main_arg0))
      ∧ r.2.sem = fun _ => 0)

def quiescent_Scatter [hScatter : Cert.Scatter.Facts] : Prop :=
  ∀ (m : (ℓ : Loc Cert.Scatter.nD Cert.Scatter.τ Cert.Scatter.sig) → Buf (Elt Bits) ℓ) (g : Dev Cert.Scatter.nD → PrngReg), Pre_Scatter m →
    θ_run (Cert.Scatter.defs (F := Bits)) (onTc (τ := Cert.Scatter.τ) (Cert.Scatter.main (F := Bits))) ⟨m, fun _ => 0, g⟩ (fun r => (∀ c : Dev Cert.Scatter.nD,
      r.2.mem ((c.tc : Thread Cert.Scatter.nD Cert.Scatter.τ).loc Cert.Scatter.main_arg0) = m ((c.tc : Thread Cert.Scatter.nD Cert.Scatter.τ).loc Cert.Scatter.main_arg0))
      ∧ r.2.sem = fun _ => 0)

def quiescent_ScatterIdeal [hScatterIdeal : Cert.ScatterIdeal.Facts] : Prop :=
  ∀ (m : (ℓ : Loc Cert.ScatterIdeal.nD Cert.ScatterIdeal.τ Cert.ScatterIdeal.sig) → Buf (Elt Ideal) ℓ) (g : Dev Cert.ScatterIdeal.nD → PrngReg), Pre_ScatterIdeal m →
    θ_run (Cert.ScatterIdeal.defs (F := Ideal)) (onTc (τ := Cert.ScatterIdeal.τ) (Cert.ScatterIdeal.main (F := Ideal))) ⟨m, fun _ => 0, g⟩ (fun r => (∀ c : Dev Cert.ScatterIdeal.nD,
      r.2.mem ((c.tc : Thread Cert.ScatterIdeal.nD Cert.ScatterIdeal.τ).loc Cert.ScatterIdeal.main_arg0) = m ((c.tc : Thread Cert.ScatterIdeal.nD Cert.ScatterIdeal.τ).loc Cert.ScatterIdeal.main_arg0))
      ∧ r.2.sem = fun _ => 0)

def quiescent_ScatterRefIdeal [hScatterRefIdeal : Cert.ScatterRefIdeal.Facts] : Prop :=
  ∀ (m : (ℓ : Loc Cert.ScatterRefIdeal.nD Cert.ScatterRefIdeal.τ Cert.ScatterRefIdeal.sig) → Buf (Elt Ideal) ℓ) (g : Dev Cert.ScatterRefIdeal.nD → PrngReg), Pre_ScatterRefIdeal m →
    θ_run (Cert.ScatterRefIdeal.defs (F := Ideal)) (onTc (τ := Cert.ScatterRefIdeal.τ) (Cert.ScatterRefIdeal.main (F := Ideal))) ⟨m, fun _ => 0, g⟩ (fun r => (∀ c : Dev Cert.ScatterRefIdeal.nD,
      r.2.mem ((c.tc : Thread Cert.ScatterRefIdeal.nD Cert.ScatterRefIdeal.τ).loc Cert.ScatterRefIdeal.main_arg0) = m ((c.tc : Thread Cert.ScatterRefIdeal.nD Cert.ScatterRefIdeal.τ).loc Cert.ScatterRefIdeal.main_arg0))
      ∧ r.2.sem = fun _ => 0)

def quiescent_Cores [hCores : Cert.Cores.Facts] : Prop :=
  ∀ (m : (ℓ : Loc Cert.Cores.nD Cert.Cores.τ Cert.Cores.sig) → Buf (Elt Bits) ℓ) (g : Dev Cert.Cores.nD → PrngReg), Pre_Cores m →
    θ_run (Cert.Cores.defs (F := Bits)) (onTc (τ := Cert.Cores.τ) (Cert.Cores.main (F := Bits))) ⟨m, fun _ => 0, g⟩ (fun r => (∀ c : Dev Cert.Cores.nD,
      r.2.mem ((c.tc : Thread Cert.Cores.nD Cert.Cores.τ).loc Cert.Cores.main_arg0) = m ((c.tc : Thread Cert.Cores.nD Cert.Cores.τ).loc Cert.Cores.main_arg0))
      ∧ r.2.sem = fun _ => 0)

def quiescent_CoresIdeal [hCoresIdeal : Cert.CoresIdeal.Facts] : Prop :=
  ∀ (m : (ℓ : Loc Cert.CoresIdeal.nD Cert.CoresIdeal.τ Cert.CoresIdeal.sig) → Buf (Elt Ideal) ℓ) (g : Dev Cert.CoresIdeal.nD → PrngReg), Pre_CoresIdeal m →
    θ_run (Cert.CoresIdeal.defs (F := Ideal)) (onTc (τ := Cert.CoresIdeal.τ) (Cert.CoresIdeal.main (F := Ideal))) ⟨m, fun _ => 0, g⟩ (fun r => (∀ c : Dev Cert.CoresIdeal.nD,
      r.2.mem ((c.tc : Thread Cert.CoresIdeal.nD Cert.CoresIdeal.τ).loc Cert.CoresIdeal.main_arg0) = m ((c.tc : Thread Cert.CoresIdeal.nD Cert.CoresIdeal.τ).loc Cert.CoresIdeal.main_arg0))
      ∧ r.2.sem = fun _ => 0)

def quiescent_CoresRefIdeal [hCoresRefIdeal : Cert.CoresRefIdeal.Facts] : Prop :=
  ∀ (m : (ℓ : Loc Cert.CoresRefIdeal.nD Cert.CoresRefIdeal.τ Cert.CoresRefIdeal.sig) → Buf (Elt Ideal) ℓ) (g : Dev Cert.CoresRefIdeal.nD → PrngReg), Pre_CoresRefIdeal m →
    θ_run (Cert.CoresRefIdeal.defs (F := Ideal)) (onTc (τ := Cert.CoresRefIdeal.τ) (Cert.CoresRefIdeal.main (F := Ideal))) ⟨m, fun _ => 0, g⟩ (fun r => (∀ c : Dev Cert.CoresRefIdeal.nD,
      r.2.mem ((c.tc : Thread Cert.CoresRefIdeal.nD Cert.CoresRefIdeal.τ).loc Cert.CoresRefIdeal.main_arg0) = m ((c.tc : Thread Cert.CoresRefIdeal.nD Cert.CoresRefIdeal.τ).loc Cert.CoresRefIdeal.main_arg0))
      ∧ r.2.sem = fun _ => 0)

def quiescent_Chips [hChips : Cert.Chips.Facts] : Prop :=
  ∀ (m : (ℓ : Loc Cert.Chips.nD Cert.Chips.τ Cert.Chips.sig) → Buf (Elt Bits) ℓ) (g : Dev Cert.Chips.nD → PrngReg), Pre_Chips m →
    θ_run (Cert.Chips.defs (F := Bits)) (onTc (τ := Cert.Chips.τ) (Cert.Chips.main (F := Bits))) ⟨m, fun _ => 0, g⟩ (fun r => (∀ c : Dev Cert.Chips.nD,
      r.2.mem ((c.tc : Thread Cert.Chips.nD Cert.Chips.τ).loc Cert.Chips.main_arg0) = m ((c.tc : Thread Cert.Chips.nD Cert.Chips.τ).loc Cert.Chips.main_arg0)
      ∧ r.2.mem ((c.tc : Thread Cert.Chips.nD Cert.Chips.τ).loc Cert.Chips.main_arg1) = m ((c.tc : Thread Cert.Chips.nD Cert.Chips.τ).loc Cert.Chips.main_arg1))
      ∧ r.2.sem = fun _ => 0)

def quiescent_ChipsIdeal [hChipsIdeal : Cert.ChipsIdeal.Facts] : Prop :=
  ∀ (m : (ℓ : Loc Cert.ChipsIdeal.nD Cert.ChipsIdeal.τ Cert.ChipsIdeal.sig) → Buf (Elt Ideal) ℓ) (g : Dev Cert.ChipsIdeal.nD → PrngReg), Pre_ChipsIdeal m →
    θ_run (Cert.ChipsIdeal.defs (F := Ideal)) (onTc (τ := Cert.ChipsIdeal.τ) (Cert.ChipsIdeal.main (F := Ideal))) ⟨m, fun _ => 0, g⟩ (fun r => (∀ c : Dev Cert.ChipsIdeal.nD,
      r.2.mem ((c.tc : Thread Cert.ChipsIdeal.nD Cert.ChipsIdeal.τ).loc Cert.ChipsIdeal.main_arg0) = m ((c.tc : Thread Cert.ChipsIdeal.nD Cert.ChipsIdeal.τ).loc Cert.ChipsIdeal.main_arg0)
      ∧ r.2.mem ((c.tc : Thread Cert.ChipsIdeal.nD Cert.ChipsIdeal.τ).loc Cert.ChipsIdeal.main_arg1) = m ((c.tc : Thread Cert.ChipsIdeal.nD Cert.ChipsIdeal.τ).loc Cert.ChipsIdeal.main_arg1))
      ∧ r.2.sem = fun _ => 0)

def quiescent_ChipsRefIdeal [hChipsRefIdeal : Cert.ChipsRefIdeal.Facts] : Prop :=
  ∀ (m : (ℓ : Loc Cert.ChipsRefIdeal.nD Cert.ChipsRefIdeal.τ Cert.ChipsRefIdeal.sig) → Buf (Elt Ideal) ℓ) (g : Dev Cert.ChipsRefIdeal.nD → PrngReg), Pre_ChipsRefIdeal m →
    θ_run (Cert.ChipsRefIdeal.defs (F := Ideal)) (onTc (τ := Cert.ChipsRefIdeal.τ) (Cert.ChipsRefIdeal.main (F := Ideal))) ⟨m, fun _ => 0, g⟩ (fun r => (∀ c : Dev Cert.ChipsRefIdeal.nD,
      r.2.mem ((c.tc : Thread Cert.ChipsRefIdeal.nD Cert.ChipsRefIdeal.τ).loc Cert.ChipsRefIdeal.main_arg0) = m ((c.tc : Thread Cert.ChipsRefIdeal.nD Cert.ChipsRefIdeal.τ).loc Cert.ChipsRefIdeal.main_arg0)
      ∧ r.2.mem ((c.tc : Thread Cert.ChipsRefIdeal.nD Cert.ChipsRefIdeal.τ).loc Cert.ChipsRefIdeal.main_arg1) = m ((c.tc : Thread Cert.ChipsRefIdeal.nD Cert.ChipsRefIdeal.τ).loc Cert.ChipsRefIdeal.main_arg1))
      ∧ r.2.sem = fun _ => 0)

def quiescent_AddCores [hAddCores : Cert.AddCores.Facts] : Prop :=
  ∀ (m : (ℓ : Loc Cert.AddCores.nD Cert.AddCores.τ Cert.AddCores.sig) → Buf (Elt Bits) ℓ) (g : Dev Cert.AddCores.nD → PrngReg), Pre_AddCores m →
    θ_run (Cert.AddCores.defs (F := Bits)) (onTc (τ := Cert.AddCores.τ) (Cert.AddCores.main (F := Bits))) ⟨m, fun _ => 0, g⟩ (fun r => (∀ c : Dev Cert.AddCores.nD,
      r.2.mem ((c.tc : Thread Cert.AddCores.nD Cert.AddCores.τ).loc Cert.AddCores.main_arg0) = m ((c.tc : Thread Cert.AddCores.nD Cert.AddCores.τ).loc Cert.AddCores.main_arg0)
      ∧ r.2.mem ((c.tc : Thread Cert.AddCores.nD Cert.AddCores.τ).loc Cert.AddCores.main_arg1) = m ((c.tc : Thread Cert.AddCores.nD Cert.AddCores.τ).loc Cert.AddCores.main_arg1))
      ∧ r.2.sem = fun _ => 0)

def quiescent_AddCoresIdeal [hAddCoresIdeal : Cert.AddCoresIdeal.Facts] : Prop :=
  ∀ (m : (ℓ : Loc Cert.AddCoresIdeal.nD Cert.AddCoresIdeal.τ Cert.AddCoresIdeal.sig) → Buf (Elt Ideal) ℓ) (g : Dev Cert.AddCoresIdeal.nD → PrngReg), Pre_AddCoresIdeal m →
    θ_run (Cert.AddCoresIdeal.defs (F := Ideal)) (onTc (τ := Cert.AddCoresIdeal.τ) (Cert.AddCoresIdeal.main (F := Ideal))) ⟨m, fun _ => 0, g⟩ (fun r => (∀ c : Dev Cert.AddCoresIdeal.nD,
      r.2.mem ((c.tc : Thread Cert.AddCoresIdeal.nD Cert.AddCoresIdeal.τ).loc Cert.AddCoresIdeal.main_arg0) = m ((c.tc : Thread Cert.AddCoresIdeal.nD Cert.AddCoresIdeal.τ).loc Cert.AddCoresIdeal.main_arg0)
      ∧ r.2.mem ((c.tc : Thread Cert.AddCoresIdeal.nD Cert.AddCoresIdeal.τ).loc Cert.AddCoresIdeal.main_arg1) = m ((c.tc : Thread Cert.AddCoresIdeal.nD Cert.AddCoresIdeal.τ).loc Cert.AddCoresIdeal.main_arg1))
      ∧ r.2.sem = fun _ => 0)

def quiescent_AddCoresRefIdeal [hAddCoresRefIdeal : Cert.AddCoresRefIdeal.Facts] : Prop :=
  ∀ (m : (ℓ : Loc Cert.AddCoresRefIdeal.nD Cert.AddCoresRefIdeal.τ Cert.AddCoresRefIdeal.sig) → Buf (Elt Ideal) ℓ) (g : Dev Cert.AddCoresRefIdeal.nD → PrngReg), Pre_AddCoresRefIdeal m →
    θ_run (Cert.AddCoresRefIdeal.defs (F := Ideal)) (onTc (τ := Cert.AddCoresRefIdeal.τ) (Cert.AddCoresRefIdeal.main (F := Ideal))) ⟨m, fun _ => 0, g⟩ (fun r => (∀ c : Dev Cert.AddCoresRefIdeal.nD,
      r.2.mem ((c.tc : Thread Cert.AddCoresRefIdeal.nD Cert.AddCoresRefIdeal.τ).loc Cert.AddCoresRefIdeal.main_arg0) = m ((c.tc : Thread Cert.AddCoresRefIdeal.nD Cert.AddCoresRefIdeal.τ).loc Cert.AddCoresRefIdeal.main_arg0)
      ∧ r.2.mem ((c.tc : Thread Cert.AddCoresRefIdeal.nD Cert.AddCoresRefIdeal.τ).loc Cert.AddCoresRefIdeal.main_arg1) = m ((c.tc : Thread Cert.AddCoresRefIdeal.nD Cert.AddCoresRefIdeal.τ).loc Cert.AddCoresRefIdeal.main_arg1))
      ∧ r.2.sem = fun _ => 0)

def quiescent_AddChips [hAddChips : Cert.AddChips.Facts] : Prop :=
  ∀ (m : (ℓ : Loc Cert.AddChips.nD Cert.AddChips.τ Cert.AddChips.sig) → Buf (Elt Bits) ℓ) (g : Dev Cert.AddChips.nD → PrngReg), Pre_AddChips m →
    θ_run (Cert.AddChips.defs (F := Bits)) (onTc (τ := Cert.AddChips.τ) (Cert.AddChips.main (F := Bits))) ⟨m, fun _ => 0, g⟩ (fun r => (∀ c : Dev Cert.AddChips.nD,
      r.2.mem ((c.tc : Thread Cert.AddChips.nD Cert.AddChips.τ).loc Cert.AddChips.main_arg0) = m ((c.tc : Thread Cert.AddChips.nD Cert.AddChips.τ).loc Cert.AddChips.main_arg0)
      ∧ r.2.mem ((c.tc : Thread Cert.AddChips.nD Cert.AddChips.τ).loc Cert.AddChips.main_arg1) = m ((c.tc : Thread Cert.AddChips.nD Cert.AddChips.τ).loc Cert.AddChips.main_arg1)
      ∧ r.2.mem ((c.tc : Thread Cert.AddChips.nD Cert.AddChips.τ).loc Cert.AddChips.main_arg2) = m ((c.tc : Thread Cert.AddChips.nD Cert.AddChips.τ).loc Cert.AddChips.main_arg2)
      ∧ r.2.mem ((c.tc : Thread Cert.AddChips.nD Cert.AddChips.τ).loc Cert.AddChips.main_arg3) = m ((c.tc : Thread Cert.AddChips.nD Cert.AddChips.τ).loc Cert.AddChips.main_arg3))
      ∧ r.2.sem = fun _ => 0)

def quiescent_AddChipsIdeal [hAddChipsIdeal : Cert.AddChipsIdeal.Facts] : Prop :=
  ∀ (m : (ℓ : Loc Cert.AddChipsIdeal.nD Cert.AddChipsIdeal.τ Cert.AddChipsIdeal.sig) → Buf (Elt Ideal) ℓ) (g : Dev Cert.AddChipsIdeal.nD → PrngReg), Pre_AddChipsIdeal m →
    θ_run (Cert.AddChipsIdeal.defs (F := Ideal)) (onTc (τ := Cert.AddChipsIdeal.τ) (Cert.AddChipsIdeal.main (F := Ideal))) ⟨m, fun _ => 0, g⟩ (fun r => (∀ c : Dev Cert.AddChipsIdeal.nD,
      r.2.mem ((c.tc : Thread Cert.AddChipsIdeal.nD Cert.AddChipsIdeal.τ).loc Cert.AddChipsIdeal.main_arg0) = m ((c.tc : Thread Cert.AddChipsIdeal.nD Cert.AddChipsIdeal.τ).loc Cert.AddChipsIdeal.main_arg0)
      ∧ r.2.mem ((c.tc : Thread Cert.AddChipsIdeal.nD Cert.AddChipsIdeal.τ).loc Cert.AddChipsIdeal.main_arg1) = m ((c.tc : Thread Cert.AddChipsIdeal.nD Cert.AddChipsIdeal.τ).loc Cert.AddChipsIdeal.main_arg1)
      ∧ r.2.mem ((c.tc : Thread Cert.AddChipsIdeal.nD Cert.AddChipsIdeal.τ).loc Cert.AddChipsIdeal.main_arg2) = m ((c.tc : Thread Cert.AddChipsIdeal.nD Cert.AddChipsIdeal.τ).loc Cert.AddChipsIdeal.main_arg2)
      ∧ r.2.mem ((c.tc : Thread Cert.AddChipsIdeal.nD Cert.AddChipsIdeal.τ).loc Cert.AddChipsIdeal.main_arg3) = m ((c.tc : Thread Cert.AddChipsIdeal.nD Cert.AddChipsIdeal.τ).loc Cert.AddChipsIdeal.main_arg3))
      ∧ r.2.sem = fun _ => 0)

def quiescent_AddChipsRefIdeal [hAddChipsRefIdeal : Cert.AddChipsRefIdeal.Facts] : Prop :=
  ∀ (m : (ℓ : Loc Cert.AddChipsRefIdeal.nD Cert.AddChipsRefIdeal.τ Cert.AddChipsRefIdeal.sig) → Buf (Elt Ideal) ℓ) (g : Dev Cert.AddChipsRefIdeal.nD → PrngReg), Pre_AddChipsRefIdeal m →
    θ_run (Cert.AddChipsRefIdeal.defs (F := Ideal)) (onTc (τ := Cert.AddChipsRefIdeal.τ) (Cert.AddChipsRefIdeal.main (F := Ideal))) ⟨m, fun _ => 0, g⟩ (fun r => (∀ c : Dev Cert.AddChipsRefIdeal.nD,
      r.2.mem ((c.tc : Thread Cert.AddChipsRefIdeal.nD Cert.AddChipsRefIdeal.τ).loc Cert.AddChipsRefIdeal.main_arg0) = m ((c.tc : Thread Cert.AddChipsRefIdeal.nD Cert.AddChipsRefIdeal.τ).loc Cert.AddChipsRefIdeal.main_arg0)
      ∧ r.2.mem ((c.tc : Thread Cert.AddChipsRefIdeal.nD Cert.AddChipsRefIdeal.τ).loc Cert.AddChipsRefIdeal.main_arg1) = m ((c.tc : Thread Cert.AddChipsRefIdeal.nD Cert.AddChipsRefIdeal.τ).loc Cert.AddChipsRefIdeal.main_arg1)
      ∧ r.2.mem ((c.tc : Thread Cert.AddChipsRefIdeal.nD Cert.AddChipsRefIdeal.τ).loc Cert.AddChipsRefIdeal.main_arg2) = m ((c.tc : Thread Cert.AddChipsRefIdeal.nD Cert.AddChipsRefIdeal.τ).loc Cert.AddChipsRefIdeal.main_arg2)
      ∧ r.2.mem ((c.tc : Thread Cert.AddChipsRefIdeal.nD Cert.AddChipsRefIdeal.τ).loc Cert.AddChipsRefIdeal.main_arg3) = m ((c.tc : Thread Cert.AddChipsRefIdeal.nD Cert.AddChipsRefIdeal.τ).loc Cert.AddChipsRefIdeal.main_arg3))
      ∧ r.2.sem = fun _ => 0)

def quiescent_AdamSplit [hAdamSplit : Cert.AdamSplit.Facts] : Prop :=
  ∀ (m : (ℓ : Loc Cert.AdamSplit.nD Cert.AdamSplit.τ Cert.AdamSplit.sig) → Buf (Elt Bits) ℓ) (g : Dev Cert.AdamSplit.nD → PrngReg), Pre_AdamSplit m →
    θ_run (Cert.AdamSplit.defs (F := Bits)) (onTc (τ := Cert.AdamSplit.τ) (Cert.AdamSplit.main (F := Bits))) ⟨m, fun _ => 0, g⟩ (fun r => (∀ c : Dev Cert.AdamSplit.nD,
      r.2.mem ((c.tc : Thread Cert.AdamSplit.nD Cert.AdamSplit.τ).loc Cert.AdamSplit.main_arg0) = m ((c.tc : Thread Cert.AdamSplit.nD Cert.AdamSplit.τ).loc Cert.AdamSplit.main_arg0)
      ∧ r.2.mem ((c.tc : Thread Cert.AdamSplit.nD Cert.AdamSplit.τ).loc Cert.AdamSplit.main_arg1) = m ((c.tc : Thread Cert.AdamSplit.nD Cert.AdamSplit.τ).loc Cert.AdamSplit.main_arg1)
      ∧ r.2.mem ((c.tc : Thread Cert.AdamSplit.nD Cert.AdamSplit.τ).loc Cert.AdamSplit.main_arg2) = m ((c.tc : Thread Cert.AdamSplit.nD Cert.AdamSplit.τ).loc Cert.AdamSplit.main_arg2)
      ∧ r.2.mem ((c.tc : Thread Cert.AdamSplit.nD Cert.AdamSplit.τ).loc Cert.AdamSplit.main_arg3) = m ((c.tc : Thread Cert.AdamSplit.nD Cert.AdamSplit.τ).loc Cert.AdamSplit.main_arg3))
      ∧ r.2.sem = fun _ => 0)

def quiescent_AdamSplitIdeal [hAdamSplitIdeal : Cert.AdamSplitIdeal.Facts] : Prop :=
  ∀ (m : (ℓ : Loc Cert.AdamSplitIdeal.nD Cert.AdamSplitIdeal.τ Cert.AdamSplitIdeal.sig) → Buf (Elt Ideal) ℓ) (g : Dev Cert.AdamSplitIdeal.nD → PrngReg), Pre_AdamSplitIdeal m →
    θ_run (Cert.AdamSplitIdeal.defs (F := Ideal)) (onTc (τ := Cert.AdamSplitIdeal.τ) (Cert.AdamSplitIdeal.main (F := Ideal))) ⟨m, fun _ => 0, g⟩ (fun r => (∀ c : Dev Cert.AdamSplitIdeal.nD,
      r.2.mem ((c.tc : Thread Cert.AdamSplitIdeal.nD Cert.AdamSplitIdeal.τ).loc Cert.AdamSplitIdeal.main_arg0) = m ((c.tc : Thread Cert.AdamSplitIdeal.nD Cert.AdamSplitIdeal.τ).loc Cert.AdamSplitIdeal.main_arg0)
      ∧ r.2.mem ((c.tc : Thread Cert.AdamSplitIdeal.nD Cert.AdamSplitIdeal.τ).loc Cert.AdamSplitIdeal.main_arg1) = m ((c.tc : Thread Cert.AdamSplitIdeal.nD Cert.AdamSplitIdeal.τ).loc Cert.AdamSplitIdeal.main_arg1)
      ∧ r.2.mem ((c.tc : Thread Cert.AdamSplitIdeal.nD Cert.AdamSplitIdeal.τ).loc Cert.AdamSplitIdeal.main_arg2) = m ((c.tc : Thread Cert.AdamSplitIdeal.nD Cert.AdamSplitIdeal.τ).loc Cert.AdamSplitIdeal.main_arg2)
      ∧ r.2.mem ((c.tc : Thread Cert.AdamSplitIdeal.nD Cert.AdamSplitIdeal.τ).loc Cert.AdamSplitIdeal.main_arg3) = m ((c.tc : Thread Cert.AdamSplitIdeal.nD Cert.AdamSplitIdeal.τ).loc Cert.AdamSplitIdeal.main_arg3))
      ∧ r.2.sem = fun _ => 0)

def quiescent_AdamSplitRefIdeal [hAdamSplitRefIdeal : Cert.AdamSplitRefIdeal.Facts] : Prop :=
  ∀ (m : (ℓ : Loc Cert.AdamSplitRefIdeal.nD Cert.AdamSplitRefIdeal.τ Cert.AdamSplitRefIdeal.sig) → Buf (Elt Ideal) ℓ) (g : Dev Cert.AdamSplitRefIdeal.nD → PrngReg), Pre_AdamSplitRefIdeal m →
    θ_run (Cert.AdamSplitRefIdeal.defs (F := Ideal)) (onTc (τ := Cert.AdamSplitRefIdeal.τ) (Cert.AdamSplitRefIdeal.main (F := Ideal))) ⟨m, fun _ => 0, g⟩ (fun r => (∀ c : Dev Cert.AdamSplitRefIdeal.nD,
      r.2.mem ((c.tc : Thread Cert.AdamSplitRefIdeal.nD Cert.AdamSplitRefIdeal.τ).loc Cert.AdamSplitRefIdeal.main_arg0) = m ((c.tc : Thread Cert.AdamSplitRefIdeal.nD Cert.AdamSplitRefIdeal.τ).loc Cert.AdamSplitRefIdeal.main_arg0)
      ∧ r.2.mem ((c.tc : Thread Cert.AdamSplitRefIdeal.nD Cert.AdamSplitRefIdeal.τ).loc Cert.AdamSplitRefIdeal.main_arg1) = m ((c.tc : Thread Cert.AdamSplitRefIdeal.nD Cert.AdamSplitRefIdeal.τ).loc Cert.AdamSplitRefIdeal.main_arg1)
      ∧ r.2.mem ((c.tc : Thread Cert.AdamSplitRefIdeal.nD Cert.AdamSplitRefIdeal.τ).loc Cert.AdamSplitRefIdeal.main_arg2) = m ((c.tc : Thread Cert.AdamSplitRefIdeal.nD Cert.AdamSplitRefIdeal.τ).loc Cert.AdamSplitRefIdeal.main_arg2)
      ∧ r.2.mem ((c.tc : Thread Cert.AdamSplitRefIdeal.nD Cert.AdamSplitRefIdeal.τ).loc Cert.AdamSplitRefIdeal.main_arg3) = m ((c.tc : Thread Cert.AdamSplitRefIdeal.nD Cert.AdamSplitRefIdeal.τ).loc Cert.AdamSplitRefIdeal.main_arg3))
      ∧ r.2.sem = fun _ => 0)

def quiescent_AdamRep [hAdamRep : Cert.AdamRep.Facts] : Prop :=
  ∀ (m : (ℓ : Loc Cert.AdamRep.nD Cert.AdamRep.τ Cert.AdamRep.sig) → Buf (Elt Bits) ℓ) (g : Dev Cert.AdamRep.nD → PrngReg), Pre_AdamRep m →
    θ_run (Cert.AdamRep.defs (F := Bits)) (onTc (τ := Cert.AdamRep.τ) (Cert.AdamRep.main (F := Bits))) ⟨m, fun _ => 0, g⟩ (fun r => (∀ c : Dev Cert.AdamRep.nD,
      r.2.mem ((c.tc : Thread Cert.AdamRep.nD Cert.AdamRep.τ).loc Cert.AdamRep.main_arg0) = m ((c.tc : Thread Cert.AdamRep.nD Cert.AdamRep.τ).loc Cert.AdamRep.main_arg0)
      ∧ r.2.mem ((c.tc : Thread Cert.AdamRep.nD Cert.AdamRep.τ).loc Cert.AdamRep.main_arg1) = m ((c.tc : Thread Cert.AdamRep.nD Cert.AdamRep.τ).loc Cert.AdamRep.main_arg1)
      ∧ r.2.mem ((c.tc : Thread Cert.AdamRep.nD Cert.AdamRep.τ).loc Cert.AdamRep.main_arg2) = m ((c.tc : Thread Cert.AdamRep.nD Cert.AdamRep.τ).loc Cert.AdamRep.main_arg2)
      ∧ r.2.mem ((c.tc : Thread Cert.AdamRep.nD Cert.AdamRep.τ).loc Cert.AdamRep.main_arg3) = m ((c.tc : Thread Cert.AdamRep.nD Cert.AdamRep.τ).loc Cert.AdamRep.main_arg3))
      ∧ r.2.sem = fun _ => 0)

def quiescent_AdamRepIdeal [hAdamRepIdeal : Cert.AdamRepIdeal.Facts] : Prop :=
  ∀ (m : (ℓ : Loc Cert.AdamRepIdeal.nD Cert.AdamRepIdeal.τ Cert.AdamRepIdeal.sig) → Buf (Elt Ideal) ℓ) (g : Dev Cert.AdamRepIdeal.nD → PrngReg), Pre_AdamRepIdeal m →
    θ_run (Cert.AdamRepIdeal.defs (F := Ideal)) (onTc (τ := Cert.AdamRepIdeal.τ) (Cert.AdamRepIdeal.main (F := Ideal))) ⟨m, fun _ => 0, g⟩ (fun r => (∀ c : Dev Cert.AdamRepIdeal.nD,
      r.2.mem ((c.tc : Thread Cert.AdamRepIdeal.nD Cert.AdamRepIdeal.τ).loc Cert.AdamRepIdeal.main_arg0) = m ((c.tc : Thread Cert.AdamRepIdeal.nD Cert.AdamRepIdeal.τ).loc Cert.AdamRepIdeal.main_arg0)
      ∧ r.2.mem ((c.tc : Thread Cert.AdamRepIdeal.nD Cert.AdamRepIdeal.τ).loc Cert.AdamRepIdeal.main_arg1) = m ((c.tc : Thread Cert.AdamRepIdeal.nD Cert.AdamRepIdeal.τ).loc Cert.AdamRepIdeal.main_arg1)
      ∧ r.2.mem ((c.tc : Thread Cert.AdamRepIdeal.nD Cert.AdamRepIdeal.τ).loc Cert.AdamRepIdeal.main_arg2) = m ((c.tc : Thread Cert.AdamRepIdeal.nD Cert.AdamRepIdeal.τ).loc Cert.AdamRepIdeal.main_arg2)
      ∧ r.2.mem ((c.tc : Thread Cert.AdamRepIdeal.nD Cert.AdamRepIdeal.τ).loc Cert.AdamRepIdeal.main_arg3) = m ((c.tc : Thread Cert.AdamRepIdeal.nD Cert.AdamRepIdeal.τ).loc Cert.AdamRepIdeal.main_arg3))
      ∧ r.2.sem = fun _ => 0)

def quiescent_AdamRepRefIdeal [hAdamRepRefIdeal : Cert.AdamRepRefIdeal.Facts] : Prop :=
  ∀ (m : (ℓ : Loc Cert.AdamRepRefIdeal.nD Cert.AdamRepRefIdeal.τ Cert.AdamRepRefIdeal.sig) → Buf (Elt Ideal) ℓ) (g : Dev Cert.AdamRepRefIdeal.nD → PrngReg), Pre_AdamRepRefIdeal m →
    θ_run (Cert.AdamRepRefIdeal.defs (F := Ideal)) (onTc (τ := Cert.AdamRepRefIdeal.τ) (Cert.AdamRepRefIdeal.main (F := Ideal))) ⟨m, fun _ => 0, g⟩ (fun r => (∀ c : Dev Cert.AdamRepRefIdeal.nD,
      r.2.mem ((c.tc : Thread Cert.AdamRepRefIdeal.nD Cert.AdamRepRefIdeal.τ).loc Cert.AdamRepRefIdeal.main_arg0) = m ((c.tc : Thread Cert.AdamRepRefIdeal.nD Cert.AdamRepRefIdeal.τ).loc Cert.AdamRepRefIdeal.main_arg0)
      ∧ r.2.mem ((c.tc : Thread Cert.AdamRepRefIdeal.nD Cert.AdamRepRefIdeal.τ).loc Cert.AdamRepRefIdeal.main_arg1) = m ((c.tc : Thread Cert.AdamRepRefIdeal.nD Cert.AdamRepRefIdeal.τ).loc Cert.AdamRepRefIdeal.main_arg1)
      ∧ r.2.mem ((c.tc : Thread Cert.AdamRepRefIdeal.nD Cert.AdamRepRefIdeal.τ).loc Cert.AdamRepRefIdeal.main_arg2) = m ((c.tc : Thread Cert.AdamRepRefIdeal.nD Cert.AdamRepRefIdeal.τ).loc Cert.AdamRepRefIdeal.main_arg2)
      ∧ r.2.mem ((c.tc : Thread Cert.AdamRepRefIdeal.nD Cert.AdamRepRefIdeal.τ).loc Cert.AdamRepRefIdeal.main_arg3) = m ((c.tc : Thread Cert.AdamRepRefIdeal.nD Cert.AdamRepRefIdeal.τ).loc Cert.AdamRepRefIdeal.main_arg3))
      ∧ r.2.sem = fun _ => 0)

def quiescent_GradX [hGradX : Cert.GradX.Facts] : Prop :=
  ∀ (m : (ℓ : Loc Cert.GradX.nD Cert.GradX.τ Cert.GradX.sig) → Buf (Elt Bits) ℓ) (g : Dev Cert.GradX.nD → PrngReg), Pre_GradX m →
    θ_run (Cert.GradX.defs (F := Bits)) (onTc (τ := Cert.GradX.τ) (Cert.GradX.main (F := Bits))) ⟨m, fun _ => 0, g⟩ (fun r => (∀ c : Dev Cert.GradX.nD,
      r.2.mem ((c.tc : Thread Cert.GradX.nD Cert.GradX.τ).loc Cert.GradX.main_arg0) = m ((c.tc : Thread Cert.GradX.nD Cert.GradX.τ).loc Cert.GradX.main_arg0)
      ∧ r.2.mem ((c.tc : Thread Cert.GradX.nD Cert.GradX.τ).loc Cert.GradX.main_arg1) = m ((c.tc : Thread Cert.GradX.nD Cert.GradX.τ).loc Cert.GradX.main_arg1)
      ∧ r.2.mem ((c.tc : Thread Cert.GradX.nD Cert.GradX.τ).loc Cert.GradX.main_arg2) = m ((c.tc : Thread Cert.GradX.nD Cert.GradX.τ).loc Cert.GradX.main_arg2)
      ∧ r.2.mem ((c.tc : Thread Cert.GradX.nD Cert.GradX.τ).loc Cert.GradX.main_arg3) = m ((c.tc : Thread Cert.GradX.nD Cert.GradX.τ).loc Cert.GradX.main_arg3))
      ∧ r.2.sem = fun _ => 0)

def quiescent_GradXIdeal [hGradXIdeal : Cert.GradXIdeal.Facts] : Prop :=
  ∀ (m : (ℓ : Loc Cert.GradXIdeal.nD Cert.GradXIdeal.τ Cert.GradXIdeal.sig) → Buf (Elt Ideal) ℓ) (g : Dev Cert.GradXIdeal.nD → PrngReg), Pre_GradXIdeal m →
    θ_run (Cert.GradXIdeal.defs (F := Ideal)) (onTc (τ := Cert.GradXIdeal.τ) (Cert.GradXIdeal.main (F := Ideal))) ⟨m, fun _ => 0, g⟩ (fun r => (∀ c : Dev Cert.GradXIdeal.nD,
      r.2.mem ((c.tc : Thread Cert.GradXIdeal.nD Cert.GradXIdeal.τ).loc Cert.GradXIdeal.main_arg0) = m ((c.tc : Thread Cert.GradXIdeal.nD Cert.GradXIdeal.τ).loc Cert.GradXIdeal.main_arg0)
      ∧ r.2.mem ((c.tc : Thread Cert.GradXIdeal.nD Cert.GradXIdeal.τ).loc Cert.GradXIdeal.main_arg1) = m ((c.tc : Thread Cert.GradXIdeal.nD Cert.GradXIdeal.τ).loc Cert.GradXIdeal.main_arg1)
      ∧ r.2.mem ((c.tc : Thread Cert.GradXIdeal.nD Cert.GradXIdeal.τ).loc Cert.GradXIdeal.main_arg2) = m ((c.tc : Thread Cert.GradXIdeal.nD Cert.GradXIdeal.τ).loc Cert.GradXIdeal.main_arg2)
      ∧ r.2.mem ((c.tc : Thread Cert.GradXIdeal.nD Cert.GradXIdeal.τ).loc Cert.GradXIdeal.main_arg3) = m ((c.tc : Thread Cert.GradXIdeal.nD Cert.GradXIdeal.τ).loc Cert.GradXIdeal.main_arg3))
      ∧ r.2.sem = fun _ => 0)

def quiescent_GradXRefIdeal [hGradXRefIdeal : Cert.GradXRefIdeal.Facts] : Prop :=
  ∀ (m : (ℓ : Loc Cert.GradXRefIdeal.nD Cert.GradXRefIdeal.τ Cert.GradXRefIdeal.sig) → Buf (Elt Ideal) ℓ) (g : Dev Cert.GradXRefIdeal.nD → PrngReg), Pre_GradXRefIdeal m →
    θ_run (Cert.GradXRefIdeal.defs (F := Ideal)) (onTc (τ := Cert.GradXRefIdeal.τ) (Cert.GradXRefIdeal.main (F := Ideal))) ⟨m, fun _ => 0, g⟩ (fun r => (∀ c : Dev Cert.GradXRefIdeal.nD,
      r.2.mem ((c.tc : Thread Cert.GradXRefIdeal.nD Cert.GradXRefIdeal.τ).loc Cert.GradXRefIdeal.main_arg0) = m ((c.tc : Thread Cert.GradXRefIdeal.nD Cert.GradXRefIdeal.τ).loc Cert.GradXRefIdeal.main_arg0)
      ∧ r.2.mem ((c.tc : Thread Cert.GradXRefIdeal.nD Cert.GradXRefIdeal.τ).loc Cert.GradXRefIdeal.main_arg1) = m ((c.tc : Thread Cert.GradXRefIdeal.nD Cert.GradXRefIdeal.τ).loc Cert.GradXRefIdeal.main_arg1)
      ∧ r.2.mem ((c.tc : Thread Cert.GradXRefIdeal.nD Cert.GradXRefIdeal.τ).loc Cert.GradXRefIdeal.main_arg2) = m ((c.tc : Thread Cert.GradXRefIdeal.nD Cert.GradXRefIdeal.τ).loc Cert.GradXRefIdeal.main_arg2)
      ∧ r.2.mem ((c.tc : Thread Cert.GradXRefIdeal.nD Cert.GradXRefIdeal.τ).loc Cert.GradXRefIdeal.main_arg3) = m ((c.tc : Thread Cert.GradXRefIdeal.nD Cert.GradXRefIdeal.τ).loc Cert.GradXRefIdeal.main_arg3))
      ∧ r.2.sem = fun _ => 0)

def quiescent_FfnNorm [hFfnNorm : Cert.FfnNorm.Facts] : Prop :=
  ∀ (m : (ℓ : Loc Cert.FfnNorm.nD Cert.FfnNorm.τ Cert.FfnNorm.sig) → Buf (Elt Bits) ℓ) (g : Dev Cert.FfnNorm.nD → PrngReg), Pre_FfnNorm m →
    θ_run (Cert.FfnNorm.defs (F := Bits)) (onTc (τ := Cert.FfnNorm.τ) (Cert.FfnNorm.main (F := Bits))) ⟨m, fun _ => 0, g⟩ (fun r => (∀ c : Dev Cert.FfnNorm.nD,
      r.2.mem ((c.tc : Thread Cert.FfnNorm.nD Cert.FfnNorm.τ).loc Cert.FfnNorm.main_arg0) = m ((c.tc : Thread Cert.FfnNorm.nD Cert.FfnNorm.τ).loc Cert.FfnNorm.main_arg0)
      ∧ r.2.mem ((c.tc : Thread Cert.FfnNorm.nD Cert.FfnNorm.τ).loc Cert.FfnNorm.main_arg1) = m ((c.tc : Thread Cert.FfnNorm.nD Cert.FfnNorm.τ).loc Cert.FfnNorm.main_arg1))
      ∧ r.2.sem = fun _ => 0)

def quiescent_FfnNormIdeal [hFfnNormIdeal : Cert.FfnNormIdeal.Facts] : Prop :=
  ∀ (m : (ℓ : Loc Cert.FfnNormIdeal.nD Cert.FfnNormIdeal.τ Cert.FfnNormIdeal.sig) → Buf (Elt Ideal) ℓ) (g : Dev Cert.FfnNormIdeal.nD → PrngReg), Pre_FfnNormIdeal m →
    θ_run (Cert.FfnNormIdeal.defs (F := Ideal)) (onTc (τ := Cert.FfnNormIdeal.τ) (Cert.FfnNormIdeal.main (F := Ideal))) ⟨m, fun _ => 0, g⟩ (fun r => (∀ c : Dev Cert.FfnNormIdeal.nD,
      r.2.mem ((c.tc : Thread Cert.FfnNormIdeal.nD Cert.FfnNormIdeal.τ).loc Cert.FfnNormIdeal.main_arg0) = m ((c.tc : Thread Cert.FfnNormIdeal.nD Cert.FfnNormIdeal.τ).loc Cert.FfnNormIdeal.main_arg0)
      ∧ r.2.mem ((c.tc : Thread Cert.FfnNormIdeal.nD Cert.FfnNormIdeal.τ).loc Cert.FfnNormIdeal.main_arg1) = m ((c.tc : Thread Cert.FfnNormIdeal.nD Cert.FfnNormIdeal.τ).loc Cert.FfnNormIdeal.main_arg1))
      ∧ r.2.sem = fun _ => 0)

def quiescent_FfnNormRefIdeal [hFfnNormRefIdeal : Cert.FfnNormRefIdeal.Facts] : Prop :=
  ∀ (m : (ℓ : Loc Cert.FfnNormRefIdeal.nD Cert.FfnNormRefIdeal.τ Cert.FfnNormRefIdeal.sig) → Buf (Elt Ideal) ℓ) (g : Dev Cert.FfnNormRefIdeal.nD → PrngReg), Pre_FfnNormRefIdeal m →
    θ_run (Cert.FfnNormRefIdeal.defs (F := Ideal)) (onTc (τ := Cert.FfnNormRefIdeal.τ) (Cert.FfnNormRefIdeal.main (F := Ideal))) ⟨m, fun _ => 0, g⟩ (fun r => (∀ c : Dev Cert.FfnNormRefIdeal.nD,
      r.2.mem ((c.tc : Thread Cert.FfnNormRefIdeal.nD Cert.FfnNormRefIdeal.τ).loc Cert.FfnNormRefIdeal.main_arg0) = m ((c.tc : Thread Cert.FfnNormRefIdeal.nD Cert.FfnNormRefIdeal.τ).loc Cert.FfnNormRefIdeal.main_arg0)
      ∧ r.2.mem ((c.tc : Thread Cert.FfnNormRefIdeal.nD Cert.FfnNormRefIdeal.τ).loc Cert.FfnNormRefIdeal.main_arg1) = m ((c.tc : Thread Cert.FfnNormRefIdeal.nD Cert.FfnNormRefIdeal.τ).loc Cert.FfnNormRefIdeal.main_arg1))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1))
      ∧ r.2.sem = fun _ => 0)

def quiescent_FfnAct [hFfnAct : Cert.FfnAct.Facts] : Prop :=
  ∀ (m : (ℓ : Loc Cert.FfnAct.nD Cert.FfnAct.τ Cert.FfnAct.sig) → Buf (Elt Bits) ℓ) (g : Dev Cert.FfnAct.nD → PrngReg), Pre_FfnAct m →
    θ_run (Cert.FfnAct.defs (F := Bits)) (onTc (τ := Cert.FfnAct.τ) (Cert.FfnAct.main (F := Bits))) ⟨m, fun _ => 0, g⟩ (fun r => (∀ c : Dev Cert.FfnAct.nD,
      r.2.mem ((c.tc : Thread Cert.FfnAct.nD Cert.FfnAct.τ).loc Cert.FfnAct.main_arg0) = m ((c.tc : Thread Cert.FfnAct.nD Cert.FfnAct.τ).loc Cert.FfnAct.main_arg0)
      ∧ r.2.mem ((c.tc : Thread Cert.FfnAct.nD Cert.FfnAct.τ).loc Cert.FfnAct.main_arg1) = m ((c.tc : Thread Cert.FfnAct.nD Cert.FfnAct.τ).loc Cert.FfnAct.main_arg1)
      ∧ r.2.mem ((c.tc : Thread Cert.FfnAct.nD Cert.FfnAct.τ).loc Cert.FfnAct.main_arg2) = m ((c.tc : Thread Cert.FfnAct.nD Cert.FfnAct.τ).loc Cert.FfnAct.main_arg2))
      ∧ r.2.sem = fun _ => 0)

def quiescent_FfnActIdeal [hFfnActIdeal : Cert.FfnActIdeal.Facts] : Prop :=
  ∀ (m : (ℓ : Loc Cert.FfnActIdeal.nD Cert.FfnActIdeal.τ Cert.FfnActIdeal.sig) → Buf (Elt Ideal) ℓ) (g : Dev Cert.FfnActIdeal.nD → PrngReg), Pre_FfnActIdeal m →
    θ_run (Cert.FfnActIdeal.defs (F := Ideal)) (onTc (τ := Cert.FfnActIdeal.τ) (Cert.FfnActIdeal.main (F := Ideal))) ⟨m, fun _ => 0, g⟩ (fun r => (∀ c : Dev Cert.FfnActIdeal.nD,
      r.2.mem ((c.tc : Thread Cert.FfnActIdeal.nD Cert.FfnActIdeal.τ).loc Cert.FfnActIdeal.main_arg0) = m ((c.tc : Thread Cert.FfnActIdeal.nD Cert.FfnActIdeal.τ).loc Cert.FfnActIdeal.main_arg0)
      ∧ r.2.mem ((c.tc : Thread Cert.FfnActIdeal.nD Cert.FfnActIdeal.τ).loc Cert.FfnActIdeal.main_arg1) = m ((c.tc : Thread Cert.FfnActIdeal.nD Cert.FfnActIdeal.τ).loc Cert.FfnActIdeal.main_arg1)
      ∧ r.2.mem ((c.tc : Thread Cert.FfnActIdeal.nD Cert.FfnActIdeal.τ).loc Cert.FfnActIdeal.main_arg2) = m ((c.tc : Thread Cert.FfnActIdeal.nD Cert.FfnActIdeal.τ).loc Cert.FfnActIdeal.main_arg2))
      ∧ r.2.sem = fun _ => 0)

def quiescent_FfnActRefIdeal [hFfnActRefIdeal : Cert.FfnActRefIdeal.Facts] : Prop :=
  ∀ (m : (ℓ : Loc Cert.FfnActRefIdeal.nD Cert.FfnActRefIdeal.τ Cert.FfnActRefIdeal.sig) → Buf (Elt Ideal) ℓ) (g : Dev Cert.FfnActRefIdeal.nD → PrngReg), Pre_FfnActRefIdeal m →
    θ_run (Cert.FfnActRefIdeal.defs (F := Ideal)) (onTc (τ := Cert.FfnActRefIdeal.τ) (Cert.FfnActRefIdeal.main (F := Ideal))) ⟨m, fun _ => 0, g⟩ (fun r => (∀ c : Dev Cert.FfnActRefIdeal.nD,
      r.2.mem ((c.tc : Thread Cert.FfnActRefIdeal.nD Cert.FfnActRefIdeal.τ).loc Cert.FfnActRefIdeal.main_arg0) = m ((c.tc : Thread Cert.FfnActRefIdeal.nD Cert.FfnActRefIdeal.τ).loc Cert.FfnActRefIdeal.main_arg0)
      ∧ r.2.mem ((c.tc : Thread Cert.FfnActRefIdeal.nD Cert.FfnActRefIdeal.τ).loc Cert.FfnActRefIdeal.main_arg1) = m ((c.tc : Thread Cert.FfnActRefIdeal.nD Cert.FfnActRefIdeal.τ).loc Cert.FfnActRefIdeal.main_arg1)
      ∧ r.2.mem ((c.tc : Thread Cert.FfnActRefIdeal.nD Cert.FfnActRefIdeal.τ).loc Cert.FfnActRefIdeal.main_arg2) = m ((c.tc : Thread Cert.FfnActRefIdeal.nD Cert.FfnActRefIdeal.τ).loc Cert.FfnActRefIdeal.main_arg2))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1)
      ∧ r.2.mem ((c.tc : Thread Cert.FfnDown.nD Cert.FfnDown.τ).loc Cert.FfnDown.main_arg2) = m ((c.tc : Thread Cert.FfnDown.nD Cert.FfnDown.τ).loc Cert.FfnDown.main_arg2))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2))
      ∧ r.2.sem = fun _ => 0)

def quiescent_FfnDownRefIdeal [hFfnDownRefIdeal : Cert.FfnDownRefIdeal.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1)
      ∧ r.2.mem ((c.tc : Thread Cert.FfnDownRefIdeal.nD Cert.FfnDownRefIdeal.τ).loc Cert.FfnDownRefIdeal.main_arg2) = m ((c.tc : Thread Cert.FfnDownRefIdeal.nD Cert.FfnDownRefIdeal.τ).loc Cert.FfnDownRefIdeal.main_arg2))
      ∧ r.2.sem = fun _ => 0)

def quiescent_FfnDownDx [hFfnDownDx : Cert.FfnDownDx.Facts] : Prop :=
  ∀ (m : (ℓ : Loc Cert.FfnDownDx.nD Cert.FfnDownDx.τ Cert.FfnDownDx.sig) → Buf (Elt Bits) ℓ) (g : Dev Cert.FfnDownDx.nD → PrngReg), Pre_FfnDownDx m →
    θ_run (Cert.FfnDownDx.defs (F := Bits)) (onTc (τ := Cert.FfnDownDx.τ) (Cert.FfnDownDx.main (F := Bits))) ⟨m, fun _ => 0, g⟩ (fun r => (∀ c : Dev Cert.FfnDownDx.nD,
      r.2.mem ((c.tc : Thread Cert.FfnDownDx.nD Cert.FfnDownDx.τ).loc Cert.FfnDownDx.main_arg0) = m ((c.tc : Thread Cert.FfnDownDx.nD Cert.FfnDownDx.τ).loc Cert.FfnDownDx.main_arg0)
      ∧ r.2.mem ((c.tc : Thread Cert.FfnDownDx.nD Cert.FfnDownDx.τ).loc Cert.FfnDownDx.main_arg1) = m ((c.tc : Thread Cert.FfnDownDx.nD Cert.FfnDownDx.τ).loc Cert.FfnDownDx.main_arg1))
      ∧ r.2.sem = fun _ => 0)

def quiescent_FfnDownDxIdeal [hFfnDownDxIdeal : Cert.FfnDownDxIdeal.Facts] : Prop :=
  ∀ (m : (ℓ : Loc Cert.FfnDownDxIdeal.nD Cert.FfnDownDxIdeal.τ Cert.FfnDownDxIdeal.sig) → Buf (Elt Ideal) ℓ) (g : Dev Cert.FfnDownDxIdeal.nD → PrngReg), Pre_FfnDownDxIdeal m →
    θ_run (Cert.FfnDownDxIdeal.defs (F := Ideal)) (onTc (τ := Cert.FfnDownDxIdeal.τ) (Cert.FfnDownDxIdeal.main (F := Ideal))) ⟨m, fun _ => 0, g⟩ (fun r => (∀ c : Dev Cert.FfnDownDxIdeal.nD,
      r.2.mem ((c.tc : Thread Cert.FfnDownDxIdeal.nD Cert.FfnDownDxIdeal.τ).loc Cert.FfnDownDxIdeal.main_arg0) = m ((c.tc : Thread Cert.FfnDownDxIdeal.nD Cert.FfnDownDxIdeal.τ).loc Cert.FfnDownDxIdeal.main_arg0)
      ∧ r.2.mem ((c.tc : Thread Cert.FfnDownDxIdeal.nD Cert.FfnDownDxIdeal.τ).loc Cert.FfnDownDxIdeal.main_arg1) = m ((c.tc : Thread Cert.FfnDownDxIdeal.nD Cert.FfnDownDxIdeal.τ).loc Cert.FfnDownDxIdeal.main_arg1))
      ∧ r.2.sem = fun _ => 0)

def quiescent_FfnDownDxRefIdeal [hFfnDownDxRefIdeal : Cert.FfnDownDxRefIdeal.Facts] : Prop :=
  ∀ (m : (ℓ : Loc Cert.FfnDownDxRefIdeal.nD Cert.FfnDownDxRefIdeal.τ Cert.FfnDownDxRefIdeal.sig) → Buf (Elt Ideal) ℓ) (g : Dev Cert.FfnDownDxRefIdeal.nD → PrngReg), Pre_FfnDownDxRefIdeal m →
    θ_run (Cert.FfnDownDxRefIdeal.defs (F := Ideal)) (onTc (τ := Cert.FfnDownDxRefIdeal.τ) (Cert.FfnDownDxRefIdeal.main (F := Ideal))) ⟨m, fun _ => 0, g⟩ (fun r => (∀ c : Dev Cert.FfnDownDxRefIdeal.nD,
      r.2.mem ((c.tc : Thread Cert.FfnDownDxRefIdeal.nD Cert.FfnDownDxRefIdeal.τ).loc Cert.FfnDownDxRefIdeal.main_arg0) = m ((c.tc : Thread Cert.FfnDownDxRefIdeal.nD Cert.FfnDownDxRefIdeal.τ).loc Cert.FfnDownDxRefIdeal.main_arg0)
      ∧ r.2.mem ((c.tc : Thread Cert.FfnDownDxRefIdeal.nD Cert.FfnDownDxRefIdeal.τ).loc Cert.FfnDownDxRefIdeal.main_arg1) = m ((c.tc : Thread Cert.FfnDownDxRefIdeal.nD Cert.FfnDownDxRefIdeal.τ).loc Cert.FfnDownDxRefIdeal.main_arg1))
      ∧ r.2.sem = fun _ => 0)

def quiescent_FfnDownDw [hFfnDownDw : Cert.FfnDownDw.Facts] : Prop :=
  ∀ (m : (ℓ : Loc Cert.FfnDownDw.nD Cert.FfnDownDw.τ Cert.FfnDownDw.sig) → Buf (Elt Bits) ℓ) (g : Dev Cert.FfnDownDw.nD → PrngReg), Pre_FfnDownDw m →
    θ_run (Cert.FfnDownDw.defs (F := Bits)) (onTc (τ := Cert.FfnDownDw.τ) (Cert.FfnDownDw.main (F := Bits))) ⟨m, fun _ => 0, g⟩ (fun r => (∀ c : Dev Cert.FfnDownDw.nD,
      r.2.mem ((c.tc : Thread Cert.FfnDownDw.nD Cert.FfnDownDw.τ).loc Cert.FfnDownDw.main_arg0) = m ((c.tc : Thread Cert.FfnDownDw.nD Cert.FfnDownDw.τ).loc Cert.FfnDownDw.main_arg0)
      ∧ r.2.mem ((c.tc : Thread Cert.FfnDownDw.nD Cert.FfnDownDw.τ).loc Cert.FfnDownDw.main_arg1) = m ((c.tc : Thread Cert.FfnDownDw.nD Cert.FfnDownDw.τ).loc Cert.FfnDownDw.main_arg1))
      ∧ r.2.sem = fun _ => 0)

def quiescent_FfnDownDwIdeal [hFfnDownDwIdeal : Cert.FfnDownDwIdeal.Facts] : Prop :=
  ∀ (m : (ℓ : Loc Cert.FfnDownDwIdeal.nD Cert.FfnDownDwIdeal.τ Cert.FfnDownDwIdeal.sig) → Buf (Elt Ideal) ℓ) (g : Dev Cert.FfnDownDwIdeal.nD → PrngReg), Pre_FfnDownDwIdeal m →
    θ_run (Cert.FfnDownDwIdeal.defs (F := Ideal)) (onTc (τ := Cert.FfnDownDwIdeal.τ) (Cert.FfnDownDwIdeal.main (F := Ideal))) ⟨m, fun _ => 0, g⟩ (fun r => (∀ c : Dev Cert.FfnDownDwIdeal.nD,
      r.2.mem ((c.tc : Thread Cert.FfnDownDwIdeal.nD Cert.FfnDownDwIdeal.τ).loc Cert.FfnDownDwIdeal.main_arg0) = m ((c.tc : Thread Cert.FfnDownDwIdeal.nD Cert.FfnDownDwIdeal.τ).loc Cert.FfnDownDwIdeal.main_arg0)
      ∧ r.2.mem ((c.tc : Thread Cert.FfnDownDwIdeal.nD Cert.FfnDownDwIdeal.τ).loc Cert.FfnDownDwIdeal.main_arg1) = m ((c.tc : Thread Cert.FfnDownDwIdeal.nD Cert.FfnDownDwIdeal.τ).loc Cert.FfnDownDwIdeal.main_arg1))
      ∧ r.2.sem = fun _ => 0)

def quiescent_FfnDownDwRefIdeal [hFfnDownDwRefIdeal : Cert.FfnDownDwRefIdeal.Facts] : Prop :=
  ∀ (m : (ℓ : Loc Cert.FfnDownDwRefIdeal.nD Cert.FfnDownDwRefIdeal.τ Cert.FfnDownDwRefIdeal.sig) → Buf (Elt Ideal) ℓ) (g : Dev Cert.FfnDownDwRefIdeal.nD → PrngReg), Pre_FfnDownDwRefIdeal m →
    θ_run (Cert.FfnDownDwRefIdeal.defs (F := Ideal)) (onTc (τ := Cert.FfnDownDwRefIdeal.τ) (Cert.FfnDownDwRefIdeal.main (F := Ideal))) ⟨m, fun _ => 0, g⟩ (fun r => (∀ c : Dev Cert.FfnDownDwRefIdeal.nD,
      r.2.mem ((c.tc : Thread Cert.FfnDownDwRefIdeal.nD Cert.FfnDownDwRefIdeal.τ).loc Cert.FfnDownDwRefIdeal.main_arg0) = m ((c.tc : Thread Cert.FfnDownDwRefIdeal.nD Cert.FfnDownDwRefIdeal.τ).loc Cert.FfnDownDwRefIdeal.main_arg0)
      ∧ r.2.mem ((c.tc : Thread Cert.FfnDownDwRefIdeal.nD Cert.FfnDownDwRefIdeal.τ).loc Cert.FfnDownDwRefIdeal.main_arg1) = m ((c.tc : Thread Cert.FfnDownDwRefIdeal.nD Cert.FfnDownDwRefIdeal.τ).loc Cert.FfnDownDwRefIdeal.main_arg1))
      ∧ r.2.sem = fun _ => 0)

def quiescent_FfnUpDx [hFfnUpDx : Cert.FfnUpDx.Facts] : Prop :=
  ∀ (m : (ℓ : Loc Cert.FfnUpDx.nD Cert.FfnUpDx.τ Cert.FfnUpDx.sig) → Buf (Elt Bits) ℓ) (g : Dev Cert.FfnUpDx.nD → PrngReg), Pre_FfnUpDx m →
    θ_run (Cert.FfnUpDx.defs (F := Bits)) (onTc (τ := Cert.FfnUpDx.τ) (Cert.FfnUpDx.main (F := Bits))) ⟨m, fun _ => 0, g⟩ (fun r => (∀ c : Dev Cert.FfnUpDx.nD,
      r.2.mem ((c.tc : Thread Cert.FfnUpDx.nD Cert.FfnUpDx.τ).loc Cert.FfnUpDx.main_arg0) = m ((c.tc : Thread Cert.FfnUpDx.nD Cert.FfnUpDx.τ).loc Cert.FfnUpDx.main_arg0)
      ∧ r.2.mem ((c.tc : Thread Cert.FfnUpDx.nD Cert.FfnUpDx.τ).loc Cert.FfnUpDx.main_arg1) = m ((c.tc : Thread Cert.FfnUpDx.nD Cert.FfnUpDx.τ).loc Cert.FfnUpDx.main_arg1))
      ∧ r.2.sem = fun _ => 0)

def quiescent_FfnUpDxIdeal [hFfnUpDxIdeal : Cert.FfnUpDxIdeal.Facts] : Prop :=
  ∀ (m : (ℓ : Loc Cert.FfnUpDxIdeal.nD Cert.FfnUpDxIdeal.τ Cert.FfnUpDxIdeal.sig) → Buf (Elt Ideal) ℓ) (g : Dev Cert.FfnUpDxIdeal.nD → PrngReg), Pre_FfnUpDxIdeal m →
    θ_run (Cert.FfnUpDxIdeal.defs (F := Ideal)) (onTc (τ := Cert.FfnUpDxIdeal.τ) (Cert.FfnUpDxIdeal.main (F := Ideal))) ⟨m, fun _ => 0, g⟩ (fun r => (∀ c : Dev Cert.FfnUpDxIdeal.nD,
      r.2.mem ((c.tc : Thread Cert.FfnUpDxIdeal.nD Cert.FfnUpDxIdeal.τ).loc Cert.FfnUpDxIdeal.main_arg0) = m ((c.tc : Thread Cert.FfnUpDxIdeal.nD Cert.FfnUpDxIdeal.τ).loc Cert.FfnUpDxIdeal.main_arg0)
      ∧ r.2.mem ((c.tc : Thread Cert.FfnUpDxIdeal.nD Cert.FfnUpDxIdeal.τ).loc Cert.FfnUpDxIdeal.main_arg1) = m ((c.tc : Thread Cert.FfnUpDxIdeal.nD Cert.FfnUpDxIdeal.τ).loc Cert.FfnUpDxIdeal.main_arg1))
      ∧ r.2.sem = fun _ => 0)

def quiescent_FfnUpDxRefIdeal [hFfnUpDxRefIdeal : Cert.FfnUpDxRefIdeal.Facts] : Prop :=
  ∀ (m : (ℓ : Loc Cert.FfnUpDxRefIdeal.nD Cert.FfnUpDxRefIdeal.τ Cert.FfnUpDxRefIdeal.sig) → Buf (Elt Ideal) ℓ) (g : Dev Cert.FfnUpDxRefIdeal.nD → PrngReg), Pre_FfnUpDxRefIdeal m →
    θ_run (Cert.FfnUpDxRefIdeal.defs (F := Ideal)) (onTc (τ := Cert.FfnUpDxRefIdeal.τ) (Cert.FfnUpDxRefIdeal.main (F := Ideal))) ⟨m, fun _ => 0, g⟩ (fun r => (∀ c : Dev Cert.FfnUpDxRefIdeal.nD,
      r.2.mem ((c.tc : Thread Cert.FfnUpDxRefIdeal.nD Cert.FfnUpDxRefIdeal.τ).loc Cert.FfnUpDxRefIdeal.main_arg0) = m ((c.tc : Thread Cert.FfnUpDxRefIdeal.nD Cert.FfnUpDxRefIdeal.τ).loc Cert.FfnUpDxRefIdeal.main_arg0)
      ∧ r.2.mem ((c.tc : Thread Cert.FfnUpDxRefIdeal.nD Cert.FfnUpDxRefIdeal.τ).loc Cert.FfnUpDxRefIdeal.main_arg1) = m ((c.tc : Thread Cert.FfnUpDxRefIdeal.nD Cert.FfnUpDxRefIdeal.τ).loc Cert.FfnUpDxRefIdeal.main_arg1))
      ∧ r.2.sem = fun _ => 0)

def quiescent_FfnUpDw [hFfnUpDw : Cert.FfnUpDw.Facts] : Prop :=
  ∀ (m : (ℓ : Loc Cert.FfnUpDw.nD Cert.FfnUpDw.τ Cert.FfnUpDw.sig) → Buf (Elt Bits) ℓ) (g : Dev Cert.FfnUpDw.nD → PrngReg), Pre_FfnUpDw m →
    θ_run (Cert.FfnUpDw.defs (F := Bits)) (onTc (τ := Cert.FfnUpDw.τ) (Cert.FfnUpDw.main (F := Bits))) ⟨m, fun _ => 0, g⟩ (fun r => (∀ c : Dev Cert.FfnUpDw.nD,
      r.2.mem ((c.tc : Thread Cert.FfnUpDw.nD Cert.FfnUpDw.τ).loc Cert.FfnUpDw.main_arg0) = m ((c.tc : Thread Cert.FfnUpDw.nD Cert.FfnUpDw.τ).loc Cert.FfnUpDw.main_arg0)
      ∧ r.2.mem ((c.tc : Thread Cert.FfnUpDw.nD Cert.FfnUpDw.τ).loc Cert.FfnUpDw.main_arg1) = m ((c.tc : Thread Cert.FfnUpDw.nD Cert.FfnUpDw.τ).loc Cert.FfnUpDw.main_arg1))
      ∧ r.2.sem = fun _ => 0)

def quiescent_FfnUpDwIdeal [hFfnUpDwIdeal : Cert.FfnUpDwIdeal.Facts] : Prop :=
  ∀ (m : (ℓ : Loc Cert.FfnUpDwIdeal.nD Cert.FfnUpDwIdeal.τ Cert.FfnUpDwIdeal.sig) → Buf (Elt Ideal) ℓ) (g : Dev Cert.FfnUpDwIdeal.nD → PrngReg), Pre_FfnUpDwIdeal m →
    θ_run (Cert.FfnUpDwIdeal.defs (F := Ideal)) (onTc (τ := Cert.FfnUpDwIdeal.τ) (Cert.FfnUpDwIdeal.main (F := Ideal))) ⟨m, fun _ => 0, g⟩ (fun r => (∀ c : Dev Cert.FfnUpDwIdeal.nD,
      r.2.mem ((c.tc : Thread Cert.FfnUpDwIdeal.nD Cert.FfnUpDwIdeal.τ).loc Cert.FfnUpDwIdeal.main_arg0) = m ((c.tc : Thread Cert.FfnUpDwIdeal.nD Cert.FfnUpDwIdeal.τ).loc Cert.FfnUpDwIdeal.main_arg0)
      ∧ r.2.mem ((c.tc : Thread Cert.FfnUpDwIdeal.nD Cert.FfnUpDwIdeal.τ).loc Cert.FfnUpDwIdeal.main_arg1) = m ((c.tc : Thread Cert.FfnUpDwIdeal.nD Cert.FfnUpDwIdeal.τ).loc Cert.FfnUpDwIdeal.main_arg1))
      ∧ r.2.sem = fun _ => 0)

def quiescent_FfnUpDwRefIdeal [hFfnUpDwRefIdeal : Cert.FfnUpDwRefIdeal.Facts] : Prop :=
  ∀ (m : (ℓ : Loc Cert.FfnUpDwRefIdeal.nD Cert.FfnUpDwRefIdeal.τ Cert.FfnUpDwRefIdeal.sig) → Buf (Elt Ideal) ℓ) (g : Dev Cert.FfnUpDwRefIdeal.nD → PrngReg), Pre_FfnUpDwRefIdeal m →
    θ_run (Cert.FfnUpDwRefIdeal.defs (F := Ideal)) (onTc (τ := Cert.FfnUpDwRefIdeal.τ) (Cert.FfnUpDwRefIdeal.main (F := Ideal))) ⟨m, fun _ => 0, g⟩ (fun r => (∀ c : Dev Cert.FfnUpDwRefIdeal.nD,
      r.2.mem ((c.tc : Thread Cert.FfnUpDwRefIdeal.nD Cert.FfnUpDwRefIdeal.τ).loc Cert.FfnUpDwRefIdeal.main_arg0) = m ((c.tc : Thread Cert.FfnUpDwRefIdeal.nD Cert.FfnUpDwRefIdeal.τ).loc Cert.FfnUpDwRefIdeal.main_arg0)
      ∧ r.2.mem ((c.tc : Thread Cert.FfnUpDwRefIdeal.nD Cert.FfnUpDwRefIdeal.τ).loc Cert.FfnUpDwRefIdeal.main_arg1) = m ((c.tc : Thread Cert.FfnUpDwRefIdeal.nD Cert.FfnUpDwRefIdeal.τ).loc Cert.FfnUpDwRefIdeal.main_arg1))
      ∧ r.2.sem = fun _ => 0)

def quiescent_EvenIn [hEvenIn : Cert.EvenIn.Facts] : Prop :=
  ∀ (m : (ℓ : Loc Cert.EvenIn.nD Cert.EvenIn.τ Cert.EvenIn.sig) → Buf (Elt Bits) ℓ) (g : Dev Cert.EvenIn.nD → PrngReg), Pre_EvenIn m →
    θ_run (Cert.EvenIn.defs (F := Bits)) (onTc (τ := Cert.EvenIn.τ) (Cert.EvenIn.main (F := Bits))) ⟨m, fun _ => 0, g⟩ (fun r => (∀ c : Dev Cert.EvenIn.nD,
      r.2.mem ((c.tc : Thread Cert.EvenIn.nD Cert.EvenIn.τ).loc Cert.EvenIn.main_arg0) = m ((c.tc : Thread Cert.EvenIn.nD Cert.EvenIn.τ).loc Cert.EvenIn.main_arg0)
      ∧ r.2.mem ((c.tc : Thread Cert.EvenIn.nD Cert.EvenIn.τ).loc Cert.EvenIn.main_arg1) = m ((c.tc : Thread Cert.EvenIn.nD Cert.EvenIn.τ).loc Cert.EvenIn.main_arg1))
      ∧ r.2.sem = fun _ => 0)

def quiescent_EvenInIdeal [hEvenInIdeal : Cert.EvenInIdeal.Facts] : Prop :=
  ∀ (m : (ℓ : Loc Cert.EvenInIdeal.nD Cert.EvenInIdeal.τ Cert.EvenInIdeal.sig) → Buf (Elt Ideal) ℓ) (g : Dev Cert.EvenInIdeal.nD → PrngReg), Pre_EvenInIdeal m →
    θ_run (Cert.EvenInIdeal.defs (F := Ideal)) (onTc (τ := Cert.EvenInIdeal.τ) (Cert.EvenInIdeal.main (F := Ideal))) ⟨m, fun _ => 0, g⟩ (fun r => (∀ c : Dev Cert.EvenInIdeal.nD,
      r.2.mem ((c.tc : Thread Cert.EvenInIdeal.nD Cert.EvenInIdeal.τ).loc Cert.EvenInIdeal.main_arg0) = m ((c.tc : Thread Cert.EvenInIdeal.nD Cert.EvenInIdeal.τ).loc Cert.EvenInIdeal.main_arg0)
      ∧ r.2.mem ((c.tc : Thread Cert.EvenInIdeal.nD Cert.EvenInIdeal.τ).loc Cert.EvenInIdeal.main_arg1) = m ((c.tc : Thread Cert.EvenInIdeal.nD Cert.EvenInIdeal.τ).loc Cert.EvenInIdeal.main_arg1))
      ∧ r.2.sem = fun _ => 0)

def quiescent_EvenInRefIdeal [hEvenInRefIdeal : Cert.EvenInRefIdeal.Facts] : Prop :=
  ∀ (m : (ℓ : Loc Cert.EvenInRefIdeal.nD Cert.EvenInRefIdeal.τ Cert.EvenInRefIdeal.sig) → Buf (Elt Ideal) ℓ) (g : Dev Cert.EvenInRefIdeal.nD → PrngReg), Pre_EvenInRefIdeal m →
    θ_run (Cert.EvenInRefIdeal.defs (F := Ideal)) (onTc (τ := Cert.EvenInRefIdeal.τ) (Cert.EvenInRefIdeal.main (F := Ideal))) ⟨m, fun _ => 0, g⟩ (fun r => (∀ c : Dev Cert.EvenInRefIdeal.nD,
      r.2.mem ((c.tc : Thread Cert.EvenInRefIdeal.nD Cert.EvenInRefIdeal.τ).loc Cert.EvenInRefIdeal.main_arg0) = m ((c.tc : Thread Cert.EvenInRefIdeal.nD Cert.EvenInRefIdeal.τ).loc Cert.EvenInRefIdeal.main_arg0)
      ∧ r.2.mem ((c.tc : Thread Cert.EvenInRefIdeal.nD Cert.EvenInRefIdeal.τ).loc Cert.EvenInRefIdeal.main_arg1) = m ((c.tc : Thread Cert.EvenInRefIdeal.nD Cert.EvenInRefIdeal.τ).loc Cert.EvenInRefIdeal.main_arg1))
      ∧ r.2.sem = fun _ => 0)

def quiescent_EvenOut [hEvenOut : Cert.EvenOut.Facts] : Prop :=
  ∀ (m : (ℓ : Loc Cert.EvenOut.nD Cert.EvenOut.τ Cert.EvenOut.sig) → Buf (Elt Bits) ℓ) (g : Dev Cert.EvenOut.nD → PrngReg), Pre_EvenOut m →
    θ_run (Cert.EvenOut.defs (F := Bits)) (onTc (τ := Cert.EvenOut.τ) (Cert.EvenOut.main (F := Bits))) ⟨m, fun _ => 0, g⟩ (fun r => (∀ c : Dev Cert.EvenOut.nD,
      r.2.mem ((c.tc : Thread Cert.EvenOut.nD Cert.EvenOut.τ).loc Cert.EvenOut.main_arg0) = m ((c.tc : Thread Cert.EvenOut.nD Cert.EvenOut.τ).loc Cert.EvenOut.main_arg0)
      ∧ r.2.mem ((c.tc : Thread Cert.EvenOut.nD Cert.EvenOut.τ).loc Cert.EvenOut.main_arg1) = m ((c.tc : Thread Cert.EvenOut.nD Cert.EvenOut.τ).loc Cert.EvenOut.main_arg1)
      ∧ r.2.mem ((c.tc : Thread Cert.EvenOut.nD Cert.EvenOut.τ).loc Cert.EvenOut.main_arg2) = m ((c.tc : Thread Cert.EvenOut.nD Cert.EvenOut.τ).loc Cert.EvenOut.main_arg2))
      ∧ r.2.sem = fun _ => 0)

def quiescent_EvenOutIdeal [hEvenOutIdeal : Cert.EvenOutIdeal.Facts] : Prop :=
  ∀ (m : (ℓ : Loc Cert.EvenOutIdeal.nD Cert.EvenOutIdeal.τ Cert.EvenOutIdeal.sig) → Buf (Elt Ideal) ℓ) (g : Dev Cert.EvenOutIdeal.nD → PrngReg), Pre_EvenOutIdeal m →
    θ_run (Cert.EvenOutIdeal.defs (F := Ideal)) (onTc (τ := Cert.EvenOutIdeal.τ) (Cert.EvenOutIdeal.main (F := Ideal))) ⟨m, fun _ => 0, g⟩ (fun r => (∀ c : Dev Cert.EvenOutIdeal.nD,
      r.2.mem ((c.tc : Thread Cert.EvenOutIdeal.nD Cert.EvenOutIdeal.τ).loc Cert.EvenOutIdeal.main_arg0) = m ((c.tc : Thread Cert.EvenOutIdeal.nD Cert.EvenOutIdeal.τ).loc Cert.EvenOutIdeal.main_arg0)
      ∧ r.2.mem ((c.tc : Thread Cert.EvenOutIdeal.nD Cert.EvenOutIdeal.τ).loc Cert.EvenOutIdeal.main_arg1) = m ((c.tc : Thread Cert.EvenOutIdeal.nD Cert.EvenOutIdeal.τ).loc Cert.EvenOutIdeal.main_arg1)
      ∧ r.2.mem ((c.tc : Thread Cert.EvenOutIdeal.nD Cert.EvenOutIdeal.τ).loc Cert.EvenOutIdeal.main_arg2) = m ((c.tc : Thread Cert.EvenOutIdeal.nD Cert.EvenOutIdeal.τ).loc Cert.EvenOutIdeal.main_arg2))
      ∧ r.2.sem = fun _ => 0)

def quiescent_EvenOutRefIdeal [hEvenOutRefIdeal : Cert.EvenOutRefIdeal.Facts] : Prop :=
  ∀ (m : (ℓ : Loc Cert.EvenOutRefIdeal.nD Cert.EvenOutRefIdeal.τ Cert.EvenOutRefIdeal.sig) → Buf (Elt Ideal) ℓ) (g : Dev Cert.EvenOutRefIdeal.nD → PrngReg), Pre_EvenOutRefIdeal m →
    θ_run (Cert.EvenOutRefIdeal.defs (F := Ideal)) (onTc (τ := Cert.EvenOutRefIdeal.τ) (Cert.EvenOutRefIdeal.main (F := Ideal))) ⟨m, fun _ => 0, g⟩ (fun r => (∀ c : Dev Cert.EvenOutRefIdeal.nD,
      r.2.mem ((c.tc : Thread Cert.EvenOutRefIdeal.nD Cert.EvenOutRefIdeal.τ).loc Cert.EvenOutRefIdeal.main_arg0) = m ((c.tc : Thread Cert.EvenOutRefIdeal.nD Cert.EvenOutRefIdeal.τ).loc Cert.EvenOutRefIdeal.main_arg0)
      ∧ r.2.mem ((c.tc : Thread Cert.EvenOutRefIdeal.nD Cert.EvenOutRefIdeal.τ).loc Cert.EvenOutRefIdeal.main_arg1) = m ((c.tc : Thread Cert.EvenOutRefIdeal.nD Cert.EvenOutRefIdeal.τ).loc Cert.EvenOutRefIdeal.main_arg1)
      ∧ r.2.mem ((c.tc : Thread Cert.EvenOutRefIdeal.nD Cert.EvenOutRefIdeal.τ).loc Cert.EvenOutRefIdeal.main_arg2) = m ((c.tc : Thread Cert.EvenOutRefIdeal.nD Cert.EvenOutRefIdeal.τ).loc Cert.EvenOutRefIdeal.main_arg2))
      ∧ r.2.sem = fun _ => 0)

def quiescent_EvenOutDx [hEvenOutDx : Cert.EvenOutDx.Facts] : Prop :=
  ∀ (m : (ℓ : Loc Cert.EvenOutDx.nD Cert.EvenOutDx.τ Cert.EvenOutDx.sig) → Buf (Elt Bits) ℓ) (g : Dev Cert.EvenOutDx.nD → PrngReg), Pre_EvenOutDx m →
    θ_run (Cert.EvenOutDx.defs (F := Bits)) (onTc (τ := Cert.EvenOutDx.τ) (Cert.EvenOutDx.main (F := Bits))) ⟨m, fun _ => 0, g⟩ (fun r => (∀ c : Dev Cert.EvenOutDx.nD,
      r.2.mem ((c.tc : Thread Cert.EvenOutDx.nD Cert.EvenOutDx.τ).loc Cert.EvenOutDx.main_arg0) = m ((c.tc : Thread Cert.EvenOutDx.nD Cert.EvenOutDx.τ).loc Cert.EvenOutDx.main_arg0)
      ∧ r.2.mem ((c.tc : Thread Cert.EvenOutDx.nD Cert.EvenOutDx.τ).loc Cert.EvenOutDx.main_arg1) = m ((c.tc : Thread Cert.EvenOutDx.nD Cert.EvenOutDx.τ).loc Cert.EvenOutDx.main_arg1))
      ∧ r.2.sem = fun _ => 0)

def quiescent_EvenOutDxIdeal [hEvenOutDxIdeal : Cert.EvenOutDxIdeal.Facts] : Prop :=
  ∀ (m : (ℓ : Loc Cert.EvenOutDxIdeal.nD Cert.EvenOutDxIdeal.τ Cert.EvenOutDxIdeal.sig) → Buf (Elt Ideal) ℓ) (g : Dev Cert.EvenOutDxIdeal.nD → PrngReg), Pre_EvenOutDxIdeal m →
    θ_run (Cert.EvenOutDxIdeal.defs (F := Ideal)) (onTc (τ := Cert.EvenOutDxIdeal.τ) (Cert.EvenOutDxIdeal.main (F := Ideal))) ⟨m, fun _ => 0, g⟩ (fun r => (∀ c : Dev Cert.EvenOutDxIdeal.nD,
      r.2.mem ((c.tc : Thread Cert.EvenOutDxIdeal.nD Cert.EvenOutDxIdeal.τ).loc Cert.EvenOutDxIdeal.main_arg0) = m ((c.tc : Thread Cert.EvenOutDxIdeal.nD Cert.EvenOutDxIdeal.τ).loc Cert.EvenOutDxIdeal.main_arg0)
      ∧ r.2.mem ((c.tc : Thread Cert.EvenOutDxIdeal.nD Cert.EvenOutDxIdeal.τ).loc Cert.EvenOutDxIdeal.main_arg1) = m ((c.tc : Thread Cert.EvenOutDxIdeal.nD Cert.EvenOutDxIdeal.τ).loc Cert.EvenOutDxIdeal.main_arg1))
      ∧ r.2.sem = fun _ => 0)

def quiescent_EvenOutDxRefIdeal [hEvenOutDxRefIdeal : Cert.EvenOutDxRefIdeal.Facts] : Prop :=
  ∀ (m : (ℓ : Loc Cert.EvenOutDxRefIdeal.nD Cert.EvenOutDxRefIdeal.τ Cert.EvenOutDxRefIdeal.sig) → Buf (Elt Ideal) ℓ) (g : Dev Cert.EvenOutDxRefIdeal.nD → PrngReg), Pre_EvenOutDxRefIdeal m →
    θ_run (Cert.EvenOutDxRefIdeal.defs (F := Ideal)) (onTc (τ := Cert.EvenOutDxRefIdeal.τ) (Cert.EvenOutDxRefIdeal.main (F := Ideal))) ⟨m, fun _ => 0, g⟩ (fun r => (∀ c : Dev Cert.EvenOutDxRefIdeal.nD,
      r.2.mem ((c.tc : Thread Cert.EvenOutDxRefIdeal.nD Cert.EvenOutDxRefIdeal.τ).loc Cert.EvenOutDxRefIdeal.main_arg0) = m ((c.tc : Thread Cert.EvenOutDxRefIdeal.nD Cert.EvenOutDxRefIdeal.τ).loc Cert.EvenOutDxRefIdeal.main_arg0)
      ∧ r.2.mem ((c.tc : Thread Cert.EvenOutDxRefIdeal.nD Cert.EvenOutDxRefIdeal.τ).loc Cert.EvenOutDxRefIdeal.main_arg1) = m ((c.tc : Thread Cert.EvenOutDxRefIdeal.nD Cert.EvenOutDxRefIdeal.τ).loc Cert.EvenOutDxRefIdeal.main_arg1))
      ∧ r.2.sem = fun _ => 0)

def quiescent_EvenOutDw [hEvenOutDw : Cert.EvenOutDw.Facts] : Prop :=
  ∀ (m : (ℓ : Loc Cert.EvenOutDw.nD Cert.EvenOutDw.τ Cert.EvenOutDw.sig) → Buf (Elt Bits) ℓ) (g : Dev Cert.EvenOutDw.nD → PrngReg), Pre_EvenOutDw m →
    θ_run (Cert.EvenOutDw.defs (F := Bits)) (onTc (τ := Cert.EvenOutDw.τ) (Cert.EvenOutDw.main (F := Bits))) ⟨m, fun _ => 0, g⟩ (fun r => (∀ c : Dev Cert.EvenOutDw.nD,
      r.2.mem ((c.tc : Thread Cert.EvenOutDw.nD Cert.EvenOutDw.τ).loc Cert.EvenOutDw.main_arg0) = m ((c.tc : Thread Cert.EvenOutDw.nD Cert.EvenOutDw.τ).loc Cert.EvenOutDw.main_arg0)
      ∧ r.2.mem ((c.tc : Thread Cert.EvenOutDw.nD Cert.EvenOutDw.τ).loc Cert.EvenOutDw.main_arg1) = m ((c.tc : Thread Cert.EvenOutDw.nD Cert.EvenOutDw.τ).loc Cert.EvenOutDw.main_arg1))
      ∧ r.2.sem = fun _ => 0)

def quiescent_EvenOutDwIdeal [hEvenOutDwIdeal : Cert.EvenOutDwIdeal.Facts] : Prop :=
  ∀ (m : (ℓ : Loc Cert.EvenOutDwIdeal.nD Cert.EvenOutDwIdeal.τ Cert.EvenOutDwIdeal.sig) → Buf (Elt Ideal) ℓ) (g : Dev Cert.EvenOutDwIdeal.nD → PrngReg), Pre_EvenOutDwIdeal m →
    θ_run (Cert.EvenOutDwIdeal.defs (F := Ideal)) (onTc (τ := Cert.EvenOutDwIdeal.τ) (Cert.EvenOutDwIdeal.main (F := Ideal))) ⟨m, fun _ => 0, g⟩ (fun r => (∀ c : Dev Cert.EvenOutDwIdeal.nD,
      r.2.mem ((c.tc : Thread Cert.EvenOutDwIdeal.nD Cert.EvenOutDwIdeal.τ).loc Cert.EvenOutDwIdeal.main_arg0) = m ((c.tc : Thread Cert.EvenOutDwIdeal.nD Cert.EvenOutDwIdeal.τ).loc Cert.EvenOutDwIdeal.main_arg0)
      ∧ r.2.mem ((c.tc : Thread Cert.EvenOutDwIdeal.nD Cert.EvenOutDwIdeal.τ).loc Cert.EvenOutDwIdeal.main_arg1) = m ((c.tc : Thread Cert.EvenOutDwIdeal.nD Cert.EvenOutDwIdeal.τ).loc Cert.EvenOutDwIdeal.main_arg1))
      ∧ r.2.sem = fun _ => 0)

def quiescent_EvenOutDwRefIdeal [hEvenOutDwRefIdeal : Cert.EvenOutDwRefIdeal.Facts] : Prop :=
  ∀ (m : (ℓ : Loc Cert.EvenOutDwRefIdeal.nD Cert.EvenOutDwRefIdeal.τ Cert.EvenOutDwRefIdeal.sig) → Buf (Elt Ideal) ℓ) (g : Dev Cert.EvenOutDwRefIdeal.nD → PrngReg), Pre_EvenOutDwRefIdeal m →
    θ_run (Cert.EvenOutDwRefIdeal.defs (F := Ideal)) (onTc (τ := Cert.EvenOutDwRefIdeal.τ) (Cert.EvenOutDwRefIdeal.main (F := Ideal))) ⟨m, fun _ => 0, g⟩ (fun r => (∀ c : Dev Cert.EvenOutDwRefIdeal.nD,
      r.2.mem ((c.tc : Thread Cert.EvenOutDwRefIdeal.nD Cert.EvenOutDwRefIdeal.τ).loc Cert.EvenOutDwRefIdeal.main_arg0) = m ((c.tc : Thread Cert.EvenOutDwRefIdeal.nD Cert.EvenOutDwRefIdeal.τ).loc Cert.EvenOutDwRefIdeal.main_arg0)
      ∧ r.2.mem ((c.tc : Thread Cert.EvenOutDwRefIdeal.nD Cert.EvenOutDwRefIdeal.τ).loc Cert.EvenOutDwRefIdeal.main_arg1) = m ((c.tc : Thread Cert.EvenOutDwRefIdeal.nD Cert.EvenOutDwRefIdeal.τ).loc Cert.EvenOutDwRefIdeal.main_arg1))
      ∧ r.2.sem = fun _ => 0)

def quiescent_EvenInDx [hEvenInDx : Cert.EvenInDx.Facts] : Prop :=
  ∀ (m : (ℓ : Loc Cert.EvenInDx.nD Cert.EvenInDx.τ Cert.EvenInDx.sig) → Buf (Elt Bits) ℓ) (g : Dev Cert.EvenInDx.nD → PrngReg), Pre_EvenInDx m →
    θ_run (Cert.EvenInDx.defs (F := Bits)) (onTc (τ := Cert.EvenInDx.τ) (Cert.EvenInDx.main (F := Bits))) ⟨m, fun _ => 0, g⟩ (fun r => (∀ c : Dev Cert.EvenInDx.nD,
      r.2.mem ((c.tc : Thread Cert.EvenInDx.nD Cert.EvenInDx.τ).loc Cert.EvenInDx.main_arg0) = m ((c.tc : Thread Cert.EvenInDx.nD Cert.EvenInDx.τ).loc Cert.EvenInDx.main_arg0)
      ∧ r.2.mem ((c.tc : Thread Cert.EvenInDx.nD Cert.EvenInDx.τ).loc Cert.EvenInDx.main_arg1) = m ((c.tc : Thread Cert.EvenInDx.nD Cert.EvenInDx.τ).loc Cert.EvenInDx.main_arg1))
      ∧ r.2.sem = fun _ => 0)

def quiescent_EvenInDxIdeal [hEvenInDxIdeal : Cert.EvenInDxIdeal.Facts] : Prop :=
  ∀ (m : (ℓ : Loc Cert.EvenInDxIdeal.nD Cert.EvenInDxIdeal.τ Cert.EvenInDxIdeal.sig) → Buf (Elt Ideal) ℓ) (g : Dev Cert.EvenInDxIdeal.nD → PrngReg), Pre_EvenInDxIdeal m →
    θ_run (Cert.EvenInDxIdeal.defs (F := Ideal)) (onTc (τ := Cert.EvenInDxIdeal.τ) (Cert.EvenInDxIdeal.main (F := Ideal))) ⟨m, fun _ => 0, g⟩ (fun r => (∀ c : Dev Cert.EvenInDxIdeal.nD,
      r.2.mem ((c.tc : Thread Cert.EvenInDxIdeal.nD Cert.EvenInDxIdeal.τ).loc Cert.EvenInDxIdeal.main_arg0) = m ((c.tc : Thread Cert.EvenInDxIdeal.nD Cert.EvenInDxIdeal.τ).loc Cert.EvenInDxIdeal.main_arg0)
      ∧ r.2.mem ((c.tc : Thread Cert.EvenInDxIdeal.nD Cert.EvenInDxIdeal.τ).loc Cert.EvenInDxIdeal.main_arg1) = m ((c.tc : Thread Cert.EvenInDxIdeal.nD Cert.EvenInDxIdeal.τ).loc Cert.EvenInDxIdeal.main_arg1))
      ∧ r.2.sem = fun _ => 0)

def quiescent_EvenInDxRefIdeal [hEvenInDxRefIdeal : Cert.EvenInDxRefIdeal.Facts] : Prop :=
  ∀ (m : (ℓ : Loc Cert.EvenInDxRefIdeal.nD Cert.EvenInDxRefIdeal.τ Cert.EvenInDxRefIdeal.sig) → Buf (Elt Ideal) ℓ) (g : Dev Cert.EvenInDxRefIdeal.nD → PrngReg), Pre_EvenInDxRefIdeal m →
    θ_run (Cert.EvenInDxRefIdeal.defs (F := Ideal)) (onTc (τ := Cert.EvenInDxRefIdeal.τ) (Cert.EvenInDxRefIdeal.main (F := Ideal))) ⟨m, fun _ => 0, g⟩ (fun r => (∀ c : Dev Cert.EvenInDxRefIdeal.nD,
      r.2.mem ((c.tc : Thread Cert.EvenInDxRefIdeal.nD Cert.EvenInDxRefIdeal.τ).loc Cert.EvenInDxRefIdeal.main_arg0) = m ((c.tc : Thread Cert.EvenInDxRefIdeal.nD Cert.EvenInDxRefIdeal.τ).loc Cert.EvenInDxRefIdeal.main_arg0)
      ∧ r.2.mem ((c.tc : Thread Cert.EvenInDxRefIdeal.nD Cert.EvenInDxRefIdeal.τ).loc Cert.EvenInDxRefIdeal.main_arg1) = m ((c.tc : Thread Cert.EvenInDxRefIdeal.nD Cert.EvenInDxRefIdeal.τ).loc Cert.EvenInDxRefIdeal.main_arg1))
      ∧ r.2.sem = fun _ => 0)

def quiescent_EvenInDw [hEvenInDw : Cert.EvenInDw.Facts] : Prop :=
  ∀ (m : (ℓ : Loc Cert.EvenInDw.nD Cert.EvenInDw.τ Cert.EvenInDw.sig) → Buf (Elt Bits) ℓ) (g : Dev Cert.EvenInDw.nD → PrngReg), Pre_EvenInDw m →
    θ_run (Cert.EvenInDw.defs (F := Bits)) (onTc (τ := Cert.EvenInDw.τ) (Cert.EvenInDw.main (F := Bits))) ⟨m, fun _ => 0, g⟩ (fun r => (∀ c : Dev Cert.EvenInDw.nD,
      r.2.mem ((c.tc : Thread Cert.EvenInDw.nD Cert.EvenInDw.τ).loc Cert.EvenInDw.main_arg0) = m ((c.tc : Thread Cert.EvenInDw.nD Cert.EvenInDw.τ).loc Cert.EvenInDw.main_arg0)
      ∧ r.2.mem ((c.tc : Thread Cert.EvenInDw.nD Cert.EvenInDw.τ).loc Cert.EvenInDw.main_arg1) = m ((c.tc : Thread Cert.EvenInDw.nD Cert.EvenInDw.τ).loc Cert.EvenInDw.main_arg1))
      ∧ r.2.sem = fun _ => 0)

def quiescent_EvenInDwIdeal [hEvenInDwIdeal : Cert.EvenInDwIdeal.Facts] : Prop :=
  ∀ (m : (ℓ : Loc Cert.EvenInDwIdeal.nD Cert.EvenInDwIdeal.τ Cert.EvenInDwIdeal.sig) → Buf (Elt Ideal) ℓ) (g : Dev Cert.EvenInDwIdeal.nD → PrngReg), Pre_EvenInDwIdeal m →
    θ_run (Cert.EvenInDwIdeal.defs (F := Ideal)) (onTc (τ := Cert.EvenInDwIdeal.τ) (Cert.EvenInDwIdeal.main (F := Ideal))) ⟨m, fun _ => 0, g⟩ (fun r => (∀ c : Dev Cert.EvenInDwIdeal.nD,
      r.2.mem ((c.tc : Thread Cert.EvenInDwIdeal.nD Cert.EvenInDwIdeal.τ).loc Cert.EvenInDwIdeal.main_arg0) = m ((c.tc : Thread Cert.EvenInDwIdeal.nD Cert.EvenInDwIdeal.τ).loc Cert.EvenInDwIdeal.main_arg0)
      ∧ r.2.mem ((c.tc : Thread Cert.EvenInDwIdeal.nD Cert.EvenInDwIdeal.τ).loc Cert.EvenInDwIdeal.main_arg1) = m ((c.tc : Thread Cert.EvenInDwIdeal.nD Cert.EvenInDwIdeal.τ).loc Cert.EvenInDwIdeal.main_arg1))
      ∧ r.2.sem = fun _ => 0)

def quiescent_EvenInDwRefIdeal [hEvenInDwRefIdeal : Cert.EvenInDwRefIdeal.Facts] : Prop :=
  ∀ (m : (ℓ : Loc Cert.EvenInDwRefIdeal.nD Cert.EvenInDwRefIdeal.τ Cert.EvenInDwRefIdeal.sig) → Buf (Elt Ideal) ℓ) (g : Dev Cert.EvenInDwRefIdeal.nD → PrngReg), Pre_EvenInDwRefIdeal m →
    θ_run (Cert.EvenInDwRefIdeal.defs (F := Ideal)) (onTc (τ := Cert.EvenInDwRefIdeal.τ) (Cert.EvenInDwRefIdeal.main (F := Ideal))) ⟨m, fun _ => 0, g⟩ (fun r => (∀ c : Dev Cert.EvenInDwRefIdeal.nD,
      r.2.mem ((c.tc : Thread Cert.EvenInDwRefIdeal.nD Cert.EvenInDwRefIdeal.τ).loc Cert.EvenInDwRefIdeal.main_arg0) = m ((c.tc : Thread Cert.EvenInDwRefIdeal.nD Cert.EvenInDwRefIdeal.τ).loc Cert.EvenInDwRefIdeal.main_arg0)
      ∧ r.2.mem ((c.tc : Thread Cert.EvenInDwRefIdeal.nD Cert.EvenInDwRefIdeal.τ).loc Cert.EvenInDwRefIdeal.main_arg1) = m ((c.tc : Thread Cert.EvenInDwRefIdeal.nD Cert.EvenInDwRefIdeal.τ).loc Cert.EvenInDwRefIdeal.main_arg1))
      ∧ r.2.sem = fun _ => 0)

def quiescent_OddIn [hOddIn : Cert.OddIn.Facts] : Prop :=
  ∀ (m : (ℓ : Loc Cert.OddIn.nD Cert.OddIn.τ Cert.OddIn.sig) → Buf (Elt Bits) ℓ) (g : Dev Cert.OddIn.nD → PrngReg), Pre_OddIn m →
    θ_run (Cert.OddIn.defs (F := Bits)) (onTc (τ := Cert.OddIn.τ) (Cert.OddIn.main (F := Bits))) ⟨m, fun _ => 0, g⟩ (fun r => (∀ c : Dev Cert.OddIn.nD,
      r.2.mem ((c.tc : Thread Cert.OddIn.nD Cert.OddIn.τ).loc Cert.OddIn.main_arg0) = m ((c.tc : Thread Cert.OddIn.nD Cert.OddIn.τ).loc Cert.OddIn.main_arg0)
      ∧ r.2.mem ((c.tc : Thread Cert.OddIn.nD Cert.OddIn.τ).loc Cert.OddIn.main_arg1) = m ((c.tc : Thread Cert.OddIn.nD Cert.OddIn.τ).loc Cert.OddIn.main_arg1))
      ∧ r.2.sem = fun _ => 0)

def quiescent_OddInIdeal [hOddInIdeal : Cert.OddInIdeal.Facts] : Prop :=
  ∀ (m : (ℓ : Loc Cert.OddInIdeal.nD Cert.OddInIdeal.τ Cert.OddInIdeal.sig) → Buf (Elt Ideal) ℓ) (g : Dev Cert.OddInIdeal.nD → PrngReg), Pre_OddInIdeal m →
    θ_run (Cert.OddInIdeal.defs (F := Ideal)) (onTc (τ := Cert.OddInIdeal.τ) (Cert.OddInIdeal.main (F := Ideal))) ⟨m, fun _ => 0, g⟩ (fun r => (∀ c : Dev Cert.OddInIdeal.nD,
      r.2.mem ((c.tc : Thread Cert.OddInIdeal.nD Cert.OddInIdeal.τ).loc Cert.OddInIdeal.main_arg0) = m ((c.tc : Thread Cert.OddInIdeal.nD Cert.OddInIdeal.τ).loc Cert.OddInIdeal.main_arg0)
      ∧ r.2.mem ((c.tc : Thread Cert.OddInIdeal.nD Cert.OddInIdeal.τ).loc Cert.OddInIdeal.main_arg1) = m ((c.tc : Thread Cert.OddInIdeal.nD Cert.OddInIdeal.τ).loc Cert.OddInIdeal.main_arg1))
      ∧ r.2.sem = fun _ => 0)

def quiescent_OddInRefIdeal [hOddInRefIdeal : Cert.OddInRefIdeal.Facts] : Prop :=
  ∀ (m : (ℓ : Loc Cert.OddInRefIdeal.nD Cert.OddInRefIdeal.τ Cert.OddInRefIdeal.sig) → Buf (Elt Ideal) ℓ) (g : Dev Cert.OddInRefIdeal.nD → PrngReg), Pre_OddInRefIdeal m →
    θ_run (Cert.OddInRefIdeal.defs (F := Ideal)) (onTc (τ := Cert.OddInRefIdeal.τ) (Cert.OddInRefIdeal.main (F := Ideal))) ⟨m, fun _ => 0, g⟩ (fun r => (∀ c : Dev Cert.OddInRefIdeal.nD,
      r.2.mem ((c.tc : Thread Cert.OddInRefIdeal.nD Cert.OddInRefIdeal.τ).loc Cert.OddInRefIdeal.main_arg0) = m ((c.tc : Thread Cert.OddInRefIdeal.nD Cert.OddInRefIdeal.τ).loc Cert.OddInRefIdeal.main_arg0)
      ∧ r.2.mem ((c.tc : Thread Cert.OddInRefIdeal.nD Cert.OddInRefIdeal.τ).loc Cert.OddInRefIdeal.main_arg1) = m ((c.tc : Thread Cert.OddInRefIdeal.nD Cert.OddInRefIdeal.τ).loc Cert.OddInRefIdeal.main_arg1))
      ∧ r.2.sem = fun _ => 0)

def quiescent_OddOut [hOddOut : Cert.OddOut.Facts] : Prop :=
  ∀ (m : (ℓ : Loc Cert.OddOut.nD Cert.OddOut.τ Cert.OddOut.sig) → Buf (Elt Bits) ℓ) (g : Dev Cert.OddOut.nD → PrngReg), Pre_OddOut m →
    θ_run (Cert.OddOut.defs (F := Bits)) (onTc (τ := Cert.OddOut.τ) (Cert.OddOut.main (F := Bits))) ⟨m, fun _ => 0, g⟩ (fun r => (∀ c : Dev Cert.OddOut.nD,
      r.2.mem ((c.tc : Thread Cert.OddOut.nD Cert.OddOut.τ).loc Cert.OddOut.main_arg0) = m ((c.tc : Thread Cert.OddOut.nD Cert.OddOut.τ).loc Cert.OddOut.main_arg0)
      ∧ r.2.mem ((c.tc : Thread Cert.OddOut.nD Cert.OddOut.τ).loc Cert.OddOut.main_arg1) = m ((c.tc : Thread Cert.OddOut.nD Cert.OddOut.τ).loc Cert.OddOut.main_arg1)
      ∧ r.2.mem ((c.tc : Thread Cert.OddOut.nD Cert.OddOut.τ).loc Cert.OddOut.main_arg2) = m ((c.tc : Thread Cert.OddOut.nD Cert.OddOut.τ).loc Cert.OddOut.main_arg2))
      ∧ r.2.sem = fun _ => 0)

def quiescent_OddOutIdeal [hOddOutIdeal : Cert.OddOutIdeal.Facts] : Prop :=
  ∀ (m : (ℓ : Loc Cert.OddOutIdeal.nD Cert.OddOutIdeal.τ Cert.OddOutIdeal.sig) → Buf (Elt Ideal) ℓ) (g : Dev Cert.OddOutIdeal.nD → PrngReg), Pre_OddOutIdeal m →
    θ_run (Cert.OddOutIdeal.defs (F := Ideal)) (onTc (τ := Cert.OddOutIdeal.τ) (Cert.OddOutIdeal.main (F := Ideal))) ⟨m, fun _ => 0, g⟩ (fun r => (∀ c : Dev Cert.OddOutIdeal.nD,
      r.2.mem ((c.tc : Thread Cert.OddOutIdeal.nD Cert.OddOutIdeal.τ).loc Cert.OddOutIdeal.main_arg0) = m ((c.tc : Thread Cert.OddOutIdeal.nD Cert.OddOutIdeal.τ).loc Cert.OddOutIdeal.main_arg0)
      ∧ r.2.mem ((c.tc : Thread Cert.OddOutIdeal.nD Cert.OddOutIdeal.τ).loc Cert.OddOutIdeal.main_arg1) = m ((c.tc : Thread Cert.OddOutIdeal.nD Cert.OddOutIdeal.τ).loc Cert.OddOutIdeal.main_arg1)
      ∧ r.2.mem ((c.tc : Thread Cert.OddOutIdeal.nD Cert.OddOutIdeal.τ).loc Cert.OddOutIdeal.main_arg2) = m ((c.tc : Thread Cert.OddOutIdeal.nD Cert.OddOutIdeal.τ).loc Cert.OddOutIdeal.main_arg2))
      ∧ r.2.sem = fun _ => 0)

def quiescent_OddOutRefIdeal [hOddOutRefIdeal : Cert.OddOutRefIdeal.Facts] : Prop :=
  ∀ (m : (ℓ : Loc Cert.OddOutRefIdeal.nD Cert.OddOutRefIdeal.τ Cert.OddOutRefIdeal.sig) → Buf (Elt Ideal) ℓ) (g : Dev Cert.OddOutRefIdeal.nD → PrngReg), Pre_OddOutRefIdeal m →
    θ_run (Cert.OddOutRefIdeal.defs (F := Ideal)) (onTc (τ := Cert.OddOutRefIdeal.τ) (Cert.OddOutRefIdeal.main (F := Ideal))) ⟨m, fun _ => 0, g⟩ (fun r => (∀ c : Dev Cert.OddOutRefIdeal.nD,
      r.2.mem ((c.tc : Thread Cert.OddOutRefIdeal.nD Cert.OddOutRefIdeal.τ).loc Cert.OddOutRefIdeal.main_arg0) = m ((c.tc : Thread Cert.OddOutRefIdeal.nD Cert.OddOutRefIdeal.τ).loc Cert.OddOutRefIdeal.main_arg0)
      ∧ r.2.mem ((c.tc : Thread Cert.OddOutRefIdeal.nD Cert.OddOutRefIdeal.τ).loc Cert.OddOutRefIdeal.main_arg1) = m ((c.tc : Thread Cert.OddOutRefIdeal.nD Cert.OddOutRefIdeal.τ).loc Cert.OddOutRefIdeal.main_arg1)
      ∧ r.2.mem ((c.tc : Thread Cert.OddOutRefIdeal.nD Cert.OddOutRefIdeal.τ).loc Cert.OddOutRefIdeal.main_arg2) = m ((c.tc : Thread Cert.OddOutRefIdeal.nD Cert.OddOutRefIdeal.τ).loc Cert.OddOutRefIdeal.main_arg2))
      ∧ r.2.sem = fun _ => 0)

def quiescent_OddOutDx [hOddOutDx : Cert.OddOutDx.Facts] : Prop :=
  ∀ (m : (ℓ : Loc Cert.OddOutDx.nD Cert.OddOutDx.τ Cert.OddOutDx.sig) → Buf (Elt Bits) ℓ) (g : Dev Cert.OddOutDx.nD → PrngReg), Pre_OddOutDx m →
    θ_run (Cert.OddOutDx.defs (F := Bits)) (onTc (τ := Cert.OddOutDx.τ) (Cert.OddOutDx.main (F := Bits))) ⟨m, fun _ => 0, g⟩ (fun r => (∀ c : Dev Cert.OddOutDx.nD,
      r.2.mem ((c.tc : Thread Cert.OddOutDx.nD Cert.OddOutDx.τ).loc Cert.OddOutDx.main_arg0) = m ((c.tc : Thread Cert.OddOutDx.nD Cert.OddOutDx.τ).loc Cert.OddOutDx.main_arg0)
      ∧ r.2.mem ((c.tc : Thread Cert.OddOutDx.nD Cert.OddOutDx.τ).loc Cert.OddOutDx.main_arg1) = m ((c.tc : Thread Cert.OddOutDx.nD Cert.OddOutDx.τ).loc Cert.OddOutDx.main_arg1))
      ∧ r.2.sem = fun _ => 0)

def quiescent_OddOutDxIdeal [hOddOutDxIdeal : Cert.OddOutDxIdeal.Facts] : Prop :=
  ∀ (m : (ℓ : Loc Cert.OddOutDxIdeal.nD Cert.OddOutDxIdeal.τ Cert.OddOutDxIdeal.sig) → Buf (Elt Ideal) ℓ) (g : Dev Cert.OddOutDxIdeal.nD → PrngReg), Pre_OddOutDxIdeal m →
    θ_run (Cert.OddOutDxIdeal.defs (F := Ideal)) (onTc (τ := Cert.OddOutDxIdeal.τ) (Cert.OddOutDxIdeal.main (F := Ideal))) ⟨m, fun _ => 0, g⟩ (fun r => (∀ c : Dev Cert.OddOutDxIdeal.nD,
      r.2.mem ((c.tc : Thread Cert.OddOutDxIdeal.nD Cert.OddOutDxIdeal.τ).loc Cert.OddOutDxIdeal.main_arg0) = m ((c.tc : Thread Cert.OddOutDxIdeal.nD Cert.OddOutDxIdeal.τ).loc Cert.OddOutDxIdeal.main_arg0)
      ∧ r.2.mem ((c.tc : Thread Cert.OddOutDxIdeal.nD Cert.OddOutDxIdeal.τ).loc Cert.OddOutDxIdeal.main_arg1) = m ((c.tc : Thread Cert.OddOutDxIdeal.nD Cert.OddOutDxIdeal.τ).loc Cert.OddOutDxIdeal.main_arg1))
      ∧ r.2.sem = fun _ => 0)

def quiescent_OddOutDxRefIdeal [hOddOutDxRefIdeal : Cert.OddOutDxRefIdeal.Facts] : Prop :=
  ∀ (m : (ℓ : Loc Cert.OddOutDxRefIdeal.nD Cert.OddOutDxRefIdeal.τ Cert.OddOutDxRefIdeal.sig) → Buf (Elt Ideal) ℓ) (g : Dev Cert.OddOutDxRefIdeal.nD → PrngReg), Pre_OddOutDxRefIdeal m →
    θ_run (Cert.OddOutDxRefIdeal.defs (F := Ideal)) (onTc (τ := Cert.OddOutDxRefIdeal.τ) (Cert.OddOutDxRefIdeal.main (F := Ideal))) ⟨m, fun _ => 0, g⟩ (fun r => (∀ c : Dev Cert.OddOutDxRefIdeal.nD,
      r.2.mem ((c.tc : Thread Cert.OddOutDxRefIdeal.nD Cert.OddOutDxRefIdeal.τ).loc Cert.OddOutDxRefIdeal.main_arg0) = m ((c.tc : Thread Cert.OddOutDxRefIdeal.nD Cert.OddOutDxRefIdeal.τ).loc Cert.OddOutDxRefIdeal.main_arg0)
      ∧ r.2.mem ((c.tc : Thread Cert.OddOutDxRefIdeal.nD Cert.OddOutDxRefIdeal.τ).loc Cert.OddOutDxRefIdeal.main_arg1) = m ((c.tc : Thread Cert.OddOutDxRefIdeal.nD Cert.OddOutDxRefIdeal.τ).loc Cert.OddOutDxRefIdeal.main_arg1))
      ∧ r.2.sem = fun _ => 0)

def quiescent_OddOutDw [hOddOutDw : Cert.OddOutDw.Facts] : Prop :=
  ∀ (m : (ℓ : Loc Cert.OddOutDw.nD Cert.OddOutDw.τ Cert.OddOutDw.sig) → Buf (Elt Bits) ℓ) (g : Dev Cert.OddOutDw.nD → PrngReg), Pre_OddOutDw m →
    θ_run (Cert.OddOutDw.defs (F := Bits)) (onTc (τ := Cert.OddOutDw.τ) (Cert.OddOutDw.main (F := Bits))) ⟨m, fun _ => 0, g⟩ (fun r => (∀ c : Dev Cert.OddOutDw.nD,
      r.2.mem ((c.tc : Thread Cert.OddOutDw.nD Cert.OddOutDw.τ).loc Cert.OddOutDw.main_arg0) = m ((c.tc : Thread Cert.OddOutDw.nD Cert.OddOutDw.τ).loc Cert.OddOutDw.main_arg0)
      ∧ r.2.mem ((c.tc : Thread Cert.OddOutDw.nD Cert.OddOutDw.τ).loc Cert.OddOutDw.main_arg1) = m ((c.tc : Thread Cert.OddOutDw.nD Cert.OddOutDw.τ).loc Cert.OddOutDw.main_arg1))
      ∧ r.2.sem = fun _ => 0)

def quiescent_OddOutDwIdeal [hOddOutDwIdeal : Cert.OddOutDwIdeal.Facts] : Prop :=
  ∀ (m : (ℓ : Loc Cert.OddOutDwIdeal.nD Cert.OddOutDwIdeal.τ Cert.OddOutDwIdeal.sig) → Buf (Elt Ideal) ℓ) (g : Dev Cert.OddOutDwIdeal.nD → PrngReg), Pre_OddOutDwIdeal m →
    θ_run (Cert.OddOutDwIdeal.defs (F := Ideal)) (onTc (τ := Cert.OddOutDwIdeal.τ) (Cert.OddOutDwIdeal.main (F := Ideal))) ⟨m, fun _ => 0, g⟩ (fun r => (∀ c : Dev Cert.OddOutDwIdeal.nD,
      r.2.mem ((c.tc : Thread Cert.OddOutDwIdeal.nD Cert.OddOutDwIdeal.τ).loc Cert.OddOutDwIdeal.main_arg0) = m ((c.tc : Thread Cert.OddOutDwIdeal.nD Cert.OddOutDwIdeal.τ).loc Cert.OddOutDwIdeal.main_arg0)
      ∧ r.2.mem ((c.tc : Thread Cert.OddOutDwIdeal.nD Cert.OddOutDwIdeal.τ).loc Cert.OddOutDwIdeal.main_arg1) = m ((c.tc : Thread Cert.OddOutDwIdeal.nD Cert.OddOutDwIdeal.τ).loc Cert.OddOutDwIdeal.main_arg1))
      ∧ r.2.sem = fun _ => 0)

def quiescent_OddOutDwRefIdeal [hOddOutDwRefIdeal : Cert.OddOutDwRefIdeal.Facts] : Prop :=
  ∀ (m : (ℓ : Loc Cert.OddOutDwRefIdeal.nD Cert.OddOutDwRefIdeal.τ Cert.OddOutDwRefIdeal.sig) → Buf (Elt Ideal) ℓ) (g : Dev Cert.OddOutDwRefIdeal.nD → PrngReg), Pre_OddOutDwRefIdeal m →
    θ_run (Cert.OddOutDwRefIdeal.defs (F := Ideal)) (onTc (τ := Cert.OddOutDwRefIdeal.τ) (Cert.OddOutDwRefIdeal.main (F := Ideal))) ⟨m, fun _ => 0, g⟩ (fun r => (∀ c : Dev Cert.OddOutDwRefIdeal.nD,
      r.2.mem ((c.tc : Thread Cert.OddOutDwRefIdeal.nD Cert.OddOutDwRefIdeal.τ).loc Cert.OddOutDwRefIdeal.main_arg0) = m ((c.tc : Thread Cert.OddOutDwRefIdeal.nD Cert.OddOutDwRefIdeal.τ).loc Cert.OddOutDwRefIdeal.main_arg0)
      ∧ r.2.mem ((c.tc : Thread Cert.OddOutDwRefIdeal.nD Cert.OddOutDwRefIdeal.τ).loc Cert.OddOutDwRefIdeal.main_arg1) = m ((c.tc : Thread Cert.OddOutDwRefIdeal.nD Cert.OddOutDwRefIdeal.τ).loc Cert.OddOutDwRefIdeal.main_arg1))
      ∧ r.2.sem = fun _ => 0)

def quiescent_OddInDx [hOddInDx : Cert.OddInDx.Facts] : Prop :=
  ∀ (m : (ℓ : Loc Cert.OddInDx.nD Cert.OddInDx.τ Cert.OddInDx.sig) → Buf (Elt Bits) ℓ) (g : Dev Cert.OddInDx.nD → PrngReg), Pre_OddInDx m →
    θ_run (Cert.OddInDx.defs (F := Bits)) (onTc (τ := Cert.OddInDx.τ) (Cert.OddInDx.main (F := Bits))) ⟨m, fun _ => 0, g⟩ (fun r => (∀ c : Dev Cert.OddInDx.nD,
      r.2.mem ((c.tc : Thread Cert.OddInDx.nD Cert.OddInDx.τ).loc Cert.OddInDx.main_arg0) = m ((c.tc : Thread Cert.OddInDx.nD Cert.OddInDx.τ).loc Cert.OddInDx.main_arg0)
      ∧ r.2.mem ((c.tc : Thread Cert.OddInDx.nD Cert.OddInDx.τ).loc Cert.OddInDx.main_arg1) = m ((c.tc : Thread Cert.OddInDx.nD Cert.OddInDx.τ).loc Cert.OddInDx.main_arg1))
      ∧ r.2.sem = fun _ => 0)

def quiescent_OddInDxIdeal [hOddInDxIdeal : Cert.OddInDxIdeal.Facts] : Prop :=
  ∀ (m : (ℓ : Loc Cert.OddInDxIdeal.nD Cert.OddInDxIdeal.τ Cert.OddInDxIdeal.sig) → Buf (Elt Ideal) ℓ) (g : Dev Cert.OddInDxIdeal.nD → PrngReg), Pre_OddInDxIdeal m →
    θ_run (Cert.OddInDxIdeal.defs (F := Ideal)) (onTc (τ := Cert.OddInDxIdeal.τ) (Cert.OddInDxIdeal.main (F := Ideal))) ⟨m, fun _ => 0, g⟩ (fun r => (∀ c : Dev Cert.OddInDxIdeal.nD,
      r.2.mem ((c.tc : Thread Cert.OddInDxIdeal.nD Cert.OddInDxIdeal.τ).loc Cert.OddInDxIdeal.main_arg0) = m ((c.tc : Thread Cert.OddInDxIdeal.nD Cert.OddInDxIdeal.τ).loc Cert.OddInDxIdeal.main_arg0)
      ∧ r.2.mem ((c.tc : Thread Cert.OddInDxIdeal.nD Cert.OddInDxIdeal.τ).loc Cert.OddInDxIdeal.main_arg1) = m ((c.tc : Thread Cert.OddInDxIdeal.nD Cert.OddInDxIdeal.τ).loc Cert.OddInDxIdeal.main_arg1))
      ∧ r.2.sem = fun _ => 0)

def quiescent_OddInDxRefIdeal [hOddInDxRefIdeal : Cert.OddInDxRefIdeal.Facts] : Prop :=
  ∀ (m : (ℓ : Loc Cert.OddInDxRefIdeal.nD Cert.OddInDxRefIdeal.τ Cert.OddInDxRefIdeal.sig) → Buf (Elt Ideal) ℓ) (g : Dev Cert.OddInDxRefIdeal.nD → PrngReg), Pre_OddInDxRefIdeal m →
    θ_run (Cert.OddInDxRefIdeal.defs (F := Ideal)) (onTc (τ := Cert.OddInDxRefIdeal.τ) (Cert.OddInDxRefIdeal.main (F := Ideal))) ⟨m, fun _ => 0, g⟩ (fun r => (∀ c : Dev Cert.OddInDxRefIdeal.nD,
      r.2.mem ((c.tc : Thread Cert.OddInDxRefIdeal.nD Cert.OddInDxRefIdeal.τ).loc Cert.OddInDxRefIdeal.main_arg0) = m ((c.tc : Thread Cert.OddInDxRefIdeal.nD Cert.OddInDxRefIdeal.τ).loc Cert.OddInDxRefIdeal.main_arg0)
      ∧ r.2.mem ((c.tc : Thread Cert.OddInDxRefIdeal.nD Cert.OddInDxRefIdeal.τ).loc Cert.OddInDxRefIdeal.main_arg1) = m ((c.tc : Thread Cert.OddInDxRefIdeal.nD Cert.OddInDxRefIdeal.τ).loc Cert.OddInDxRefIdeal.main_arg1))
      ∧ r.2.sem = fun _ => 0)

def quiescent_OddInDw [hOddInDw : Cert.OddInDw.Facts] : Prop :=
  ∀ (m : (ℓ : Loc Cert.OddInDw.nD Cert.OddInDw.τ Cert.OddInDw.sig) → Buf (Elt Bits) ℓ) (g : Dev Cert.OddInDw.nD → PrngReg), Pre_OddInDw m →
    θ_run (Cert.OddInDw.defs (F := Bits)) (onTc (τ := Cert.OddInDw.τ) (Cert.OddInDw.main (F := Bits))) ⟨m, fun _ => 0, g⟩ (fun r => (∀ c : Dev Cert.OddInDw.nD,
      r.2.mem ((c.tc : Thread Cert.OddInDw.nD Cert.OddInDw.τ).loc Cert.OddInDw.main_arg0) = m ((c.tc : Thread Cert.OddInDw.nD Cert.OddInDw.τ).loc Cert.OddInDw.main_arg0)
      ∧ r.2.mem ((c.tc : Thread Cert.OddInDw.nD Cert.OddInDw.τ).loc Cert.OddInDw.main_arg1) = m ((c.tc : Thread Cert.OddInDw.nD Cert.OddInDw.τ).loc Cert.OddInDw.main_arg1))
      ∧ r.2.sem = fun _ => 0)

def quiescent_OddInDwIdeal [hOddInDwIdeal : Cert.OddInDwIdeal.Facts] : Prop :=
  ∀ (m : (ℓ : Loc Cert.OddInDwIdeal.nD Cert.OddInDwIdeal.τ Cert.OddInDwIdeal.sig) → Buf (Elt Ideal) ℓ) (g : Dev Cert.OddInDwIdeal.nD → PrngReg), Pre_OddInDwIdeal m →
    θ_run (Cert.OddInDwIdeal.defs (F := Ideal)) (onTc (τ := Cert.OddInDwIdeal.τ) (Cert.OddInDwIdeal.main (F := Ideal))) ⟨m, fun _ => 0, g⟩ (fun r => (∀ c : Dev Cert.OddInDwIdeal.nD,
      r.2.mem ((c.tc : Thread Cert.OddInDwIdeal.nD Cert.OddInDwIdeal.τ).loc Cert.OddInDwIdeal.main_arg0) = m ((c.tc : Thread Cert.OddInDwIdeal.nD Cert.OddInDwIdeal.τ).loc Cert.OddInDwIdeal.main_arg0)
      ∧ r.2.mem ((c.tc : Thread Cert.OddInDwIdeal.nD Cert.OddInDwIdeal.τ).loc Cert.OddInDwIdeal.main_arg1) = m ((c.tc : Thread Cert.OddInDwIdeal.nD Cert.OddInDwIdeal.τ).loc Cert.OddInDwIdeal.main_arg1))
      ∧ r.2.sem = fun _ => 0)

def quiescent_OddInDwRefIdeal [hOddInDwRefIdeal : Cert.OddInDwRefIdeal.Facts] : Prop :=
  ∀ (m : (ℓ : Loc Cert.OddInDwRefIdeal.nD Cert.OddInDwRefIdeal.τ Cert.OddInDwRefIdeal.sig) → Buf (Elt Ideal) ℓ) (g : Dev Cert.OddInDwRefIdeal.nD → PrngReg), Pre_OddInDwRefIdeal m →
    θ_run (Cert.OddInDwRefIdeal.defs (F := Ideal)) (onTc (τ := Cert.OddInDwRefIdeal.τ) (Cert.OddInDwRefIdeal.main (F := Ideal))) ⟨m, fun _ => 0, g⟩ (fun r => (∀ c : Dev Cert.OddInDwRefIdeal.nD,
      r.2.mem ((c.tc : Thread Cert.OddInDwRefIdeal.nD Cert.OddInDwRefIdeal.τ).loc Cert.OddInDwRefIdeal.main_arg0) = m ((c.tc : Thread Cert.OddInDwRefIdeal.nD Cert.OddInDwRefIdeal.τ).loc Cert.OddInDwRefIdeal.main_arg0)
      ∧ r.2.mem ((c.tc : Thread Cert.OddInDwRefIdeal.nD Cert.OddInDwRefIdeal.τ).loc Cert.OddInDwRefIdeal.main_arg1) = m ((c.tc : Thread Cert.OddInDwRefIdeal.nD Cert.OddInDwRefIdeal.τ).loc Cert.OddInDwRefIdeal.main_arg1))
      ∧ r.2.sem = fun _ => 0)

def quiescent_MlaUq [hMlaUq : Cert.MlaUq.Facts] : Prop :=
  ∀ (m : (ℓ : Loc Cert.MlaUq.nD Cert.MlaUq.τ Cert.MlaUq.sig) → Buf (Elt Bits) ℓ) (g : Dev Cert.MlaUq.nD → PrngReg), Pre_MlaUq m →
    θ_run (Cert.MlaUq.defs (F := Bits)) (onTc (τ := Cert.MlaUq.τ) (Cert.MlaUq.main (F := Bits))) ⟨m, fun _ => 0, g⟩ (fun r => (∀ c : Dev Cert.MlaUq.nD,
      r.2.mem ((c.tc : Thread Cert.MlaUq.nD Cert.MlaUq.τ).loc Cert.MlaUq.main_arg0) = m ((c.tc : Thread Cert.MlaUq.nD Cert.MlaUq.τ).loc Cert.MlaUq.main_arg0)
      ∧ r.2.mem ((c.tc : Thread Cert.MlaUq.nD Cert.MlaUq.τ).loc Cert.MlaUq.main_arg1) = m ((c.tc : Thread Cert.MlaUq.nD Cert.MlaUq.τ).loc Cert.MlaUq.main_arg1))
      ∧ r.2.sem = fun _ => 0)

def quiescent_MlaUqIdeal [hMlaUqIdeal : Cert.MlaUqIdeal.Facts] : Prop :=
  ∀ (m : (ℓ : Loc Cert.MlaUqIdeal.nD Cert.MlaUqIdeal.τ Cert.MlaUqIdeal.sig) → Buf (Elt Ideal) ℓ) (g : Dev Cert.MlaUqIdeal.nD → PrngReg), Pre_MlaUqIdeal m →
    θ_run (Cert.MlaUqIdeal.defs (F := Ideal)) (onTc (τ := Cert.MlaUqIdeal.τ) (Cert.MlaUqIdeal.main (F := Ideal))) ⟨m, fun _ => 0, g⟩ (fun r => (∀ c : Dev Cert.MlaUqIdeal.nD,
      r.2.mem ((c.tc : Thread Cert.MlaUqIdeal.nD Cert.MlaUqIdeal.τ).loc Cert.MlaUqIdeal.main_arg0) = m ((c.tc : Thread Cert.MlaUqIdeal.nD Cert.MlaUqIdeal.τ).loc Cert.MlaUqIdeal.main_arg0)
      ∧ r.2.mem ((c.tc : Thread Cert.MlaUqIdeal.nD Cert.MlaUqIdeal.τ).loc Cert.MlaUqIdeal.main_arg1) = m ((c.tc : Thread Cert.MlaUqIdeal.nD Cert.MlaUqIdeal.τ).loc Cert.MlaUqIdeal.main_arg1))
      ∧ r.2.sem = fun _ => 0)

def quiescent_MlaUqRefIdeal [hMlaUqRefIdeal : Cert.MlaUqRefIdeal.Facts] : Prop :=
  ∀ (m : (ℓ : Loc Cert.MlaUqRefIdeal.nD Cert.MlaUqRefIdeal.τ Cert.MlaUqRefIdeal.sig) → Buf (Elt Ideal) ℓ) (g : Dev Cert.MlaUqRefIdeal.nD → PrngReg), Pre_MlaUqRefIdeal m →
    θ_run (Cert.MlaUqRefIdeal.defs (F := Ideal)) (onTc (τ := Cert.MlaUqRefIdeal.τ) (Cert.MlaUqRefIdeal.main (F := Ideal))) ⟨m, fun _ => 0, g⟩ (fun r => (∀ c : Dev Cert.MlaUqRefIdeal.nD,
      r.2.mem ((c.tc : Thread Cert.MlaUqRefIdeal.nD Cert.MlaUqRefIdeal.τ).loc Cert.MlaUqRefIdeal.main_arg0) = m ((c.tc : Thread Cert.MlaUqRefIdeal.nD Cert.MlaUqRefIdeal.τ).loc Cert.MlaUqRefIdeal.main_arg0)
      ∧ r.2.mem ((c.tc : Thread Cert.MlaUqRefIdeal.nD Cert.MlaUqRefIdeal.τ).loc Cert.MlaUqRefIdeal.main_arg1) = m ((c.tc : Thread Cert.MlaUqRefIdeal.nD Cert.MlaUqRefIdeal.τ).loc Cert.MlaUqRefIdeal.main_arg1))
      ∧ r.2.sem = fun _ => 0)

def quiescent_MlaUkv [hMlaUkv : Cert.MlaUkv.Facts] : Prop :=
  ∀ (m : (ℓ : Loc Cert.MlaUkv.nD Cert.MlaUkv.τ Cert.MlaUkv.sig) → Buf (Elt Bits) ℓ) (g : Dev Cert.MlaUkv.nD → PrngReg), Pre_MlaUkv m →
    θ_run (Cert.MlaUkv.defs (F := Bits)) (onTc (τ := Cert.MlaUkv.τ) (Cert.MlaUkv.main (F := Bits))) ⟨m, fun _ => 0, g⟩ (fun r => (∀ c : Dev Cert.MlaUkv.nD,
      r.2.mem ((c.tc : Thread Cert.MlaUkv.nD Cert.MlaUkv.τ).loc Cert.MlaUkv.main_arg0) = m ((c.tc : Thread Cert.MlaUkv.nD Cert.MlaUkv.τ).loc Cert.MlaUkv.main_arg0)
      ∧ r.2.mem ((c.tc : Thread Cert.MlaUkv.nD Cert.MlaUkv.τ).loc Cert.MlaUkv.main_arg1) = m ((c.tc : Thread Cert.MlaUkv.nD Cert.MlaUkv.τ).loc Cert.MlaUkv.main_arg1))
      ∧ r.2.sem = fun _ => 0)

def quiescent_MlaUkvIdeal [hMlaUkvIdeal : Cert.MlaUkvIdeal.Facts] : Prop :=
  ∀ (m : (ℓ : Loc Cert.MlaUkvIdeal.nD Cert.MlaUkvIdeal.τ Cert.MlaUkvIdeal.sig) → Buf (Elt Ideal) ℓ) (g : Dev Cert.MlaUkvIdeal.nD → PrngReg), Pre_MlaUkvIdeal m →
    θ_run (Cert.MlaUkvIdeal.defs (F := Ideal)) (onTc (τ := Cert.MlaUkvIdeal.τ) (Cert.MlaUkvIdeal.main (F := Ideal))) ⟨m, fun _ => 0, g⟩ (fun r => (∀ c : Dev Cert.MlaUkvIdeal.nD,
      r.2.mem ((c.tc : Thread Cert.MlaUkvIdeal.nD Cert.MlaUkvIdeal.τ).loc Cert.MlaUkvIdeal.main_arg0) = m ((c.tc : Thread Cert.MlaUkvIdeal.nD Cert.MlaUkvIdeal.τ).loc Cert.MlaUkvIdeal.main_arg0)
      ∧ r.2.mem ((c.tc : Thread Cert.MlaUkvIdeal.nD Cert.MlaUkvIdeal.τ).loc Cert.MlaUkvIdeal.main_arg1) = m ((c.tc : Thread Cert.MlaUkvIdeal.nD Cert.MlaUkvIdeal.τ).loc Cert.MlaUkvIdeal.main_arg1))
      ∧ r.2.sem = fun _ => 0)

def quiescent_MlaUkvRefIdeal [hMlaUkvRefIdeal : Cert.MlaUkvRefIdeal.Facts] : Prop :=
  ∀ (m : (ℓ : Loc Cert.MlaUkvRefIdeal.nD Cert.MlaUkvRefIdeal.τ Cert.MlaUkvRefIdeal.sig) → Buf (Elt Ideal) ℓ) (g : Dev Cert.MlaUkvRefIdeal.nD → PrngReg), Pre_MlaUkvRefIdeal m →
    θ_run (Cert.MlaUkvRefIdeal.defs (F := Ideal)) (onTc (τ := Cert.MlaUkvRefIdeal.τ) (Cert.MlaUkvRefIdeal.main (F := Ideal))) ⟨m, fun _ => 0, g⟩ (fun r => (∀ c : Dev Cert.MlaUkvRefIdeal.nD,
      r.2.mem ((c.tc : Thread Cert.MlaUkvRefIdeal.nD Cert.MlaUkvRefIdeal.τ).loc Cert.MlaUkvRefIdeal.main_arg0) = m ((c.tc : Thread Cert.MlaUkvRefIdeal.nD Cert.MlaUkvRefIdeal.τ).loc Cert.MlaUkvRefIdeal.main_arg0)
      ∧ r.2.mem ((c.tc : Thread Cert.MlaUkvRefIdeal.nD Cert.MlaUkvRefIdeal.τ).loc Cert.MlaUkvRefIdeal.main_arg1) = m ((c.tc : Thread Cert.MlaUkvRefIdeal.nD Cert.MlaUkvRefIdeal.τ).loc Cert.MlaUkvRefIdeal.main_arg1))
      ∧ r.2.sem = fun _ => 0)

def quiescent_MlaUqDx [hMlaUqDx : Cert.MlaUqDx.Facts] : Prop :=
  ∀ (m : (ℓ : Loc Cert.MlaUqDx.nD Cert.MlaUqDx.τ Cert.MlaUqDx.sig) → Buf (Elt Bits) ℓ) (g : Dev Cert.MlaUqDx.nD → PrngReg), Pre_MlaUqDx m →
    θ_run (Cert.MlaUqDx.defs (F := Bits)) (onTc (τ := Cert.MlaUqDx.τ) (Cert.MlaUqDx.main (F := Bits))) ⟨m, fun _ => 0, g⟩ (fun r => (∀ c : Dev Cert.MlaUqDx.nD,
      r.2.mem ((c.tc : Thread Cert.MlaUqDx.nD Cert.MlaUqDx.τ).loc Cert.MlaUqDx.main_arg0) = m ((c.tc : Thread Cert.MlaUqDx.nD Cert.MlaUqDx.τ).loc Cert.MlaUqDx.main_arg0)
      ∧ r.2.mem ((c.tc : Thread Cert.MlaUqDx.nD Cert.MlaUqDx.τ).loc Cert.MlaUqDx.main_arg1) = m ((c.tc : Thread Cert.MlaUqDx.nD Cert.MlaUqDx.τ).loc Cert.MlaUqDx.main_arg1))
      ∧ r.2.sem = fun _ => 0)

def quiescent_MlaUqDxIdeal [hMlaUqDxIdeal : Cert.MlaUqDxIdeal.Facts] : Prop :=
  ∀ (m : (ℓ : Loc Cert.MlaUqDxIdeal.nD Cert.MlaUqDxIdeal.τ Cert.MlaUqDxIdeal.sig) → Buf (Elt Ideal) ℓ) (g : Dev Cert.MlaUqDxIdeal.nD → PrngReg), Pre_MlaUqDxIdeal m →
    θ_run (Cert.MlaUqDxIdeal.defs (F := Ideal)) (onTc (τ := Cert.MlaUqDxIdeal.τ) (Cert.MlaUqDxIdeal.main (F := Ideal))) ⟨m, fun _ => 0, g⟩ (fun r => (∀ c : Dev Cert.MlaUqDxIdeal.nD,
      r.2.mem ((c.tc : Thread Cert.MlaUqDxIdeal.nD Cert.MlaUqDxIdeal.τ).loc Cert.MlaUqDxIdeal.main_arg0) = m ((c.tc : Thread Cert.MlaUqDxIdeal.nD Cert.MlaUqDxIdeal.τ).loc Cert.MlaUqDxIdeal.main_arg0)
      ∧ r.2.mem ((c.tc : Thread Cert.MlaUqDxIdeal.nD Cert.MlaUqDxIdeal.τ).loc Cert.MlaUqDxIdeal.main_arg1) = m ((c.tc : Thread Cert.MlaUqDxIdeal.nD Cert.MlaUqDxIdeal.τ).loc Cert.MlaUqDxIdeal.main_arg1))
      ∧ r.2.sem = fun _ => 0)

def quiescent_MlaUqDxRefIdeal [hMlaUqDxRefIdeal : Cert.MlaUqDxRefIdeal.Facts] : Prop :=
  ∀ (m : (ℓ : Loc Cert.MlaUqDxRefIdeal.nD Cert.MlaUqDxRefIdeal.τ Cert.MlaUqDxRefIdeal.sig) → Buf (Elt Ideal) ℓ) (g : Dev Cert.MlaUqDxRefIdeal.nD → PrngReg), Pre_MlaUqDxRefIdeal m →
    θ_run (Cert.MlaUqDxRefIdeal.defs (F := Ideal)) (onTc (τ := Cert.MlaUqDxRefIdeal.τ) (Cert.MlaUqDxRefIdeal.main (F := Ideal))) ⟨m, fun _ => 0, g⟩ (fun r => (∀ c : Dev Cert.MlaUqDxRefIdeal.nD,
      r.2.mem ((c.tc : Thread Cert.MlaUqDxRefIdeal.nD Cert.MlaUqDxRefIdeal.τ).loc Cert.MlaUqDxRefIdeal.main_arg0) = m ((c.tc : Thread Cert.MlaUqDxRefIdeal.nD Cert.MlaUqDxRefIdeal.τ).loc Cert.MlaUqDxRefIdeal.main_arg0)
      ∧ r.2.mem ((c.tc : Thread Cert.MlaUqDxRefIdeal.nD Cert.MlaUqDxRefIdeal.τ).loc Cert.MlaUqDxRefIdeal.main_arg1) = m ((c.tc : Thread Cert.MlaUqDxRefIdeal.nD Cert.MlaUqDxRefIdeal.τ).loc Cert.MlaUqDxRefIdeal.main_arg1))
      ∧ r.2.sem = fun _ => 0)

def quiescent_MlaUqDw [hMlaUqDw : Cert.MlaUqDw.Facts] : Prop :=
  ∀ (m : (ℓ : Loc Cert.MlaUqDw.nD Cert.MlaUqDw.τ Cert.MlaUqDw.sig) → Buf (Elt Bits) ℓ) (g : Dev Cert.MlaUqDw.nD → PrngReg), Pre_MlaUqDw m →
    θ_run (Cert.MlaUqDw.defs (F := Bits)) (onTc (τ := Cert.MlaUqDw.τ) (Cert.MlaUqDw.main (F := Bits))) ⟨m, fun _ => 0, g⟩ (fun r => (∀ c : Dev Cert.MlaUqDw.nD,
      r.2.mem ((c.tc : Thread Cert.MlaUqDw.nD Cert.MlaUqDw.τ).loc Cert.MlaUqDw.main_arg0) = m ((c.tc : Thread Cert.MlaUqDw.nD Cert.MlaUqDw.τ).loc Cert.MlaUqDw.main_arg0)
      ∧ r.2.mem ((c.tc : Thread Cert.MlaUqDw.nD Cert.MlaUqDw.τ).loc Cert.MlaUqDw.main_arg1) = m ((c.tc : Thread Cert.MlaUqDw.nD Cert.MlaUqDw.τ).loc Cert.MlaUqDw.main_arg1))
      ∧ r.2.sem = fun _ => 0)

def quiescent_MlaUqDwIdeal [hMlaUqDwIdeal : Cert.MlaUqDwIdeal.Facts] : Prop :=
  ∀ (m : (ℓ : Loc Cert.MlaUqDwIdeal.nD Cert.MlaUqDwIdeal.τ Cert.MlaUqDwIdeal.sig) → Buf (Elt Ideal) ℓ) (g : Dev Cert.MlaUqDwIdeal.nD → PrngReg), Pre_MlaUqDwIdeal m →
    θ_run (Cert.MlaUqDwIdeal.defs (F := Ideal)) (onTc (τ := Cert.MlaUqDwIdeal.τ) (Cert.MlaUqDwIdeal.main (F := Ideal))) ⟨m, fun _ => 0, g⟩ (fun r => (∀ c : Dev Cert.MlaUqDwIdeal.nD,
      r.2.mem ((c.tc : Thread Cert.MlaUqDwIdeal.nD Cert.MlaUqDwIdeal.τ).loc Cert.MlaUqDwIdeal.main_arg0) = m ((c.tc : Thread Cert.MlaUqDwIdeal.nD Cert.MlaUqDwIdeal.τ).loc Cert.MlaUqDwIdeal.main_arg0)
      ∧ r.2.mem ((c.tc : Thread Cert.MlaUqDwIdeal.nD Cert.MlaUqDwIdeal.τ).loc Cert.MlaUqDwIdeal.main_arg1) = m ((c.tc : Thread Cert.MlaUqDwIdeal.nD Cert.MlaUqDwIdeal.τ).loc Cert.MlaUqDwIdeal.main_arg1))
      ∧ r.2.sem = fun _ => 0)

def quiescent_MlaUqDwRefIdeal [hMlaUqDwRefIdeal : Cert.MlaUqDwRefIdeal.Facts] : Prop :=
  ∀ (m : (ℓ : Loc Cert.MlaUqDwRefIdeal.nD Cert.MlaUqDwRefIdeal.τ Cert.MlaUqDwRefIdeal.sig) → Buf (Elt Ideal) ℓ) (g : Dev Cert.MlaUqDwRefIdeal.nD → PrngReg), Pre_MlaUqDwRefIdeal m →
    θ_run (Cert.MlaUqDwRefIdeal.defs (F := Ideal)) (onTc (τ := Cert.MlaUqDwRefIdeal.τ) (Cert.MlaUqDwRefIdeal.main (F := Ideal))) ⟨m, fun _ => 0, g⟩ (fun r => (∀ c : Dev Cert.MlaUqDwRefIdeal.nD,
      r.2.mem ((c.tc : Thread Cert.MlaUqDwRefIdeal.nD Cert.MlaUqDwRefIdeal.τ).loc Cert.MlaUqDwRefIdeal.main_arg0) = m ((c.tc : Thread Cert.MlaUqDwRefIdeal.nD Cert.MlaUqDwRefIdeal.τ).loc Cert.MlaUqDwRefIdeal.main_arg0)
      ∧ r.2.mem ((c.tc : Thread Cert.MlaUqDwRefIdeal.nD Cert.MlaUqDwRefIdeal.τ).loc Cert.MlaUqDwRefIdeal.main_arg1) = m ((c.tc : Thread Cert.MlaUqDwRefIdeal.nD Cert.MlaUqDwRefIdeal.τ).loc Cert.MlaUqDwRefIdeal.main_arg1))
      ∧ r.2.sem = fun _ => 0)

def quiescent_MlaUkvDx [hMlaUkvDx : Cert.MlaUkvDx.Facts] : Prop :=
  ∀ (m : (ℓ : Loc Cert.MlaUkvDx.nD Cert.MlaUkvDx.τ Cert.MlaUkvDx.sig) → Buf (Elt Bits) ℓ) (g : Dev Cert.MlaUkvDx.nD → PrngReg), Pre_MlaUkvDx m →
    θ_run (Cert.MlaUkvDx.defs (F := Bits)) (onTc (τ := Cert.MlaUkvDx.τ) (Cert.MlaUkvDx.main (F := Bits))) ⟨m, fun _ => 0, g⟩ (fun r => (∀ c : Dev Cert.MlaUkvDx.nD,
      r.2.mem ((c.tc : Thread Cert.MlaUkvDx.nD Cert.MlaUkvDx.τ).loc Cert.MlaUkvDx.main_arg0) = m ((c.tc : Thread Cert.MlaUkvDx.nD Cert.MlaUkvDx.τ).loc Cert.MlaUkvDx.main_arg0)
      ∧ r.2.mem ((c.tc : Thread Cert.MlaUkvDx.nD Cert.MlaUkvDx.τ).loc Cert.MlaUkvDx.main_arg1) = m ((c.tc : Thread Cert.MlaUkvDx.nD Cert.MlaUkvDx.τ).loc Cert.MlaUkvDx.main_arg1))
      ∧ r.2.sem = fun _ => 0)

def quiescent_MlaUkvDxIdeal [hMlaUkvDxIdeal : Cert.MlaUkvDxIdeal.Facts] : Prop :=
  ∀ (m : (ℓ : Loc Cert.MlaUkvDxIdeal.nD Cert.MlaUkvDxIdeal.τ Cert.MlaUkvDxIdeal.sig) → Buf (Elt Ideal) ℓ) (g : Dev Cert.MlaUkvDxIdeal.nD → PrngReg), Pre_MlaUkvDxIdeal m →
    θ_run (Cert.MlaUkvDxIdeal.defs (F := Ideal)) (onTc (τ := Cert.MlaUkvDxIdeal.τ) (Cert.MlaUkvDxIdeal.main (F := Ideal))) ⟨m, fun _ => 0, g⟩ (fun r => (∀ c : Dev Cert.MlaUkvDxIdeal.nD,
      r.2.mem ((c.tc : Thread Cert.MlaUkvDxIdeal.nD Cert.MlaUkvDxIdeal.τ).loc Cert.MlaUkvDxIdeal.main_arg0) = m ((c.tc : Thread Cert.MlaUkvDxIdeal.nD Cert.MlaUkvDxIdeal.τ).loc Cert.MlaUkvDxIdeal.main_arg0)
      ∧ r.2.mem ((c.tc : Thread Cert.MlaUkvDxIdeal.nD Cert.MlaUkvDxIdeal.τ).loc Cert.MlaUkvDxIdeal.main_arg1) = m ((c.tc : Thread Cert.MlaUkvDxIdeal.nD Cert.MlaUkvDxIdeal.τ).loc Cert.MlaUkvDxIdeal.main_arg1))
      ∧ r.2.sem = fun _ => 0)

def quiescent_MlaUkvDxRefIdeal [hMlaUkvDxRefIdeal : Cert.MlaUkvDxRefIdeal.Facts] : Prop :=
  ∀ (m : (ℓ : Loc Cert.MlaUkvDxRefIdeal.nD Cert.MlaUkvDxRefIdeal.τ Cert.MlaUkvDxRefIdeal.sig) → Buf (Elt Ideal) ℓ) (g : Dev Cert.MlaUkvDxRefIdeal.nD → PrngReg), Pre_MlaUkvDxRefIdeal m →
    θ_run (Cert.MlaUkvDxRefIdeal.defs (F := Ideal)) (onTc (τ := Cert.MlaUkvDxRefIdeal.τ) (Cert.MlaUkvDxRefIdeal.main (F := Ideal))) ⟨m, fun _ => 0, g⟩ (fun r => (∀ c : Dev Cert.MlaUkvDxRefIdeal.nD,
      r.2.mem ((c.tc : Thread Cert.MlaUkvDxRefIdeal.nD Cert.MlaUkvDxRefIdeal.τ).loc Cert.MlaUkvDxRefIdeal.main_arg0) = m ((c.tc : Thread Cert.MlaUkvDxRefIdeal.nD Cert.MlaUkvDxRefIdeal.τ).loc Cert.MlaUkvDxRefIdeal.main_arg0)
      ∧ r.2.mem ((c.tc : Thread Cert.MlaUkvDxRefIdeal.nD Cert.MlaUkvDxRefIdeal.τ).loc Cert.MlaUkvDxRefIdeal.main_arg1) = m ((c.tc : Thread Cert.MlaUkvDxRefIdeal.nD Cert.MlaUkvDxRefIdeal.τ).loc Cert.MlaUkvDxRefIdeal.main_arg1))
      ∧ r.2.sem = fun _ => 0)

def quiescent_MlaUkvDw [hMlaUkvDw : Cert.MlaUkvDw.Facts] : Prop :=
  ∀ (m : (ℓ : Loc Cert.MlaUkvDw.nD Cert.MlaUkvDw.τ Cert.MlaUkvDw.sig) → Buf (Elt Bits) ℓ) (g : Dev Cert.MlaUkvDw.nD → PrngReg), Pre_MlaUkvDw m →
    θ_run (Cert.MlaUkvDw.defs (F := Bits)) (onTc (τ := Cert.MlaUkvDw.τ) (Cert.MlaUkvDw.main (F := Bits))) ⟨m, fun _ => 0, g⟩ (fun r => (∀ c : Dev Cert.MlaUkvDw.nD,
      r.2.mem ((c.tc : Thread Cert.MlaUkvDw.nD Cert.MlaUkvDw.τ).loc Cert.MlaUkvDw.main_arg0) = m ((c.tc : Thread Cert.MlaUkvDw.nD Cert.MlaUkvDw.τ).loc Cert.MlaUkvDw.main_arg0)
      ∧ r.2.mem ((c.tc : Thread Cert.MlaUkvDw.nD Cert.MlaUkvDw.τ).loc Cert.MlaUkvDw.main_arg1) = m ((c.tc : Thread Cert.MlaUkvDw.nD Cert.MlaUkvDw.τ).loc Cert.MlaUkvDw.main_arg1))
      ∧ r.2.sem = fun _ => 0)

def quiescent_MlaUkvDwIdeal [hMlaUkvDwIdeal : Cert.MlaUkvDwIdeal.Facts] : Prop :=
  ∀ (m : (ℓ : Loc Cert.MlaUkvDwIdeal.nD Cert.MlaUkvDwIdeal.τ Cert.MlaUkvDwIdeal.sig) → Buf (Elt Ideal) ℓ) (g : Dev Cert.MlaUkvDwIdeal.nD → PrngReg), Pre_MlaUkvDwIdeal m →
    θ_run (Cert.MlaUkvDwIdeal.defs (F := Ideal)) (onTc (τ := Cert.MlaUkvDwIdeal.τ) (Cert.MlaUkvDwIdeal.main (F := Ideal))) ⟨m, fun _ => 0, g⟩ (fun r => (∀ c : Dev Cert.MlaUkvDwIdeal.nD,
      r.2.mem ((c.tc : Thread Cert.MlaUkvDwIdeal.nD Cert.MlaUkvDwIdeal.τ).loc Cert.MlaUkvDwIdeal.main_arg0) = m ((c.tc : Thread Cert.MlaUkvDwIdeal.nD Cert.MlaUkvDwIdeal.τ).loc Cert.MlaUkvDwIdeal.main_arg0)
      ∧ r.2.mem ((c.tc : Thread Cert.MlaUkvDwIdeal.nD Cert.MlaUkvDwIdeal.τ).loc Cert.MlaUkvDwIdeal.main_arg1) = m ((c.tc : Thread Cert.MlaUkvDwIdeal.nD Cert.MlaUkvDwIdeal.τ).loc Cert.MlaUkvDwIdeal.main_arg1))
      ∧ r.2.sem = fun _ => 0)

def quiescent_MlaUkvDwRefIdeal [hMlaUkvDwRefIdeal : Cert.MlaUkvDwRefIdeal.Facts] : Prop :=
  ∀ (m : (ℓ : Loc Cert.MlaUkvDwRefIdeal.nD Cert.MlaUkvDwRefIdeal.τ Cert.MlaUkvDwRefIdeal.sig) → Buf (Elt Ideal) ℓ) (g : Dev Cert.MlaUkvDwRefIdeal.nD → PrngReg), Pre_MlaUkvDwRefIdeal m →
    θ_run (Cert.MlaUkvDwRefIdeal.defs (F := Ideal)) (onTc (τ := Cert.MlaUkvDwRefIdeal.τ) (Cert.MlaUkvDwRefIdeal.main (F := Ideal))) ⟨m, fun _ => 0, g⟩ (fun r => (∀ c : Dev Cert.MlaUkvDwRefIdeal.nD,
      r.2.mem ((c.tc : Thread Cert.MlaUkvDwRefIdeal.nD Cert.MlaUkvDwRefIdeal.τ).loc Cert.MlaUkvDwRefIdeal.main_arg0) = m ((c.tc : Thread Cert.MlaUkvDwRefIdeal.nD Cert.MlaUkvDwRefIdeal.τ).loc Cert.MlaUkvDwRefIdeal.main_arg0)
      ∧ r.2.mem ((c.tc : Thread Cert.MlaUkvDwRefIdeal.nD Cert.MlaUkvDwRefIdeal.τ).loc Cert.MlaUkvDwRefIdeal.main_arg1) = m ((c.tc : Thread Cert.MlaUkvDwRefIdeal.nD Cert.MlaUkvDwRefIdeal.τ).loc Cert.MlaUkvDwRefIdeal.main_arg1))
      ∧ r.2.sem = fun _ => 0)

def quiescent_KvNorm [hKvNorm : Cert.KvNorm.Facts] : Prop :=
  ∀ (m : (ℓ : Loc Cert.KvNorm.nD Cert.KvNorm.τ Cert.KvNorm.sig) → Buf (Elt Bits) ℓ) (g : Dev Cert.KvNorm.nD → PrngReg), Pre_KvNorm m →
    θ_run (Cert.KvNorm.defs (F := Bits)) (onTc (τ := Cert.KvNorm.τ) (Cert.KvNorm.main (F := Bits))) ⟨m, fun _ => 0, g⟩ (fun r => (∀ c : Dev Cert.KvNorm.nD,
      r.2.mem ((c.tc : Thread Cert.KvNorm.nD Cert.KvNorm.τ).loc Cert.KvNorm.main_arg0) = m ((c.tc : Thread Cert.KvNorm.nD Cert.KvNorm.τ).loc Cert.KvNorm.main_arg0)
      ∧ r.2.mem ((c.tc : Thread Cert.KvNorm.nD Cert.KvNorm.τ).loc Cert.KvNorm.main_arg1) = m ((c.tc : Thread Cert.KvNorm.nD Cert.KvNorm.τ).loc Cert.KvNorm.main_arg1))
      ∧ r.2.sem = fun _ => 0)

def quiescent_KvNormIdeal [hKvNormIdeal : Cert.KvNormIdeal.Facts] : Prop :=
  ∀ (m : (ℓ : Loc Cert.KvNormIdeal.nD Cert.KvNormIdeal.τ Cert.KvNormIdeal.sig) → Buf (Elt Ideal) ℓ) (g : Dev Cert.KvNormIdeal.nD → PrngReg), Pre_KvNormIdeal m →
    θ_run (Cert.KvNormIdeal.defs (F := Ideal)) (onTc (τ := Cert.KvNormIdeal.τ) (Cert.KvNormIdeal.main (F := Ideal))) ⟨m, fun _ => 0, g⟩ (fun r => (∀ c : Dev Cert.KvNormIdeal.nD,
      r.2.mem ((c.tc : Thread Cert.KvNormIdeal.nD Cert.KvNormIdeal.τ).loc Cert.KvNormIdeal.main_arg0) = m ((c.tc : Thread Cert.KvNormIdeal.nD Cert.KvNormIdeal.τ).loc Cert.KvNormIdeal.main_arg0)
      ∧ r.2.mem ((c.tc : Thread Cert.KvNormIdeal.nD Cert.KvNormIdeal.τ).loc Cert.KvNormIdeal.main_arg1) = m ((c.tc : Thread Cert.KvNormIdeal.nD Cert.KvNormIdeal.τ).loc Cert.KvNormIdeal.main_arg1))
      ∧ r.2.sem = fun _ => 0)

def quiescent_KvNormRefIdeal [hKvNormRefIdeal : Cert.KvNormRefIdeal.Facts] : Prop :=
  ∀ (m : (ℓ : Loc Cert.KvNormRefIdeal.nD Cert.KvNormRefIdeal.τ Cert.KvNormRefIdeal.sig) → Buf (Elt Ideal) ℓ) (g : Dev Cert.KvNormRefIdeal.nD → PrngReg), Pre_KvNormRefIdeal m →
    θ_run (Cert.KvNormRefIdeal.defs (F := Ideal)) (onTc (τ := Cert.KvNormRefIdeal.τ) (Cert.KvNormRefIdeal.main (F := Ideal))) ⟨m, fun _ => 0, g⟩ (fun r => (∀ c : Dev Cert.KvNormRefIdeal.nD,
      r.2.mem ((c.tc : Thread Cert.KvNormRefIdeal.nD Cert.KvNormRefIdeal.τ).loc Cert.KvNormRefIdeal.main_arg0) = m ((c.tc : Thread Cert.KvNormRefIdeal.nD Cert.KvNormRefIdeal.τ).loc Cert.KvNormRefIdeal.main_arg0)
      ∧ r.2.mem ((c.tc : Thread Cert.KvNormRefIdeal.nD Cert.KvNormRefIdeal.τ).loc Cert.KvNormRefIdeal.main_arg1) = m ((c.tc : Thread Cert.KvNormRefIdeal.nD Cert.KvNormRefIdeal.τ).loc Cert.KvNormRefIdeal.main_arg1))
      ∧ r.2.sem = fun _ => 0)

def quiescent_KvNormBwd [hKvNormBwd : Cert.KvNormBwd.Facts] : Prop :=
  ∀ (m : (ℓ : Loc Cert.KvNormBwd.nD Cert.KvNormBwd.τ Cert.KvNormBwd.sig) → Buf (Elt Bits) ℓ) (g : Dev Cert.KvNormBwd.nD → PrngReg), Pre_KvNormBwd m →
    θ_run (Cert.KvNormBwd.defs (F := Bits)) (onTc (τ := Cert.KvNormBwd.τ) (Cert.KvNormBwd.main (F := Bits))) ⟨m, fun _ => 0, g⟩ (fun r => (∀ c : Dev Cert.KvNormBwd.nD,
      r.2.mem ((c.tc : Thread Cert.KvNormBwd.nD Cert.KvNormBwd.τ).loc Cert.KvNormBwd.main_arg0) = m ((c.tc : Thread Cert.KvNormBwd.nD Cert.KvNormBwd.τ).loc Cert.KvNormBwd.main_arg0)
      ∧ r.2.mem ((c.tc : Thread Cert.KvNormBwd.nD Cert.KvNormBwd.τ).loc Cert.KvNormBwd.main_arg1) = m ((c.tc : Thread Cert.KvNormBwd.nD Cert.KvNormBwd.τ).loc Cert.KvNormBwd.main_arg1)
      ∧ r.2.mem ((c.tc : Thread Cert.KvNormBwd.nD Cert.KvNormBwd.τ).loc Cert.KvNormBwd.main_arg2) = m ((c.tc : Thread Cert.KvNormBwd.nD Cert.KvNormBwd.τ).loc Cert.KvNormBwd.main_arg2))
      ∧ r.2.sem = fun _ => 0)

def quiescent_KvNormBwdIdeal [hKvNormBwdIdeal : Cert.KvNormBwdIdeal.Facts] : Prop :=
  ∀ (m : (ℓ : Loc Cert.KvNormBwdIdeal.nD Cert.KvNormBwdIdeal.τ Cert.KvNormBwdIdeal.sig) → Buf (Elt Ideal) ℓ) (g : Dev Cert.KvNormBwdIdeal.nD → PrngReg), Pre_KvNormBwdIdeal m →
    θ_run (Cert.KvNormBwdIdeal.defs (F := Ideal)) (onTc (τ := Cert.KvNormBwdIdeal.τ) (Cert.KvNormBwdIdeal.main (F := Ideal))) ⟨m, fun _ => 0, g⟩ (fun r => (∀ c : Dev Cert.KvNormBwdIdeal.nD,
      r.2.mem ((c.tc : Thread Cert.KvNormBwdIdeal.nD Cert.KvNormBwdIdeal.τ).loc Cert.KvNormBwdIdeal.main_arg0) = m ((c.tc : Thread Cert.KvNormBwdIdeal.nD Cert.KvNormBwdIdeal.τ).loc Cert.KvNormBwdIdeal.main_arg0)
      ∧ r.2.mem ((c.tc : Thread Cert.KvNormBwdIdeal.nD Cert.KvNormBwdIdeal.τ).loc Cert.KvNormBwdIdeal.main_arg1) = m ((c.tc : Thread Cert.KvNormBwdIdeal.nD Cert.KvNormBwdIdeal.τ).loc Cert.KvNormBwdIdeal.main_arg1)
      ∧ r.2.mem ((c.tc : Thread Cert.KvNormBwdIdeal.nD Cert.KvNormBwdIdeal.τ).loc Cert.KvNormBwdIdeal.main_arg2) = m ((c.tc : Thread Cert.KvNormBwdIdeal.nD Cert.KvNormBwdIdeal.τ).loc Cert.KvNormBwdIdeal.main_arg2))
      ∧ r.2.sem = fun _ => 0)

def quiescent_KvNormBwdRefIdeal [hKvNormBwdRefIdeal : Cert.KvNormBwdRefIdeal.Facts] : Prop :=
  ∀ (m : (ℓ : Loc Cert.KvNormBwdRefIdeal.nD Cert.KvNormBwdRefIdeal.τ Cert.KvNormBwdRefIdeal.sig) → Buf (Elt Ideal) ℓ) (g : Dev Cert.KvNormBwdRefIdeal.nD → PrngReg), Pre_KvNormBwdRefIdeal m →
    θ_run (Cert.KvNormBwdRefIdeal.defs (F := Ideal)) (onTc (τ := Cert.KvNormBwdRefIdeal.τ) (Cert.KvNormBwdRefIdeal.main (F := Ideal))) ⟨m, fun _ => 0, g⟩ (fun r => (∀ c : Dev Cert.KvNormBwdRefIdeal.nD,
      r.2.mem ((c.tc : Thread Cert.KvNormBwdRefIdeal.nD Cert.KvNormBwdRefIdeal.τ).loc Cert.KvNormBwdRefIdeal.main_arg0) = m ((c.tc : Thread Cert.KvNormBwdRefIdeal.nD Cert.KvNormBwdRefIdeal.τ).loc Cert.KvNormBwdRefIdeal.main_arg0)
      ∧ r.2.mem ((c.tc : Thread Cert.KvNormBwdRefIdeal.nD Cert.KvNormBwdRefIdeal.τ).loc Cert.KvNormBwdRefIdeal.main_arg1) = m ((c.tc : Thread Cert.KvNormBwdRefIdeal.nD Cert.KvNormBwdRefIdeal.τ).loc Cert.KvNormBwdRefIdeal.main_arg1)
      ∧ r.2.mem ((c.tc : Thread Cert.KvNormBwdRefIdeal.nD Cert.KvNormBwdRefIdeal.τ).loc Cert.KvNormBwdRefIdeal.main_arg2) = m ((c.tc : Thread Cert.KvNormBwdRefIdeal.nD Cert.KvNormBwdRefIdeal.τ).loc Cert.KvNormBwdRefIdeal.main_arg2))
      ∧ r.2.sem = fun _ => 0)

def quiescent_GlaPost [hGlaPost : Cert.GlaPost.Facts] : Prop :=
  ∀ (m : (ℓ : Loc Cert.GlaPost.nD Cert.GlaPost.τ Cert.GlaPost.sig) → Buf (Elt Bits) ℓ) (g : Dev Cert.GlaPost.nD → PrngReg), Pre_GlaPost m →
    θ_run (Cert.GlaPost.defs (F := Bits)) (onTc (τ := Cert.GlaPost.τ) (Cert.GlaPost.main (F := Bits))) ⟨m, fun _ => 0, g⟩ (fun r => (∀ c : Dev Cert.GlaPost.nD,
      r.2.mem ((c.tc : Thread Cert.GlaPost.nD Cert.GlaPost.τ).loc Cert.GlaPost.main_arg0) = m ((c.tc : Thread Cert.GlaPost.nD Cert.GlaPost.τ).loc Cert.GlaPost.main_arg0)
      ∧ r.2.mem ((c.tc : Thread Cert.GlaPost.nD Cert.GlaPost.τ).loc Cert.GlaPost.main_arg1) = m ((c.tc : Thread Cert.GlaPost.nD Cert.GlaPost.τ).loc Cert.GlaPost.main_arg1)
      ∧ r.2.mem ((c.tc : Thread Cert.GlaPost.nD Cert.GlaPost.τ).loc Cert.GlaPost.main_arg2) = m ((c.tc : Thread Cert.GlaPost.nD Cert.GlaPost.τ).loc Cert.GlaPost.main_arg2))
      ∧ r.2.sem = fun _ => 0)

def quiescent_GlaPostIdeal [hGlaPostIdeal : Cert.GlaPostIdeal.Facts] : Prop :=
  ∀ (m : (ℓ : Loc Cert.GlaPostIdeal.nD Cert.GlaPostIdeal.τ Cert.GlaPostIdeal.sig) → Buf (Elt Ideal) ℓ) (g : Dev Cert.GlaPostIdeal.nD → PrngReg), Pre_GlaPostIdeal m →
    θ_run (Cert.GlaPostIdeal.defs (F := Ideal)) (onTc (τ := Cert.GlaPostIdeal.τ) (Cert.GlaPostIdeal.main (F := Ideal))) ⟨m, fun _ => 0, g⟩ (fun r => (∀ c : Dev Cert.GlaPostIdeal.nD,
      r.2.mem ((c.tc : Thread Cert.GlaPostIdeal.nD Cert.GlaPostIdeal.τ).loc Cert.GlaPostIdeal.main_arg0) = m ((c.tc : Thread Cert.GlaPostIdeal.nD Cert.GlaPostIdeal.τ).loc Cert.GlaPostIdeal.main_arg0)
      ∧ r.2.mem ((c.tc : Thread Cert.GlaPostIdeal.nD Cert.GlaPostIdeal.τ).loc Cert.GlaPostIdeal.main_arg1) = m ((c.tc : Thread Cert.GlaPostIdeal.nD Cert.GlaPostIdeal.τ).loc Cert.GlaPostIdeal.main_arg1)
      ∧ r.2.mem ((c.tc : Thread Cert.GlaPostIdeal.nD Cert.GlaPostIdeal.τ).loc Cert.GlaPostIdeal.main_arg2) = m ((c.tc : Thread Cert.GlaPostIdeal.nD Cert.GlaPostIdeal.τ).loc Cert.GlaPostIdeal.main_arg2))
      ∧ r.2.sem = fun _ => 0)

def quiescent_GlaPostRefIdeal [hGlaPostRefIdeal : Cert.GlaPostRefIdeal.Facts] : Prop :=
  ∀ (m : (ℓ : Loc Cert.GlaPostRefIdeal.nD Cert.GlaPostRefIdeal.τ Cert.GlaPostRefIdeal.sig) → Buf (Elt Ideal) ℓ) (g : Dev Cert.GlaPostRefIdeal.nD → PrngReg), Pre_GlaPostRefIdeal m →
    θ_run (Cert.GlaPostRefIdeal.defs (F := Ideal)) (onTc (τ := Cert.GlaPostRefIdeal.τ) (Cert.GlaPostRefIdeal.main (F := Ideal))) ⟨m, fun _ => 0, g⟩ (fun r => (∀ c : Dev Cert.GlaPostRefIdeal.nD,
      r.2.mem ((c.tc : Thread Cert.GlaPostRefIdeal.nD Cert.GlaPostRefIdeal.τ).loc Cert.GlaPostRefIdeal.main_arg0) = m ((c.tc : Thread Cert.GlaPostRefIdeal.nD Cert.GlaPostRefIdeal.τ).loc Cert.GlaPostRefIdeal.main_arg0)
      ∧ r.2.mem ((c.tc : Thread Cert.GlaPostRefIdeal.nD Cert.GlaPostRefIdeal.τ).loc Cert.GlaPostRefIdeal.main_arg1) = m ((c.tc : Thread Cert.GlaPostRefIdeal.nD Cert.GlaPostRefIdeal.τ).loc Cert.GlaPostRefIdeal.main_arg1)
      ∧ r.2.mem ((c.tc : Thread Cert.GlaPostRefIdeal.nD Cert.GlaPostRefIdeal.τ).loc Cert.GlaPostRefIdeal.main_arg2) = m ((c.tc : Thread Cert.GlaPostRefIdeal.nD Cert.GlaPostRefIdeal.τ).loc Cert.GlaPostRefIdeal.main_arg2))
      ∧ r.2.sem = fun _ => 0)

def quiescent_SumWide [hSumWide : Cert.SumWide.Facts] : Prop :=
  ∀ (m : (ℓ : Loc Cert.SumWide.nD Cert.SumWide.τ Cert.SumWide.sig) → Buf (Elt Bits) ℓ) (g : Dev Cert.SumWide.nD → PrngReg), Pre_SumWide m →
    θ_run (Cert.SumWide.defs (F := Bits)) (onTc (τ := Cert.SumWide.τ) (Cert.SumWide.main (F := Bits))) ⟨m, fun _ => 0, g⟩ (fun r => (∀ c : Dev Cert.SumWide.nD,
      r.2.mem ((c.tc : Thread Cert.SumWide.nD Cert.SumWide.τ).loc Cert.SumWide.main_arg0) = m ((c.tc : Thread Cert.SumWide.nD Cert.SumWide.τ).loc Cert.SumWide.main_arg0))
      ∧ r.2.sem = fun _ => 0)

def quiescent_SumWideIdeal [hSumWideIdeal : Cert.SumWideIdeal.Facts] : Prop :=
  ∀ (m : (ℓ : Loc Cert.SumWideIdeal.nD Cert.SumWideIdeal.τ Cert.SumWideIdeal.sig) → Buf (Elt Ideal) ℓ) (g : Dev Cert.SumWideIdeal.nD → PrngReg), Pre_SumWideIdeal m →
    θ_run (Cert.SumWideIdeal.defs (F := Ideal)) (onTc (τ := Cert.SumWideIdeal.τ) (Cert.SumWideIdeal.main (F := Ideal))) ⟨m, fun _ => 0, g⟩ (fun r => (∀ c : Dev Cert.SumWideIdeal.nD,
      r.2.mem ((c.tc : Thread Cert.SumWideIdeal.nD Cert.SumWideIdeal.τ).loc Cert.SumWideIdeal.main_arg0) = m ((c.tc : Thread Cert.SumWideIdeal.nD Cert.SumWideIdeal.τ).loc Cert.SumWideIdeal.main_arg0))
      ∧ r.2.sem = fun _ => 0)

def quiescent_SumWideRefIdeal [hSumWideRefIdeal : Cert.SumWideRefIdeal.Facts] : Prop :=
  ∀ (m : (ℓ : Loc Cert.SumWideRefIdeal.nD Cert.SumWideRefIdeal.τ Cert.SumWideRefIdeal.sig) → Buf (Elt Ideal) ℓ) (g : Dev Cert.SumWideRefIdeal.nD → PrngReg), Pre_SumWideRefIdeal m →
    θ_run (Cert.SumWideRefIdeal.defs (F := Ideal)) (onTc (τ := Cert.SumWideRefIdeal.τ) (Cert.SumWideRefIdeal.main (F := Ideal))) ⟨m, fun _ => 0, g⟩ (fun r => (∀ c : Dev Cert.SumWideRefIdeal.nD,
      r.2.mem ((c.tc : Thread Cert.SumWideRefIdeal.nD Cert.SumWideRefIdeal.τ).loc Cert.SumWideRefIdeal.main_arg0) = m ((c.tc : Thread Cert.SumWideRefIdeal.nD Cert.SumWideRefIdeal.τ).loc Cert.SumWideRefIdeal.main_arg0))
      ∧ r.2.sem = fun _ => 0)

def quiescent_SumHalf [hSumHalf : Cert.SumHalf.Facts] : Prop :=
  ∀ (m : (ℓ : Loc Cert.SumHalf.nD Cert.SumHalf.τ Cert.SumHalf.sig) → Buf (Elt Bits) ℓ) (g : Dev Cert.SumHalf.nD → PrngReg), Pre_SumHalf m →
    θ_run (Cert.SumHalf.defs (F := Bits)) (onTc (τ := Cert.SumHalf.τ) (Cert.SumHalf.main (F := Bits))) ⟨m, fun _ => 0, g⟩ (fun r => (∀ c : Dev Cert.SumHalf.nD,
      r.2.mem ((c.tc : Thread Cert.SumHalf.nD Cert.SumHalf.τ).loc Cert.SumHalf.main_arg0) = m ((c.tc : Thread Cert.SumHalf.nD Cert.SumHalf.τ).loc Cert.SumHalf.main_arg0))
      ∧ r.2.sem = fun _ => 0)

def quiescent_SumHalfIdeal [hSumHalfIdeal : Cert.SumHalfIdeal.Facts] : Prop :=
  ∀ (m : (ℓ : Loc Cert.SumHalfIdeal.nD Cert.SumHalfIdeal.τ Cert.SumHalfIdeal.sig) → Buf (Elt Ideal) ℓ) (g : Dev Cert.SumHalfIdeal.nD → PrngReg), Pre_SumHalfIdeal m →
    θ_run (Cert.SumHalfIdeal.defs (F := Ideal)) (onTc (τ := Cert.SumHalfIdeal.τ) (Cert.SumHalfIdeal.main (F := Ideal))) ⟨m, fun _ => 0, g⟩ (fun r => (∀ c : Dev Cert.SumHalfIdeal.nD,
      r.2.mem ((c.tc : Thread Cert.SumHalfIdeal.nD Cert.SumHalfIdeal.τ).loc Cert.SumHalfIdeal.main_arg0) = m ((c.tc : Thread Cert.SumHalfIdeal.nD Cert.SumHalfIdeal.τ).loc Cert.SumHalfIdeal.main_arg0))
      ∧ r.2.sem = fun _ => 0)

def quiescent_SumHalfRefIdeal [hSumHalfRefIdeal : Cert.SumHalfRefIdeal.Facts] : Prop :=
  ∀ (m : (ℓ : Loc Cert.SumHalfRefIdeal.nD Cert.SumHalfRefIdeal.τ Cert.SumHalfRefIdeal.sig) → Buf (Elt Ideal) ℓ) (g : Dev Cert.SumHalfRefIdeal.nD → PrngReg), Pre_SumHalfRefIdeal m →
    θ_run (Cert.SumHalfRefIdeal.defs (F := Ideal)) (onTc (τ := Cert.SumHalfRefIdeal.τ) (Cert.SumHalfRefIdeal.main (F := Ideal))) ⟨m, fun _ => 0, g⟩ (fun r => (∀ c : Dev Cert.SumHalfRefIdeal.nD,
      r.2.mem ((c.tc : Thread Cert.SumHalfRefIdeal.nD Cert.SumHalfRefIdeal.τ).loc Cert.SumHalfRefIdeal.main_arg0) = m ((c.tc : Thread Cert.SumHalfRefIdeal.nD Cert.SumHalfRefIdeal.τ).loc Cert.SumHalfRefIdeal.main_arg0))
      ∧ r.2.sem = fun _ => 0)

def quiescent_SumLane [hSumLane : Cert.SumLane.Facts] : Prop :=
  ∀ (m : (ℓ : Loc Cert.SumLane.nD Cert.SumLane.τ Cert.SumLane.sig) → Buf (Elt Bits) ℓ) (g : Dev Cert.SumLane.nD → PrngReg), Pre_SumLane m →
    θ_run (Cert.SumLane.defs (F := Bits)) (onTc (τ := Cert.SumLane.τ) (Cert.SumLane.main (F := Bits))) ⟨m, fun _ => 0, g⟩ (fun r => (∀ c : Dev Cert.SumLane.nD,
      r.2.mem ((c.tc : Thread Cert.SumLane.nD Cert.SumLane.τ).loc Cert.SumLane.main_arg0) = m ((c.tc : Thread Cert.SumLane.nD Cert.SumLane.τ).loc Cert.SumLane.main_arg0))
      ∧ r.2.sem = fun _ => 0)

def quiescent_SumLaneIdeal [hSumLaneIdeal : Cert.SumLaneIdeal.Facts] : Prop :=
  ∀ (m : (ℓ : Loc Cert.SumLaneIdeal.nD Cert.SumLaneIdeal.τ Cert.SumLaneIdeal.sig) → Buf (Elt Ideal) ℓ) (g : Dev Cert.SumLaneIdeal.nD → PrngReg), Pre_SumLaneIdeal m →
    θ_run (Cert.SumLaneIdeal.defs (F := Ideal)) (onTc (τ := Cert.SumLaneIdeal.τ) (Cert.SumLaneIdeal.main (F := Ideal))) ⟨m, fun _ => 0, g⟩ (fun r => (∀ c : Dev Cert.SumLaneIdeal.nD,
      r.2.mem ((c.tc : Thread Cert.SumLaneIdeal.nD Cert.SumLaneIdeal.τ).loc Cert.SumLaneIdeal.main_arg0) = m ((c.tc : Thread Cert.SumLaneIdeal.nD Cert.SumLaneIdeal.τ).loc Cert.SumLaneIdeal.main_arg0))
      ∧ r.2.sem = fun _ => 0)

def quiescent_SumLaneRefIdeal [hSumLaneRefIdeal : Cert.SumLaneRefIdeal.Facts] : Prop :=
  ∀ (m : (ℓ : Loc Cert.SumLaneRefIdeal.nD Cert.SumLaneRefIdeal.τ Cert.SumLaneRefIdeal.sig) → Buf (Elt Ideal) ℓ) (g : Dev Cert.SumLaneRefIdeal.nD → PrngReg), Pre_SumLaneRefIdeal m →
    θ_run (Cert.SumLaneRefIdeal.defs (F := Ideal)) (onTc (τ := Cert.SumLaneRefIdeal.τ) (Cert.SumLaneRefIdeal.main (F := Ideal))) ⟨m, fun _ => 0, g⟩ (fun r => (∀ c : Dev Cert.SumLaneRefIdeal.nD,
      r.2.mem ((c.tc : Thread Cert.SumLaneRefIdeal.nD Cert.SumLaneRefIdeal.τ).loc Cert.SumLaneRefIdeal.main_arg0) = m ((c.tc : Thread Cert.SumLaneRefIdeal.nD Cert.SumLaneRefIdeal.τ).loc Cert.SumLaneRefIdeal.main_arg0))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1))
      ∧ r.2.sem = fun _ => 0)

def quiescent_SwapRef [hSwapRef : Cert.SwapRef.Facts] : Prop :=
  ∀ (m : (ℓ : Loc Cert.SwapRef.nD Cert.SwapRef.τ Cert.SwapRef.sig) → Buf (Elt Bits) ℓ) (g : Dev Cert.SwapRef.nD → PrngReg), Pre_SwapRef m →
    θ_run (Cert.SwapRef.defs (F := Bits)) (onTc (τ := Cert.SwapRef.τ) (Cert.SwapRef.main (F := Bits))) ⟨m, fun _ => 0, g⟩ (fun r => (∀ c : Dev Cert.SwapRef.nD,
      r.2.mem ((c.tc : Thread Cert.SwapRef.nD Cert.SwapRef.τ).loc Cert.SwapRef.main_arg0) = m ((c.tc : Thread Cert.SwapRef.nD Cert.SwapRef.τ).loc Cert.SwapRef.main_arg0))
      ∧ r.2.sem = fun _ => 0)

def quiescent_ScatterRef [hScatterRef : Cert.ScatterRef.Facts] : Prop :=
  ∀ (m : (ℓ : Loc Cert.ScatterRef.nD Cert.ScatterRef.τ Cert.ScatterRef.sig) → Buf (Elt Bits) ℓ) (g : Dev Cert.ScatterRef.nD → PrngReg), Pre_ScatterRef m →
    θ_run (Cert.ScatterRef.defs (F := Bits)) (onTc (τ := Cert.ScatterRef.τ) (Cert.ScatterRef.main (F := Bits))) ⟨m, fun _ => 0, g⟩ (fun r => (∀ c : Dev Cert.ScatterRef.nD,
      r.2.mem ((c.tc : Thread Cert.ScatterRef.nD Cert.ScatterRef.τ).loc Cert.ScatterRef.main_arg0) = m ((c.tc : Thread Cert.ScatterRef.nD Cert.ScatterRef.τ).loc Cert.ScatterRef.main_arg0))
      ∧ r.2.sem = fun _ => 0)

def quiescent_CoresRef [hCoresRef : Cert.CoresRef.Facts] : Prop :=
  ∀ (m : (ℓ : Loc Cert.CoresRef.nD Cert.CoresRef.τ Cert.CoresRef.sig) → Buf (Elt Bits) ℓ) (g : Dev Cert.CoresRef.nD → PrngReg), Pre_CoresRef m →
    θ_run (Cert.CoresRef.defs (F := Bits)) (onTc (τ := Cert.CoresRef.τ) (Cert.CoresRef.main (F := Bits))) ⟨m, fun _ => 0, g⟩ (fun r => (∀ c : Dev Cert.CoresRef.nD,
      r.2.mem ((c.tc : Thread Cert.CoresRef.nD Cert.CoresRef.τ).loc Cert.CoresRef.main_arg0) = m ((c.tc : Thread Cert.CoresRef.nD Cert.CoresRef.τ).loc Cert.CoresRef.main_arg0))
      ∧ r.2.sem = fun _ => 0)

def quiescent_ChipsRef [hChipsRef : Cert.ChipsRef.Facts] : Prop :=
  ∀ (m : (ℓ : Loc Cert.ChipsRef.nD Cert.ChipsRef.τ Cert.ChipsRef.sig) → Buf (Elt Bits) ℓ) (g : Dev Cert.ChipsRef.nD → PrngReg), Pre_ChipsRef m →
    θ_run (Cert.ChipsRef.defs (F := Bits)) (onTc (τ := Cert.ChipsRef.τ) (Cert.ChipsRef.main (F := Bits))) ⟨m, fun _ => 0, g⟩ (fun r => (∀ c : Dev Cert.ChipsRef.nD,
      r.2.mem ((c.tc : Thread Cert.ChipsRef.nD Cert.ChipsRef.τ).loc Cert.ChipsRef.main_arg0) = m ((c.tc : Thread Cert.ChipsRef.nD Cert.ChipsRef.τ).loc Cert.ChipsRef.main_arg0)
      ∧ r.2.mem ((c.tc : Thread Cert.ChipsRef.nD Cert.ChipsRef.τ).loc Cert.ChipsRef.main_arg1) = m ((c.tc : Thread Cert.ChipsRef.nD Cert.ChipsRef.τ).loc Cert.ChipsRef.main_arg1))
      ∧ r.2.sem = fun _ => 0)

def quiescent_AddCoresRef [hAddCoresRef : Cert.AddCoresRef.Facts] : Prop :=
  ∀ (m : (ℓ : Loc Cert.AddCoresRef.nD Cert.AddCoresRef.τ Cert.AddCoresRef.sig) → Buf (Elt Bits) ℓ) (g : Dev Cert.AddCoresRef.nD → PrngReg), Pre_AddCoresRef m →
    θ_run (Cert.AddCoresRef.defs (F := Bits)) (onTc (τ := Cert.AddCoresRef.τ) (Cert.AddCoresRef.main (F := Bits))) ⟨m, fun _ => 0, g⟩ (fun r => (∀ c : Dev Cert.AddCoresRef.nD,
      r.2.mem ((c.tc : Thread Cert.AddCoresRef.nD Cert.AddCoresRef.τ).loc Cert.AddCoresRef.main_arg0) = m ((c.tc : Thread Cert.AddCoresRef.nD Cert.AddCoresRef.τ).loc Cert.AddCoresRef.main_arg0)
      ∧ r.2.mem ((c.tc : Thread Cert.AddCoresRef.nD Cert.AddCoresRef.τ).loc Cert.AddCoresRef.main_arg1) = m ((c.tc : Thread Cert.AddCoresRef.nD Cert.AddCoresRef.τ).loc Cert.AddCoresRef.main_arg1))
      ∧ r.2.sem = fun _ => 0)

def quiescent_AddChipsRef [hAddChipsRef : Cert.AddChipsRef.Facts] : Prop :=
  ∀ (m : (ℓ : Loc Cert.AddChipsRef.nD Cert.AddChipsRef.τ Cert.AddChipsRef.sig) → Buf (Elt Bits) ℓ) (g : Dev Cert.AddChipsRef.nD → PrngReg), Pre_AddChipsRef m →
    θ_run (Cert.AddChipsRef.defs (F := Bits)) (onTc (τ := Cert.AddChipsRef.τ) (Cert.AddChipsRef.main (F := Bits))) ⟨m, fun _ => 0, g⟩ (fun r => (∀ c : Dev Cert.AddChipsRef.nD,
      r.2.mem ((c.tc : Thread Cert.AddChipsRef.nD Cert.AddChipsRef.τ).loc Cert.AddChipsRef.main_arg0) = m ((c.tc : Thread Cert.AddChipsRef.nD Cert.AddChipsRef.τ).loc Cert.AddChipsRef.main_arg0)
      ∧ r.2.mem ((c.tc : Thread Cert.AddChipsRef.nD Cert.AddChipsRef.τ).loc Cert.AddChipsRef.main_arg1) = m ((c.tc : Thread Cert.AddChipsRef.nD Cert.AddChipsRef.τ).loc Cert.AddChipsRef.main_arg1)
      ∧ r.2.mem ((c.tc : Thread Cert.AddChipsRef.nD Cert.AddChipsRef.τ).loc Cert.AddChipsRef.main_arg2) = m ((c.tc : Thread Cert.AddChipsRef.nD Cert.AddChipsRef.τ).loc Cert.AddChipsRef.main_arg2)
      ∧ r.2.mem ((c.tc : Thread Cert.AddChipsRef.nD Cert.AddChipsRef.τ).loc Cert.AddChipsRef.main_arg3) = m ((c.tc : Thread Cert.AddChipsRef.nD Cert.AddChipsRef.τ).loc Cert.AddChipsRef.main_arg3))
      ∧ r.2.sem = fun _ => 0)

def quiescent_SumWideRef [hSumWideRef : Cert.SumWideRef.Facts] : Prop :=
  ∀ (m : (ℓ : Loc Cert.SumWideRef.nD Cert.SumWideRef.τ Cert.SumWideRef.sig) → Buf (Elt Bits) ℓ) (g : Dev Cert.SumWideRef.nD → PrngReg), Pre_SumWideRef m →
    θ_run (Cert.SumWideRef.defs (F := Bits)) (onTc (τ := Cert.SumWideRef.τ) (Cert.SumWideRef.main (F := Bits))) ⟨m, fun _ => 0, g⟩ (fun r => (∀ c : Dev Cert.SumWideRef.nD,
      r.2.mem ((c.tc : Thread Cert.SumWideRef.nD Cert.SumWideRef.τ).loc Cert.SumWideRef.main_arg0) = m ((c.tc : Thread Cert.SumWideRef.nD Cert.SumWideRef.τ).loc Cert.SumWideRef.main_arg0))
      ∧ r.2.sem = fun _ => 0)

def quiescent_SumHalfRef [hSumHalfRef : Cert.SumHalfRef.Facts] : Prop :=
  ∀ (m : (ℓ : Loc Cert.SumHalfRef.nD Cert.SumHalfRef.τ Cert.SumHalfRef.sig) → Buf (Elt Bits) ℓ) (g : Dev Cert.SumHalfRef.nD → PrngReg), Pre_SumHalfRef m →
    θ_run (Cert.SumHalfRef.defs (F := Bits)) (onTc (τ := Cert.SumHalfRef.τ) (Cert.SumHalfRef.main (F := Bits))) ⟨m, fun _ => 0, g⟩ (fun r => (∀ c : Dev Cert.SumHalfRef.nD,
      r.2.mem ((c.tc : Thread Cert.SumHalfRef.nD Cert.SumHalfRef.τ).loc Cert.SumHalfRef.main_arg0) = m ((c.tc : Thread Cert.SumHalfRef.nD Cert.SumHalfRef.τ).loc Cert.SumHalfRef.main_arg0))
      ∧ r.2.sem = fun _ => 0)

def quiescent_SumLaneRef [hSumLaneRef : Cert.SumLaneRef.Facts] : Prop :=
  ∀ (m : (ℓ : Loc Cert.SumLaneRef.nD Cert.SumLaneRef.τ Cert.SumLaneRef.sig) → Buf (Elt Bits) ℓ) (g : Dev Cert.SumLaneRef.nD → PrngReg), Pre_SumLaneRef m →
    θ_run (Cert.SumLaneRef.defs (F := Bits)) (onTc (τ := Cert.SumLaneRef.τ) (Cert.SumLaneRef.main (F := Bits))) ⟨m, fun _ => 0, g⟩ (fun r => (∀ c : Dev Cert.SumLaneRef.nD,
      r.2.mem ((c.tc : Thread Cert.SumLaneRef.nD Cert.SumLaneRef.τ).loc Cert.SumLaneRef.main_arg0) = m ((c.tc : Thread Cert.SumLaneRef.nD Cert.SumLaneRef.τ).loc Cert.SumLaneRef.main_arg0))
      ∧ r.2.sem = fun _ => 0)

def preserves_Swap_SwapIdeal : Prop :=
  True

def algebraic_SwapIdeal_SwapRefIdeal [hSwapIdeal : Cert.SwapIdeal.Facts] [hSwapRefIdeal : Cert.SwapRefIdeal.Facts] : Prop :=
  ∀ (m : (ℓ : Loc Cert.SwapIdeal.nD Cert.SwapIdeal.τ Cert.SwapIdeal.sig) → Buf (Elt Ideal) ℓ) (g : Dev Cert.SwapIdeal.nD → PrngReg)
    (m' : (ℓ : Loc Cert.SwapRefIdeal.nD Cert.SwapRefIdeal.τ Cert.SwapRefIdeal.sig) → Buf (Elt Ideal) ℓ) (g' : Dev Cert.SwapRefIdeal.nD → PrngReg), Pre_SwapIdeal m →
    (∀ c : Dev Cert.SwapIdeal.nD,
      m ((c.tc : Thread Cert.SwapIdeal.nD Cert.SwapIdeal.τ).loc Cert.SwapIdeal.main_arg0) = Layout.block ⟨2, ![26624, 1024]⟩ ⟨2, ![212992, 1024]⟩ 0 8 c (m' (((0 : Dev Cert.SwapRefIdeal.nD).tc : Thread Cert.SwapRefIdeal.nD Cert.SwapRefIdeal.τ).loc Cert.SwapRefIdeal.main_arg0))) →
    ∃ (v0 : Buf (Elt Ideal) (((0 : Dev Cert.SwapRefIdeal.nD).tc : Thread Cert.SwapRefIdeal.nD Cert.SwapRefIdeal.τ).loc Cert.SwapRefIdeal.main_v4)),
      θ_run (Cert.SwapIdeal.defs (F := Ideal)) (onTc (τ := Cert.SwapIdeal.τ) (Cert.SwapIdeal.main (F := Ideal))) ⟨m, fun _ => 0, g⟩ (fun r => ∀ c : Dev Cert.SwapIdeal.nD,
          r.2.mem ((c.tc : Thread Cert.SwapIdeal.nD Cert.SwapIdeal.τ).loc Cert.SwapIdeal.main_v1) = Layout.block ⟨2, ![26624, 1024]⟩ ⟨2, ![212992, 1024]⟩ 0 8 c v0
          ∧ r.2.mem ((c.tc : Thread Cert.SwapIdeal.nD Cert.SwapIdeal.τ).loc Cert.SwapIdeal.main_arg0) = m ((c.tc : Thread Cert.SwapIdeal.nD Cert.SwapIdeal.τ).loc Cert.SwapIdeal.main_arg0))
      ∧ θ_run (Cert.SwapRefIdeal.defs (F := Ideal)) (onTc (τ := Cert.SwapRefIdeal.τ) (Cert.SwapRefIdeal.main (F := Ideal))) ⟨m', fun _ => 0, g'⟩ (fun r =>
          r.2.mem (((0 : Dev Cert.SwapRefIdeal.nD).tc : Thread Cert.SwapRefIdeal.nD Cert.SwapRefIdeal.τ).loc Cert.SwapRefIdeal.main_v4) = v0
          ∧ r.2.mem (((0 : Dev Cert.SwapRefIdeal.nD).tc : Thread Cert.SwapRefIdeal.nD Cert.SwapRefIdeal.τ).loc Cert.SwapRefIdeal.main_arg0) = m' (((0 : Dev Cert.SwapRefIdeal.nD).tc : Thread Cert.SwapRefIdeal.nD Cert.SwapRefIdeal.τ).loc Cert.SwapRefIdeal.main_arg0))

def preserves_Scatter_ScatterIdeal : Prop :=
  True

def algebraic_ScatterIdeal_ScatterRefIdeal [hScatterIdeal : Cert.ScatterIdeal.Facts] [hScatterRefIdeal : Cert.ScatterRefIdeal.Facts] : Prop :=
  ∀ (m : (ℓ : Loc Cert.ScatterIdeal.nD Cert.ScatterIdeal.τ Cert.ScatterIdeal.sig) → Buf (Elt Ideal) ℓ) (g : Dev Cert.ScatterIdeal.nD → PrngReg)
    (m' : (ℓ : Loc Cert.ScatterRefIdeal.nD Cert.ScatterRefIdeal.τ Cert.ScatterRefIdeal.sig) → Buf (Elt Ideal) ℓ) (g' : Dev Cert.ScatterRefIdeal.nD → PrngReg), Pre_ScatterIdeal m →
    (∀ c : Dev Cert.ScatterIdeal.nD,
      m ((c.tc : Thread Cert.ScatterIdeal.nD Cert.ScatterIdeal.τ).loc Cert.ScatterIdeal.main_arg0) = Layout.blockN ⟨3, ![4, 6656, 1024]⟩ ⟨3, ![16, 13312, 1024]⟩ (Layout.meshBlock [2, 2, 2] ![[0, 1], [2], []] c) (m' (((0 : Dev Cert.ScatterRefIdeal.nD).tc : Thread Cert.ScatterRefIdeal.nD Cert.ScatterRefIdeal.τ).loc Cert.ScatterRefIdeal.main_arg0))) →
    ∃ (v0 : Buf (Elt Ideal) (((0 : Dev Cert.ScatterRefIdeal.nD).tc : Thread Cert.ScatterRefIdeal.nD Cert.ScatterRefIdeal.τ).loc Cert.ScatterRefIdeal.main_v2)),
      θ_run (Cert.ScatterIdeal.defs (F := Ideal)) (onTc (τ := Cert.ScatterIdeal.τ) (Cert.ScatterIdeal.main (F := Ideal))) ⟨m, fun _ => 0, g⟩ (fun r => ∀ c : Dev Cert.ScatterIdeal.nD,
          r.2.mem ((c.tc : Thread Cert.ScatterIdeal.nD Cert.ScatterIdeal.τ).loc Cert.ScatterIdeal.main_v1) = Layout.blockN ⟨3, ![4, 6656, 1024]⟩ ⟨3, ![16, 13312, 1024]⟩ (Layout.meshBlock [2, 2, 2] ![[0, 1], [2], []] c) v0
          ∧ r.2.mem ((c.tc : Thread Cert.ScatterIdeal.nD Cert.ScatterIdeal.τ).loc Cert.ScatterIdeal.main_arg0) = m ((c.tc : Thread Cert.ScatterIdeal.nD Cert.ScatterIdeal.τ).loc Cert.ScatterIdeal.main_arg0))
      ∧ θ_run (Cert.ScatterRefIdeal.defs (F := Ideal)) (onTc (τ := Cert.ScatterRefIdeal.τ) (Cert.ScatterRefIdeal.main (F := Ideal))) ⟨m', fun _ => 0, g'⟩ (fun r =>
          r.2.mem (((0 : Dev Cert.ScatterRefIdeal.nD).tc : Thread Cert.ScatterRefIdeal.nD Cert.ScatterRefIdeal.τ).loc Cert.ScatterRefIdeal.main_v2) = v0
          ∧ r.2.mem (((0 : Dev Cert.ScatterRefIdeal.nD).tc : Thread Cert.ScatterRefIdeal.nD Cert.ScatterRefIdeal.τ).loc Cert.ScatterRefIdeal.main_arg0) = m' (((0 : Dev Cert.ScatterRefIdeal.nD).tc : Thread Cert.ScatterRefIdeal.nD Cert.ScatterRefIdeal.τ).loc Cert.ScatterRefIdeal.main_arg0))

def preserves_Cores_CoresIdeal : Prop :=
  True

def algebraic_CoresIdeal_CoresRefIdeal [hCoresIdeal : Cert.CoresIdeal.Facts] [hCoresRefIdeal : Cert.CoresRefIdeal.Facts] : Prop :=
  ∀ (m : (ℓ : Loc Cert.CoresIdeal.nD Cert.CoresIdeal.τ Cert.CoresIdeal.sig) → Buf (Elt Ideal) ℓ) (g : Dev Cert.CoresIdeal.nD → PrngReg)
    (m' : (ℓ : Loc Cert.CoresRefIdeal.nD Cert.CoresRefIdeal.τ Cert.CoresRefIdeal.sig) → Buf (Elt Ideal) ℓ) (g' : Dev Cert.CoresRefIdeal.nD → PrngReg), Pre_CoresIdeal m →
    (∀ c : Dev Cert.CoresIdeal.nD,
      m ((c.tc : Thread Cert.CoresIdeal.nD Cert.CoresIdeal.τ).loc Cert.CoresIdeal.main_arg0) = Layout.block ⟨2, ![6656, 1024]⟩ ⟨2, ![53248, 1024]⟩ 0 8 c (m' (((0 : Dev Cert.CoresRefIdeal.nD).tc : Thread Cert.CoresRefIdeal.nD Cert.CoresRefIdeal.τ).loc Cert.CoresRefIdeal.main_arg0))) →
    ∃ (v0 : Buf (Elt Ideal) (((0 : Dev Cert.CoresRefIdeal.nD).tc : Thread Cert.CoresRefIdeal.nD Cert.CoresRefIdeal.τ).loc Cert.CoresRefIdeal.main_v0)),
      θ_run (Cert.CoresIdeal.defs (F := Ideal)) (onTc (τ := Cert.CoresIdeal.τ) (Cert.CoresIdeal.main (F := Ideal))) ⟨m, fun _ => 0, g⟩ (fun r => ∀ c : Dev Cert.CoresIdeal.nD,
          r.2.mem ((c.tc : Thread Cert.CoresIdeal.nD Cert.CoresIdeal.τ).loc Cert.CoresIdeal.main_v1) = Layout.blockN ⟨3, ![2, 6656, 1024]⟩ ⟨3, ![8, 6656, 1024]⟩ (Layout.meshBlock [2, 2, 2] ![[0, 1], [], []] c) v0
          ∧ r.2.mem ((c.tc : Thread Cert.CoresIdeal.nD Cert.CoresIdeal.τ).loc Cert.CoresIdeal.main_arg0) = m ((c.tc : Thread Cert.CoresIdeal.nD Cert.CoresIdeal.τ).loc Cert.CoresIdeal.main_arg0))
      ∧ θ_run (Cert.CoresRefIdeal.defs (F := Ideal)) (onTc (τ := Cert.CoresRefIdeal.τ) (Cert.CoresRefIdeal.main (F := Ideal))) ⟨m', fun _ => 0, g'⟩ (fun r =>
          r.2.mem (((0 : Dev Cert.CoresRefIdeal.nD).tc : Thread Cert.CoresRefIdeal.nD Cert.CoresRefIdeal.τ).loc Cert.CoresRefIdeal.main_v0) = v0
          ∧ r.2.mem (((0 : Dev Cert.CoresRefIdeal.nD).tc : Thread Cert.CoresRefIdeal.nD Cert.CoresRefIdeal.τ).loc Cert.CoresRefIdeal.main_arg0) = m' (((0 : Dev Cert.CoresRefIdeal.nD).tc : Thread Cert.CoresRefIdeal.nD Cert.CoresRefIdeal.τ).loc Cert.CoresRefIdeal.main_arg0))

def preserves_Chips_ChipsIdeal : Prop :=
  True

def algebraic_ChipsIdeal_ChipsRefIdeal [hChipsIdeal : Cert.ChipsIdeal.Facts] [hChipsRefIdeal : Cert.ChipsRefIdeal.Facts] : Prop :=
  ∀ (m : (ℓ : Loc Cert.ChipsIdeal.nD Cert.ChipsIdeal.τ Cert.ChipsIdeal.sig) → Buf (Elt Ideal) ℓ) (g : Dev Cert.ChipsIdeal.nD → PrngReg)
    (m' : (ℓ : Loc Cert.ChipsRefIdeal.nD Cert.ChipsRefIdeal.τ Cert.ChipsRefIdeal.sig) → Buf (Elt Ideal) ℓ) (g' : Dev Cert.ChipsRefIdeal.nD → PrngReg), Pre_ChipsIdeal m →
    (∀ c : Dev Cert.ChipsIdeal.nD,
      m ((c.tc : Thread Cert.ChipsIdeal.nD Cert.ChipsIdeal.τ).loc Cert.ChipsIdeal.main_arg0) = Layout.blockN ⟨2, ![12656, 1024]⟩ ⟨2, ![50624, 1024]⟩ (Layout.meshBlock [2, 2, 2] ![[0, 1], []] c) (m' (((0 : Dev Cert.ChipsRefIdeal.nD).tc : Thread Cert.ChipsRefIdeal.nD Cert.ChipsRefIdeal.τ).loc Cert.ChipsRefIdeal.main_arg0))
      ∧ m ((c.tc : Thread Cert.ChipsIdeal.nD Cert.ChipsIdeal.τ).loc Cert.ChipsIdeal.main_arg1) = Layout.blockN ⟨2, ![24, 1024]⟩ ⟨2, ![96, 1024]⟩ (Layout.meshBlock [2, 2, 2] ![[0, 1], []] c) (m' (((0 : Dev Cert.ChipsRefIdeal.nD).tc : Thread Cert.ChipsRefIdeal.nD Cert.ChipsRefIdeal.τ).loc Cert.ChipsRefIdeal.main_arg1))) →
    ∃ (v0 : Buf (Elt Ideal) (((0 : Dev Cert.ChipsRefIdeal.nD).tc : Thread Cert.ChipsRefIdeal.nD Cert.ChipsRefIdeal.τ).loc Cert.ChipsRefIdeal.main_v0)) (v1 : Buf (Elt Ideal) (((0 : Dev Cert.ChipsRefIdeal.nD).tc : Thread Cert.ChipsRefIdeal.nD Cert.ChipsRefIdeal.τ).loc Cert.ChipsRefIdeal.main_v1)),
      θ_run (Cert.ChipsIdeal.defs (F := Ideal)) (onTc (τ := Cert.ChipsIdeal.τ) (Cert.ChipsIdeal.main (F := Ideal))) ⟨m, fun _ => 0, g⟩ (fun r => ∀ c : Dev Cert.ChipsIdeal.nD,
          r.2.mem ((c.tc : Thread Cert.ChipsIdeal.nD Cert.ChipsIdeal.τ).loc Cert.ChipsIdeal.main_v1_0) = v0
          ∧ r.2.mem ((c.tc : Thread Cert.ChipsIdeal.nD Cert.ChipsIdeal.τ).loc Cert.ChipsIdeal.main_v1_1) = v1
          ∧ r.2.mem ((c.tc : Thread Cert.ChipsIdeal.nD Cert.ChipsIdeal.τ).loc Cert.ChipsIdeal.main_arg0) = m ((c.tc : Thread Cert.ChipsIdeal.nD Cert.ChipsIdeal.τ).loc Cert.ChipsIdeal.main_arg0)
          ∧ r.2.mem ((c.tc : Thread Cert.ChipsIdeal.nD Cert.ChipsIdeal.τ).loc Cert.ChipsIdeal.main_arg1) = m ((c.tc : Thread Cert.ChipsIdeal.nD Cert.ChipsIdeal.τ).loc Cert.ChipsIdeal.main_arg1))
      ∧ θ_run (Cert.ChipsRefIdeal.defs (F := Ideal)) (onTc (τ := Cert.ChipsRefIdeal.τ) (Cert.ChipsRefIdeal.main (F := Ideal))) ⟨m', fun _ => 0, g'⟩ (fun r =>
          r.2.mem (((0 : Dev Cert.ChipsRefIdeal.nD).tc : Thread Cert.ChipsRefIdeal.nD Cert.ChipsRefIdeal.τ).loc Cert.ChipsRefIdeal.main_v0) = v0
          ∧ r.2.mem (((0 : Dev Cert.ChipsRefIdeal.nD).tc : Thread Cert.ChipsRefIdeal.nD Cert.ChipsRefIdeal.τ).loc Cert.ChipsRefIdeal.main_v1) = v1
          ∧ r.2.mem (((0 : Dev Cert.ChipsRefIdeal.nD).tc : Thread Cert.ChipsRefIdeal.nD Cert.ChipsRefIdeal.τ).loc Cert.ChipsRefIdeal.main_arg0) = m' (((0 : Dev Cert.ChipsRefIdeal.nD).tc : Thread Cert.ChipsRefIdeal.nD Cert.ChipsRefIdeal.τ).loc Cert.ChipsRefIdeal.main_arg0)
          ∧ r.2.mem (((0 : Dev Cert.ChipsRefIdeal.nD).tc : Thread Cert.ChipsRefIdeal.nD Cert.ChipsRefIdeal.τ).loc Cert.ChipsRefIdeal.main_arg1) = m' (((0 : Dev Cert.ChipsRefIdeal.nD).tc : Thread Cert.ChipsRefIdeal.nD Cert.ChipsRefIdeal.τ).loc Cert.ChipsRefIdeal.main_arg1))

def preserves_AddCores_AddCoresIdeal : Prop :=
  True

def algebraic_AddCoresIdeal_AddCoresRefIdeal [hAddCoresIdeal : Cert.AddCoresIdeal.Facts] [hAddCoresRefIdeal : Cert.AddCoresRefIdeal.Facts] : Prop :=
  ∀ (m : (ℓ : Loc Cert.AddCoresIdeal.nD Cert.AddCoresIdeal.τ Cert.AddCoresIdeal.sig) → Buf (Elt Ideal) ℓ) (g : Dev Cert.AddCoresIdeal.nD → PrngReg)
    (m' : (ℓ : Loc Cert.AddCoresRefIdeal.nD Cert.AddCoresRefIdeal.τ Cert.AddCoresRefIdeal.sig) → Buf (Elt Ideal) ℓ) (g' : Dev Cert.AddCoresRefIdeal.nD → PrngReg), Pre_AddCoresIdeal m →
    (∀ c : Dev Cert.AddCoresIdeal.nD,
      m' ((c.tc : Thread Cert.AddCoresRefIdeal.nD Cert.AddCoresRefIdeal.τ).loc Cert.AddCoresRefIdeal.main_arg0) = m ((c.tc : Thread Cert.AddCoresIdeal.nD Cert.AddCoresIdeal.τ).loc Cert.AddCoresIdeal.main_arg0)
      ∧ m' ((c.tc : Thread Cert.AddCoresRefIdeal.nD Cert.AddCoresRefIdeal.τ).loc Cert.AddCoresRefIdeal.main_arg1) = m ((c.tc : Thread Cert.AddCoresIdeal.nD Cert.AddCoresIdeal.τ).loc Cert.AddCoresIdeal.main_arg1)) →
    ∃ (v0 : (c : Dev Cert.AddCoresIdeal.nD) → Buf (Elt Ideal) ((c.tc : Thread Cert.AddCoresIdeal.nD Cert.AddCoresIdeal.τ).loc Cert.AddCoresIdeal.main_v0)),
      θ_run (Cert.AddCoresIdeal.defs (F := Ideal)) (onTc (τ := Cert.AddCoresIdeal.τ) (Cert.AddCoresIdeal.main (F := Ideal))) ⟨m, fun _ => 0, g⟩ (fun r => ∀ c : Dev Cert.AddCoresIdeal.nD,
          r.2.mem ((c.tc : Thread Cert.AddCoresIdeal.nD Cert.AddCoresIdeal.τ).loc Cert.AddCoresIdeal.main_v0) = v0 c
          ∧ r.2.mem ((c.tc : Thread Cert.AddCoresIdeal.nD Cert.AddCoresIdeal.τ).loc Cert.AddCoresIdeal.main_arg0) = m ((c.tc : Thread Cert.AddCoresIdeal.nD Cert.AddCoresIdeal.τ).loc Cert.AddCoresIdeal.main_arg0)
          ∧ r.2.mem ((c.tc : Thread Cert.AddCoresIdeal.nD Cert.AddCoresIdeal.τ).loc Cert.AddCoresIdeal.main_arg1) = m ((c.tc : Thread Cert.AddCoresIdeal.nD Cert.AddCoresIdeal.τ).loc Cert.AddCoresIdeal.main_arg1))
      ∧ θ_run (Cert.AddCoresRefIdeal.defs (F := Ideal)) (onTc (τ := Cert.AddCoresRefIdeal.τ) (Cert.AddCoresRefIdeal.main (F := Ideal))) ⟨m', fun _ => 0, g'⟩ (fun r => ∀ c : Dev Cert.AddCoresRefIdeal.nD,
          r.2.mem ((c.tc : Thread Cert.AddCoresRefIdeal.nD Cert.AddCoresRefIdeal.τ).loc Cert.AddCoresRefIdeal.main_v0) = v0 c
          ∧ r.2.mem ((c.tc : Thread Cert.AddCoresRefIdeal.nD Cert.AddCoresRefIdeal.τ).loc Cert.AddCoresRefIdeal.main_arg0) = m' ((c.tc : Thread Cert.AddCoresRefIdeal.nD Cert.AddCoresRefIdeal.τ).loc Cert.AddCoresRefIdeal.main_arg0)
          ∧ r.2.mem ((c.tc : Thread Cert.AddCoresRefIdeal.nD Cert.AddCoresRefIdeal.τ).loc Cert.AddCoresRefIdeal.main_arg1) = m' ((c.tc : Thread Cert.AddCoresRefIdeal.nD Cert.AddCoresRefIdeal.τ).loc Cert.AddCoresRefIdeal.main_arg1))

def preserves_AddChips_AddChipsIdeal : Prop :=
  True

def algebraic_AddChipsIdeal_AddChipsRefIdeal [hAddChipsIdeal : Cert.AddChipsIdeal.Facts] [hAddChipsRefIdeal : Cert.AddChipsRefIdeal.Facts] : Prop :=
  ∀ (m : (ℓ : Loc Cert.AddChipsIdeal.nD Cert.AddChipsIdeal.τ Cert.AddChipsIdeal.sig) → Buf (Elt Ideal) ℓ) (g : Dev Cert.AddChipsIdeal.nD → PrngReg)
    (m' : (ℓ : Loc Cert.AddChipsRefIdeal.nD Cert.AddChipsRefIdeal.τ Cert.AddChipsRefIdeal.sig) → Buf (Elt Ideal) ℓ) (g' : Dev Cert.AddChipsRefIdeal.nD → PrngReg), Pre_AddChipsIdeal m →
    (∀ c : Dev Cert.AddChipsIdeal.nD,
      m' ((c.tc : Thread Cert.AddChipsRefIdeal.nD Cert.AddChipsRefIdeal.τ).loc Cert.AddChipsRefIdeal.main_arg0) = m ((c.tc : Thread Cert.AddChipsIdeal.nD Cert.AddChipsIdeal.τ).loc Cert.AddChipsIdeal.main_arg0)
      ∧ m' ((c.tc : Thread Cert.AddChipsRefIdeal.nD Cert.AddChipsRefIdeal.τ).loc Cert.AddChipsRefIdeal.main_arg1) = m ((c.tc : Thread Cert.AddChipsIdeal.nD Cert.AddChipsIdeal.τ).loc Cert.AddChipsIdeal.main_arg1)
      ∧ m' ((c.tc : Thread Cert.AddChipsRefIdeal.nD Cert.AddChipsRefIdeal.τ).loc Cert.AddChipsRefIdeal.main_arg2) = m ((c.tc : Thread Cert.AddChipsIdeal.nD Cert.AddChipsIdeal.τ).loc Cert.AddChipsIdeal.main_arg2)
      ∧ m' ((c.tc : Thread Cert.AddChipsRefIdeal.nD Cert.AddChipsRefIdeal.τ).loc Cert.AddChipsRefIdeal.main_arg3) = m ((c.tc : Thread Cert.AddChipsIdeal.nD Cert.AddChipsIdeal.τ).loc Cert.AddChipsIdeal.main_arg3)) →
    ∃ (v0 : (c : Dev Cert.AddChipsIdeal.nD) → Buf (Elt Ideal) ((c.tc : Thread Cert.AddChipsIdeal.nD Cert.AddChipsIdeal.τ).loc Cert.AddChipsIdeal.main_v0)),
      θ_run (Cert.AddChipsIdeal.defs (F := Ideal)) (onTc (τ := Cert.AddChipsIdeal.τ) (Cert.AddChipsIdeal.main (F := Ideal))) ⟨m, fun _ => 0, g⟩ (fun r => ∀ c : Dev Cert.AddChipsIdeal.nD,
          r.2.mem ((c.tc : Thread Cert.AddChipsIdeal.nD Cert.AddChipsIdeal.τ).loc Cert.AddChipsIdeal.main_v0) = v0 c
          ∧ r.2.mem ((c.tc : Thread Cert.AddChipsIdeal.nD Cert.AddChipsIdeal.τ).loc Cert.AddChipsIdeal.main_arg0) = m ((c.tc : Thread Cert.AddChipsIdeal.nD Cert.AddChipsIdeal.τ).loc Cert.AddChipsIdeal.main_arg0)
          ∧ r.2.mem ((c.tc : Thread Cert.AddChipsIdeal.nD Cert.AddChipsIdeal.τ).loc Cert.AddChipsIdeal.main_arg1) = m ((c.tc : Thread Cert.AddChipsIdeal.nD Cert.AddChipsIdeal.τ).loc Cert.AddChipsIdeal.main_arg1)
          ∧ r.2.mem ((c.tc : Thread Cert.AddChipsIdeal.nD Cert.AddChipsIdeal.τ).loc Cert.AddChipsIdeal.main_arg2) = m ((c.tc : Thread Cert.AddChipsIdeal.nD Cert.AddChipsIdeal.τ).loc Cert.AddChipsIdeal.main_arg2)
          ∧ r.2.mem ((c.tc : Thread Cert.AddChipsIdeal.nD Cert.AddChipsIdeal.τ).loc Cert.AddChipsIdeal.main_arg3) = m ((c.tc : Thread Cert.AddChipsIdeal.nD Cert.AddChipsIdeal.τ).loc Cert.AddChipsIdeal.main_arg3))
      ∧ θ_run (Cert.AddChipsRefIdeal.defs (F := Ideal)) (onTc (τ := Cert.AddChipsRefIdeal.τ) (Cert.AddChipsRefIdeal.main (F := Ideal))) ⟨m', fun _ => 0, g'⟩ (fun r => ∀ c : Dev Cert.AddChipsRefIdeal.nD,
          r.2.mem ((c.tc : Thread Cert.AddChipsRefIdeal.nD Cert.AddChipsRefIdeal.τ).loc Cert.AddChipsRefIdeal.main_v2) = v0 c
          ∧ r.2.mem ((c.tc : Thread Cert.AddChipsRefIdeal.nD Cert.AddChipsRefIdeal.τ).loc Cert.AddChipsRefIdeal.main_arg0) = m' ((c.tc : Thread Cert.AddChipsRefIdeal.nD Cert.AddChipsRefIdeal.τ).loc Cert.AddChipsRefIdeal.main_arg0)
          ∧ r.2.mem ((c.tc : Thread Cert.AddChipsRefIdeal.nD Cert.AddChipsRefIdeal.τ).loc Cert.AddChipsRefIdeal.main_arg1) = m' ((c.tc : Thread Cert.AddChipsRefIdeal.nD Cert.AddChipsRefIdeal.τ).loc Cert.AddChipsRefIdeal.main_arg1)
          ∧ r.2.mem ((c.tc : Thread Cert.AddChipsRefIdeal.nD Cert.AddChipsRefIdeal.τ).loc Cert.AddChipsRefIdeal.main_arg2) = m' ((c.tc : Thread Cert.AddChipsRefIdeal.nD Cert.AddChipsRefIdeal.τ).loc Cert.AddChipsRefIdeal.main_arg2)
          ∧ r.2.mem ((c.tc : Thread Cert.AddChipsRefIdeal.nD Cert.AddChipsRefIdeal.τ).loc Cert.AddChipsRefIdeal.main_arg3) = m' ((c.tc : Thread Cert.AddChipsRefIdeal.nD Cert.AddChipsRefIdeal.τ).loc Cert.AddChipsRefIdeal.main_arg3))

def preserves_AdamSplit_AdamSplitIdeal : Prop :=
  True

def algebraic_AdamSplitIdeal_AdamSplitRefIdeal [hAdamSplitIdeal : Cert.AdamSplitIdeal.Facts] [hAdamSplitRefIdeal : Cert.AdamSplitRefIdeal.Facts] : Prop :=
  ∀ (m : (ℓ : Loc Cert.AdamSplitIdeal.nD Cert.AdamSplitIdeal.τ Cert.AdamSplitIdeal.sig) → Buf (Elt Ideal) ℓ) (g : Dev Cert.AdamSplitIdeal.nD → PrngReg)
    (m' : (ℓ : Loc Cert.AdamSplitRefIdeal.nD Cert.AdamSplitRefIdeal.τ Cert.AdamSplitRefIdeal.sig) → Buf (Elt Ideal) ℓ) (g' : Dev Cert.AdamSplitRefIdeal.nD → PrngReg), Pre_AdamSplitIdeal m →
    (∀ c : Dev Cert.AdamSplitIdeal.nD,
      m' ((c.tc : Thread Cert.AdamSplitRefIdeal.nD Cert.AdamSplitRefIdeal.τ).loc Cert.AdamSplitRefIdeal.main_arg0) = m ((c.tc : Thread Cert.AdamSplitIdeal.nD Cert.AdamSplitIdeal.τ).loc Cert.AdamSplitIdeal.main_arg0)
      ∧ m' ((c.tc : Thread Cert.AdamSplitRefIdeal.nD Cert.AdamSplitRefIdeal.τ).loc Cert.AdamSplitRefIdeal.main_arg1) = m ((c.tc : Thread Cert.AdamSplitIdeal.nD Cert.AdamSplitIdeal.τ).loc Cert.AdamSplitIdeal.main_arg1)
      ∧ m' ((c.tc : Thread Cert.AdamSplitRefIdeal.nD Cert.AdamSplitRefIdeal.τ).loc Cert.AdamSplitRefIdeal.main_arg2) = m ((c.tc : Thread Cert.AdamSplitIdeal.nD Cert.AdamSplitIdeal.τ).loc Cert.AdamSplitIdeal.main_arg2)
      ∧ m' ((c.tc : Thread Cert.AdamSplitRefIdeal.nD Cert.AdamSplitRefIdeal.τ).loc Cert.AdamSplitRefIdeal.main_arg3) = m ((c.tc : Thread Cert.AdamSplitIdeal.nD Cert.AdamSplitIdeal.τ).loc Cert.AdamSplitIdeal.main_arg3)) →
    ∃ (v0 : (c : Dev Cert.AdamSplitIdeal.nD) → Buf (Elt Ideal) ((c.tc : Thread Cert.AdamSplitIdeal.nD Cert.AdamSplitIdeal.τ).loc Cert.AdamSplitIdeal.main_v0_0)) (v1 : (c : Dev Cert.AdamSplitIdeal.nD) → Buf (Elt Ideal) ((c.tc : Thread Cert.AdamSplitIdeal.nD Cert.AdamSplitIdeal.τ).loc Cert.AdamSplitIdeal.main_v0_1)) (v2 : (c : Dev Cert.AdamSplitIdeal.nD) → Buf (Elt Ideal) ((c.tc : Thread Cert.AdamSplitIdeal.nD Cert.AdamSplitIdeal.τ).loc Cert.AdamSplitIdeal.main_v0_2)),
      θ_run (Cert.AdamSplitIdeal.defs (F := Ideal)) (onTc (τ := Cert.AdamSplitIdeal.τ) (Cert.AdamSplitIdeal.main (F := Ideal))) ⟨m, fun _ => 0, g⟩ (fun r => ∀ c : Dev Cert.AdamSplitIdeal.nD,
          r.2.mem ((c.tc : Thread Cert.AdamSplitIdeal.nD Cert.AdamSplitIdeal.τ).loc Cert.AdamSplitIdeal.main_v0_0) = v0 c
          ∧ r.2.mem ((c.tc : Thread Cert.AdamSplitIdeal.nD Cert.AdamSplitIdeal.τ).loc Cert.AdamSplitIdeal.main_v0_1) = v1 c
          ∧ r.2.mem ((c.tc : Thread Cert.AdamSplitIdeal.nD Cert.AdamSplitIdeal.τ).loc Cert.AdamSplitIdeal.main_v0_2) = v2 c
          ∧ r.2.mem ((c.tc : Thread Cert.AdamSplitIdeal.nD Cert.AdamSplitIdeal.τ).loc Cert.AdamSplitIdeal.main_arg0) = m ((c.tc : Thread Cert.AdamSplitIdeal.nD Cert.AdamSplitIdeal.τ).loc Cert.AdamSplitIdeal.main_arg0)
          ∧ r.2.mem ((c.tc : Thread Cert.AdamSplitIdeal.nD Cert.AdamSplitIdeal.τ).loc Cert.AdamSplitIdeal.main_arg1) = m ((c.tc : Thread Cert.AdamSplitIdeal.nD Cert.AdamSplitIdeal.τ).loc Cert.AdamSplitIdeal.main_arg1)
          ∧ r.2.mem ((c.tc : Thread Cert.AdamSplitIdeal.nD Cert.AdamSplitIdeal.τ).loc Cert.AdamSplitIdeal.main_arg2) = m ((c.tc : Thread Cert.AdamSplitIdeal.nD Cert.AdamSplitIdeal.τ).loc Cert.AdamSplitIdeal.main_arg2)
          ∧ r.2.mem ((c.tc : Thread Cert.AdamSplitIdeal.nD Cert.AdamSplitIdeal.τ).loc Cert.AdamSplitIdeal.main_arg3) = m ((c.tc : Thread Cert.AdamSplitIdeal.nD Cert.AdamSplitIdeal.τ).loc Cert.AdamSplitIdeal.main_arg3))
      ∧ θ_run (Cert.AdamSplitRefIdeal.defs (F := Ideal)) (onTc (τ := Cert.AdamSplitRefIdeal.τ) (Cert.AdamSplitRefIdeal.main (F := Ideal))) ⟨m', fun _ => 0, g'⟩ (fun r => ∀ c : Dev Cert.AdamSplitRefIdeal.nD,
          r.2.mem ((c.tc : Thread Cert.AdamSplitRefIdeal.nD Cert.AdamSplitRefIdeal.τ).loc Cert.AdamSplitRefIdeal.main_v23) = v0 c
          ∧ r.2.mem ((c.tc : Thread Cert.AdamSplitRefIdeal.nD Cert.AdamSplitRefIdeal.τ).loc Cert.AdamSplitRefIdeal.main_v4) = v1 c
          ∧ r.2.mem ((c.tc : Thread Cert.AdamSplitRefIdeal.nD Cert.AdamSplitRefIdeal.τ).loc Cert.AdamSplitRefIdeal.main_v10) = v2 c
          ∧ r.2.mem ((c.tc : Thread Cert.AdamSplitRefIdeal.nD Cert.AdamSplitRefIdeal.τ).loc Cert.AdamSplitRefIdeal.main_arg0) = m' ((c.tc : Thread Cert.AdamSplitRefIdeal.nD Cert.AdamSplitRefIdeal.τ).loc Cert.AdamSplitRefIdeal.main_arg0)
          ∧ r.2.mem ((c.tc : Thread Cert.AdamSplitRefIdeal.nD Cert.AdamSplitRefIdeal.τ).loc Cert.AdamSplitRefIdeal.main_arg1) = m' ((c.tc : Thread Cert.AdamSplitRefIdeal.nD Cert.AdamSplitRefIdeal.τ).loc Cert.AdamSplitRefIdeal.main_arg1)
          ∧ r.2.mem ((c.tc : Thread Cert.AdamSplitRefIdeal.nD Cert.AdamSplitRefIdeal.τ).loc Cert.AdamSplitRefIdeal.main_arg2) = m' ((c.tc : Thread Cert.AdamSplitRefIdeal.nD Cert.AdamSplitRefIdeal.τ).loc Cert.AdamSplitRefIdeal.main_arg2)
          ∧ r.2.mem ((c.tc : Thread Cert.AdamSplitRefIdeal.nD Cert.AdamSplitRefIdeal.τ).loc Cert.AdamSplitRefIdeal.main_arg3) = m' ((c.tc : Thread Cert.AdamSplitRefIdeal.nD Cert.AdamSplitRefIdeal.τ).loc Cert.AdamSplitRefIdeal.main_arg3))

def preserves_AdamRep_AdamRepIdeal : Prop :=
  True

def algebraic_AdamRepIdeal_AdamRepRefIdeal [hAdamRepIdeal : Cert.AdamRepIdeal.Facts] [hAdamRepRefIdeal : Cert.AdamRepRefIdeal.Facts] : Prop :=
  ∀ (m : (ℓ : Loc Cert.AdamRepIdeal.nD Cert.AdamRepIdeal.τ Cert.AdamRepIdeal.sig) → Buf (Elt Ideal) ℓ) (g : Dev Cert.AdamRepIdeal.nD → PrngReg)
    (m' : (ℓ : Loc Cert.AdamRepRefIdeal.nD Cert.AdamRepRefIdeal.τ Cert.AdamRepRefIdeal.sig) → Buf (Elt Ideal) ℓ) (g' : Dev Cert.AdamRepRefIdeal.nD → PrngReg), Pre_AdamRepIdeal m →
    (∀ c : Dev Cert.AdamRepIdeal.nD,
      m' ((c.tc : Thread Cert.AdamRepRefIdeal.nD Cert.AdamRepRefIdeal.τ).loc Cert.AdamRepRefIdeal.main_arg0) = m ((c.tc : Thread Cert.AdamRepIdeal.nD Cert.AdamRepIdeal.τ).loc Cert.AdamRepIdeal.main_arg0)
      ∧ m' ((c.tc : Thread Cert.AdamRepRefIdeal.nD Cert.AdamRepRefIdeal.τ).loc Cert.AdamRepRefIdeal.main_arg1) = m ((c.tc : Thread Cert.AdamRepIdeal.nD Cert.AdamRepIdeal.τ).loc Cert.AdamRepIdeal.main_arg1)
      ∧ m' ((c.tc : Thread Cert.AdamRepRefIdeal.nD Cert.AdamRepRefIdeal.τ).loc Cert.AdamRepRefIdeal.main_arg2) = m ((c.tc : Thread Cert.AdamRepIdeal.nD Cert.AdamRepIdeal.τ).loc Cert.AdamRepIdeal.main_arg2)
      ∧ m' ((c.tc : Thread Cert.AdamRepRefIdeal.nD Cert.AdamRepRefIdeal.τ).loc Cert.AdamRepRefIdeal.main_arg3) = m ((c.tc : Thread Cert.AdamRepIdeal.nD Cert.AdamRepIdeal.τ).loc Cert.AdamRepIdeal.main_arg3)) →
    ∃ (v0 : (c : Dev Cert.AdamRepIdeal.nD) → Buf (Elt Ideal) ((c.tc : Thread Cert.AdamRepIdeal.nD Cert.AdamRepIdeal.τ).loc Cert.AdamRepIdeal.main_v0_0)) (v1 : (c : Dev Cert.AdamRepIdeal.nD) → Buf (Elt Ideal) ((c.tc : Thread Cert.AdamRepIdeal.nD Cert.AdamRepIdeal.τ).loc Cert.AdamRepIdeal.main_v0_1)) (v2 : (c : Dev Cert.AdamRepIdeal.nD) → Buf (Elt Ideal) ((c.tc : Thread Cert.AdamRepIdeal.nD Cert.AdamRepIdeal.τ).loc Cert.AdamRepIdeal.main_v0_2)),
      θ_run (Cert.AdamRepIdeal.defs (F := Ideal)) (onTc (τ := Cert.AdamRepIdeal.τ) (Cert.AdamRepIdeal.main (F := Ideal))) ⟨m, fun _ => 0, g⟩ (fun r => ∀ c : Dev Cert.AdamRepIdeal.nD,
          r.2.mem ((c.tc : Thread Cert.AdamRepIdeal.nD Cert.AdamRepIdeal.τ).loc Cert.AdamRepIdeal.main_v0_0) = v0 c
          ∧ r.2.mem ((c.tc : Thread Cert.AdamRepIdeal.nD Cert.AdamRepIdeal.τ).loc Cert.AdamRepIdeal.main_v0_1) = v1 c
          ∧ r.2.mem ((c.tc : Thread Cert.AdamRepIdeal.nD Cert.AdamRepIdeal.τ).loc Cert.AdamRepIdeal.main_v0_2) = v2 c
          ∧ r.2.mem ((c.tc : Thread Cert.AdamRepIdeal.nD Cert.AdamRepIdeal.τ).loc Cert.AdamRepIdeal.main_arg0) = m ((c.tc : Thread Cert.AdamRepIdeal.nD Cert.AdamRepIdeal.τ).loc Cert.AdamRepIdeal.main_arg0)
          ∧ r.2.mem ((c.tc : Thread Cert.AdamRepIdeal.nD Cert.AdamRepIdeal.τ).loc Cert.AdamRepIdeal.main_arg1) = m ((c.tc : Thread Cert.AdamRepIdeal.nD Cert.AdamRepIdeal.τ).loc Cert.AdamRepIdeal.main_arg1)
          ∧ r.2.mem ((c.tc : Thread Cert.AdamRepIdeal.nD Cert.AdamRepIdeal.τ).loc Cert.AdamRepIdeal.main_arg2) = m ((c.tc : Thread Cert.AdamRepIdeal.nD Cert.AdamRepIdeal.τ).loc Cert.AdamRepIdeal.main_arg2)
          ∧ r.2.mem ((c.tc : Thread Cert.AdamRepIdeal.nD Cert.AdamRepIdeal.τ).loc Cert.AdamRepIdeal.main_arg3) = m ((c.tc : Thread Cert.AdamRepIdeal.nD Cert.AdamRepIdeal.τ).loc Cert.AdamRepIdeal.main_arg3))
      ∧ θ_run (Cert.AdamRepRefIdeal.defs (F := Ideal)) (onTc (τ := Cert.AdamRepRefIdeal.τ) (Cert.AdamRepRefIdeal.main (F := Ideal))) ⟨m', fun _ => 0, g'⟩ (fun r => ∀ c : Dev Cert.AdamRepRefIdeal.nD,
          r.2.mem ((c.tc : Thread Cert.AdamRepRefIdeal.nD Cert.AdamRepRefIdeal.τ).loc Cert.AdamRepRefIdeal.main_v23) = v0 c
          ∧ r.2.mem ((c.tc : Thread Cert.AdamRepRefIdeal.nD Cert.AdamRepRefIdeal.τ).loc Cert.AdamRepRefIdeal.main_v4) = v1 c
          ∧ r.2.mem ((c.tc : Thread Cert.AdamRepRefIdeal.nD Cert.AdamRepRefIdeal.τ).loc Cert.AdamRepRefIdeal.main_v10) = v2 c
          ∧ r.2.mem ((c.tc : Thread Cert.AdamRepRefIdeal.nD Cert.AdamRepRefIdeal.τ).loc Cert.AdamRepRefIdeal.main_arg0) = m' ((c.tc : Thread Cert.AdamRepRefIdeal.nD Cert.AdamRepRefIdeal.τ).loc Cert.AdamRepRefIdeal.main_arg0)
          ∧ r.2.mem ((c.tc : Thread Cert.AdamRepRefIdeal.nD Cert.AdamRepRefIdeal.τ).loc Cert.AdamRepRefIdeal.main_arg1) = m' ((c.tc : Thread Cert.AdamRepRefIdeal.nD Cert.AdamRepRefIdeal.τ).loc Cert.AdamRepRefIdeal.main_arg1)
          ∧ r.2.mem ((c.tc : Thread Cert.AdamRepRefIdeal.nD Cert.AdamRepRefIdeal.τ).loc Cert.AdamRepRefIdeal.main_arg2) = m' ((c.tc : Thread Cert.AdamRepRefIdeal.nD Cert.AdamRepRefIdeal.τ).loc Cert.AdamRepRefIdeal.main_arg2)
          ∧ r.2.mem ((c.tc : Thread Cert.AdamRepRefIdeal.nD Cert.AdamRepRefIdeal.τ).loc Cert.AdamRepRefIdeal.main_arg3) = m' ((c.tc : Thread Cert.AdamRepRefIdeal.nD Cert.AdamRepRefIdeal.τ).loc Cert.AdamRepRefIdeal.main_arg3))

def preserves_GradX_GradXIdeal : Prop :=
  True

def algebraic_GradXIdeal_GradXRefIdeal [hGradXIdeal : Cert.GradXIdeal.Facts] [hGradXRefIdeal : Cert.GradXRefIdeal.Facts] : Prop :=
  ∀ (m : (ℓ : Loc Cert.GradXIdeal.nD Cert.GradXIdeal.τ Cert.GradXIdeal.sig) → Buf (Elt Ideal) ℓ) (g : Dev Cert.GradXIdeal.nD → PrngReg)
    (m' : (ℓ : Loc Cert.GradXRefIdeal.nD Cert.GradXRefIdeal.τ Cert.GradXRefIdeal.sig) → Buf (Elt Ideal) ℓ) (g' : Dev Cert.GradXRefIdeal.nD → PrngReg), Pre_GradXIdeal m →
    (∀ c : Dev Cert.GradXIdeal.nD,
      m' ((c.tc : Thread Cert.GradXRefIdeal.nD Cert.GradXRefIdeal.τ).loc Cert.GradXRefIdeal.main_arg0) = m ((c.tc : Thread Cert.GradXIdeal.nD Cert.GradXIdeal.τ).loc Cert.GradXIdeal.main_arg0)
      ∧ m' ((c.tc : Thread Cert.GradXRefIdeal.nD Cert.GradXRefIdeal.τ).loc Cert.GradXRefIdeal.main_arg1) = m ((c.tc : Thread Cert.GradXIdeal.nD Cert.GradXIdeal.τ).loc Cert.GradXIdeal.main_arg1)
      ∧ m' ((c.tc : Thread Cert.GradXRefIdeal.nD Cert.GradXRefIdeal.τ).loc Cert.GradXRefIdeal.main_arg2) = m ((c.tc : Thread Cert.GradXIdeal.nD Cert.GradXIdeal.τ).loc Cert.GradXIdeal.main_arg2)
      ∧ m' ((c.tc : Thread Cert.GradXRefIdeal.nD Cert.GradXRefIdeal.τ).loc Cert.GradXRefIdeal.main_arg3) = m ((c.tc : Thread Cert.GradXIdeal.nD Cert.GradXIdeal.τ).loc Cert.GradXIdeal.main_arg3)) →
    ∃ (v0 : (c : Dev Cert.GradXIdeal.nD) → Buf (Elt Ideal) ((c.tc : Thread Cert.GradXIdeal.nD Cert.GradXIdeal.τ).loc Cert.GradXIdeal.main_v0_0)) (v1 : (c : Dev Cert.GradXIdeal.nD) → Buf (Elt Ideal) ((c.tc : Thread Cert.GradXIdeal.nD Cert.GradXIdeal.τ).loc Cert.GradXIdeal.main_v0_1)),
      θ_run (Cert.GradXIdeal.defs (F := Ideal)) (onTc (τ := Cert.GradXIdeal.τ) (Cert.GradXIdeal.main (F := Ideal))) ⟨m, fun _ => 0, g⟩ (fun r => ∀ c : Dev Cert.GradXIdeal.nD,
          r.2.mem ((c.tc : Thread Cert.GradXIdeal.nD Cert.GradXIdeal.τ).loc Cert.GradXIdeal.main_v0_0) = v0 c
          ∧ r.2.mem ((c.tc : Thread Cert.GradXIdeal.nD Cert.GradXIdeal.τ).loc Cert.GradXIdeal.main_v0_1) = v1 c
          ∧ r.2.mem ((c.tc : Thread Cert.GradXIdeal.nD Cert.GradXIdeal.τ).loc Cert.GradXIdeal.main_arg0) = m ((c.tc : Thread Cert.GradXIdeal.nD Cert.GradXIdeal.τ).loc Cert.GradXIdeal.main_arg0)
          ∧ r.2.mem ((c.tc : Thread Cert.GradXIdeal.nD Cert.GradXIdeal.τ).loc Cert.GradXIdeal.main_arg1) = m ((c.tc : Thread Cert.GradXIdeal.nD Cert.GradXIdeal.τ).loc Cert.GradXIdeal.main_arg1)
          ∧ r.2.mem ((c.tc : Thread Cert.GradXIdeal.nD Cert.GradXIdeal.τ).loc Cert.GradXIdeal.main_arg2) = m ((c.tc : Thread Cert.GradXIdeal.nD Cert.GradXIdeal.τ).loc Cert.GradXIdeal.main_arg2)
          ∧ r.2.mem ((c.tc : Thread Cert.GradXIdeal.nD Cert.GradXIdeal.τ).loc Cert.GradXIdeal.main_arg3) = m ((c.tc : Thread Cert.GradXIdeal.nD Cert.GradXIdeal.τ).loc Cert.GradXIdeal.main_arg3))
      ∧ θ_run (Cert.GradXRefIdeal.defs (F := Ideal)) (onTc (τ := Cert.GradXRefIdeal.τ) (Cert.GradXRefIdeal.main (F := Ideal))) ⟨m', fun _ => 0, g'⟩ (fun r => ∀ c : Dev Cert.GradXRefIdeal.nD,
          r.2.mem ((c.tc : Thread Cert.GradXRefIdeal.nD Cert.GradXRefIdeal.τ).loc Cert.GradXRefIdeal.main_v34) = v0 c
          ∧ r.2.mem ((c.tc : Thread Cert.GradXRefIdeal.nD Cert.GradXRefIdeal.τ).loc Cert.GradXRefIdeal.main_v17) = v1 c
          ∧ r.2.mem ((c.tc : Thread Cert.GradXRefIdeal.nD Cert.GradXRefIdeal.τ).loc Cert.GradXRefIdeal.main_arg0) = m' ((c.tc : Thread Cert.GradXRefIdeal.nD Cert.GradXRefIdeal.τ).loc Cert.GradXRefIdeal.main_arg0)
          ∧ r.2.mem ((c.tc : Thread Cert.GradXRefIdeal.nD Cert.GradXRefIdeal.τ).loc Cert.GradXRefIdeal.main_arg1) = m' ((c.tc : Thread Cert.GradXRefIdeal.nD Cert.GradXRefIdeal.τ).loc Cert.GradXRefIdeal.main_arg1)
          ∧ r.2.mem ((c.tc : Thread Cert.GradXRefIdeal.nD Cert.GradXRefIdeal.τ).loc Cert.GradXRefIdeal.main_arg2) = m' ((c.tc : Thread Cert.GradXRefIdeal.nD Cert.GradXRefIdeal.τ).loc Cert.GradXRefIdeal.main_arg2)
          ∧ r.2.mem ((c.tc : Thread Cert.GradXRefIdeal.nD Cert.GradXRefIdeal.τ).loc Cert.GradXRefIdeal.main_arg3) = m' ((c.tc : Thread Cert.GradXRefIdeal.nD Cert.GradXRefIdeal.τ).loc Cert.GradXRefIdeal.main_arg3))

def preserves_FfnNorm_FfnNormIdeal : Prop :=
  True

def algebraic_FfnNormIdeal_FfnNormRefIdeal [hFfnNormIdeal : Cert.FfnNormIdeal.Facts] [hFfnNormRefIdeal : Cert.FfnNormRefIdeal.Facts] : Prop :=
  ∀ (m : (ℓ : Loc Cert.FfnNormIdeal.nD Cert.FfnNormIdeal.τ Cert.FfnNormIdeal.sig) → Buf (Elt Ideal) ℓ) (g : Dev Cert.FfnNormIdeal.nD → PrngReg)
    (m' : (ℓ : Loc Cert.FfnNormRefIdeal.nD Cert.FfnNormRefIdeal.τ Cert.FfnNormRefIdeal.sig) → Buf (Elt Ideal) ℓ) (g' : Dev Cert.FfnNormRefIdeal.nD → PrngReg), Pre_FfnNormIdeal m →
    (∀ c : Dev Cert.FfnNormIdeal.nD,
      m' ((c.tc : Thread Cert.FfnNormRefIdeal.nD Cert.FfnNormRefIdeal.τ).loc Cert.FfnNormRefIdeal.main_arg0) = m ((c.tc : Thread Cert.FfnNormIdeal.nD Cert.FfnNormIdeal.τ).loc Cert.FfnNormIdeal.main_arg0)
      ∧ m' ((c.tc : Thread Cert.FfnNormRefIdeal.nD Cert.FfnNormRefIdeal.τ).loc Cert.FfnNormRefIdeal.main_arg1) = m ((c.tc : Thread Cert.FfnNormIdeal.nD Cert.FfnNormIdeal.τ).loc Cert.FfnNormIdeal.main_arg1)) →
    ∃ (v0 : (c : Dev Cert.FfnNormIdeal.nD) → Buf (Elt Ideal) ((c.tc : Thread Cert.FfnNormIdeal.nD Cert.FfnNormIdeal.τ).loc Cert.FfnNormIdeal.main_v0)),
      θ_run (Cert.FfnNormIdeal.defs (F := Ideal)) (onTc (τ := Cert.FfnNormIdeal.τ) (Cert.FfnNormIdeal.main (F := Ideal))) ⟨m, fun _ => 0, g⟩ (fun r => ∀ c : Dev Cert.FfnNormIdeal.nD,
          r.2.mem ((c.tc : Thread Cert.FfnNormIdeal.nD Cert.FfnNormIdeal.τ).loc Cert.FfnNormIdeal.main_v0) = v0 c
          ∧ r.2.mem ((c.tc : Thread Cert.FfnNormIdeal.nD Cert.FfnNormIdeal.τ).loc Cert.FfnNormIdeal.main_arg0) = m ((c.tc : Thread Cert.FfnNormIdeal.nD Cert.FfnNormIdeal.τ).loc Cert.FfnNormIdeal.main_arg0)
          ∧ r.2.mem ((c.tc : Thread Cert.FfnNormIdeal.nD Cert.FfnNormIdeal.τ).loc Cert.FfnNormIdeal.main_arg1) = m ((c.tc : Thread Cert.FfnNormIdeal.nD Cert.FfnNormIdeal.τ).loc Cert.FfnNormIdeal.main_arg1))
      ∧ θ_run (Cert.FfnNormRefIdeal.defs (F := Ideal)) (onTc (τ := Cert.FfnNormRefIdeal.τ) (Cert.FfnNormRefIdeal.main (F := Ideal))) ⟨m', fun _ => 0, g'⟩ (fun r => ∀ c : Dev Cert.FfnNormRefIdeal.nD,
          r.2.mem ((c.tc : Thread Cert.FfnNormRefIdeal.nD Cert.FfnNormRefIdeal.τ).loc Cert.FfnNormRefIdeal.main_v12) = v0 c
          ∧ r.2.mem ((c.tc : Thread Cert.FfnNormRefIdeal.nD Cert.FfnNormRefIdeal.τ).loc Cert.FfnNormRefIdeal.main_arg0) = m' ((c.tc : Thread Cert.FfnNormRefIdeal.nD Cert.FfnNormRefIdeal.τ).loc Cert.FfnNormRefIdeal.main_arg0)
          ∧ r.2.mem ((c.tc : Thread Cert.FfnNormRefIdeal.nD Cert.FfnNormRefIdeal.τ).loc Cert.FfnNormRefIdeal.main_arg1) = m' ((c.tc : Thread Cert.FfnNormRefIdeal.nD Cert.FfnNormRefIdeal.τ).loc Cert.FfnNormRefIdeal.main_arg1))

def preserves_FfnUp_FfnUpIdeal : Prop :=
  True

def algebraic_FfnUpIdeal_FfnUpRefIdeal [hFfnUpIdeal : Cert.FfnUpIdeal.Facts] [hFfnUpRefIdeal : Cert.FfnUpRefIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)) →
    ∃ (v0 : (c : Dev Cert.FfnUpIdeal.nD) → Buf (Elt Ideal) ((c.tc : Thread Cert.FfnUpIdeal.nD Cert.FfnUpIdeal.τ).loc Cert.FfnUpIdeal.main_v0)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v0) = v0 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v2) = v0 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1))

def preserves_FfnAct_FfnActIdeal : Prop :=
  True

def algebraic_FfnActIdeal_FfnActRefIdeal [hFfnActIdeal : Cert.FfnActIdeal.Facts] [hFfnActRefIdeal : Cert.FfnActRefIdeal.Facts] : Prop :=
  ∀ (m : (ℓ : Loc Cert.FfnActIdeal.nD Cert.FfnActIdeal.τ Cert.FfnActIdeal.sig) → Buf (Elt Ideal) ℓ) (g : Dev Cert.FfnActIdeal.nD → PrngReg)
    (m' : (ℓ : Loc Cert.FfnActRefIdeal.nD Cert.FfnActRefIdeal.τ Cert.FfnActRefIdeal.sig) → Buf (Elt Ideal) ℓ) (g' : Dev Cert.FfnActRefIdeal.nD → PrngReg), Pre_FfnActIdeal m →
    (∀ c : Dev Cert.FfnActIdeal.nD,
      m' ((c.tc : Thread Cert.FfnActRefIdeal.nD Cert.FfnActRefIdeal.τ).loc Cert.FfnActRefIdeal.main_arg0) = m ((c.tc : Thread Cert.FfnActIdeal.nD Cert.FfnActIdeal.τ).loc Cert.FfnActIdeal.main_arg0)
      ∧ m' ((c.tc : Thread Cert.FfnActRefIdeal.nD Cert.FfnActRefIdeal.τ).loc Cert.FfnActRefIdeal.main_arg1) = m ((c.tc : Thread Cert.FfnActIdeal.nD Cert.FfnActIdeal.τ).loc Cert.FfnActIdeal.main_arg1)
      ∧ m' ((c.tc : Thread Cert.FfnActRefIdeal.nD Cert.FfnActRefIdeal.τ).loc Cert.FfnActRefIdeal.main_arg2) = m ((c.tc : Thread Cert.FfnActIdeal.nD Cert.FfnActIdeal.τ).loc Cert.FfnActIdeal.main_arg2)) →
    ∃ (v0 : (c : Dev Cert.FfnActIdeal.nD) → Buf (Elt Ideal) ((c.tc : Thread Cert.FfnActIdeal.nD Cert.FfnActIdeal.τ).loc Cert.FfnActIdeal.main_v0)),
      θ_run (Cert.FfnActIdeal.defs (F := Ideal)) (onTc (τ := Cert.FfnActIdeal.τ) (Cert.FfnActIdeal.main (F := Ideal))) ⟨m, fun _ => 0, g⟩ (fun r => ∀ c : Dev Cert.FfnActIdeal.nD,
          r.2.mem ((c.tc : Thread Cert.FfnActIdeal.nD Cert.FfnActIdeal.τ).loc Cert.FfnActIdeal.main_v0) = v0 c
          ∧ r.2.mem ((c.tc : Thread Cert.FfnActIdeal.nD Cert.FfnActIdeal.τ).loc Cert.FfnActIdeal.main_arg0) = m ((c.tc : Thread Cert.FfnActIdeal.nD Cert.FfnActIdeal.τ).loc Cert.FfnActIdeal.main_arg0)
          ∧ r.2.mem ((c.tc : Thread Cert.FfnActIdeal.nD Cert.FfnActIdeal.τ).loc Cert.FfnActIdeal.main_arg1) = m ((c.tc : Thread Cert.FfnActIdeal.nD Cert.FfnActIdeal.τ).loc Cert.FfnActIdeal.main_arg1)
          ∧ r.2.mem ((c.tc : Thread Cert.FfnActIdeal.nD Cert.FfnActIdeal.τ).loc Cert.FfnActIdeal.main_arg2) = m ((c.tc : Thread Cert.FfnActIdeal.nD Cert.FfnActIdeal.τ).loc Cert.FfnActIdeal.main_arg2))
      ∧ θ_run (Cert.FfnActRefIdeal.defs (F := Ideal)) (onTc (τ := Cert.FfnActRefIdeal.τ) (Cert.FfnActRefIdeal.main (F := Ideal))) ⟨m', fun _ => 0, g'⟩ (fun r => ∀ c : Dev Cert.FfnActRefIdeal.nD,
          r.2.mem ((c.tc : Thread Cert.FfnActRefIdeal.nD Cert.FfnActRefIdeal.τ).loc Cert.FfnActRefIdeal.main_v29) = v0 c
          ∧ r.2.mem ((c.tc : Thread Cert.FfnActRefIdeal.nD Cert.FfnActRefIdeal.τ).loc Cert.FfnActRefIdeal.main_arg0) = m' ((c.tc : Thread Cert.FfnActRefIdeal.nD Cert.FfnActRefIdeal.τ).loc Cert.FfnActRefIdeal.main_arg0)
          ∧ r.2.mem ((c.tc : Thread Cert.FfnActRefIdeal.nD Cert.FfnActRefIdeal.τ).loc Cert.FfnActRefIdeal.main_arg1) = m' ((c.tc : Thread Cert.FfnActRefIdeal.nD Cert.FfnActRefIdeal.τ).loc Cert.FfnActRefIdeal.main_arg1)
          ∧ r.2.mem ((c.tc : Thread Cert.FfnActRefIdeal.nD Cert.FfnActRefIdeal.τ).loc Cert.FfnActRefIdeal.main_arg2) = m' ((c.tc : Thread Cert.FfnActRefIdeal.nD Cert.FfnActRefIdeal.τ).loc Cert.FfnActRefIdeal.main_arg2))

def preserves_FfnDown_FfnDownIdeal : Prop :=
  True

def algebraic_FfnDownIdeal_FfnDownRefIdeal [hFfnDownIdeal : Cert.FfnDownIdeal.Facts] [hFfnDownRefIdeal : Cert.FfnDownRefIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownRefIdeal.nD Cert.FfnDownRefIdeal.τ Cert.FfnDownRefIdeal.sig) → Buf (Elt Ideal) ℓ) (g' : Dev Cert.FfnDownRefIdeal.nD → PrngReg), Pre_FfnDownIdeal m →
    (∀ c : Dev Cert.FfnDownIdeal.nD,
      m' ((c.tc : Thread Cert.FfnDownRefIdeal.nD Cert.FfnDownRefIdeal.τ).loc Cert.FfnDownRefIdeal.main_arg0) = m ((c.tc : Thread Cert.FfnDownIdeal.nD Cert.FfnDownIdeal.τ).loc Cert.FfnDownIdeal.main_arg0)
      ∧ m' ((c.tc : Thread Cert.FfnDownRefIdeal.nD Cert.FfnDownRefIdeal.τ).loc Cert.FfnDownRefIdeal.main_arg1) = m ((c.tc : Thread Cert.FfnDownIdeal.nD Cert.FfnDownIdeal.τ).loc Cert.FfnDownIdeal.main_arg1)
      ∧ m' ((c.tc : Thread Cert.FfnDownRefIdeal.nD Cert.FfnDownRefIdeal.τ).loc Cert.FfnDownRefIdeal.main_arg2) = m ((c.tc : Thread Cert.FfnDownIdeal.nD Cert.FfnDownIdeal.τ).loc Cert.FfnDownIdeal.main_arg2)) →
    ∃ (v0 : (c : Dev Cert.FfnDownIdeal.nD) → Buf (Elt Ideal) ((c.tc : Thread Cert.FfnDownIdeal.nD Cert.FfnDownIdeal.τ).loc Cert.FfnDownIdeal.main_v0)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v0) = v0 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
          ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2))
      ∧ θ_run (Cert.FfnDownRefIdeal.defs (F := Ideal)) (onTc (τ := Cert.FfnDownRefIdeal.τ) (Cert.FfnDownRefIdeal.main (F := Ideal))) ⟨m', fun _ => 0, g'⟩ (fun r => ∀ c : Dev Cert.FfnDownRefIdeal.nD,
          r.2.mem ((c.tc : Thread Cert.FfnDownRefIdeal.nD Cert.FfnDownRefIdeal.τ).loc Cert.FfnDownRefIdeal.main_v3) = v0 c
          ∧ r.2.mem ((c.tc : Thread Cert.FfnDownRefIdeal.nD Cert.FfnDownRefIdeal.τ).loc Cert.FfnDownRefIdeal.main_arg0) = m' ((c.tc : Thread Cert.FfnDownRefIdeal.nD Cert.FfnDownRefIdeal.τ).loc Cert.FfnDownRefIdeal.main_arg0)
          ∧ r.2.mem ((c.tc : Thread Cert.FfnDownRefIdeal.nD Cert.FfnDownRefIdeal.τ).loc Cert.FfnDownRefIdeal.main_arg1) = m' ((c.tc : Thread Cert.FfnDownRefIdeal.nD Cert.FfnDownRefIdeal.τ).loc Cert.FfnDownRefIdeal.main_arg1)
          ∧ r.2.mem ((c.tc : Thread Cert.FfnDownRefIdeal.nD Cert.FfnDownRefIdeal.τ).loc Cert.FfnDownRefIdeal.main_arg2) = m' ((c.tc : Thread Cert.FfnDownRefIdeal.nD Cert.FfnDownRefIdeal.τ).loc Cert.FfnDownRefIdeal.main_arg2))

def preserves_FfnDownDx_FfnDownDxIdeal : Prop :=
  True

def algebraic_FfnDownDxIdeal_FfnDownDxRefIdeal [hFfnDownDxIdeal : Cert.FfnDownDxIdeal.Facts] [hFfnDownDxRefIdeal : Cert.FfnDownDxRefIdeal.Facts] : Prop :=
  ∀ (m : (ℓ : Loc Cert.FfnDownDxIdeal.nD Cert.FfnDownDxIdeal.τ Cert.FfnDownDxIdeal.sig) → Buf (Elt Ideal) ℓ) (g : Dev Cert.FfnDownDxIdeal.nD → PrngReg)
    (m' : (ℓ : Loc Cert.FfnDownDxRefIdeal.nD Cert.FfnDownDxRefIdeal.τ Cert.FfnDownDxRefIdeal.sig) → Buf (Elt Ideal) ℓ) (g' : Dev Cert.FfnDownDxRefIdeal.nD → PrngReg), Pre_FfnDownDxIdeal m →
    (∀ c : Dev Cert.FfnDownDxIdeal.nD,
      m' ((c.tc : Thread Cert.FfnDownDxRefIdeal.nD Cert.FfnDownDxRefIdeal.τ).loc Cert.FfnDownDxRefIdeal.main_arg0) = m ((c.tc : Thread Cert.FfnDownDxIdeal.nD Cert.FfnDownDxIdeal.τ).loc Cert.FfnDownDxIdeal.main_arg0)
      ∧ m' ((c.tc : Thread Cert.FfnDownDxRefIdeal.nD Cert.FfnDownDxRefIdeal.τ).loc Cert.FfnDownDxRefIdeal.main_arg1) = m ((c.tc : Thread Cert.FfnDownDxIdeal.nD Cert.FfnDownDxIdeal.τ).loc Cert.FfnDownDxIdeal.main_arg1)) →
    ∃ (v0 : (c : Dev Cert.FfnDownDxIdeal.nD) → Buf (Elt Ideal) ((c.tc : Thread Cert.FfnDownDxIdeal.nD Cert.FfnDownDxIdeal.τ).loc Cert.FfnDownDxIdeal.main_v0)),
      θ_run (Cert.FfnDownDxIdeal.defs (F := Ideal)) (onTc (τ := Cert.FfnDownDxIdeal.τ) (Cert.FfnDownDxIdeal.main (F := Ideal))) ⟨m, fun _ => 0, g⟩ (fun r => ∀ c : Dev Cert.FfnDownDxIdeal.nD,
          r.2.mem ((c.tc : Thread Cert.FfnDownDxIdeal.nD Cert.FfnDownDxIdeal.τ).loc Cert.FfnDownDxIdeal.main_v0) = v0 c
          ∧ r.2.mem ((c.tc : Thread Cert.FfnDownDxIdeal.nD Cert.FfnDownDxIdeal.τ).loc Cert.FfnDownDxIdeal.main_arg0) = m ((c.tc : Thread Cert.FfnDownDxIdeal.nD Cert.FfnDownDxIdeal.τ).loc Cert.FfnDownDxIdeal.main_arg0)
          ∧ r.2.mem ((c.tc : Thread Cert.FfnDownDxIdeal.nD Cert.FfnDownDxIdeal.τ).loc Cert.FfnDownDxIdeal.main_arg1) = m ((c.tc : Thread Cert.FfnDownDxIdeal.nD Cert.FfnDownDxIdeal.τ).loc Cert.FfnDownDxIdeal.main_arg1))
      ∧ θ_run (Cert.FfnDownDxRefIdeal.defs (F := Ideal)) (onTc (τ := Cert.FfnDownDxRefIdeal.τ) (Cert.FfnDownDxRefIdeal.main (F := Ideal))) ⟨m', fun _ => 0, g'⟩ (fun r => ∀ c : Dev Cert.FfnDownDxRefIdeal.nD,
          r.2.mem ((c.tc : Thread Cert.FfnDownDxRefIdeal.nD Cert.FfnDownDxRefIdeal.τ).loc Cert.FfnDownDxRefIdeal.main_v2) = v0 c
          ∧ r.2.mem ((c.tc : Thread Cert.FfnDownDxRefIdeal.nD Cert.FfnDownDxRefIdeal.τ).loc Cert.FfnDownDxRefIdeal.main_arg0) = m' ((c.tc : Thread Cert.FfnDownDxRefIdeal.nD Cert.FfnDownDxRefIdeal.τ).loc Cert.FfnDownDxRefIdeal.main_arg0)
          ∧ r.2.mem ((c.tc : Thread Cert.FfnDownDxRefIdeal.nD Cert.FfnDownDxRefIdeal.τ).loc Cert.FfnDownDxRefIdeal.main_arg1) = m' ((c.tc : Thread Cert.FfnDownDxRefIdeal.nD Cert.FfnDownDxRefIdeal.τ).loc Cert.FfnDownDxRefIdeal.main_arg1))

def preserves_FfnDownDw_FfnDownDwIdeal : Prop :=
  True

def algebraic_FfnDownDwIdeal_FfnDownDwRefIdeal [hFfnDownDwIdeal : Cert.FfnDownDwIdeal.Facts] [hFfnDownDwRefIdeal : Cert.FfnDownDwRefIdeal.Facts] : Prop :=
  ∀ (m : (ℓ : Loc Cert.FfnDownDwIdeal.nD Cert.FfnDownDwIdeal.τ Cert.FfnDownDwIdeal.sig) → Buf (Elt Ideal) ℓ) (g : Dev Cert.FfnDownDwIdeal.nD → PrngReg)
    (m' : (ℓ : Loc Cert.FfnDownDwRefIdeal.nD Cert.FfnDownDwRefIdeal.τ Cert.FfnDownDwRefIdeal.sig) → Buf (Elt Ideal) ℓ) (g' : Dev Cert.FfnDownDwRefIdeal.nD → PrngReg), Pre_FfnDownDwIdeal m →
    (∀ c : Dev Cert.FfnDownDwIdeal.nD,
      m' ((c.tc : Thread Cert.FfnDownDwRefIdeal.nD Cert.FfnDownDwRefIdeal.τ).loc Cert.FfnDownDwRefIdeal.main_arg0) = m ((c.tc : Thread Cert.FfnDownDwIdeal.nD Cert.FfnDownDwIdeal.τ).loc Cert.FfnDownDwIdeal.main_arg0)
      ∧ m' ((c.tc : Thread Cert.FfnDownDwRefIdeal.nD Cert.FfnDownDwRefIdeal.τ).loc Cert.FfnDownDwRefIdeal.main_arg1) = m ((c.tc : Thread Cert.FfnDownDwIdeal.nD Cert.FfnDownDwIdeal.τ).loc Cert.FfnDownDwIdeal.main_arg1)) →
    ∃ (v0 : (c : Dev Cert.FfnDownDwIdeal.nD) → Buf (Elt Ideal) ((c.tc : Thread Cert.FfnDownDwIdeal.nD Cert.FfnDownDwIdeal.τ).loc Cert.FfnDownDwIdeal.main_v0)),
      θ_run (Cert.FfnDownDwIdeal.defs (F := Ideal)) (onTc (τ := Cert.FfnDownDwIdeal.τ) (Cert.FfnDownDwIdeal.main (F := Ideal))) ⟨m, fun _ => 0, g⟩ (fun r => ∀ c : Dev Cert.FfnDownDwIdeal.nD,
          r.2.mem ((c.tc : Thread Cert.FfnDownDwIdeal.nD Cert.FfnDownDwIdeal.τ).loc Cert.FfnDownDwIdeal.main_v0) = v0 c
          ∧ r.2.mem ((c.tc : Thread Cert.FfnDownDwIdeal.nD Cert.FfnDownDwIdeal.τ).loc Cert.FfnDownDwIdeal.main_arg0) = m ((c.tc : Thread Cert.FfnDownDwIdeal.nD Cert.FfnDownDwIdeal.τ).loc Cert.FfnDownDwIdeal.main_arg0)
          ∧ r.2.mem ((c.tc : Thread Cert.FfnDownDwIdeal.nD Cert.FfnDownDwIdeal.τ).loc Cert.FfnDownDwIdeal.main_arg1) = m ((c.tc : Thread Cert.FfnDownDwIdeal.nD Cert.FfnDownDwIdeal.τ).loc Cert.FfnDownDwIdeal.main_arg1))
      ∧ θ_run (Cert.FfnDownDwRefIdeal.defs (F := Ideal)) (onTc (τ := Cert.FfnDownDwRefIdeal.τ) (Cert.FfnDownDwRefIdeal.main (F := Ideal))) ⟨m', fun _ => 0, g'⟩ (fun r => ∀ c : Dev Cert.FfnDownDwRefIdeal.nD,
          r.2.mem ((c.tc : Thread Cert.FfnDownDwRefIdeal.nD Cert.FfnDownDwRefIdeal.τ).loc Cert.FfnDownDwRefIdeal.main_v2) = v0 c
          ∧ r.2.mem ((c.tc : Thread Cert.FfnDownDwRefIdeal.nD Cert.FfnDownDwRefIdeal.τ).loc Cert.FfnDownDwRefIdeal.main_arg0) = m' ((c.tc : Thread Cert.FfnDownDwRefIdeal.nD Cert.FfnDownDwRefIdeal.τ).loc Cert.FfnDownDwRefIdeal.main_arg0)
          ∧ r.2.mem ((c.tc : Thread Cert.FfnDownDwRefIdeal.nD Cert.FfnDownDwRefIdeal.τ).loc Cert.FfnDownDwRefIdeal.main_arg1) = m' ((c.tc : Thread Cert.FfnDownDwRefIdeal.nD Cert.FfnDownDwRefIdeal.τ).loc Cert.FfnDownDwRefIdeal.main_arg1))

def preserves_FfnUpDx_FfnUpDxIdeal : Prop :=
  True

def algebraic_FfnUpDxIdeal_FfnUpDxRefIdeal [hFfnUpDxIdeal : Cert.FfnUpDxIdeal.Facts] [hFfnUpDxRefIdeal : Cert.FfnUpDxRefIdeal.Facts] : Prop :=
  ∀ (m : (ℓ : Loc Cert.FfnUpDxIdeal.nD Cert.FfnUpDxIdeal.τ Cert.FfnUpDxIdeal.sig) → Buf (Elt Ideal) ℓ) (g : Dev Cert.FfnUpDxIdeal.nD → PrngReg)
    (m' : (ℓ : Loc Cert.FfnUpDxRefIdeal.nD Cert.FfnUpDxRefIdeal.τ Cert.FfnUpDxRefIdeal.sig) → Buf (Elt Ideal) ℓ) (g' : Dev Cert.FfnUpDxRefIdeal.nD → PrngReg), Pre_FfnUpDxIdeal m →
    (∀ c : Dev Cert.FfnUpDxIdeal.nD,
      m' ((c.tc : Thread Cert.FfnUpDxRefIdeal.nD Cert.FfnUpDxRefIdeal.τ).loc Cert.FfnUpDxRefIdeal.main_arg0) = m ((c.tc : Thread Cert.FfnUpDxIdeal.nD Cert.FfnUpDxIdeal.τ).loc Cert.FfnUpDxIdeal.main_arg0)
      ∧ m' ((c.tc : Thread Cert.FfnUpDxRefIdeal.nD Cert.FfnUpDxRefIdeal.τ).loc Cert.FfnUpDxRefIdeal.main_arg1) = m ((c.tc : Thread Cert.FfnUpDxIdeal.nD Cert.FfnUpDxIdeal.τ).loc Cert.FfnUpDxIdeal.main_arg1)) →
    ∃ (v0 : (c : Dev Cert.FfnUpDxIdeal.nD) → Buf (Elt Ideal) ((c.tc : Thread Cert.FfnUpDxIdeal.nD Cert.FfnUpDxIdeal.τ).loc Cert.FfnUpDxIdeal.main_v0)),
      θ_run (Cert.FfnUpDxIdeal.defs (F := Ideal)) (onTc (τ := Cert.FfnUpDxIdeal.τ) (Cert.FfnUpDxIdeal.main (F := Ideal))) ⟨m, fun _ => 0, g⟩ (fun r => ∀ c : Dev Cert.FfnUpDxIdeal.nD,
          r.2.mem ((c.tc : Thread Cert.FfnUpDxIdeal.nD Cert.FfnUpDxIdeal.τ).loc Cert.FfnUpDxIdeal.main_v0) = v0 c
          ∧ r.2.mem ((c.tc : Thread Cert.FfnUpDxIdeal.nD Cert.FfnUpDxIdeal.τ).loc Cert.FfnUpDxIdeal.main_arg0) = m ((c.tc : Thread Cert.FfnUpDxIdeal.nD Cert.FfnUpDxIdeal.τ).loc Cert.FfnUpDxIdeal.main_arg0)
          ∧ r.2.mem ((c.tc : Thread Cert.FfnUpDxIdeal.nD Cert.FfnUpDxIdeal.τ).loc Cert.FfnUpDxIdeal.main_arg1) = m ((c.tc : Thread Cert.FfnUpDxIdeal.nD Cert.FfnUpDxIdeal.τ).loc Cert.FfnUpDxIdeal.main_arg1))
      ∧ θ_run (Cert.FfnUpDxRefIdeal.defs (F := Ideal)) (onTc (τ := Cert.FfnUpDxRefIdeal.τ) (Cert.FfnUpDxRefIdeal.main (F := Ideal))) ⟨m', fun _ => 0, g'⟩ (fun r => ∀ c : Dev Cert.FfnUpDxRefIdeal.nD,
          r.2.mem ((c.tc : Thread Cert.FfnUpDxRefIdeal.nD Cert.FfnUpDxRefIdeal.τ).loc Cert.FfnUpDxRefIdeal.main_v3) = v0 c
          ∧ r.2.mem ((c.tc : Thread Cert.FfnUpDxRefIdeal.nD Cert.FfnUpDxRefIdeal.τ).loc Cert.FfnUpDxRefIdeal.main_arg0) = m' ((c.tc : Thread Cert.FfnUpDxRefIdeal.nD Cert.FfnUpDxRefIdeal.τ).loc Cert.FfnUpDxRefIdeal.main_arg0)
          ∧ r.2.mem ((c.tc : Thread Cert.FfnUpDxRefIdeal.nD Cert.FfnUpDxRefIdeal.τ).loc Cert.FfnUpDxRefIdeal.main_arg1) = m' ((c.tc : Thread Cert.FfnUpDxRefIdeal.nD Cert.FfnUpDxRefIdeal.τ).loc Cert.FfnUpDxRefIdeal.main_arg1))

def preserves_FfnUpDw_FfnUpDwIdeal : Prop :=
  True

def algebraic_FfnUpDwIdeal_FfnUpDwRefIdeal [hFfnUpDwIdeal : Cert.FfnUpDwIdeal.Facts] [hFfnUpDwRefIdeal : Cert.FfnUpDwRefIdeal.Facts] : Prop :=
  ∀ (m : (ℓ : Loc Cert.FfnUpDwIdeal.nD Cert.FfnUpDwIdeal.τ Cert.FfnUpDwIdeal.sig) → Buf (Elt Ideal) ℓ) (g : Dev Cert.FfnUpDwIdeal.nD → PrngReg)
    (m' : (ℓ : Loc Cert.FfnUpDwRefIdeal.nD Cert.FfnUpDwRefIdeal.τ Cert.FfnUpDwRefIdeal.sig) → Buf (Elt Ideal) ℓ) (g' : Dev Cert.FfnUpDwRefIdeal.nD → PrngReg), Pre_FfnUpDwIdeal m →
    (∀ c : Dev Cert.FfnUpDwIdeal.nD,
      m' ((c.tc : Thread Cert.FfnUpDwRefIdeal.nD Cert.FfnUpDwRefIdeal.τ).loc Cert.FfnUpDwRefIdeal.main_arg0) = m ((c.tc : Thread Cert.FfnUpDwIdeal.nD Cert.FfnUpDwIdeal.τ).loc Cert.FfnUpDwIdeal.main_arg0)
      ∧ m' ((c.tc : Thread Cert.FfnUpDwRefIdeal.nD Cert.FfnUpDwRefIdeal.τ).loc Cert.FfnUpDwRefIdeal.main_arg1) = m ((c.tc : Thread Cert.FfnUpDwIdeal.nD Cert.FfnUpDwIdeal.τ).loc Cert.FfnUpDwIdeal.main_arg1)) →
    ∃ (v0 : (c : Dev Cert.FfnUpDwIdeal.nD) → Buf (Elt Ideal) ((c.tc : Thread Cert.FfnUpDwIdeal.nD Cert.FfnUpDwIdeal.τ).loc Cert.FfnUpDwIdeal.main_v0)),
      θ_run (Cert.FfnUpDwIdeal.defs (F := Ideal)) (onTc (τ := Cert.FfnUpDwIdeal.τ) (Cert.FfnUpDwIdeal.main (F := Ideal))) ⟨m, fun _ => 0, g⟩ (fun r => ∀ c : Dev Cert.FfnUpDwIdeal.nD,
          r.2.mem ((c.tc : Thread Cert.FfnUpDwIdeal.nD Cert.FfnUpDwIdeal.τ).loc Cert.FfnUpDwIdeal.main_v0) = v0 c
          ∧ r.2.mem ((c.tc : Thread Cert.FfnUpDwIdeal.nD Cert.FfnUpDwIdeal.τ).loc Cert.FfnUpDwIdeal.main_arg0) = m ((c.tc : Thread Cert.FfnUpDwIdeal.nD Cert.FfnUpDwIdeal.τ).loc Cert.FfnUpDwIdeal.main_arg0)
          ∧ r.2.mem ((c.tc : Thread Cert.FfnUpDwIdeal.nD Cert.FfnUpDwIdeal.τ).loc Cert.FfnUpDwIdeal.main_arg1) = m ((c.tc : Thread Cert.FfnUpDwIdeal.nD Cert.FfnUpDwIdeal.τ).loc Cert.FfnUpDwIdeal.main_arg1))
      ∧ θ_run (Cert.FfnUpDwRefIdeal.defs (F := Ideal)) (onTc (τ := Cert.FfnUpDwRefIdeal.τ) (Cert.FfnUpDwRefIdeal.main (F := Ideal))) ⟨m', fun _ => 0, g'⟩ (fun r => ∀ c : Dev Cert.FfnUpDwRefIdeal.nD,
          r.2.mem ((c.tc : Thread Cert.FfnUpDwRefIdeal.nD Cert.FfnUpDwRefIdeal.τ).loc Cert.FfnUpDwRefIdeal.main_v3) = v0 c
          ∧ r.2.mem ((c.tc : Thread Cert.FfnUpDwRefIdeal.nD Cert.FfnUpDwRefIdeal.τ).loc Cert.FfnUpDwRefIdeal.main_arg0) = m' ((c.tc : Thread Cert.FfnUpDwRefIdeal.nD Cert.FfnUpDwRefIdeal.τ).loc Cert.FfnUpDwRefIdeal.main_arg0)
          ∧ r.2.mem ((c.tc : Thread Cert.FfnUpDwRefIdeal.nD Cert.FfnUpDwRefIdeal.τ).loc Cert.FfnUpDwRefIdeal.main_arg1) = m' ((c.tc : Thread Cert.FfnUpDwRefIdeal.nD Cert.FfnUpDwRefIdeal.τ).loc Cert.FfnUpDwRefIdeal.main_arg1))

def preserves_EvenIn_EvenInIdeal : Prop :=
  True

def algebraic_EvenInIdeal_EvenInRefIdeal [hEvenInIdeal : Cert.EvenInIdeal.Facts] [hEvenInRefIdeal : Cert.EvenInRefIdeal.Facts] : Prop :=
  ∀ (m : (ℓ : Loc Cert.EvenInIdeal.nD Cert.EvenInIdeal.τ Cert.EvenInIdeal.sig) → Buf (Elt Ideal) ℓ) (g : Dev Cert.EvenInIdeal.nD → PrngReg)
    (m' : (ℓ : Loc Cert.EvenInRefIdeal.nD Cert.EvenInRefIdeal.τ Cert.EvenInRefIdeal.sig) → Buf (Elt Ideal) ℓ) (g' : Dev Cert.EvenInRefIdeal.nD → PrngReg), Pre_EvenInIdeal m →
    (∀ c : Dev Cert.EvenInIdeal.nD,
      m' ((c.tc : Thread Cert.EvenInRefIdeal.nD Cert.EvenInRefIdeal.τ).loc Cert.EvenInRefIdeal.main_arg0) = m ((c.tc : Thread Cert.EvenInIdeal.nD Cert.EvenInIdeal.τ).loc Cert.EvenInIdeal.main_arg0)
      ∧ m' ((c.tc : Thread Cert.EvenInRefIdeal.nD Cert.EvenInRefIdeal.τ).loc Cert.EvenInRefIdeal.main_arg1) = m ((c.tc : Thread Cert.EvenInIdeal.nD Cert.EvenInIdeal.τ).loc Cert.EvenInIdeal.main_arg1)) →
    ∃ (v0 : (c : Dev Cert.EvenInIdeal.nD) → Buf (Elt Ideal) ((c.tc : Thread Cert.EvenInIdeal.nD Cert.EvenInIdeal.τ).loc Cert.EvenInIdeal.main_v0)),
      θ_run (Cert.EvenInIdeal.defs (F := Ideal)) (onTc (τ := Cert.EvenInIdeal.τ) (Cert.EvenInIdeal.main (F := Ideal))) ⟨m, fun _ => 0, g⟩ (fun r => ∀ c : Dev Cert.EvenInIdeal.nD,
          r.2.mem ((c.tc : Thread Cert.EvenInIdeal.nD Cert.EvenInIdeal.τ).loc Cert.EvenInIdeal.main_v0) = v0 c
          ∧ r.2.mem ((c.tc : Thread Cert.EvenInIdeal.nD Cert.EvenInIdeal.τ).loc Cert.EvenInIdeal.main_arg0) = m ((c.tc : Thread Cert.EvenInIdeal.nD Cert.EvenInIdeal.τ).loc Cert.EvenInIdeal.main_arg0)
          ∧ r.2.mem ((c.tc : Thread Cert.EvenInIdeal.nD Cert.EvenInIdeal.τ).loc Cert.EvenInIdeal.main_arg1) = m ((c.tc : Thread Cert.EvenInIdeal.nD Cert.EvenInIdeal.τ).loc Cert.EvenInIdeal.main_arg1))
      ∧ θ_run (Cert.EvenInRefIdeal.defs (F := Ideal)) (onTc (τ := Cert.EvenInRefIdeal.τ) (Cert.EvenInRefIdeal.main (F := Ideal))) ⟨m', fun _ => 0, g'⟩ (fun r => ∀ c : Dev Cert.EvenInRefIdeal.nD,
          r.2.mem ((c.tc : Thread Cert.EvenInRefIdeal.nD Cert.EvenInRefIdeal.τ).loc Cert.EvenInRefIdeal.main_v2) = v0 c
          ∧ r.2.mem ((c.tc : Thread Cert.EvenInRefIdeal.nD Cert.EvenInRefIdeal.τ).loc Cert.EvenInRefIdeal.main_arg0) = m' ((c.tc : Thread Cert.EvenInRefIdeal.nD Cert.EvenInRefIdeal.τ).loc Cert.EvenInRefIdeal.main_arg0)
          ∧ r.2.mem ((c.tc : Thread Cert.EvenInRefIdeal.nD Cert.EvenInRefIdeal.τ).loc Cert.EvenInRefIdeal.main_arg1) = m' ((c.tc : Thread Cert.EvenInRefIdeal.nD Cert.EvenInRefIdeal.τ).loc Cert.EvenInRefIdeal.main_arg1))

def preserves_EvenOut_EvenOutIdeal : Prop :=
  True

def algebraic_EvenOutIdeal_EvenOutRefIdeal [hEvenOutIdeal : Cert.EvenOutIdeal.Facts] [hEvenOutRefIdeal : Cert.EvenOutRefIdeal.Facts] : Prop :=
  ∀ (m : (ℓ : Loc Cert.EvenOutIdeal.nD Cert.EvenOutIdeal.τ Cert.EvenOutIdeal.sig) → Buf (Elt Ideal) ℓ) (g : Dev Cert.EvenOutIdeal.nD → PrngReg)
    (m' : (ℓ : Loc Cert.EvenOutRefIdeal.nD Cert.EvenOutRefIdeal.τ Cert.EvenOutRefIdeal.sig) → Buf (Elt Ideal) ℓ) (g' : Dev Cert.EvenOutRefIdeal.nD → PrngReg), Pre_EvenOutIdeal m →
    (∀ c : Dev Cert.EvenOutIdeal.nD,
      m' ((c.tc : Thread Cert.EvenOutRefIdeal.nD Cert.EvenOutRefIdeal.τ).loc Cert.EvenOutRefIdeal.main_arg0) = m ((c.tc : Thread Cert.EvenOutIdeal.nD Cert.EvenOutIdeal.τ).loc Cert.EvenOutIdeal.main_arg0)
      ∧ m' ((c.tc : Thread Cert.EvenOutRefIdeal.nD Cert.EvenOutRefIdeal.τ).loc Cert.EvenOutRefIdeal.main_arg1) = m ((c.tc : Thread Cert.EvenOutIdeal.nD Cert.EvenOutIdeal.τ).loc Cert.EvenOutIdeal.main_arg1)
      ∧ m' ((c.tc : Thread Cert.EvenOutRefIdeal.nD Cert.EvenOutRefIdeal.τ).loc Cert.EvenOutRefIdeal.main_arg2) = m ((c.tc : Thread Cert.EvenOutIdeal.nD Cert.EvenOutIdeal.τ).loc Cert.EvenOutIdeal.main_arg2)) →
    ∃ (v0 : (c : Dev Cert.EvenOutIdeal.nD) → Buf (Elt Ideal) ((c.tc : Thread Cert.EvenOutIdeal.nD Cert.EvenOutIdeal.τ).loc Cert.EvenOutIdeal.main_v0)),
      θ_run (Cert.EvenOutIdeal.defs (F := Ideal)) (onTc (τ := Cert.EvenOutIdeal.τ) (Cert.EvenOutIdeal.main (F := Ideal))) ⟨m, fun _ => 0, g⟩ (fun r => ∀ c : Dev Cert.EvenOutIdeal.nD,
          r.2.mem ((c.tc : Thread Cert.EvenOutIdeal.nD Cert.EvenOutIdeal.τ).loc Cert.EvenOutIdeal.main_v0) = v0 c
          ∧ r.2.mem ((c.tc : Thread Cert.EvenOutIdeal.nD Cert.EvenOutIdeal.τ).loc Cert.EvenOutIdeal.main_arg0) = m ((c.tc : Thread Cert.EvenOutIdeal.nD Cert.EvenOutIdeal.τ).loc Cert.EvenOutIdeal.main_arg0)
          ∧ r.2.mem ((c.tc : Thread Cert.EvenOutIdeal.nD Cert.EvenOutIdeal.τ).loc Cert.EvenOutIdeal.main_arg1) = m ((c.tc : Thread Cert.EvenOutIdeal.nD Cert.EvenOutIdeal.τ).loc Cert.EvenOutIdeal.main_arg1)
          ∧ r.2.mem ((c.tc : Thread Cert.EvenOutIdeal.nD Cert.EvenOutIdeal.τ).loc Cert.EvenOutIdeal.main_arg2) = m ((c.tc : Thread Cert.EvenOutIdeal.nD Cert.EvenOutIdeal.τ).loc Cert.EvenOutIdeal.main_arg2))
      ∧ θ_run (Cert.EvenOutRefIdeal.defs (F := Ideal)) (onTc (τ := Cert.EvenOutRefIdeal.τ) (Cert.EvenOutRefIdeal.main (F := Ideal))) ⟨m', fun _ => 0, g'⟩ (fun r => ∀ c : Dev Cert.EvenOutRefIdeal.nD,
          r.2.mem ((c.tc : Thread Cert.EvenOutRefIdeal.nD Cert.EvenOutRefIdeal.τ).loc Cert.EvenOutRefIdeal.main_v3) = v0 c
          ∧ r.2.mem ((c.tc : Thread Cert.EvenOutRefIdeal.nD Cert.EvenOutRefIdeal.τ).loc Cert.EvenOutRefIdeal.main_arg0) = m' ((c.tc : Thread Cert.EvenOutRefIdeal.nD Cert.EvenOutRefIdeal.τ).loc Cert.EvenOutRefIdeal.main_arg0)
          ∧ r.2.mem ((c.tc : Thread Cert.EvenOutRefIdeal.nD Cert.EvenOutRefIdeal.τ).loc Cert.EvenOutRefIdeal.main_arg1) = m' ((c.tc : Thread Cert.EvenOutRefIdeal.nD Cert.EvenOutRefIdeal.τ).loc Cert.EvenOutRefIdeal.main_arg1)
          ∧ r.2.mem ((c.tc : Thread Cert.EvenOutRefIdeal.nD Cert.EvenOutRefIdeal.τ).loc Cert.EvenOutRefIdeal.main_arg2) = m' ((c.tc : Thread Cert.EvenOutRefIdeal.nD Cert.EvenOutRefIdeal.τ).loc Cert.EvenOutRefIdeal.main_arg2))

def preserves_EvenOutDx_EvenOutDxIdeal : Prop :=
  True

def algebraic_EvenOutDxIdeal_EvenOutDxRefIdeal [hEvenOutDxIdeal : Cert.EvenOutDxIdeal.Facts] [hEvenOutDxRefIdeal : Cert.EvenOutDxRefIdeal.Facts] : Prop :=
  ∀ (m : (ℓ : Loc Cert.EvenOutDxIdeal.nD Cert.EvenOutDxIdeal.τ Cert.EvenOutDxIdeal.sig) → Buf (Elt Ideal) ℓ) (g : Dev Cert.EvenOutDxIdeal.nD → PrngReg)
    (m' : (ℓ : Loc Cert.EvenOutDxRefIdeal.nD Cert.EvenOutDxRefIdeal.τ Cert.EvenOutDxRefIdeal.sig) → Buf (Elt Ideal) ℓ) (g' : Dev Cert.EvenOutDxRefIdeal.nD → PrngReg), Pre_EvenOutDxIdeal m →
    (∀ c : Dev Cert.EvenOutDxIdeal.nD,
      m' ((c.tc : Thread Cert.EvenOutDxRefIdeal.nD Cert.EvenOutDxRefIdeal.τ).loc Cert.EvenOutDxRefIdeal.main_arg0) = m ((c.tc : Thread Cert.EvenOutDxIdeal.nD Cert.EvenOutDxIdeal.τ).loc Cert.EvenOutDxIdeal.main_arg0)
      ∧ m' ((c.tc : Thread Cert.EvenOutDxRefIdeal.nD Cert.EvenOutDxRefIdeal.τ).loc Cert.EvenOutDxRefIdeal.main_arg1) = m ((c.tc : Thread Cert.EvenOutDxIdeal.nD Cert.EvenOutDxIdeal.τ).loc Cert.EvenOutDxIdeal.main_arg1)) →
    ∃ (v0 : (c : Dev Cert.EvenOutDxIdeal.nD) → Buf (Elt Ideal) ((c.tc : Thread Cert.EvenOutDxIdeal.nD Cert.EvenOutDxIdeal.τ).loc Cert.EvenOutDxIdeal.main_v0)),
      θ_run (Cert.EvenOutDxIdeal.defs (F := Ideal)) (onTc (τ := Cert.EvenOutDxIdeal.τ) (Cert.EvenOutDxIdeal.main (F := Ideal))) ⟨m, fun _ => 0, g⟩ (fun r => ∀ c : Dev Cert.EvenOutDxIdeal.nD,
          r.2.mem ((c.tc : Thread Cert.EvenOutDxIdeal.nD Cert.EvenOutDxIdeal.τ).loc Cert.EvenOutDxIdeal.main_v0) = v0 c
          ∧ r.2.mem ((c.tc : Thread Cert.EvenOutDxIdeal.nD Cert.EvenOutDxIdeal.τ).loc Cert.EvenOutDxIdeal.main_arg0) = m ((c.tc : Thread Cert.EvenOutDxIdeal.nD Cert.EvenOutDxIdeal.τ).loc Cert.EvenOutDxIdeal.main_arg0)
          ∧ r.2.mem ((c.tc : Thread Cert.EvenOutDxIdeal.nD Cert.EvenOutDxIdeal.τ).loc Cert.EvenOutDxIdeal.main_arg1) = m ((c.tc : Thread Cert.EvenOutDxIdeal.nD Cert.EvenOutDxIdeal.τ).loc Cert.EvenOutDxIdeal.main_arg1))
      ∧ θ_run (Cert.EvenOutDxRefIdeal.defs (F := Ideal)) (onTc (τ := Cert.EvenOutDxRefIdeal.τ) (Cert.EvenOutDxRefIdeal.main (F := Ideal))) ⟨m', fun _ => 0, g'⟩ (fun r => ∀ c : Dev Cert.EvenOutDxRefIdeal.nD,
          r.2.mem ((c.tc : Thread Cert.EvenOutDxRefIdeal.nD Cert.EvenOutDxRefIdeal.τ).loc Cert.EvenOutDxRefIdeal.main_v2) = v0 c
          ∧ r.2.mem ((c.tc : Thread Cert.EvenOutDxRefIdeal.nD Cert.EvenOutDxRefIdeal.τ).loc Cert.EvenOutDxRefIdeal.main_arg0) = m' ((c.tc : Thread Cert.EvenOutDxRefIdeal.nD Cert.EvenOutDxRefIdeal.τ).loc Cert.EvenOutDxRefIdeal.main_arg0)
          ∧ r.2.mem ((c.tc : Thread Cert.EvenOutDxRefIdeal.nD Cert.EvenOutDxRefIdeal.τ).loc Cert.EvenOutDxRefIdeal.main_arg1) = m' ((c.tc : Thread Cert.EvenOutDxRefIdeal.nD Cert.EvenOutDxRefIdeal.τ).loc Cert.EvenOutDxRefIdeal.main_arg1))

def preserves_EvenOutDw_EvenOutDwIdeal : Prop :=
  True

def algebraic_EvenOutDwIdeal_EvenOutDwRefIdeal [hEvenOutDwIdeal : Cert.EvenOutDwIdeal.Facts] [hEvenOutDwRefIdeal : Cert.EvenOutDwRefIdeal.Facts] : Prop :=
  ∀ (m : (ℓ : Loc Cert.EvenOutDwIdeal.nD Cert.EvenOutDwIdeal.τ Cert.EvenOutDwIdeal.sig) → Buf (Elt Ideal) ℓ) (g : Dev Cert.EvenOutDwIdeal.nD → PrngReg)
    (m' : (ℓ : Loc Cert.EvenOutDwRefIdeal.nD Cert.EvenOutDwRefIdeal.τ Cert.EvenOutDwRefIdeal.sig) → Buf (Elt Ideal) ℓ) (g' : Dev Cert.EvenOutDwRefIdeal.nD → PrngReg), Pre_EvenOutDwIdeal m →
    (∀ c : Dev Cert.EvenOutDwIdeal.nD,
      m' ((c.tc : Thread Cert.EvenOutDwRefIdeal.nD Cert.EvenOutDwRefIdeal.τ).loc Cert.EvenOutDwRefIdeal.main_arg0) = m ((c.tc : Thread Cert.EvenOutDwIdeal.nD Cert.EvenOutDwIdeal.τ).loc Cert.EvenOutDwIdeal.main_arg0)
      ∧ m' ((c.tc : Thread Cert.EvenOutDwRefIdeal.nD Cert.EvenOutDwRefIdeal.τ).loc Cert.EvenOutDwRefIdeal.main_arg1) = m ((c.tc : Thread Cert.EvenOutDwIdeal.nD Cert.EvenOutDwIdeal.τ).loc Cert.EvenOutDwIdeal.main_arg1)) →
    ∃ (v0 : (c : Dev Cert.EvenOutDwIdeal.nD) → Buf (Elt Ideal) ((c.tc : Thread Cert.EvenOutDwIdeal.nD Cert.EvenOutDwIdeal.τ).loc Cert.EvenOutDwIdeal.main_v0)),
      θ_run (Cert.EvenOutDwIdeal.defs (F := Ideal)) (onTc (τ := Cert.EvenOutDwIdeal.τ) (Cert.EvenOutDwIdeal.main (F := Ideal))) ⟨m, fun _ => 0, g⟩ (fun r => ∀ c : Dev Cert.EvenOutDwIdeal.nD,
          r.2.mem ((c.tc : Thread Cert.EvenOutDwIdeal.nD Cert.EvenOutDwIdeal.τ).loc Cert.EvenOutDwIdeal.main_v0) = v0 c
          ∧ r.2.mem ((c.tc : Thread Cert.EvenOutDwIdeal.nD Cert.EvenOutDwIdeal.τ).loc Cert.EvenOutDwIdeal.main_arg0) = m ((c.tc : Thread Cert.EvenOutDwIdeal.nD Cert.EvenOutDwIdeal.τ).loc Cert.EvenOutDwIdeal.main_arg0)
          ∧ r.2.mem ((c.tc : Thread Cert.EvenOutDwIdeal.nD Cert.EvenOutDwIdeal.τ).loc Cert.EvenOutDwIdeal.main_arg1) = m ((c.tc : Thread Cert.EvenOutDwIdeal.nD Cert.EvenOutDwIdeal.τ).loc Cert.EvenOutDwIdeal.main_arg1))
      ∧ θ_run (Cert.EvenOutDwRefIdeal.defs (F := Ideal)) (onTc (τ := Cert.EvenOutDwRefIdeal.τ) (Cert.EvenOutDwRefIdeal.main (F := Ideal))) ⟨m', fun _ => 0, g'⟩ (fun r => ∀ c : Dev Cert.EvenOutDwRefIdeal.nD,
          r.2.mem ((c.tc : Thread Cert.EvenOutDwRefIdeal.nD Cert.EvenOutDwRefIdeal.τ).loc Cert.EvenOutDwRefIdeal.main_v2) = v0 c
          ∧ r.2.mem ((c.tc : Thread Cert.EvenOutDwRefIdeal.nD Cert.EvenOutDwRefIdeal.τ).loc Cert.EvenOutDwRefIdeal.main_arg0) = m' ((c.tc : Thread Cert.EvenOutDwRefIdeal.nD Cert.EvenOutDwRefIdeal.τ).loc Cert.EvenOutDwRefIdeal.main_arg0)
          ∧ r.2.mem ((c.tc : Thread Cert.EvenOutDwRefIdeal.nD Cert.EvenOutDwRefIdeal.τ).loc Cert.EvenOutDwRefIdeal.main_arg1) = m' ((c.tc : Thread Cert.EvenOutDwRefIdeal.nD Cert.EvenOutDwRefIdeal.τ).loc Cert.EvenOutDwRefIdeal.main_arg1))

def preserves_EvenInDx_EvenInDxIdeal : Prop :=
  True

def algebraic_EvenInDxIdeal_EvenInDxRefIdeal [hEvenInDxIdeal : Cert.EvenInDxIdeal.Facts] [hEvenInDxRefIdeal : Cert.EvenInDxRefIdeal.Facts] : Prop :=
  ∀ (m : (ℓ : Loc Cert.EvenInDxIdeal.nD Cert.EvenInDxIdeal.τ Cert.EvenInDxIdeal.sig) → Buf (Elt Ideal) ℓ) (g : Dev Cert.EvenInDxIdeal.nD → PrngReg)
    (m' : (ℓ : Loc Cert.EvenInDxRefIdeal.nD Cert.EvenInDxRefIdeal.τ Cert.EvenInDxRefIdeal.sig) → Buf (Elt Ideal) ℓ) (g' : Dev Cert.EvenInDxRefIdeal.nD → PrngReg), Pre_EvenInDxIdeal m →
    (∀ c : Dev Cert.EvenInDxIdeal.nD,
      m' ((c.tc : Thread Cert.EvenInDxRefIdeal.nD Cert.EvenInDxRefIdeal.τ).loc Cert.EvenInDxRefIdeal.main_arg0) = m ((c.tc : Thread Cert.EvenInDxIdeal.nD Cert.EvenInDxIdeal.τ).loc Cert.EvenInDxIdeal.main_arg0)
      ∧ m' ((c.tc : Thread Cert.EvenInDxRefIdeal.nD Cert.EvenInDxRefIdeal.τ).loc Cert.EvenInDxRefIdeal.main_arg1) = m ((c.tc : Thread Cert.EvenInDxIdeal.nD Cert.EvenInDxIdeal.τ).loc Cert.EvenInDxIdeal.main_arg1)) →
    ∃ (v0 : (c : Dev Cert.EvenInDxIdeal.nD) → Buf (Elt Ideal) ((c.tc : Thread Cert.EvenInDxIdeal.nD Cert.EvenInDxIdeal.τ).loc Cert.EvenInDxIdeal.main_v0)),
      θ_run (Cert.EvenInDxIdeal.defs (F := Ideal)) (onTc (τ := Cert.EvenInDxIdeal.τ) (Cert.EvenInDxIdeal.main (F := Ideal))) ⟨m, fun _ => 0, g⟩ (fun r => ∀ c : Dev Cert.EvenInDxIdeal.nD,
          r.2.mem ((c.tc : Thread Cert.EvenInDxIdeal.nD Cert.EvenInDxIdeal.τ).loc Cert.EvenInDxIdeal.main_v0) = v0 c
          ∧ r.2.mem ((c.tc : Thread Cert.EvenInDxIdeal.nD Cert.EvenInDxIdeal.τ).loc Cert.EvenInDxIdeal.main_arg0) = m ((c.tc : Thread Cert.EvenInDxIdeal.nD Cert.EvenInDxIdeal.τ).loc Cert.EvenInDxIdeal.main_arg0)
          ∧ r.2.mem ((c.tc : Thread Cert.EvenInDxIdeal.nD Cert.EvenInDxIdeal.τ).loc Cert.EvenInDxIdeal.main_arg1) = m ((c.tc : Thread Cert.EvenInDxIdeal.nD Cert.EvenInDxIdeal.τ).loc Cert.EvenInDxIdeal.main_arg1))
      ∧ θ_run (Cert.EvenInDxRefIdeal.defs (F := Ideal)) (onTc (τ := Cert.EvenInDxRefIdeal.τ) (Cert.EvenInDxRefIdeal.main (F := Ideal))) ⟨m', fun _ => 0, g'⟩ (fun r => ∀ c : Dev Cert.EvenInDxRefIdeal.nD,
          r.2.mem ((c.tc : Thread Cert.EvenInDxRefIdeal.nD Cert.EvenInDxRefIdeal.τ).loc Cert.EvenInDxRefIdeal.main_v3) = v0 c
          ∧ r.2.mem ((c.tc : Thread Cert.EvenInDxRefIdeal.nD Cert.EvenInDxRefIdeal.τ).loc Cert.EvenInDxRefIdeal.main_arg0) = m' ((c.tc : Thread Cert.EvenInDxRefIdeal.nD Cert.EvenInDxRefIdeal.τ).loc Cert.EvenInDxRefIdeal.main_arg0)
          ∧ r.2.mem ((c.tc : Thread Cert.EvenInDxRefIdeal.nD Cert.EvenInDxRefIdeal.τ).loc Cert.EvenInDxRefIdeal.main_arg1) = m' ((c.tc : Thread Cert.EvenInDxRefIdeal.nD Cert.EvenInDxRefIdeal.τ).loc Cert.EvenInDxRefIdeal.main_arg1))

def preserves_EvenInDw_EvenInDwIdeal : Prop :=
  True

def algebraic_EvenInDwIdeal_EvenInDwRefIdeal [hEvenInDwIdeal : Cert.EvenInDwIdeal.Facts] [hEvenInDwRefIdeal : Cert.EvenInDwRefIdeal.Facts] : Prop :=
  ∀ (m : (ℓ : Loc Cert.EvenInDwIdeal.nD Cert.EvenInDwIdeal.τ Cert.EvenInDwIdeal.sig) → Buf (Elt Ideal) ℓ) (g : Dev Cert.EvenInDwIdeal.nD → PrngReg)
    (m' : (ℓ : Loc Cert.EvenInDwRefIdeal.nD Cert.EvenInDwRefIdeal.τ Cert.EvenInDwRefIdeal.sig) → Buf (Elt Ideal) ℓ) (g' : Dev Cert.EvenInDwRefIdeal.nD → PrngReg), Pre_EvenInDwIdeal m →
    (∀ c : Dev Cert.EvenInDwIdeal.nD,
      m' ((c.tc : Thread Cert.EvenInDwRefIdeal.nD Cert.EvenInDwRefIdeal.τ).loc Cert.EvenInDwRefIdeal.main_arg0) = m ((c.tc : Thread Cert.EvenInDwIdeal.nD Cert.EvenInDwIdeal.τ).loc Cert.EvenInDwIdeal.main_arg0)
      ∧ m' ((c.tc : Thread Cert.EvenInDwRefIdeal.nD Cert.EvenInDwRefIdeal.τ).loc Cert.EvenInDwRefIdeal.main_arg1) = m ((c.tc : Thread Cert.EvenInDwIdeal.nD Cert.EvenInDwIdeal.τ).loc Cert.EvenInDwIdeal.main_arg1)) →
    ∃ (v0 : (c : Dev Cert.EvenInDwIdeal.nD) → Buf (Elt Ideal) ((c.tc : Thread Cert.EvenInDwIdeal.nD Cert.EvenInDwIdeal.τ).loc Cert.EvenInDwIdeal.main_v0)),
      θ_run (Cert.EvenInDwIdeal.defs (F := Ideal)) (onTc (τ := Cert.EvenInDwIdeal.τ) (Cert.EvenInDwIdeal.main (F := Ideal))) ⟨m, fun _ => 0, g⟩ (fun r => ∀ c : Dev Cert.EvenInDwIdeal.nD,
          r.2.mem ((c.tc : Thread Cert.EvenInDwIdeal.nD Cert.EvenInDwIdeal.τ).loc Cert.EvenInDwIdeal.main_v0) = v0 c
          ∧ r.2.mem ((c.tc : Thread Cert.EvenInDwIdeal.nD Cert.EvenInDwIdeal.τ).loc Cert.EvenInDwIdeal.main_arg0) = m ((c.tc : Thread Cert.EvenInDwIdeal.nD Cert.EvenInDwIdeal.τ).loc Cert.EvenInDwIdeal.main_arg0)
          ∧ r.2.mem ((c.tc : Thread Cert.EvenInDwIdeal.nD Cert.EvenInDwIdeal.τ).loc Cert.EvenInDwIdeal.main_arg1) = m ((c.tc : Thread Cert.EvenInDwIdeal.nD Cert.EvenInDwIdeal.τ).loc Cert.EvenInDwIdeal.main_arg1))
      ∧ θ_run (Cert.EvenInDwRefIdeal.defs (F := Ideal)) (onTc (τ := Cert.EvenInDwRefIdeal.τ) (Cert.EvenInDwRefIdeal.main (F := Ideal))) ⟨m', fun _ => 0, g'⟩ (fun r => ∀ c : Dev Cert.EvenInDwRefIdeal.nD,
          r.2.mem ((c.tc : Thread Cert.EvenInDwRefIdeal.nD Cert.EvenInDwRefIdeal.τ).loc Cert.EvenInDwRefIdeal.main_v3) = v0 c
          ∧ r.2.mem ((c.tc : Thread Cert.EvenInDwRefIdeal.nD Cert.EvenInDwRefIdeal.τ).loc Cert.EvenInDwRefIdeal.main_arg0) = m' ((c.tc : Thread Cert.EvenInDwRefIdeal.nD Cert.EvenInDwRefIdeal.τ).loc Cert.EvenInDwRefIdeal.main_arg0)
          ∧ r.2.mem ((c.tc : Thread Cert.EvenInDwRefIdeal.nD Cert.EvenInDwRefIdeal.τ).loc Cert.EvenInDwRefIdeal.main_arg1) = m' ((c.tc : Thread Cert.EvenInDwRefIdeal.nD Cert.EvenInDwRefIdeal.τ).loc Cert.EvenInDwRefIdeal.main_arg1))

def preserves_OddIn_OddInIdeal : Prop :=
  True

def algebraic_OddInIdeal_OddInRefIdeal [hOddInIdeal : Cert.OddInIdeal.Facts] [hOddInRefIdeal : Cert.OddInRefIdeal.Facts] : Prop :=
  ∀ (m : (ℓ : Loc Cert.OddInIdeal.nD Cert.OddInIdeal.τ Cert.OddInIdeal.sig) → Buf (Elt Ideal) ℓ) (g : Dev Cert.OddInIdeal.nD → PrngReg)
    (m' : (ℓ : Loc Cert.OddInRefIdeal.nD Cert.OddInRefIdeal.τ Cert.OddInRefIdeal.sig) → Buf (Elt Ideal) ℓ) (g' : Dev Cert.OddInRefIdeal.nD → PrngReg), Pre_OddInIdeal m →
    (∀ c : Dev Cert.OddInIdeal.nD,
      m' ((c.tc : Thread Cert.OddInRefIdeal.nD Cert.OddInRefIdeal.τ).loc Cert.OddInRefIdeal.main_arg0) = m ((c.tc : Thread Cert.OddInIdeal.nD Cert.OddInIdeal.τ).loc Cert.OddInIdeal.main_arg0)
      ∧ m' ((c.tc : Thread Cert.OddInRefIdeal.nD Cert.OddInRefIdeal.τ).loc Cert.OddInRefIdeal.main_arg1) = m ((c.tc : Thread Cert.OddInIdeal.nD Cert.OddInIdeal.τ).loc Cert.OddInIdeal.main_arg1)) →
    ∃ (v0 : (c : Dev Cert.OddInIdeal.nD) → Buf (Elt Ideal) ((c.tc : Thread Cert.OddInIdeal.nD Cert.OddInIdeal.τ).loc Cert.OddInIdeal.main_v0)),
      θ_run (Cert.OddInIdeal.defs (F := Ideal)) (onTc (τ := Cert.OddInIdeal.τ) (Cert.OddInIdeal.main (F := Ideal))) ⟨m, fun _ => 0, g⟩ (fun r => ∀ c : Dev Cert.OddInIdeal.nD,
          r.2.mem ((c.tc : Thread Cert.OddInIdeal.nD Cert.OddInIdeal.τ).loc Cert.OddInIdeal.main_v0) = v0 c
          ∧ r.2.mem ((c.tc : Thread Cert.OddInIdeal.nD Cert.OddInIdeal.τ).loc Cert.OddInIdeal.main_arg0) = m ((c.tc : Thread Cert.OddInIdeal.nD Cert.OddInIdeal.τ).loc Cert.OddInIdeal.main_arg0)
          ∧ r.2.mem ((c.tc : Thread Cert.OddInIdeal.nD Cert.OddInIdeal.τ).loc Cert.OddInIdeal.main_arg1) = m ((c.tc : Thread Cert.OddInIdeal.nD Cert.OddInIdeal.τ).loc Cert.OddInIdeal.main_arg1))
      ∧ θ_run (Cert.OddInRefIdeal.defs (F := Ideal)) (onTc (τ := Cert.OddInRefIdeal.τ) (Cert.OddInRefIdeal.main (F := Ideal))) ⟨m', fun _ => 0, g'⟩ (fun r => ∀ c : Dev Cert.OddInRefIdeal.nD,
          r.2.mem ((c.tc : Thread Cert.OddInRefIdeal.nD Cert.OddInRefIdeal.τ).loc Cert.OddInRefIdeal.main_v2) = v0 c
          ∧ r.2.mem ((c.tc : Thread Cert.OddInRefIdeal.nD Cert.OddInRefIdeal.τ).loc Cert.OddInRefIdeal.main_arg0) = m' ((c.tc : Thread Cert.OddInRefIdeal.nD Cert.OddInRefIdeal.τ).loc Cert.OddInRefIdeal.main_arg0)
          ∧ r.2.mem ((c.tc : Thread Cert.OddInRefIdeal.nD Cert.OddInRefIdeal.τ).loc Cert.OddInRefIdeal.main_arg1) = m' ((c.tc : Thread Cert.OddInRefIdeal.nD Cert.OddInRefIdeal.τ).loc Cert.OddInRefIdeal.main_arg1))

def preserves_OddOut_OddOutIdeal : Prop :=
  True

def algebraic_OddOutIdeal_OddOutRefIdeal [hOddOutIdeal : Cert.OddOutIdeal.Facts] [hOddOutRefIdeal : Cert.OddOutRefIdeal.Facts] : Prop :=
  ∀ (m : (ℓ : Loc Cert.OddOutIdeal.nD Cert.OddOutIdeal.τ Cert.OddOutIdeal.sig) → Buf (Elt Ideal) ℓ) (g : Dev Cert.OddOutIdeal.nD → PrngReg)
    (m' : (ℓ : Loc Cert.OddOutRefIdeal.nD Cert.OddOutRefIdeal.τ Cert.OddOutRefIdeal.sig) → Buf (Elt Ideal) ℓ) (g' : Dev Cert.OddOutRefIdeal.nD → PrngReg), Pre_OddOutIdeal m →
    (∀ c : Dev Cert.OddOutIdeal.nD,
      m' ((c.tc : Thread Cert.OddOutRefIdeal.nD Cert.OddOutRefIdeal.τ).loc Cert.OddOutRefIdeal.main_arg0) = m ((c.tc : Thread Cert.OddOutIdeal.nD Cert.OddOutIdeal.τ).loc Cert.OddOutIdeal.main_arg0)
      ∧ m' ((c.tc : Thread Cert.OddOutRefIdeal.nD Cert.OddOutRefIdeal.τ).loc Cert.OddOutRefIdeal.main_arg1) = m ((c.tc : Thread Cert.OddOutIdeal.nD Cert.OddOutIdeal.τ).loc Cert.OddOutIdeal.main_arg1)
      ∧ m' ((c.tc : Thread Cert.OddOutRefIdeal.nD Cert.OddOutRefIdeal.τ).loc Cert.OddOutRefIdeal.main_arg2) = m ((c.tc : Thread Cert.OddOutIdeal.nD Cert.OddOutIdeal.τ).loc Cert.OddOutIdeal.main_arg2)) →
    ∃ (v0 : (c : Dev Cert.OddOutIdeal.nD) → Buf (Elt Ideal) ((c.tc : Thread Cert.OddOutIdeal.nD Cert.OddOutIdeal.τ).loc Cert.OddOutIdeal.main_v0)),
      θ_run (Cert.OddOutIdeal.defs (F := Ideal)) (onTc (τ := Cert.OddOutIdeal.τ) (Cert.OddOutIdeal.main (F := Ideal))) ⟨m, fun _ => 0, g⟩ (fun r => ∀ c : Dev Cert.OddOutIdeal.nD,
          r.2.mem ((c.tc : Thread Cert.OddOutIdeal.nD Cert.OddOutIdeal.τ).loc Cert.OddOutIdeal.main_v0) = v0 c
          ∧ r.2.mem ((c.tc : Thread Cert.OddOutIdeal.nD Cert.OddOutIdeal.τ).loc Cert.OddOutIdeal.main_arg0) = m ((c.tc : Thread Cert.OddOutIdeal.nD Cert.OddOutIdeal.τ).loc Cert.OddOutIdeal.main_arg0)
          ∧ r.2.mem ((c.tc : Thread Cert.OddOutIdeal.nD Cert.OddOutIdeal.τ).loc Cert.OddOutIdeal.main_arg1) = m ((c.tc : Thread Cert.OddOutIdeal.nD Cert.OddOutIdeal.τ).loc Cert.OddOutIdeal.main_arg1)
          ∧ r.2.mem ((c.tc : Thread Cert.OddOutIdeal.nD Cert.OddOutIdeal.τ).loc Cert.OddOutIdeal.main_arg2) = m ((c.tc : Thread Cert.OddOutIdeal.nD Cert.OddOutIdeal.τ).loc Cert.OddOutIdeal.main_arg2))
      ∧ θ_run (Cert.OddOutRefIdeal.defs (F := Ideal)) (onTc (τ := Cert.OddOutRefIdeal.τ) (Cert.OddOutRefIdeal.main (F := Ideal))) ⟨m', fun _ => 0, g'⟩ (fun r => ∀ c : Dev Cert.OddOutRefIdeal.nD,
          r.2.mem ((c.tc : Thread Cert.OddOutRefIdeal.nD Cert.OddOutRefIdeal.τ).loc Cert.OddOutRefIdeal.main_v3) = v0 c
          ∧ r.2.mem ((c.tc : Thread Cert.OddOutRefIdeal.nD Cert.OddOutRefIdeal.τ).loc Cert.OddOutRefIdeal.main_arg0) = m' ((c.tc : Thread Cert.OddOutRefIdeal.nD Cert.OddOutRefIdeal.τ).loc Cert.OddOutRefIdeal.main_arg0)
          ∧ r.2.mem ((c.tc : Thread Cert.OddOutRefIdeal.nD Cert.OddOutRefIdeal.τ).loc Cert.OddOutRefIdeal.main_arg1) = m' ((c.tc : Thread Cert.OddOutRefIdeal.nD Cert.OddOutRefIdeal.τ).loc Cert.OddOutRefIdeal.main_arg1)
          ∧ r.2.mem ((c.tc : Thread Cert.OddOutRefIdeal.nD Cert.OddOutRefIdeal.τ).loc Cert.OddOutRefIdeal.main_arg2) = m' ((c.tc : Thread Cert.OddOutRefIdeal.nD Cert.OddOutRefIdeal.τ).loc Cert.OddOutRefIdeal.main_arg2))

def preserves_OddOutDx_OddOutDxIdeal : Prop :=
  True

def algebraic_OddOutDxIdeal_OddOutDxRefIdeal [hOddOutDxIdeal : Cert.OddOutDxIdeal.Facts] [hOddOutDxRefIdeal : Cert.OddOutDxRefIdeal.Facts] : Prop :=
  ∀ (m : (ℓ : Loc Cert.OddOutDxIdeal.nD Cert.OddOutDxIdeal.τ Cert.OddOutDxIdeal.sig) → Buf (Elt Ideal) ℓ) (g : Dev Cert.OddOutDxIdeal.nD → PrngReg)
    (m' : (ℓ : Loc Cert.OddOutDxRefIdeal.nD Cert.OddOutDxRefIdeal.τ Cert.OddOutDxRefIdeal.sig) → Buf (Elt Ideal) ℓ) (g' : Dev Cert.OddOutDxRefIdeal.nD → PrngReg), Pre_OddOutDxIdeal m →
    (∀ c : Dev Cert.OddOutDxIdeal.nD,
      m' ((c.tc : Thread Cert.OddOutDxRefIdeal.nD Cert.OddOutDxRefIdeal.τ).loc Cert.OddOutDxRefIdeal.main_arg0) = m ((c.tc : Thread Cert.OddOutDxIdeal.nD Cert.OddOutDxIdeal.τ).loc Cert.OddOutDxIdeal.main_arg0)
      ∧ m' ((c.tc : Thread Cert.OddOutDxRefIdeal.nD Cert.OddOutDxRefIdeal.τ).loc Cert.OddOutDxRefIdeal.main_arg1) = m ((c.tc : Thread Cert.OddOutDxIdeal.nD Cert.OddOutDxIdeal.τ).loc Cert.OddOutDxIdeal.main_arg1)) →
    ∃ (v0 : (c : Dev Cert.OddOutDxIdeal.nD) → Buf (Elt Ideal) ((c.tc : Thread Cert.OddOutDxIdeal.nD Cert.OddOutDxIdeal.τ).loc Cert.OddOutDxIdeal.main_v0)),
      θ_run (Cert.OddOutDxIdeal.defs (F := Ideal)) (onTc (τ := Cert.OddOutDxIdeal.τ) (Cert.OddOutDxIdeal.main (F := Ideal))) ⟨m, fun _ => 0, g⟩ (fun r => ∀ c : Dev Cert.OddOutDxIdeal.nD,
          r.2.mem ((c.tc : Thread Cert.OddOutDxIdeal.nD Cert.OddOutDxIdeal.τ).loc Cert.OddOutDxIdeal.main_v0) = v0 c
          ∧ r.2.mem ((c.tc : Thread Cert.OddOutDxIdeal.nD Cert.OddOutDxIdeal.τ).loc Cert.OddOutDxIdeal.main_arg0) = m ((c.tc : Thread Cert.OddOutDxIdeal.nD Cert.OddOutDxIdeal.τ).loc Cert.OddOutDxIdeal.main_arg0)
          ∧ r.2.mem ((c.tc : Thread Cert.OddOutDxIdeal.nD Cert.OddOutDxIdeal.τ).loc Cert.OddOutDxIdeal.main_arg1) = m ((c.tc : Thread Cert.OddOutDxIdeal.nD Cert.OddOutDxIdeal.τ).loc Cert.OddOutDxIdeal.main_arg1))
      ∧ θ_run (Cert.OddOutDxRefIdeal.defs (F := Ideal)) (onTc (τ := Cert.OddOutDxRefIdeal.τ) (Cert.OddOutDxRefIdeal.main (F := Ideal))) ⟨m', fun _ => 0, g'⟩ (fun r => ∀ c : Dev Cert.OddOutDxRefIdeal.nD,
          r.2.mem ((c.tc : Thread Cert.OddOutDxRefIdeal.nD Cert.OddOutDxRefIdeal.τ).loc Cert.OddOutDxRefIdeal.main_v2) = v0 c
          ∧ r.2.mem ((c.tc : Thread Cert.OddOutDxRefIdeal.nD Cert.OddOutDxRefIdeal.τ).loc Cert.OddOutDxRefIdeal.main_arg0) = m' ((c.tc : Thread Cert.OddOutDxRefIdeal.nD Cert.OddOutDxRefIdeal.τ).loc Cert.OddOutDxRefIdeal.main_arg0)
          ∧ r.2.mem ((c.tc : Thread Cert.OddOutDxRefIdeal.nD Cert.OddOutDxRefIdeal.τ).loc Cert.OddOutDxRefIdeal.main_arg1) = m' ((c.tc : Thread Cert.OddOutDxRefIdeal.nD Cert.OddOutDxRefIdeal.τ).loc Cert.OddOutDxRefIdeal.main_arg1))

def preserves_OddOutDw_OddOutDwIdeal : Prop :=
  True

def algebraic_OddOutDwIdeal_OddOutDwRefIdeal [hOddOutDwIdeal : Cert.OddOutDwIdeal.Facts] [hOddOutDwRefIdeal : Cert.OddOutDwRefIdeal.Facts] : Prop :=
  ∀ (m : (ℓ : Loc Cert.OddOutDwIdeal.nD Cert.OddOutDwIdeal.τ Cert.OddOutDwIdeal.sig) → Buf (Elt Ideal) ℓ) (g : Dev Cert.OddOutDwIdeal.nD → PrngReg)
    (m' : (ℓ : Loc Cert.OddOutDwRefIdeal.nD Cert.OddOutDwRefIdeal.τ Cert.OddOutDwRefIdeal.sig) → Buf (Elt Ideal) ℓ) (g' : Dev Cert.OddOutDwRefIdeal.nD → PrngReg), Pre_OddOutDwIdeal m →
    (∀ c : Dev Cert.OddOutDwIdeal.nD,
      m' ((c.tc : Thread Cert.OddOutDwRefIdeal.nD Cert.OddOutDwRefIdeal.τ).loc Cert.OddOutDwRefIdeal.main_arg0) = m ((c.tc : Thread Cert.OddOutDwIdeal.nD Cert.OddOutDwIdeal.τ).loc Cert.OddOutDwIdeal.main_arg0)
      ∧ m' ((c.tc : Thread Cert.OddOutDwRefIdeal.nD Cert.OddOutDwRefIdeal.τ).loc Cert.OddOutDwRefIdeal.main_arg1) = m ((c.tc : Thread Cert.OddOutDwIdeal.nD Cert.OddOutDwIdeal.τ).loc Cert.OddOutDwIdeal.main_arg1)) →
    ∃ (v0 : (c : Dev Cert.OddOutDwIdeal.nD) → Buf (Elt Ideal) ((c.tc : Thread Cert.OddOutDwIdeal.nD Cert.OddOutDwIdeal.τ).loc Cert.OddOutDwIdeal.main_v0)),
      θ_run (Cert.OddOutDwIdeal.defs (F := Ideal)) (onTc (τ := Cert.OddOutDwIdeal.τ) (Cert.OddOutDwIdeal.main (F := Ideal))) ⟨m, fun _ => 0, g⟩ (fun r => ∀ c : Dev Cert.OddOutDwIdeal.nD,
          r.2.mem ((c.tc : Thread Cert.OddOutDwIdeal.nD Cert.OddOutDwIdeal.τ).loc Cert.OddOutDwIdeal.main_v0) = v0 c
          ∧ r.2.mem ((c.tc : Thread Cert.OddOutDwIdeal.nD Cert.OddOutDwIdeal.τ).loc Cert.OddOutDwIdeal.main_arg0) = m ((c.tc : Thread Cert.OddOutDwIdeal.nD Cert.OddOutDwIdeal.τ).loc Cert.OddOutDwIdeal.main_arg0)
          ∧ r.2.mem ((c.tc : Thread Cert.OddOutDwIdeal.nD Cert.OddOutDwIdeal.τ).loc Cert.OddOutDwIdeal.main_arg1) = m ((c.tc : Thread Cert.OddOutDwIdeal.nD Cert.OddOutDwIdeal.τ).loc Cert.OddOutDwIdeal.main_arg1))
      ∧ θ_run (Cert.OddOutDwRefIdeal.defs (F := Ideal)) (onTc (τ := Cert.OddOutDwRefIdeal.τ) (Cert.OddOutDwRefIdeal.main (F := Ideal))) ⟨m', fun _ => 0, g'⟩ (fun r => ∀ c : Dev Cert.OddOutDwRefIdeal.nD,
          r.2.mem ((c.tc : Thread Cert.OddOutDwRefIdeal.nD Cert.OddOutDwRefIdeal.τ).loc Cert.OddOutDwRefIdeal.main_v2) = v0 c
          ∧ r.2.mem ((c.tc : Thread Cert.OddOutDwRefIdeal.nD Cert.OddOutDwRefIdeal.τ).loc Cert.OddOutDwRefIdeal.main_arg0) = m' ((c.tc : Thread Cert.OddOutDwRefIdeal.nD Cert.OddOutDwRefIdeal.τ).loc Cert.OddOutDwRefIdeal.main_arg0)
          ∧ r.2.mem ((c.tc : Thread Cert.OddOutDwRefIdeal.nD Cert.OddOutDwRefIdeal.τ).loc Cert.OddOutDwRefIdeal.main_arg1) = m' ((c.tc : Thread Cert.OddOutDwRefIdeal.nD Cert.OddOutDwRefIdeal.τ).loc Cert.OddOutDwRefIdeal.main_arg1))

def preserves_OddInDx_OddInDxIdeal : Prop :=
  True

def algebraic_OddInDxIdeal_OddInDxRefIdeal [hOddInDxIdeal : Cert.OddInDxIdeal.Facts] [hOddInDxRefIdeal : Cert.OddInDxRefIdeal.Facts] : Prop :=
  ∀ (m : (ℓ : Loc Cert.OddInDxIdeal.nD Cert.OddInDxIdeal.τ Cert.OddInDxIdeal.sig) → Buf (Elt Ideal) ℓ) (g : Dev Cert.OddInDxIdeal.nD → PrngReg)
    (m' : (ℓ : Loc Cert.OddInDxRefIdeal.nD Cert.OddInDxRefIdeal.τ Cert.OddInDxRefIdeal.sig) → Buf (Elt Ideal) ℓ) (g' : Dev Cert.OddInDxRefIdeal.nD → PrngReg), Pre_OddInDxIdeal m →
    (∀ c : Dev Cert.OddInDxIdeal.nD,
      m' ((c.tc : Thread Cert.OddInDxRefIdeal.nD Cert.OddInDxRefIdeal.τ).loc Cert.OddInDxRefIdeal.main_arg0) = m ((c.tc : Thread Cert.OddInDxIdeal.nD Cert.OddInDxIdeal.τ).loc Cert.OddInDxIdeal.main_arg0)
      ∧ m' ((c.tc : Thread Cert.OddInDxRefIdeal.nD Cert.OddInDxRefIdeal.τ).loc Cert.OddInDxRefIdeal.main_arg1) = m ((c.tc : Thread Cert.OddInDxIdeal.nD Cert.OddInDxIdeal.τ).loc Cert.OddInDxIdeal.main_arg1)) →
    ∃ (v0 : (c : Dev Cert.OddInDxIdeal.nD) → Buf (Elt Ideal) ((c.tc : Thread Cert.OddInDxIdeal.nD Cert.OddInDxIdeal.τ).loc Cert.OddInDxIdeal.main_v0)),
      θ_run (Cert.OddInDxIdeal.defs (F := Ideal)) (onTc (τ := Cert.OddInDxIdeal.τ) (Cert.OddInDxIdeal.main (F := Ideal))) ⟨m, fun _ => 0, g⟩ (fun r => ∀ c : Dev Cert.OddInDxIdeal.nD,
          r.2.mem ((c.tc : Thread Cert.OddInDxIdeal.nD Cert.OddInDxIdeal.τ).loc Cert.OddInDxIdeal.main_v0) = v0 c
          ∧ r.2.mem ((c.tc : Thread Cert.OddInDxIdeal.nD Cert.OddInDxIdeal.τ).loc Cert.OddInDxIdeal.main_arg0) = m ((c.tc : Thread Cert.OddInDxIdeal.nD Cert.OddInDxIdeal.τ).loc Cert.OddInDxIdeal.main_arg0)
          ∧ r.2.mem ((c.tc : Thread Cert.OddInDxIdeal.nD Cert.OddInDxIdeal.τ).loc Cert.OddInDxIdeal.main_arg1) = m ((c.tc : Thread Cert.OddInDxIdeal.nD Cert.OddInDxIdeal.τ).loc Cert.OddInDxIdeal.main_arg1))
      ∧ θ_run (Cert.OddInDxRefIdeal.defs (F := Ideal)) (onTc (τ := Cert.OddInDxRefIdeal.τ) (Cert.OddInDxRefIdeal.main (F := Ideal))) ⟨m', fun _ => 0, g'⟩ (fun r => ∀ c : Dev Cert.OddInDxRefIdeal.nD,
          r.2.mem ((c.tc : Thread Cert.OddInDxRefIdeal.nD Cert.OddInDxRefIdeal.τ).loc Cert.OddInDxRefIdeal.main_v3) = v0 c
          ∧ r.2.mem ((c.tc : Thread Cert.OddInDxRefIdeal.nD Cert.OddInDxRefIdeal.τ).loc Cert.OddInDxRefIdeal.main_arg0) = m' ((c.tc : Thread Cert.OddInDxRefIdeal.nD Cert.OddInDxRefIdeal.τ).loc Cert.OddInDxRefIdeal.main_arg0)
          ∧ r.2.mem ((c.tc : Thread Cert.OddInDxRefIdeal.nD Cert.OddInDxRefIdeal.τ).loc Cert.OddInDxRefIdeal.main_arg1) = m' ((c.tc : Thread Cert.OddInDxRefIdeal.nD Cert.OddInDxRefIdeal.τ).loc Cert.OddInDxRefIdeal.main_arg1))

def preserves_OddInDw_OddInDwIdeal : Prop :=
  True

def algebraic_OddInDwIdeal_OddInDwRefIdeal [hOddInDwIdeal : Cert.OddInDwIdeal.Facts] [hOddInDwRefIdeal : Cert.OddInDwRefIdeal.Facts] : Prop :=
  ∀ (m : (ℓ : Loc Cert.OddInDwIdeal.nD Cert.OddInDwIdeal.τ Cert.OddInDwIdeal.sig) → Buf (Elt Ideal) ℓ) (g : Dev Cert.OddInDwIdeal.nD → PrngReg)
    (m' : (ℓ : Loc Cert.OddInDwRefIdeal.nD Cert.OddInDwRefIdeal.τ Cert.OddInDwRefIdeal.sig) → Buf (Elt Ideal) ℓ) (g' : Dev Cert.OddInDwRefIdeal.nD → PrngReg), Pre_OddInDwIdeal m →
    (∀ c : Dev Cert.OddInDwIdeal.nD,
      m' ((c.tc : Thread Cert.OddInDwRefIdeal.nD Cert.OddInDwRefIdeal.τ).loc Cert.OddInDwRefIdeal.main_arg0) = m ((c.tc : Thread Cert.OddInDwIdeal.nD Cert.OddInDwIdeal.τ).loc Cert.OddInDwIdeal.main_arg0)
      ∧ m' ((c.tc : Thread Cert.OddInDwRefIdeal.nD Cert.OddInDwRefIdeal.τ).loc Cert.OddInDwRefIdeal.main_arg1) = m ((c.tc : Thread Cert.OddInDwIdeal.nD Cert.OddInDwIdeal.τ).loc Cert.OddInDwIdeal.main_arg1)) →
    ∃ (v0 : (c : Dev Cert.OddInDwIdeal.nD) → Buf (Elt Ideal) ((c.tc : Thread Cert.OddInDwIdeal.nD Cert.OddInDwIdeal.τ).loc Cert.OddInDwIdeal.main_v0)),
      θ_run (Cert.OddInDwIdeal.defs (F := Ideal)) (onTc (τ := Cert.OddInDwIdeal.τ) (Cert.OddInDwIdeal.main (F := Ideal))) ⟨m, fun _ => 0, g⟩ (fun r => ∀ c : Dev Cert.OddInDwIdeal.nD,
          r.2.mem ((c.tc : Thread Cert.OddInDwIdeal.nD Cert.OddInDwIdeal.τ).loc Cert.OddInDwIdeal.main_v0) = v0 c
          ∧ r.2.mem ((c.tc : Thread Cert.OddInDwIdeal.nD Cert.OddInDwIdeal.τ).loc Cert.OddInDwIdeal.main_arg0) = m ((c.tc : Thread Cert.OddInDwIdeal.nD Cert.OddInDwIdeal.τ).loc Cert.OddInDwIdeal.main_arg0)
          ∧ r.2.mem ((c.tc : Thread Cert.OddInDwIdeal.nD Cert.OddInDwIdeal.τ).loc Cert.OddInDwIdeal.main_arg1) = m ((c.tc : Thread Cert.OddInDwIdeal.nD Cert.OddInDwIdeal.τ).loc Cert.OddInDwIdeal.main_arg1))
      ∧ θ_run (Cert.OddInDwRefIdeal.defs (F := Ideal)) (onTc (τ := Cert.OddInDwRefIdeal.τ) (Cert.OddInDwRefIdeal.main (F := Ideal))) ⟨m', fun _ => 0, g'⟩ (fun r => ∀ c : Dev Cert.OddInDwRefIdeal.nD,
          r.2.mem ((c.tc : Thread Cert.OddInDwRefIdeal.nD Cert.OddInDwRefIdeal.τ).loc Cert.OddInDwRefIdeal.main_v3) = v0 c
          ∧ r.2.mem ((c.tc : Thread Cert.OddInDwRefIdeal.nD Cert.OddInDwRefIdeal.τ).loc Cert.OddInDwRefIdeal.main_arg0) = m' ((c.tc : Thread Cert.OddInDwRefIdeal.nD Cert.OddInDwRefIdeal.τ).loc Cert.OddInDwRefIdeal.main_arg0)
          ∧ r.2.mem ((c.tc : Thread Cert.OddInDwRefIdeal.nD Cert.OddInDwRefIdeal.τ).loc Cert.OddInDwRefIdeal.main_arg1) = m' ((c.tc : Thread Cert.OddInDwRefIdeal.nD Cert.OddInDwRefIdeal.τ).loc Cert.OddInDwRefIdeal.main_arg1))

def preserves_MlaUq_MlaUqIdeal : Prop :=
  True

def algebraic_MlaUqIdeal_MlaUqRefIdeal [hMlaUqIdeal : Cert.MlaUqIdeal.Facts] [hMlaUqRefIdeal : Cert.MlaUqRefIdeal.Facts] : Prop :=
  ∀ (m : (ℓ : Loc Cert.MlaUqIdeal.nD Cert.MlaUqIdeal.τ Cert.MlaUqIdeal.sig) → Buf (Elt Ideal) ℓ) (g : Dev Cert.MlaUqIdeal.nD → PrngReg)
    (m' : (ℓ : Loc Cert.MlaUqRefIdeal.nD Cert.MlaUqRefIdeal.τ Cert.MlaUqRefIdeal.sig) → Buf (Elt Ideal) ℓ) (g' : Dev Cert.MlaUqRefIdeal.nD → PrngReg), Pre_MlaUqIdeal m →
    (∀ c : Dev Cert.MlaUqIdeal.nD,
      m' ((c.tc : Thread Cert.MlaUqRefIdeal.nD Cert.MlaUqRefIdeal.τ).loc Cert.MlaUqRefIdeal.main_arg0) = m ((c.tc : Thread Cert.MlaUqIdeal.nD Cert.MlaUqIdeal.τ).loc Cert.MlaUqIdeal.main_arg0)
      ∧ m' ((c.tc : Thread Cert.MlaUqRefIdeal.nD Cert.MlaUqRefIdeal.τ).loc Cert.MlaUqRefIdeal.main_arg1) = m ((c.tc : Thread Cert.MlaUqIdeal.nD Cert.MlaUqIdeal.τ).loc Cert.MlaUqIdeal.main_arg1)) →
    ∃ (v0 : (c : Dev Cert.MlaUqIdeal.nD) → Buf (Elt Ideal) ((c.tc : Thread Cert.MlaUqIdeal.nD Cert.MlaUqIdeal.τ).loc Cert.MlaUqIdeal.main_v0)),
      θ_run (Cert.MlaUqIdeal.defs (F := Ideal)) (onTc (τ := Cert.MlaUqIdeal.τ) (Cert.MlaUqIdeal.main (F := Ideal))) ⟨m, fun _ => 0, g⟩ (fun r => ∀ c : Dev Cert.MlaUqIdeal.nD,
          r.2.mem ((c.tc : Thread Cert.MlaUqIdeal.nD Cert.MlaUqIdeal.τ).loc Cert.MlaUqIdeal.main_v0) = v0 c
          ∧ r.2.mem ((c.tc : Thread Cert.MlaUqIdeal.nD Cert.MlaUqIdeal.τ).loc Cert.MlaUqIdeal.main_arg0) = m ((c.tc : Thread Cert.MlaUqIdeal.nD Cert.MlaUqIdeal.τ).loc Cert.MlaUqIdeal.main_arg0)
          ∧ r.2.mem ((c.tc : Thread Cert.MlaUqIdeal.nD Cert.MlaUqIdeal.τ).loc Cert.MlaUqIdeal.main_arg1) = m ((c.tc : Thread Cert.MlaUqIdeal.nD Cert.MlaUqIdeal.τ).loc Cert.MlaUqIdeal.main_arg1))
      ∧ θ_run (Cert.MlaUqRefIdeal.defs (F := Ideal)) (onTc (τ := Cert.MlaUqRefIdeal.τ) (Cert.MlaUqRefIdeal.main (F := Ideal))) ⟨m', fun _ => 0, g'⟩ (fun r => ∀ c : Dev Cert.MlaUqRefIdeal.nD,
          r.2.mem ((c.tc : Thread Cert.MlaUqRefIdeal.nD Cert.MlaUqRefIdeal.τ).loc Cert.MlaUqRefIdeal.main_v2) = v0 c
          ∧ r.2.mem ((c.tc : Thread Cert.MlaUqRefIdeal.nD Cert.MlaUqRefIdeal.τ).loc Cert.MlaUqRefIdeal.main_arg0) = m' ((c.tc : Thread Cert.MlaUqRefIdeal.nD Cert.MlaUqRefIdeal.τ).loc Cert.MlaUqRefIdeal.main_arg0)
          ∧ r.2.mem ((c.tc : Thread Cert.MlaUqRefIdeal.nD Cert.MlaUqRefIdeal.τ).loc Cert.MlaUqRefIdeal.main_arg1) = m' ((c.tc : Thread Cert.MlaUqRefIdeal.nD Cert.MlaUqRefIdeal.τ).loc Cert.MlaUqRefIdeal.main_arg1))

def preserves_MlaUkv_MlaUkvIdeal : Prop :=
  True

def algebraic_MlaUkvIdeal_MlaUkvRefIdeal [hMlaUkvIdeal : Cert.MlaUkvIdeal.Facts] [hMlaUkvRefIdeal : Cert.MlaUkvRefIdeal.Facts] : Prop :=
  ∀ (m : (ℓ : Loc Cert.MlaUkvIdeal.nD Cert.MlaUkvIdeal.τ Cert.MlaUkvIdeal.sig) → Buf (Elt Ideal) ℓ) (g : Dev Cert.MlaUkvIdeal.nD → PrngReg)
    (m' : (ℓ : Loc Cert.MlaUkvRefIdeal.nD Cert.MlaUkvRefIdeal.τ Cert.MlaUkvRefIdeal.sig) → Buf (Elt Ideal) ℓ) (g' : Dev Cert.MlaUkvRefIdeal.nD → PrngReg), Pre_MlaUkvIdeal m →
    (∀ c : Dev Cert.MlaUkvIdeal.nD,
      m' ((c.tc : Thread Cert.MlaUkvRefIdeal.nD Cert.MlaUkvRefIdeal.τ).loc Cert.MlaUkvRefIdeal.main_arg0) = m ((c.tc : Thread Cert.MlaUkvIdeal.nD Cert.MlaUkvIdeal.τ).loc Cert.MlaUkvIdeal.main_arg0)
      ∧ m' ((c.tc : Thread Cert.MlaUkvRefIdeal.nD Cert.MlaUkvRefIdeal.τ).loc Cert.MlaUkvRefIdeal.main_arg1) = m ((c.tc : Thread Cert.MlaUkvIdeal.nD Cert.MlaUkvIdeal.τ).loc Cert.MlaUkvIdeal.main_arg1)) →
    ∃ (v0 : (c : Dev Cert.MlaUkvIdeal.nD) → Buf (Elt Ideal) ((c.tc : Thread Cert.MlaUkvIdeal.nD Cert.MlaUkvIdeal.τ).loc Cert.MlaUkvIdeal.main_v0)),
      θ_run (Cert.MlaUkvIdeal.defs (F := Ideal)) (onTc (τ := Cert.MlaUkvIdeal.τ) (Cert.MlaUkvIdeal.main (F := Ideal))) ⟨m, fun _ => 0, g⟩ (fun r => ∀ c : Dev Cert.MlaUkvIdeal.nD,
          r.2.mem ((c.tc : Thread Cert.MlaUkvIdeal.nD Cert.MlaUkvIdeal.τ).loc Cert.MlaUkvIdeal.main_v0) = v0 c
          ∧ r.2.mem ((c.tc : Thread Cert.MlaUkvIdeal.nD Cert.MlaUkvIdeal.τ).loc Cert.MlaUkvIdeal.main_arg0) = m ((c.tc : Thread Cert.MlaUkvIdeal.nD Cert.MlaUkvIdeal.τ).loc Cert.MlaUkvIdeal.main_arg0)
          ∧ r.2.mem ((c.tc : Thread Cert.MlaUkvIdeal.nD Cert.MlaUkvIdeal.τ).loc Cert.MlaUkvIdeal.main_arg1) = m ((c.tc : Thread Cert.MlaUkvIdeal.nD Cert.MlaUkvIdeal.τ).loc Cert.MlaUkvIdeal.main_arg1))
      ∧ θ_run (Cert.MlaUkvRefIdeal.defs (F := Ideal)) (onTc (τ := Cert.MlaUkvRefIdeal.τ) (Cert.MlaUkvRefIdeal.main (F := Ideal))) ⟨m', fun _ => 0, g'⟩ (fun r => ∀ c : Dev Cert.MlaUkvRefIdeal.nD,
          r.2.mem ((c.tc : Thread Cert.MlaUkvRefIdeal.nD Cert.MlaUkvRefIdeal.τ).loc Cert.MlaUkvRefIdeal.main_v2) = v0 c
          ∧ r.2.mem ((c.tc : Thread Cert.MlaUkvRefIdeal.nD Cert.MlaUkvRefIdeal.τ).loc Cert.MlaUkvRefIdeal.main_arg0) = m' ((c.tc : Thread Cert.MlaUkvRefIdeal.nD Cert.MlaUkvRefIdeal.τ).loc Cert.MlaUkvRefIdeal.main_arg0)
          ∧ r.2.mem ((c.tc : Thread Cert.MlaUkvRefIdeal.nD Cert.MlaUkvRefIdeal.τ).loc Cert.MlaUkvRefIdeal.main_arg1) = m' ((c.tc : Thread Cert.MlaUkvRefIdeal.nD Cert.MlaUkvRefIdeal.τ).loc Cert.MlaUkvRefIdeal.main_arg1))

def preserves_MlaUqDx_MlaUqDxIdeal : Prop :=
  True

def algebraic_MlaUqDxIdeal_MlaUqDxRefIdeal [hMlaUqDxIdeal : Cert.MlaUqDxIdeal.Facts] [hMlaUqDxRefIdeal : Cert.MlaUqDxRefIdeal.Facts] : Prop :=
  ∀ (m : (ℓ : Loc Cert.MlaUqDxIdeal.nD Cert.MlaUqDxIdeal.τ Cert.MlaUqDxIdeal.sig) → Buf (Elt Ideal) ℓ) (g : Dev Cert.MlaUqDxIdeal.nD → PrngReg)
    (m' : (ℓ : Loc Cert.MlaUqDxRefIdeal.nD Cert.MlaUqDxRefIdeal.τ Cert.MlaUqDxRefIdeal.sig) → Buf (Elt Ideal) ℓ) (g' : Dev Cert.MlaUqDxRefIdeal.nD → PrngReg), Pre_MlaUqDxIdeal m →
    (∀ c : Dev Cert.MlaUqDxIdeal.nD,
      m' ((c.tc : Thread Cert.MlaUqDxRefIdeal.nD Cert.MlaUqDxRefIdeal.τ).loc Cert.MlaUqDxRefIdeal.main_arg0) = m ((c.tc : Thread Cert.MlaUqDxIdeal.nD Cert.MlaUqDxIdeal.τ).loc Cert.MlaUqDxIdeal.main_arg0)
      ∧ m' ((c.tc : Thread Cert.MlaUqDxRefIdeal.nD Cert.MlaUqDxRefIdeal.τ).loc Cert.MlaUqDxRefIdeal.main_arg1) = m ((c.tc : Thread Cert.MlaUqDxIdeal.nD Cert.MlaUqDxIdeal.τ).loc Cert.MlaUqDxIdeal.main_arg1)) →
    ∃ (v0 : (c : Dev Cert.MlaUqDxIdeal.nD) → Buf (Elt Ideal) ((c.tc : Thread Cert.MlaUqDxIdeal.nD Cert.MlaUqDxIdeal.τ).loc Cert.MlaUqDxIdeal.main_v0)),
      θ_run (Cert.MlaUqDxIdeal.defs (F := Ideal)) (onTc (τ := Cert.MlaUqDxIdeal.τ) (Cert.MlaUqDxIdeal.main (F := Ideal))) ⟨m, fun _ => 0, g⟩ (fun r => ∀ c : Dev Cert.MlaUqDxIdeal.nD,
          r.2.mem ((c.tc : Thread Cert.MlaUqDxIdeal.nD Cert.MlaUqDxIdeal.τ).loc Cert.MlaUqDxIdeal.main_v0) = v0 c
          ∧ r.2.mem ((c.tc : Thread Cert.MlaUqDxIdeal.nD Cert.MlaUqDxIdeal.τ).loc Cert.MlaUqDxIdeal.main_arg0) = m ((c.tc : Thread Cert.MlaUqDxIdeal.nD Cert.MlaUqDxIdeal.τ).loc Cert.MlaUqDxIdeal.main_arg0)
          ∧ r.2.mem ((c.tc : Thread Cert.MlaUqDxIdeal.nD Cert.MlaUqDxIdeal.τ).loc Cert.MlaUqDxIdeal.main_arg1) = m ((c.tc : Thread Cert.MlaUqDxIdeal.nD Cert.MlaUqDxIdeal.τ).loc Cert.MlaUqDxIdeal.main_arg1))
      ∧ θ_run (Cert.MlaUqDxRefIdeal.defs (F := Ideal)) (onTc (τ := Cert.MlaUqDxRefIdeal.τ) (Cert.MlaUqDxRefIdeal.main (F := Ideal))) ⟨m', fun _ => 0, g'⟩ (fun r => ∀ c : Dev Cert.MlaUqDxRefIdeal.nD,
          r.2.mem ((c.tc : Thread Cert.MlaUqDxRefIdeal.nD Cert.MlaUqDxRefIdeal.τ).loc Cert.MlaUqDxRefIdeal.main_v3) = v0 c
          ∧ r.2.mem ((c.tc : Thread Cert.MlaUqDxRefIdeal.nD Cert.MlaUqDxRefIdeal.τ).loc Cert.MlaUqDxRefIdeal.main_arg0) = m' ((c.tc : Thread Cert.MlaUqDxRefIdeal.nD Cert.MlaUqDxRefIdeal.τ).loc Cert.MlaUqDxRefIdeal.main_arg0)
          ∧ r.2.mem ((c.tc : Thread Cert.MlaUqDxRefIdeal.nD Cert.MlaUqDxRefIdeal.τ).loc Cert.MlaUqDxRefIdeal.main_arg1) = m' ((c.tc : Thread Cert.MlaUqDxRefIdeal.nD Cert.MlaUqDxRefIdeal.τ).loc Cert.MlaUqDxRefIdeal.main_arg1))

def preserves_MlaUqDw_MlaUqDwIdeal : Prop :=
  True

def algebraic_MlaUqDwIdeal_MlaUqDwRefIdeal [hMlaUqDwIdeal : Cert.MlaUqDwIdeal.Facts] [hMlaUqDwRefIdeal : Cert.MlaUqDwRefIdeal.Facts] : Prop :=
  ∀ (m : (ℓ : Loc Cert.MlaUqDwIdeal.nD Cert.MlaUqDwIdeal.τ Cert.MlaUqDwIdeal.sig) → Buf (Elt Ideal) ℓ) (g : Dev Cert.MlaUqDwIdeal.nD → PrngReg)
    (m' : (ℓ : Loc Cert.MlaUqDwRefIdeal.nD Cert.MlaUqDwRefIdeal.τ Cert.MlaUqDwRefIdeal.sig) → Buf (Elt Ideal) ℓ) (g' : Dev Cert.MlaUqDwRefIdeal.nD → PrngReg), Pre_MlaUqDwIdeal m →
    (∀ c : Dev Cert.MlaUqDwIdeal.nD,
      m' ((c.tc : Thread Cert.MlaUqDwRefIdeal.nD Cert.MlaUqDwRefIdeal.τ).loc Cert.MlaUqDwRefIdeal.main_arg0) = m ((c.tc : Thread Cert.MlaUqDwIdeal.nD Cert.MlaUqDwIdeal.τ).loc Cert.MlaUqDwIdeal.main_arg0)
      ∧ m' ((c.tc : Thread Cert.MlaUqDwRefIdeal.nD Cert.MlaUqDwRefIdeal.τ).loc Cert.MlaUqDwRefIdeal.main_arg1) = m ((c.tc : Thread Cert.MlaUqDwIdeal.nD Cert.MlaUqDwIdeal.τ).loc Cert.MlaUqDwIdeal.main_arg1)) →
    ∃ (v0 : (c : Dev Cert.MlaUqDwIdeal.nD) → Buf (Elt Ideal) ((c.tc : Thread Cert.MlaUqDwIdeal.nD Cert.MlaUqDwIdeal.τ).loc Cert.MlaUqDwIdeal.main_v0)),
      θ_run (Cert.MlaUqDwIdeal.defs (F := Ideal)) (onTc (τ := Cert.MlaUqDwIdeal.τ) (Cert.MlaUqDwIdeal.main (F := Ideal))) ⟨m, fun _ => 0, g⟩ (fun r => ∀ c : Dev Cert.MlaUqDwIdeal.nD,
          r.2.mem ((c.tc : Thread Cert.MlaUqDwIdeal.nD Cert.MlaUqDwIdeal.τ).loc Cert.MlaUqDwIdeal.main_v0) = v0 c
          ∧ r.2.mem ((c.tc : Thread Cert.MlaUqDwIdeal.nD Cert.MlaUqDwIdeal.τ).loc Cert.MlaUqDwIdeal.main_arg0) = m ((c.tc : Thread Cert.MlaUqDwIdeal.nD Cert.MlaUqDwIdeal.τ).loc Cert.MlaUqDwIdeal.main_arg0)
          ∧ r.2.mem ((c.tc : Thread Cert.MlaUqDwIdeal.nD Cert.MlaUqDwIdeal.τ).loc Cert.MlaUqDwIdeal.main_arg1) = m ((c.tc : Thread Cert.MlaUqDwIdeal.nD Cert.MlaUqDwIdeal.τ).loc Cert.MlaUqDwIdeal.main_arg1))
      ∧ θ_run (Cert.MlaUqDwRefIdeal.defs (F := Ideal)) (onTc (τ := Cert.MlaUqDwRefIdeal.τ) (Cert.MlaUqDwRefIdeal.main (F := Ideal))) ⟨m', fun _ => 0, g'⟩ (fun r => ∀ c : Dev Cert.MlaUqDwRefIdeal.nD,
          r.2.mem ((c.tc : Thread Cert.MlaUqDwRefIdeal.nD Cert.MlaUqDwRefIdeal.τ).loc Cert.MlaUqDwRefIdeal.main_v3) = v0 c
          ∧ r.2.mem ((c.tc : Thread Cert.MlaUqDwRefIdeal.nD Cert.MlaUqDwRefIdeal.τ).loc Cert.MlaUqDwRefIdeal.main_arg0) = m' ((c.tc : Thread Cert.MlaUqDwRefIdeal.nD Cert.MlaUqDwRefIdeal.τ).loc Cert.MlaUqDwRefIdeal.main_arg0)
          ∧ r.2.mem ((c.tc : Thread Cert.MlaUqDwRefIdeal.nD Cert.MlaUqDwRefIdeal.τ).loc Cert.MlaUqDwRefIdeal.main_arg1) = m' ((c.tc : Thread Cert.MlaUqDwRefIdeal.nD Cert.MlaUqDwRefIdeal.τ).loc Cert.MlaUqDwRefIdeal.main_arg1))

def preserves_MlaUkvDx_MlaUkvDxIdeal : Prop :=
  True

def algebraic_MlaUkvDxIdeal_MlaUkvDxRefIdeal [hMlaUkvDxIdeal : Cert.MlaUkvDxIdeal.Facts] [hMlaUkvDxRefIdeal : Cert.MlaUkvDxRefIdeal.Facts] : Prop :=
  ∀ (m : (ℓ : Loc Cert.MlaUkvDxIdeal.nD Cert.MlaUkvDxIdeal.τ Cert.MlaUkvDxIdeal.sig) → Buf (Elt Ideal) ℓ) (g : Dev Cert.MlaUkvDxIdeal.nD → PrngReg)
    (m' : (ℓ : Loc Cert.MlaUkvDxRefIdeal.nD Cert.MlaUkvDxRefIdeal.τ Cert.MlaUkvDxRefIdeal.sig) → Buf (Elt Ideal) ℓ) (g' : Dev Cert.MlaUkvDxRefIdeal.nD → PrngReg), Pre_MlaUkvDxIdeal m →
    (∀ c : Dev Cert.MlaUkvDxIdeal.nD,
      m' ((c.tc : Thread Cert.MlaUkvDxRefIdeal.nD Cert.MlaUkvDxRefIdeal.τ).loc Cert.MlaUkvDxRefIdeal.main_arg0) = m ((c.tc : Thread Cert.MlaUkvDxIdeal.nD Cert.MlaUkvDxIdeal.τ).loc Cert.MlaUkvDxIdeal.main_arg0)
      ∧ m' ((c.tc : Thread Cert.MlaUkvDxRefIdeal.nD Cert.MlaUkvDxRefIdeal.τ).loc Cert.MlaUkvDxRefIdeal.main_arg1) = m ((c.tc : Thread Cert.MlaUkvDxIdeal.nD Cert.MlaUkvDxIdeal.τ).loc Cert.MlaUkvDxIdeal.main_arg1)) →
    ∃ (v0 : (c : Dev Cert.MlaUkvDxIdeal.nD) → Buf (Elt Ideal) ((c.tc : Thread Cert.MlaUkvDxIdeal.nD Cert.MlaUkvDxIdeal.τ).loc Cert.MlaUkvDxIdeal.main_v0)),
      θ_run (Cert.MlaUkvDxIdeal.defs (F := Ideal)) (onTc (τ := Cert.MlaUkvDxIdeal.τ) (Cert.MlaUkvDxIdeal.main (F := Ideal))) ⟨m, fun _ => 0, g⟩ (fun r => ∀ c : Dev Cert.MlaUkvDxIdeal.nD,
          r.2.mem ((c.tc : Thread Cert.MlaUkvDxIdeal.nD Cert.MlaUkvDxIdeal.τ).loc Cert.MlaUkvDxIdeal.main_v0) = v0 c
          ∧ r.2.mem ((c.tc : Thread Cert.MlaUkvDxIdeal.nD Cert.MlaUkvDxIdeal.τ).loc Cert.MlaUkvDxIdeal.main_arg0) = m ((c.tc : Thread Cert.MlaUkvDxIdeal.nD Cert.MlaUkvDxIdeal.τ).loc Cert.MlaUkvDxIdeal.main_arg0)
          ∧ r.2.mem ((c.tc : Thread Cert.MlaUkvDxIdeal.nD Cert.MlaUkvDxIdeal.τ).loc Cert.MlaUkvDxIdeal.main_arg1) = m ((c.tc : Thread Cert.MlaUkvDxIdeal.nD Cert.MlaUkvDxIdeal.τ).loc Cert.MlaUkvDxIdeal.main_arg1))
      ∧ θ_run (Cert.MlaUkvDxRefIdeal.defs (F := Ideal)) (onTc (τ := Cert.MlaUkvDxRefIdeal.τ) (Cert.MlaUkvDxRefIdeal.main (F := Ideal))) ⟨m', fun _ => 0, g'⟩ (fun r => ∀ c : Dev Cert.MlaUkvDxRefIdeal.nD,
          r.2.mem ((c.tc : Thread Cert.MlaUkvDxRefIdeal.nD Cert.MlaUkvDxRefIdeal.τ).loc Cert.MlaUkvDxRefIdeal.main_v3) = v0 c
          ∧ r.2.mem ((c.tc : Thread Cert.MlaUkvDxRefIdeal.nD Cert.MlaUkvDxRefIdeal.τ).loc Cert.MlaUkvDxRefIdeal.main_arg0) = m' ((c.tc : Thread Cert.MlaUkvDxRefIdeal.nD Cert.MlaUkvDxRefIdeal.τ).loc Cert.MlaUkvDxRefIdeal.main_arg0)
          ∧ r.2.mem ((c.tc : Thread Cert.MlaUkvDxRefIdeal.nD Cert.MlaUkvDxRefIdeal.τ).loc Cert.MlaUkvDxRefIdeal.main_arg1) = m' ((c.tc : Thread Cert.MlaUkvDxRefIdeal.nD Cert.MlaUkvDxRefIdeal.τ).loc Cert.MlaUkvDxRefIdeal.main_arg1))

def preserves_MlaUkvDw_MlaUkvDwIdeal : Prop :=
  True

def algebraic_MlaUkvDwIdeal_MlaUkvDwRefIdeal [hMlaUkvDwIdeal : Cert.MlaUkvDwIdeal.Facts] [hMlaUkvDwRefIdeal : Cert.MlaUkvDwRefIdeal.Facts] : Prop :=
  ∀ (m : (ℓ : Loc Cert.MlaUkvDwIdeal.nD Cert.MlaUkvDwIdeal.τ Cert.MlaUkvDwIdeal.sig) → Buf (Elt Ideal) ℓ) (g : Dev Cert.MlaUkvDwIdeal.nD → PrngReg)
    (m' : (ℓ : Loc Cert.MlaUkvDwRefIdeal.nD Cert.MlaUkvDwRefIdeal.τ Cert.MlaUkvDwRefIdeal.sig) → Buf (Elt Ideal) ℓ) (g' : Dev Cert.MlaUkvDwRefIdeal.nD → PrngReg), Pre_MlaUkvDwIdeal m →
    (∀ c : Dev Cert.MlaUkvDwIdeal.nD,
      m' ((c.tc : Thread Cert.MlaUkvDwRefIdeal.nD Cert.MlaUkvDwRefIdeal.τ).loc Cert.MlaUkvDwRefIdeal.main_arg0) = m ((c.tc : Thread Cert.MlaUkvDwIdeal.nD Cert.MlaUkvDwIdeal.τ).loc Cert.MlaUkvDwIdeal.main_arg0)
      ∧ m' ((c.tc : Thread Cert.MlaUkvDwRefIdeal.nD Cert.MlaUkvDwRefIdeal.τ).loc Cert.MlaUkvDwRefIdeal.main_arg1) = m ((c.tc : Thread Cert.MlaUkvDwIdeal.nD Cert.MlaUkvDwIdeal.τ).loc Cert.MlaUkvDwIdeal.main_arg1)) →
    ∃ (v0 : (c : Dev Cert.MlaUkvDwIdeal.nD) → Buf (Elt Ideal) ((c.tc : Thread Cert.MlaUkvDwIdeal.nD Cert.MlaUkvDwIdeal.τ).loc Cert.MlaUkvDwIdeal.main_v0)),
      θ_run (Cert.MlaUkvDwIdeal.defs (F := Ideal)) (onTc (τ := Cert.MlaUkvDwIdeal.τ) (Cert.MlaUkvDwIdeal.main (F := Ideal))) ⟨m, fun _ => 0, g⟩ (fun r => ∀ c : Dev Cert.MlaUkvDwIdeal.nD,
          r.2.mem ((c.tc : Thread Cert.MlaUkvDwIdeal.nD Cert.MlaUkvDwIdeal.τ).loc Cert.MlaUkvDwIdeal.main_v0) = v0 c
          ∧ r.2.mem ((c.tc : Thread Cert.MlaUkvDwIdeal.nD Cert.MlaUkvDwIdeal.τ).loc Cert.MlaUkvDwIdeal.main_arg0) = m ((c.tc : Thread Cert.MlaUkvDwIdeal.nD Cert.MlaUkvDwIdeal.τ).loc Cert.MlaUkvDwIdeal.main_arg0)
          ∧ r.2.mem ((c.tc : Thread Cert.MlaUkvDwIdeal.nD Cert.MlaUkvDwIdeal.τ).loc Cert.MlaUkvDwIdeal.main_arg1) = m ((c.tc : Thread Cert.MlaUkvDwIdeal.nD Cert.MlaUkvDwIdeal.τ).loc Cert.MlaUkvDwIdeal.main_arg1))
      ∧ θ_run (Cert.MlaUkvDwRefIdeal.defs (F := Ideal)) (onTc (τ := Cert.MlaUkvDwRefIdeal.τ) (Cert.MlaUkvDwRefIdeal.main (F := Ideal))) ⟨m', fun _ => 0, g'⟩ (fun r => ∀ c : Dev Cert.MlaUkvDwRefIdeal.nD,
          r.2.mem ((c.tc : Thread Cert.MlaUkvDwRefIdeal.nD Cert.MlaUkvDwRefIdeal.τ).loc Cert.MlaUkvDwRefIdeal.main_v3) = v0 c
          ∧ r.2.mem ((c.tc : Thread Cert.MlaUkvDwRefIdeal.nD Cert.MlaUkvDwRefIdeal.τ).loc Cert.MlaUkvDwRefIdeal.main_arg0) = m' ((c.tc : Thread Cert.MlaUkvDwRefIdeal.nD Cert.MlaUkvDwRefIdeal.τ).loc Cert.MlaUkvDwRefIdeal.main_arg0)
          ∧ r.2.mem ((c.tc : Thread Cert.MlaUkvDwRefIdeal.nD Cert.MlaUkvDwRefIdeal.τ).loc Cert.MlaUkvDwRefIdeal.main_arg1) = m' ((c.tc : Thread Cert.MlaUkvDwRefIdeal.nD Cert.MlaUkvDwRefIdeal.τ).loc Cert.MlaUkvDwRefIdeal.main_arg1))

def preserves_KvNorm_KvNormIdeal : Prop :=
  True

def algebraic_KvNormIdeal_KvNormRefIdeal [hKvNormIdeal : Cert.KvNormIdeal.Facts] [hKvNormRefIdeal : Cert.KvNormRefIdeal.Facts] : Prop :=
  ∀ (m : (ℓ : Loc Cert.KvNormIdeal.nD Cert.KvNormIdeal.τ Cert.KvNormIdeal.sig) → Buf (Elt Ideal) ℓ) (g : Dev Cert.KvNormIdeal.nD → PrngReg)
    (m' : (ℓ : Loc Cert.KvNormRefIdeal.nD Cert.KvNormRefIdeal.τ Cert.KvNormRefIdeal.sig) → Buf (Elt Ideal) ℓ) (g' : Dev Cert.KvNormRefIdeal.nD → PrngReg), Pre_KvNormIdeal m →
    (∀ c : Dev Cert.KvNormIdeal.nD,
      m' ((c.tc : Thread Cert.KvNormRefIdeal.nD Cert.KvNormRefIdeal.τ).loc Cert.KvNormRefIdeal.main_arg0) = m ((c.tc : Thread Cert.KvNormIdeal.nD Cert.KvNormIdeal.τ).loc Cert.KvNormIdeal.main_arg0)
      ∧ m' ((c.tc : Thread Cert.KvNormRefIdeal.nD Cert.KvNormRefIdeal.τ).loc Cert.KvNormRefIdeal.main_arg1) = m ((c.tc : Thread Cert.KvNormIdeal.nD Cert.KvNormIdeal.τ).loc Cert.KvNormIdeal.main_arg1)) →
    ∃ (v0 : (c : Dev Cert.KvNormIdeal.nD) → Buf (Elt Ideal) ((c.tc : Thread Cert.KvNormIdeal.nD Cert.KvNormIdeal.τ).loc Cert.KvNormIdeal.main_v0)),
      θ_run (Cert.KvNormIdeal.defs (F := Ideal)) (onTc (τ := Cert.KvNormIdeal.τ) (Cert.KvNormIdeal.main (F := Ideal))) ⟨m, fun _ => 0, g⟩ (fun r => ∀ c : Dev Cert.KvNormIdeal.nD,
          r.2.mem ((c.tc : Thread Cert.KvNormIdeal.nD Cert.KvNormIdeal.τ).loc Cert.KvNormIdeal.main_v0) = v0 c
          ∧ r.2.mem ((c.tc : Thread Cert.KvNormIdeal.nD Cert.KvNormIdeal.τ).loc Cert.KvNormIdeal.main_arg0) = m ((c.tc : Thread Cert.KvNormIdeal.nD Cert.KvNormIdeal.τ).loc Cert.KvNormIdeal.main_arg0)
          ∧ r.2.mem ((c.tc : Thread Cert.KvNormIdeal.nD Cert.KvNormIdeal.τ).loc Cert.KvNormIdeal.main_arg1) = m ((c.tc : Thread Cert.KvNormIdeal.nD Cert.KvNormIdeal.τ).loc Cert.KvNormIdeal.main_arg1))
      ∧ θ_run (Cert.KvNormRefIdeal.defs (F := Ideal)) (onTc (τ := Cert.KvNormRefIdeal.τ) (Cert.KvNormRefIdeal.main (F := Ideal))) ⟨m', fun _ => 0, g'⟩ (fun r => ∀ c : Dev Cert.KvNormRefIdeal.nD,
          r.2.mem ((c.tc : Thread Cert.KvNormRefIdeal.nD Cert.KvNormRefIdeal.τ).loc Cert.KvNormRefIdeal.main_v13) = v0 c
          ∧ r.2.mem ((c.tc : Thread Cert.KvNormRefIdeal.nD Cert.KvNormRefIdeal.τ).loc Cert.KvNormRefIdeal.main_arg0) = m' ((c.tc : Thread Cert.KvNormRefIdeal.nD Cert.KvNormRefIdeal.τ).loc Cert.KvNormRefIdeal.main_arg0)
          ∧ r.2.mem ((c.tc : Thread Cert.KvNormRefIdeal.nD Cert.KvNormRefIdeal.τ).loc Cert.KvNormRefIdeal.main_arg1) = m' ((c.tc : Thread Cert.KvNormRefIdeal.nD Cert.KvNormRefIdeal.τ).loc Cert.KvNormRefIdeal.main_arg1))

def preserves_KvNormBwd_KvNormBwdIdeal : Prop :=
  True

def algebraic_KvNormBwdIdeal_KvNormBwdRefIdeal [hKvNormBwdIdeal : Cert.KvNormBwdIdeal.Facts] [hKvNormBwdRefIdeal : Cert.KvNormBwdRefIdeal.Facts] : Prop :=
  ∀ (m : (ℓ : Loc Cert.KvNormBwdIdeal.nD Cert.KvNormBwdIdeal.τ Cert.KvNormBwdIdeal.sig) → Buf (Elt Ideal) ℓ) (g : Dev Cert.KvNormBwdIdeal.nD → PrngReg)
    (m' : (ℓ : Loc Cert.KvNormBwdRefIdeal.nD Cert.KvNormBwdRefIdeal.τ Cert.KvNormBwdRefIdeal.sig) → Buf (Elt Ideal) ℓ) (g' : Dev Cert.KvNormBwdRefIdeal.nD → PrngReg), Pre_KvNormBwdIdeal m →
    (∀ c : Dev Cert.KvNormBwdIdeal.nD,
      m' ((c.tc : Thread Cert.KvNormBwdRefIdeal.nD Cert.KvNormBwdRefIdeal.τ).loc Cert.KvNormBwdRefIdeal.main_arg0) = m ((c.tc : Thread Cert.KvNormBwdIdeal.nD Cert.KvNormBwdIdeal.τ).loc Cert.KvNormBwdIdeal.main_arg0)
      ∧ m' ((c.tc : Thread Cert.KvNormBwdRefIdeal.nD Cert.KvNormBwdRefIdeal.τ).loc Cert.KvNormBwdRefIdeal.main_arg1) = m ((c.tc : Thread Cert.KvNormBwdIdeal.nD Cert.KvNormBwdIdeal.τ).loc Cert.KvNormBwdIdeal.main_arg1)
      ∧ m' ((c.tc : Thread Cert.KvNormBwdRefIdeal.nD Cert.KvNormBwdRefIdeal.τ).loc Cert.KvNormBwdRefIdeal.main_arg2) = m ((c.tc : Thread Cert.KvNormBwdIdeal.nD Cert.KvNormBwdIdeal.τ).loc Cert.KvNormBwdIdeal.main_arg2)) →
    ∃ (v0 : (c : Dev Cert.KvNormBwdIdeal.nD) → Buf (Elt Ideal) ((c.tc : Thread Cert.KvNormBwdIdeal.nD Cert.KvNormBwdIdeal.τ).loc Cert.KvNormBwdIdeal.main_v0_0)) (v1 : (c : Dev Cert.KvNormBwdIdeal.nD) → Buf (Elt Ideal) ((c.tc : Thread Cert.KvNormBwdIdeal.nD Cert.KvNormBwdIdeal.τ).loc Cert.KvNormBwdIdeal.main_v0_1)),
      θ_run (Cert.KvNormBwdIdeal.defs (F := Ideal)) (onTc (τ := Cert.KvNormBwdIdeal.τ) (Cert.KvNormBwdIdeal.main (F := Ideal))) ⟨m, fun _ => 0, g⟩ (fun r => ∀ c : Dev Cert.KvNormBwdIdeal.nD,
          r.2.mem ((c.tc : Thread Cert.KvNormBwdIdeal.nD Cert.KvNormBwdIdeal.τ).loc Cert.KvNormBwdIdeal.main_v0_0) = v0 c
          ∧ r.2.mem ((c.tc : Thread Cert.KvNormBwdIdeal.nD Cert.KvNormBwdIdeal.τ).loc Cert.KvNormBwdIdeal.main_v0_1) = v1 c
          ∧ r.2.mem ((c.tc : Thread Cert.KvNormBwdIdeal.nD Cert.KvNormBwdIdeal.τ).loc Cert.KvNormBwdIdeal.main_arg0) = m ((c.tc : Thread Cert.KvNormBwdIdeal.nD Cert.KvNormBwdIdeal.τ).loc Cert.KvNormBwdIdeal.main_arg0)
          ∧ r.2.mem ((c.tc : Thread Cert.KvNormBwdIdeal.nD Cert.KvNormBwdIdeal.τ).loc Cert.KvNormBwdIdeal.main_arg1) = m ((c.tc : Thread Cert.KvNormBwdIdeal.nD Cert.KvNormBwdIdeal.τ).loc Cert.KvNormBwdIdeal.main_arg1)
          ∧ r.2.mem ((c.tc : Thread Cert.KvNormBwdIdeal.nD Cert.KvNormBwdIdeal.τ).loc Cert.KvNormBwdIdeal.main_arg2) = m ((c.tc : Thread Cert.KvNormBwdIdeal.nD Cert.KvNormBwdIdeal.τ).loc Cert.KvNormBwdIdeal.main_arg2))
      ∧ θ_run (Cert.KvNormBwdRefIdeal.defs (F := Ideal)) (onTc (τ := Cert.KvNormBwdRefIdeal.τ) (Cert.KvNormBwdRefIdeal.main (F := Ideal))) ⟨m', fun _ => 0, g'⟩ (fun r => ∀ c : Dev Cert.KvNormBwdRefIdeal.nD,
          r.2.mem ((c.tc : Thread Cert.KvNormBwdRefIdeal.nD Cert.KvNormBwdRefIdeal.τ).loc Cert.KvNormBwdRefIdeal.main_v34) = v0 c
          ∧ r.2.mem ((c.tc : Thread Cert.KvNormBwdRefIdeal.nD Cert.KvNormBwdRefIdeal.τ).loc Cert.KvNormBwdRefIdeal.main_v18) = v1 c
          ∧ r.2.mem ((c.tc : Thread Cert.KvNormBwdRefIdeal.nD Cert.KvNormBwdRefIdeal.τ).loc Cert.KvNormBwdRefIdeal.main_arg0) = m' ((c.tc : Thread Cert.KvNormBwdRefIdeal.nD Cert.KvNormBwdRefIdeal.τ).loc Cert.KvNormBwdRefIdeal.main_arg0)
          ∧ r.2.mem ((c.tc : Thread Cert.KvNormBwdRefIdeal.nD Cert.KvNormBwdRefIdeal.τ).loc Cert.KvNormBwdRefIdeal.main_arg1) = m' ((c.tc : Thread Cert.KvNormBwdRefIdeal.nD Cert.KvNormBwdRefIdeal.τ).loc Cert.KvNormBwdRefIdeal.main_arg1)
          ∧ r.2.mem ((c.tc : Thread Cert.KvNormBwdRefIdeal.nD Cert.KvNormBwdRefIdeal.τ).loc Cert.KvNormBwdRefIdeal.main_arg2) = m' ((c.tc : Thread Cert.KvNormBwdRefIdeal.nD Cert.KvNormBwdRefIdeal.τ).loc Cert.KvNormBwdRefIdeal.main_arg2))

def preserves_GlaPost_GlaPostIdeal : Prop :=
  True

def algebraic_GlaPostIdeal_GlaPostRefIdeal [hGlaPostIdeal : Cert.GlaPostIdeal.Facts] [hGlaPostRefIdeal : Cert.GlaPostRefIdeal.Facts] : Prop :=
  ∀ (m : (ℓ : Loc Cert.GlaPostIdeal.nD Cert.GlaPostIdeal.τ Cert.GlaPostIdeal.sig) → Buf (Elt Ideal) ℓ) (g : Dev Cert.GlaPostIdeal.nD → PrngReg)
    (m' : (ℓ : Loc Cert.GlaPostRefIdeal.nD Cert.GlaPostRefIdeal.τ Cert.GlaPostRefIdeal.sig) → Buf (Elt Ideal) ℓ) (g' : Dev Cert.GlaPostRefIdeal.nD → PrngReg), Pre_GlaPostIdeal m →
    (∀ c : Dev Cert.GlaPostIdeal.nD,
      m' ((c.tc : Thread Cert.GlaPostRefIdeal.nD Cert.GlaPostRefIdeal.τ).loc Cert.GlaPostRefIdeal.main_arg0) = m ((c.tc : Thread Cert.GlaPostIdeal.nD Cert.GlaPostIdeal.τ).loc Cert.GlaPostIdeal.main_arg0)
      ∧ m' ((c.tc : Thread Cert.GlaPostRefIdeal.nD Cert.GlaPostRefIdeal.τ).loc Cert.GlaPostRefIdeal.main_arg1) = m ((c.tc : Thread Cert.GlaPostIdeal.nD Cert.GlaPostIdeal.τ).loc Cert.GlaPostIdeal.main_arg1)
      ∧ m' ((c.tc : Thread Cert.GlaPostRefIdeal.nD Cert.GlaPostRefIdeal.τ).loc Cert.GlaPostRefIdeal.main_arg2) = m ((c.tc : Thread Cert.GlaPostIdeal.nD Cert.GlaPostIdeal.τ).loc Cert.GlaPostIdeal.main_arg2)) →
    ∃ (v0 : (c : Dev Cert.GlaPostIdeal.nD) → Buf (Elt Ideal) ((c.tc : Thread Cert.GlaPostIdeal.nD Cert.GlaPostIdeal.τ).loc Cert.GlaPostIdeal.main_v0)),
      θ_run (Cert.GlaPostIdeal.defs (F := Ideal)) (onTc (τ := Cert.GlaPostIdeal.τ) (Cert.GlaPostIdeal.main (F := Ideal))) ⟨m, fun _ => 0, g⟩ (fun r => ∀ c : Dev Cert.GlaPostIdeal.nD,
          r.2.mem ((c.tc : Thread Cert.GlaPostIdeal.nD Cert.GlaPostIdeal.τ).loc Cert.GlaPostIdeal.main_v0) = v0 c
          ∧ r.2.mem ((c.tc : Thread Cert.GlaPostIdeal.nD Cert.GlaPostIdeal.τ).loc Cert.GlaPostIdeal.main_arg0) = m ((c.tc : Thread Cert.GlaPostIdeal.nD Cert.GlaPostIdeal.τ).loc Cert.GlaPostIdeal.main_arg0)
          ∧ r.2.mem ((c.tc : Thread Cert.GlaPostIdeal.nD Cert.GlaPostIdeal.τ).loc Cert.GlaPostIdeal.main_arg1) = m ((c.tc : Thread Cert.GlaPostIdeal.nD Cert.GlaPostIdeal.τ).loc Cert.GlaPostIdeal.main_arg1)
          ∧ r.2.mem ((c.tc : Thread Cert.GlaPostIdeal.nD Cert.GlaPostIdeal.τ).loc Cert.GlaPostIdeal.main_arg2) = m ((c.tc : Thread Cert.GlaPostIdeal.nD Cert.GlaPostIdeal.τ).loc Cert.GlaPostIdeal.main_arg2))
      ∧ θ_run (Cert.GlaPostRefIdeal.defs (F := Ideal)) (onTc (τ := Cert.GlaPostRefIdeal.τ) (Cert.GlaPostRefIdeal.main (F := Ideal))) ⟨m', fun _ => 0, g'⟩ (fun r => ∀ c : Dev Cert.GlaPostRefIdeal.nD,
          r.2.mem ((c.tc : Thread Cert.GlaPostRefIdeal.nD Cert.GlaPostRefIdeal.τ).loc Cert.GlaPostRefIdeal.main_v24) = v0 c
          ∧ r.2.mem ((c.tc : Thread Cert.GlaPostRefIdeal.nD Cert.GlaPostRefIdeal.τ).loc Cert.GlaPostRefIdeal.main_arg0) = m' ((c.tc : Thread Cert.GlaPostRefIdeal.nD Cert.GlaPostRefIdeal.τ).loc Cert.GlaPostRefIdeal.main_arg0)
          ∧ r.2.mem ((c.tc : Thread Cert.GlaPostRefIdeal.nD Cert.GlaPostRefIdeal.τ).loc Cert.GlaPostRefIdeal.main_arg1) = m' ((c.tc : Thread Cert.GlaPostRefIdeal.nD Cert.GlaPostRefIdeal.τ).loc Cert.GlaPostRefIdeal.main_arg1)
          ∧ r.2.mem ((c.tc : Thread Cert.GlaPostRefIdeal.nD Cert.GlaPostRefIdeal.τ).loc Cert.GlaPostRefIdeal.main_arg2) = m' ((c.tc : Thread Cert.GlaPostRefIdeal.nD Cert.GlaPostRefIdeal.τ).loc Cert.GlaPostRefIdeal.main_arg2))

def preserves_SumWide_SumWideIdeal : Prop :=
  True

def algebraic_SumWideIdeal_SumWideRefIdeal [hSumWideIdeal : Cert.SumWideIdeal.Facts] [hSumWideRefIdeal : Cert.SumWideRefIdeal.Facts] : Prop :=
  ∀ (m : (ℓ : Loc Cert.SumWideIdeal.nD Cert.SumWideIdeal.τ Cert.SumWideIdeal.sig) → Buf (Elt Ideal) ℓ) (g : Dev Cert.SumWideIdeal.nD → PrngReg)
    (m' : (ℓ : Loc Cert.SumWideRefIdeal.nD Cert.SumWideRefIdeal.τ Cert.SumWideRefIdeal.sig) → Buf (Elt Ideal) ℓ) (g' : Dev Cert.SumWideRefIdeal.nD → PrngReg), Pre_SumWideIdeal m →
    (∀ c : Dev Cert.SumWideIdeal.nD,
      m' ((c.tc : Thread Cert.SumWideRefIdeal.nD Cert.SumWideRefIdeal.τ).loc Cert.SumWideRefIdeal.main_arg0) = m ((c.tc : Thread Cert.SumWideIdeal.nD Cert.SumWideIdeal.τ).loc Cert.SumWideIdeal.main_arg0)) →
    ∃ (v0 : (c : Dev Cert.SumWideIdeal.nD) → Buf (Elt Ideal) ((c.tc : Thread Cert.SumWideIdeal.nD Cert.SumWideIdeal.τ).loc Cert.SumWideIdeal.main_v0)),
      θ_run (Cert.SumWideIdeal.defs (F := Ideal)) (onTc (τ := Cert.SumWideIdeal.τ) (Cert.SumWideIdeal.main (F := Ideal))) ⟨m, fun _ => 0, g⟩ (fun r => ∀ c : Dev Cert.SumWideIdeal.nD,
          r.2.mem ((c.tc : Thread Cert.SumWideIdeal.nD Cert.SumWideIdeal.τ).loc Cert.SumWideIdeal.main_v0) = v0 c
          ∧ r.2.mem ((c.tc : Thread Cert.SumWideIdeal.nD Cert.SumWideIdeal.τ).loc Cert.SumWideIdeal.main_arg0) = m ((c.tc : Thread Cert.SumWideIdeal.nD Cert.SumWideIdeal.τ).loc Cert.SumWideIdeal.main_arg0))
      ∧ θ_run (Cert.SumWideRefIdeal.defs (F := Ideal)) (onTc (τ := Cert.SumWideRefIdeal.τ) (Cert.SumWideRefIdeal.main (F := Ideal))) ⟨m', fun _ => 0, g'⟩ (fun r => ∀ c : Dev Cert.SumWideRefIdeal.nD,
          r.2.mem ((c.tc : Thread Cert.SumWideRefIdeal.nD Cert.SumWideRefIdeal.τ).loc Cert.SumWideRefIdeal.main_v5) = v0 c
          ∧ r.2.mem ((c.tc : Thread Cert.SumWideRefIdeal.nD Cert.SumWideRefIdeal.τ).loc Cert.SumWideRefIdeal.main_arg0) = m' ((c.tc : Thread Cert.SumWideRefIdeal.nD Cert.SumWideRefIdeal.τ).loc Cert.SumWideRefIdeal.main_arg0))

def preserves_SumHalf_SumHalfIdeal : Prop :=
  True

def algebraic_SumHalfIdeal_SumHalfRefIdeal [hSumHalfIdeal : Cert.SumHalfIdeal.Facts] [hSumHalfRefIdeal : Cert.SumHalfRefIdeal.Facts] : Prop :=
  ∀ (m : (ℓ : Loc Cert.SumHalfIdeal.nD Cert.SumHalfIdeal.τ Cert.SumHalfIdeal.sig) → Buf (Elt Ideal) ℓ) (g : Dev Cert.SumHalfIdeal.nD → PrngReg)
    (m' : (ℓ : Loc Cert.SumHalfRefIdeal.nD Cert.SumHalfRefIdeal.τ Cert.SumHalfRefIdeal.sig) → Buf (Elt Ideal) ℓ) (g' : Dev Cert.SumHalfRefIdeal.nD → PrngReg), Pre_SumHalfIdeal m →
    (∀ c : Dev Cert.SumHalfIdeal.nD,
      m' ((c.tc : Thread Cert.SumHalfRefIdeal.nD Cert.SumHalfRefIdeal.τ).loc Cert.SumHalfRefIdeal.main_arg0) = m ((c.tc : Thread Cert.SumHalfIdeal.nD Cert.SumHalfIdeal.τ).loc Cert.SumHalfIdeal.main_arg0)) →
    ∃ (v0 : (c : Dev Cert.SumHalfIdeal.nD) → Buf (Elt Ideal) ((c.tc : Thread Cert.SumHalfIdeal.nD Cert.SumHalfIdeal.τ).loc Cert.SumHalfIdeal.main_v0)),
      θ_run (Cert.SumHalfIdeal.defs (F := Ideal)) (onTc (τ := Cert.SumHalfIdeal.τ) (Cert.SumHalfIdeal.main (F := Ideal))) ⟨m, fun _ => 0, g⟩ (fun r => ∀ c : Dev Cert.SumHalfIdeal.nD,
          r.2.mem ((c.tc : Thread Cert.SumHalfIdeal.nD Cert.SumHalfIdeal.τ).loc Cert.SumHalfIdeal.main_v0) = v0 c
          ∧ r.2.mem ((c.tc : Thread Cert.SumHalfIdeal.nD Cert.SumHalfIdeal.τ).loc Cert.SumHalfIdeal.main_arg0) = m ((c.tc : Thread Cert.SumHalfIdeal.nD Cert.SumHalfIdeal.τ).loc Cert.SumHalfIdeal.main_arg0))
      ∧ θ_run (Cert.SumHalfRefIdeal.defs (F := Ideal)) (onTc (τ := Cert.SumHalfRefIdeal.τ) (Cert.SumHalfRefIdeal.main (F := Ideal))) ⟨m', fun _ => 0, g'⟩ (fun r => ∀ c : Dev Cert.SumHalfRefIdeal.nD,
          r.2.mem ((c.tc : Thread Cert.SumHalfRefIdeal.nD Cert.SumHalfRefIdeal.τ).loc Cert.SumHalfRefIdeal.main_v5) = v0 c
          ∧ r.2.mem ((c.tc : Thread Cert.SumHalfRefIdeal.nD Cert.SumHalfRefIdeal.τ).loc Cert.SumHalfRefIdeal.main_arg0) = m' ((c.tc : Thread Cert.SumHalfRefIdeal.nD Cert.SumHalfRefIdeal.τ).loc Cert.SumHalfRefIdeal.main_arg0))

def preserves_SumLane_SumLaneIdeal : Prop :=
  True

def algebraic_SumLaneIdeal_SumLaneRefIdeal [hSumLaneIdeal : Cert.SumLaneIdeal.Facts] [hSumLaneRefIdeal : Cert.SumLaneRefIdeal.Facts] : Prop :=
  ∀ (m : (ℓ : Loc Cert.SumLaneIdeal.nD Cert.SumLaneIdeal.τ Cert.SumLaneIdeal.sig) → Buf (Elt Ideal) ℓ) (g : Dev Cert.SumLaneIdeal.nD → PrngReg)
    (m' : (ℓ : Loc Cert.SumLaneRefIdeal.nD Cert.SumLaneRefIdeal.τ Cert.SumLaneRefIdeal.sig) → Buf (Elt Ideal) ℓ) (g' : Dev Cert.SumLaneRefIdeal.nD → PrngReg), Pre_SumLaneIdeal m →
    (∀ c : Dev Cert.SumLaneIdeal.nD,
      m' ((c.tc : Thread Cert.SumLaneRefIdeal.nD Cert.SumLaneRefIdeal.τ).loc Cert.SumLaneRefIdeal.main_arg0) = m ((c.tc : Thread Cert.SumLaneIdeal.nD Cert.SumLaneIdeal.τ).loc Cert.SumLaneIdeal.main_arg0)) →
    ∃ (v0 : (c : Dev Cert.SumLaneIdeal.nD) → Buf (Elt Ideal) ((c.tc : Thread Cert.SumLaneIdeal.nD Cert.SumLaneIdeal.τ).loc Cert.SumLaneIdeal.main_v0)),
      θ_run (Cert.SumLaneIdeal.defs (F := Ideal)) (onTc (τ := Cert.SumLaneIdeal.τ) (Cert.SumLaneIdeal.main (F := Ideal))) ⟨m, fun _ => 0, g⟩ (fun r => ∀ c : Dev Cert.SumLaneIdeal.nD,
          r.2.mem ((c.tc : Thread Cert.SumLaneIdeal.nD Cert.SumLaneIdeal.τ).loc Cert.SumLaneIdeal.main_v0) = v0 c
          ∧ r.2.mem ((c.tc : Thread Cert.SumLaneIdeal.nD Cert.SumLaneIdeal.τ).loc Cert.SumLaneIdeal.main_arg0) = m ((c.tc : Thread Cert.SumLaneIdeal.nD Cert.SumLaneIdeal.τ).loc Cert.SumLaneIdeal.main_arg0))
      ∧ θ_run (Cert.SumLaneRefIdeal.defs (F := Ideal)) (onTc (τ := Cert.SumLaneRefIdeal.τ) (Cert.SumLaneRefIdeal.main (F := Ideal))) ⟨m', fun _ => 0, g'⟩ (fun r => ∀ c : Dev Cert.SumLaneRefIdeal.nD,
          r.2.mem ((c.tc : Thread Cert.SumLaneRefIdeal.nD Cert.SumLaneRefIdeal.τ).loc Cert.SumLaneRefIdeal.main_v5) = v0 c
          ∧ r.2.mem ((c.tc : Thread Cert.SumLaneRefIdeal.nD Cert.SumLaneRefIdeal.τ).loc Cert.SumLaneRefIdeal.main_arg0) = m' ((c.tc : Thread Cert.SumLaneRefIdeal.nD Cert.SumLaneRefIdeal.τ).loc Cert.SumLaneRefIdeal.main_arg0))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m ((c.tc : Thread Cert.LossIdeal.nD Cert.LossIdeal.τ).loc Cert.LossIdeal.main_arg0) = Layout.block ⟨2, ![8192, 1024]⟩ ⟨2, ![65536, 1024]⟩ 0 8 c (m' (((0 : Dev Cert.LossRefIdeal.nD).tc : Thread Cert.LossRefIdeal.nD Cert.LossRefIdeal.τ).loc Cert.LossRefIdeal.main_arg0))
      ∧ m ((c.tc : Thread Cert.LossIdeal.nD Cert.LossIdeal.τ).loc Cert.LossIdeal.main_arg1) = Layout.block ⟨2, ![8192, 1024]⟩ ⟨2, ![65536, 1024]⟩ 0 8 c (m' (((0 : Dev Cert.LossRefIdeal.nD).tc : Thread Cert.LossRefIdeal.nD Cert.LossRefIdeal.τ).loc Cert.LossRefIdeal.main_arg1))) →
    ∃ (v0 : Buf (Elt Ideal) (((0 : Dev Cert.LossRefIdeal.nD).tc : Thread Cert.LossRefIdeal.nD Cert.LossRefIdeal.τ).loc Cert.LossRefIdeal.main_v8)) (v1 : Buf (Elt Ideal) (((0 : Dev Cert.LossRefIdeal.nD).tc : Thread Cert.LossRefIdeal.nD Cert.LossRefIdeal.τ).loc Cert.LossRefIdeal.main_v14)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v4) = v0
          ∧ r.2.mem ((c.tc : Thread Cert.LossIdeal.nD Cert.LossIdeal.τ).loc Cert.LossIdeal.main_v1_0) = Layout.block ⟨2, ![8192, 1024]⟩ ⟨2, ![65536, 1024]⟩ 0 8 c v1
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ θ_run (Cert.LossRefIdeal.defs (F := Ideal)) (onTc (τ := Cert.LossRefIdeal.τ) (Cert.LossRefIdeal.main (F := Ideal))) ⟨m', fun _ => 0, g'⟩ (fun r =>
          r.2.mem (((0 : Dev Cert.LossRefIdeal.nD).tc : Thread Cert.LossRefIdeal.nD Cert.LossRefIdeal.τ).loc Cert.LossRefIdeal.main_v8) = v0
          ∧ r.2.mem (((0 : Dev Cert.LossRefIdeal.nD).tc : Thread Cert.LossRefIdeal.nD Cert.LossRefIdeal.τ).loc Cert.LossRefIdeal.main_v14) = v1
          ∧ r.2.mem (((0 : Dev Cert.LossRefIdeal.nD).tc : Thread Cert.LossRefIdeal.nD Cert.LossRefIdeal.τ).loc Cert.LossRefIdeal.main_arg0) = m' (((0 : Dev Cert.LossRefIdeal.nD).tc : Thread Cert.LossRefIdeal.nD Cert.LossRefIdeal.τ).loc Cert.LossRefIdeal.main_arg0)
          ∧ r.2.mem (((0 : Dev Cert.LossRefIdeal.nD).tc : Thread Cert.LossRefIdeal.nD Cert.LossRefIdeal.τ).loc Cert.LossRefIdeal.main_arg1) = m' (((0 : Dev Cert.LossRefIdeal.nD).tc : Thread Cert.LossRefIdeal.nD Cert.LossRefIdeal.τ).loc Cert.LossRefIdeal.main_arg1))

def bitexact_Swap_SwapRef [hSwap : Cert.Swap.Facts] [hSwapRef : Cert.SwapRef.Facts] : Prop :=
  ∀ (m : (ℓ : Loc Cert.Swap.nD Cert.Swap.τ Cert.Swap.sig) → Buf (Elt Bits) ℓ) (g : Dev Cert.Swap.nD → PrngReg)
    (m' : (ℓ : Loc Cert.SwapRef.nD Cert.SwapRef.τ Cert.SwapRef.sig) → Buf (Elt Bits) ℓ) (g' : Dev Cert.SwapRef.nD → PrngReg), Pre_Swap m →
    (∀ c : Dev Cert.Swap.nD,
      m ((c.tc : Thread Cert.Swap.nD Cert.Swap.τ).loc Cert.Swap.main_arg0) = Layout.block ⟨2, ![26624, 1024]⟩ ⟨2, ![212992, 1024]⟩ 0 8 c (m' (((0 : Dev Cert.SwapRef.nD).tc : Thread Cert.SwapRef.nD Cert.SwapRef.τ).loc Cert.SwapRef.main_arg0))) →
    ∃ (v0 : Buf (Elt Bits) (((0 : Dev Cert.SwapRef.nD).tc : Thread Cert.SwapRef.nD Cert.SwapRef.τ).loc Cert.SwapRef.main_v4)),
      θ_run (Cert.Swap.defs (F := Bits)) (onTc (τ := Cert.Swap.τ) (Cert.Swap.main (F := Bits))) ⟨m, fun _ => 0, g⟩ (fun r => ∀ c : Dev Cert.Swap.nD,
          r.2.mem ((c.tc : Thread Cert.Swap.nD Cert.Swap.τ).loc Cert.Swap.main_v1) = Layout.block ⟨2, ![26624, 1024]⟩ ⟨2, ![212992, 1024]⟩ 0 8 c v0
          ∧ r.2.mem ((c.tc : Thread Cert.Swap.nD Cert.Swap.τ).loc Cert.Swap.main_arg0) = m ((c.tc : Thread Cert.Swap.nD Cert.Swap.τ).loc Cert.Swap.main_arg0))
      ∧ θ_run (Cert.SwapRef.defs (F := Bits)) (onTc (τ := Cert.SwapRef.τ) (Cert.SwapRef.main (F := Bits))) ⟨m', fun _ => 0, g'⟩ (fun r =>
          r.2.mem (((0 : Dev Cert.SwapRef.nD).tc : Thread Cert.SwapRef.nD Cert.SwapRef.τ).loc Cert.SwapRef.main_v4) = v0
          ∧ r.2.mem (((0 : Dev Cert.SwapRef.nD).tc : Thread Cert.SwapRef.nD Cert.SwapRef.τ).loc Cert.SwapRef.main_arg0) = m' (((0 : Dev Cert.SwapRef.nD).tc : Thread Cert.SwapRef.nD Cert.SwapRef.τ).loc Cert.SwapRef.main_arg0))

def bitexact_Scatter_ScatterRef [hScatter : Cert.Scatter.Facts] [hScatterRef : Cert.ScatterRef.Facts] : Prop :=
  ∀ (m : (ℓ : Loc Cert.Scatter.nD Cert.Scatter.τ Cert.Scatter.sig) → Buf (Elt Bits) ℓ) (g : Dev Cert.Scatter.nD → PrngReg)
    (m' : (ℓ : Loc Cert.ScatterRef.nD Cert.ScatterRef.τ Cert.ScatterRef.sig) → Buf (Elt Bits) ℓ) (g' : Dev Cert.ScatterRef.nD → PrngReg), Pre_Scatter m →
    (∀ c : Dev Cert.Scatter.nD,
      m ((c.tc : Thread Cert.Scatter.nD Cert.Scatter.τ).loc Cert.Scatter.main_arg0) = Layout.blockN ⟨3, ![4, 6656, 1024]⟩ ⟨3, ![16, 13312, 1024]⟩ (Layout.meshBlock [2, 2, 2] ![[0, 1], [2], []] c) (m' (((0 : Dev Cert.ScatterRef.nD).tc : Thread Cert.ScatterRef.nD Cert.ScatterRef.τ).loc Cert.ScatterRef.main_arg0))) →
    ∃ (v0 : Buf (Elt Bits) (((0 : Dev Cert.ScatterRef.nD).tc : Thread Cert.ScatterRef.nD Cert.ScatterRef.τ).loc Cert.ScatterRef.main_v2)),
      θ_run (Cert.Scatter.defs (F := Bits)) (onTc (τ := Cert.Scatter.τ) (Cert.Scatter.main (F := Bits))) ⟨m, fun _ => 0, g⟩ (fun r => ∀ c : Dev Cert.Scatter.nD,
          r.2.mem ((c.tc : Thread Cert.Scatter.nD Cert.Scatter.τ).loc Cert.Scatter.main_v1) = Layout.blockN ⟨3, ![4, 6656, 1024]⟩ ⟨3, ![16, 13312, 1024]⟩ (Layout.meshBlock [2, 2, 2] ![[0, 1], [2], []] c) v0
          ∧ r.2.mem ((c.tc : Thread Cert.Scatter.nD Cert.Scatter.τ).loc Cert.Scatter.main_arg0) = m ((c.tc : Thread Cert.Scatter.nD Cert.Scatter.τ).loc Cert.Scatter.main_arg0))
      ∧ θ_run (Cert.ScatterRef.defs (F := Bits)) (onTc (τ := Cert.ScatterRef.τ) (Cert.ScatterRef.main (F := Bits))) ⟨m', fun _ => 0, g'⟩ (fun r =>
          r.2.mem (((0 : Dev Cert.ScatterRef.nD).tc : Thread Cert.ScatterRef.nD Cert.ScatterRef.τ).loc Cert.ScatterRef.main_v2) = v0
          ∧ r.2.mem (((0 : Dev Cert.ScatterRef.nD).tc : Thread Cert.ScatterRef.nD Cert.ScatterRef.τ).loc Cert.ScatterRef.main_arg0) = m' (((0 : Dev Cert.ScatterRef.nD).tc : Thread Cert.ScatterRef.nD Cert.ScatterRef.τ).loc Cert.ScatterRef.main_arg0))

def bitexact_Cores_CoresRef [hCores : Cert.Cores.Facts] [hCoresRef : Cert.CoresRef.Facts] : Prop :=
  ∀ (m : (ℓ : Loc Cert.Cores.nD Cert.Cores.τ Cert.Cores.sig) → Buf (Elt Bits) ℓ) (g : Dev Cert.Cores.nD → PrngReg)
    (m' : (ℓ : Loc Cert.CoresRef.nD Cert.CoresRef.τ Cert.CoresRef.sig) → Buf (Elt Bits) ℓ) (g' : Dev Cert.CoresRef.nD → PrngReg), Pre_Cores m →
    (∀ c : Dev Cert.Cores.nD,
      m ((c.tc : Thread Cert.Cores.nD Cert.Cores.τ).loc Cert.Cores.main_arg0) = Layout.block ⟨2, ![6656, 1024]⟩ ⟨2, ![53248, 1024]⟩ 0 8 c (m' (((0 : Dev Cert.CoresRef.nD).tc : Thread Cert.CoresRef.nD Cert.CoresRef.τ).loc Cert.CoresRef.main_arg0))) →
    ∃ (v0 : Buf (Elt Bits) (((0 : Dev Cert.CoresRef.nD).tc : Thread Cert.CoresRef.nD Cert.CoresRef.τ).loc Cert.CoresRef.main_v0)),
      θ_run (Cert.Cores.defs (F := Bits)) (onTc (τ := Cert.Cores.τ) (Cert.Cores.main (F := Bits))) ⟨m, fun _ => 0, g⟩ (fun r => ∀ c : Dev Cert.Cores.nD,
          r.2.mem ((c.tc : Thread Cert.Cores.nD Cert.Cores.τ).loc Cert.Cores.main_v1) = Layout.blockN ⟨3, ![2, 6656, 1024]⟩ ⟨3, ![8, 6656, 1024]⟩ (Layout.meshBlock [2, 2, 2] ![[0, 1], [], []] c) v0
          ∧ r.2.mem ((c.tc : Thread Cert.Cores.nD Cert.Cores.τ).loc Cert.Cores.main_arg0) = m ((c.tc : Thread Cert.Cores.nD Cert.Cores.τ).loc Cert.Cores.main_arg0))
      ∧ θ_run (Cert.CoresRef.defs (F := Bits)) (onTc (τ := Cert.CoresRef.τ) (Cert.CoresRef.main (F := Bits))) ⟨m', fun _ => 0, g'⟩ (fun r =>
          r.2.mem (((0 : Dev Cert.CoresRef.nD).tc : Thread Cert.CoresRef.nD Cert.CoresRef.τ).loc Cert.CoresRef.main_v0) = v0
          ∧ r.2.mem (((0 : Dev Cert.CoresRef.nD).tc : Thread Cert.CoresRef.nD Cert.CoresRef.τ).loc Cert.CoresRef.main_arg0) = m' (((0 : Dev Cert.CoresRef.nD).tc : Thread Cert.CoresRef.nD Cert.CoresRef.τ).loc Cert.CoresRef.main_arg0))

def bitexact_Chips_ChipsRef [hChips : Cert.Chips.Facts] [hChipsRef : Cert.ChipsRef.Facts] : Prop :=
  ∀ (m : (ℓ : Loc Cert.Chips.nD Cert.Chips.τ Cert.Chips.sig) → Buf (Elt Bits) ℓ) (g : Dev Cert.Chips.nD → PrngReg)
    (m' : (ℓ : Loc Cert.ChipsRef.nD Cert.ChipsRef.τ Cert.ChipsRef.sig) → Buf (Elt Bits) ℓ) (g' : Dev Cert.ChipsRef.nD → PrngReg), Pre_Chips m →
    (∀ c : Dev Cert.Chips.nD,
      m ((c.tc : Thread Cert.Chips.nD Cert.Chips.τ).loc Cert.Chips.main_arg0) = Layout.blockN ⟨2, ![12656, 1024]⟩ ⟨2, ![50624, 1024]⟩ (Layout.meshBlock [2, 2, 2] ![[0, 1], []] c) (m' (((0 : Dev Cert.ChipsRef.nD).tc : Thread Cert.ChipsRef.nD Cert.ChipsRef.τ).loc Cert.ChipsRef.main_arg0))
      ∧ m ((c.tc : Thread Cert.Chips.nD Cert.Chips.τ).loc Cert.Chips.main_arg1) = Layout.blockN ⟨2, ![24, 1024]⟩ ⟨2, ![96, 1024]⟩ (Layout.meshBlock [2, 2, 2] ![[0, 1], []] c) (m' (((0 : Dev Cert.ChipsRef.nD).tc : Thread Cert.ChipsRef.nD Cert.ChipsRef.τ).loc Cert.ChipsRef.main_arg1))) →
    ∃ (v0 : Buf (Elt Bits) (((0 : Dev Cert.ChipsRef.nD).tc : Thread Cert.ChipsRef.nD Cert.ChipsRef.τ).loc Cert.ChipsRef.main_v0)) (v1 : Buf (Elt Bits) (((0 : Dev Cert.ChipsRef.nD).tc : Thread Cert.ChipsRef.nD Cert.ChipsRef.τ).loc Cert.ChipsRef.main_v1)),
      θ_run (Cert.Chips.defs (F := Bits)) (onTc (τ := Cert.Chips.τ) (Cert.Chips.main (F := Bits))) ⟨m, fun _ => 0, g⟩ (fun r => ∀ c : Dev Cert.Chips.nD,
          r.2.mem ((c.tc : Thread Cert.Chips.nD Cert.Chips.τ).loc Cert.Chips.main_v1_0) = v0
          ∧ r.2.mem ((c.tc : Thread Cert.Chips.nD Cert.Chips.τ).loc Cert.Chips.main_v1_1) = v1
          ∧ r.2.mem ((c.tc : Thread Cert.Chips.nD Cert.Chips.τ).loc Cert.Chips.main_arg0) = m ((c.tc : Thread Cert.Chips.nD Cert.Chips.τ).loc Cert.Chips.main_arg0)
          ∧ r.2.mem ((c.tc : Thread Cert.Chips.nD Cert.Chips.τ).loc Cert.Chips.main_arg1) = m ((c.tc : Thread Cert.Chips.nD Cert.Chips.τ).loc Cert.Chips.main_arg1))
      ∧ θ_run (Cert.ChipsRef.defs (F := Bits)) (onTc (τ := Cert.ChipsRef.τ) (Cert.ChipsRef.main (F := Bits))) ⟨m', fun _ => 0, g'⟩ (fun r =>
          r.2.mem (((0 : Dev Cert.ChipsRef.nD).tc : Thread Cert.ChipsRef.nD Cert.ChipsRef.τ).loc Cert.ChipsRef.main_v0) = v0
          ∧ r.2.mem (((0 : Dev Cert.ChipsRef.nD).tc : Thread Cert.ChipsRef.nD Cert.ChipsRef.τ).loc Cert.ChipsRef.main_v1) = v1
          ∧ r.2.mem (((0 : Dev Cert.ChipsRef.nD).tc : Thread Cert.ChipsRef.nD Cert.ChipsRef.τ).loc Cert.ChipsRef.main_arg0) = m' (((0 : Dev Cert.ChipsRef.nD).tc : Thread Cert.ChipsRef.nD Cert.ChipsRef.τ).loc Cert.ChipsRef.main_arg0)
          ∧ r.2.mem (((0 : Dev Cert.ChipsRef.nD).tc : Thread Cert.ChipsRef.nD Cert.ChipsRef.τ).loc Cert.ChipsRef.main_arg1) = m' (((0 : Dev Cert.ChipsRef.nD).tc : Thread Cert.ChipsRef.nD Cert.ChipsRef.τ).loc Cert.ChipsRef.main_arg1))

def bitexact_AddCores_AddCoresRef [hAddCores : Cert.AddCores.Facts] [hAddCoresRef : Cert.AddCoresRef.Facts] : Prop :=
  ∀ (m : (ℓ : Loc Cert.AddCores.nD Cert.AddCores.τ Cert.AddCores.sig) → Buf (Elt Bits) ℓ) (g : Dev Cert.AddCores.nD → PrngReg)
    (m' : (ℓ : Loc Cert.AddCoresRef.nD Cert.AddCoresRef.τ Cert.AddCoresRef.sig) → Buf (Elt Bits) ℓ) (g' : Dev Cert.AddCoresRef.nD → PrngReg), Pre_AddCores m →
    (∀ c : Dev Cert.AddCores.nD,
      m' ((c.tc : Thread Cert.AddCoresRef.nD Cert.AddCoresRef.τ).loc Cert.AddCoresRef.main_arg0) = m ((c.tc : Thread Cert.AddCores.nD Cert.AddCores.τ).loc Cert.AddCores.main_arg0)
      ∧ m' ((c.tc : Thread Cert.AddCoresRef.nD Cert.AddCoresRef.τ).loc Cert.AddCoresRef.main_arg1) = m ((c.tc : Thread Cert.AddCores.nD Cert.AddCores.τ).loc Cert.AddCores.main_arg1)) →
    ∃ (v0 : (c : Dev Cert.AddCores.nD) → Buf (Elt Bits) ((c.tc : Thread Cert.AddCores.nD Cert.AddCores.τ).loc Cert.AddCores.main_v0)),
      θ_run (Cert.AddCores.defs (F := Bits)) (onTc (τ := Cert.AddCores.τ) (Cert.AddCores.main (F := Bits))) ⟨m, fun _ => 0, g⟩ (fun r => ∀ c : Dev Cert.AddCores.nD,
          r.2.mem ((c.tc : Thread Cert.AddCores.nD Cert.AddCores.τ).loc Cert.AddCores.main_v0) = v0 c
          ∧ r.2.mem ((c.tc : Thread Cert.AddCores.nD Cert.AddCores.τ).loc Cert.AddCores.main_arg0) = m ((c.tc : Thread Cert.AddCores.nD Cert.AddCores.τ).loc Cert.AddCores.main_arg0)
          ∧ r.2.mem ((c.tc : Thread Cert.AddCores.nD Cert.AddCores.τ).loc Cert.AddCores.main_arg1) = m ((c.tc : Thread Cert.AddCores.nD Cert.AddCores.τ).loc Cert.AddCores.main_arg1))
      ∧ θ_run (Cert.AddCoresRef.defs (F := Bits)) (onTc (τ := Cert.AddCoresRef.τ) (Cert.AddCoresRef.main (F := Bits))) ⟨m', fun _ => 0, g'⟩ (fun r => ∀ c : Dev Cert.AddCoresRef.nD,
          r.2.mem ((c.tc : Thread Cert.AddCoresRef.nD Cert.AddCoresRef.τ).loc Cert.AddCoresRef.main_v0) = v0 c
          ∧ r.2.mem ((c.tc : Thread Cert.AddCoresRef.nD Cert.AddCoresRef.τ).loc Cert.AddCoresRef.main_arg0) = m' ((c.tc : Thread Cert.AddCoresRef.nD Cert.AddCoresRef.τ).loc Cert.AddCoresRef.main_arg0)
          ∧ r.2.mem ((c.tc : Thread Cert.AddCoresRef.nD Cert.AddCoresRef.τ).loc Cert.AddCoresRef.main_arg1) = m' ((c.tc : Thread Cert.AddCoresRef.nD Cert.AddCoresRef.τ).loc Cert.AddCoresRef.main_arg1))

def bitexact_AddChips_AddChipsRef [hAddChips : Cert.AddChips.Facts] [hAddChipsRef : Cert.AddChipsRef.Facts] : Prop :=
  ∀ (m : (ℓ : Loc Cert.AddChips.nD Cert.AddChips.τ Cert.AddChips.sig) → Buf (Elt Bits) ℓ) (g : Dev Cert.AddChips.nD → PrngReg)
    (m' : (ℓ : Loc Cert.AddChipsRef.nD Cert.AddChipsRef.τ Cert.AddChipsRef.sig) → Buf (Elt Bits) ℓ) (g' : Dev Cert.AddChipsRef.nD → PrngReg), Pre_AddChips m →
    (∀ c : Dev Cert.AddChips.nD,
      m' ((c.tc : Thread Cert.AddChipsRef.nD Cert.AddChipsRef.τ).loc Cert.AddChipsRef.main_arg0) = m ((c.tc : Thread Cert.AddChips.nD Cert.AddChips.τ).loc Cert.AddChips.main_arg0)
      ∧ m' ((c.tc : Thread Cert.AddChipsRef.nD Cert.AddChipsRef.τ).loc Cert.AddChipsRef.main_arg1) = m ((c.tc : Thread Cert.AddChips.nD Cert.AddChips.τ).loc Cert.AddChips.main_arg1)
      ∧ m' ((c.tc : Thread Cert.AddChipsRef.nD Cert.AddChipsRef.τ).loc Cert.AddChipsRef.main_arg2) = m ((c.tc : Thread Cert.AddChips.nD Cert.AddChips.τ).loc Cert.AddChips.main_arg2)
      ∧ m' ((c.tc : Thread Cert.AddChipsRef.nD Cert.AddChipsRef.τ).loc Cert.AddChipsRef.main_arg3) = m ((c.tc : Thread Cert.AddChips.nD Cert.AddChips.τ).loc Cert.AddChips.main_arg3)) →
    ∃ (v0 : (c : Dev Cert.AddChips.nD) → Buf (Elt Bits) ((c.tc : Thread Cert.AddChips.nD Cert.AddChips.τ).loc Cert.AddChips.main_v0)),
      θ_run (Cert.AddChips.defs (F := Bits)) (onTc (τ := Cert.AddChips.τ) (Cert.AddChips.main (F := Bits))) ⟨m, fun _ => 0, g⟩ (fun r => ∀ c : Dev Cert.AddChips.nD,
          r.2.mem ((c.tc : Thread Cert.AddChips.nD Cert.AddChips.τ).loc Cert.AddChips.main_v0) = v0 c
          ∧ r.2.mem ((c.tc : Thread Cert.AddChips.nD Cert.AddChips.τ).loc Cert.AddChips.main_arg0) = m ((c.tc : Thread Cert.AddChips.nD Cert.AddChips.τ).loc Cert.AddChips.main_arg0)
          ∧ r.2.mem ((c.tc : Thread Cert.AddChips.nD Cert.AddChips.τ).loc Cert.AddChips.main_arg1) = m ((c.tc : Thread Cert.AddChips.nD Cert.AddChips.τ).loc Cert.AddChips.main_arg1)
          ∧ r.2.mem ((c.tc : Thread Cert.AddChips.nD Cert.AddChips.τ).loc Cert.AddChips.main_arg2) = m ((c.tc : Thread Cert.AddChips.nD Cert.AddChips.τ).loc Cert.AddChips.main_arg2)
          ∧ r.2.mem ((c.tc : Thread Cert.AddChips.nD Cert.AddChips.τ).loc Cert.AddChips.main_arg3) = m ((c.tc : Thread Cert.AddChips.nD Cert.AddChips.τ).loc Cert.AddChips.main_arg3))
      ∧ θ_run (Cert.AddChipsRef.defs (F := Bits)) (onTc (τ := Cert.AddChipsRef.τ) (Cert.AddChipsRef.main (F := Bits))) ⟨m', fun _ => 0, g'⟩ (fun r => ∀ c : Dev Cert.AddChipsRef.nD,
          r.2.mem ((c.tc : Thread Cert.AddChipsRef.nD Cert.AddChipsRef.τ).loc Cert.AddChipsRef.main_v2) = v0 c
          ∧ r.2.mem ((c.tc : Thread Cert.AddChipsRef.nD Cert.AddChipsRef.τ).loc Cert.AddChipsRef.main_arg0) = m' ((c.tc : Thread Cert.AddChipsRef.nD Cert.AddChipsRef.τ).loc Cert.AddChipsRef.main_arg0)
          ∧ r.2.mem ((c.tc : Thread Cert.AddChipsRef.nD Cert.AddChipsRef.τ).loc Cert.AddChipsRef.main_arg1) = m' ((c.tc : Thread Cert.AddChipsRef.nD Cert.AddChipsRef.τ).loc Cert.AddChipsRef.main_arg1)
          ∧ r.2.mem ((c.tc : Thread Cert.AddChipsRef.nD Cert.AddChipsRef.τ).loc Cert.AddChipsRef.main_arg2) = m' ((c.tc : Thread Cert.AddChipsRef.nD Cert.AddChipsRef.τ).loc Cert.AddChipsRef.main_arg2)
          ∧ r.2.mem ((c.tc : Thread Cert.AddChipsRef.nD Cert.AddChipsRef.τ).loc Cert.AddChipsRef.main_arg3) = m' ((c.tc : Thread Cert.AddChipsRef.nD Cert.AddChipsRef.τ).loc Cert.AddChipsRef.main_arg3))

def bitexact_SumWide_SumWideRef [hSumWide : Cert.SumWide.Facts] [hSumWideRef : Cert.SumWideRef.Facts] : Prop :=
  ∀ (m : (ℓ : Loc Cert.SumWide.nD Cert.SumWide.τ Cert.SumWide.sig) → Buf (Elt Bits) ℓ) (g : Dev Cert.SumWide.nD → PrngReg)
    (m' : (ℓ : Loc Cert.SumWideRef.nD Cert.SumWideRef.τ Cert.SumWideRef.sig) → Buf (Elt Bits) ℓ) (g' : Dev Cert.SumWideRef.nD → PrngReg), Pre_SumWide m →
    (∀ c : Dev Cert.SumWide.nD,
      m' ((c.tc : Thread Cert.SumWideRef.nD Cert.SumWideRef.τ).loc Cert.SumWideRef.main_arg0) = m ((c.tc : Thread Cert.SumWide.nD Cert.SumWide.τ).loc Cert.SumWide.main_arg0)) →
    ∃ (v0 : (c : Dev Cert.SumWide.nD) → Buf (Elt Bits) ((c.tc : Thread Cert.SumWide.nD Cert.SumWide.τ).loc Cert.SumWide.main_v0)),
      θ_run (Cert.SumWide.defs (F := Bits)) (onTc (τ := Cert.SumWide.τ) (Cert.SumWide.main (F := Bits))) ⟨m, fun _ => 0, g⟩ (fun r => ∀ c : Dev Cert.SumWide.nD,
          r.2.mem ((c.tc : Thread Cert.SumWide.nD Cert.SumWide.τ).loc Cert.SumWide.main_v0) = v0 c
          ∧ r.2.mem ((c.tc : Thread Cert.SumWide.nD Cert.SumWide.τ).loc Cert.SumWide.main_arg0) = m ((c.tc : Thread Cert.SumWide.nD Cert.SumWide.τ).loc Cert.SumWide.main_arg0))
      ∧ θ_run (Cert.SumWideRef.defs (F := Bits)) (onTc (τ := Cert.SumWideRef.τ) (Cert.SumWideRef.main (F := Bits))) ⟨m', fun _ => 0, g'⟩ (fun r => ∀ c : Dev Cert.SumWideRef.nD,
          r.2.mem ((c.tc : Thread Cert.SumWideRef.nD Cert.SumWideRef.τ).loc Cert.SumWideRef.main_v5) = v0 c
          ∧ r.2.mem ((c.tc : Thread Cert.SumWideRef.nD Cert.SumWideRef.τ).loc Cert.SumWideRef.main_arg0) = m' ((c.tc : Thread Cert.SumWideRef.nD Cert.SumWideRef.τ).loc Cert.SumWideRef.main_arg0))

def bitexact_SumHalf_SumHalfRef [hSumHalf : Cert.SumHalf.Facts] [hSumHalfRef : Cert.SumHalfRef.Facts] : Prop :=
  ∀ (m : (ℓ : Loc Cert.SumHalf.nD Cert.SumHalf.τ Cert.SumHalf.sig) → Buf (Elt Bits) ℓ) (g : Dev Cert.SumHalf.nD → PrngReg)
    (m' : (ℓ : Loc Cert.SumHalfRef.nD Cert.SumHalfRef.τ Cert.SumHalfRef.sig) → Buf (Elt Bits) ℓ) (g' : Dev Cert.SumHalfRef.nD → PrngReg), Pre_SumHalf m →
    (∀ c : Dev Cert.SumHalf.nD,
      m' ((c.tc : Thread Cert.SumHalfRef.nD Cert.SumHalfRef.τ).loc Cert.SumHalfRef.main_arg0) = m ((c.tc : Thread Cert.SumHalf.nD Cert.SumHalf.τ).loc Cert.SumHalf.main_arg0)) →
    ∃ (v0 : (c : Dev Cert.SumHalf.nD) → Buf (Elt Bits) ((c.tc : Thread Cert.SumHalf.nD Cert.SumHalf.τ).loc Cert.SumHalf.main_v0)),
      θ_run (Cert.SumHalf.defs (F := Bits)) (onTc (τ := Cert.SumHalf.τ) (Cert.SumHalf.main (F := Bits))) ⟨m, fun _ => 0, g⟩ (fun r => ∀ c : Dev Cert.SumHalf.nD,
          r.2.mem ((c.tc : Thread Cert.SumHalf.nD Cert.SumHalf.τ).loc Cert.SumHalf.main_v0) = v0 c
          ∧ r.2.mem ((c.tc : Thread Cert.SumHalf.nD Cert.SumHalf.τ).loc Cert.SumHalf.main_arg0) = m ((c.tc : Thread Cert.SumHalf.nD Cert.SumHalf.τ).loc Cert.SumHalf.main_arg0))
      ∧ θ_run (Cert.SumHalfRef.defs (F := Bits)) (onTc (τ := Cert.SumHalfRef.τ) (Cert.SumHalfRef.main (F := Bits))) ⟨m', fun _ => 0, g'⟩ (fun r => ∀ c : Dev Cert.SumHalfRef.nD,
          r.2.mem ((c.tc : Thread Cert.SumHalfRef.nD Cert.SumHalfRef.τ).loc Cert.SumHalfRef.main_v5) = v0 c
          ∧ r.2.mem ((c.tc : Thread Cert.SumHalfRef.nD Cert.SumHalfRef.τ).loc Cert.SumHalfRef.main_arg0) = m' ((c.tc : Thread Cert.SumHalfRef.nD Cert.SumHalfRef.τ).loc Cert.SumHalfRef.main_arg0))

def bitexact_SumLane_SumLaneRef [hSumLane : Cert.SumLane.Facts] [hSumLaneRef : Cert.SumLaneRef.Facts] : Prop :=
  ∀ (m : (ℓ : Loc Cert.SumLane.nD Cert.SumLane.τ Cert.SumLane.sig) → Buf (Elt Bits) ℓ) (g : Dev Cert.SumLane.nD → PrngReg)
    (m' : (ℓ : Loc Cert.SumLaneRef.nD Cert.SumLaneRef.τ Cert.SumLaneRef.sig) → Buf (Elt Bits) ℓ) (g' : Dev Cert.SumLaneRef.nD → PrngReg), Pre_SumLane m →
    (∀ c : Dev Cert.SumLane.nD,
      m' ((c.tc : Thread Cert.SumLaneRef.nD Cert.SumLaneRef.τ).loc Cert.SumLaneRef.main_arg0) = m ((c.tc : Thread Cert.SumLane.nD Cert.SumLane.τ).loc Cert.SumLane.main_arg0)) →
    ∃ (v0 : (c : Dev Cert.SumLane.nD) → Buf (Elt Bits) ((c.tc : Thread Cert.SumLane.nD Cert.SumLane.τ).loc Cert.SumLane.main_v0)),
      θ_run (Cert.SumLane.defs (F := Bits)) (onTc (τ := Cert.SumLane.τ) (Cert.SumLane.main (F := Bits))) ⟨m, fun _ => 0, g⟩ (fun r => ∀ c : Dev Cert.SumLane.nD,
          r.2.mem ((c.tc : Thread Cert.SumLane.nD Cert.SumLane.τ).loc Cert.SumLane.main_v0) = v0 c
          ∧ r.2.mem ((c.tc : Thread Cert.SumLane.nD Cert.SumLane.τ).loc Cert.SumLane.main_arg0) = m ((c.tc : Thread Cert.SumLane.nD Cert.SumLane.τ).loc Cert.SumLane.main_arg0))
      ∧ θ_run (Cert.SumLaneRef.defs (F := Bits)) (onTc (τ := Cert.SumLaneRef.τ) (Cert.SumLaneRef.main (F := Bits))) ⟨m', fun _ => 0, g'⟩ (fun r => ∀ c : Dev Cert.SumLaneRef.nD,
          r.2.mem ((c.tc : Thread Cert.SumLaneRef.nD Cert.SumLaneRef.τ).loc Cert.SumLaneRef.main_v5) = v0 c
          ∧ r.2.mem ((c.tc : Thread Cert.SumLaneRef.nD Cert.SumLaneRef.τ).loc Cert.SumLaneRef.main_arg0) = m' ((c.tc : Thread Cert.SumLaneRef.nD Cert.SumLaneRef.τ).loc Cert.SumLaneRef.main_arg0))

def Claim : Prop :=
  ∃ (hSwap : Cert.Swap.Facts) (hSwapIdeal : Cert.SwapIdeal.Facts) (hSwapRefIdeal : Cert.SwapRefIdeal.Facts) (hScatter : Cert.Scatter.Facts) (hScatterIdeal : Cert.ScatterIdeal.Facts) (hScatterRefIdeal : Cert.ScatterRefIdeal.Facts) (hCores : Cert.Cores.Facts) (hCoresIdeal : Cert.CoresIdeal.Facts) (hCoresRefIdeal : Cert.CoresRefIdeal.Facts) (hChips : Cert.Chips.Facts) (hChipsIdeal : Cert.ChipsIdeal.Facts) (hChipsRefIdeal : Cert.ChipsRefIdeal.Facts) (hAddCores : Cert.AddCores.Facts) (hAddCoresIdeal : Cert.AddCoresIdeal.Facts) (hAddCoresRefIdeal : Cert.AddCoresRefIdeal.Facts) (hAddChips : Cert.AddChips.Facts) (hAddChipsIdeal : Cert.AddChipsIdeal.Facts) (hAddChipsRefIdeal : Cert.AddChipsRefIdeal.Facts) (hAdamSplit : Cert.AdamSplit.Facts) (hAdamSplitIdeal : Cert.AdamSplitIdeal.Facts) (hAdamSplitRefIdeal : Cert.AdamSplitRefIdeal.Facts) (hAdamRep : Cert.AdamRep.Facts) (hAdamRepIdeal : Cert.AdamRepIdeal.Facts) (hAdamRepRefIdeal : Cert.AdamRepRefIdeal.Facts) (hGradX : Cert.GradX.Facts) (hGradXIdeal : Cert.GradXIdeal.Facts) (hGradXRefIdeal : Cert.GradXRefIdeal.Facts) (hFfnNorm : Cert.FfnNorm.Facts) (hFfnNormIdeal : Cert.FfnNormIdeal.Facts) (hFfnNormRefIdeal : Cert.FfnNormRefIdeal.Facts) (hFfnUp : Cert.FfnUp.Facts) (hFfnUpIdeal : Cert.FfnUpIdeal.Facts) (hFfnUpRefIdeal : Cert.FfnUpRefIdeal.Facts) (hFfnAct : Cert.FfnAct.Facts) (hFfnActIdeal : Cert.FfnActIdeal.Facts) (hFfnActRefIdeal : Cert.FfnActRefIdeal.Facts) (hFfnDown : Cert.FfnDown.Facts) (hFfnDownIdeal : Cert.FfnDownIdeal.Facts) (hFfnDownRefIdeal : Cert.FfnDownRefIdeal.Facts) (hFfnDownDx : Cert.FfnDownDx.Facts) (hFfnDownDxIdeal : Cert.FfnDownDxIdeal.Facts) (hFfnDownDxRefIdeal : Cert.FfnDownDxRefIdeal.Facts) (hFfnDownDw : Cert.FfnDownDw.Facts) (hFfnDownDwIdeal : Cert.FfnDownDwIdeal.Facts) (hFfnDownDwRefIdeal : Cert.FfnDownDwRefIdeal.Facts) (hFfnUpDx : Cert.FfnUpDx.Facts) (hFfnUpDxIdeal : Cert.FfnUpDxIdeal.Facts) (hFfnUpDxRefIdeal : Cert.FfnUpDxRefIdeal.Facts) (hFfnUpDw : Cert.FfnUpDw.Facts) (hFfnUpDwIdeal : Cert.FfnUpDwIdeal.Facts) (hFfnUpDwRefIdeal : Cert.FfnUpDwRefIdeal.Facts) (hEvenIn : Cert.EvenIn.Facts) (hEvenInIdeal : Cert.EvenInIdeal.Facts) (hEvenInRefIdeal : Cert.EvenInRefIdeal.Facts) (hEvenOut : Cert.EvenOut.Facts) (hEvenOutIdeal : Cert.EvenOutIdeal.Facts) (hEvenOutRefIdeal : Cert.EvenOutRefIdeal.Facts) (hEvenOutDx : Cert.EvenOutDx.Facts) (hEvenOutDxIdeal : Cert.EvenOutDxIdeal.Facts) (hEvenOutDxRefIdeal : Cert.EvenOutDxRefIdeal.Facts) (hEvenOutDw : Cert.EvenOutDw.Facts) (hEvenOutDwIdeal : Cert.EvenOutDwIdeal.Facts) (hEvenOutDwRefIdeal : Cert.EvenOutDwRefIdeal.Facts) (hEvenInDx : Cert.EvenInDx.Facts) (hEvenInDxIdeal : Cert.EvenInDxIdeal.Facts) (hEvenInDxRefIdeal : Cert.EvenInDxRefIdeal.Facts) (hEvenInDw : Cert.EvenInDw.Facts) (hEvenInDwIdeal : Cert.EvenInDwIdeal.Facts) (hEvenInDwRefIdeal : Cert.EvenInDwRefIdeal.Facts) (hOddIn : Cert.OddIn.Facts) (hOddInIdeal : Cert.OddInIdeal.Facts) (hOddInRefIdeal : Cert.OddInRefIdeal.Facts) (hOddOut : Cert.OddOut.Facts) (hOddOutIdeal : Cert.OddOutIdeal.Facts) (hOddOutRefIdeal : Cert.OddOutRefIdeal.Facts) (hOddOutDx : Cert.OddOutDx.Facts) (hOddOutDxIdeal : Cert.OddOutDxIdeal.Facts) (hOddOutDxRefIdeal : Cert.OddOutDxRefIdeal.Facts) (hOddOutDw : Cert.OddOutDw.Facts) (hOddOutDwIdeal : Cert.OddOutDwIdeal.Facts) (hOddOutDwRefIdeal : Cert.OddOutDwRefIdeal.Facts) (hOddInDx : Cert.OddInDx.Facts) (hOddInDxIdeal : Cert.OddInDxIdeal.Facts) (hOddInDxRefIdeal : Cert.OddInDxRefIdeal.Facts) (hOddInDw : Cert.OddInDw.Facts) (hOddInDwIdeal : Cert.OddInDwIdeal.Facts) (hOddInDwRefIdeal : Cert.OddInDwRefIdeal.Facts) (hMlaUq : Cert.MlaUq.Facts) (hMlaUqIdeal : Cert.MlaUqIdeal.Facts) (hMlaUqRefIdeal : Cert.MlaUqRefIdeal.Facts) (hMlaUkv : Cert.MlaUkv.Facts) (hMlaUkvIdeal : Cert.MlaUkvIdeal.Facts) (hMlaUkvRefIdeal : Cert.MlaUkvRefIdeal.Facts) (hMlaUqDx : Cert.MlaUqDx.Facts) (hMlaUqDxIdeal : Cert.MlaUqDxIdeal.Facts) (hMlaUqDxRefIdeal : Cert.MlaUqDxRefIdeal.Facts) (hMlaUqDw : Cert.MlaUqDw.Facts) (hMlaUqDwIdeal : Cert.MlaUqDwIdeal.Facts) (hMlaUqDwRefIdeal : Cert.MlaUqDwRefIdeal.Facts) (hMlaUkvDx : Cert.MlaUkvDx.Facts) (hMlaUkvDxIdeal : Cert.MlaUkvDxIdeal.Facts) (hMlaUkvDxRefIdeal : Cert.MlaUkvDxRefIdeal.Facts) (hMlaUkvDw : Cert.MlaUkvDw.Facts) (hMlaUkvDwIdeal : Cert.MlaUkvDwIdeal.Facts) (hMlaUkvDwRefIdeal : Cert.MlaUkvDwRefIdeal.Facts) (hKvNorm : Cert.KvNorm.Facts) (hKvNormIdeal : Cert.KvNormIdeal.Facts) (hKvNormRefIdeal : Cert.KvNormRefIdeal.Facts) (hKvNormBwd : Cert.KvNormBwd.Facts) (hKvNormBwdIdeal : Cert.KvNormBwdIdeal.Facts) (hKvNormBwdRefIdeal : Cert.KvNormBwdRefIdeal.Facts) (hGlaPost : Cert.GlaPost.Facts) (hGlaPostIdeal : Cert.GlaPostIdeal.Facts) (hGlaPostRefIdeal : Cert.GlaPostRefIdeal.Facts) (hSumWide : Cert.SumWide.Facts) (hSumWideIdeal : Cert.SumWideIdeal.Facts) (hSumWideRefIdeal : Cert.SumWideRefIdeal.Facts) (hSumHalf : Cert.SumHalf.Facts) (hSumHalfIdeal : Cert.SumHalfIdeal.Facts) (hSumHalfRefIdeal : Cert.SumHalfRefIdeal.Facts) (hSumLane : Cert.SumLane.Facts) (hSumLaneIdeal : Cert.SumLaneIdeal.Facts) (hSumLaneRefIdeal : Cert.SumLaneRefIdeal.Facts) (hLoss : Cert.Loss.Facts) (hLossIdeal : Cert.LossIdeal.Facts) (hLossRefIdeal : Cert.LossRefIdeal.Facts) (hSwapRef : Cert.SwapRef.Facts) (hScatterRef : Cert.ScatterRef.Facts) (hCoresRef : Cert.CoresRef.Facts) (hChipsRef : Cert.ChipsRef.Facts) (hAddCoresRef : Cert.AddCoresRef.Facts) (hAddChipsRef : Cert.AddChipsRef.Facts) (hSumWideRef : Cert.SumWideRef.Facts) (hSumHalfRef : Cert.SumHalfRef.Facts) (hSumLaneRef : Cert.SumLaneRef.Facts),
    quiescent_Swap (hSwap := hSwap)
    ∧ quiescent_SwapIdeal (hSwapIdeal := hSwapIdeal)
    ∧ quiescent_SwapRefIdeal (hSwapRefIdeal := hSwapRefIdeal)
    ∧ quiescent_Scatter (hScatter := hScatter)
    ∧ quiescent_ScatterIdeal (hScatterIdeal := hScatterIdeal)
    ∧ quiescent_ScatterRefIdeal (hScatterRefIdeal := hScatterRefIdeal)
    ∧ quiescent_Cores (hCores := hCores)
    ∧ quiescent_CoresIdeal (hCoresIdeal := hCoresIdeal)
    ∧ quiescent_CoresRefIdeal (hCoresRefIdeal := hCoresRefIdeal)
    ∧ quiescent_Chips (hChips := hChips)
    ∧ quiescent_ChipsIdeal (hChipsIdeal := hChipsIdeal)
    ∧ quiescent_ChipsRefIdeal (hChipsRefIdeal := hChipsRefIdeal)
    ∧ quiescent_AddCores (hAddCores := hAddCores)
    ∧ quiescent_AddCoresIdeal (hAddCoresIdeal := hAddCoresIdeal)
    ∧ quiescent_AddCoresRefIdeal (hAddCoresRefIdeal := hAddCoresRefIdeal)
    ∧ quiescent_AddChips (hAddChips := hAddChips)
    ∧ quiescent_AddChipsIdeal (hAddChipsIdeal := hAddChipsIdeal)
    ∧ quiescent_AddChipsRefIdeal (hAddChipsRefIdeal := hAddChipsRefIdeal)
    ∧ quiescent_AdamSplit (hAdamSplit := hAdamSplit)
    ∧ quiescent_AdamSplitIdeal (hAdamSplitIdeal := hAdamSplitIdeal)
    ∧ quiescent_AdamSplitRefIdeal (hAdamSplitRefIdeal := hAdamSplitRefIdeal)
    ∧ quiescent_AdamRep (hAdamRep := hAdamRep)
    ∧ quiescent_AdamRepIdeal (hAdamRepIdeal := hAdamRepIdeal)
    ∧ quiescent_AdamRepRefIdeal (hAdamRepRefIdeal := hAdamRepRefIdeal)
    ∧ quiescent_GradX (hGradX := hGradX)
    ∧ quiescent_GradXIdeal (hGradXIdeal := hGradXIdeal)
    ∧ quiescent_GradXRefIdeal (hGradXRefIdeal := hGradXRefIdeal)
    ∧ quiescent_FfnNorm (hFfnNorm := hFfnNorm)
    ∧ quiescent_FfnNormIdeal (hFfnNormIdeal := hFfnNormIdeal)
    ∧ quiescent_FfnNormRefIdeal (hFfnNormRefIdeal := hFfnNormRefIdeal)
    ∧ quiescent_FfnUp (hFfnUp := hFfnUp)
    ∧ quiescent_FfnUpIdeal (hFfnUpIdeal := hFfnUpIdeal)
    ∧ quiescent_FfnUpRefIdeal (hFfnUpRefIdeal := hFfnUpRefIdeal)
    ∧ quiescent_FfnAct (hFfnAct := hFfnAct)
    ∧ quiescent_FfnActIdeal (hFfnActIdeal := hFfnActIdeal)
    ∧ quiescent_FfnActRefIdeal (hFfnActRefIdeal := hFfnActRefIdeal)
    ∧ quiescent_FfnDown (hFfnDown := hFfnDown)
    ∧ quiescent_FfnDownIdeal (hFfnDownIdeal := hFfnDownIdeal)
    ∧ quiescent_FfnDownRefIdeal (hFfnDownRefIdeal := hFfnDownRefIdeal)
    ∧ quiescent_FfnDownDx (hFfnDownDx := hFfnDownDx)
    ∧ quiescent_FfnDownDxIdeal (hFfnDownDxIdeal := hFfnDownDxIdeal)
    ∧ quiescent_FfnDownDxRefIdeal (hFfnDownDxRefIdeal := hFfnDownDxRefIdeal)
    ∧ quiescent_FfnDownDw (hFfnDownDw := hFfnDownDw)
    ∧ quiescent_FfnDownDwIdeal (hFfnDownDwIdeal := hFfnDownDwIdeal)
    ∧ quiescent_FfnDownDwRefIdeal (hFfnDownDwRefIdeal := hFfnDownDwRefIdeal)
    ∧ quiescent_FfnUpDx (hFfnUpDx := hFfnUpDx)
    ∧ quiescent_FfnUpDxIdeal (hFfnUpDxIdeal := hFfnUpDxIdeal)
    ∧ quiescent_FfnUpDxRefIdeal (hFfnUpDxRefIdeal := hFfnUpDxRefIdeal)
    ∧ quiescent_FfnUpDw (hFfnUpDw := hFfnUpDw)
    ∧ quiescent_FfnUpDwIdeal (hFfnUpDwIdeal := hFfnUpDwIdeal)
    ∧ quiescent_FfnUpDwRefIdeal (hFfnUpDwRefIdeal := hFfnUpDwRefIdeal)
    ∧ quiescent_EvenIn (hEvenIn := hEvenIn)
    ∧ quiescent_EvenInIdeal (hEvenInIdeal := hEvenInIdeal)
    ∧ quiescent_EvenInRefIdeal (hEvenInRefIdeal := hEvenInRefIdeal)
    ∧ quiescent_EvenOut (hEvenOut := hEvenOut)
    ∧ quiescent_EvenOutIdeal (hEvenOutIdeal := hEvenOutIdeal)
    ∧ quiescent_EvenOutRefIdeal (hEvenOutRefIdeal := hEvenOutRefIdeal)
    ∧ quiescent_EvenOutDx (hEvenOutDx := hEvenOutDx)
    ∧ quiescent_EvenOutDxIdeal (hEvenOutDxIdeal := hEvenOutDxIdeal)
    ∧ quiescent_EvenOutDxRefIdeal (hEvenOutDxRefIdeal := hEvenOutDxRefIdeal)
    ∧ quiescent_EvenOutDw (hEvenOutDw := hEvenOutDw)
    ∧ quiescent_EvenOutDwIdeal (hEvenOutDwIdeal := hEvenOutDwIdeal)
    ∧ quiescent_EvenOutDwRefIdeal (hEvenOutDwRefIdeal := hEvenOutDwRefIdeal)
    ∧ quiescent_EvenInDx (hEvenInDx := hEvenInDx)
    ∧ quiescent_EvenInDxIdeal (hEvenInDxIdeal := hEvenInDxIdeal)
    ∧ quiescent_EvenInDxRefIdeal (hEvenInDxRefIdeal := hEvenInDxRefIdeal)
    ∧ quiescent_EvenInDw (hEvenInDw := hEvenInDw)
    ∧ quiescent_EvenInDwIdeal (hEvenInDwIdeal := hEvenInDwIdeal)
    ∧ quiescent_EvenInDwRefIdeal (hEvenInDwRefIdeal := hEvenInDwRefIdeal)
    ∧ quiescent_OddIn (hOddIn := hOddIn)
    ∧ quiescent_OddInIdeal (hOddInIdeal := hOddInIdeal)
    ∧ quiescent_OddInRefIdeal (hOddInRefIdeal := hOddInRefIdeal)
    ∧ quiescent_OddOut (hOddOut := hOddOut)
    ∧ quiescent_OddOutIdeal (hOddOutIdeal := hOddOutIdeal)
    ∧ quiescent_OddOutRefIdeal (hOddOutRefIdeal := hOddOutRefIdeal)
    ∧ quiescent_OddOutDx (hOddOutDx := hOddOutDx)
    ∧ quiescent_OddOutDxIdeal (hOddOutDxIdeal := hOddOutDxIdeal)
    ∧ quiescent_OddOutDxRefIdeal (hOddOutDxRefIdeal := hOddOutDxRefIdeal)
    ∧ quiescent_OddOutDw (hOddOutDw := hOddOutDw)
    ∧ quiescent_OddOutDwIdeal (hOddOutDwIdeal := hOddOutDwIdeal)
    ∧ quiescent_OddOutDwRefIdeal (hOddOutDwRefIdeal := hOddOutDwRefIdeal)
    ∧ quiescent_OddInDx (hOddInDx := hOddInDx)
    ∧ quiescent_OddInDxIdeal (hOddInDxIdeal := hOddInDxIdeal)
    ∧ quiescent_OddInDxRefIdeal (hOddInDxRefIdeal := hOddInDxRefIdeal)
    ∧ quiescent_OddInDw (hOddInDw := hOddInDw)
    ∧ quiescent_OddInDwIdeal (hOddInDwIdeal := hOddInDwIdeal)
    ∧ quiescent_OddInDwRefIdeal (hOddInDwRefIdeal := hOddInDwRefIdeal)
    ∧ quiescent_MlaUq (hMlaUq := hMlaUq)
    ∧ quiescent_MlaUqIdeal (hMlaUqIdeal := hMlaUqIdeal)
    ∧ quiescent_MlaUqRefIdeal (hMlaUqRefIdeal := hMlaUqRefIdeal)
    ∧ quiescent_MlaUkv (hMlaUkv := hMlaUkv)
    ∧ quiescent_MlaUkvIdeal (hMlaUkvIdeal := hMlaUkvIdeal)
    ∧ quiescent_MlaUkvRefIdeal (hMlaUkvRefIdeal := hMlaUkvRefIdeal)
    ∧ quiescent_MlaUqDx (hMlaUqDx := hMlaUqDx)
    ∧ quiescent_MlaUqDxIdeal (hMlaUqDxIdeal := hMlaUqDxIdeal)
    ∧ quiescent_MlaUqDxRefIdeal (hMlaUqDxRefIdeal := hMlaUqDxRefIdeal)
    ∧ quiescent_MlaUqDw (hMlaUqDw := hMlaUqDw)
    ∧ quiescent_MlaUqDwIdeal (hMlaUqDwIdeal := hMlaUqDwIdeal)
    ∧ quiescent_MlaUqDwRefIdeal (hMlaUqDwRefIdeal := hMlaUqDwRefIdeal)
    ∧ quiescent_MlaUkvDx (hMlaUkvDx := hMlaUkvDx)
    ∧ quiescent_MlaUkvDxIdeal (hMlaUkvDxIdeal := hMlaUkvDxIdeal)
    ∧ quiescent_MlaUkvDxRefIdeal (hMlaUkvDxRefIdeal := hMlaUkvDxRefIdeal)
    ∧ quiescent_MlaUkvDw (hMlaUkvDw := hMlaUkvDw)
    ∧ quiescent_MlaUkvDwIdeal (hMlaUkvDwIdeal := hMlaUkvDwIdeal)
    ∧ quiescent_MlaUkvDwRefIdeal (hMlaUkvDwRefIdeal := hMlaUkvDwRefIdeal)
    ∧ quiescent_KvNorm (hKvNorm := hKvNorm)
    ∧ quiescent_KvNormIdeal (hKvNormIdeal := hKvNormIdeal)
    ∧ quiescent_KvNormRefIdeal (hKvNormRefIdeal := hKvNormRefIdeal)
    ∧ quiescent_KvNormBwd (hKvNormBwd := hKvNormBwd)
    ∧ quiescent_KvNormBwdIdeal (hKvNormBwdIdeal := hKvNormBwdIdeal)
    ∧ quiescent_KvNormBwdRefIdeal (hKvNormBwdRefIdeal := hKvNormBwdRefIdeal)
    ∧ quiescent_GlaPost (hGlaPost := hGlaPost)
    ∧ quiescent_GlaPostIdeal (hGlaPostIdeal := hGlaPostIdeal)
    ∧ quiescent_GlaPostRefIdeal (hGlaPostRefIdeal := hGlaPostRefIdeal)
    ∧ quiescent_SumWide (hSumWide := hSumWide)
    ∧ quiescent_SumWideIdeal (hSumWideIdeal := hSumWideIdeal)
    ∧ quiescent_SumWideRefIdeal (hSumWideRefIdeal := hSumWideRefIdeal)
    ∧ quiescent_SumHalf (hSumHalf := hSumHalf)
    ∧ quiescent_SumHalfIdeal (hSumHalfIdeal := hSumHalfIdeal)
    ∧ quiescent_SumHalfRefIdeal (hSumHalfRefIdeal := hSumHalfRefIdeal)
    ∧ quiescent_SumLane (hSumLane := hSumLane)
    ∧ quiescent_SumLaneIdeal (hSumLaneIdeal := hSumLaneIdeal)
    ∧ quiescent_SumLaneRefIdeal (hSumLaneRefIdeal := hSumLaneRefIdeal)
    ∧ quiescent_Loss (hLoss := hLoss)
    ∧ quiescent_LossIdeal (hLossIdeal := hLossIdeal)
    ∧ quiescent_LossRefIdeal (hLossRefIdeal := hLossRefIdeal)
    ∧ quiescent_SwapRef (hSwapRef := hSwapRef)
    ∧ quiescent_ScatterRef (hScatterRef := hScatterRef)
    ∧ quiescent_CoresRef (hCoresRef := hCoresRef)
    ∧ quiescent_ChipsRef (hChipsRef := hChipsRef)
    ∧ quiescent_AddCoresRef (hAddCoresRef := hAddCoresRef)
    ∧ quiescent_AddChipsRef (hAddChipsRef := hAddChipsRef)
    ∧ quiescent_SumWideRef (hSumWideRef := hSumWideRef)
    ∧ quiescent_SumHalfRef (hSumHalfRef := hSumHalfRef)
    ∧ quiescent_SumLaneRef (hSumLaneRef := hSumLaneRef)
    ∧ preserves_Swap_SwapIdeal
    ∧ algebraic_SwapIdeal_SwapRefIdeal (hSwapIdeal := hSwapIdeal) (hSwapRefIdeal := hSwapRefIdeal)
    ∧ preserves_Scatter_ScatterIdeal
    ∧ algebraic_ScatterIdeal_ScatterRefIdeal (hScatterIdeal := hScatterIdeal) (hScatterRefIdeal := hScatterRefIdeal)
    ∧ preserves_Cores_CoresIdeal
    ∧ algebraic_CoresIdeal_CoresRefIdeal (hCoresIdeal := hCoresIdeal) (hCoresRefIdeal := hCoresRefIdeal)
    ∧ preserves_Chips_ChipsIdeal
    ∧ algebraic_ChipsIdeal_ChipsRefIdeal (hChipsIdeal := hChipsIdeal) (hChipsRefIdeal := hChipsRefIdeal)
    ∧ preserves_AddCores_AddCoresIdeal
    ∧ algebraic_AddCoresIdeal_AddCoresRefIdeal (hAddCoresIdeal := hAddCoresIdeal) (hAddCoresRefIdeal := hAddCoresRefIdeal)
    ∧ preserves_AddChips_AddChipsIdeal
    ∧ algebraic_AddChipsIdeal_AddChipsRefIdeal (hAddChipsIdeal := hAddChipsIdeal) (hAddChipsRefIdeal := hAddChipsRefIdeal)
    ∧ preserves_AdamSplit_AdamSplitIdeal
    ∧ algebraic_AdamSplitIdeal_AdamSplitRefIdeal (hAdamSplitIdeal := hAdamSplitIdeal) (hAdamSplitRefIdeal := hAdamSplitRefIdeal)
    ∧ preserves_AdamRep_AdamRepIdeal
    ∧ algebraic_AdamRepIdeal_AdamRepRefIdeal (hAdamRepIdeal := hAdamRepIdeal) (hAdamRepRefIdeal := hAdamRepRefIdeal)
    ∧ preserves_GradX_GradXIdeal
    ∧ algebraic_GradXIdeal_GradXRefIdeal (hGradXIdeal := hGradXIdeal) (hGradXRefIdeal := hGradXRefIdeal)
    ∧ preserves_FfnNorm_FfnNormIdeal
    ∧ algebraic_FfnNormIdeal_FfnNormRefIdeal (hFfnNormIdeal := hFfnNormIdeal) (hFfnNormRefIdeal := hFfnNormRefIdeal)
    ∧ preserves_FfnUp_FfnUpIdeal
    ∧ algebraic_FfnUpIdeal_FfnUpRefIdeal (hFfnUpIdeal := hFfnUpIdeal) (hFfnUpRefIdeal := hFfnUpRefIdeal)
    ∧ preserves_FfnAct_FfnActIdeal
    ∧ algebraic_FfnActIdeal_FfnActRefIdeal (hFfnActIdeal := hFfnActIdeal) (hFfnActRefIdeal := hFfnActRefIdeal)
    ∧ preserves_FfnDown_FfnDownIdeal
    ∧ algebraic_FfnDownIdeal_FfnDownRefIdeal (hFfnDownIdeal := hFfnDownIdeal) (hFfnDownRefIdeal := hFfnDownRefIdeal)
    ∧ preserves_FfnDownDx_FfnDownDxIdeal
    ∧ algebraic_FfnDownDxIdeal_FfnDownDxRefIdeal (hFfnDownDxIdeal := hFfnDownDxIdeal) (hFfnDownDxRefIdeal := hFfnDownDxRefIdeal)
    ∧ preserves_FfnDownDw_FfnDownDwIdeal
    ∧ algebraic_FfnDownDwIdeal_FfnDownDwRefIdeal (hFfnDownDwIdeal := hFfnDownDwIdeal) (hFfnDownDwRefIdeal := hFfnDownDwRefIdeal)
    ∧ preserves_FfnUpDx_FfnUpDxIdeal
    ∧ algebraic_FfnUpDxIdeal_FfnUpDxRefIdeal (hFfnUpDxIdeal := hFfnUpDxIdeal) (hFfnUpDxRefIdeal := hFfnUpDxRefIdeal)
    ∧ preserves_FfnUpDw_FfnUpDwIdeal
    ∧ algebraic_FfnUpDwIdeal_FfnUpDwRefIdeal (hFfnUpDwIdeal := hFfnUpDwIdeal) (hFfnUpDwRefIdeal := hFfnUpDwRefIdeal)
    ∧ preserves_EvenIn_EvenInIdeal
    ∧ algebraic_EvenInIdeal_EvenInRefIdeal (hEvenInIdeal := hEvenInIdeal) (hEvenInRefIdeal := hEvenInRefIdeal)
    ∧ preserves_EvenOut_EvenOutIdeal
    ∧ algebraic_EvenOutIdeal_EvenOutRefIdeal (hEvenOutIdeal := hEvenOutIdeal) (hEvenOutRefIdeal := hEvenOutRefIdeal)
    ∧ preserves_EvenOutDx_EvenOutDxIdeal
    ∧ algebraic_EvenOutDxIdeal_EvenOutDxRefIdeal (hEvenOutDxIdeal := hEvenOutDxIdeal) (hEvenOutDxRefIdeal := hEvenOutDxRefIdeal)
    ∧ preserves_EvenOutDw_EvenOutDwIdeal
    ∧ algebraic_EvenOutDwIdeal_EvenOutDwRefIdeal (hEvenOutDwIdeal := hEvenOutDwIdeal) (hEvenOutDwRefIdeal := hEvenOutDwRefIdeal)
    ∧ preserves_EvenInDx_EvenInDxIdeal
    ∧ algebraic_EvenInDxIdeal_EvenInDxRefIdeal (hEvenInDxIdeal := hEvenInDxIdeal) (hEvenInDxRefIdeal := hEvenInDxRefIdeal)
    ∧ preserves_EvenInDw_EvenInDwIdeal
    ∧ algebraic_EvenInDwIdeal_EvenInDwRefIdeal (hEvenInDwIdeal := hEvenInDwIdeal) (hEvenInDwRefIdeal := hEvenInDwRefIdeal)
    ∧ preserves_OddIn_OddInIdeal
    ∧ algebraic_OddInIdeal_OddInRefIdeal (hOddInIdeal := hOddInIdeal) (hOddInRefIdeal := hOddInRefIdeal)
    ∧ preserves_OddOut_OddOutIdeal
    ∧ algebraic_OddOutIdeal_OddOutRefIdeal (hOddOutIdeal := hOddOutIdeal) (hOddOutRefIdeal := hOddOutRefIdeal)
    ∧ preserves_OddOutDx_OddOutDxIdeal
    ∧ algebraic_OddOutDxIdeal_OddOutDxRefIdeal (hOddOutDxIdeal := hOddOutDxIdeal) (hOddOutDxRefIdeal := hOddOutDxRefIdeal)
    ∧ preserves_OddOutDw_OddOutDwIdeal
    ∧ algebraic_OddOutDwIdeal_OddOutDwRefIdeal (hOddOutDwIdeal := hOddOutDwIdeal) (hOddOutDwRefIdeal := hOddOutDwRefIdeal)
    ∧ preserves_OddInDx_OddInDxIdeal
    ∧ algebraic_OddInDxIdeal_OddInDxRefIdeal (hOddInDxIdeal := hOddInDxIdeal) (hOddInDxRefIdeal := hOddInDxRefIdeal)
    ∧ preserves_OddInDw_OddInDwIdeal
    ∧ algebraic_OddInDwIdeal_OddInDwRefIdeal (hOddInDwIdeal := hOddInDwIdeal) (hOddInDwRefIdeal := hOddInDwRefIdeal)
    ∧ preserves_MlaUq_MlaUqIdeal
    ∧ algebraic_MlaUqIdeal_MlaUqRefIdeal (hMlaUqIdeal := hMlaUqIdeal) (hMlaUqRefIdeal := hMlaUqRefIdeal)
    ∧ preserves_MlaUkv_MlaUkvIdeal
    ∧ algebraic_MlaUkvIdeal_MlaUkvRefIdeal (hMlaUkvIdeal := hMlaUkvIdeal) (hMlaUkvRefIdeal := hMlaUkvRefIdeal)
    ∧ preserves_MlaUqDx_MlaUqDxIdeal
    ∧ algebraic_MlaUqDxIdeal_MlaUqDxRefIdeal (hMlaUqDxIdeal := hMlaUqDxIdeal) (hMlaUqDxRefIdeal := hMlaUqDxRefIdeal)
    ∧ preserves_MlaUqDw_MlaUqDwIdeal
    ∧ algebraic_MlaUqDwIdeal_MlaUqDwRefIdeal (hMlaUqDwIdeal := hMlaUqDwIdeal) (hMlaUqDwRefIdeal := hMlaUqDwRefIdeal)
    ∧ preserves_MlaUkvDx_MlaUkvDxIdeal
    ∧ algebraic_MlaUkvDxIdeal_MlaUkvDxRefIdeal (hMlaUkvDxIdeal := hMlaUkvDxIdeal) (hMlaUkvDxRefIdeal := hMlaUkvDxRefIdeal)
    ∧ preserves_MlaUkvDw_MlaUkvDwIdeal
    ∧ algebraic_MlaUkvDwIdeal_MlaUkvDwRefIdeal (hMlaUkvDwIdeal := hMlaUkvDwIdeal) (hMlaUkvDwRefIdeal := hMlaUkvDwRefIdeal)
    ∧ preserves_KvNorm_KvNormIdeal
    ∧ algebraic_KvNormIdeal_KvNormRefIdeal (hKvNormIdeal := hKvNormIdeal) (hKvNormRefIdeal := hKvNormRefIdeal)
    ∧ preserves_KvNormBwd_KvNormBwdIdeal
    ∧ algebraic_KvNormBwdIdeal_KvNormBwdRefIdeal (hKvNormBwdIdeal := hKvNormBwdIdeal) (hKvNormBwdRefIdeal := hKvNormBwdRefIdeal)
    ∧ preserves_GlaPost_GlaPostIdeal
    ∧ algebraic_GlaPostIdeal_GlaPostRefIdeal (hGlaPostIdeal := hGlaPostIdeal) (hGlaPostRefIdeal := hGlaPostRefIdeal)
    ∧ preserves_SumWide_SumWideIdeal
    ∧ algebraic_SumWideIdeal_SumWideRefIdeal (hSumWideIdeal := hSumWideIdeal) (hSumWideRefIdeal := hSumWideRefIdeal)
    ∧ preserves_SumHalf_SumHalfIdeal
    ∧ algebraic_SumHalfIdeal_SumHalfRefIdeal (hSumHalfIdeal := hSumHalfIdeal) (hSumHalfRefIdeal := hSumHalfRefIdeal)
    ∧ preserves_SumLane_SumLaneIdeal
    ∧ algebraic_SumLaneIdeal_SumLaneRefIdeal (hSumLaneIdeal := hSumLaneIdeal) (hSumLaneRefIdeal := hSumLaneRefIdeal)
    ∧ preserves_Loss_LossIdeal
    ∧ algebraic_LossIdeal_LossRefIdeal (hLossIdeal := hLossIdeal) (hLossRefIdeal := hLossRefIdeal)
    ∧ bitexact_Swap_SwapRef (hSwap := hSwap) (hSwapRef := hSwapRef)
    ∧ bitexact_Scatter_ScatterRef (hScatter := hScatter) (hScatterRef := hScatterRef)
    ∧ bitexact_Cores_CoresRef (hCores := hCores) (hCoresRef := hCoresRef)
    ∧ bitexact_Chips_ChipsRef (hChips := hChips) (hChipsRef := hChipsRef)
    ∧ bitexact_AddCores_AddCoresRef (hAddCores := hAddCores) (hAddCoresRef := hAddCoresRef)
    ∧ bitexact_AddChips_AddChipsRef (hAddChips := hAddChips) (hAddChipsRef := hAddChipsRef)
    ∧ bitexact_SumWide_SumWideRef (hSumWide := hSumWide) (hSumWideRef := hSumWideRef)
    ∧ bitexact_SumHalf_SumHalfRef (hSumHalf := hSumHalf) (hSumHalfRef := hSumHalfRef)
    ∧ bitexact_SumLane_SumLaneRef (hSumLane := hSumLane) (hSumLaneRef := hSumLaneRef)
-- ==== Swap.lean ====
abbrev S26624x1024 : Shape := ⟨2, ![26624, 1024]⟩
abbrev S_ : Shape := ⟨0, ![]⟩

abbrev nBuf : Space → Nat
  | .hbm => 2
  | .vmem => 0
  | .smem => 0
  | _ => 0

abbrev bufTy : (tb : Table) → Fin (tcTables nBuf tb) → BufTy
  | .hbm, ⟨0, _⟩ => ⟨S26624x1024, .f32⟩
  | .hbm, ⟨1, _⟩ => ⟨S26624x1024, .f32⟩
  | _, _ => ⟨S26624x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_4 : BitVec 32 := 4#32
  let v10 : BitVec 32 := Scalar.muli v2 c4_i32_4
  let v11 : BitVec 32 := Scalar.addi c0_i32 v10
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_5 : BitVec 32 := 2#32
  let v12 : BitVec 32 := Scalar.muli v5 c2_i32_5
  let v13 : BitVec 32 := Scalar.addi v11 v12
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_6 : BitVec 32 := 1#32
  let v14 : BitVec 32 := Scalar.muli v9 c1_i32_6
  let v15 : BitVec 32 := Scalar.addi v13 v14
  v15.toNat
-- ==== Scatter.lean ====
abbrev S4x6656x1024 : Shape := ⟨3, ![4, 6656, 1024]⟩
abbrev S3 : Shape := ⟨1, ![3]⟩
abbrev S_ : Shape := ⟨0, ![]⟩
abbrev S1x6656x1024 : Shape := ⟨3, ![1, 6656, 1024]⟩
abbrev S6656x1024 : Shape := ⟨2, ![6656, 1024]⟩
abbrev S1 : Shape := ⟨1, ![1]⟩

abbrev nBuf : Space → Nat
  | .hbm => 2
  | .vmem => 0
  | .smem => 0
  | _ => 0

abbrev bufTy : (tb : Table) → Fin (tcTables nBuf tb) → BufTy
  | .hbm, ⟨0, _⟩ => ⟨S4x6656x1024, .f32⟩
  | .hbm, ⟨1, _⟩ => ⟨S4x6656x1024, .f32⟩
  | _, _ => ⟨S4x6656x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32 : BitVec 32 := 0#32
  let c0_i32_4 : BitVec 32 := 0#32
  ![v10.toNat, 0, 0]
def k0_off2 (d0 : Dev nD) : Fin 3 → Nat :=
  let c2_i32_11 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.subi c1_i32_7 v2
  let v19 : BitVec 32 := Scalar.muli c2_i32_11 v15
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.addi v19 v5
  let c0_i32_20 : BitVec 32 := 0#32
  let c0_i32_21 : BitVec 32 := 0#32
  ![v20.toNat, 0, 0]
def k0_dev1 (d0 : Dev nD) : Nat :=
  let c0_i32_15 : BitVec 32 := 0#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.subi c1_i32_7 v2
  let c4_i32_14 : BitVec 32 := 4#32
  let v21 : BitVec 32 := Scalar.muli v15 c4_i32_14
  let v22 : BitVec 32 := Scalar.addi c0_i32_15 v21
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_16 : BitVec 32 := 2#32
  let v23 : BitVec 32 := Scalar.muli v5 c2_i32_16
  let v24 : BitVec 32 := Scalar.addi v22 v23
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_17 : BitVec 32 := 1#32
  let v25 : BitVec 32 := Scalar.muli v8 c1_i32_17
  let v26 : BitVec 32 := Scalar.addi v24 v25
  v26.toNat
def k0_off3 (d0 : Dev nD) : Fin 3 → Nat :=
  let c2_i32_22 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v35 : BitVec 32 := Scalar.muli c2_i32_22 v2
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.subi c1_i32_8 v5
  let v36 : BitVec 32 := Scalar.addi v35 v16
  let c0_i32_31 : BitVec 32 := 0#32
  let c0_i32_32 : BitVec 32 := 0#32
  ![v36.toNat, 0, 0]
def k0_dev2 (d0 : Dev nD) : Nat :=
  let c0_i32_26 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_25 : BitVec 32 := 4#32
  let v37 : BitVec 32 := Scalar.muli v2 c4_i32_25
  let v38 : BitVec 32 := Scalar.addi c0_i32_26 v37
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.subi c1_i32_8 v5
  let c2_i32_27 : BitVec 32 := 2#32
  let v39 : BitVec 32 := Scalar.muli v16 c2_i32_27
  let v40 : BitVec 32 := Scalar.addi v38 v39
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_28 : BitVec 32 := 1#32
  let v41 : BitVec 32 := Scalar.muli v8 c1_i32_28
  let v42 : BitVec 32 := Scalar.addi v40 v41
  v42.toNat
def k0_off4 (d0 : Dev nD) : Fin 3 → Nat :=
  let c2_i32_33 : BitVec 32 := 2#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.subi c1_i32_9 v2
  let v51 : BitVec 32 := Scalar.muli c2_i32_33 v17
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v18 : BitVec 32 := Scalar.subi c1_i32_10 v5
  let v52 : BitVec 32 := Scalar.addi v51 v18
  let c0_i32_42 : BitVec 32 := 0#32
  let c0_i32_43 : BitVec 32 := 0#32
  ![v52.toNat, 0, 0]
def k0_dev3 (d0 : Dev nD) : Nat :=
  let c0_i32_37 : BitVec 32 := 0#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.subi c1_i32_9 v2
  let c4_i32_36 : BitVec 32 := 4#32
  let v53 : BitVec 32 := Scalar.muli v17 c4_i32_36
  let v54 : BitVec 32 := Scalar.addi c0_i32_37 v53
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v18 : BitVec 32 := Scalar.subi c1_i32_10 v5
  let c2_i32_38 : BitVec 32 := 2#32
  let v55 : BitVec 32 := Scalar.muli v18 c2_i32_38
  let v56 : BitVec 32 := Scalar.addi v54 v55
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_39 : BitVec 32 := 1#32
  let v57 : BitVec 32 := Scalar.muli v8 c1_i32_39
  let v58 : BitVec 32 := Scalar.addi v56 v57
  v58.toNat
-- ==== Cores.lean ====
abbrev S6656x1024 : Shape := ⟨2, ![6656, 1024]⟩
abbrev S2x6656x1024 : Shape := ⟨3, ![2, 6656, 1024]⟩
abbrev S_ : Shape := ⟨0, ![]⟩
abbrev S1x6656x1024 : Shape := ⟨3, ![1, 6656, 1024]⟩

abbrev nBuf : Space → Nat
  | .hbm => 2
  | .vmem => 0
  | .smem => 0
  | _ => 0

abbrev bufTy : (tb : Table) → Fin (tcTables nBuf tb) → BufTy
  | .hbm, ⟨0, _⟩ => ⟨S6656x1024, .f32⟩
  | .hbm, ⟨1, _⟩ => ⟨S2x6656x1024, .f32⟩
  | _, _ => ⟨S6656x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32 : BitVec 32 := 0#32
  let c0_i32_3 : BitVec 32 := 0#32
  ![v8.toNat, 0, 0]
def k0_dev1 (d0 : Dev nD) : Nat :=
  let c0_i32_6 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_5 : BitVec 32 := 4#32
  let v12 : BitVec 32 := Scalar.muli v2 c4_i32_5
  let v13 : BitVec 32 := Scalar.addi c0_i32_6 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_7 : BitVec 32 := 2#32
  let v14 : BitVec 32 := Scalar.muli v5 c2_i32_7
  let v15 : BitVec 32 := Scalar.addi v13 v14
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1_i32_8 : BitVec 32 := 1#32
  let v16 : BitVec 32 := Scalar.muli v11 c1_i32_8
  let v17 : BitVec 32 := Scalar.addi v15 v16
  v17.toNat
def k0_off2 (d0 : Dev nD) : Fin 3 → Nat :=
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v20 : BitVec 32 := Scalar.subi c1_i32_11 v8
  let c0_i32_17 : BitVec 32 := 0#32
  let c0_i32_18 : BitVec 32 := 0#32
  ![v20.toNat, 0, 0]
-- ==== Chips.lean ====
abbrev S12656x1024 : Shape := ⟨2, ![12656, 1024]⟩
abbrev S24x1024 : Shape := ⟨2, ![24, 1024]⟩
abbrev S4x12656x1024 : Shape := ⟨3, ![4, 12656, 1024]⟩
abbrev S4x24x1024 : Shape := ⟨3, ![4, 24, 1024]⟩
abbrev S6 : Shape := ⟨1, ![6]⟩
abbrev S2 : Shape := ⟨1, ![2]⟩
abbrev S1 : Shape := ⟨1, ![1]⟩
abbrev S_ : Shape := ⟨0, ![]⟩
abbrev S1x12656x1024 : Shape := ⟨3, ![1, 12656, 1024]⟩
abbrev S1x24x1024 : Shape := ⟨3, ![1, 24, 1024]⟩

abbrev nBuf : Space → Nat
  | .hbm => 4
  | .vmem => 0
  | .smem => 0
  | _ => 0

abbrev bufTy : (tb : Table) → Fin (tcTables nBuf tb) → BufTy
  | .hbm, ⟨0, _⟩ => ⟨S12656x1024, .bf16⟩
  | .hbm, ⟨1, _⟩ => ⟨S24x1024, .f32⟩
  | .hbm, ⟨2, _⟩ => ⟨S4x12656x1024, .bf16⟩
  | .hbm, ⟨3, _⟩ => ⟨S4x24x1024, .f32⟩
  | _, _ => ⟨S12656x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v1_0 : Ref sig .tc := ⟨.hbm, 2, rfl⟩
abbrev main_v1_1 : Ref sig .tc := ⟨.hbm, 3, rfl⟩

abbrev nD : Nat := 8
abbrev τ : Topo := Topo.v7x

variable {F : FTy → Type} [FloatOps F]

abbrev grid0 : Pipeline.Grid := .none

def k0_off1 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_4 : BitVec 32 := 0#32
  let c0_i32_5 : BitVec 32 := 0#32
  ![v10.toNat, 0, 0]
def k0_off2 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_7 : BitVec 32 := 0#32
  let c0_i32_8 : BitVec 32 := 0#32
  ![v10.toNat, 0, 0]
def k0_dev1 (d0 : Dev nD) : Nat :=
  let c0_i32_16 : BitVec 32 := 0#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v19 : BitVec 32 := Scalar.subi c1_i32_9 v2
  let c4_i32_15 : BitVec 32 := 4#32
  let v23 : BitVec 32 := Scalar.muli v19 c4_i32_15
  let v24 : BitVec 32 := Scalar.addi c0_i32_16 v23
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_17 : BitVec 32 := 2#32
  let v25 : BitVec 32 := Scalar.muli v5 c2_i32_17
  let v26 : BitVec 32 := Scalar.addi v24 v25
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_18 : BitVec 32 := 1#32
  let v27 : BitVec 32 := Scalar.muli v8 c1_i32_18
  let v28 : BitVec 32 := Scalar.addi v26 v27
  v28.toNat
def k0_dev2 (d0 : Dev nD) : Nat :=
  let c0_i32_24 : BitVec 32 := 0#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v19 : BitVec 32 := Scalar.subi c1_i32_9 v2
  let c4_i32_23 : BitVec 32 := 4#32
  let v35 : BitVec 32 := Scalar.muli v19 c4_i32_23
  let v36 : BitVec 32 := Scalar.addi c0_i32_24 v35
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_25 : BitVec 32 := 2#32
  let v37 : BitVec 32 := Scalar.muli v5 c2_i32_25
  let v38 : BitVec 32 := Scalar.addi v36 v37
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_26 : BitVec 32 := 1#32
  let v39 : BitVec 32 := Scalar.muli v8 c1_i32_26
  let v40 : BitVec 32 := Scalar.addi v38 v39
  v40.toNat
def k0_dev3 (d0 : Dev nD) : Nat :=
  let c0_i32_32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_31 : BitVec 32 := 4#32
  let v47 : BitVec 32 := Scalar.muli v2 c4_i32_31
  let v48 : BitVec 32 := Scalar.addi c0_i32_32 v47
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.subi c1_i32_10 v5
  let c2_i32_33 : BitVec 32 := 2#32
  let v49 : BitVec 32 := Scalar.muli v20 c2_i32_33
  let v50 : BitVec 32 := Scalar.addi v48 v49
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_34 : BitVec 32 := 1#32
  let v51 : BitVec 32 := Scalar.muli v8 c1_i32_34
  let v52 : BitVec 32 := Scalar.addi v50 v51
  v52.toNat
def k0_dev4 (d0 : Dev nD) : Nat :=
  let c0_i32_39 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_38 : BitVec 32 := 4#32
  let v59 : BitVec 32 := Scalar.muli v2 c4_i32_38
  let v60 : BitVec 32 := Scalar.addi c0_i32_39 v59
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.subi c1_i32_10 v5
  let c2_i32_40 : BitVec 32 := 2#32
  let v61 : BitVec 32 := Scalar.muli v20 c2_i32_40
  let v62 : BitVec 32 := Scalar.addi v60 v61
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_41 : BitVec 32 := 1#32
  let v63 : BitVec 32 := Scalar.muli v8 c1_i32_41
  let v64 : BitVec 32 := Scalar.addi v62 v63
  v64.toNat
def k0_dev5 (d0 : Dev nD) : Nat :=
  let c0_i32_47 : BitVec 32 := 0#32
  let c1_i32_11 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v21 : BitVec 32 := Scalar.subi c1_i32_11 v2
  let c4_i32_46 : BitVec 32 := 4#32
  let v71 : BitVec 32 := Scalar.muli v21 c4_i32_46
  let v72 : BitVec 32 := Scalar.addi c0_i32_47 v71
  let c1_i32_12 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_12 v5
  let c2_i32_48 : BitVec 32 := 2#32
  let v73 : BitVec 32 := Scalar.muli v22 c2_i32_48
  let v74 : BitVec 32 := Scalar.addi v72 v73
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_49 : BitVec 32 := 1#32
  let v75 : BitVec 32 := Scalar.muli v8 c1_i32_49
  let v76 : BitVec 32 := Scalar.addi v74 v75
  v76.toNat
def k0_dev6 (d0 : Dev nD) : Nat :=
  let c0_i32_54 : BitVec 32 := 0#32
  let c1_i32_11 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v21 : BitVec 32 := Scalar.subi c1_i32_11 v2
  let c4_i32_53 : BitVec 32 := 4#32
  let v83 : BitVec 32 := Scalar.muli v21 c4_i32_53
  let v84 : BitVec 32 := Scalar.addi c0_i32_54 v83
  let c1_i32_12 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_12 v5
  let c2_i32_55 : BitVec 32 := 2#32
  let v85 : BitVec 32 := Scalar.muli v22 c2_i32_55
  let v86 : BitVec 32 := Scalar.addi v84 v85
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_56 : BitVec 32 := 1#32
  let v87 : BitVec 32 := Scalar.muli v8 c1_i32_56
  let v88 : BitVec 32 := Scalar.addi v86 v87
  v88.toNat
def k0_off3 (d0 : Dev nD) : Fin 3 → Nat :=
  let c2_i32_63 : BitVec 32 := 2#32
  let c1_i32_59 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v95 : BitVec 32 := Scalar.subi c1_i32_59 v2
  let v99 : BitVec 32 := Scalar.muli c2_i32_63 v95
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v100 : BitVec 32 := Scalar.addi v99 v5
  let c0_i32_70 : BitVec 32 := 0#32
  let c0_i32_71 : BitVec 32 := 0#32
  ![v100.toNat, 0, 0]
def k0_off4 (d0 : Dev nD) : Fin 3 → Nat :=
  let c2_i32_72 : BitVec 32 := 2#32
  let c1_i32_59 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v95 : BitVec 32 := Scalar.subi c1_i32_59 v2
  let v111 : BitVec 32 := Scalar.muli c2_i32_72 v95
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v112 : BitVec 32 := Scalar.addi v111 v5
  let c0_i32_79 : BitVec 32 := 0#32
  let c0_i32_80 : BitVec 32 := 0#32
  ![v112.toNat, 0, 0]
def k0_off5 (d0 : Dev nD) : Fin 3 → Nat :=
  let c2_i32_81 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v123 : BitVec 32 := Scalar.muli c2_i32_81 v2
  let c1_i32_60 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v96 : BitVec 32 := Scalar.subi c1_i32_60 v5
  let v124 : BitVec 32 := Scalar.addi v123 v96
  let c0_i32_88 : BitVec 32 := 0#32
  let c0_i32_89 : BitVec 32 := 0#32
  ![v124.toNat, 0, 0]
def k0_off6 (d0 : Dev nD) : Fin 3 → Nat :=
  let c2_i32_90 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v135 : BitVec 32 := Scalar.muli c2_i32_90 v2
  let c1_i32_60 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v96 : BitVec 32 := Scalar.subi c1_i32_60 v5
  let v136 : BitVec 32 := Scalar.addi v135 v96
  let c0_i32_97 : BitVec 32 := 0#32
  let c0_i32_98 : BitVec 32 := 0#32
  ![v136.toNat, 0, 0]
def k0_off7 (d0 : Dev nD) : Fin 3 → Nat :=
  let c2_i32_99 : BitVec 32 := 2#32
  let c1_i32_61 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v97 : BitVec 32 := Scalar.subi c1_i32_61 v2
  let v147 : BitVec 32 := Scalar.muli c2_i32_99 v97
  let c1_i32_62 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v98 : BitVec 32 := Scalar.subi c1_i32_62 v5
  let v148 : BitVec 32 := Scalar.addi v147 v98
  let c0_i32_106 : BitVec 32 := 0#32
  let c0_i32_107 : BitVec 32 := 0#32
  ![v148.toNat, 0, 0]
def k0_off8 (d0 : Dev nD) : Fin 3 → Nat :=
  let c2_i32_108 : BitVec 32 := 2#32
  let c1_i32_61 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v97 : BitVec 32 := Scalar.subi c1_i32_61 v2
  let v159 : BitVec 32 := Scalar.muli c2_i32_108 v97
  let c1_i32_62 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v98 : BitVec 32 := Scalar.subi c1_i32_62 v5
  let v160 : BitVec 32 := Scalar.addi v159 v98
  let c0_i32_115 : BitVec 32 := 0#32
  let c0_i32_116 : BitVec 32 := 0#32
  ![v160.toNat, 0, 0]
-- ==== AddCores.lean ====
abbrev S26624x1024 : Shape := ⟨2, ![26624, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S26624x1024, .f32⟩
  | .hbm, ⟨1, _⟩ => ⟨S26624x1024, .f32⟩
  | .hbm, ⟨2, _⟩ => ⟨S26624x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | _, _ => ⟨S26624x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![52], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== AddChips.lean ====
abbrev S6656x1024 : Shape := ⟨2, ![6656, 1024]⟩
abbrev S512x1024 : Shape := ⟨2, ![512, 1024]⟩

abbrev nBuf : Space → Nat
  | .hbm => 5
  | .vmem => 10
  | .smem => 0
  | _ => 0

abbrev bufTy : (tb : Table) → Fin (tcTables nBuf tb) → BufTy
  | .hbm, ⟨0, _⟩ => ⟨S6656x1024, .f32⟩
  | .hbm, ⟨1, _⟩ => ⟨S6656x1024, .f32⟩
  | .hbm, ⟨2, _⟩ => ⟨S6656x1024, .f32⟩
  | .hbm, ⟨3, _⟩ => ⟨S6656x1024, .f32⟩
  | .hbm, ⟨4, _⟩ => ⟨S6656x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | _, _ => ⟨S6656x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== AdamSplit.lean ====
abbrev S13312x1024 : Shape := ⟨2, ![13312, 1024]⟩
abbrev S512x1024 : Shape := ⟨2, ![512, 1024]⟩

abbrev nBuf : Space → Nat
  | .hbm => 7
  | .vmem => 14
  | .smem => 0
  | _ => 0

abbrev bufTy : (tb : Table) → Fin (tcTables nBuf tb) → BufTy
  | .hbm, ⟨0, _⟩ => ⟨S13312x1024, .f32⟩
  | .hbm, ⟨1, _⟩ => ⟨S13312x1024, .f32⟩
  | .hbm, ⟨2, _⟩ => ⟨S13312x1024, .f32⟩
  | .hbm, ⟨3, _⟩ => ⟨S13312x1024, .f32⟩
  | .hbm, ⟨4, _⟩ => ⟨S13312x1024, .f32⟩
  | .hbm, ⟨5, _⟩ => ⟨S13312x1024, .f32⟩
  | .hbm, ⟨6, _⟩ => ⟨S13312x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | _, _ => ⟨S13312x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![26], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamSplitRefIdeal.lean ====
abbrev S13312x1024 : Shape := ⟨2, ![13312, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S13312x1024, .f32⟩
  | .hbm, ⟨1, _⟩ => ⟨S13312x1024, .f32⟩
  | .hbm, ⟨2, _⟩ => ⟨S13312x1024, .f32⟩
  | .hbm, ⟨3, _⟩ => ⟨S13312x1024, .f32⟩
  | .hbm, ⟨4, _⟩ => ⟨S_, .f32⟩
  | .hbm, ⟨5, _⟩ => ⟨S13312x1024, .f32⟩
  | .hbm, ⟨6, _⟩ => ⟨S13312x1024, .f32⟩
  | .hbm, ⟨7, _⟩ => ⟨S_, .f32⟩
  | .hbm, ⟨8, _⟩ => ⟨S13312x1024, .f32⟩
  | .hbm, ⟨9, _⟩ => ⟨S13312x1024, .f32⟩
  | .hbm, ⟨10, _⟩ => ⟨S13312x1024, .f32⟩
  | .hbm, ⟨11, _⟩ => ⟨S_, .f32⟩
  | .hbm, ⟨12, _⟩ => ⟨S13312x1024, .f32⟩
  | .hbm, ⟨13, _⟩ => ⟨S13312x1024, .f32⟩
  | .hbm, ⟨14, _⟩ => ⟨S13312x1024, .f32⟩
  | .hbm, ⟨15, _⟩ => ⟨S_, .f32⟩
  | .hbm, ⟨16, _⟩ => ⟨S13312x1024, .f32⟩
  | .hbm, ⟨17, _⟩ => ⟨S13312x1024, .f32⟩
  | .hbm, ⟨18, _⟩ => ⟨S13312x1024, .f32⟩
  | .hbm, ⟨19, _⟩ => ⟨S_, .f32⟩
  | .hbm, ⟨20, _⟩ => ⟨S13312x1024, .f32⟩
  | .hbm, ⟨21, _⟩ => ⟨S13312x1024, .f32⟩
  | .hbm, ⟨22, _⟩ => ⟨S_, .f32⟩
  | .hbm, ⟨23, _⟩ => ⟨S13312x1024, .f32⟩
  | .hbm, ⟨24, _⟩ => ⟨S13312x1024, .f32⟩
  | .hbm, ⟨25, _⟩ => ⟨S13312x1024, .f32⟩
  | .hbm, ⟨26, _⟩ => ⟨S_, .f32⟩
  | .hbm, ⟨27, _⟩ => ⟨S13312x1024, .f32⟩
  | .hbm, ⟨28, _⟩ => ⟨S13312x1024, .f32⟩
  | .hbm, ⟨29, _⟩ => ⟨S13312x1024, .f32⟩
  | .hbm, ⟨30, _⟩ => ⟨S_, .f32⟩
  | .hbm, ⟨31, _⟩ => ⟨S13312x1024, .f32⟩
  | .hbm, ⟨32, _⟩ => ⟨S13312x1024, .f32⟩
  | .hbm, ⟨33, _⟩ => ⟨S13312x1024, .f32⟩
  | .hbm, ⟨34, _⟩ => ⟨S_, .f32⟩
  | .hbm, ⟨35, _⟩ => ⟨S13312x1024, .f32⟩
  | .hbm, ⟨36, _⟩ => ⟨S13312x1024, .f32⟩
  | _, _ => ⟨S13312x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamRep.lean ====
abbrev S24x1024 : Shape := ⟨2, ![24, 1024]⟩

abbrev nBuf : Space → Nat
  | .hbm => 7
  | .vmem => 7
  | .smem => 0
  | _ => 0

abbrev bufTy : (tb : Table) → Fin (tcTables nBuf tb) → BufTy
  | .hbm, ⟨0, _⟩ => ⟨S24x1024, .f32⟩
  | .hbm, ⟨1, _⟩ => ⟨S24x1024, .f32⟩
  | .hbm, ⟨2, _⟩ => ⟨S24x1024, .f32⟩
  | .hbm, ⟨3, _⟩ => ⟨S24x1024, .f32⟩
  | .hbm, ⟨4, _⟩ => ⟨S24x1024, .f32⟩
  | .hbm, ⟨5, _⟩ => ⟨S24x1024, .f32⟩
  | .hbm, ⟨6, _⟩ => ⟨S24x1024, .f32⟩
  | .local _ .vmem, ⟨0, _⟩ => ⟨S24x1024, .f32⟩
  | .local _ .vmem, ⟨1, _⟩ => ⟨S24x1024, .f32⟩
  | .local _ .vmem, ⟨2, _⟩ => ⟨S24x1024, .f32⟩
  | .local _ .vmem, ⟨3, _⟩ => ⟨S24x1024, .f32⟩
  | .local _ .vmem, ⟨4, _⟩ => ⟨S24x1024, .f32⟩
  | .local _ .vmem, ⟨5, _⟩ => ⟨S24x1024, .f32⟩
  | .local _ .vmem, ⟨6, _⟩ => ⟨S24x1024, .f32⟩
  | _, _ => ⟨S24x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S24x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S24x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S24x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S24x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S24x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S24x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S24x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamRepRefIdeal.lean ====
abbrev S24x1024 : Shape := ⟨2, ![24, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S24x1024, .f32⟩
  | .hbm, ⟨1, _⟩ => ⟨S24x1024, .f32⟩
  | .hbm, ⟨2, _⟩ => ⟨S24x1024, .f32⟩
  | .hbm, ⟨3, _⟩ => ⟨S24x1024, .f32⟩
  | .hbm, ⟨4, _⟩ => ⟨S_, .f32⟩
  | .hbm, ⟨5, _⟩ => ⟨S24x1024, .f32⟩
  | .hbm, ⟨6, _⟩ => ⟨S24x1024, .f32⟩
  | .hbm, ⟨7, _⟩ => ⟨S_, .f32⟩
  | .hbm, ⟨8, _⟩ => ⟨S24x1024, .f32⟩
  | .hbm, ⟨9, _⟩ => ⟨S24x1024, .f32⟩
  | .hbm, ⟨10, _⟩ => ⟨S24x1024, .f32⟩
  | .hbm, ⟨11, _⟩ => ⟨S_, .f32⟩
  | .hbm, ⟨12, _⟩ => ⟨S24x1024, .f32⟩
  | .hbm, ⟨13, _⟩ => ⟨S24x1024, .f32⟩
  | .hbm, ⟨14, _⟩ => ⟨S24x1024, .f32⟩
  | .hbm, ⟨15, _⟩ => ⟨S_, .f32⟩
  | .hbm, ⟨16, _⟩ => ⟨S24x1024, .f32⟩
  | .hbm, ⟨17, _⟩ => ⟨S24x1024, .f32⟩
  | .hbm, ⟨18, _⟩ => ⟨S24x1024, .f32⟩
  | .hbm, ⟨19, _⟩ => ⟨S_, .f32⟩
  | .hbm, ⟨20, _⟩ => ⟨S24x1024, .f32⟩
  | .hbm, ⟨21, _⟩ => ⟨S24x1024, .f32⟩
  | .hbm, ⟨22, _⟩ => ⟨S_, .f32⟩
  | .hbm, ⟨23, _⟩ => ⟨S24x1024, .f32⟩
  | .hbm, ⟨24, _⟩ => ⟨S24x1024, .f32⟩
  | .hbm, ⟨25, _⟩ => ⟨S24x1024, .f32⟩
  | .hbm, ⟨26, _⟩ => ⟨S_, .f32⟩
  | .hbm, ⟨27, _⟩ => ⟨S24x1024, .f32⟩
  | .hbm, ⟨28, _⟩ => ⟨S24x1024, .f32⟩
  | .hbm, ⟨29, _⟩ => ⟨S24x1024, .f32⟩
  | .hbm, ⟨30, _⟩ => ⟨S_, .f32⟩
  | .hbm, ⟨31, _⟩ => ⟨S24x1024, .f32⟩
  | .hbm, ⟨32, _⟩ => ⟨S24x1024, .f32⟩
  | .hbm, ⟨33, _⟩ => ⟨S24x1024, .f32⟩
  | .hbm, ⟨34, _⟩ => ⟨S_, .f32⟩
  | .hbm, ⟨35, _⟩ => ⟨S24x1024, .f32⟩
  | .hbm, ⟨36, _⟩ => ⟨S24x1024, .f32⟩
  | _, _ => ⟨S24x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== GradX.lean ====
abbrev S8192x1024 : Shape := ⟨2, ![8192, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 6
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S256x1024, .f32⟩
  | .local _ .vmem, ⟨8, _⟩ => ⟨S256x1024, .f32⟩
  | .local _ .vmem, ⟨9, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v32 : BitVec 1 := Scalar.cmpi .eq arg0 c0_i32
  let v33 : BitVec 32 := Scalar.extui v32
  let c0_i32_14 : BitVec 32 := 0#32
  let v34 : BitVec 1 := Scalar.cmpi .ne v33 c0_i32_14
  v34

def k0_cond2 (i : grid0.Coords) : BitVec 1 :=
  let arg0 : BitVec 32 := BitVec.ofNat 32 (i 0).val
  let c0_i32_15 : BitVec 32 := 0#32
  let v35 : BitVec 1 := Scalar.cmpi .sgt arg0 c0_i32_15
  let v36 : BitVec 32 := Scalar.extui v35
  let c0_i32_16 : BitVec 32 := 0#32
  let v37 : BitVec 1 := Scalar.cmpi .ne v36 c0_i32_16
  v37

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== GradXRefIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 47
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192, .f32⟩
  | .hbm, ⟨32, _⟩ => ⟨S8192x1, .f32⟩
  | .hbm, ⟨33, _⟩ => ⟨S8192x1024, .f32⟩
  | .hbm, ⟨34, _⟩ => ⟨S8192x1024, .f32⟩
  | .hbm, ⟨35, _⟩ => ⟨S8192x1, .f32⟩
  | .hbm, ⟨36, _⟩ => ⟨S_, .f32⟩
  | .hbm, ⟨37, _⟩ => ⟨S8192x1, .f32⟩
  | .hbm, ⟨38, _⟩ => ⟨S8192x1, .f32⟩
  | .hbm, ⟨39, _⟩ => ⟨S_, .f32⟩
  | .hbm, ⟨40, _⟩ => ⟨S8192, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== FfnNorm.lean ====
abbrev S8192x1024 : Shape := ⟨2, ![8192, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .bf16⟩
  | .local _ .vmem, ⟨4, _⟩ => ⟨S256x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FfnNormRefIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 18
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== FfnUp.lean ====
abbrev S8192x1024 : Shape := ⟨2, ![8192, 1024]⟩
abbrev S1024x5632 : Shape := ⟨2, ![1024, 5632]⟩
abbrev S8192x5632 : Shape := ⟨2, ![8192, 5632]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .bf16⟩
  | .hbm, ⟨2, _⟩ => ⟨S8192x5632, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 11, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnUpRefIdeal.lean ====
abbrev S8192x1024 : Shape := ⟨2, ![8192, 1024]⟩
abbrev S1024x5632 : Shape := ⟨2, ![1024, 5632]⟩
abbrev S8192x5632 : Shape := ⟨2, ![8192, 5632]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .bf16⟩
  | .hbm, ⟨2, _⟩ => ⟨S8192x1024, .f32⟩
  | .hbm, ⟨3, _⟩ => ⟨S1024x5632, .f32⟩
  | .hbm, ⟨4, _⟩ => ⟨S8192x5632, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== FfnAct.lean ====
abbrev S8192x5632 : Shape := ⟨2, ![8192, 5632]⟩
abbrev S3x2816 : Shape := ⟨2, ![3, 2816]⟩
abbrev S1x2816 : Shape := ⟨2, ![1, 2816]⟩
abbrev S8192x2816 : Shape := ⟨2, ![8192, 2816]⟩
abbrev S8x1408 : Shape := ⟨2, ![8, 1408]⟩
abbrev S256x1408 : Shape := ⟨2, ![256, 1408]⟩
abbrev S3x1408 : Shape := ⟨2, ![3, 1408]⟩
abbrev S1x1408 : Shape := ⟨2, ![1, 1408]⟩
abbrev S272x1408 : Shape := ⟨2, ![272, 1408]⟩

abbrev nBuf : Space → Nat
  | .hbm => 4
  | .vmem => 14
  | .smem => 0
  | _ => 0

abbrev bufTy : (tb : Table) → Fin (tcTables nBuf tb) → BufTy
  | .hbm, ⟨0, _⟩ => ⟨S8192x5632, .f32⟩
  | .hbm, ⟨1, _⟩ => ⟨S3x2816, .f32⟩
  | .hbm, ⟨2, _⟩ => ⟨S1x2816, .f32⟩
  | .hbm, ⟨3, _⟩ => ⟨S8192x2816, .bf16⟩
  | .local _ .vmem, ⟨0, _⟩ => ⟨S8x1408, .f32⟩
  | .local _ .vmem, ⟨1, _⟩ => ⟨S8x1408, .f32⟩
  | .local _ .vmem, ⟨2, _⟩ => ⟨S256x1408, .f32⟩
  | .local _ .vmem, ⟨3, _⟩ => ⟨S256x1408, .f32⟩
  | .local _ .vmem, ⟨4, _⟩ => ⟨S8x1408, .f32⟩
  | .local _ .vmem, ⟨5, _⟩ => ⟨S8x1408, .f32⟩
  | .local _ .vmem, ⟨6, _⟩ => ⟨S256x1408, .f32⟩
  | .local _ .vmem, ⟨7, _⟩ => ⟨S256x1408, .f32⟩
  | .local _ .vmem, ⟨8, _⟩ => ⟨S3x1408, .f32⟩
  | .local _ .vmem, ⟨9, _⟩ => ⟨S3x1408, .f32⟩
  | .local _ .vmem, ⟨10, _⟩ => ⟨S1x1408, .f32⟩
  | .local _ .vmem, ⟨11, _⟩ => ⟨S1x1408, .f32⟩
  | .local _ .vmem, ⟨12, _⟩ => ⟨S256x1408, .bf16⟩
  | .local _ .vmem, ⟨13, _⟩ => ⟨S256x1408, .bf16⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let v3 : BitVec 32 := Scalar.addi c0_i32_0 arg0
  let c0_i32_1 : BitVec 32 := 0#32
  ![v2.toNat, v3.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let v3 : BitVec 32 := Scalar.addi c0_i32 arg0
  let c0_i32_0 : BitVec 32 := 0#32
  ![v2.toNat, v3.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S8x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S3x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== FfnActRefIdeal.lean ====
abbrev S8192x5632 : Shape := ⟨2, ![8192, 5632]⟩
abbrev S3x2816 : Shape := ⟨2, ![3, 2816]⟩
abbrev S1x2816 : Shape := ⟨2, ![1, 2816]⟩
abbrev S8192x2816 : Shape := ⟨2, ![8192, 2816]⟩
abbrev S_ : Shape := ⟨0, ![]⟩
abbrev S8194x2816 : Shape := ⟨2, ![8194, 2816]⟩
abbrev S2816 : Shape := ⟨1, ![2816]⟩

abbrev nBuf : Space → Nat
  | .hbm => 44
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S3x2816, .f32⟩
  | .hbm, ⟨2, _⟩ => ⟨S1x2816, .f32⟩
  | .hbm, ⟨3, _⟩ => ⟨S8192x2816, .f32⟩
  | .hbm, ⟨4, _⟩ => ⟨S8192x2816, .f32⟩
  | .hbm, ⟨5, _⟩ => ⟨S_, .i32⟩
  | .hbm, ⟨6, _⟩ => ⟨S_, .f32⟩
  | .hbm, ⟨7, _⟩ => ⟨S8194x2816, .f32⟩
  | .hbm, ⟨8, _⟩ => ⟨S1x2816, .f32⟩
  | .hbm, ⟨9, _⟩ => ⟨S2816, .f32⟩
  | .hbm, ⟨10, _⟩ => ⟨S8192x2816, .f32⟩
  | .hbm, ⟨11, _⟩ => ⟨S1x2816, .f32⟩
  | .hbm, ⟨12, _⟩ => ⟨S8192x2816, .f32⟩
  | .hbm, ⟨13, _⟩ => ⟨S8192x2816, .f32⟩
  | .hbm, ⟨14, _⟩ => ⟨S_, .f32⟩
  | .hbm, ⟨15, _⟩ => ⟨S8192x2816, .f32⟩
  | .hbm, ⟨16, _⟩ => ⟨S8192x2816, .f32⟩
  | .hbm, ⟨17, _⟩ => ⟨S1x2816, .f32⟩
  | .hbm, ⟨18, _⟩ => ⟨S2816, .f32⟩
  | .hbm, ⟨19, _⟩ => ⟨S8192x2816, .f32⟩
  | .hbm, ⟨20, _⟩ => ⟨S1x2816, .f32⟩
  | .hbm, ⟨21, _⟩ => ⟨S8192x2816, .f32⟩
  | .hbm, ⟨22, _⟩ => ⟨S8192x2816, .f32⟩
  | .hbm, ⟨23, _⟩ => ⟨S8192x2816, .f32⟩
  | .hbm, ⟨24, _⟩ => ⟨S1x2816, .f32⟩
  | .hbm, ⟨25, _⟩ => ⟨S2816, .f32⟩
  | .hbm, ⟨26, _⟩ => ⟨S8192x2816, .f32⟩
  | .hbm, ⟨27, _⟩ => ⟨S1x2816, .f32⟩
  | .hbm, ⟨28, _⟩ => ⟨S8192x2816, .f32⟩
  | .hbm, ⟨29, _⟩ => ⟨S8192x2816, .f32⟩
  | .hbm, ⟨30, _⟩ => ⟨S8192x2816, .f32⟩
  | .hbm, ⟨31, _⟩ => ⟨S8192x2816, .f32⟩
  | .hbm, ⟨32, _⟩ => ⟨S8192x2816, .f32⟩
  | .hbm, ⟨33, _⟩ => ⟨S8192x2816, .f32⟩
  | .hbm, ⟨34, _⟩ => ⟨S8192x2816, .f32⟩
  | .hbm, ⟨35, _⟩ => ⟨S_, .f32⟩
  | .hbm, ⟨36, _⟩ => ⟨S8192x2816, .f32⟩
  | .hbm, ⟨37, _⟩ => ⟨S8192x2816, .f32⟩
  | .hbm, ⟨38, _⟩ => ⟨S_, .f32⟩
  | .hbm, ⟨39, _⟩ => ⟨S8192x2816, .f32⟩
  | .hbm, ⟨40, _⟩ => ⟨S8192x2816, .f32⟩
  | .hbm, ⟨41, _⟩ => ⟨S8192x2816, .f32⟩
  | .hbm, ⟨42, _⟩ => ⟨S8192x2816, .f32⟩
  | .hbm, ⟨43, _⟩ => ⟨S8192x2816, .bf16⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_call1_v0 : Ref sig .tc := ⟨.hbm, 33, rfl⟩
abbrev main_call1_v1 : Ref sig .tc := ⟨.hbm, 34, rfl⟩
abbrev main_call1_cst : Ref sig .tc := ⟨.hbm, 35, rfl⟩
abbrev main_call1_v2 : Ref sig .tc := ⟨.hbm, 36, rfl⟩
abbrev main_call1_v3 : Ref sig .tc := ⟨.hbm, 37, rfl⟩
abbrev main_call1_cst_0 : Ref sig .tc := ⟨.hbm, 38, rfl⟩
abbrev main_call1_v4 : Ref sig .tc := ⟨.hbm, 39, rfl⟩
abbrev main_call1_v5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩

abbrev nD : Nat := 1
abbrev τ : Topo := Topo.v7x

variable {F : FTy → Type} [FloatOps F]
-- ==== FfnDown.lean ====
abbrev S8192x2816 : Shape := ⟨2, ![8192, 2816]⟩
abbrev S2816x1024 : Shape := ⟨2, ![2816, 1024]⟩
abbrev S8192x1024 : Shape := ⟨2, ![8192, 1024]⟩
abbrev S512x256 : Shape := ⟨2, ![512, 256]⟩
abbrev S256x1024 : Shape := ⟨2, ![256, 1024]⟩
abbrev S512x1024 : Shape := ⟨2, ![512, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S8192x1024, .f32⟩
  | .local _ .vmem, ⟨0, _⟩ => ⟨S512x256, .bf16⟩
  | .local _ .vmem, ⟨1, _⟩ => ⟨S512x256, .bf16⟩
  | .local _ .vmem, ⟨2, _⟩ => ⟨S256x1024, .bf16⟩
  | .local _ .vmem, ⟨3, _⟩ => ⟨S256x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 1, 11], ![false, false, false]⟩

def k0_cond2 (i : grid0.Coords) : BitVec 1 :=
  let arg2 : BitVec 32 := BitVec.ofNat 32 (i 2).val
  let c10_i32 : BitVec 32 := 10#32
  let v11 : BitVec 1 := Scalar.cmpi .eq arg2 c10_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== FfnDownRefIdeal.lean ====
abbrev S8192x2816 : Shape := ⟨2, ![8192, 2816]⟩
abbrev S2816x1024 : Shape := ⟨2, ![2816, 1024]⟩
abbrev S8192x1024 : Shape := ⟨2, ![8192, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S8192x2816, .f32⟩
  | .hbm, ⟨4, _⟩ => ⟨S2816x1024, .f32⟩
  | .hbm, ⟨5, _⟩ => ⟨S8192x1024, .f32⟩
  | .hbm, ⟨6, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== FfnDownDx.lean ====
abbrev S8192x1024 : Shape := ⟨2, ![8192, 1024]⟩
abbrev S2816x1024 : Shape := ⟨2, ![2816, 1024]⟩
abbrev S8192x2816 : Shape := ⟨2, ![8192, 2816]⟩
abbrev S512x512 : Shape := ⟨2, ![512, 512]⟩
abbrev S256x512 : Shape := ⟨2, ![256, 512]⟩
abbrev S512x256 : Shape := ⟨2, ![512, 256]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S2816x1024, .bf16⟩
  | .hbm, ⟨2, _⟩ => ⟨S8192x2816, .f32⟩
  | .local _ .vmem, ⟨0, _⟩ => ⟨S512x512, .f32⟩
  | .local _ .vmem, ⟨1, _⟩ => ⟨S512x512, .f32⟩
  | .local _ .vmem, ⟨2, _⟩ => ⟨S256x512, .bf16⟩
  | .local _ .vmem, ⟨3, _⟩ => ⟨S256x512, .bf16⟩
  | .local _ .vmem, ⟨4, _⟩ => ⟨S512x256, .f32⟩
  | .local _ .vmem, ⟨5, _⟩ => ⟨S512x256, .f32⟩
  | .local _ .vmem, ⟨6, _⟩ => ⟨S512x256, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 11, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnDownDxRefIdeal.lean ====
abbrev S8192x1024 : Shape := ⟨2, ![8192, 1024]⟩
abbrev S2816x1024 : Shape := ⟨2, ![2816, 1024]⟩
abbrev S1024x2816 : Shape := ⟨2, ![1024, 2816]⟩
abbrev S8192x2816 : Shape := ⟨2, ![8192, 2816]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2816x1024, .bf16⟩
  | .hbm, ⟨2, _⟩ => ⟨S2816x1024, .f32⟩
  | .hbm, ⟨3, _⟩ => ⟨S1024x2816, .f32⟩
  | .hbm, ⟨4, _⟩ => ⟨S8192x2816, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== FfnDownDw.lean ====
abbrev S8192x2816 : Shape := ⟨2, ![8192, 2816]⟩
abbrev S8192x1024 : Shape := ⟨2, ![8192, 1024]⟩
abbrev S2816x1024 : Shape := ⟨2, ![2816, 1024]⟩
abbrev S512x256 : Shape := ⟨2, ![512, 256]⟩
abbrev S512x1024 : Shape := ⟨2, ![512, 1024]⟩
abbrev S256x1024 : Shape := ⟨2, ![256, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S2816x1024, .f32⟩
  | .local _ .vmem, ⟨0, _⟩ => ⟨S512x256, .bf16⟩
  | .local _ .vmem, ⟨1, _⟩ => ⟨S512x256, .bf16⟩
  | .local _ .vmem, ⟨2, _⟩ => ⟨S512x1024, .f32⟩
  | .local _ .vmem, ⟨3, _⟩ => ⟨S512x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 1, 16], ![false, false, false]⟩

def k0_cond2 (i : grid0.Coords) : BitVec 1 :=
  let arg2 : BitVec 32 := BitVec.ofNat 32 (i 2).val
  let c15_i32 : BitVec 32 := 15#32
  let v12 : BitVec 1 := Scalar.cmpi .eq arg2 c15_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnDownDwRefIdeal.lean ====
abbrev S8192x2816 : Shape := ⟨2, ![8192, 2816]⟩
abbrev S8192x1024 : Shape := ⟨2, ![8192, 1024]⟩
abbrev S2816x8192 : Shape := ⟨2, ![2816, 8192]⟩
abbrev S2816x1024 : Shape := ⟨2, ![2816, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S8192x2816, .f32⟩
  | .hbm, ⟨3, _⟩ => ⟨S2816x8192, .f32⟩
  | .hbm, ⟨4, _⟩ => ⟨S2816x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== FfnUpDx.lean ====
abbrev S8192x5632 : Shape := ⟨2, ![8192, 5632]⟩
abbrev S1024x5632 : Shape := ⟨2, ![1024, 5632]⟩
abbrev S8192x1024 : Shape := ⟨2, ![8192, 1024]⟩
abbrev S512x512 : Shape := ⟨2, ![512, 512]⟩
abbrev S1024x512 : Shape := ⟨2, ![1024, 512]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S1024x5632, .bf16⟩
  | .hbm, ⟨2, _⟩ => ⟨S8192x1024, .f32⟩
  | .local _ .vmem, ⟨0, _⟩ => ⟨S512x512, .bf16⟩
  | .local _ .vmem, ⟨1, _⟩ => ⟨S512x512, .bf16⟩
  | .local _ .vmem, ⟨2, _⟩ => ⟨S1024x512, .bf16⟩
  | .local _ .vmem, ⟨3, _⟩ => ⟨S1024x512, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 1, 11], ![false, false, false]⟩

def k0_cond2 (i : grid0.Coords) : BitVec 1 :=
  let arg2 : BitVec 32 := BitVec.ofNat 32 (i 2).val
  let c10_i32 : BitVec 32 := 10#32
  let v11 : BitVec 1 := Scalar.cmpi .eq arg2 c10_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnUpDxRefIdeal.lean ====
abbrev S8192x5632 : Shape := ⟨2, ![8192, 5632]⟩
abbrev S1024x5632 : Shape := ⟨2, ![1024, 5632]⟩
abbrev S5632x1024 : Shape := ⟨2, ![5632, 1024]⟩
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S1024x5632, .bf16⟩
  | .hbm, ⟨2, _⟩ => ⟨S8192x5632, .f32⟩
  | .hbm, ⟨3, _⟩ => ⟨S1024x5632, .f32⟩
  | .hbm, ⟨4, _⟩ => ⟨S5632x1024, .f32⟩
  | .hbm, ⟨5, _⟩ => ⟨S8192x1024, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== FfnUpDw.lean ====
abbrev S8192x1024 : Shape := ⟨2, ![8192, 1024]⟩
abbrev S8192x5632 : Shape := ⟨2, ![8192, 5632]⟩
abbrev S1024x5632 : Shape := ⟨2, ![1024, 5632]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S1024x5632, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 11, 16], ![false, false, false]⟩

def k0_cond2 (i : grid0.Coords) : BitVec 1 :=
  let arg2 : BitVec 32 := BitVec.ofNat 32 (i 2).val
  let c15_i32 : BitVec 32 := 15#32
  let v11 : BitVec 1 := Scalar.cmpi .eq arg2 c15_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnUpDwRefIdeal.lean ====
abbrev S8192x1024 : Shape := ⟨2, ![8192, 1024]⟩
abbrev S8192x5632 : Shape := ⟨2, ![8192, 5632]⟩
abbrev S1024x8192 : Shape := ⟨2, ![1024, 8192]⟩
abbrev S1024x5632 : Shape := ⟨2, ![1024, 5632]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S8192x1024, .f32⟩
  | .hbm, ⟨3, _⟩ => ⟨S1024x8192, .f32⟩
  | .hbm, ⟨4, _⟩ => ⟨S8192x5632, .f32⟩
  | .hbm, ⟨5, _⟩ => ⟨S1024x5632, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== EvenIn.lean ====
abbrev S8192x1024 : Shape := ⟨2, ![8192, 1024]⟩
abbrev S1024x5120 : Shape := ⟨2, ![1024, 5120]⟩
abbrev S8192x5120 : Shape := ⟨2, ![8192, 5120]⟩
abbrev S512x512 : Shape := ⟨2, ![512, 512]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x5120, .bf16⟩
  | .hbm, ⟨2, _⟩ => ⟨S8192x5120, .f32⟩
  | .local _ .vmem, ⟨0, _⟩ => ⟨S512x512, .bf16⟩
  | .local _ .vmem, ⟨1, _⟩ => ⟨S512x512, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 5, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== EvenInRefIdeal.lean ====
abbrev S8192x1024 : Shape := ⟨2, ![8192, 1024]⟩
abbrev S1024x5120 : Shape := ⟨2, ![1024, 5120]⟩
abbrev S8192x5120 : Shape := ⟨2, ![8192, 5120]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x5120, .bf16⟩
  | .hbm, ⟨2, _⟩ => ⟨S8192x1024, .f32⟩
  | .hbm, ⟨3, _⟩ => ⟨S1024x5120, .f32⟩
  | .hbm, ⟨4, _⟩ => ⟨S8192x5120, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== EvenOut.lean ====
abbrev S8192x2048 : Shape := ⟨2, ![8192, 2048]⟩
abbrev S2048x1024 : Shape := ⟨2, ![2048, 1024]⟩
abbrev S8192x1024 : Shape := ⟨2, ![8192, 1024]⟩
abbrev S512x512 : Shape := ⟨2, ![512, 512]⟩
abbrev S512x1024 : Shape := ⟨2, ![512, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x2048, .bf16⟩
  | .hbm, ⟨1, _⟩ => ⟨S2048x1024, .bf16⟩
  | .hbm, ⟨2, _⟩ => ⟨S8192x1024, .f32⟩
  | .hbm, ⟨3, _⟩ => ⟨S8192x1024, .f32⟩
  | .local _ .vmem, ⟨0, _⟩ => ⟨S512x512, .bf16⟩
  | .local _ .vmem, ⟨1, _⟩ => ⟨S512x512, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== EvenOutRefIdeal.lean ====
abbrev S8192x2048 : Shape := ⟨2, ![8192, 2048]⟩
abbrev S2048x1024 : Shape := ⟨2, ![2048, 1024]⟩
abbrev S8192x1024 : Shape := ⟨2, ![8192, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x1024, .bf16⟩
  | .hbm, ⟨2, _⟩ => ⟨S8192x1024, .f32⟩
  | .hbm, ⟨3, _⟩ => ⟨S8192x2048, .f32⟩
  | .hbm, ⟨4, _⟩ => ⟨S2048x1024, .f32⟩
  | .hbm, ⟨5, _⟩ => ⟨S8192x1024, .f32⟩
  | .hbm, ⟨6, _⟩ => ⟨S8192x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== EvenOutDx.lean ====
abbrev S8192x1024 : Shape := ⟨2, ![8192, 1024]⟩
abbrev S2048x1024 : Shape := ⟨2, ![2048, 1024]⟩
abbrev S8192x2048 : Shape := ⟨2, ![8192, 2048]⟩
abbrev S512x512 : Shape := ⟨2, ![512, 512]⟩
abbrev S1024x512 : Shape := ⟨2, ![1024, 512]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S2048x1024, .bf16⟩
  | .hbm, ⟨2, _⟩ => ⟨S8192x2048, .f32⟩
  | .local _ .vmem, ⟨0, _⟩ => ⟨S512x512, .f32⟩
  | .local _ .vmem, ⟨1, _⟩ => ⟨S512x512, .f32⟩
  | .local _ .vmem, ⟨2, _⟩ => ⟨S1024x512, .bf16⟩
  | .local _ .vmem, ⟨3, _⟩ => ⟨S1024x512, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 2, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== EvenOutDxRefIdeal.lean ====
abbrev S8192x1024 : Shape := ⟨2, ![8192, 1024]⟩
abbrev S2048x1024 : Shape := ⟨2, ![2048, 1024]⟩
abbrev S1024x2048 : Shape := ⟨2, ![1024, 2048]⟩
abbrev S8192x2048 : Shape := ⟨2, ![8192, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2048x1024, .bf16⟩
  | .hbm, ⟨2, _⟩ => ⟨S2048x1024, .f32⟩
  | .hbm, ⟨3, _⟩ => ⟨S1024x2048, .f32⟩
  | .hbm, ⟨4, _⟩ => ⟨S8192x2048, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== EvenOutDw.lean ====
abbrev S8192x2048 : Shape := ⟨2, ![8192, 2048]⟩
abbrev S8192x1024 : Shape := ⟨2, ![8192, 1024]⟩
abbrev S2048x1024 : Shape := ⟨2, ![2048, 1024]⟩
abbrev S512x512 : Shape := ⟨2, ![512, 512]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .f32⟩
  | .hbm, ⟨2, _⟩ => ⟨S2048x1024, .f32⟩
  | .local _ .vmem, ⟨0, _⟩ => ⟨S512x512, .bf16⟩
  | .local _ .vmem, ⟨1, _⟩ => ⟨S512x512, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 16], ![false, false, false]⟩

def k0_cond2 (i : grid0.Coords) : BitVec 1 :=
  let arg2 : BitVec 32 := BitVec.ofNat 32 (i 2).val
  let c15_i32 : BitVec 32 := 15#32
  let v12 : BitVec 1 := Scalar.cmpi .eq arg2 c15_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== EvenOutDwRefIdeal.lean ====
abbrev S8192x2048 : Shape := ⟨2, ![8192, 2048]⟩
abbrev S8192x1024 : Shape := ⟨2, ![8192, 1024]⟩
abbrev S2048x8192 : Shape := ⟨2, ![2048, 8192]⟩
abbrev S2048x1024 : Shape := ⟨2, ![2048, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .f32⟩
  | .hbm, ⟨2, _⟩ => ⟨S8192x2048, .f32⟩
  | .hbm, ⟨3, _⟩ => ⟨S2048x8192, .f32⟩
  | .hbm, ⟨4, _⟩ => ⟨S2048x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== EvenInDx.lean ====
abbrev S8192x5120 : Shape := ⟨2, ![8192, 5120]⟩
abbrev S1024x5120 : Shape := ⟨2, ![1024, 5120]⟩
abbrev S8192x1024 : Shape := ⟨2, ![8192, 1024]⟩
abbrev S512x512 : Shape := ⟨2, ![512, 512]⟩
abbrev S1024x512 : Shape := ⟨2, ![1024, 512]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x5120, .bf16⟩
  | .hbm, ⟨1, _⟩ => ⟨S1024x5120, .bf16⟩
  | .hbm, ⟨2, _⟩ => ⟨S8192x1024, .f32⟩
  | .local _ .vmem, ⟨0, _⟩ => ⟨S512x512, .bf16⟩
  | .local _ .vmem, ⟨1, _⟩ => ⟨S512x512, .bf16⟩
  | .local _ .vmem, ⟨2, _⟩ => ⟨S1024x512, .bf16⟩
  | .local _ .vmem, ⟨3, _⟩ => ⟨S1024x512, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 1, 10], ![false, false, false]⟩

def k0_cond2 (i : grid0.Coords) : BitVec 1 :=
  let arg2 : BitVec 32 := BitVec.ofNat 32 (i 2).val
  let c9_i32 : BitVec 32 := 9#32
  let v11 : BitVec 1 := Scalar.cmpi .eq arg2 c9_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== EvenInDxRefIdeal.lean ====
abbrev S8192x5120 : Shape := ⟨2, ![8192, 5120]⟩
abbrev S1024x5120 : Shape := ⟨2, ![1024, 5120]⟩
abbrev S5120x1024 : Shape := ⟨2, ![5120, 1024]⟩
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x5120, .bf16⟩
  | .hbm, ⟨1, _⟩ => ⟨S1024x5120, .bf16⟩
  | .hbm, ⟨2, _⟩ => ⟨S8192x5120, .f32⟩
  | .hbm, ⟨3, _⟩ => ⟨S1024x5120, .f32⟩
  | .hbm, ⟨4, _⟩ => ⟨S5120x1024, .f32⟩
  | .hbm, ⟨5, _⟩ => ⟨S8192x1024, .f32⟩
  | _, _ => ⟨S8192x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== EvenInDw.lean ====
abbrev S8192x1024 : Shape := ⟨2, ![8192, 1024]⟩
abbrev S8192x5120 : Shape := ⟨2, ![8192, 5120]⟩
abbrev S1024x5120 : Shape := ⟨2, ![1024, 5120]⟩
abbrev S512x512 : Shape := ⟨2, ![512, 512]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x5120, .bf16⟩
  | .hbm, ⟨2, _⟩ => ⟨S1024x5120, .f32⟩
  | .local _ .vmem, ⟨0, _⟩ => ⟨S512x512, .bf16⟩
  | .local _ .vmem, ⟨1, _⟩ => ⟨S512x512, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 5, 16], ![false, false, false]⟩

def k0_cond2 (i : grid0.Coords) : BitVec 1 :=
  let arg2 : BitVec 32 := BitVec.ofNat 32 (i 2).val
  let c15_i32 : BitVec 32 := 15#32
  let v11 : BitVec 1 := Scalar.cmpi .eq arg2 c15_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== EvenInDwRefIdeal.lean ====
abbrev S8192x1024 : Shape := ⟨2, ![8192, 1024]⟩
abbrev S8192x5120 : Shape := ⟨2, ![8192, 5120]⟩
abbrev S1024x8192 : Shape := ⟨2, ![1024, 8192]⟩
abbrev S1024x5120 : Shape := ⟨2, ![1024, 5120]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x5120, .bf16⟩
  | .hbm, ⟨2, _⟩ => ⟨S8192x1024, .f32⟩
  | .hbm, ⟨3, _⟩ => ⟨S1024x8192, .f32⟩
  | .hbm, ⟨4, _⟩ => ⟨S8192x5120, .f32⟩
  | .hbm, ⟨5, _⟩ => ⟨S1024x5120, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== OddIn.lean ====
abbrev S8192x1024 : Shape := ⟨2, ![8192, 1024]⟩
abbrev S1024x3200 : Shape := ⟨2, ![1024, 3200]⟩
abbrev S8192x3200 : Shape := ⟨2, ![8192, 3200]⟩
abbrev S512x512 : Shape := ⟨2, ![512, 512]⟩
abbrev S512x640 : Shape := ⟨2, ![512, 640]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x3200, .bf16⟩
  | .hbm, ⟨2, _⟩ => ⟨S8192x3200, .f32⟩
  | .local _ .vmem, ⟨0, _⟩ => ⟨S512x512, .bf16⟩
  | .local _ .vmem, ⟨1, _⟩ => ⟨S512x512, .bf16⟩
  | .local _ .vmem, ⟨2, _⟩ => ⟨S512x640, .bf16⟩
  | .local _ .vmem, ⟨3, _⟩ => ⟨S512x640, .bf16⟩
  | .local _ .vmem, ⟨4, _⟩ => ⟨S512x640, .f32⟩
  | .local _ .vmem, ⟨5, _⟩ => ⟨S512x640, .f32⟩
  | .local _ .vmem, ⟨6, _⟩ => ⟨S512x640, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 5, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OddInRefIdeal.lean ====
abbrev S8192x1024 : Shape := ⟨2, ![8192, 1024]⟩
abbrev S1024x3200 : Shape := ⟨2, ![1024, 3200]⟩
abbrev S8192x3200 : Shape := ⟨2, ![8192, 3200]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x3200, .bf16⟩
  | .hbm, ⟨2, _⟩ => ⟨S8192x1024, .f32⟩
  | .hbm, ⟨3, _⟩ => ⟨S1024x3200, .f32⟩
  | .hbm, ⟨4, _⟩ => ⟨S8192x3200, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== OddOut.lean ====
abbrev S8192x1024 : Shape := ⟨2, ![8192, 1024]⟩
abbrev S1024x1024 : Shape := ⟨2, ![1024, 1024]⟩
abbrev S512x512 : Shape := ⟨2, ![512, 512]⟩
abbrev S512x1024 : Shape := ⟨2, ![512, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S8192x1024, .f32⟩
  | .local _ .vmem, ⟨0, _⟩ => ⟨S512x512, .bf16⟩
  | .local _ .vmem, ⟨1, _⟩ => ⟨S512x512, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OddOutRefIdeal.lean ====
abbrev S8192x1024 : Shape := ⟨2, ![8192, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== OddOutDx.lean ====
abbrev S8192x1024 : Shape := ⟨2, ![8192, 1024]⟩
abbrev S1024x1024 : Shape := ⟨2, ![1024, 1024]⟩
abbrev S512x512 : Shape := ⟨2, ![512, 512]⟩
abbrev S1024x512 : Shape := ⟨2, ![1024, 512]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S8192x1024, .f32⟩
  | .local _ .vmem, ⟨0, _⟩ => ⟨S512x512, .f32⟩
  | .local _ .vmem, ⟨1, _⟩ => ⟨S512x512, .f32⟩
  | .local _ .vmem, ⟨2, _⟩ => ⟨S1024x512, .bf16⟩
  | .local _ .vmem, ⟨3, _⟩ => ⟨S1024x512, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 1, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OddOutDxRefIdeal.lean ====
abbrev S8192x1024 : Shape := ⟨2, ![8192, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S1024x1024, .f32⟩
  | .hbm, ⟨3, _⟩ => ⟨S1024x1024, .f32⟩
  | .hbm, ⟨4, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== OddOutDw.lean ====
abbrev S8192x1024 : Shape := ⟨2, ![8192, 1024]⟩
abbrev S1024x1024 : Shape := ⟨2, ![1024, 1024]⟩
abbrev S512x512 : Shape := ⟨2, ![512, 512]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1024x1024, .f32⟩
  | .local _ .vmem, ⟨0, _⟩ => ⟨S512x512, .bf16⟩
  | .local _ .vmem, ⟨1, _⟩ => ⟨S512x512, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 16], ![false, false, false]⟩

def k0_cond2 (i : grid0.Coords) : BitVec 1 :=
  let arg2 : BitVec 32 := BitVec.ofNat 32 (i 2).val
  let c15_i32 : BitVec 32 := 15#32
  let v12 : BitVec 1 := Scalar.cmpi .eq arg2 c15_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OddOutDwRefIdeal.lean ====
abbrev S8192x1024 : Shape := ⟨2, ![8192, 1024]⟩
abbrev S1024x8192 : Shape := ⟨2, ![1024, 8192]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S8192x1024, .f32⟩
  | .hbm, ⟨3, _⟩ => ⟨S1024x8192, .f32⟩
  | .hbm, ⟨4, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== OddInDx.lean ====
abbrev S8192x3200 : Shape := ⟨2, ![8192, 3200]⟩
abbrev S1024x3200 : Shape := ⟨2, ![1024, 3200]⟩
abbrev S8192x1024 : Shape := ⟨2, ![8192, 1024]⟩
abbrev S512x128 : Shape := ⟨2, ![512, 128]⟩
abbrev S1024x128 : Shape := ⟨2, ![1024, 128]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x3200, .bf16⟩
  | .hbm, ⟨1, _⟩ => ⟨S1024x3200, .bf16⟩
  | .hbm, ⟨2, _⟩ => ⟨S8192x1024, .f32⟩
  | .local _ .vmem, ⟨0, _⟩ => ⟨S512x128, .bf16⟩
  | .local _ .vmem, ⟨1, _⟩ => ⟨S512x128, .bf16⟩
  | .local _ .vmem, ⟨2, _⟩ => ⟨S1024x128, .bf16⟩
  | .local _ .vmem, ⟨3, _⟩ => ⟨S1024x128, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x3200, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 1, 25], ![false, false, false]⟩

def k0_cond2 (i : grid0.Coords) : BitVec 1 :=
  let arg2 : BitVec 32 := BitVec.ofNat 32 (i 2).val
  let c24_i32 : BitVec 32 := 24#32
  let v11 : BitVec 1 := Scalar.cmpi .eq arg2 c24_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OddInDxRefIdeal.lean ====
abbrev S8192x3200 : Shape := ⟨2, ![8192, 3200]⟩
abbrev S1024x3200 : Shape := ⟨2, ![1024, 3200]⟩
abbrev S3200x1024 : Shape := ⟨2, ![3200, 1024]⟩
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x3200, .bf16⟩
  | .hbm, ⟨1, _⟩ => ⟨S1024x3200, .bf16⟩
  | .hbm, ⟨2, _⟩ => ⟨S8192x3200, .f32⟩
  | .hbm, ⟨3, _⟩ => ⟨S1024x3200, .f32⟩
  | .hbm, ⟨4, _⟩ => ⟨S3200x1024, .f32⟩
  | .hbm, ⟨5, _⟩ => ⟨S8192x1024, .f32⟩
  | _, _ => ⟨S8192x3200, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== OddInDw.lean ====
abbrev S8192x1024 : Shape := ⟨2, ![8192, 1024]⟩
abbrev S8192x3200 : Shape := ⟨2, ![8192, 3200]⟩
abbrev S1024x3200 : Shape := ⟨2, ![1024, 3200]⟩
abbrev S512x512 : Shape := ⟨2, ![512, 512]⟩
abbrev S512x640 : Shape := ⟨2, ![512, 640]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x3200, .bf16⟩
  | .hbm, ⟨2, _⟩ => ⟨S1024x3200, .f32⟩
  | .local _ .vmem, ⟨0, _⟩ => ⟨S512x512, .bf16⟩
  | .local _ .vmem, ⟨1, _⟩ => ⟨S512x512, .bf16⟩
  | .local _ .vmem, ⟨2, _⟩ => ⟨S512x640, .bf16⟩
  | .local _ .vmem, ⟨3, _⟩ => ⟨S512x640, .bf16⟩
  | .local _ .vmem, ⟨4, _⟩ => ⟨S512x640, .f32⟩
  | .local _ .vmem, ⟨5, _⟩ => ⟨S512x640, .f32⟩
  | .local _ .vmem, ⟨6, _⟩ => ⟨S512x640, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 5, 16], ![false, false, false]⟩

def k0_cond2 (i : grid0.Coords) : BitVec 1 :=
  let arg2 : BitVec 32 := BitVec.ofNat 32 (i 2).val
  let c15_i32 : BitVec 32 := 15#32
  let v11 : BitVec 1 := Scalar.cmpi .eq arg2 c15_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OddInDwRefIdeal.lean ====
abbrev S8192x1024 : Shape := ⟨2, ![8192, 1024]⟩
abbrev S8192x3200 : Shape := ⟨2, ![8192, 3200]⟩
abbrev S1024x8192 : Shape := ⟨2, ![1024, 8192]⟩
abbrev S1024x3200 : Shape := ⟨2, ![1024, 3200]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x3200, .bf16⟩
  | .hbm, ⟨2, _⟩ => ⟨S8192x1024, .f32⟩
  | .hbm, ⟨3, _⟩ => ⟨S1024x8192, .f32⟩
  | .hbm, ⟨4, _⟩ => ⟨S8192x3200, .f32⟩
  | .hbm, ⟨5, _⟩ => ⟨S1024x3200, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== MlaUq.lean ====
abbrev S8192x512 : Shape := ⟨2, ![8192, 512]⟩
abbrev S512x1024 : Shape := ⟨2, ![512, 1024]⟩
abbrev S8192x1024 : Shape := ⟨2, ![8192, 1024]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x512, .bf16⟩
  | .hbm, ⟨1, _⟩ => ⟨S512x1024, .bf16⟩
  | .hbm, ⟨2, _⟩ => ⟨S8192x1024, .f32⟩
  | .local _ .vmem, ⟨0, _⟩ => ⟨S512x512, .bf16⟩
  | .local _ .vmem, ⟨1, _⟩ => ⟨S512x512, .bf16⟩
  | .local _ .vmem, ⟨2, _⟩ => ⟨S512x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlaUqRefIdeal.lean ====
abbrev S8192x512 : Shape := ⟨2, ![8192, 512]⟩
abbrev S512x1024 : Shape := ⟨2, ![512, 1024]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S512x1024, .bf16⟩
  | .hbm, ⟨2, _⟩ => ⟨S8192x512, .f32⟩
  | .hbm, ⟨3, _⟩ => ⟨S512x1024, .f32⟩
  | .hbm, ⟨4, _⟩ => ⟨S8192x1024, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== MlaUkv.lean ====
abbrev S8192x256 : Shape := ⟨2, ![8192, 256]⟩
abbrev S256x2048 : Shape := ⟨2, ![256, 2048]⟩
abbrev S8192x2048 : Shape := ⟨2, ![8192, 2048]⟩
abbrev S512x256 : Shape := ⟨2, ![512, 256]⟩
abbrev S256x1024 : Shape := ⟨2, ![256, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x256, .bf16⟩
  | .hbm, ⟨1, _⟩ => ⟨S256x2048, .bf16⟩
  | .hbm, ⟨2, _⟩ => ⟨S8192x2048, .f32⟩
  | .local _ .vmem, ⟨0, _⟩ => ⟨S512x256, .bf16⟩
  | .local _ .vmem, ⟨1, _⟩ => ⟨S512x256, .bf16⟩
  | .local _ .vmem, ⟨2, _⟩ => ⟨S256x1024, .bf16⟩
  | .local _ .vmem, ⟨3, _⟩ => ⟨S256x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlaUkvRefIdeal.lean ====
abbrev S8192x256 : Shape := ⟨2, ![8192, 256]⟩
abbrev S256x2048 : Shape := ⟨2, ![256, 2048]⟩
abbrev S8192x2048 : Shape := ⟨2, ![8192, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x256, .bf16⟩
  | .hbm, ⟨1, _⟩ => ⟨S256x2048, .bf16⟩
  | .hbm, ⟨2, _⟩ => ⟨S8192x256, .f32⟩
  | .hbm, ⟨3, _⟩ => ⟨S256x2048, .f32⟩
  | .hbm, ⟨4, _⟩ => ⟨S8192x2048, .f32⟩
  | _, _ => ⟨S8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== MlaUqDx.lean ====
abbrev S8192x1024 : Shape := ⟨2, ![8192, 1024]⟩
abbrev S512x1024 : Shape := ⟨2, ![512, 1024]⟩
abbrev S8192x512 : Shape := ⟨2, ![8192, 512]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S512x1024, .bf16⟩
  | .hbm, ⟨2, _⟩ => ⟨S8192x512, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlaUqDxRefIdeal.lean ====
abbrev S8192x1024 : Shape := ⟨2, ![8192, 1024]⟩
abbrev S512x1024 : Shape := ⟨2, ![512, 1024]⟩
abbrev S1024x512 : Shape := ⟨2, ![1024, 512]⟩
abbrev S8192x512 : Shape := ⟨2, ![8192, 512]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S512x1024, .bf16⟩
  | .hbm, ⟨2, _⟩ => ⟨S8192x1024, .f32⟩
  | .hbm, ⟨3, _⟩ => ⟨S512x1024, .f32⟩
  | .hbm, ⟨4, _⟩ => ⟨S1024x512, .f32⟩
  | .hbm, ⟨5, _⟩ => ⟨S8192x512, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== MlaUqDw.lean ====
abbrev S8192x512 : Shape := ⟨2, ![8192, 512]⟩
abbrev S8192x1024 : Shape := ⟨2, ![8192, 1024]⟩
abbrev S512x1024 : Shape := ⟨2, ![512, 1024]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S512x1024, .f32⟩
  | .local _ .vmem, ⟨0, _⟩ => ⟨S512x512, .bf16⟩
  | .local _ .vmem, ⟨1, _⟩ => ⟨S512x512, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def k0_cond2 (i : grid0.Coords) : BitVec 1 :=
  let arg2 : BitVec 32 := BitVec.ofNat 32 (i 2).val
  let c15_i32 : BitVec 32 := 15#32
  let v11 : BitVec 1 := Scalar.cmpi .eq arg2 c15_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== MlaUqDwRefIdeal.lean ====
abbrev S8192x512 : Shape := ⟨2, ![8192, 512]⟩
abbrev S8192x1024 : Shape := ⟨2, ![8192, 1024]⟩
abbrev S512x8192 : Shape := ⟨2, ![512, 8192]⟩
abbrev S512x1024 : Shape := ⟨2, ![512, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S8192x512, .f32⟩
  | .hbm, ⟨3, _⟩ => ⟨S512x8192, .f32⟩
  | .hbm, ⟨4, _⟩ => ⟨S8192x1024, .f32⟩
  | .hbm, ⟨5, _⟩ => ⟨S512x1024, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== MlaUkvDx.lean ====
abbrev S8192x2048 : Shape := ⟨2, ![8192, 2048]⟩
abbrev S256x2048 : Shape := ⟨2, ![256, 2048]⟩
abbrev S8192x256 : Shape := ⟨2, ![8192, 256]⟩
abbrev S512x512 : Shape := ⟨2, ![512, 512]⟩
abbrev S256x512 : Shape := ⟨2, ![256, 512]⟩
abbrev S512x256 : Shape := ⟨2, ![512, 256]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S256x2048, .bf16⟩
  | .hbm, ⟨2, _⟩ => ⟨S8192x256, .f32⟩
  | .local _ .vmem, ⟨0, _⟩ => ⟨S512x512, .bf16⟩
  | .local _ .vmem, ⟨1, _⟩ => ⟨S512x512, .bf16⟩
  | .local _ .vmem, ⟨2, _⟩ => ⟨S256x512, .bf16⟩
  | .local _ .vmem, ⟨3, _⟩ => ⟨S256x512, .bf16⟩
  | .local _ .vmem, ⟨4, _⟩ => ⟨S512x256, .f32⟩
  | .local _ .vmem, ⟨5, _⟩ => ⟨S512x256, .f32⟩
  | .local _ .vmem, ⟨6, _⟩ => ⟨S512x256, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlaUkvDxRefIdeal.lean ====
abbrev S8192x2048 : Shape := ⟨2, ![8192, 2048]⟩
abbrev S256x2048 : Shape := ⟨2, ![256, 2048]⟩
abbrev S2048x256 : Shape := ⟨2, ![2048, 256]⟩
abbrev S8192x256 : Shape := ⟨2, ![8192, 256]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S256x2048, .bf16⟩
  | .hbm, ⟨2, _⟩ => ⟨S8192x2048, .f32⟩
  | .hbm, ⟨3, _⟩ => ⟨S256x2048, .f32⟩
  | .hbm, ⟨4, _⟩ => ⟨S2048x256, .f32⟩
  | .hbm, ⟨5, _⟩ => ⟨S8192x256, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== MlaUkvDw.lean ====
abbrev S8192x256 : Shape := ⟨2, ![8192, 256]⟩
abbrev S8192x2048 : Shape := ⟨2, ![8192, 2048]⟩
abbrev S256x2048 : Shape := ⟨2, ![256, 2048]⟩
abbrev S512x256 : Shape := ⟨2, ![512, 256]⟩
abbrev S512x1024 : Shape := ⟨2, ![512, 1024]⟩
abbrev S256x1024 : Shape := ⟨2, ![256, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x256, .bf16⟩
  | .hbm, ⟨1, _⟩ => ⟨S8192x2048, .bf16⟩
  | .hbm, ⟨2, _⟩ => ⟨S256x2048, .f32⟩
  | .local _ .vmem, ⟨0, _⟩ => ⟨S512x256, .bf16⟩
  | .local _ .vmem, ⟨1, _⟩ => ⟨S512x256, .bf16⟩
  | .local _ .vmem, ⟨2, _⟩ => ⟨S512x1024, .bf16⟩
  | .local _ .vmem, ⟨3, _⟩ => ⟨S512x1024, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 16], ![false, false, false]⟩

def k0_cond2 (i : grid0.Coords) : BitVec 1 :=
  let arg2 : BitVec 32 := BitVec.ofNat 32 (i 2).val
  let c15_i32 : BitVec 32 := 15#32
  let v11 : BitVec 1 := Scalar.cmpi .eq arg2 c15_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlaUkvDwRefIdeal.lean ====
abbrev S8192x256 : Shape := ⟨2, ![8192, 256]⟩
abbrev S8192x2048 : Shape := ⟨2, ![8192, 2048]⟩
abbrev S256x8192 : Shape := ⟨2, ![256, 8192]⟩
abbrev S256x2048 : Shape := ⟨2, ![256, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x256, .bf16⟩
  | .hbm, ⟨1, _⟩ => ⟨S8192x2048, .bf16⟩
  | .hbm, ⟨2, _⟩ => ⟨S8192x256, .f32⟩
  | .hbm, ⟨3, _⟩ => ⟨S256x8192, .f32⟩
  | .hbm, ⟨4, _⟩ => ⟨S8192x2048, .f32⟩
  | .hbm, ⟨5, _⟩ => ⟨S256x2048, .f32⟩
  | _, _ => ⟨S8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== KvNorm.lean ====
abbrev S8192x5120 : Shape := ⟨2, ![8192, 5120]⟩
abbrev S1x256 : Shape := ⟨2, ![1, 256]⟩
abbrev S8192x256 : Shape := ⟨2, ![8192, 256]⟩
abbrev S256x256 : Shape := ⟨2, ![256, 256]⟩
abbrev S256 : Shape := ⟨1, ![256]⟩
abbrev S256x1 : Shape := ⟨2, ![256, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x5120, .f32⟩
  | .hbm, ⟨1, _⟩ => ⟨S1x256, .f32⟩
  | .hbm, ⟨2, _⟩ => ⟨S8192x256, .bf16⟩
  | .local _ .vmem, ⟨0, _⟩ => ⟨S256x256, .f32⟩
  | .local _ .vmem, ⟨1, _⟩ => ⟨S256x256, .f32⟩
  | .local _ .vmem, ⟨2, _⟩ => ⟨S1x256, .f32⟩
  | .local _ .vmem, ⟨3, _⟩ => ⟨S256x256, .bf16⟩
  | .local _ .vmem, ⟨4, _⟩ => ⟨S256x256, .bf16⟩
  | _, _ => ⟨S8192x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c18_i32 : BitVec 32 := 18#32
  let c0_i32 : BitVec 32 := 0#32
  ![arg0.toNat, c18_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== KvNormRefIdeal.lean ====
abbrev S8192x5120 : Shape := ⟨2, ![8192, 5120]⟩
abbrev S1x256 : Shape := ⟨2, ![1, 256]⟩
abbrev S8192x256 : Shape := ⟨2, ![8192, 256]⟩
abbrev S_ : Shape := ⟨0, ![]⟩
abbrev S8192 : Shape := ⟨1, ![8192]⟩
abbrev S8192x1 : Shape := ⟨2, ![8192, 1]⟩

abbrev nBuf : Space → Nat
  | .hbm => 19
  | .vmem => 0
  | .smem => 0
  | _ => 0

abbrev bufTy : (tb : Table) → Fin (tcTables nBuf tb) → BufTy
  | .hbm, ⟨0, _⟩ => ⟨S8192x5120, .f32⟩
  | .hbm, ⟨1, _⟩ => ⟨S1x256, .f32⟩
  | .hbm, ⟨2, _⟩ => ⟨S8192x256, .f32⟩
  | .hbm, ⟨3, _⟩ => ⟨S8192x256, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x256, .f32⟩
  | .hbm, ⟨15, _⟩ => ⟨S8192x256, .f32⟩
  | .hbm, ⟨16, _⟩ => ⟨S8192x256, .f32⟩
  | .hbm, ⟨17, _⟩ => ⟨S8192x256, .f32⟩
  | .hbm, ⟨18, _⟩ => ⟨S8192x256, .bf16⟩
  | _, _ => ⟨S8192x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== KvNormBwd.lean ====
abbrev S8192x5120 : Shape := ⟨2, ![8192, 5120]⟩
abbrev S1x256 : Shape := ⟨2, ![1, 256]⟩
abbrev S8192x256 : Shape := ⟨2, ![8192, 256]⟩
abbrev S256x256 : Shape := ⟨2, ![256, 256]⟩
abbrev S256 : Shape := ⟨1, ![256]⟩
abbrev S256x1 : Shape := ⟨2, ![256, 1]⟩

abbrev nBuf : Space → Nat
  | .hbm => 5
  | .vmem => 8
  | .smem => 0
  | _ => 0

abbrev bufTy : (tb : Table) → Fin (tcTables nBuf tb) → BufTy
  | .hbm, ⟨0, _⟩ => ⟨S8192x5120, .f32⟩
  | .hbm, ⟨1, _⟩ => ⟨S1x256, .f32⟩
  | .hbm, ⟨2, _⟩ => ⟨S8192x256, .f32⟩
  | .hbm, ⟨3, _⟩ => ⟨S8192x256, .f32⟩
  | .hbm, ⟨4, _⟩ => ⟨S1x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S1x256, .f32⟩
  | .local _ .vmem, ⟨5, _⟩ => ⟨S256x256, .f32⟩
  | .local _ .vmem, ⟨6, _⟩ => ⟨S256x256, .f32⟩
  | .local _ .vmem, ⟨7, _⟩ => ⟨S1x256, .f32⟩
  | _, _ => ⟨S8192x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v30 : BitVec 1 := Scalar.cmpi .eq arg0 c0_i32
  let v31 : BitVec 32 := Scalar.extui v30
  let c0_i32_12 : BitVec 32 := 0#32
  let v32 : BitVec 1 := Scalar.cmpi .ne v31 c0_i32_12
  v32

def k0_cond2 (i : grid0.Coords) : BitVec 1 :=
  let arg0 : BitVec 32 := BitVec.ofNat 32 (i 0).val
  let c0_i32_13 : BitVec 32 := 0#32
  let v33 : BitVec 1 := Scalar.cmpi .sgt arg0 c0_i32_13
  let v34 : BitVec 32 := Scalar.extui v33
  let c0_i32_14 : BitVec 32 := 0#32
  let v35 : BitVec 1 := Scalar.cmpi .ne v34 c0_i32_14
  v35

def cc0_transform_0 (i : grid0.Coords) : Fin 2 → Nat :=
  let arg0 : BitVec 32 := BitVec.ofNat 32 (i 0).val
  let c18_i32 : BitVec 32 := 18#32
  let c0_i32 : BitVec 32 := 0#32
  ![arg0.toNat, c18_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== KvNormBwdRefIdeal.lean ====
abbrev S8192x5120 : Shape := ⟨2, ![8192, 5120]⟩
abbrev S1x256 : Shape := ⟨2, ![1, 256]⟩
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S256 : Shape := ⟨1, ![256]⟩

abbrev nBuf : Space → Nat
  | .hbm => 46
  | .vmem => 0
  | .smem => 0
  | _ => 0

abbrev bufTy : (tb : Table) → Fin (tcTables nBuf tb) → BufTy
  | .hbm, ⟨0, _⟩ => ⟨S8192x5120, .f32⟩
  | .hbm, ⟨1, _⟩ => ⟨S1x256, .f32⟩
  | .hbm, ⟨2, _⟩ => ⟨S8192x256, .f32⟩
  | .hbm, ⟨3, _⟩ => ⟨S8192x256, .f32⟩
  | .hbm, ⟨4, _⟩ => ⟨S8192x256, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x256, .f32⟩
  | .hbm, ⟨20, _⟩ => ⟨S8192x256, .f32⟩
  | .hbm, ⟨21, _⟩ => ⟨S8192x256, .f32⟩
  | .hbm, ⟨22, _⟩ => ⟨S8192x256, .f32⟩
  | .hbm, ⟨23, _⟩ => ⟨S8192x256, .f32⟩
  | .hbm, ⟨24, _⟩ => ⟨S_, .f32⟩
  | .hbm, ⟨25, _⟩ => ⟨S256, .f32⟩
  | .hbm, ⟨26, _⟩ => ⟨S1x256, .f32⟩
  | .hbm, ⟨27, _⟩ => ⟨S8192x256, .f32⟩
  | .hbm, ⟨28, _⟩ => ⟨S8192x256, .f32⟩
  | .hbm, ⟨29, _⟩ => ⟨S8192x256, .f32⟩
  | .hbm, ⟨30, _⟩ => ⟨S_, .f32⟩
  | .hbm, ⟨31, _⟩ => ⟨S8192, .f32⟩
  | .hbm, ⟨32, _⟩ => ⟨S8192x1, .f32⟩
  | .hbm, ⟨33, _⟩ => ⟨S8192x256, .f32⟩
  | .hbm, ⟨34, _⟩ => ⟨S8192x256, .f32⟩
  | .hbm, ⟨35, _⟩ => ⟨S8192x1, .f32⟩
  | .hbm, ⟨36, _⟩ => ⟨S_, .f32⟩
  | .hbm, ⟨37, _⟩ => ⟨S8192x1, .f32⟩
  | .hbm, ⟨38, _⟩ => ⟨S8192x1, .f32⟩
  | .hbm, ⟨39, _⟩ => ⟨S_, .f32⟩
  | .hbm, ⟨40, _⟩ => ⟨S8192, .f32⟩
  | .hbm, ⟨41, _⟩ => ⟨S8192x256, .f32⟩
  | .hbm, ⟨42, _⟩ => ⟨S8192x256, .f32⟩
  | .hbm, ⟨43, _⟩ => ⟨S8192x256, .f32⟩
  | .hbm, ⟨44, _⟩ => ⟨S8192x256, .f32⟩
  | .hbm, ⟨45, _⟩ => ⟨S8192x256, .f32⟩
  | _, _ => ⟨S8192x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_5 : Ref sig .tc := ⟨.hbm, 36, rfl⟩
abbrev main_v27 : Ref sig .tc := ⟨.hbm, 37, rfl⟩
abbrev main_v28 : Ref sig .tc := ⟨.hbm, 38, rfl⟩
abbrev main_cst_6 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]
-- ==== GlaPost.lean ====
abbrev S2x8192x1024 : Shape := ⟨3, ![2, 8192, 1024]⟩
abbrev S8192x3200 : Shape := ⟨2, ![8192, 3200]⟩
abbrev S1x1024 : Shape := ⟨2, ![1, 1024]⟩
abbrev S8192x1024 : Shape := ⟨2, ![8192, 1024]⟩
abbrev S1x256x1024 : Shape := ⟨3, ![1, 256, 1024]⟩
abbrev S256x1024 : Shape := ⟨2, ![256, 1024]⟩
abbrev S256x256 : Shape := ⟨2, ![256, 256]⟩
abbrev S256 : Shape := ⟨1, ![256]⟩
abbrev S256x1 : Shape := ⟨2, ![256, 1]⟩

abbrev nBuf : Space → Nat
  | .hbm => 4
  | .vmem => 9
  | .smem => 0
  | _ => 0

abbrev bufTy : (tb : Table) → Fin (tcTables nBuf tb) → BufTy
  | .hbm, ⟨0, _⟩ => ⟨S2x8192x1024, .f32⟩
  | .hbm, ⟨1, _⟩ => ⟨S8192x3200, .f32⟩
  | .hbm, ⟨2, _⟩ => ⟨S1x1024, .f32⟩
  | .hbm, ⟨3, _⟩ => ⟨S8192x1024, .bf16⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S256x1024, .bf16⟩
  | .local _ .vmem, ⟨8, _⟩ => ⟨S256x1024, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== GlaPostRefIdeal.lean ====
abbrev S2x8192x1024 : Shape := ⟨3, ![2, 8192, 1024]⟩
abbrev S8192x3200 : Shape := ⟨2, ![8192, 3200]⟩
abbrev S1x1024 : Shape := ⟨2, ![1, 1024]⟩
abbrev S1x8192x1024 : Shape := ⟨3, ![1, 8192, 1024]⟩
abbrev S8192x1024 : Shape := ⟨2, ![8192, 1024]⟩
abbrev S8192x4x256 : Shape := ⟨3, ![8192, 4, 256]⟩
abbrev S_ : Shape := ⟨0, ![]⟩
abbrev S8192x4 : Shape := ⟨2, ![8192, 4]⟩
abbrev S8192x4x1 : Shape := ⟨3, ![8192, 4, 1]⟩
abbrev S4x256 : Shape := ⟨2, ![4, 256]⟩
abbrev S1x4x256 : Shape := ⟨3, ![1, 4, 256]⟩

abbrev nBuf : Space → Nat
  | .hbm => 39
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S8192x3200, .f32⟩
  | .hbm, ⟨2, _⟩ => ⟨S1x1024, .f32⟩
  | .hbm, ⟨3, _⟩ => ⟨S1x8192x1024, .f32⟩
  | .hbm, ⟨4, _⟩ => ⟨S8192x1024, .f32⟩
  | .hbm, ⟨5, _⟩ => ⟨S1x8192x1024, .f32⟩
  | .hbm, ⟨6, _⟩ => ⟨S8192x1024, .f32⟩
  | .hbm, ⟨7, _⟩ => ⟨S8192x1024, .f32⟩
  | .hbm, ⟨8, _⟩ => ⟨S8192x4x256, .f32⟩
  | .hbm, ⟨9, _⟩ => ⟨S8192x4x256, .f32⟩
  | .hbm, ⟨10, _⟩ => ⟨S_, .f32⟩
  | .hbm, ⟨11, _⟩ => ⟨S8192x4, .f32⟩
  | .hbm, ⟨12, _⟩ => ⟨S8192x4x1, .f32⟩
  | .hbm, ⟨13, _⟩ => ⟨S_, .f32⟩
  | .hbm, ⟨14, _⟩ => ⟨S8192x4x1, .f32⟩
  | .hbm, ⟨15, _⟩ => ⟨S8192x4x1, .f32⟩
  | .hbm, ⟨16, _⟩ => ⟨S_, .f32⟩
  | .hbm, ⟨17, _⟩ => ⟨S8192x4x1, .f32⟩
  | .hbm, ⟨18, _⟩ => ⟨S8192x4x1, .f32⟩
  | .hbm, ⟨19, _⟩ => ⟨S8192x4x1, .f32⟩
  | .hbm, ⟨20, _⟩ => ⟨S8192x4x256, .f32⟩
  | .hbm, ⟨21, _⟩ => ⟨S8192x4x256, .f32⟩
  | .hbm, ⟨22, _⟩ => ⟨S4x256, .f32⟩
  | .hbm, ⟨23, _⟩ => ⟨S1x4x256, .f32⟩
  | .hbm, ⟨24, _⟩ => ⟨S8192x4x256, .f32⟩
  | .hbm, ⟨25, _⟩ => ⟨S8192x4x256, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .bf16⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== SumWide.lean ====
abbrev S2x8192x1024 : Shape := ⟨3, ![2, 8192, 1024]⟩
abbrev S8192x1024 : Shape := ⟨2, ![8192, 1024]⟩
abbrev S1x256x1024 : Shape := ⟨3, ![1, 256, 1024]⟩
abbrev S256x1024 : Shape := ⟨2, ![256, 1024]⟩

abbrev nBuf : Space → Nat
  | .hbm => 2
  | .vmem => 6
  | .smem => 0
  | _ => 0

abbrev bufTy : (tb : Table) → Fin (tcTables nBuf tb) → BufTy
  | .hbm, ⟨0, _⟩ => ⟨S2x8192x1024, .f32⟩
  | .hbm, ⟨1, _⟩ => ⟨S8192x1024, .bf16⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S256x1024, .bf16⟩
  | .local _ .vmem, ⟨5, _⟩ => ⟨S256x1024, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== SumWideRefIdeal.lean ====
abbrev S2x8192x1024 : Shape := ⟨3, ![2, 8192, 1024]⟩
abbrev S1x8192x1024 : Shape := ⟨3, ![1, 8192, 1024]⟩
abbrev S8192x1024 : Shape := ⟨2, ![8192, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1x8192x1024, .f32⟩
  | .hbm, ⟨2, _⟩ => ⟨S8192x1024, .f32⟩
  | .hbm, ⟨3, _⟩ => ⟨S1x8192x1024, .f32⟩
  | .hbm, ⟨4, _⟩ => ⟨S8192x1024, .f32⟩
  | .hbm, ⟨5, _⟩ => ⟨S8192x1024, .f32⟩
  | .hbm, ⟨6, _⟩ => ⟨S8192x1024, .bf16⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩

abbrev nD : Nat := 1
abbrev τ : Topo := Topo.v7x

variable {F : FTy → Type} [FloatOps F]
-- ==== SumHalf.lean ====
abbrev S2x8192x512 : Shape := ⟨3, ![2, 8192, 512]⟩
abbrev S8192x512 : Shape := ⟨2, ![8192, 512]⟩
abbrev S1x256x512 : Shape := ⟨3, ![1, 256, 512]⟩
abbrev S256x512 : Shape := ⟨2, ![256, 512]⟩

abbrev nBuf : Space → Nat
  | .hbm => 2
  | .vmem => 6
  | .smem => 0
  | _ => 0

abbrev bufTy : (tb : Table) → Fin (tcTables nBuf tb) → BufTy
  | .hbm, ⟨0, _⟩ => ⟨S2x8192x512, .f32⟩
  | .hbm, ⟨1, _⟩ => ⟨S8192x512, .bf16⟩
  | .local _ .vmem, ⟨0, _⟩ => ⟨S1x256x512, .f32⟩
  | .local _ .vmem, ⟨1, _⟩ => ⟨S1x256x512, .f32⟩
  | .local _ .vmem, ⟨2, _⟩ => ⟨S1x256x512, .f32⟩
  | .local _ .vmem, ⟨3, _⟩ => ⟨S1x256x512, .f32⟩
  | .local _ .vmem, ⟨4, _⟩ => ⟨S256x512, .bf16⟩
  | .local _ .vmem, ⟨5, _⟩ => ⟨S256x512, .bf16⟩
  | _, _ => ⟨S2x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== SumHalfRefIdeal.lean ====
abbrev S2x8192x512 : Shape := ⟨3, ![2, 8192, 512]⟩
abbrev S1x8192x512 : Shape := ⟨3, ![1, 8192, 512]⟩
abbrev S8192x512 : Shape := ⟨2, ![8192, 512]⟩

abbrev nBuf : Space → Nat
  | .hbm => 7
  | .vmem => 0
  | .smem => 0
  | _ => 0

abbrev bufTy : (tb : Table) → Fin (tcTables nBuf tb) → BufTy
  | .hbm, ⟨0, _⟩ => ⟨S2x8192x512, .f32⟩
  | .hbm, ⟨1, _⟩ => ⟨S1x8192x512, .f32⟩
  | .hbm, ⟨2, _⟩ => ⟨S8192x512, .f32⟩
  | .hbm, ⟨3, _⟩ => ⟨S1x8192x512, .f32⟩
  | .hbm, ⟨4, _⟩ => ⟨S8192x512, .f32⟩
  | .hbm, ⟨5, _⟩ => ⟨S8192x512, .f32⟩
  | .hbm, ⟨6, _⟩ => ⟨S8192x512, .bf16⟩
  | _, _ => ⟨S2x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩

abbrev nD : Nat := 1
abbrev τ : Topo := Topo.v7x

variable {F : FTy → Type} [FloatOps F]
-- ==== SumLane.lean ====
abbrev S2x8192x128 : Shape := ⟨3, ![2, 8192, 128]⟩
abbrev S8192x128 : Shape := ⟨2, ![8192, 128]⟩
abbrev S1x256x128 : Shape := ⟨3, ![1, 256, 128]⟩
abbrev S256x128 : Shape := ⟨2, ![256, 128]⟩

abbrev nBuf : Space → Nat
  | .hbm => 2
  | .vmem => 6
  | .smem => 0
  | _ => 0

abbrev bufTy : (tb : Table) → Fin (tcTables nBuf tb) → BufTy
  | .hbm, ⟨0, _⟩ => ⟨S2x8192x128, .f32⟩
  | .hbm, ⟨1, _⟩ => ⟨S8192x128, .bf16⟩
  | .local _ .vmem, ⟨0, _⟩ => ⟨S1x256x128, .f32⟩
  | .local _ .vmem, ⟨1, _⟩ => ⟨S1x256x128, .f32⟩
  | .local _ .vmem, ⟨2, _⟩ => ⟨S1x256x128, .f32⟩
  | .local _ .vmem, ⟨3, _⟩ => ⟨S1x256x128, .f32⟩
  | .local _ .vmem, ⟨4, _⟩ => ⟨S256x128, .bf16⟩
  | .local _ .vmem, ⟨5, _⟩ => ⟨S256x128, .bf16⟩
  | _, _ => ⟨S2x8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Loss.lean ====
abbrev S8192x1024 : Shape := ⟨2, ![8192, 1024]⟩
abbrev S1x1024 : Shape := ⟨2, ![1, 1024]⟩
abbrev S256x1024 : Shape := ⟨2, ![256, 1024]⟩
abbrev S1024 : Shape := ⟨1, ![1024]⟩
abbrev S_ : Shape := ⟨0, ![]⟩

abbrev nBuf : Space → Nat
  | .hbm => 17
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1x1024, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => false
  | ⟨8, _⟩ => false
  | _ => false

abbrev sig : RefSig :=
  ofTc nBuf bufTy 1 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v1_0 : Ref sig .tc := ⟨.hbm, 2, rfl⟩
abbrev main_v1_1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v4_s0 : Ref sig .tc := ⟨.hbm, 9, rfl⟩
abbrev main_v4_s1 : Ref sig .tc := ⟨.hbm, 10, rfl⟩
abbrev main_v4_s2 : Ref sig .tc := ⟨.hbm, 11, rfl⟩
abbrev main_v4_s3 : Ref sig .tc := ⟨.hbm, 12, rfl⟩
abbrev main_v4_s4 : Ref sig .tc := ⟨.hbm, 13, rfl⟩
abbrev main_v4_s5 : Ref sig .tc := ⟨.hbm, 14, rfl⟩
abbrev main_v4_s6 : Ref sig .tc := ⟨.hbm, 15, rfl⟩
abbrev main_v4_s7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev ar0_recv : DmaSem sig := 7
abbrev ar0_send : DmaSem sig := 8
abbrev ar0_barrier : Sem sig := 0

abbrev nD : Nat := 8
abbrev τ : Topo := Topo.v7x

variable {F : FTy → Type} [FloatOps F]

abbrev ar0_mem : Fin 1 × Fin 8 → Dev nD := fun q => (![![0, 1, 2, 3, 4, 5, 6, 7]] : Fin 1 → Fin 8 → Dev nD) q.1 q.2
abbrev ar0_pos : Dev nD → Fin 1 × Fin 8 := fun c => ((![0, 0, 0, 0, 0, 0, 0, 0] : Fin 8 → Fin 1) c, (![0, 1, 2, 3, 4, 5, 6, 7] : Fin 8 → Fin 8) c)
abbrev ar0_stage : Fin 8 → Ref sig .tc := fun | 0 => main_v4_s0 | 1 => main_v4_s1 | 2 => main_v4_s2 | 3 => main_v4_s3 | 4 => main_v4_s4 | 5 => main_v4_s5 | 6 => main_v4_s6 | 7 => main_v4_s7 | ⟨_ + 8, h⟩ => absurd h (Nat.not_lt.2 (Nat.le_add_left _ _))

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v11 : BitVec 1 := Scalar.cmpi .eq arg0 c0_i32
  let v12 : BitVec 32 := Scalar.extui v11
  let c0_i32_6 : BitVec 32 := 0#32
  let v13 : BitVec 1 := Scalar.cmpi .ne v12 c0_i32_6
  v13

def k0_cond2 (i : grid0.Coords) : BitVec 1 :=
  let arg0 : BitVec 32 := BitVec.ofNat 32 (i 0).val
  let c0_i32_7 : BitVec 32 := 0#32
  let v14 : BitVec 1 := Scalar.cmpi .sgt arg0 c0_i32_7
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== LossRefIdeal.lean ====
abbrev S65536x1024 : Shape := ⟨2, ![65536, 1024]⟩
abbrev S_ : Shape := ⟨0, ![]⟩
abbrev S65536 : Shape := ⟨1, ![65536]⟩

abbrev nBuf : Space → Nat
  | .hbm => 25
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x1024, .f32⟩
  | .hbm, ⟨2, _⟩ => ⟨S65536x1024, .f32⟩
  | .hbm, ⟨3, _⟩ => ⟨S65536x1024, .f32⟩
  | .hbm, ⟨4, _⟩ => ⟨S_, .f32⟩
  | .hbm, ⟨5, _⟩ => ⟨S65536x1024, .f32⟩
  | .hbm, ⟨6, _⟩ => ⟨S65536x1024, .f32⟩
  | .hbm, ⟨7, _⟩ => ⟨S_, .f32⟩
  | .hbm, ⟨8, _⟩ => ⟨S65536, .f32⟩
  | .hbm, ⟨9, _⟩ => ⟨S_, .f32⟩
  | .hbm, ⟨10, _⟩ => ⟨S65536, .f32⟩
  | .hbm, ⟨11, _⟩ => ⟨S65536, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S65536, .f32⟩
  | .hbm, ⟨20, _⟩ => ⟨S_, .f32⟩
  | .hbm, ⟨21, _⟩ => ⟨S65536, .f32⟩
  | .hbm, ⟨22, _⟩ => ⟨S65536, .f32⟩
  | .hbm, ⟨23, _⟩ => ⟨S65536x1024, .f32⟩
  | .hbm, ⟨24, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩

abbrev nD : Nat := 1
abbrev τ : Topo := Topo.v7x

variable {F : FTy → Type} [FloatOps F]
-- ==== SwapRef.lean ====
abbrev S212992x1024 : Shape := ⟨2, ![212992, 1024]⟩
abbrev S4x2x26624x1024 : Shape := ⟨4, ![4, 2, 26624, 1024]⟩
abbrev S4x1x26624x1024 : Shape := ⟨4, ![4, 1, 26624, 1024]⟩

abbrev nBuf : Space → Nat
  | .hbm => 6
  | .vmem => 0
  | .smem => 0
  | _ => 0

abbrev bufTy : (tb : Table) → Fin (tcTables nBuf tb) → BufTy
  | .hbm, ⟨0, _⟩ => ⟨S212992x1024, .f32⟩
  | .hbm, ⟨1, _⟩ => ⟨S4x2x26624x1024, .f32⟩
  | .hbm, ⟨2, _⟩ => ⟨S4x1x26624x1024, .f32⟩
  | .hbm, ⟨3, _⟩ => ⟨S4x1x26624x1024, .f32⟩
  | .hbm, ⟨4, _⟩ => ⟨S4x2x26624x1024, .f32⟩
  | .hbm, ⟨5, _⟩ => ⟨S212992x1024, .f32⟩
  | _, _ => ⟨S212992x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩

abbrev nD : Nat := 1
abbrev τ : Topo := Topo.v7x

variable {F : FTy → Type} [FloatOps F]
-- ==== ScatterRef.lean ====
abbrev S16x13312x1024 : Shape := ⟨3, ![16, 13312, 1024]⟩
abbrev S4x4x13312x1024 : Shape := ⟨4, ![4, 4, 13312, 1024]⟩

abbrev nBuf : Space → Nat
  | .hbm => 4
  | .vmem => 0
  | .smem => 0
  | _ => 0

abbrev bufTy : (tb : Table) → Fin (tcTables nBuf tb) → BufTy
  | .hbm, ⟨0, _⟩ => ⟨S16x13312x1024, .f32⟩
  | .hbm, ⟨1, _⟩ => ⟨S4x4x13312x1024, .f32⟩
  | .hbm, ⟨2, _⟩ => ⟨S4x4x13312x1024, .f32⟩
  | .hbm, ⟨3, _⟩ => ⟨S16x13312x1024, .f32⟩
  | _, _ => ⟨S16x13312x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩

abbrev nD : Nat := 1
abbrev τ : Topo := Topo.v7x

variable {F : FTy → Type} [FloatOps F]
-- ==== CoresRef.lean ====
abbrev S53248x1024 : Shape := ⟨2, ![53248, 1024]⟩
abbrev S8x6656x1024 : Shape := ⟨3, ![8, 6656, 1024]⟩

abbrev nBuf : Space → Nat
  | .hbm => 2
  | .vmem => 0
  | .smem => 0
  | _ => 0

abbrev bufTy : (tb : Table) → Fin (tcTables nBuf tb) → BufTy
  | .hbm, ⟨0, _⟩ => ⟨S53248x1024, .f32⟩
  | .hbm, ⟨1, _⟩ => ⟨S8x6656x1024, .f32⟩
  | _, _ => ⟨S53248x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== ChipsRef.lean ====
abbrev S50624x1024 : Shape := ⟨2, ![50624, 1024]⟩
abbrev S96x1024 : Shape := ⟨2, ![96, 1024]⟩
abbrev S4x12656x1024 : Shape := ⟨3, ![4, 12656, 1024]⟩
abbrev S4x24x1024 : Shape := ⟨3, ![4, 24, 1024]⟩

abbrev nBuf : Space → Nat
  | .hbm => 4
  | .vmem => 0
  | .smem => 0
  | _ => 0

abbrev bufTy : (tb : Table) → Fin (tcTables nBuf tb) → BufTy
  | .hbm, ⟨0, _⟩ => ⟨S50624x1024, .bf16⟩
  | .hbm, ⟨1, _⟩ => ⟨S96x1024, .f32⟩
  | .hbm, ⟨2, _⟩ => ⟨S4x12656x1024, .bf16⟩
  | .hbm, ⟨3, _⟩ => ⟨S4x24x1024, .f32⟩
  | _, _ => ⟨S50624x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== AddCoresRef.lean ====
abbrev S26624x1024 : Shape := ⟨2, ![26624, 1024]⟩

abbrev nBuf : Space → Nat
  | .hbm => 3
  | .vmem => 0
  | .smem => 0
  | _ => 0

abbrev bufTy : (tb : Table) → Fin (tcTables nBuf tb) → BufTy
  | .hbm, ⟨0, _⟩ => ⟨S26624x1024, .f32⟩
  | .hbm, ⟨1, _⟩ => ⟨S26624x1024, .f32⟩
  | .hbm, ⟨2, _⟩ => ⟨S26624x1024, .f32⟩
  | _, _ => ⟨S26624x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== AddChipsRef.lean ====
abbrev S6656x1024 : Shape := ⟨2, ![6656, 1024]⟩

abbrev nBuf : Space → Nat
  | .hbm => 7
  | .vmem => 0
  | .smem => 0
  | _ => 0

abbrev bufTy : (tb : Table) → Fin (tcTables nBuf tb) → BufTy
  | .hbm, ⟨0, _⟩ => ⟨S6656x1024, .f32⟩
  | .hbm, ⟨1, _⟩ => ⟨S6656x1024, .f32⟩
  | .hbm, ⟨2, _⟩ => ⟨S6656x1024, .f32⟩
  | .hbm, ⟨3, _⟩ => ⟨S6656x1024, .f32⟩
  | .hbm, ⟨4, _⟩ => ⟨S6656x1024, .f32⟩
  | .hbm, ⟨5, _⟩ => ⟨S6656x1024, .f32⟩
  | .hbm, ⟨6, _⟩ => ⟨S6656x1024, .f32⟩
  | _, _ => ⟨S6656x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== SumWideRef.lean ====
abbrev S2x8192x1024 : Shape := ⟨3, ![2, 8192, 1024]⟩
abbrev S1x8192x1024 : Shape := ⟨3, ![1, 8192, 1024]⟩
abbrev S8192x1024 : Shape := ⟨2, ![8192, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1x8192x1024, .f32⟩
  | .hbm, ⟨2, _⟩ => ⟨S8192x1024, .f32⟩
  | .hbm, ⟨3, _⟩ => ⟨S1x8192x1024, .f32⟩
  | .hbm, ⟨4, _⟩ => ⟨S8192x1024, .f32⟩
  | .hbm, ⟨5, _⟩ => ⟨S8192x1024, .f32⟩
  | .hbm, ⟨6, _⟩ => ⟨S8192x1024, .bf16⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩

abbrev nD : Nat := 1
abbrev τ : Topo := Topo.v7x

variable {F : FTy → Type} [FloatOps F]
-- ==== SumHalfRef.lean ====
abbrev S2x8192x512 : Shape := ⟨3, ![2, 8192, 512]⟩
abbrev S1x8192x512 : Shape := ⟨3, ![1, 8192, 512]⟩
abbrev S8192x512 : Shape := ⟨2, ![8192, 512]⟩

abbrev nBuf : Space → Nat
  | .hbm => 7
  | .vmem => 0
  | .smem => 0
  | _ => 0

abbrev bufTy : (tb : Table) → Fin (tcTables nBuf tb) → BufTy
  | .hbm, ⟨0, _⟩ => ⟨S2x8192x512, .f32⟩
  | .hbm, ⟨1, _⟩ => ⟨S1x8192x512, .f32⟩
  | .hbm, ⟨2, _⟩ => ⟨S8192x512, .f32⟩
  | .hbm, ⟨3, _⟩ => ⟨S1x8192x512, .f32⟩
  | .hbm, ⟨4, _⟩ => ⟨S8192x512, .f32⟩
  | .hbm, ⟨5, _⟩ => ⟨S8192x512, .f32⟩
  | .hbm, ⟨6, _⟩ => ⟨S8192x512, .bf16⟩
  | _, _ => ⟨S2x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩

abbrev nD : Nat := 1
abbrev τ : Topo := Topo.v7x

variable {F : FTy → Type} [FloatOps F]
-- ==== SumLaneRef.lean ====
abbrev S2x8192x128 : Shape := ⟨3, ![2, 8192, 128]⟩
abbrev S1x8192x128 : Shape := ⟨3, ![1, 8192, 128]⟩
abbrev S8192x128 : Shape := ⟨2, ![8192, 128]⟩

abbrev nBuf : Space → Nat
  | .hbm => 7
  | .vmem => 0
  | .smem => 0
  | _ => 0

abbrev bufTy : (tb : Table) → Fin (tcTables nBuf tb) → BufTy
  | .hbm, ⟨0, _⟩ => ⟨S2x8192x128, .f32⟩
  | .hbm, ⟨1, _⟩ => ⟨S1x8192x128, .f32⟩
  | .hbm, ⟨2, _⟩ => ⟨S8192x128, .f32⟩
  | .hbm, ⟨3, _⟩ => ⟨S1x8192x128, .f32⟩
  | .hbm, ⟨4, _⟩ => ⟨S8192x128, .f32⟩
  | .hbm, ⟨5, _⟩ => ⟨S8192x128, .f32⟩
  | .hbm, ⟨6, _⟩ => ⟨S8192x128, .bf16⟩
  | _, _ => ⟨S2x8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩

abbrev nD : Nat := 1
abbrev τ : Topo := Topo.v7x

variable {F : FTy → Type} [FloatOps F]
-- ==== Proof.Launch.lean ====
/-
  The launch of a program that is one kernel call without windows, on several devices, for a kernel whose devices
  write into each other's result arrays without asking first.

  The kernel gives no signal before it sends, so the right to write a part of another device's result cannot travel
  with a signal: it has to be dealt before any device runs. The theorem below therefore hands the step that runs
  before all devices (`hglob`) every device's arrays, next to its semaphores and what it is still to be credited.
-/
module

public import Idealize.ShloMosaic.Lib.Pipeline.Launch
public import Idealize.ShloMosaic.Lib.Pipeline.Kit
public import Idealize.ShloMosaic.Lib.Tactic

@[expose] public section

set_option Elab.async false

noncomputable section

namespace Cert.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {nD : ℕ} {τ : Topo} {sig : RefSig} {Val : EltTy → Type}

/-- The resources of the proof: two copies of the rounds algebra (the first unused by a call without windows). -/
abbrev UU (sig : RefSig) (nD : ℕ) (τ : Topo) : Type := UR sig nD τ × UR sig nD τ

local notation "𝕄" => MT nD τ sig Unit Val ℕ (UU sig nD τ) ℕ

/-- The embedding every cell of the exchange uses. -/
abbrev E : Emb (UR sig nD τ) 𝕄 := embR

/-- A TensorCore's semaphores that a kernel uses up, each at zero, are its own semaphores `osem k` at zero, when `osem`
    lists them all. -/
theorem scopedSems0_own {K : Type} [Fintype K] (osem : K → SemLoc sig) (hbij : Function.Bijective osem)
    (hall : ∀ sm : SemLoc sig, sm.isScoped .tc = true) (c : Dev nD) :
    (scopedSems0 (c.tc : Thread nD τ) : sProp 𝕄) = ownSems0 osem c := by
  classical
  rw [show (scopedSems0 (c.tc : Thread nD τ) : sProp 𝕄) = _ from scopedSems0_tc c, ownSems0,
    Finset.filter_true_of_mem fun sm _ => hall sm,
    bigSep_univ_equiv (Equiv.ofBijective osem hbij) (fun sm : SemLoc sig => (semVal ((c.tc : Thread nD τ), sm) 0 : sProp 𝕄))]
  rfl

theorem bigSep_empty_of_isEmpty {I : Type} [Fintype I] [IsEmpty I] (Φ : I → sProp 𝕄) : bigSep Finset.univ Φ = BI.emp := by
  rw [Finset.univ_eq_empty, BI.bigSep_empty]

variable [∀ e, Nonempty (Val e)] {Λ₀ : Idealize.SL.Sem.Labels}

/-- The launch: every device's semaphores, arrays and launch credit pass through `hglob` to what each device starts
    its body with (`X c`); each body returns its arrays at the contents `V' c`, its semaphores at zero, owing nothing. -/
theorem run_exchange {K : Type} [Fintype K] (osem : K → SemLoc sig) (hbij : Function.Bijective osem)
    (hall : ∀ sm : SemLoc sig, sm.isScoped .tc = true)
    (cfgs : Fin 1 → Cfg sig Λ₀) (hW : IsEmpty (Fin (cfgs 0).W)) (hN : (cfgs 0).N = 1)
    (hinj : Function.Injective (cellOf (nD := nD) (τ := τ) cfgs))
    (defs₀ : Defs nD τ sig Val Λ₀)
    (m : (ℓ : Loc nD τ sig) → Buf Val ℓ) (g : Dev nD → PrngReg)
    (main : Dev nD → Prog (TpuEff nD τ sig Val (Sig Λ₀ (Fin 1) fun p => ((cfgs p).toPCfg (Val := Val)).Adm) .tc) PUnit)
    (hmain : ∀ c, main c = .op (.customCall (entry 0) ()) fun _ => .ret ⟨⟩)
    (O₀ : Dev nD → CellTallies nD τ sig Unit)
    (G X : Dev nD → sProp 𝕄) (u : UR sig nD τ)
    (hu : (BI.own (E (Val := Val) u) : sProp 𝕄) ⊢ |==> bigSep Finset.univ G)
    (hglob : (bigSep Finset.univ fun c => iprop(ownSems0 osem c ∗ unscopedBufs c (fun b => m ((c.tc : Thread nD τ).loc b))
        ∗ launchCred O₀ c ∗ G c) : sProp 𝕄) ⊢ |={Set.univ}=> bigSep Finset.univ X)
    (V' : (c : Dev nD) → (b : Ref sig .tc) → Buf Val ((c.tc : Thread nD τ).loc b))
    (hbody : ∀ (c : Dev nD) (t : Fin (cfgs 0).N) (W : Waits sig Unit), iprop(X c ∗ owes (c.tc : Thread nD τ) (O₀ c) W)
      ⊢ wp frame (wpE defs₀ Variants.none (c.tc : Thread nD τ) none) Set.univ
          (defs₀ .tc (cfgs 0).body ((cfgs 0).bodyArgs t ((cfgs 0).slots t)))
          fun _ => iprop(unscopedBufs c (V' c) ∗ ownSems0 osem c ∗ ∃ W', owes (c.tc : Thread nD τ) (0 : CellTallies nD τ sig Unit) W')) :
    θ_run (Pipeline.defs (fun p => (cfgs p).toPCfg) defs₀) (onTc main) ⟨m, fun _ => 0, g⟩ (fun r =>
      (∀ (c : Dev nD) (b : Ref sig .tc), b.isScoped = false → r.2.mem ((c.tc : Thread nD τ).loc b) = V' c b)
        ∧ r.2.sem = fun _ => 0) := by
  classical
  have hss := fun c : Dev nD => scopedSems0_own (τ := τ) (Val := Val) osem hbij hall c
  let dats : (p : Fin 1) → (c : Dev nD) → Dat τ Val Unit ℕ (UU sig nD τ) ℕ (cfgs p) c := fun p c =>
    { A := fun w => m _
      after := fun w _ => (hW.elim (by rw [Subsingleton.elim 0 p]; exact w))
      Φ := fun t => if t.val = 0 then iprop(X c ∗ scopedBufs (c.tc : Thread nD τ))
        else iprop((unscopedBufs c (V' c) ∗ ownSems0 osem c) ∗ scopedBufs (c.tc : Thread nD τ))
      q := fun _ => fullShare
      owed := fun t => if t.val = 0 then O₀ c else 0 }
  have hΦ0 : ∀ c, (dats 0 c).Φ 0 = iprop(X c ∗ scopedBufs (c.tc : Thread nD τ)) := fun c => by dsimp only [dats]; exact if_pos rfl
  have hΦ1 : ∀ c, (dats 0 c).Φ (Fin.last _) = iprop((unscopedBufs c (V' c) ∗ ownSems0 osem c) ∗ scopedBufs (c.tc : Thread nD τ)) :=
    fun c => by dsimp only [dats]; exact if_neg (by rw [Fin.val_last, hN]; exact Nat.one_ne_zero)
  have hO0 : ∀ c, (dats 0 c).owed 0 = O₀ c := fun c => by dsimp only [dats]; exact if_pos rfl
  have hO1 : ∀ c, (dats 0 c).owed (Fin.last _) = 0 := fun c => by dsimp only [dats]; exact if_neg (by rw [Fin.val_last, hN]; exact Nat.one_ne_zero)
  have hw (Φ : Fin (cfgs 0).W → sProp 𝕄) : bigSep Finset.univ Φ = BI.emp := by
    rw [Finset.univ_eq_empty, BI.bigSep_empty]
  have hob : ∀ c, BodyObligation (dats 0 c) defs₀ Variants.none () Set.univ := fun c t => by
    have ht : t.val = 0 := by have := t.isLt; omega
    have e1 : (dats 0 c).Φ t.castSucc = iprop(X c ∗ scopedBufs (c.tc : Thread nD τ)) := by dsimp only [dats]; exact if_pos ht
    have e2 : (dats 0 c).Φ t.succ = iprop((unscopedBufs c (V' c) ∗ ownSems0 osem c) ∗ scopedBufs (c.tc : Thread nD τ)) :=
      by dsimp only [dats]; exact if_neg (Nat.succ_ne_zero _)
    have e3 : (dats 0 c).owed t.castSucc = O₀ c := by dsimp only [dats]; exact if_pos ht
    have e4 : (dats 0 c).owed t.succ = 0 := by dsimp only [dats]; exact if_neg (Nat.succ_ne_zero _)
    unfold Dat.owesAt Pipeline.owesWithin
    rw [e1, e2, e3, e4, hw, hw]
    refine (?_ : _ ⊢ (wp frame (wpE defs₀ Variants.none (c.tc : Thread nD τ) none) Set.univ
          (defs₀ .tc (cfgs 0).body ((cfgs 0).bodyArgs t ((cfgs 0).slots t)))
          (fun _ => iprop((unscopedBufs c (V' c) ∗ ownSems0 osem c
            ∗ ∃ W', owes (c.tc : Thread nD τ) (0 : CellTallies nD τ sig Unit) W') ∗ scopedBufs (c.tc : Thread nD τ))) : sProp 𝕄)).trans
      (wp_mono _ _ _ fun _ => ?_)
    · iintro ⟨⟨HX, Hb⟩, ⟨%W, -, HO⟩, -⟩
      iapply (wp_frame_r _ _ _) $$ [HX HO Hb]
      isplitl [HX HO]
      · iapply (hbody c t W); isplitl [HX] <;> iassumption
      · iexact Hb
    · iintro ⟨⟨Hu, Hs, ⟨%W', HO⟩⟩, Hb⟩
      isplitl [Hu Hs Hb]
      · isplitl [Hu Hs]
        · isplitl [Hu] <;> iassumption
        · iexact Hb
      isplitl [HO]
      · iexists W'; isplitr; · ipureintro; exact fun _ _ => Or.inl trivial
        iexact HO
      · iempintro
  let pre : Dev nD → sProp 𝕄 := fun c => iprop(scopedBufs (c.tc : Thread nD τ) ∗ owes (c.tc : Thread nD τ) (O₀ c) ∅ ∗ X c)
  let fin : Dev nD → sProp 𝕄 := fun c => iprop(unscopedBufs c (V' c) ∗ scopedSems0 (c.tc : Thread nD τ))
  refine (θ_run _ _ _).mono (Q := fun r => (∀ c : Dev nD, (∀ b ∈ (Finset.univ.filter fun b : Ref sig .tc => ¬ b.isScoped),
        r.2.mem ((c.tc : Thread nD τ).loc b) = V' c b)
      ∧ ∀ sm : SemLoc sig, sm.isScoped .tc = true → r.2.sem ((c.tc : Thread nD τ), sm) = 0)
      ∧ ∀ g' : GSem nD τ sig, g'.1.2 ≠ .tc → r.2.sem g' = 0)
    (fun r hr => ⟨fun c b hb => (hr.1 c).1 b (Finset.mem_filter.mpr ⟨Finset.mem_univ _, by rw [hb]; decide⟩),
      sem_eq_zero_of_scoped hall (sems_of_reads (fun c => (hr.1 c).2) hr.2)⟩)
    (adequate_tpu _ _ _ _
    (reflect_intro_fupd_tc_sems (X := Unit) (Variants.lift Variants.none) (owing O₀) 0 (noBookings fun _ => le_rfl) (owing_of_ne O₀)
      ((initOf ∅ ∅, u) : UU sig nD τ) (fun _ => pre) (fun _ => fin)
      (fun _ => iprop(emp)) Set.univ ?_ (fun _ c => ?_) fun _ => ?_))
  · have hcore (c : Dev nD) :
        coreInit (Ix := Unit) (Name := ℕ) (U := UU sig nD τ) (Lvl := ℕ) (owing O₀) 0 (⟨m, fun _ => 0, g⟩ : MemSt nD τ sig Val) (c.tc : Thread nD τ)
          ⊢ iprop(scopedBufs (c.tc : Thread nD τ) ∗ owes (c.tc : Thread nD τ) (O₀ c) ∅ ∗ ownSems0 osem c
              ∗ unscopedBufs c (fun b => m ((c.tc : Thread nD τ).loc b)) ∗ launchCred O₀ c) :=
      (coreInit_boundary_owing O₀ m g c).trans (by
        unfold boundary
        rw [hss c]
        iintro ⟨⟨Hsc, Hos, -⟩, Hub, -, HL, -, -, Hcr⟩
        isplitl [Hsc]; · iexact Hsc
        isplitl [HL]; · iexact HL
        isplitl [Hos]; · iexact Hos
        isplitl [Hub] <;> iassumption)
    have hcores : (bigSep Finset.univ fun d : Dev nD =>
          coreInit (Ix := Unit) (Name := ℕ) (U := UU sig nD τ) (Lvl := ℕ) (owing O₀) 0 (⟨m, fun _ => 0, g⟩ : MemSt nD τ sig Val) (d.tc : Thread nD τ))
        ⊢ iprop((bigSep Finset.univ fun c : Dev nD => scopedBufs (c.tc : Thread nD τ))
            ∗ (bigSep Finset.univ fun c : Dev nD => owes (c.tc : Thread nD τ) (O₀ c) ∅)
            ∗ (bigSep Finset.univ fun c : Dev nD => ownSems0 osem c)
            ∗ (bigSep Finset.univ fun c : Dev nD => unscopedBufs c fun b => m ((c.tc : Thread nD τ).loc b))
            ∗ (bigSep Finset.univ fun c : Dev nD => launchCred O₀ c) : sProp 𝕄) := by
      refine (bigSep_mono fun c _ => hcore c).trans ?_
      simp only [bigSep_sep']
      exact BI.Entails.refl _
    iintro ⟨Hcores, Hu⟩
    ihave Hc := hcores $$ Hcores
    icases Hc with ⟨Hsc, HL, Hos, Hub, Hcr⟩
    ihave Hu2 := (ownU_pair _ _) $$ Hu
    icases Hu2 with ⟨-, Hu2⟩
    imod hu $$ Hu2 with HG
    imod hglob $$ [Hos Hub Hcr HG] with HX
    · simp only [bigSep_sep']
      isplitl [Hos]; · iexact Hos
      isplitl [Hub]; · iexact Hub
      isplitl [Hcr] <;> iassumption
    imodintro
    iexists ()
    isplitr []
    · simp only [pre, bigSep_sep']
      isplitl [Hsc]; · iexact Hsc
      isplitl [HL] <;> iassumption
    · iempintro
  · have hpost : EntryPost cfgs dats () 0 c ⊢ iprop(∃ W, owes (c.tc : Thread nD τ) (0 : CellTallies nD τ sig Unit) W) := by
      unfold EntryPost PerCore.EntryPost Dat.owesAt owesWithin
      iintro ⟨-, ⟨%W, -, HW⟩⟩
      iexists W
      rw [hO1 c]; iexact HW
    simp only [pre]
    rw [hmain c]
    iintro ⟨Hsc, HL, HX⟩
    have hstg : (Dat.staging (cfgs 0) c : sProp 𝕄) = BI.emp := hw _
    have hbufs : (scopedBufs (c.tc : Thread nD τ) : sProp 𝕄) ⊢ iprop(Dat.staging (cfgs 0) c ∗ scopedBufs (c.tc : Thread nD τ)) := by
      rw [hstg]; iintro H; isplitr; · iempintro
      iexact H
    have hpf : ∀ q : Fin ((cfgs 0).toPCfg (Val := Val)).pre.K → PosShare TreeShare,
        (prefHeld ((cfgs 0).toPCfg (Val := Val)).pre c q ((cfgs 0).toPCfg_adm (Val := Val)).1 : sProp 𝕄) = BI.emp := fun q => by
      unfold prefHeld
      exact bigSep_empty_of_isEmpty (I := Fin 0) _
    have hin : iprop(X c ∗ prefHeld ((cfgs 0).toPCfg (Val := Val)).pre c (fun _ => fullShare) ((cfgs 0).toPCfg_adm (Val := Val)).1
        ∗ scopedBufs (c.tc : Thread nD τ)) ⊢ (dats 0 c).Φ 0 := by
      rw [hΦ0]
      iintro ⟨HX, -, HR⟩
      isplitl [HX] <;> iassumption
    have hout : iprop((dats 0 c).Φ (Fin.last (cfgs 0).N) ∗ cellsSems0 cfgs 0 c ∗ Dat.staging (cfgs 0) c ∗ emp)
        ⊢ iprop(unscopedBufs c (V' c) ∗ scopedSems0 (c.tc : Thread nD τ) ∗ scopedBufs (c.tc : Thread nD τ)) := by
      rw [hΦ1, hss]
      iintro ⟨⟨⟨Hu, Hs⟩, Hb⟩, -⟩
      isplitl [Hu]; · iexact Hu
      isplitl [Hs] <;> iassumption
    have hentry : iprop(owes (c.tc : Thread nD τ) (O₀ c) ∅ ∗ (emp : sProp 𝕄)) ⊢ EntryPre cfgs dats () E (fun _ => 0) 0 c := by
      have h1 : ((dats 0 c).arrays fun w => (dats 0 c).arrAt w 0 : sProp 𝕄) = BI.emp := hw _
      have h2 : (PerCore.cellsWaits (fun _ : Dev nD => cfgs) dats () 0 c : sProp 𝕄) = BI.emp := hw _
      have h3 : (PerCore.cellsInit (fun _ : Dev nD => cfgs) dats E (fun _ => 0) 0 c : sProp 𝕄) = BI.emp := hw _
      have h4 : (PerCore.toksInit (fun _ : Dev nD => cfgs) E 0 c : sProp 𝕄) = BI.emp := hw _
      unfold EntryPre PerCore.EntryPre Dat.owesAt owesWithin
      rw [hO0, h1, h2, h3, h4]
      iintro ⟨HL, -⟩
      isplitr; · iempintro
      isplitl [HL]
      · iexists ∅; isplitr; · ipureintro; rw [Finset.coe_empty]; exact Set.empty_subset _
        iexact HL
      isplitr; · iempintro
      isplitr <;> iempintro
    iapply (wp_customCall_entry_frame (fun p => (cfgs p).toPCfg) (fun p => (cfgs p).toPCfg_adm) dats () E (fun _ => 0) hinj 0 defs₀ Variants.none
        (fun _ => fullShare) c Set.univ (fun _ _ => Set.mem_univ _) (hob c).loose (fun w => hW.elim w) none (fun u h => nomatch h)
        (X := X c) (Y := iprop(unscopedBufs c (V' c))) (R := scopedBufs (c.tc : Thread nD τ)) (I := iprop(emp))
        hbufs hin hout (k := fun _ => .ret ⟨⟩) (Q := fun _ => post (liftTc fin BI.emp) (c.tc : Thread nD τ))) $$ [HL HX Hsc]
    · isplitl [HL]
      · iapply hentry; isplitl; · iexact HL
        iempintro
      isplitr
      · iapply (Entails.of_eq (hpf _).symm); iempintro
      isplitl [HX]; · iexact HX
      isplitr; · iempintro
      iexact Hsc
    iintro ⟨Hpost, Hu, Hs, -⟩
    rw [wp_ret]; imodintro
    unfold post; simp only [liftTc_tc, fin]
    ihave HW := hpost $$ Hpost
    isplitl [Hu Hs]
    · isplitl [Hu] <;> iassumption
    · iexact HW
  · have hread (c : Dev nD) (s' : Phys nD τ sig Val) : iprop(fin c ∗ SI s') ⊢ |={Set.univ}=>
        iprop(⌜(∀ b ∈ (Finset.univ.filter fun b : Ref sig .tc => ¬ b.isScoped), s'.mem.mem ((c.tc : Thread nD τ).loc b) = V' c b)
          ∧ ∀ sm : SemLoc sig, sm.isScoped .tc = true → s'.mem.sem ((c.tc : Thread nD τ), sm) = 0⌝ ∗ SI s') := by
      simp only [fin]
      iintro ⟨⟨Hub, Hss⟩, HSI⟩
      ihave %hz := (tcScoped_read_pers c s') $$ [Hss HSI]
      · isplitl [Hss] <;> iassumption
      ihave Hq := (pointsTo_read_all (Finset.univ.filter fun b : Ref sig .tc => ¬ b.isScoped) (fun b => (c.tc : Thread nD τ).loc b)
          (V' c) s' fullShare) $$ [Hub HSI]
      · isplitl [Hub]; · unfold unscopedBufs; iexact Hub
        iexact HSI
      icases Hq with ⟨%hq, HSI⟩
      imodintro
      isplitr
      · ipureintro; exact ⟨hq, hz⟩
      · iexact HSI
    iintro ⟨H, -, Hsc⟩ %s' HSI
    ihave %hsc := (scSems_read_zero m g s') $$ [Hsc HSI]
    · isplitl [Hsc] <;> iassumption
    imod (posts_fupd Finset.univ hread s') $$ [H HSI] with %h
    · isplitl [H] <;> iassumption
    imodintro
    ipureintro
    exact ⟨fun c => h c (Finset.mem_univ c), hsc⟩

end Cert.Exchange

end
-- ==== Proof.Exchange.lean ====
/-
  Exchanges in which every semaphore is used once: every semaphore of every device is credited by one transfer, and
  its device waits for that transfer once. A `Plan` says for each semaphore which device's transfer credits it, by how
  much, and what the transfer hands over. From a plan this file makes the ghost state of a launch and the three rules a
  kernel's body is stepped through with: a transfer to another device, a local copy, and a wait.
-/
module

public import proofs.«01_k».proof.Proof.Launch

@[expose] public section

set_option Elab.async false

noncomputable section

namespace Cert.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {nD : ℕ} {τ : Topo} {sig : RefSig} {Val : EltTy → Type}

/-- The device whose number differs from `c`'s in the bits of `k`: device numbers are `4 x + 2 y + core`, so bit 0 is the
    other core of the chip, and bits 2 and 1 are the chip's neighbours along `x` and along `y`. -/
def hop (k : Fin 8) : Dev 8 ≃ Dev 8 where
  toFun c := ⟨c.val ^^^ k.val, by revert c k; decide⟩
  invFun c := ⟨c.val ^^^ k.val, by revert c k; decide⟩
  left_inv c := by revert c k; decide
  right_inv c := by revert c k; decide

theorem hop_hop (k : Fin 8) (c : Dev 8) : hop k (hop k c) = c := (hop k).left_inv c

local notation "𝕄" => MT nD τ sig Unit Val ℕ (UU sig nD τ) ℕ

variable (nD τ sig Val) in
/-- A plan of the transfers: `K` names a device's semaphores; device `c`'s transfer credits semaphore `k` of the device
    `dest k c` with `amt k`, handing over `pay k` at that device; the semaphores in `recv` are credited from afar. -/
structure Plan (K : Type) [Fintype K] where
  osem : K → SemLoc sig
  bij : Function.Bijective osem
  amt : K → ℕ
  amt_pos : ∀ k, 0 < amt k
  recv : Finset K
  dest : K → Dev nD ≃ Dev nD
  pay : K → Dev nD → sProp 𝕄
  storable : ∀ k c, BI.Storable (upEmb : UEmb _ 𝕄) (pay k c)

/-! ## The stages of a body -/

/-- How far a device's body has come: the transfers `T` it may still start, the transfers `D` to other devices it still
    owes, the semaphores `C` whose credit it holds, those, `A`, it has still to wait for, and those, `Z`, it is done with. -/
structure Stage (K : Type) where
  T : Finset K
  D : Finset K
  C : Finset K
  A : Finset K
  Z : Finset K
  deriving DecidableEq

/-- A body's moves: a transfer to another device (the semaphore of its own that it credits, and the other device's), a
    copy within the device, and a wait. -/
inductive Move (K : Type)
  | send (ks kr : K)
  | copy (j : K)
  | wait (j : K)

namespace Stage

variable {K : Type} [DecidableEq K]

/-- What a move asks of the stage it is made at. -/
def Can (s : Stage K) : Move K → Prop
  | .send ks kr => ks ∈ s.T ∧ kr ∈ s.T.erase ks ∧ kr ∈ s.D ∧ ks ∉ s.C
  | .copy j => j ∈ s.T ∧ j ∉ s.C
  | .wait j => s.D = ∅ ∧ j ∈ s.C ∧ j ∈ s.A ∧ j ∉ s.Z

instance (s : Stage K) : (v : Move K) → Decidable (s.Can v)
  | .send ks kr => inferInstanceAs (Decidable (ks ∈ s.T ∧ kr ∈ s.T.erase ks ∧ kr ∈ s.D ∧ ks ∉ s.C))
  | .copy j => inferInstanceAs (Decidable (j ∈ s.T ∧ j ∉ s.C))
  | .wait j => inferInstanceAs (Decidable (s.D = ∅ ∧ j ∈ s.C ∧ j ∈ s.A ∧ j ∉ s.Z))

/-- The stage after a move. -/
def step (s : Stage K) : Move K → Stage K
  | .send ks kr => ⟨(s.T.erase ks).erase kr, s.D.erase kr, insert ks s.C, s.A, s.Z⟩
  | .copy j => ⟨s.T.erase j, s.D, insert j s.C, s.A, s.Z⟩
  | .wait j => ⟨s.T, s.D, s.C.erase j, s.A.erase j, insert j s.Z⟩

/-- The first stage, when the semaphores `recv` are credited from afar. -/
def first [Fintype K] (recv : Finset K) : Stage K := ⟨Finset.univ, recv, recv, Finset.univ, ∅⟩

/-- The stage after the first `n` of a list of moves. -/
def after [Fintype K] (recv : Finset K) (l : List (Move K)) (n : ℕ) : Stage K := (l.take n).foldl step (first recv)

end Stage

namespace Plan

variable {K : Type} [Fintype K] [DecidableEq K] (P : Plan nD τ sig Val K)

/-- The semaphores, named by `K`. -/
def sem : K ≃ SemLoc sig := Equiv.ofBijective P.osem P.bij

/-- Semaphore `k` of device `c`. -/
abbrev cell (c : Dev nD) (k : K) : GSem nD τ sig := ((c.tc : Thread nD τ), P.osem k)

theorem sem_symm (k : K) : P.sem.symm (P.osem k) = k := P.sem.symm_apply_apply k

theorem cell_inj : Function.Injective fun ck : Dev nD × K => P.cell ck.1 ck.2 := by
  rintro ⟨c, k⟩ ⟨c', k'⟩ h
  have h1 : c = c' := congrArg (fun g : GSem nD τ sig => g.1.1) h
  have h2 : k = k' := P.bij.1 (congrArg Prod.snd h)
  rw [h1, h2]

/-- Every semaphore has one round with one instalment. -/
def rd : Rounds.Schedule (GSem nD τ sig) Unit 𝕄 where
  duties g r := if r = 0 ∧ g.1.2 = .tc then {()} else ∅
  unitless _ := False
  amount g _ _ := P.amt (P.sem.symm g.2)
  payload g _ _ := P.pay (P.sem.symm g.2) g.1.1
  amount_pos _ _ _ _ := P.amt_pos _

instance payload_storable (g : GSem nD τ sig) (r : ℕ) (d : Unit) : BI.Storable (upEmb : UEmb _ 𝕄) (P.rd.payload g r d) :=
  P.storable _ _

theorem duties_cell (c : Dev nD) (k : K) : P.rd.duties (P.cell c k) 0 = {()} := by
  dsimp only [rd]; exact if_pos ⟨rfl, rfl⟩
theorem duties_later (g : GSem nD τ sig) (r : ℕ) (h : 0 + 1 ≤ r) : P.rd.duties g r = ∅ := by
  dsimp only [rd]; exact if_neg fun h' => by omega
theorem amount_cell (c : Dev nD) (k : K) : P.rd.amount (P.cell c k) 0 () = P.amt k := by
  show P.amt (P.sem.symm (P.osem k)) = _; rw [sem_symm]
theorem payload_cell (c : Dev nD) (k : K) : P.rd.payload (P.cell c k) 0 () = P.pay k c := by
  show P.pay (P.sem.symm (P.osem k)) c = _; rw [sem_symm]
theorem expect_cell (c : Dev nD) (k : K) : P.rd.expect (P.cell c k) 0 = P.amt k := by
  unfold Schedule.expect Schedule.amountOf; rw [duties_cell, Finset.sum_singleton, amount_cell]
theorem rest_cell (c : Dev nD) (k : K) :
    bigSep (P.rd.duties (P.cell c k) 0 \ ∅) (fun u => P.rd.payload (P.cell c k) 0 u) = P.pay k c := by
  rw [Finset.sdiff_empty, duties_cell, bigSep_singleton, payload_cell]

/-- What device `c` owes other devices' semaphores for the transfers in `D`. -/
def due (D : Finset K) (c : Dev nD) : CellTallies nD τ sig Unit := ∑ k ∈ D, tallyAt (P.cell (P.dest k c) k) () (P.amt k)

theorem due_erase {D : Finset K} {k : K} (h : k ∈ D) (c : Dev nD) :
    P.due D c = P.due (D.erase k) c + tallyAt (P.cell (P.dest k c) k) () (P.amt k) := by
  unfold due; rw [Finset.sum_erase_add _ _ h]

theorem sum_due (c : Dev nD) {k : K} (hk : k ∈ P.recv) : ∑ d, P.due P.recv d (P.cell c k) () = P.amt k := by
  have h1 (d : Dev nD) : P.due P.recv d (P.cell c k) () = if c = P.dest k d then P.amt k else 0 := by
    unfold due
    rw [Finset.sum_apply, Finsupp.finset_sum_apply]
    rw [Finset.sum_eq_single k]
    · rw [tallyAt_apply]
      by_cases h : c = P.dest k d
      · rw [if_pos h, if_pos ⟨by rw [← h], rfl⟩]
      · rw [if_neg h, if_neg fun h' => h (congrArg (fun g : GSem nD τ sig => g.1.1) h'.1)]
    · intro k' _ hne
      rw [tallyAt_apply, if_neg fun h' => hne (P.bij.1 (congrArg Prod.snd h'.1)).symm]
    · exact fun h => absurd hk h
  rw [Finset.sum_congr rfl fun d _ => h1 d, Finset.sum_eq_single ((P.dest k).symm c)]
  · rw [if_pos ((P.dest k).apply_symm_apply c).symm]
  · intro d _ hne
    exact if_neg fun h => hne (by rw [h, Equiv.symm_apply_apply])
  · exact fun h => absurd (Finset.mem_univ _) h

/-- The launch credits a device's semaphores in `recv` with what the others owe them. -/
theorem launch_creds (c : Dev nD) :
    (launchCred (P.due P.recv) c : sProp 𝕄) ⊢ bigSep P.recv fun k => cred (tallyAt (P.cell c k) () (P.amt k)) := by
  unfold Pipeline.launchCred
  rw [bigSep_univ_equiv P.sem]
  refine (bigSep_subset (Finset.subset_univ P.recv)).trans (bigSep_mono fun k hk => ?_)
  have h : tallyOn (P.cell c k) (launchCredit (owing (P.due P.recv)) 0 (P.cell c k)) = tallyAt (P.cell c k) () (P.amt k) := by
    unfold tallyAt
    congr 1
    refine Finsupp.ext fun i => ?_
    rw [Pipeline.launchCredit_owing, Finsupp.single_eq_same]
    exact P.sum_due c hk
  rw [show P.sem k = P.osem k from rfl, h]; exact BI.Entails.refl _

/-! ## A device's ghost state -/

theorem take {I : Type} [DecidableEq I] {s : Finset I} {i : I} (h : i ∈ s) (Φ : I → sProp 𝕄) :
    bigSep s Φ = iprop(Φ i ∗ bigSep (s.erase i) Φ) := BI.bigSep_erase h

theorem put {I : Type} [DecidableEq I] {s : Finset I} {i : I} (h : i ∉ s) (Φ : I → sProp 𝕄) :
    bigSep (insert i s) Φ = iprop(Φ i ∗ bigSep s Φ) := BI.bigSep_insert h

/-- The invariants of all cells, and that each has reached its round. -/
def records (N : Dev nD × K → ℕ) : sProp 𝕄 :=
  iprop((bigSep Finset.univ fun ck : Dev nD × K => cellInv E P.rd (N ck) (P.cell ck.1 ck.2))
    ∗ bigSep Finset.univ fun ck : Dev nD × K => reached E (P.cell ck.1 ck.2) 0)

instance records_persistent (N : Dev nD × K → ℕ) : BI.Persistent (P.records N) := by unfold records; infer_instance

theorem inv_at (N : Dev nD × K → ℕ) (c : Dev nD) (k : K) : P.records N ⊢ cellInv E P.rd (N (c, k)) (P.cell c k) := by
  unfold records
  iintro ⟨#H, -⟩
  iapply (show (bigSep Finset.univ fun ck : Dev nD × K => cellInv E P.rd (N ck) (P.cell ck.1 ck.2) : sProp 𝕄)
    ⊢ cellInv E P.rd (N (c, k)) (P.cell c k) from bigSep_elim (Finset.mem_univ ((c, k) : Dev nD × K)))
  iexact H

theorem reached_at (N : Dev nD × K → ℕ) (c : Dev nD) (k : K) : P.records N ⊢ reached E (P.cell c k) 0 := by
  unfold records
  iintro ⟨-, #H⟩
  iapply (show (bigSep Finset.univ fun ck : Dev nD × K => reached E (P.cell ck.1 ck.2) 0 : sProp 𝕄)
    ⊢ reached E (P.cell c k) 0 from bigSep_elim (Finset.mem_univ ((c, k) : Dev nD × K)))
  iexact H

/-- Device `c`'s ghost state at a stage, but for what it owes. -/
def held (N : Dev nD × K → ℕ) (c : Dev nD) (s : Stage K) : sProp 𝕄 :=
  iprop(P.records N
    ∗ (bigSep s.T fun k => dutyTok E (P.cell (P.dest k c) k) 0 ())
    ∗ (bigSep s.C fun k => cred (tallyAt (P.cell c k) () (P.amt k)))
    ∗ (bigSep s.A fun k => atPos E (P.cell c k) 0 ∅ 0)
    ∗ (bigSep s.Z fun k => semVal (P.cell c k) 0))

/-- Device `c`'s ghost state at a stage. -/
def st (N : Dev nD × K → ℕ) (c : Dev nD) (s : Stage K) : sProp 𝕄 :=
  iprop(P.held N c s ∗ ∃ W, owes (c.tc : Thread nD τ) (P.due s.D c) W)

/-! ## The launch -/

def cells : Finset (GSem nD τ sig) := Finset.univ.map ⟨fun ck : Dev nD × K => P.cell ck.1 ck.2, P.cell_inj⟩
def toks : Finset (GSem nD τ sig × ℕ × Unit) :=
  Finset.univ.map ⟨fun ck : Dev nD × K => (P.cell ck.1 ck.2, 0, ()), fun _ _ h => P.cell_inj (congrArg Prod.fst h)⟩
def u₀ : UR sig nD τ := initOf P.cells P.toks

/-- A device's part of the ghost state of the launch. -/
def G (c : Dev nD) : sProp 𝕄 :=
  iprop((bigSep Finset.univ fun k => roundState E P.rd (P.cell c k) 0) ∗ (bigSep Finset.univ fun k => reached E (P.cell c k) 0)
    ∗ (bigSep Finset.univ fun k => atPos E (P.cell c k) 0 ∅ 0) ∗ (bigSep Finset.univ fun k => dutyTok E (P.cell c k) 0 ()))

theorem fund_G : (BI.own (E (Val := Val) P.u₀) : sProp 𝕄) ⊢ |==> bigSep Finset.univ P.G := by
  have hX (Φ : GSem nD τ sig → sProp 𝕄) :
      bigSep P.cells Φ = bigSep Finset.univ fun c : Dev nD => bigSep Finset.univ fun k : K => Φ (P.cell c k) := by
    unfold cells; rw [bigSep_map, bigSep_univ_prod]; rfl
  have hT : bigSep P.toks (fun x => (dutyTok E x.1 x.2.1 x.2.2 : sProp 𝕄))
      = bigSep Finset.univ fun c : Dev nD => bigSep Finset.univ fun k : K => dutyTok E (P.cell c k) 0 () := by
    unfold toks; rw [bigSep_map, bigSep_univ_prod]; rfl
  unfold u₀
  iintro HX
  imod (Rounds.fund E P.rd P.cells P.toks) $$ HX with ⟨Hst, Hr, Hat, Htok⟩
  imodintro
  ihave Hst' := (Entails.of_eq (hX fun g => roundState E P.rd g 0)) $$ Hst
  ihave Hat' := (Entails.of_eq (hX fun g => atPos E g 0 ∅ 0)) $$ Hat
  ihave Hr' := (Entails.of_eq (hX fun g => reached E g 0)) $$ Hr
  ihave Htok' := (Entails.of_eq hT) $$ Htok
  unfold G; simp only [bigSep_sep']
  isplitl [Hst']; · iexact Hst'
  isplitl [Hr']; · iexact Hr'
  isplitl [Hat'] <;> iassumption

/-- Every device's invariants at their names. -/
theorem alloc : iprop((bigSep Finset.univ fun c => ownSems0 P.osem c)
      ∗ bigSep Finset.univ fun c => bigSep Finset.univ fun k => roundState E P.rd (P.cell c k) 0)
    ⊢ (|={Set.univ}=> ∃ N : Dev nD × K → ℕ, bigSep Finset.univ fun ck : Dev nD × K => cellInv E P.rd (N ck) (P.cell ck.1 ck.2) : sProp 𝕄) := by
  have h1 : (bigSep Finset.univ fun c : Dev nD => (ownSems0 P.osem c : sProp 𝕄))
      = bigSep Finset.univ fun ck : Dev nD × K => semVal (P.cell ck.1 ck.2) 0 := by rw [bigSep_univ_prod]; rfl
  rw [h1, ← bigSep_univ_prod (fun ck : Dev nD × K => roundState E P.rd (P.cell ck.1 ck.2) 0), ← bigSep_sep']
  have h2 : (bigSep Finset.univ fun ck : Dev nD × K => iprop(semVal (P.cell ck.1 ck.2) 0 ∗ roundState E P.rd (P.cell ck.1 ck.2) 0) : sProp 𝕄)
      ⊢ |={Set.univ}=> bigSep Finset.univ fun ck : Dev nD × K => iprop(∃ κ : ℕ, cellInv E P.rd κ (P.cell ck.1 ck.2)) :=
    (bigSep_mono fun ck _ => (Rounds.body_intro E P.rd (P.cell ck.1 ck.2)).trans inv_alloc).trans (bigSep_fupd _ _)
  have h3 : (bigSep Finset.univ fun ck : Dev nD × K => iprop(∃ κ : ℕ, cellInv E P.rd κ (P.cell ck.1 ck.2)) : sProp 𝕄)
      ⊢ ∃ N : Dev nD × K → ℕ, bigSep Finset.univ fun ck : Dev nD × K => cellInv E P.rd (N ck) (P.cell ck.1 ck.2) :=
    BI.bigSep_exists_pi Finset.univ fun (ck : Dev nD × K) (κ : ℕ) => cellInv E P.rd κ (P.cell ck.1 ck.2)
  iintro H
  imod h2 $$ H with H
  imodintro
  iapply h3; iexact H

/-- The transfers' tokens, each dealt to the device that starts it. -/
theorem toks_deal : (bigSep Finset.univ fun c => bigSep Finset.univ fun k => dutyTok E (P.cell c k) 0 () : sProp 𝕄)
    = bigSep Finset.univ fun c => bigSep Finset.univ fun k => dutyTok E (P.cell (P.dest k c) k) 0 () := by
  rw [BI.bigSep_univ_comm, BI.bigSep_univ_comm fun c k => (dutyTok E (P.cell (P.dest k c) k) 0 () : sProp 𝕄)]
  exact bigSep_congr fun k _ => bigSep_univ_equiv (P.dest k) fun c => (dutyTok E (P.cell c k) 0 () : sProp 𝕄)

/-- What a device starts its body with: its ghost state, and what it may write and read (`mem`). -/
def start (mem : Dev nD → sProp 𝕄) (c : Dev nD) : sProp 𝕄 :=
  iprop((∃ N, P.held N c (Stage.first P.recv)) ∗ mem c)

theorem glob (m : (ℓ : Loc nD τ sig) → Buf Val ℓ) (mem : Dev nD → sProp 𝕄)
    (hmem : (bigSep Finset.univ fun c : Dev nD => unscopedBufs c (fun b => m ((c.tc : Thread nD τ).loc b)) : sProp 𝕄)
      ⊢ bigSep Finset.univ mem) :
    (bigSep Finset.univ fun c => iprop(ownSems0 P.osem c ∗ unscopedBufs c (fun b => m ((c.tc : Thread nD τ).loc b))
        ∗ launchCred (P.due P.recv) c ∗ P.G c) : sProp 𝕄) ⊢ |={Set.univ}=> bigSep Finset.univ (P.start mem) := by
  have hcr : (bigSep Finset.univ fun c => launchCred (P.due P.recv) c : sProp 𝕄)
      ⊢ bigSep Finset.univ fun c => bigSep P.recv fun k => cred (tallyAt (P.cell c k) () (P.amt k)) :=
    bigSep_mono fun c _ => P.launch_creds c
  unfold G
  simp only [bigSep_sep']
  rw [P.toks_deal]
  iintro ⟨Hos, Hub, Hcr, Hst, Hr, Hat, Htok⟩
  imod P.alloc $$ [Hos Hst] with ⟨%N, #Hinv⟩
  · isplitl [Hos] <;> iassumption
  ihave Hm := hmem $$ Hub
  ihave Hc := hcr $$ Hcr
  ihave #Hr' := (show (bigSep Finset.univ fun c => bigSep Finset.univ fun k => reached E (P.cell c k) 0 : sProp 𝕄)
    ⊢ bigSep Finset.univ fun ck : Dev nD × K => reached E (P.cell ck.1 ck.2) 0 by
      rw [bigSep_univ_prod]) $$ Hr
  imodintro
  iapply (bigSep_with_persistent (R := P.records N) (Φ := fun c => iprop((bigSep Finset.univ fun k => dutyTok E (P.cell (P.dest k c) k) 0 ())
    ∗ (bigSep P.recv fun k => cred (tallyAt (P.cell c k) () (P.amt k))) ∗ (bigSep Finset.univ fun k => atPos E (P.cell c k) 0 ∅ 0) ∗ mem c))
    (Ψ := P.start mem) fun c _ => by
      unfold start held Stage.first
      rw [BI.bigSep_empty]
      iintro ⟨#HR, Ht, Hc, Ha, Hm⟩
      isplitr [Hm]
      · iexists N
        isplitr; · iexact HR
        isplitl [Ht]; · iexact Ht
        isplitl [Hc]; · iexact Hc
        isplitl [Ha]; · iexact Ha
        iempintro
      · iexact Hm)
  isplitr
  · unfold records; isplitr
    · iexact Hinv
    · iexact Hr'
  simp only [bigSep_sep']
  isplitl [Htok]; · iexact Htok
  isplitl [Hc]; · iexact Hc
  isplitl [Hat] <;> iassumption

/-! ## The rules -/

section Steps

variable {Λ : Idealize.SL.Sem.Labels} {defs₀ : Defs nD τ sig Val Λ} {N : Dev nD × K → ℕ} {c : Dev nD}

/-- A transfer to the device `n`: it credits `ks` of its own device when its source is read, and `kr` of `n` when it has
    landed. -/
theorem wp_send {ks kr : K} (a b : Stage K) (hcan : a.Can (.send ks kr)) (hstep : a.step (.send ks kr) = b)
    {sS sem : SemLoc sig} (hsS : P.osem ks = sS) (hsem' : P.osem kr = sem) {n : Dev nD} (hself : P.dest ks c = c) (hn : P.dest kr c = n)
    {sp sp' : Space} {s : Shape} {e : EltTy} {src : Memref sig .tc sp s e} {dst : Memref sig .tc sp' s e}
    {hsc : (dst : Memref sig (n.tc : Thread nD τ).2.kind sp' s e).view.ref.isScScratch = false}
    {hsrc : src.view.WordExact} {hdst : dst.view.WordExact}
    {hty : DmaTarget.Typed sp sem (.remote (n.tc : Thread nD τ) dst sS hsc)}
    {α : Type} {Q : α → sProp 𝕄} {k : PUnit → Prog (TpuEff nD τ sig Val Λ .tc) α} {q : PosShare TreeShare}
    {fs : Buf Val (src.view.loc (c.tc : Thread nD τ))} {fd : Buf Val (dst.view.loc ((P.dest kr c).tc : Thread nD τ))}
    (hN : dst.view.amount sem = P.amt kr) (hN' : P.amt ks = P.amt kr)
    (hpay₁ : (src.view.loc (c.tc : Thread nD τ) ↦[src.view.set]{q} fs : sProp 𝕄) ⊢ P.pay ks c)
    (hpay₂ : (dst.view.loc ((P.dest kr c).tc : Thread nD τ) ↦[dst.view.set]{fullShare} (dst.view.write Val fd (src.view.read Val fs) Finset.univ) : sProp 𝕄)
      ⊢ P.pay kr (P.dest kr c)) :
    iprop(P.st N c a ∗ (src.view.loc (c.tc : Thread nD τ) ↦[src.view.set]{q} fs)
        ∗ (dst.view.loc ((P.dest kr c).tc : Thread nD τ) ↦[dst.view.set]{fullShare} fd))
      ⊢ iprop((P.st N c b
            -∗ wp frame (wpE defs₀ Variants.none (c.tc : Thread nD τ) none) Set.univ (k ⟨⟩) Q)
          -∗ wp frame (wpE defs₀ Variants.none (c.tc : Thread nD τ) none) Set.univ
            (.op (.enqueueDma src (.remote (n.tc : Thread nD τ) dst sS hsc) sem hsrc hdst hty) k) Q) := by
  obtain ⟨T, D, C, A, Z⟩ := a
  obtain ⟨hs, hr, hD, hC⟩ := hcan
  subst hsS hsem' hn hstep
  dsimp only at hs hr hD hC
  have hrule := fun W => Rounds.wp_send_pointsTo (defs := defs₀) (Γ := .empty) Variants.none E P.rd (c.tc : Thread nD τ) none (Q := Q) (κ₁ := N (c, ks))
    (κ₂ := N (P.dest kr c, kr)) (hsc := hsc) (hsrc := hsrc) (hdst := hdst) (hsem := hty) (k := k)
    (W := W) (r₁ := 0) (r₂ := 0) (d₁ := ()) (d₂ := ()) (fd := fd) (fs := fs) (q := q)
    (by rw [P.duties_cell c ks]; exact Finset.mem_singleton_self _) (by rw [P.duties_cell _ kr]; exact Finset.mem_singleton_self _)
    () () (P.amt kr) hN ((P.amount_cell c ks).trans hN') (P.amount_cell _ kr) (P.due (D.erase kr) c) (P.due_erase hD c)
    (by rw [P.payload_cell c ks]; exact hpay₁) (by rw [P.payload_cell _ kr]; exact hpay₂) (Es := Set.univ)
  unfold st held
  dsimp only [Stage.step]
  rw [take hs, take hr, put hC, hself, hN']
  iintro ⟨⟨⟨#HR, ⟨Hts, Htr, HT⟩, HC, HA, HZ⟩, %W, HO⟩, Hsrc, Hdst⟩ Hk
  iapply (hrule W) $$ [Hts Htr HO Hsrc Hdst]
  · isplitr; · iapply (P.inv_at N c ks); iexact HR
    isplitr; · iapply (P.inv_at N (P.dest kr c) kr); iexact HR
    isplitl [Hsrc]; · iexact Hsrc
    isplitl [Hdst]; · iexact Hdst
    isplitl [HO]; · iexact HO
    isplitl [Hts]; · iexact Hts
    isplitr; · iapply (P.reached_at N c ks); iexact HR
    isplitl [Htr]; · iexact Htr
    iapply (P.reached_at N (P.dest kr c) kr); iexact HR
  iintro ⟨Hcr, HO⟩
  iapply Hk
  isplitr [HO]
  · isplitr; · iexact HR
    isplitl [HT]; · iexact HT
    isplitl [Hcr HC]
    · isplitl [Hcr] <;> iassumption
    isplitl [HA] <;> iassumption
  · iexists W; iexact HO

/-- A copy within the device, crediting its semaphore `j`. -/
theorem wp_copy {j : K} (a b : Stage K) (hcan : a.Can (.copy j)) (hstep : a.step (.copy j) = b) {sem : SemLoc sig} (hsem' : P.osem j = sem) (hself : P.dest j c = c)
    {sp sp' : Space} {s : Shape} {e : EltTy} {src : Memref sig .tc sp s e} {dst : Memref sig .tc sp' s e}
    {hsrc : src.view.WordExact} {hdst : dst.view.WordExact}
    {hty : DmaTarget.Typed (nD := nD) (τ := τ) (p := Proc.tc) sp sem (.here dst)}
    {α : Type} {Q : α → sProp 𝕄} {k : PUnit → Prog (TpuEff nD τ sig Val Λ .tc) α} {q : PosShare TreeShare}
    {fs : Buf Val (src.view.loc (c.tc : Thread nD τ))} {fd : Buf Val (dst.view.loc (c.tc : Thread nD τ))}
    (hN : dst.view.amount sem = P.amt j)
    (hpay : iprop((dst.view.loc (c.tc : Thread nD τ) ↦[dst.view.set]{fullShare} (dst.view.write Val fd (src.view.read Val fs) Finset.univ))
      ∗ (src.view.loc (c.tc : Thread nD τ) ↦[src.view.set]{q} fs) : sProp 𝕄) ⊢ P.pay j c) :
    iprop(P.st N c a ∗ (src.view.loc (c.tc : Thread nD τ) ↦[src.view.set]{q} fs)
        ∗ (dst.view.loc (c.tc : Thread nD τ) ↦[dst.view.set]{fullShare} fd))
      ⊢ iprop((P.st N c b
            -∗ wp frame (wpE defs₀ Variants.none (c.tc : Thread nD τ) none) Set.univ (k ⟨⟩) Q)
          -∗ wp frame (wpE defs₀ Variants.none (c.tc : Thread nD τ) none) Set.univ
            (.op (.enqueueDma src (.here dst) sem hsrc hdst hty) k) Q) := by
  obtain ⟨T, D, C, A, Z⟩ := a
  obtain ⟨hj, hC⟩ := hcan
  subst hsem' hstep
  dsimp only at hj hC
  have hrule := Rounds.wp_copy_pointsTo (defs := defs₀) (Γ := .empty) Variants.none E P.rd (c.tc : Thread nD τ) none (Q := Q) (κ := N (c, j))
    (hsrc := hsrc) (hdst := hdst) (hsem := hty) (k := k) (r := 0) (d := ()) (fd := fd) (fs := fs) (q := q)
    (by rw [P.duties_cell c j]; exact Finset.mem_singleton_self _) () (P.amt j) hN (P.amount_cell c j)
    (by rw [P.payload_cell c j]; exact hpay) (Es := Set.univ)
  unfold st held
  dsimp only [Stage.step]
  rw [take hj, put hC, hself]
  iintro ⟨⟨⟨#HR, ⟨Ht, HT⟩, HC, HA, HZ⟩, HO⟩, Hsrc, Hdst⟩ Hk
  iapply hrule $$ [Ht Hsrc Hdst]
  · isplitr; · iapply (P.inv_at N c j); iexact HR
    isplitl [Hsrc]; · iexact Hsrc
    isplitl [Hdst]; · iexact Hdst
    isplitl [Ht]; · iexact Ht
    iapply (P.reached_at N c j); iexact HR
  iintro Hcr
  iapply Hk
  isplitr [HO]
  · isplitr; · iexact HR
    isplitl [HT]; · iexact HT
    isplitl [Hcr HC]
    · isplitl [Hcr] <;> iassumption
    isplitl [HA] <;> iassumption
  · iexact HO

/-- The transfer, from what is held in whatever form. -/
theorem send {ks kr : K} (a b : Stage K) (hcan : a.Can (.send ks kr)) (hstep : a.step (.send ks kr) = b)
    {sS sem : SemLoc sig} (hsS : P.osem ks = sS) (hsem' : P.osem kr = sem) {n : Dev nD} (hself : P.dest ks c = c) (hn : P.dest kr c = n)
    {sp sp' : Space} {s : Shape} {e : EltTy} {src : Memref sig .tc sp s e} {dst : Memref sig .tc sp' s e}
    {hsc : (dst : Memref sig (n.tc : Thread nD τ).2.kind sp' s e).view.ref.isScScratch = false}
    {hsrc : src.view.WordExact} {hdst : dst.view.WordExact}
    {hty : DmaTarget.Typed sp sem (.remote (n.tc : Thread nD τ) dst sS hsc)}
    {α : Type} {Q : α → sProp 𝕄} {k : PUnit → Prog (TpuEff nD τ sig Val Λ .tc) α} {q : PosShare TreeShare}
    {fs : Buf Val (src.view.loc (c.tc : Thread nD τ))} {fd : Buf Val (dst.view.loc ((P.dest kr c).tc : Thread nD τ))}
    {Ps Pd : sProp 𝕄} (hs : Ps ⊢ (src.view.loc (c.tc : Thread nD τ) ↦[src.view.set]{q} fs))
    (hd : Pd ⊢ (dst.view.loc ((P.dest kr c).tc : Thread nD τ) ↦[dst.view.set]{fullShare} fd))
    (hN : dst.view.amount sem = P.amt kr) (hN' : P.amt ks = P.amt kr)
    (hpay₁ : (src.view.loc (c.tc : Thread nD τ) ↦[src.view.set]{q} fs : sProp 𝕄) ⊢ P.pay ks c)
    (hpay₂ : (dst.view.loc ((P.dest kr c).tc : Thread nD τ) ↦[dst.view.set]{fullShare} (dst.view.write Val fd (src.view.read Val fs) Finset.univ) : sProp 𝕄)
      ⊢ P.pay kr (P.dest kr c)) :
    iprop(P.st N c a ∗ Ps ∗ Pd)
      ⊢ iprop((P.st N c b
            -∗ wp frame (wpE defs₀ Variants.none (c.tc : Thread nD τ) none) Set.univ (k ⟨⟩) Q)
          -∗ wp frame (wpE defs₀ Variants.none (c.tc : Thread nD τ) none) Set.univ
            (.op (.enqueueDma src (.remote (n.tc : Thread nD τ) dst sS hsc) sem hsrc hdst hty) k) Q) :=
  (sep_mono .rfl (sep_mono hs hd)).trans (P.wp_send a b hcan hstep hsS hsem' hself hn hN hN' hpay₁ hpay₂)

/-- The copy, from what is held in whatever form. -/
theorem copy {j : K} (a b : Stage K) (hcan : a.Can (.copy j)) (hstep : a.step (.copy j) = b) {sem : SemLoc sig} (hsem' : P.osem j = sem) (hself : P.dest j c = c)
    {sp sp' : Space} {s : Shape} {e : EltTy} {src : Memref sig .tc sp s e} {dst : Memref sig .tc sp' s e}
    {hsrc : src.view.WordExact} {hdst : dst.view.WordExact}
    {hty : DmaTarget.Typed (nD := nD) (τ := τ) (p := Proc.tc) sp sem (.here dst)}
    {α : Type} {Q : α → sProp 𝕄} {k : PUnit → Prog (TpuEff nD τ sig Val Λ .tc) α} {q : PosShare TreeShare}
    {fs : Buf Val (src.view.loc (c.tc : Thread nD τ))} {fd : Buf Val (dst.view.loc (c.tc : Thread nD τ))}
    {Ps Pd : sProp 𝕄} (hs : Ps ⊢ (src.view.loc (c.tc : Thread nD τ) ↦[src.view.set]{q} fs))
    (hd : Pd ⊢ (dst.view.loc (c.tc : Thread nD τ) ↦[dst.view.set]{fullShare} fd))
    (hN : dst.view.amount sem = P.amt j)
    (hpay : iprop((dst.view.loc (c.tc : Thread nD τ) ↦[dst.view.set]{fullShare} (dst.view.write Val fd (src.view.read Val fs) Finset.univ))
      ∗ (src.view.loc (c.tc : Thread nD τ) ↦[src.view.set]{q} fs) : sProp 𝕄) ⊢ P.pay j c) :
    iprop(P.st N c a ∗ Ps ∗ Pd)
      ⊢ iprop((P.st N c b
            -∗ wp frame (wpE defs₀ Variants.none (c.tc : Thread nD τ) none) Set.univ (k ⟨⟩) Q)
          -∗ wp frame (wpE defs₀ Variants.none (c.tc : Thread nD τ) none) Set.univ
            (.op (.enqueueDma src (.here dst) sem hsrc hdst hty) k) Q) :=
  (sep_mono .rfl (sep_mono hs hd)).trans (P.wp_copy a b hcan hstep hsem' hself hN hpay)

/-- A wait for semaphore `j`, the device owing nothing any more: it brings what the transfer handed over. -/
theorem wp_wait {j : K} (a b : Stage K) (hcan : a.Can (.wait j)) (hstep : a.step (.wait j) = b) {sm : DmaSem sig} (hsm : P.osem j = .dma sm)
    {sp sp' : Space} {s s' : Shape} {e e' : EltTy} {src : Memref sig .tc sp s e} {dst : Memref sig .tc sp' s' e'}
    {hsrc : src.view.WordExact} {hdst : dst.view.WordExact}
    {α : Type} {Q : α → sProp 𝕄} {k : PUnit → Prog (TpuEff nD τ sig Val Λ .tc) α}
    (hN : dst.view.dmaCredit = P.amt j) :
    P.st N c a
      ⊢ iprop(((P.st N c b ∗ P.pay j c)
            -∗ wp frame (wpE defs₀ Variants.none (c.tc : Thread nD τ) none) Set.univ (k ⟨⟩) Q)
          -∗ wp frame (wpE defs₀ Variants.none (c.tc : Thread nD τ) none) Set.univ
            (.op (.waitDma2 sm src dst hsrc hdst) k) Q) := by
  obtain ⟨T, D, C, A, Z⟩ := a
  obtain ⟨hD, hj, hA, hZ⟩ := hcan
  dsimp only at hD hj hA hZ
  subst hD hstep
  have hdue : P.due ∅ c = 0 := by unfold due; rw [Finset.sum_empty]
  have hrule := fun W => Rounds.wp_wait_rest_token (defs := defs₀) (Γ := .empty) Variants.none E P.rd (c.tc : Thread nD τ) none (Q := Q) (k := k)
    (κ := N (c, j)) (sm := .dma sm)
    (wpE_waitDma2_eq (src := src) (dst := dst) (hsrc := hsrc) (hdst := hdst) (sem := sm) Variants.none (c.tc : Thread nD τ) none Set.univ)
    (Set.mem_univ _) () (O := 0) (W := W) (R := 0) (m := 0) (T := ∅)
    (by rw [Nat.zero_add, ← hsm, P.expect_cell c j]; exact hN)
  rw [← hsm, hN] at hrule
  unfold st held
  dsimp only [Stage.step]
  rw [take hj, take hA, put hZ, hdue]
  iintro ⟨⟨#HR, HT, ⟨Hc, HC⟩, ⟨Ha, HA⟩, HZ⟩, %W, HO⟩ Hk
  iapply (hrule W) $$ [Hc Ha HO]
  · isplitr; · iapply (P.inv_at N c j); iexact HR
    isplitl [Hc]; · iexact Hc
    isplitl [HO]; · iexact HO
    isplitr; · rw [MayWait_zero]; iempintro
    iexact Ha
  iintro ⟨HO, Ha, -, Hpay⟩
  ihave Hp := (Entails.of_eq (P.rest_cell c j)) $$ Hpay
  imod (Rounds.cell_close E P.rd (Set.mem_univ (N (c, j))) (fun h => h) (R := 0 + 1) (P.duties_later (P.cell c j))) $$ [Ha] with Hz
  · isplitr; · iapply (P.inv_at N c j); iexact HR
    iexact Ha
  iapply Hk
  isplitr [Hp]
  · isplitr [HO]
    · isplitr; · iexact HR
      isplitl [HT]; · iexact HT
      isplitl [HC]; · iexact HC
      isplitl [HA]; · iexact HA
      isplitl [Hz] <;> iassumption
    · iexists _; iexact HO
  · iexact Hp

/-- At the end every semaphore is done with and nothing is owed. -/
theorem st_end (a : Stage K) (hD : a.D = ∅) (hZ : a.Z = Finset.univ) :
    P.st N c a ⊢ iprop(ownSems0 P.osem c ∗ ∃ W', owes (c.tc : Thread nD τ) (0 : CellTallies nD τ sig Unit) W') := by
  have hdue : P.due ∅ c = 0 := by unfold due; rw [Finset.sum_empty]
  unfold st held ownSems0
  rw [hD, hZ, hdue]
  iintro ⟨⟨-, -, -, -, HZ⟩, HO⟩
  isplitl [HZ] <;> iassumption

end Steps

variable [∀ e, Nonempty (Val e)] {Λ₀ : Idealize.SL.Sem.Labels}

/-- The run of a plan: `mem c` is what device `c`'s transfers read and write, dealt from all devices' arrays; its body
    returns its arrays at `V' c`. -/
theorem run (hall : ∀ sm : SemLoc sig, sm.isScoped .tc = true)
    (cfgs : Fin 1 → Cfg sig Λ₀) (hW : IsEmpty (Fin (cfgs 0).W)) (hN : (cfgs 0).N = 1)
    (hinj : Function.Injective (cellOf (nD := nD) (τ := τ) cfgs))
    (defs₀ : Defs nD τ sig Val Λ₀)
    (m : (ℓ : Loc nD τ sig) → Buf Val ℓ) (g : Dev nD → PrngReg)
    (main : Dev nD → Prog (TpuEff nD τ sig Val (Sig Λ₀ (Fin 1) fun p => ((cfgs p).toPCfg (Val := Val)).Adm) .tc) PUnit)
    (hmain : ∀ c, main c = .op (.customCall (entry 0) ()) fun _ => .ret ⟨⟩)
    (mem : Dev nD → sProp 𝕄)
    (hmem : (bigSep Finset.univ fun c : Dev nD => unscopedBufs c (fun b => m ((c.tc : Thread nD τ).loc b)) : sProp 𝕄)
      ⊢ bigSep Finset.univ mem)
    (V' : (c : Dev nD) → (b : Ref sig .tc) → Buf Val ((c.tc : Thread nD τ).loc b))
    (hbody : ∀ (c : Dev nD) (t : Fin (cfgs 0).N) (N : Dev nD × K → ℕ),
      iprop(P.st N c (Stage.first P.recv) ∗ mem c)
      ⊢ wp frame (wpE defs₀ Variants.none (c.tc : Thread nD τ) none) Set.univ
          (defs₀ .tc (cfgs 0).body ((cfgs 0).bodyArgs t ((cfgs 0).slots t)))
          fun _ => iprop(unscopedBufs c (V' c) ∗ ownSems0 P.osem c
            ∗ ∃ W', owes (c.tc : Thread nD τ) (0 : CellTallies nD τ sig Unit) W')) :
    θ_run (Pipeline.defs (fun p => (cfgs p).toPCfg) defs₀) (onTc main) ⟨m, fun _ => 0, g⟩ (fun r =>
      (∀ (c : Dev nD) (b : Ref sig .tc), b.isScoped = false → r.2.mem ((c.tc : Thread nD τ).loc b) = V' c b)
        ∧ r.2.sem = fun _ => 0) := by
  refine run_exchange P.osem P.bij hall cfgs hW hN hinj defs₀ m g main hmain (P.due P.recv) P.G (P.start mem) P.u₀ P.fund_G
    (P.glob m mem hmem) V' fun c t W => ?_
  unfold start
  iintro ⟨⟨⟨%N, HH⟩, Hm⟩, HO⟩
  iapply (hbody c t N)
  isplitl [HH HO]
  · unfold st
    isplitl [HH]; · iexact HH
    iexists W; iexact HO
  · iexact Hm

end Plan

end Cert.Exchange

end
-- ==== Proof.SwapRun.lean ====
/-
  The exchange of a chip's two cores: each device sends its whole array into the result array of the other core of its
  chip, then waits for its own send and for the other core's.
-/
module

public import proofs.«01_k».proof.Proof.Exchange
public import proofs.«01_k».proof.Proof.Gen.SwapIdeal
public import proofs.«01_k».proof.Proof.Gen.SwapIdeal.Skeleton
public import proofs.«01_k».proof.Proof.Gen.SwapIdeal.Launch
public import proofs.«01_k».proof.Proof.Gen.SwapIdeal.Points

@[expose] public section

set_option Elab.async false

noncomputable section

namespace Cert.SwapRun

open Cert.SwapIdeal Cert.SwapIdeal.Gen Cert.Exchange
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type} [FloatOps F]

local notation "𝕄" => MT nD τ sig Unit (Elt F) ℕ (UU sig nD τ) ℕ

variable (m : (ℓ : Loc nD τ sig) → Buf (Elt F) ℓ)

/-- What device `c` receives: the other core's array. -/
def out (c : Dev nD) : Buf (Elt F) ((c.tc : Thread nD τ).loc main_v1) := m (((hop 1 c).tc : Thread nD τ).loc main_arg0)

/-- The arrays at the end. -/
def fin (c : Dev nD) (b : Ref sig .tc) : Buf (Elt F) ((c.tc : Thread nD τ).loc b) :=
  if h : b = main_v1 then h ▸ out m c else m ((c.tc : Thread nD τ).loc b)

theorem fin_arg (c : Dev nD) : fin m c main_arg0 = m ((c.tc : Thread nD τ).loc main_arg0) := dif_neg (by decide)
theorem fin_out (c : Dev nD) : fin m c main_v1 = out m c := dif_pos rfl

/-- The amount one transfer credits. -/
abbrev amt : ℕ := (Memref.whole main_v1 : Memref sig .tc .hbm S26624x1024 .f32).view.dmaCredit

def pay : Fin 2 → Dev nD → sProp 𝕄
  | 0, c => ((c.tc : Thread nD τ).loc main_arg0) ↦{fullShare} m ((c.tc : Thread nD τ).loc main_arg0)
  | 1, c => ((c.tc : Thread nD τ).loc main_v1) ↦{fullShare} out m c

/-- Semaphore 0 is credited by the device's own send, semaphore 1 by the other core's. -/
def plan : Plan nD τ sig (Elt F) (Fin 2) where
  osem := fun | 0 => .dma cc0_scratch0.sem | 1 => .dma cc0_scratch1.sem
  bij := by decide
  amt _ := amt
  amt_pos _ := View.dmaCredit_pos _ (by decide)
  recv := {1}
  dest := fun | 0 => Equiv.refl _ | 1 => hop 1
  pay := pay m
  storable k c := by fin_cases k <;> (dsimp only [pay]; infer_instance)

theorem pay_zero (c : Dev nD) : (plan m).pay 0 c ⊢ (((c.tc : Thread nD τ).loc main_arg0) ↦{fullShare} m ((c.tc : Thread nD τ).loc main_arg0) : sProp 𝕄) := .rfl
theorem pay_one (c : Dev nD) : (plan m).pay 1 c ⊢ (((c.tc : Thread nD τ).loc main_v1) ↦{fullShare} out m c : sProp 𝕄) := .rfl

/-- What device `c` starts with: its own array, and the result array of the other core. -/
def mem (c : Dev nD) : sProp 𝕄 :=
  iprop((((c.tc : Thread nD τ).loc main_arg0) ↦{fullShare} m ((c.tc : Thread nD τ).loc main_arg0))
    ∗ (((hop 1 c).tc : Thread nD τ).loc main_v1) ↦{fullShare} m (((hop 1 c).tc : Thread nD τ).loc main_v1))

theorem bufs_eq (c : Dev nD) (V : (b : Ref sig .tc) → Buf (Elt F) ((c.tc : Thread nD τ).loc b)) :
    (unscopedBufs c V : sProp 𝕄) = iprop((((c.tc : Thread nD τ).loc main_arg0) ↦{fullShare} V main_arg0)
      ∗ (((c.tc : Thread nD τ).loc main_v1) ↦{fullShare} V main_v1)) := by
  unfold unscopedBufs
  exact bigSep_eq_bigSepL_of_eq [main_arg0, main_v1] (by decide) (by decide) _

theorem deal : (bigSep Finset.univ fun c : Dev nD => unscopedBufs c (fun b => m ((c.tc : Thread nD τ).loc b)) : sProp 𝕄)
    ⊢ bigSep Finset.univ (mem m) := by
  unfold mem
  simp only [bufs_eq, bigSep_sep']
  rw [bigSep_univ_equiv (hop 1) fun c : Dev nD => ((((c.tc : Thread nD τ).loc main_v1) ↦{fullShare} m ((c.tc : Thread nD τ).loc main_v1)) : sProp 𝕄)]

theorem write_read (c : Dev nD) (f : Buf (Elt F) ((c.tc : Thread nD τ).loc main_arg0)) (g : Buf (Elt F) ((c.tc : Thread nD τ).loc main_v1)) :
    (Memref.whole main_v1 : Memref sig .tc .hbm S26624x1024 .f32).view.write (Elt F) g
      ((Memref.whole main_arg0 : Memref sig .tc .hbm S26624x1024 .f32).view.read (Elt F) f) Finset.univ = f := by
  show (View.whole main_v1).write (Elt F) g ((View.whole main_arg0).read (Elt F) f) Finset.univ = f
  rw [View.read_whole]
  exact View.write_whole_univ _ _ _

/-- The body's moves. -/
def at_ (n : ℕ) : Stage (Fin 2) := .after {1} [.send 0 1, .wait 0, .wait 1] n

theorem body (c : Dev nD) (N : Dev nD × Fin 2 → ℕ) :
    iprop((plan m).st N c (at_ 0) ∗ mem m c)
      ⊢ wp frame (wpE (defs₀ (F := F)) Variants.none (c.tc : Thread nD τ) none) Set.univ
          (cc0_swap_cores (Memref.whole main_arg0) (Memref.isWhole_whole _) (Memref.whole main_v1) (Memref.isWhole_whole _) cc0_scratch0 cc0_scratch1)
          fun _ => iprop(unscopedBufs c (fin m c) ∗ ownSems0 (plan m).osem c
            ∗ ∃ W', owes (c.tc : Thread nD τ) (0 : CellTallies nD τ sig Unit) W') := by
  simp only [cc0_swap_cores_eq_skeleton]; unfold cc0_swap_cores_skel
  simp only [Prog.lift, Prog.bind_op, Prog.bind_ret, Prog.pure_eq_ret, wp_deviceId]
  unfold mem
  iintro ⟨Hst, Harg, Hout⟩
  iapply ((plan m).wp_send (N := N) (c := c) (ks := 0) (kr := 1) (at_ 0) (at_ 1) (by decide) (by decide) rfl rfl (n := ⟨k0_dev1 c, k0_dev1_lt c⟩) rfl
    (show hop 1 c = _ by revert c; decide) (src := Memref.whole main_arg0) (dst := Memref.whole main_v1)
    (fs := m ((c.tc : Thread nD τ).loc main_arg0)) (fd := m (((hop 1 c).tc : Thread nD τ).loc main_v1)) (q := fullShare) rfl rfl
    (by erw [View.set_whole]; exact Entails.of_eq rfl)
    (by
      erw [View.set_whole, write_read]
      refine Entails.of_eq ?_
      show _ = iprop((((hop 1 c).tc : Thread nD τ).loc main_v1) ↦{fullShare} out m (hop 1 c))
      unfold out
      rw [hop_hop]
      rfl)) $$ [Hst Harg Hout]
  · erw [View.set_whole]
    isplitl [Hst]; · iexact Hst
    isplitl [Harg]; · iexact Harg
    iexact Hout
  iintro Hst
  iapply ((plan m).wp_wait (N := N) (c := c) (j := 0) (at_ 1) (at_ 2) (by decide) (by decide) rfl rfl) $$ Hst
  iintro ⟨Hst, Harg⟩
  iapply ((plan m).wp_wait (N := N) (c := c) (j := 1) (at_ 2) (at_ 3) (by decide) (by decide) rfl rfl) $$ Hst
  iintro ⟨Hst, Hout⟩
  rw [wp_ret]; imodintro
  rw [bufs_eq, fin_arg, fin_out]
  isplitl [Harg Hout]
  · isplitl [Harg]
    · iapply (pay_zero m c); iexact Harg
    · iapply (pay_one m c); iexact Hout
  iapply ((plan m).st_end (N := N) (c := c) (at_ 3) (by decide) (by decide)); iexact Hst

theorem run_main (g : Dev nD → PrngReg) :
    θ_run (defs (F := F)) (onTc (τ := τ) (main (F := F))) ⟨m, fun _ => 0, g⟩ (fun r =>
      (∀ c : Dev nD, r.2.mem ((c.tc : Thread nD τ).loc main_v1) = out m c
        ∧ r.2.mem ((c.tc : Thread nD τ).loc main_arg0) = m ((c.tc : Thread nD τ).loc main_arg0))
      ∧ r.2.sem = fun _ => 0) := by
  refine (θ_run _ _ _).mono (fun r h => ⟨fun c => ⟨?_, ?_⟩, h.2⟩)
    ((plan m).run (by decide) cfgs ⟨fun w => w.elim0⟩ N_0 cellOf_inj (defs₀ (F := F)) m g (main (F := F)) (fun _ => rfl) (mem m) (deal m) (fin m)
      fun c t N => body m c N)
  · exact (h.1 c main_v1 rfl).trans (fin_out m c)
  · exact (h.1 c main_arg0 rfl).trans (fin_arg m c)

end Cert.SwapRun

end
-- ==== Proof.SwapValue.lean ====
/-
  What swapping the two halves of each pair of blocks does to the block of one device: device `c`'s block of the swapped
  array is the block of the other core of its chip.
-/
module

public import proofs.«01_k».proof.Proof.Exchange
public import Idealize.ShloMosaic.Lib.ValueIdxCore
public import Idealize.ShloMosaic.Lib.Pipeline.Value
public import Idealize.ShloMosaic.Lib.Layout

@[expose] public section

noncomputable section

namespace Cert.SwapValue

open Idealize.ShloMosaic Cert.Exchange
open Idealize.ShloMosaic.ValueIdx

variable {α : Type}

abbrev Whole : Shape := ⟨2, ![212992, 1024]⟩
abbrev Part : Shape := ⟨2, ![26624, 1024]⟩
abbrev Pairs : Shape := ⟨4, ![4, 2, 26624, 1024]⟩
abbrev One : Shape := ⟨4, ![4, 1, 26624, 1024]⟩

theorem hop_one_val (c : Fin 8) : (hop 1 c).val = if c.val % 2 = 0 then c.val + 1 else c.val - 1 := by revert c; decide

/-- Member `p` of pair `q` of the array, by coordinates. -/
theorem pairs_apply (x : Whole.Idx → α) (h : Whole.ShapeCasts Pairs) (q : Fin 4) (p : Fin 2) (r : Fin 26624) (l : Fin 1024) (hr : (2 * q.val + p.val) * 26624 + r.val < 212992) :
    shapeCast Pairs x h (ix4 q p r l) = x (ix2 ⟨(2 * q.val + p.val) * 26624 + r.val, hr⟩ l) :=
  shapeCast_apply _ _ _ _ (by
    rw [Shape.rowMajor_val_two, Shape.rowMajor_val_four]
    show ((2 * q.val + p.val) * 26624 + r.val) * 1024 + l.val = ((q.val * 2 + p.val) * 26624 + r.val) * 1024 + l.val
    omega)

theorem swap_block (x : Whole.Idx → α) (h₁ : Whole.ShapeCasts Pairs) (h₂ : Pairs.Slices ![0, 1, 0, 0] One) (h₃ : Pairs.Slices ![0, 0, 0, 0] One)
    (h₄ : Shape.Concatenates [One, One] Pairs 1) (h₅ : Pairs.ShapeCasts Whole) (c : Fin 8) (ht : Layout.Tiles Part Whole 0 8) :
    Layout.block Part Whole 0 8 c (shapeCast Whole (concatenate Pairs 1
        [⟨One, extractStridedSlice One ![0, 1, 0, 0] (shapeCast Pairs x h₁) h₂⟩,
          ⟨One, extractStridedSlice One ![0, 0, 0, 0] (shapeCast Pairs x h₁) h₃⟩] h₄) h₅) ht
      = Layout.block Part Whole 0 8 (hop 1 c) x ht := by
  funext i
  obtain ⟨r, l, rfl⟩ : ∃ (r : Fin 26624) (l : Fin 1024), i = ix2 r l := ⟨i 0, i 1, eq_ix2 i⟩
  have hr : r.val < 26624 := r.isLt
  have hc : c.val < 8 := c.isLt
  rw [Layout.block_apply, Layout.block_apply]
  refine (shapeCast_apply _ _ _ (ix4 (⟨c.val / 2, by omega⟩ : Fin 4) (⟨c.val % 2, by omega⟩ : Fin 2) r l) (by
    rw [Shape.rowMajor_val_two, Shape.rowMajor_val_four]
    show ((c.val / 2 * 2 + c.val % 2) * 26624 + r.val) * 1024 + l.val = (c.val * 26624 + r.val) * 1024 + l.val
    omega)).trans ?_
  by_cases hp : c.val % 2 = 0
  · refine (concatenate_pair_apply_left (t := Pairs) (s₁ := One) (s₂ := One) 1 _ _ h₄ (ix4 (⟨c.val / 2, by omega⟩ : Fin 4) (⟨c.val % 2, by omega⟩ : Fin 2) r l) rfl (ix4 (⟨c.val / 2, by omega⟩ : Fin 4) (0 : Fin 1) r l)
      (fun b => match b with | ⟨0, _⟩ => rfl | ⟨1, _⟩ => hp.symm | ⟨2, _⟩ => rfl | ⟨3, _⟩ => rfl)).trans ?_
    refine (extractStridedSlice_apply _ _ _ _ (ix4 (⟨c.val / 2, by omega⟩ : Fin 4) (1 : Fin 2) r l)
      (fun b => match b with
        | ⟨0, _⟩ => (Nat.zero_add _).symm | ⟨1, _⟩ => rfl | ⟨2, _⟩ => (Nat.zero_add _).symm | ⟨3, _⟩ => (Nat.zero_add _).symm)).trans ?_
    refine (pairs_apply x h₁ _ _ _ _ (by show (2 * (c.val / 2) + 1) * 26624 + r.val < 212992; omega)).trans (congrArg x ?_)
    refine Shape.idx_ext₂ ?_ rfl
    show (2 * (c.val / 2) + 1) * 26624 + r.val = (hop 1 c).val * 26624 + r.val
    rw [hop_one_val, if_pos hp]; omega
  · refine (concatenate_pair_apply_right (t := Pairs) (s₁ := One) (s₂ := One) 1 _ _ h₄ (ix4 (⟨c.val / 2, by omega⟩ : Fin 4) (⟨c.val % 2, by omega⟩ : Fin 2) r l) rfl rfl (ix4 (⟨c.val / 2, by omega⟩ : Fin 4) (0 : Fin 1) r l)
      (fun b => match b with | ⟨0, _⟩ => fun _ => rfl | ⟨1, _⟩ => fun hb => absurd rfl hb | ⟨2, _⟩ => fun _ => rfl | ⟨3, _⟩ => fun _ => rfl)
      (by show 0 + 1 = c.val % 2; omega)).trans ?_
    refine (extractStridedSlice_apply _ _ _ _ (ix4 (⟨c.val / 2, by omega⟩ : Fin 4) (0 : Fin 2) r l)
      (fun b => match b with
        | ⟨0, _⟩ => (Nat.zero_add _).symm | ⟨1, _⟩ => rfl | ⟨2, _⟩ => (Nat.zero_add _).symm | ⟨3, _⟩ => (Nat.zero_add _).symm)).trans ?_
    refine (pairs_apply x h₁ _ _ _ _ (by show (2 * (c.val / 2) + 0) * 26624 + r.val < 212992; omega)).trans (congrArg x ?_)
    refine Shape.idx_ext₂ ?_ rfl
    show (2 * (c.val / 2) + 0) * 26624 + r.val = (hop 1 c).val * 26624 + r.val
    rw [hop_one_val, if_neg hp]; omega

end Cert.SwapValue

end
-- ==== Proof.SwapClaims.lean ====
/-
  The claims about the exchange of a chip's two cores: its frames, its reference's frames, and that each device's result is
  its block of the reference's result, at both readings of the numbers.
-/
module

public import proofs.«01_k».proof.Defs
public import proofs.«01_k».proof.Proof.SwapRun
public import proofs.«01_k».proof.Proof.SwapValue
public import proofs.«01_k».proof.Proof.Gen.Swap
public import proofs.«01_k».proof.Proof.Gen.SwapRef
public import proofs.«01_k».proof.Proof.Gen.SwapRef.Run
public import proofs.«01_k».proof.Proof.Gen.SwapRefIdeal
public import proofs.«01_k».proof.Proof.Gen.SwapRefIdeal.Run

@[expose] public section

noncomputable section

namespace Cert.SwapClaims

open Idealize.ShloMosaic Idealize.ShloMosaic.TcCoe Idealize.SL.Sem Cert.Exchange

theorem frame_kernel : Cert.quiescent_Swap := fun m g _ =>
  (θ_run Cert.SwapIdeal.defs _ _).mono (fun _ h => ⟨fun c => (h.1 c).2, h.2⟩) (Cert.SwapRun.run_main (F := Bits) m g)

theorem frame_ideal : Cert.quiescent_SwapIdeal := fun m g _ =>
  (θ_run Cert.SwapIdeal.defs _ _).mono (fun _ h => ⟨fun c => (h.1 c).2, h.2⟩) (Cert.SwapRun.run_main (F := Ideal) m g)

theorem frame_ref : Cert.quiescent_SwapRef := fun m g _ =>
  (θ_run Cert.SwapRef.defs _ _).mono (fun r h => ⟨fun c => (h c).2, sem_eq_zero_of_no_sems (by decide) r.2⟩)
    (Cert.SwapRef.Value.run (F := Bits) m g)

theorem frame_refIdeal : Cert.quiescent_SwapRefIdeal := fun m g _ =>
  (θ_run Cert.SwapRefIdeal.defs _ _).mono (fun r h => ⟨fun c => (h c).2, sem_eq_zero_of_no_sems (by decide) r.2⟩)
    (Cert.SwapRefIdeal.Value.run (F := Ideal) m g)

theorem algebraic : Cert.algebraic_SwapIdeal_SwapRefIdeal := fun m g m' g' _ hm =>
  ⟨_, (θ_run Cert.SwapIdeal.defs _ _).mono (fun _ h c => ⟨(h.1 c).1.trans ((hm (hop 1 c)).trans (SwapValue.swap_block _ _ _ _ _ _ c _).symm), (h.1 c).2⟩)
      (Cert.SwapRun.run_main (F := Ideal) m g),
    (θ_run Cert.SwapRefIdeal.defs _ _).mono (fun _ h => h 0) (Cert.SwapRefIdeal.Value.run (F := Ideal) m' g')⟩

theorem bitexact : Cert.bitexact_Swap_SwapRef := fun m g m' g' _ hm =>
  ⟨_, (θ_run Cert.SwapIdeal.defs _ _).mono (fun _ h c => ⟨(h.1 c).1.trans ((hm (hop 1 c)).trans (SwapValue.swap_block _ _ _ _ _ _ c _).symm), (h.1 c).2⟩)
      (Cert.SwapRun.run_main (F := Bits) m g),
    (θ_run Cert.SwapRef.defs _ _).mono (fun _ h => h 0) (Cert.SwapRef.Value.run (F := Bits) m' g')⟩

end Cert.SwapClaims

end
-- ==== Proof.Slab.lean ====
/-
  An array of `n` slabs: the set of a slab's elements, the view of one slab as an array of one axis less, and how `n` slabs on
  each of eight devices are dealt so that every device holds, on each of its peers, the slab it writes.
-/
module

public import proofs.«01_k».proof.Proof.Exchange
public import Idealize.ShloMosaic.Lib.ValueIdxCore

@[expose] public section

set_option Elab.async false

noncomputable section

namespace Cert.Slab

open Idealize.ShloMosaic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline
open Cert.Exchange

/-! ## One slab -/

variable {n A B : ℕ}

/-- The elements of slab `p`. -/
def slab (p : Fin n) : Finset (⟨3, ![n, A, B]⟩ : Shape).Idx := Finset.univ.filter fun i => (i 0).val = p.val

theorem mem_slab {p : Fin n} {i : (⟨3, ![n, A, B]⟩ : Shape).Idx} : i ∈ slab p ↔ (i 0).val = p.val := by
  unfold slab; rw [Finset.mem_filter]; exact ⟨fun h => h.2, fun h => ⟨Finset.mem_univ _, h⟩⟩

theorem slab_disjoint (p q : Fin n) (h : p ≠ q) : Disjoint (slab (A := A) (B := B) p) (slab q) :=
  Finset.disjoint_left.mpr fun _ hp hq => h (Fin.ext ((mem_slab.mp hp).symm.trans (mem_slab.mp hq)))

theorem biUnion_slab : Finset.univ.biUnion (fun p : Fin n => slab (A := A) (B := B) p) = Finset.univ :=
  Finset.eq_univ_iff_forall.mpr fun i => Finset.mem_biUnion.mpr ⟨i 0, Finset.mem_univ _, mem_slab.mpr rfl⟩

/-- The rectangle of one slab holds the slab's elements. -/
theorem rect_set {off : Fin 3 → ℕ} (p : Fin n) (h : off = ![p.val, 0, 0]) (inb : ∀ a, off a + (![1, A, B] : Fin 3 → ℕ) a ≤ (⟨3, ![n, A, B]⟩ : Shape).size a) :
    (Rect.unit (s := ⟨3, ![n, A, B]⟩) off ![1, A, B] inb).set = slab p := by
  subst h
  ext i
  rw [Rect.mem_set_unit, mem_slab]
  have h1 : (i 1).val < A := (i 1).isLt
  have h2 : (i 2).val < B := (i 2).isLt
  constructor
  · intro h
    have h0 : p.val ≤ (i 0).val ∧ (i 0).val < p.val + 1 := h 0
    omega
  · intro h a
    have h0 : (i 0).val = p.val := h
    match a with
    | ⟨0, _⟩ => exact ⟨h0.ge, show (i 0).val < p.val + 1 by omega⟩
    | ⟨1, _⟩ => exact ⟨Nat.zero_le _, show (i 1).val < 0 + A by omega⟩
    | ⟨2, _⟩ => exact ⟨Nat.zero_le _, show (i 2).val < 0 + B by omega⟩

/-- Element `j` of the slab, seen as an array of two axes, is element `(p, j)` of the whole. -/
theorem rect_emb {off : Fin 3 → ℕ} (p : Fin n) (h : off = ![p.val, 0, 0]) (inb : ∀ a, off a + (![1, A, B] : Fin 3 → ℕ) a ≤ (⟨3, ![n, A, B]⟩ : Shape).size a)
    (hn : (⟨2, ![A, B]⟩ : Shape).numel = (⟨3, ![1, A, B]⟩ : Shape).numel) (j : (⟨2, ![A, B]⟩ : Shape).Idx) :
    (Rect.unit (s := ⟨3, ![n, A, B]⟩) off ![1, A, B] inb).emb (Shape.reshapeEquiv hn j) = @ix3 n A B p (j 0) (j 1) := by
  subst h
  have e : (Shape.reshapeEquiv hn j : (⟨3, ![1, A, B]⟩ : Shape).Idx) = @ix3 1 A B 0 (j 0) (j 1) :=
    Shape.reshapeEquiv_eq_of_rowMajor hn (by
      rw [Shape.rowMajor_val_two, Shape.rowMajor_val_three]
      show (0 * A + (j 0).val) * B + (j 1).val = (j 0).val * B + (j 1).val
      rw [Nat.zero_mul, Nat.zero_add])
  rw [e]
  funext a
  apply Fin.ext
  match a with
  | ⟨0, _⟩ => show p.val + 1 * 0 = p.val; omega
  | ⟨1, _⟩ => show 0 + 1 * (j 0).val = (j 0).val; omega
  | ⟨2, _⟩ => show 0 + 1 * (j 1).val = (j 1).val; omega

/-- Contents that agree with what is written at each index of a view agree with the written buffer on the view's elements. -/
theorem write_agrees {sig : RefSig} {κ : Kind} {sp : Space} {s : Shape} {e : EltTy} {Val : EltTy → Type} (v : View sig κ sp s e)
    (f : v.ty.Contents Val) (w : s.Idx → Val e) (g : v.ty.Contents Val) (h : ∀ x, cast (congrArg Val v.elt_eq.symm) (w x) = g (v.emb x)) :
    ∀ i ∈ v.set, v.write Val f w Finset.univ i = g i := by
  intro i hi
  obtain ⟨x, -, rfl⟩ := Finset.mem_map.mp hi
  rw [View.write_emb_of_mem _ _ (Finset.mem_univ x)]
  exact h x

/-! ## Dealing the slabs -/

variable {M : Type} [URA M]

theorem two (X : Fin 2 → sProp M) : bigSep Finset.univ X = iprop(X 0 ∗ X 1) :=
  bigSep_univ_eq_bigSepL [0, 1] (by decide) (by decide) X

theorem four (X : Fin 4 → sProp M) : bigSep Finset.univ X = iprop(X 0 ∗ X 1 ∗ X 2 ∗ X 3) :=
  bigSep_univ_eq_bigSepL [0, 1, 2, 3] (by decide) (by decide) X

/-- The slabs of one device, listed by peer. -/
theorem slabs_by_peer (rank : Dev 8 → Fin n) (mask : Fin n → Fin 8) (h : ∀ d, Function.Bijective fun j => rank (hop (mask j) d)) (d : Dev 8)
    (X : Fin n → sProp M) : bigSep Finset.univ X = bigSep Finset.univ fun j => X (rank (hop (mask j) d)) :=
  bigSep_univ_equiv (Equiv.ofBijective _ (h d)) X

/-- Slab `p` of device `d` goes to the peer of `d` whose rank is `p`. -/
theorem deal_slabs (rank : Dev 8 → Fin n) (mask : Fin n → Fin 8) (h : ∀ d, Function.Bijective fun j => rank (hop (mask j) d))
    (X : Dev 8 → Fin n → sProp M) :
    (bigSep Finset.univ fun d => bigSep Finset.univ fun p => X d p)
      = bigSep Finset.univ fun d => bigSep Finset.univ fun j => X (hop (mask j) d) (rank d) := by
  have h1 : (fun d => bigSep Finset.univ fun p => X d p) = fun d => bigSep Finset.univ fun j => X d (rank (hop (mask j) d)) :=
    funext fun d => bigSep_univ_equiv (Equiv.ofBijective _ (h d)) fun p => X d p
  rw [h1, BI.bigSep_univ_comm]
  have h2 : (fun j => bigSep Finset.univ fun d : Dev 8 => X d (rank (hop (mask j) d))) = fun j => bigSep Finset.univ fun d : Dev 8 => X (hop (mask j) d) (rank d) :=
    funext fun j => (bigSep_univ_equiv (hop (mask j)) fun d : Dev 8 => X d (rank (hop (mask j) d))).trans (by simp only [hop_hop])
  rw [h2, BI.bigSep_univ_comm]

end Cert.Slab

end
-- ==== Proof.ScatterRun.lean ====
/-
  The scatter among the four chips: a device's array has one slab for each chip; the device copies its own chip's slab, sends
  each other chip's slab to that chip's device of its core, and waits for the three slabs that come to it, its own three
  sends and its own copy.
-/
module

public import proofs.«01_k».proof.Proof.Exchange
public import proofs.«01_k».proof.Proof.Slab
public import proofs.«01_k».proof.Proof.Gen.ScatterIdeal
public import proofs.«01_k».proof.Proof.Gen.ScatterIdeal.Skeleton
public import proofs.«01_k».proof.Proof.Gen.ScatterIdeal.Launch
public import proofs.«01_k».proof.Proof.Gen.ScatterIdeal.Points

@[expose] public section

set_option Elab.async false

noncomputable section

namespace Cert.ScatterRun

open Cert.ScatterIdeal Cert.ScatterIdeal.Gen Cert.Exchange Cert.Slab
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type} [FloatOps F]

local notation "𝕄" => MT nD τ sig Unit (Elt F) ℕ (UU sig nD τ) ℕ

variable (m : (ℓ : Loc nD τ sig) → Buf (Elt F) ℓ)

/-- A device's chip. -/
def chip (c : Dev nD) : Fin 4 := ⟨c.val / 2, by revert c; decide⟩

/-- The device of chip `p` on the core of device `c`. -/
def chipOf (c : Dev nD) (p : Fin 4) : Dev nD := ⟨2 * p.val + c.val % 2, by revert c p; decide⟩

/-- The differences in number between a device and the devices it writes to: itself, and the three other chips. -/
def mask : Fin 4 → Fin 8 := ![0, 4, 2, 6]

theorem peers : ∀ d, Function.Bijective fun j => chip (hop (mask j) d) := by decide
theorem hop_self (c : Dev nD) : hop (mask 0) c = c := by revert c; decide

/-- What device `c` ends with: in slab `p`, the slab that chip `p` holds for `c`'s chip. -/
def out (c : Dev nD) : Buf (Elt F) ((c.tc : Thread nD τ).loc main_v1) :=
  fun i : S4x6656x1024.Idx => (m (((chipOf c (i 0)).tc : Thread nD τ).loc main_arg0) : S4x6656x1024.Idx → Elt F .f32) (@ix3 4 6656 1024 (chip c) (i 1) (i 2))

/-- The arrays at the end. -/
def fin (c : Dev nD) (b : Ref sig .tc) : Buf (Elt F) ((c.tc : Thread nD τ).loc b) :=
  if h : b = main_v1 then h ▸ out m c else m ((c.tc : Thread nD τ).loc b)

theorem fin_arg (c : Dev nD) : fin m c main_arg0 = m ((c.tc : Thread nD τ).loc main_arg0) := dif_neg (by decide)
theorem fin_out (c : Dev nD) : fin m c main_v1 = out m c := dif_pos rfl

/-! ## A slab as the kernel names it -/

/-- The slab of array `b` at offsets `off`. -/
abbrev slot (b : Memref sig .tc .hbm S4x6656x1024 .f32) (off : Fin 3 → ℕ) (inb : ∀ a, off a + S1x6656x1024.size a ≤ S4x6656x1024.size a) :
    Memref sig .tc .hbm S6656x1024 .f32 :=
  (b.slice (Rect.unit (s := S4x6656x1024) off S1x6656x1024.size inb) (fun _ => rfl)).squeeze S6656x1024 squeezes_S1x6656x1024_S6656x1024

abbrev argM : Memref sig .tc .hbm S4x6656x1024 .f32 := Memref.whole main_arg0
abbrev outM : Memref sig .tc .hbm S4x6656x1024 .f32 := Memref.whole main_v1

theorem arg_set {off : Fin 3 → ℕ} (p : Fin 4) (h : off = ![p.val, 0, 0]) (inb) : (slot argM off inb).view.set = slab (A := 6656) (B := 1024) p := by
  refine (View.set_reshape _ _).trans ((View.set_slice_whole main_arg0 _).trans ?_)
  exact rect_set (n := 4) (A := 6656) (B := 1024) p h inb

theorem out_set {off : Fin 3 → ℕ} (p : Fin 4) (h : off = ![p.val, 0, 0]) (inb) : (slot outM off inb).view.set = slab (A := 6656) (B := 1024) p := by
  refine (View.set_reshape _ _).trans ((View.set_slice_whole main_v1 _).trans ?_)
  exact rect_set (n := 4) (A := 6656) (B := 1024) p h inb

theorem arg_emb {off : Fin 3 → ℕ} (p : Fin 4) (h : off = ![p.val, 0, 0]) (inb) (j : S6656x1024.Idx) :
    ((slot argM off inb).view.emb j : S4x6656x1024.Idx) = @ix3 4 6656 1024 p (j 0) (j 1) :=
  rect_emb (n := 4) (A := 6656) (B := 1024) p h inb _ j

theorem out_emb {off : Fin 3 → ℕ} (p : Fin 4) (h : off = ![p.val, 0, 0]) (inb) (j : S6656x1024.Idx) :
    ((slot outM off inb).view.emb j : S4x6656x1024.Idx) = @ix3 4 6656 1024 p (j 0) (j 1) :=
  rect_emb (n := 4) (A := 6656) (B := 1024) p h inb _ j

/-- The slab of device `d`'s result once the slab of device `c` on chip `chip c` for `d`'s chip is there. -/
theorem landed {off off' : Fin 3 → ℕ} (c d : Dev nD) (hd : chipOf d (chip c) = c) (h : off = ![(chip c).val, 0, 0]) (h' : off' = ![(chip d).val, 0, 0]) (inb inb')
    (g : Buf (Elt F) ((d.tc : Thread nD τ).loc main_v1)) :
    (((d.tc : Thread nD τ).loc main_v1) ↦[(slot outM off inb).view.set]{fullShare} ((slot outM off inb).view.write (Elt F) g
        ((slot argM off' inb').view.read (Elt F) (m ((c.tc : Thread nD τ).loc main_arg0))) Finset.univ) : sProp 𝕄)
      = (((d.tc : Thread nD τ).loc main_v1) ↦[slab (A := 6656) (B := 1024) (chip c)]{fullShare} out m d : sProp 𝕄) := by
  rw [← out_set (chip c) h inb]
  refine pointsTo_congr (write_agrees (slot outM off inb).view _ _ _ fun x => ?_)
  show (m ((c.tc : Thread nD τ).loc main_arg0) : S4x6656x1024.Idx → Elt F .f32) ((slot argM off' inb').view.emb x) = out m d ((slot outM off inb).view.emb x)
  rw [show ((slot outM off inb).view.emb x : S4x6656x1024.Idx) = _ from out_emb (chip c) h inb x,
    show ((slot argM off' inb').view.emb x : S4x6656x1024.Idx) = _ from arg_emb (chip d) h' inb' x]
  show _ = (m (((chipOf d (chip c)).tc : Thread nD τ).loc main_arg0) : S4x6656x1024.Idx → Elt F .f32) (@ix3 4 6656 1024 (chip d) (x 0) (x 1))
  rw [hd]

/-! ## The plan -/

/-- The amount one transfer credits. -/
abbrev amt : ℕ := (slot outM ![0, 0, 0] (by decide)).view.dmaCredit

abbrev arg (c : Dev nD) (p : Fin 4) : sProp 𝕄 := ((c.tc : Thread nD τ).loc main_arg0) ↦[slab (A := 6656) (B := 1024) p]{fullShare} m ((c.tc : Thread nD τ).loc main_arg0)
abbrev done (c : Dev nD) (p : Fin 4) : sProp 𝕄 := ((c.tc : Thread nD τ).loc main_v1) ↦[slab (A := 6656) (B := 1024) p]{fullShare} out m c
abbrev todo (c : Dev nD) (p : Fin 4) : sProp 𝕄 := ((c.tc : Thread nD τ).loc main_v1) ↦[slab (A := 6656) (B := 1024) p]{fullShare} m ((c.tc : Thread nD τ).loc main_v1)

def pay : Fin 7 → Dev nD → sProp 𝕄
  | 0, c => arg m c (chip (hop 4 c))
  | 1, c => arg m c (chip (hop 2 c))
  | 2, c => arg m c (chip (hop 6 c))
  | 3, c => done m c (chip (hop 4 c))
  | 4, c => done m c (chip (hop 2 c))
  | 5, c => done m c (chip (hop 6 c))
  | 6, c => iprop(done m c (chip c) ∗ arg m c (chip c))

/-- One semaphore of an array of three. -/
abbrev sem3 (a : DmaSems sig S3) (i : ℕ) (inb : ∀ b, (![i] : Fin 1 → ℕ) b + S1.size b ≤ S3.size b) : SemLoc sig :=
  .dma ((a.slice (Rect.unit (s := S3) ![i] S1.size inb)).squeeze S_ squeezes_S1_S_).sem

/-- Semaphores 0 to 2 are credited by the device's sends, semaphores 3 to 5 by what it receives, semaphore 6 by its copy. -/
def plan : Plan nD τ sig (Elt F) (Fin 7) where
  osem := fun
    | 0 => sem3 cc0_scratch0 0 inb_S3_S1_0 | 1 => sem3 cc0_scratch0 1 inb_S3_S1_1 | 2 => sem3 cc0_scratch0 2 inb_S3_S1_2
    | 3 => sem3 cc0_scratch1 0 inb_S3_S1_0 | 4 => sem3 cc0_scratch1 1 inb_S3_S1_1 | 5 => sem3 cc0_scratch1 2 inb_S3_S1_2
    | 6 => .dma cc0_scratch2.sem
  bij := by decide
  amt _ := amt
  amt_pos _ := View.dmaCredit_pos _ (by decide)
  recv := {3, 4, 5}
  dest := fun | 3 => hop 4 | 4 => hop 2 | 5 => hop 6 | _ => Equiv.refl _
  pay := pay m
  storable k c := by fin_cases k <;> (dsimp only [pay]; infer_instance)

theorem pay_0 (c : Dev nD) : (plan m).pay 0 c = arg m c (chip (hop 4 c)) := rfl
theorem pay_1 (c : Dev nD) : (plan m).pay 1 c = arg m c (chip (hop 2 c)) := rfl
theorem pay_2 (c : Dev nD) : (plan m).pay 2 c = arg m c (chip (hop 6 c)) := rfl
theorem pay_3 (c : Dev nD) : (plan m).pay 3 c = done m c (chip (hop 4 c)) := rfl
theorem pay_4 (c : Dev nD) : (plan m).pay 4 c = done m c (chip (hop 2 c)) := rfl
theorem pay_5 (c : Dev nD) : (plan m).pay 5 c = done m c (chip (hop 6 c)) := rfl
theorem pay_6 (c : Dev nD) : (plan m).pay 6 c = iprop(done m c (chip c) ∗ arg m c (chip c)) := rfl
theorem peer_3 (c : Dev nD) : (plan m).pay 3 (hop 4 c) = done m (hop 4 c) (chip c) := by rw [pay_3, hop_hop]
theorem peer_4 (c : Dev nD) : (plan m).pay 4 (hop 2 c) = done m (hop 2 c) (chip c) := by rw [pay_4, hop_hop]
theorem peer_5 (c : Dev nD) : (plan m).pay 5 (hop 6 c) = done m (hop 6 c) (chip c) := by rw [pay_5, hop_hop]

/-- What device `c` starts with: its own array by slabs, and its slab of its own result and of the other chips'. -/
def mem (c : Dev nD) : sProp 𝕄 :=
  iprop((bigSep Finset.univ fun j => arg m c (chip (hop (mask j) c))) ∗ bigSep Finset.univ fun j => todo m (hop (mask j) c) (chip c))

theorem bufs_eq (c : Dev nD) (V : (b : Ref sig .tc) → Buf (Elt F) ((c.tc : Thread nD τ).loc b)) :
    (unscopedBufs c V : sProp 𝕄) = iprop((bigSep Finset.univ fun j => ((c.tc : Thread nD τ).loc main_arg0) ↦[slab (n := 4) (A := 6656) (B := 1024) (chip (hop (mask j) c))]{fullShare} V main_arg0)
      ∗ bigSep Finset.univ fun p => ((c.tc : Thread nD τ).loc main_v1) ↦[slab (n := 4) (A := 6656) (B := 1024) p]{fullShare} V main_v1) := by
  rw [← slabs_by_peer chip mask peers c (fun p => ((c.tc : Thread nD τ).loc main_arg0) ↦[slab (n := 4) (A := 6656) (B := 1024) p]{fullShare} V main_arg0)]
  rw [← pointsTo_biUnion Finset.univ _ (fun p _ q _ h => slab_disjoint p q h), biUnion_slab]
  rw [← pointsTo_biUnion Finset.univ _ (fun p _ q _ h => slab_disjoint p q h), biUnion_slab]
  unfold unscopedBufs
  exact bigSep_eq_bigSepL_of_eq [main_arg0, main_v1] (by decide) (by decide) _

theorem deal : (bigSep Finset.univ fun c : Dev nD => unscopedBufs c (fun b => m ((c.tc : Thread nD τ).loc b)) : sProp 𝕄)
    ⊢ bigSep Finset.univ (mem m) := by
  unfold mem
  simp only [bufs_eq, bigSep_sep']
  exact Entails.of_eq (congrArg (fun X => iprop((bigSep Finset.univ fun c : Dev nD => bigSep Finset.univ fun j => arg m c (chip (hop (mask j) c))) ∗ X))
    (deal_slabs chip mask peers (todo m)))

/-- A slab of the own array as the kernel names it. -/
theorem arg_view {off : Fin 3 → ℕ} (p : Fin 4) (h : off = ![p.val, 0, 0]) (inb) (c : Dev nD) :
    ((slot argM off inb).view.loc (c.tc : Thread nD τ) ↦[(slot argM off inb).view.set]{fullShare} m ((c.tc : Thread nD τ).loc main_arg0) : sProp 𝕄) = arg m c p :=
  congrArg (fun S => (((c.tc : Thread nD τ).loc main_arg0) ↦[S]{fullShare} m ((c.tc : Thread nD τ).loc main_arg0) : sProp 𝕄)) (arg_set p h inb)

/-- A slab of the result as the kernel names it. -/
theorem out_view {off : Fin 3 → ℕ} (p : Fin 4) (h : off = ![p.val, 0, 0]) (inb) (d : Dev nD) :
    ((slot outM off inb).view.loc (d.tc : Thread nD τ) ↦[(slot outM off inb).view.set]{fullShare} m ((d.tc : Thread nD τ).loc main_v1) : sProp 𝕄) = todo m d p :=
  congrArg (fun S => (((d.tc : Thread nD τ).loc main_v1) ↦[S]{fullShare} m ((d.tc : Thread nD τ).loc main_v1) : sProp 𝕄)) (out_set p h inb)

/-- The body's moves. -/
def at_ (n : ℕ) : Stage (Fin 7) :=
  .after {3, 4, 5} [.copy 6, .send 0 3, .send 1 4, .send 2 5, .wait 3, .wait 4, .wait 5, .wait 0, .wait 1, .wait 2, .wait 6] n

theorem off1 (c : Dev nD) : k0_off1 c = ![(chip c).val, 0, 0] := (k0_off1_eq c).trans (by revert c; decide)
theorem off2 (c : Dev nD) : k0_off2 c = ![(chip (hop 4 c)).val, 0, 0] := (k0_off2_eq c).trans (by revert c; decide)
theorem off3 (c : Dev nD) : k0_off3 c = ![(chip (hop 2 c)).val, 0, 0] := (k0_off3_eq c).trans (by revert c; decide)
theorem off4 (c : Dev nD) : k0_off4 c = ![(chip (hop 6 c)).val, 0, 0] := (k0_off4_eq c).trans (by revert c; decide)

theorem body (c : Dev nD) (N : Dev nD × Fin 7 → ℕ) :
    iprop((plan m).st N c (at_ 0) ∗ mem m c)
      ⊢ wp frame (wpE (defs₀ (F := F)) Variants.none (c.tc : Thread nD τ) none) Set.univ
          (cc0_scatter_chips (Memref.whole main_arg0) (Memref.isWhole_whole _) (Memref.whole main_v1) (Memref.isWhole_whole _) cc0_scratch0 cc0_scratch1 cc0_scratch2)
          fun _ => iprop(unscopedBufs c (fin m c) ∗ ownSems0 (plan m).osem c
            ∗ ∃ W', owes (c.tc : Thread nD τ) (0 : CellTallies nD τ sig Unit) W') := by
  simp only [cc0_scatter_chips_eq_skeleton]; unfold cc0_scatter_chips_skel
  simp only [k0_part1_eq_skeleton, k0_part2_eq_skeleton, k0_part3_eq_skeleton, k0_part4_eq_skeleton]
  unfold k0_part1_skel k0_part2_skel k0_part3_skel k0_part4_skel
  simp only [Prog.lift, Prog.bind_op, Prog.bind_ret, Prog.pure_eq_ret, wp_deviceId]
  unfold mem
  rw [four, four, hop_self, show hop (mask 1) c = hop 4 c from rfl, show hop (mask 2) c = hop 2 c from rfl, show hop (mask 3) c = hop 6 c from rfl]
  iintro ⟨Hst, ⟨Ha, Ha1, Ha2, Ha3⟩, ⟨Hd, Hd1, Hd2, Hd3⟩⟩
  iapply ((plan m).copy (N := N) (c := c) (j := 6) (at_ 0) (at_ 1) (by decide) (by decide) rfl rfl
    (src := slot argM (k0_off1 c) (k0_off1_inb c)) (dst := slot outM (k0_off1 c) (k0_off1_inb c)) (fs := m ((c.tc : Thread nD τ).loc main_arg0)) (fd := m ((c.tc : Thread nD τ).loc main_v1)) (q := fullShare)
    (Entails.of_eq (arg_view m (chip c) (off1 c) (k0_off1_inb c) c).symm) (Entails.of_eq (out_view m (chip c) (off1 c) (k0_off1_inb c) c).symm) rfl
    (BI.sep_mono (Entails.of_eq (landed m c c (by revert c; decide) (off1 c) (off1 c) (k0_off1_inb c) (k0_off1_inb c) _))
      (Entails.of_eq (arg_view m (chip c) (off1 c) (k0_off1_inb c) c)))) $$ [Hst Ha Hd]
  · isplitl [Hst]; · iexact Hst
    isplitl [Ha]; · iexact Ha
    iexact Hd
  iintro Hst
  iapply ((plan m).send (N := N) (c := c) (ks := 0) (kr := 3) (at_ 1) (at_ 2) (by decide) (by decide) rfl rfl (n := ⟨k0_dev1 c, k0_dev1_lt c⟩) rfl
    (show hop 4 c = _ by revert c; decide) (src := slot argM (k0_off2 c) (k0_off2_inb c)) (dst := slot outM (k0_off1 c) (k0_off1_inb c))
    (fs := m ((c.tc : Thread nD τ).loc main_arg0)) (fd := m (((hop 4 c).tc : Thread nD τ).loc main_v1)) (q := fullShare)
    (Entails.of_eq (arg_view m (chip (hop 4 c)) (off2 c) (k0_off2_inb c) c).symm) (Entails.of_eq (out_view m (chip c) (off1 c) (k0_off1_inb c) (hop 4 c)).symm) rfl rfl
    (Entails.of_eq (arg_view m (chip (hop 4 c)) (off2 c) (k0_off2_inb c) c))
    ((Entails.of_eq (landed m c (hop 4 c) (by revert c; decide) (off1 c) (off2 c) (k0_off1_inb c) (k0_off2_inb c) _)).trans (Entails.of_eq (peer_3 m c).symm))) $$ [Hst Ha1 Hd1]
  · isplitl [Hst]; · iexact Hst
    isplitl [Ha1]; · iexact Ha1
    iexact Hd1
  iintro Hst
  iapply ((plan m).send (N := N) (c := c) (ks := 1) (kr := 4) (at_ 2) (at_ 3) (by decide) (by decide) rfl rfl (n := ⟨k0_dev2 c, k0_dev2_lt c⟩) rfl
    (show hop 2 c = _ by revert c; decide) (src := slot argM (k0_off3 c) (k0_off3_inb c)) (dst := slot outM (k0_off1 c) (k0_off1_inb c))
    (fs := m ((c.tc : Thread nD τ).loc main_arg0)) (fd := m (((hop 2 c).tc : Thread nD τ).loc main_v1)) (q := fullShare)
    (Entails.of_eq (arg_view m (chip (hop 2 c)) (off3 c) (k0_off3_inb c) c).symm) (Entails.of_eq (out_view m (chip c) (off1 c) (k0_off1_inb c) (hop 2 c)).symm) rfl rfl
    (Entails.of_eq (arg_view m (chip (hop 2 c)) (off3 c) (k0_off3_inb c) c))
    ((Entails.of_eq (landed m c (hop 2 c) (by revert c; decide) (off1 c) (off3 c) (k0_off1_inb c) (k0_off3_inb c) _)).trans (Entails.of_eq (peer_4 m c).symm))) $$ [Hst Ha2 Hd2]
  · isplitl [Hst]; · iexact Hst
    isplitl [Ha2]; · iexact Ha2
    iexact Hd2
  iintro Hst
  iapply ((plan m).send (N := N) (c := c) (ks := 2) (kr := 5) (at_ 3) (at_ 4) (by decide) (by decide) rfl rfl (n := ⟨k0_dev3 c, k0_dev3_lt c⟩) rfl
    (show hop 6 c = _ by revert c; decide) (src := slot argM (k0_off4 c) (k0_off4_inb c)) (dst := slot outM (k0_off1 c) (k0_off1_inb c))
    (fs := m ((c.tc : Thread nD τ).loc main_arg0)) (fd := m (((hop 6 c).tc : Thread nD τ).loc main_v1)) (q := fullShare)
    (Entails.of_eq (arg_view m (chip (hop 6 c)) (off4 c) (k0_off4_inb c) c).symm) (Entails.of_eq (out_view m (chip c) (off1 c) (k0_off1_inb c) (hop 6 c)).symm) rfl rfl
    (Entails.of_eq (arg_view m (chip (hop 6 c)) (off4 c) (k0_off4_inb c) c))
    ((Entails.of_eq (landed m c (hop 6 c) (by revert c; decide) (off1 c) (off4 c) (k0_off1_inb c) (k0_off4_inb c) _)).trans (Entails.of_eq (peer_5 m c).symm))) $$ [Hst Ha3 Hd3]
  · isplitl [Hst]; · iexact Hst
    isplitl [Ha3]; · iexact Ha3
    iexact Hd3
  iintro Hst
  iapply ((plan m).wp_wait (N := N) (c := c) (j := 3) (at_ 4) (at_ 5) (by decide) (by decide) rfl rfl) $$ Hst
  iintro ⟨Hst, Hd1⟩
  ihave Hd1 := (Entails.of_eq (pay_3 m c)) $$ Hd1
  iapply ((plan m).wp_wait (N := N) (c := c) (j := 4) (at_ 5) (at_ 6) (by decide) (by decide) rfl rfl) $$ Hst
  iintro ⟨Hst, Hd2⟩
  ihave Hd2 := (Entails.of_eq (pay_4 m c)) $$ Hd2
  iapply ((plan m).wp_wait (N := N) (c := c) (j := 5) (at_ 6) (at_ 7) (by decide) (by decide) rfl rfl) $$ Hst
  iintro ⟨Hst, Hd3⟩
  ihave Hd3 := (Entails.of_eq (pay_5 m c)) $$ Hd3
  iapply ((plan m).wp_wait (N := N) (c := c) (j := 0) (at_ 7) (at_ 8) (by decide) (by decide) rfl rfl) $$ Hst
  iintro ⟨Hst, Ha1⟩
  ihave Ha1 := (Entails.of_eq (pay_0 m c)) $$ Ha1
  iapply ((plan m).wp_wait (N := N) (c := c) (j := 1) (at_ 8) (at_ 9) (by decide) (by decide) rfl rfl) $$ Hst
  iintro ⟨Hst, Ha2⟩
  ihave Ha2 := (Entails.of_eq (pay_1 m c)) $$ Ha2
  iapply ((plan m).wp_wait (N := N) (c := c) (j := 2) (at_ 9) (at_ 10) (by decide) (by decide) rfl rfl) $$ Hst
  iintro ⟨Hst, Ha3⟩
  ihave Ha3 := (Entails.of_eq (pay_2 m c)) $$ Ha3
  iapply ((plan m).wp_wait (N := N) (c := c) (j := 6) (at_ 10) (at_ 11) (by decide) (by decide) rfl rfl) $$ Hst
  iintro ⟨Hst, H⟩
  ihave H := (Entails.of_eq (pay_6 m c)) $$ H
  icases H with ⟨Hd, Ha⟩
  rw [wp_ret]; imodintro
  rw [bufs_eq, fin_arg, fin_out, slabs_by_peer chip mask peers c (fun p => ((c.tc : Thread nD τ).loc main_v1) ↦[slab (n := 4) (A := 6656) (B := 1024) p]{fullShare} out m c),
    four, four, hop_self, show hop (mask 1) c = hop 4 c from rfl, show hop (mask 2) c = hop 2 c from rfl, show hop (mask 3) c = hop 6 c from rfl]
  isplitl [Ha Ha1 Ha2 Ha3 Hd Hd1 Hd2 Hd3]
  · isplitl [Ha Ha1 Ha2 Ha3]
    · isplitl [Ha]; · iexact Ha
      isplitl [Ha1]; · iexact Ha1
      isplitl [Ha2]; · iexact Ha2
      iexact Ha3
    · isplitl [Hd]; · iexact Hd
      isplitl [Hd1]; · iexact Hd1
      isplitl [Hd2]; · iexact Hd2
      iexact Hd3
  iapply ((plan m).st_end (N := N) (c := c) (at_ 11) (by decide) (by decide)); iexact Hst

theorem run_main (g : Dev nD → PrngReg) :
    θ_run (defs (F := F)) (onTc (τ := τ) (main (F := F))) ⟨m, fun _ => 0, g⟩ (fun r =>
      (∀ c : Dev nD, r.2.mem ((c.tc : Thread nD τ).loc main_v1) = out m c
        ∧ r.2.mem ((c.tc : Thread nD τ).loc main_arg0) = m ((c.tc : Thread nD τ).loc main_arg0))
      ∧ r.2.sem = fun _ => 0) := by
  refine (θ_run _ _ _).mono (fun r h => ⟨fun c => ⟨?_, ?_⟩, h.2⟩)
    ((plan m).run (by decide) cfgs ⟨fun w => w.elim0⟩ N_0 cellOf_inj (defs₀ (F := F)) m g (main (F := F)) (fun _ => rfl) (mem m) (deal m) (fin m)
      fun c t N => body m c N)
  · exact (h.1 c main_v1 rfl).trans (fin_out m c)
  · exact (h.1 c main_arg0 rfl).trans (fin_arg m c)

end Cert.ScatterRun

end
-- ==== Proof.GatherValue.lean ====
/-
  What the gathers and the scatter leave on one device, as its block of a plain rearrangement of the whole array: gathering
  is a reshape that puts the blocks on an axis of their own; scattering is a transpose of two axes.
-/
module

public import Idealize.ShloMosaic.Lib.ValueIdxCore
public import Idealize.ShloMosaic.Lib.Pipeline.Value
public import Idealize.ShloMosaic.Lib.Layout

@[expose] public section

noncomputable section

namespace Cert.GatherValue

open Idealize.ShloMosaic
open Idealize.ShloMosaic.ValueIdx

variable {α : Type}

/-! ## Device numbers on the mesh -/

theorem lin_chip (c : Fin 8) : Layout.meshLin [2, 2, 2] c.val [0, 1] = c.val / 2 := by revert c; decide
theorem lin_core (c : Fin 8) : Layout.meshLin [2, 2, 2] c.val [2] = c.val % 2 := by revert c; decide

/-! ## Blocks on an axis of their own -/

/-- The elements of an array of `n · a` rows, seen as `n` blocks of `a` rows. -/
theorem blocks_apply {n a b w : ℕ} (x : (⟨2, ![w, b]⟩ : Shape).Idx → α) (h : (⟨2, ![w, b]⟩ : Shape).ShapeCasts ⟨3, ![n, a, b]⟩)
    (q : Fin n) (r : Fin a) (l : Fin b) (hr : q.val * a + r.val < w) :
    shapeCast ⟨3, ![n, a, b]⟩ x h (ix3 q r l) = x (ix2 ⟨q.val * a + r.val, hr⟩ l) :=
  shapeCast_apply _ _ _ _ (by
    rw [Shape.rowMajor_val_two, Shape.rowMajor_val_three]
    rfl)

abbrev Half : Shape := ⟨2, ![6656, 1024]⟩
abbrev Halves : Shape := ⟨2, ![53248, 1024]⟩
abbrev Pair : Shape := ⟨3, ![2, 6656, 1024]⟩
abbrev Eight : Shape := ⟨3, ![8, 6656, 1024]⟩

/-- The two halves of a chip. -/
theorem cores_block (y : Fin 8 → Half.Idx → α) (x : Halves.Idx → α) (ht : Layout.Tiles Half Halves 0 8) (hy : ∀ d, y d = Layout.block Half Halves 0 8 d x ht)
    (h : Halves.ShapeCasts Eight) (c : Fin 8) (src : Fin 2 → Fin 8) (hsrc : ∀ p, (src p).val = 2 * (c.val / 2) + p.val)
    (hm : ∀ b, ∀ i ∈ (![[0, 1], [], []] : Fin 3 → List ℕ) b, 0 < [2, 2, 2].getD i 0)
    (hb : Layout.TilesN Pair Eight fun b => Layout.cutSize [2, 2, 2] ((![[0, 1], [], []] : Fin 3 → List ℕ) b)) :
    (fun i : Pair.Idx => y (src (i 0)) (@ix2 6656 1024 (i 1) (i 2)))
      = Layout.blockN Pair Eight (Layout.meshBlock [2, 2, 2] ![[0, 1], [], []] c hm) (shapeCast Eight x h) hb := by
  funext i
  obtain ⟨p, r, l, rfl⟩ : ∃ (p : Fin 2) (r : Fin 6656) (l : Fin 1024), i = ix3 p r l := ⟨i 0, i 1, i 2, eq_ix3 i⟩
  have hc : c.val < 8 := c.isLt
  have hp : p.val < 2 := p.isLt
  have hr : r.val < 6656 := r.isLt
  rw [Layout.blockN_apply]
  have e : hb.idx (Layout.meshBlock [2, 2, 2] ![[0, 1], [], []] c hm) (ix3 p r l) = ix3 (⟨2 * (c.val / 2) + p.val, by omega⟩ : Fin 8) r l :=
    funext fun b => Fin.ext (match b with
      | ⟨0, _⟩ => show Layout.meshLin [2, 2, 2] c.val [0, 1] * 2 + p.val = 2 * (c.val / 2) + p.val by rw [lin_chip]; omega
      | ⟨1, _⟩ => show 0 * 6656 + r.val = r.val by omega
      | ⟨2, _⟩ => show 0 * 1024 + l.val = l.val by omega)
  rw [e, blocks_apply x h _ r l (by show (2 * (c.val / 2) + p.val) * 6656 + r.val < 53248; omega)]
  show y (src p) (ix2 r l) = _
  rw [hy, Layout.block_apply]
  refine congrArg x (Shape.idx_ext₂ ?_ rfl)
  show (src p).val * 6656 + r.val = (2 * (c.val / 2) + p.val) * 6656 + r.val
  rw [hsrc]

/-- The four blocks of the chips. -/
theorem chips_whole {a w : ℕ} (hw : w = 4 * a) (y : Fin 8 → (⟨2, ![a, 1024]⟩ : Shape).Idx → α) (x : (⟨2, ![w, 1024]⟩ : Shape).Idx → α)
    (hm : ∀ b, ∀ i ∈ (![[0, 1], []] : Fin 2 → List ℕ) b, 0 < [2, 2, 2].getD i 0)
    (hb : Layout.TilesN (⟨2, ![a, 1024]⟩ : Shape) ⟨2, ![w, 1024]⟩ fun b => Layout.cutSize [2, 2, 2] ((![[0, 1], []] : Fin 2 → List ℕ) b))
    (hy : ∀ d, y d = Layout.blockN ⟨2, ![a, 1024]⟩ ⟨2, ![w, 1024]⟩ (Layout.meshBlock [2, 2, 2] ![[0, 1], []] d hm) x hb)
    (h : (⟨2, ![w, 1024]⟩ : Shape).ShapeCasts ⟨3, ![4, a, 1024]⟩) (src : Fin 4 → Fin 8) (hsrc : ∀ p, (src p).val / 2 = p.val) :
    (fun i : (⟨3, ![4, a, 1024]⟩ : Shape).Idx => y (src (i 0)) (@ix2 a 1024 (i 1) (i 2))) = shapeCast ⟨3, ![4, a, 1024]⟩ x h := by
  funext i
  obtain ⟨p, r, l, rfl⟩ : ∃ (p : Fin 4) (r : Fin a) (l : Fin 1024), i = ix3 p r l := ⟨i 0, i 1, i 2, eq_ix3 i⟩
  have hr : p.val * a + r.val < w := by
    have h1 : p.val * a ≤ 3 * a := Nat.mul_le_mul_right a (by omega)
    have h2 := r.isLt
    omega
  rw [blocks_apply x h p r l hr]
  show y (src p) (ix2 r l) = _
  rw [hy, Layout.blockN_apply]
  refine congrArg x (Shape.idx_ext₂ ?_ ?_)
  · show Layout.meshLin [2, 2, 2] (src p).val [0, 1] * a + r.val = p.val * a + r.val
    rw [lin_chip, hsrc]
  · show 0 * 1024 + l.val = l.val
    omega

/-! ## Scattering -/

abbrev Part : Shape := ⟨3, ![4, 6656, 1024]⟩
abbrev Whole : Shape := ⟨3, ![16, 13312, 1024]⟩
abbrev Table : Shape := ⟨4, ![4, 4, 13312, 1024]⟩

/-- Chip `q`'s slab `p` is chip `p`'s slab `q` of the array. -/
theorem swapped_apply (x : Whole.Idx → α) (h₁ : Whole.ShapeCasts Table) (h₂ : Table.Transposes [1, 0, 2, 3] Table) (h₃ : Table.ShapeCasts Whole)
    (q p : Fin 4) (r : Fin 13312) (l : Fin 1024) (hqp : q.val * 4 + p.val < 16) (hpq : p.val * 4 + q.val < 16) :
    shapeCast Whole (transpose Table [1, 0, 2, 3] (shapeCast Table x h₁) h₂) h₃ (ix3 ⟨q.val * 4 + p.val, hqp⟩ r l)
      = x (ix3 ⟨p.val * 4 + q.val, hpq⟩ r l) := by
  refine (shapeCast_apply _ _ _ (ix4 q p r l) (by
    rw [Shape.rowMajor_val_four, Shape.rowMajor_val_three]
    rfl)).trans ?_
  refine (transpose_apply _ _ h₂ (ix4 q p r l) (ix4 p q r l) (fun b => match b with
    | ⟨0, _⟩ => rfl | ⟨1, _⟩ => rfl | ⟨2, _⟩ => rfl | ⟨3, _⟩ => rfl)).trans ?_
  exact shapeCast_apply _ _ _ _ (by
    rw [Shape.rowMajor_val_four, Shape.rowMajor_val_three]
    rfl)

theorem scatter_block (y : Fin 8 → Part.Idx → α) (x : Whole.Idx → α)
    (hm : ∀ b, ∀ i ∈ (![[0, 1], [2], []] : Fin 3 → List ℕ) b, 0 < [2, 2, 2].getD i 0)
    (hb : Layout.TilesN Part Whole fun b => Layout.cutSize [2, 2, 2] ((![[0, 1], [2], []] : Fin 3 → List ℕ) b))
    (hy : ∀ d, y d = Layout.blockN Part Whole (Layout.meshBlock [2, 2, 2] ![[0, 1], [2], []] d hm) x hb)
    (h₁ : Whole.ShapeCasts Table) (h₂ : Table.Transposes [1, 0, 2, 3] Table) (h₃ : Table.ShapeCasts Whole)
    (c : Fin 8) (chip : Fin 4) (hchip : chip.val = c.val / 2) (src : Fin 4 → Fin 8) (hsrc : ∀ p, (src p).val = 2 * p.val + c.val % 2) :
    (fun i : Part.Idx => y (src (i 0)) (@ix3 4 6656 1024 chip (i 1) (i 2)))
      = Layout.blockN Part Whole (Layout.meshBlock [2, 2, 2] ![[0, 1], [2], []] c hm)
          (shapeCast Whole (transpose Table [1, 0, 2, 3] (shapeCast Table x h₁) h₂) h₃) hb := by
  funext i
  obtain ⟨p, r, l, rfl⟩ : ∃ (p : Fin 4) (r : Fin 6656) (l : Fin 1024), i = ix3 p r l := ⟨i 0, i 1, i 2, eq_ix3 i⟩
  have hc : c.val < 8 := c.isLt
  have hp : p.val < 4 := p.isLt
  have hq : chip.val < 4 := chip.isLt
  have hr : r.val < 6656 := r.isLt
  have e : ∀ (d : Fin 8) (s : Fin 4) (hs : d.val / 2 * 4 + s.val < 16),
      hb.idx (Layout.meshBlock [2, 2, 2] ![[0, 1], [2], []] d hm) (ix3 s r l) = ix3 (⟨d.val / 2 * 4 + s.val, hs⟩ : Fin 16) (⟨d.val % 2 * 6656 + r.val, by omega⟩ : Fin 13312) l :=
    fun d s hs => funext fun b => Fin.ext (match b with
      | ⟨0, _⟩ => show Layout.meshLin [2, 2, 2] d.val [0, 1] * 4 + s.val = d.val / 2 * 4 + s.val by rw [lin_chip]
      | ⟨1, _⟩ => show Layout.meshLin [2, 2, 2] d.val [2] * 6656 + r.val = d.val % 2 * 6656 + r.val by rw [lin_core]
      | ⟨2, _⟩ => show 0 * 1024 + l.val = l.val by omega)
  have hd : (src p).val / 2 = p.val := by rw [hsrc]; omega
  have hd' : (src p).val % 2 = c.val % 2 := by rw [hsrc]; omega
  show y (src p) (ix3 chip r l) = _
  rw [hy, Layout.blockN_apply, Layout.blockN_apply, e c p (by omega), e (src p) chip (by omega)]
  have hs := swapped_apply x h₁ h₂ h₃ chip p (⟨c.val % 2 * 6656 + r.val, by omega⟩ : Fin 13312) l (by omega) (by omega)
  simp only [hchip] at hs
  rw [hs]
  refine congrArg x (funext fun b => Fin.ext (match b with
    | ⟨0, _⟩ => show (src p).val / 2 * 4 + chip.val = p.val * 4 + c.val / 2 by rw [hd, hchip]
    | ⟨1, _⟩ => show (src p).val % 2 * 6656 + r.val = c.val % 2 * 6656 + r.val by rw [hd']
    | ⟨2, _⟩ => rfl))

end Cert.GatherValue

end
-- ==== Proof.ScatterClaims.lean ====
/-
  The claims about the scatter among the four chips: its frames, its reference's frames, and that each device's result is
  its block of the reference's result, at both readings of the numbers.
-/
module

public import proofs.«01_k».proof.Defs
public import proofs.«01_k».proof.Proof.ScatterRun
public import proofs.«01_k».proof.Proof.GatherValue
public import proofs.«01_k».proof.Proof.Gen.Scatter
public import proofs.«01_k».proof.Proof.Gen.ScatterRef
public import proofs.«01_k».proof.Proof.Gen.ScatterRef.Run
public import proofs.«01_k».proof.Proof.Gen.ScatterRefIdeal
public import proofs.«01_k».proof.Proof.Gen.ScatterRefIdeal.Run

@[expose] public section

noncomputable section

namespace Cert.ScatterClaims

open Idealize.ShloMosaic Idealize.ShloMosaic.TcCoe Idealize.SL.Sem Cert.Exchange

theorem frame_kernel : Cert.quiescent_Scatter := fun m g _ =>
  (θ_run Cert.ScatterIdeal.defs _ _).mono (fun _ h => ⟨fun c => (h.1 c).2, h.2⟩) (Cert.ScatterRun.run_main (F := Bits) m g)

theorem frame_ideal : Cert.quiescent_ScatterIdeal := fun m g _ =>
  (θ_run Cert.ScatterIdeal.defs _ _).mono (fun _ h => ⟨fun c => (h.1 c).2, h.2⟩) (Cert.ScatterRun.run_main (F := Ideal) m g)

theorem frame_ref : Cert.quiescent_ScatterRef := fun m g _ =>
  (θ_run Cert.ScatterRef.defs _ _).mono (fun r h => ⟨fun c => (h c).2, sem_eq_zero_of_no_sems (by decide) r.2⟩)
    (Cert.ScatterRef.Value.run (F := Bits) m g)

theorem frame_refIdeal : Cert.quiescent_ScatterRefIdeal := fun m g _ =>
  (θ_run Cert.ScatterRefIdeal.defs _ _).mono (fun r h => ⟨fun c => (h c).2, sem_eq_zero_of_no_sems (by decide) r.2⟩)
    (Cert.ScatterRefIdeal.Value.run (F := Ideal) m g)

theorem algebraic : Cert.algebraic_ScatterIdeal_ScatterRefIdeal := fun m g m' g' _ hm =>
  ⟨_, (θ_run Cert.ScatterIdeal.defs _ _).mono (fun _ h c => ⟨(h.1 c).1.trans (GatherValue.scatter_block (fun d : Dev Cert.ScatterIdeal.nD => m ((d.tc : Thread Cert.ScatterIdeal.nD Cert.ScatterIdeal.τ).loc Cert.ScatterIdeal.main_arg0)) _ _ _ hm _ _ _ c (ScatterRun.chip c) rfl (ScatterRun.chipOf c) (fun _ => rfl)), (h.1 c).2⟩)
      (Cert.ScatterRun.run_main (F := Ideal) m g),
    (θ_run Cert.ScatterRefIdeal.defs _ _).mono (fun _ h => h 0) (Cert.ScatterRefIdeal.Value.run (F := Ideal) m' g')⟩

theorem bitexact : Cert.bitexact_Scatter_ScatterRef := fun m g m' g' _ hm =>
  ⟨_, (θ_run Cert.ScatterIdeal.defs _ _).mono (fun _ h c => ⟨(h.1 c).1.trans (GatherValue.scatter_block (fun d : Dev Cert.ScatterIdeal.nD => m ((d.tc : Thread Cert.ScatterIdeal.nD Cert.ScatterIdeal.τ).loc Cert.ScatterIdeal.main_arg0)) _ _ _ hm _ _ _ c (ScatterRun.chip c) rfl (ScatterRun.chipOf c) (fun _ => rfl)), (h.1 c).2⟩)
      (Cert.ScatterRun.run_main (F := Bits) m g),
    (θ_run Cert.ScatterRef.defs _ _).mono (fun _ h => h 0) (Cert.ScatterRef.Value.run (F := Bits) m' g')⟩

end Cert.ScatterClaims

end
-- ==== Proof.CoresRun.lean ====
/-
  The gathering of a chip's two halves: each device copies its array into its own slab of the result, sends it into the same
  slab of the other core's result, and waits for the other core's array, its own send and its own copy.
-/
module

public import proofs.«01_k».proof.Proof.Exchange
public import proofs.«01_k».proof.Proof.Slab
public import proofs.«01_k».proof.Proof.Gen.CoresIdeal
public import proofs.«01_k».proof.Proof.Gen.CoresIdeal.Skeleton
public import proofs.«01_k».proof.Proof.Gen.CoresIdeal.Launch
public import proofs.«01_k».proof.Proof.Gen.CoresIdeal.Points

@[expose] public section

set_option Elab.async false

noncomputable section

namespace Cert.CoresRun

open Cert.CoresIdeal Cert.CoresIdeal.Gen Cert.Exchange Cert.Slab
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type} [FloatOps F]

local notation "𝕄" => MT nD τ sig Unit (Elt F) ℕ (UU sig nD τ) ℕ

variable (m : (ℓ : Loc nD τ sig) → Buf (Elt F) ℓ)

/-- A device's core. -/
def core (c : Dev nD) : Fin 2 := ⟨c.val % 2, Nat.mod_lt _ (by decide)⟩

/-- Core `p` of device `c`'s chip. -/
def coreOf (c : Dev nD) (p : Fin 2) : Dev nD := ⟨2 * (c.val / 2) + p.val, by revert c p; decide⟩

/-- The differences in number between a device and the devices it writes to: itself, and the other core. -/
def mask : Fin 2 → Fin 8 := ![0, 1]

theorem peers : ∀ d, Function.Bijective fun j => core (hop (mask j) d) := by decide
theorem hop_self (c : Dev nD) : hop (mask 0) c = c := by revert c; decide

/-- What device `c` gathers: in slab `p`, the array of core `p` of its chip. -/
def out (c : Dev nD) : Buf (Elt F) ((c.tc : Thread nD τ).loc main_v1) :=
  fun i : S2x6656x1024.Idx => (m (((coreOf c (i 0)).tc : Thread nD τ).loc main_arg0) : S6656x1024.Idx → Elt F .f32) (@ix2 6656 1024 (i 1) (i 2))

/-- The arrays at the end. -/
def fin (c : Dev nD) (b : Ref sig .tc) : Buf (Elt F) ((c.tc : Thread nD τ).loc b) :=
  if h : b = main_v1 then h ▸ out m c else m ((c.tc : Thread nD τ).loc b)

theorem fin_arg (c : Dev nD) : fin m c main_arg0 = m ((c.tc : Thread nD τ).loc main_arg0) := dif_neg (by decide)
theorem fin_out (c : Dev nD) : fin m c main_v1 = out m c := dif_pos rfl

/-! ## A slab of the result as the kernel names it -/

/-- The slab at offsets `off`. -/
abbrev slot (off : Fin 3 → ℕ) (inb : ∀ a, off a + S1x6656x1024.size a ≤ S2x6656x1024.size a) : Memref sig .tc .hbm S6656x1024 .f32 :=
  ((Memref.whole main_v1 : Memref sig .tc .hbm S2x6656x1024 .f32).slice (Rect.unit (s := S2x6656x1024) off S1x6656x1024.size inb) (fun _ => rfl)).squeeze
    S6656x1024 squeezes_S1x6656x1024_S6656x1024

theorem slot_set {off : Fin 3 → ℕ} (p : Fin 2) (h : off = ![p.val, 0, 0]) (inb) : (slot off inb).view.set = slab (A := 6656) (B := 1024) p := by
  refine (View.set_reshape _ _).trans ((View.set_slice_whole main_v1 _).trans ?_)
  exact rect_set (n := 2) (A := 6656) (B := 1024) p h inb

theorem slot_emb {off : Fin 3 → ℕ} (p : Fin 2) (h : off = ![p.val, 0, 0]) (inb) (j : S6656x1024.Idx) :
    ((slot off inb).view.emb j : S2x6656x1024.Idx) = @ix3 2 6656 1024 p (j 0) (j 1) :=
  rect_emb (n := 2) (A := 6656) (B := 1024) p h inb _ j

/-- The slab of device `d` once the array of its core `p` is there. -/
theorem landed {off : Fin 3 → ℕ} (c d : Dev nD) (hd : coreOf d (core c) = c) (h : off = ![(core c).val, 0, 0]) (inb)
    (g : Buf (Elt F) ((d.tc : Thread nD τ).loc main_v1)) :
    (((d.tc : Thread nD τ).loc main_v1) ↦[(slot off inb).view.set]{fullShare} ((slot off inb).view.write (Elt F) g
        ((Memref.whole main_arg0 : Memref sig .tc .hbm S6656x1024 .f32).view.read (Elt F) (m ((c.tc : Thread nD τ).loc main_arg0))) Finset.univ) : sProp 𝕄)
      = (((d.tc : Thread nD τ).loc main_v1) ↦[slab (A := 6656) (B := 1024) (core c)]{fullShare} out m d : sProp 𝕄) := by
  rw [← slot_set (core c) h inb]
  refine pointsTo_congr (write_agrees (slot off inb).view _ _ _ fun x => ?_)
  show (m ((c.tc : Thread nD τ).loc main_arg0) : S6656x1024.Idx → Elt F .f32) x = out m d ((slot off inb).view.emb x)
  rw [show ((slot off inb).view.emb x : S2x6656x1024.Idx) = _ from slot_emb (core c) h inb x]
  show _ = (m (((coreOf d (core c)).tc : Thread nD τ).loc main_arg0) : S6656x1024.Idx → Elt F .f32) (@ix2 6656 1024 (x 0) (x 1))
  rw [hd, ← show x = @ix2 6656 1024 (x 0) (x 1) from eq_ix2 (n0 := 6656) (n1 := 1024) x]

/-! ## The plan -/

/-- The amount one transfer credits. -/
abbrev amt : ℕ := (Memref.whole main_arg0 : Memref sig .tc .hbm S6656x1024 .f32).view.dmaCredit

abbrev arg (c : Dev nD) (q : PosShare TreeShare) : sProp 𝕄 := ((c.tc : Thread nD τ).loc main_arg0) ↦{q} m ((c.tc : Thread nD τ).loc main_arg0)
abbrev done (c : Dev nD) (p : Fin 2) : sProp 𝕄 := ((c.tc : Thread nD τ).loc main_v1) ↦[slab (A := 6656) (B := 1024) p]{fullShare} out m c
abbrev todo (c : Dev nD) (p : Fin 2) : sProp 𝕄 := ((c.tc : Thread nD τ).loc main_v1) ↦[slab (A := 6656) (B := 1024) p]{fullShare} m ((c.tc : Thread nD τ).loc main_v1)

def pay : Fin 3 → Dev nD → sProp 𝕄
  | 0, c => arg m c fullShare.left
  | 1, c => done m c (core (hop 1 c))
  | 2, c => iprop(done m c (core c) ∗ arg m c fullShare.right)

/-- Semaphore 0 is credited by the device's send, semaphore 1 by the other core's, semaphore 2 by the device's copy. -/
def plan : Plan nD τ sig (Elt F) (Fin 3) where
  osem := fun | 0 => .dma cc0_scratch0.sem | 1 => .dma cc0_scratch1.sem | 2 => .dma cc0_scratch2.sem
  bij := by decide
  amt _ := amt
  amt_pos _ := View.dmaCredit_pos _ (by decide)
  recv := {1}
  dest := fun | 0 => Equiv.refl _ | 1 => hop 1 | 2 => Equiv.refl _
  pay := pay m
  storable k c := by fin_cases k <;> (dsimp only [pay]; infer_instance)

theorem pay_zero (c : Dev nD) : (plan m).pay 0 c = arg m c fullShare.left := rfl
theorem pay_one (c : Dev nD) : (plan m).pay 1 c = done m c (core (hop 1 c)) := rfl
theorem pay_two (c : Dev nD) : (plan m).pay 2 c = iprop(done m c (core c) ∗ arg m c fullShare.right) := rfl

theorem pay_peer (c : Dev nD) : (plan m).pay 1 (hop 1 c) = done m (hop 1 c) (core c) := by rw [pay_one, hop_hop]

/-- What device `c` starts with: its own array, and its slab of its own result and of the other core's. -/
def mem (c : Dev nD) : sProp 𝕄 := iprop(arg m c fullShare ∗ bigSep Finset.univ fun j => todo m (hop (mask j) c) (core c))

theorem bufs_eq (c : Dev nD) (V : (b : Ref sig .tc) → Buf (Elt F) ((c.tc : Thread nD τ).loc b)) :
    (unscopedBufs c V : sProp 𝕄) = iprop((((c.tc : Thread nD τ).loc main_arg0) ↦{fullShare} V main_arg0)
      ∗ bigSep Finset.univ fun p => ((c.tc : Thread nD τ).loc main_v1) ↦[slab (n := 2) (A := 6656) (B := 1024) p]{fullShare} V main_v1) := by
  rw [← pointsTo_biUnion Finset.univ _ (fun p _ q _ h => slab_disjoint p q h), biUnion_slab]
  unfold unscopedBufs
  exact bigSep_eq_bigSepL_of_eq [main_arg0, main_v1] (by decide) (by decide) _

theorem deal : (bigSep Finset.univ fun c : Dev nD => unscopedBufs c (fun b => m ((c.tc : Thread nD τ).loc b)) : sProp 𝕄)
    ⊢ bigSep Finset.univ (mem m) := by
  unfold mem
  simp only [bufs_eq, bigSep_sep']
  exact Entails.of_eq (congrArg (fun X => iprop((bigSep Finset.univ fun c : Dev nD => arg m c fullShare) ∗ X)) (deal_slabs core mask peers (todo m)))

theorem share (c : Dev nD) : arg m c fullShare ⊣⊢ iprop(arg m c fullShare.left ∗ arg m c fullShare.right) :=
  pointsTo_share fullShare.mem_left_op_right

/-- The own array as the kernel names it. -/
theorem arg_view (c : Dev nD) (q : PosShare TreeShare) :
    (((Memref.whole main_arg0 : Memref sig .tc .hbm S6656x1024 .f32).view.loc (c.tc : Thread nD τ)
      ↦[(Memref.whole main_arg0 : Memref sig .tc .hbm S6656x1024 .f32).view.set]{q} m ((c.tc : Thread nD τ).loc main_arg0)) : sProp 𝕄) = arg m c q :=
  congrArg (fun S => (((c.tc : Thread nD τ).loc main_arg0) ↦[S]{q} m ((c.tc : Thread nD τ).loc main_arg0) : sProp 𝕄)) (View.set_whole main_arg0)

/-- A slab of the result as the kernel names it. -/
theorem slot_view {off : Fin 3 → ℕ} (p : Fin 2) (h : off = ![p.val, 0, 0]) (inb) (d : Dev nD) (f : Buf (Elt F) ((d.tc : Thread nD τ).loc main_v1)) :
    ((slot off inb).view.loc (d.tc : Thread nD τ) ↦[(slot off inb).view.set]{fullShare} f : sProp 𝕄)
      = (((d.tc : Thread nD τ).loc main_v1) ↦[slab (A := 6656) (B := 1024) p]{fullShare} f) :=
  congrArg (fun S => (((d.tc : Thread nD τ).loc main_v1) ↦[S]{fullShare} f : sProp 𝕄)) (slot_set p h inb)

/-- The body's moves. -/
def at_ (n : ℕ) : Stage (Fin 3) := .after {1} [.copy 2, .send 0 1, .wait 1, .wait 0, .wait 2] n

theorem off1 (c : Dev nD) : k0_off1 c = ![(core c).val, 0, 0] := k0_off1_eq c

theorem body (c : Dev nD) (N : Dev nD × Fin 3 → ℕ) :
    iprop((plan m).st N c (at_ 0) ∗ mem m c)
      ⊢ wp frame (wpE (defs₀ (F := F)) Variants.none (c.tc : Thread nD τ) none) Set.univ
          (cc0_gather_cores (Memref.whole main_arg0) (Memref.isWhole_whole _) (Memref.whole main_v1) (Memref.isWhole_whole _) cc0_scratch0 cc0_scratch1 cc0_scratch2)
          fun _ => iprop(unscopedBufs c (fin m c) ∗ ownSems0 (plan m).osem c
            ∗ ∃ W', owes (c.tc : Thread nD τ) (0 : CellTallies nD τ sig Unit) W') := by
  simp only [cc0_gather_cores_eq_skeleton]; unfold cc0_gather_cores_skel
  simp only [k0_part1_eq_skeleton]; unfold k0_part1_skel
  simp only [Prog.lift, Prog.bind_op, Prog.bind_ret, Prog.pure_eq_ret, wp_deviceId]
  unfold mem
  rw [two, hop_self, show hop (mask 1) c = hop 1 c from rfl]
  iintro ⟨Hst, Harg, Hown, Hpeer⟩
  ihave H := (share m c).1 $$ Harg
  icases H with ⟨Hl, Hr⟩
  iapply ((plan m).copy (N := N) (c := c) (j := 2) (at_ 0) (at_ 1) (by decide) (by decide) rfl rfl
    (src := Memref.whole main_arg0) (dst := slot (k0_off1 c) (k0_off1_inb c)) (fd := m ((c.tc : Thread nD τ).loc main_v1)) (q := fullShare.right)
    (Entails.of_eq (arg_view m c _).symm) (Entails.of_eq (slot_view (core c) (off1 c) (k0_off1_inb c) c _).symm) rfl
    (BI.sep_mono (Entails.of_eq (landed m c c (by revert c; decide) (off1 c) (k0_off1_inb c) _)) (Entails.of_eq (arg_view m c _)))) $$ [Hst Hr Hown]
  · isplitl [Hst]; · iexact Hst
    isplitl [Hr]; · iexact Hr
    iexact Hown
  iintro Hst
  iapply ((plan m).send (N := N) (c := c) (ks := 0) (kr := 1) (at_ 1) (at_ 2) (by decide) (by decide) rfl rfl (n := ⟨k0_dev1 c, k0_dev1_lt c⟩) rfl
    (show hop 1 c = _ by revert c; decide) (src := Memref.whole main_arg0) (dst := slot (k0_off1 c) (k0_off1_inb c)) (fd := m (((hop 1 c).tc : Thread nD τ).loc main_v1)) (q := fullShare.left)
    (Entails.of_eq (arg_view m c _).symm) (Entails.of_eq (slot_view (core c) (off1 c) (k0_off1_inb c) (hop 1 c) _).symm) rfl rfl
    (Entails.of_eq (arg_view m c _))
    ((Entails.of_eq (landed m c (hop 1 c) (by revert c; decide) (off1 c) (k0_off1_inb c) _)).trans (Entails.of_eq (pay_peer m c).symm))) $$ [Hst Hl Hpeer]
  · isplitl [Hst]; · iexact Hst
    isplitl [Hl]; · iexact Hl
    iexact Hpeer
  iintro Hst
  iapply ((plan m).wp_wait (N := N) (c := c) (j := 1) (at_ 2) (at_ 3) (by decide) (by decide) rfl rfl) $$ Hst
  iintro ⟨Hst, Hpeer⟩
  iapply ((plan m).wp_wait (N := N) (c := c) (j := 0) (at_ 3) (at_ 4) (by decide) (by decide) rfl rfl) $$ Hst
  iintro ⟨Hst, Hl⟩
  iapply ((plan m).wp_wait (N := N) (c := c) (j := 2) (at_ 4) (at_ 5) (by decide) (by decide) rfl rfl) $$ Hst
  iintro ⟨Hst, H⟩
  rw [wp_ret]; imodintro
  rw [bufs_eq, fin_arg, fin_out]
  ihave H := (Entails.of_eq (pay_two m c)) $$ H
  ihave Hpeer := (Entails.of_eq (pay_one m c)) $$ Hpeer
  ihave Hl := (Entails.of_eq (pay_zero m c)) $$ Hl
  icases H with ⟨Hown, Hr⟩
  isplitl [Hl Hr Hown Hpeer]
  · isplitl [Hl Hr]
    · iapply (share m c).2; isplitl [Hl]; · iexact Hl
      iexact Hr
    · rw [slabs_by_peer core mask peers c, two, hop_self, show hop (mask 1) c = hop 1 c from rfl]
      isplitl [Hown]; · iexact Hown
      iexact Hpeer
  iapply ((plan m).st_end (N := N) (c := c) (at_ 5) (by decide) (by decide)); iexact Hst

theorem run_main (g : Dev nD → PrngReg) :
    θ_run (defs (F := F)) (onTc (τ := τ) (main (F := F))) ⟨m, fun _ => 0, g⟩ (fun r =>
      (∀ c : Dev nD, r.2.mem ((c.tc : Thread nD τ).loc main_v1) = out m c
        ∧ r.2.mem ((c.tc : Thread nD τ).loc main_arg0) = m ((c.tc : Thread nD τ).loc main_arg0))
      ∧ r.2.sem = fun _ => 0) := by
  refine (θ_run _ _ _).mono (fun r h => ⟨fun c => ⟨?_, ?_⟩, h.2⟩)
    ((plan m).run (by decide) cfgs ⟨fun w => w.elim0⟩ N_0 cellOf_inj (defs₀ (F := F)) m g (main (F := F)) (fun _ => rfl) (mem m) (deal m) (fin m)
      fun c t N => body m c N)
  · exact (h.1 c main_v1 rfl).trans (fin_out m c)
  · exact (h.1 c main_arg0 rfl).trans (fin_arg m c)

end Cert.CoresRun

end
-- ==== Proof.CoresClaims.lean ====
/-
  The claims about the gathering of a chip's two halves: its frames, its reference's frames, and that each device's result is
  its block of the reference's result, at both readings of the numbers.
-/
module

public import proofs.«01_k».proof.Defs
public import proofs.«01_k».proof.Proof.CoresRun
public import proofs.«01_k».proof.Proof.GatherValue
public import proofs.«01_k».proof.Proof.Gen.Cores
public import proofs.«01_k».proof.Proof.Gen.CoresRef
public import proofs.«01_k».proof.Proof.Gen.CoresRef.Run
public import proofs.«01_k».proof.Proof.Gen.CoresRefIdeal
public import proofs.«01_k».proof.Proof.Gen.CoresRefIdeal.Run

@[expose] public section

noncomputable section

namespace Cert.CoresClaims

open Idealize.ShloMosaic Idealize.ShloMosaic.TcCoe Idealize.SL.Sem Cert.Exchange

theorem frame_kernel : Cert.quiescent_Cores := fun m g _ =>
  (θ_run Cert.CoresIdeal.defs _ _).mono (fun _ h => ⟨fun c => (h.1 c).2, h.2⟩) (Cert.CoresRun.run_main (F := Bits) m g)

theorem frame_ideal : Cert.quiescent_CoresIdeal := fun m g _ =>
  (θ_run Cert.CoresIdeal.defs _ _).mono (fun _ h => ⟨fun c => (h.1 c).2, h.2⟩) (Cert.CoresRun.run_main (F := Ideal) m g)

theorem frame_ref : Cert.quiescent_CoresRef := fun m g _ =>
  (θ_run Cert.CoresRef.defs _ _).mono (fun r h => ⟨fun c => (h c).2, sem_eq_zero_of_no_sems (by decide) r.2⟩)
    (Cert.CoresRef.Value.run (F := Bits) m g)

theorem frame_refIdeal : Cert.quiescent_CoresRefIdeal := fun m g _ =>
  (θ_run Cert.CoresRefIdeal.defs _ _).mono (fun r h => ⟨fun c => (h c).2, sem_eq_zero_of_no_sems (by decide) r.2⟩)
    (Cert.CoresRefIdeal.Value.run (F := Ideal) m g)

theorem algebraic : Cert.algebraic_CoresIdeal_CoresRefIdeal := fun m g m' g' _ hm =>
  ⟨_, (θ_run Cert.CoresIdeal.defs _ _).mono (fun _ h c => ⟨(h.1 c).1.trans (GatherValue.cores_block (fun d : Dev Cert.CoresIdeal.nD => m ((d.tc : Thread Cert.CoresIdeal.nD Cert.CoresIdeal.τ).loc Cert.CoresIdeal.main_arg0)) _ _ hm _ c (CoresRun.coreOf c) (fun _ => rfl) _ _), (h.1 c).2⟩)
      (Cert.CoresRun.run_main (F := Ideal) m g),
    (θ_run Cert.CoresRefIdeal.defs _ _).mono (fun _ h => h 0) (Cert.CoresRefIdeal.Value.run (F := Ideal) m' g')⟩

theorem bitexact : Cert.bitexact_Cores_CoresRef := fun m g m' g' _ hm =>
  ⟨_, (θ_run Cert.CoresIdeal.defs _ _).mono (fun _ h c => ⟨(h.1 c).1.trans (GatherValue.cores_block (fun d : Dev Cert.CoresIdeal.nD => m ((d.tc : Thread Cert.CoresIdeal.nD Cert.CoresIdeal.τ).loc Cert.CoresIdeal.main_arg0)) _ _ hm _ c (CoresRun.coreOf c) (fun _ => rfl) _ _), (h.1 c).2⟩)
      (Cert.CoresRun.run_main (F := Bits) m g),
    (θ_run Cert.CoresRef.defs _ _).mono (fun _ h => h 0) (Cert.CoresRef.Value.run (F := Bits) m' g')⟩

end Cert.CoresClaims

end
-- ==== Proof.ChipsRun.lean ====
/-
  The gather among the four chips, of two arrays in one call: each device copies both its arrays into its own slabs of the
  results, sends both into the same slabs of the three other chips' results, and waits for the six arrays that come to it,
  its own six sends and its own two copies.
-/
module

public import proofs.«01_k».proof.Proof.Exchange
public import proofs.«01_k».proof.Proof.Slab
public import proofs.«01_k».proof.Proof.Gen.ChipsIdeal
public import proofs.«01_k».proof.Proof.Gen.ChipsIdeal.Skeleton
public import proofs.«01_k».proof.Proof.Gen.ChipsIdeal.Launch
public import proofs.«01_k».proof.Proof.Gen.ChipsIdeal.Points

@[expose] public section

set_option Elab.async false

noncomputable section

namespace Cert.ChipsRun

open Cert.ChipsIdeal Cert.ChipsIdeal.Gen Cert.Exchange Cert.Slab
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type} [FloatOps F]

local notation "𝕄" => MT nD τ sig Unit (Elt F) ℕ (UU sig nD τ) ℕ

variable (m : (ℓ : Loc nD τ sig) → Buf (Elt F) ℓ)

/-- A device's chip. -/
def chip (c : Dev nD) : Fin 4 := ⟨c.val / 2, by revert c; decide⟩

/-- The device of chip `p` on the core of device `c`. -/
def chipOf (c : Dev nD) (p : Fin 4) : Dev nD := ⟨2 * p.val + c.val % 2, by revert c p; decide⟩

/-- The differences in number between a device and the devices it writes to: itself, and the three other chips. -/
def mask : Fin 4 → Fin 8 := ![0, 4, 2, 6]

theorem peers : ∀ d, Function.Bijective fun j => chip (hop (mask j) d) := by decide
theorem hop_self (c : Dev nD) : hop (mask 0) c = c := by revert c; decide

/-- What device `c` gathers: in slab `p`, the array of chip `p`. -/
def outBig (c : Dev nD) : Buf (Elt F) ((c.tc : Thread nD τ).loc main_v1_0) :=
  fun i : S4x12656x1024.Idx => (m (((chipOf c (i 0)).tc : Thread nD τ).loc main_arg0) : S12656x1024.Idx → Elt F .bf16) (@ix2 12656 1024 (i 1) (i 2))

/-- What device `c` gathers: in slab `p`, the array of chip `p`. -/
def outSmall (c : Dev nD) : Buf (Elt F) ((c.tc : Thread nD τ).loc main_v1_1) :=
  fun i : S4x24x1024.Idx => (m (((chipOf c (i 0)).tc : Thread nD τ).loc main_arg1) : S24x1024.Idx → Elt F .f32) (@ix2 24 1024 (i 1) (i 2))

/-- The arrays at the end. -/
def fin (c : Dev nD) (b : Ref sig .tc) : Buf (Elt F) ((c.tc : Thread nD τ).loc b) :=
  if h : b = main_v1_0 then h ▸ outBig m c else if h : b = main_v1_1 then h ▸ outSmall m c else m ((c.tc : Thread nD τ).loc b)

theorem fin_arg0 (c : Dev nD) : fin m c main_arg0 = m ((c.tc : Thread nD τ).loc main_arg0) := (dif_neg (by decide)).trans (dif_neg (by decide))
theorem fin_arg1 (c : Dev nD) : fin m c main_arg1 = m ((c.tc : Thread nD τ).loc main_arg1) := (dif_neg (by decide)).trans (dif_neg (by decide))
theorem fin_big (c : Dev nD) : fin m c main_v1_0 = outBig m c := dif_pos rfl
theorem fin_small (c : Dev nD) : fin m c main_v1_1 = outSmall m c := (dif_neg (by decide)).trans (dif_pos rfl)

/-! ## A slab as the kernel names it, of either array -/

abbrev argBigM : Memref sig .tc .hbm S12656x1024 .bf16 := Memref.whole main_arg0

/-- The slab at offsets `off`. -/
abbrev slotBig (off : Fin 3 → ℕ) (inb : ∀ a, off a + S1x12656x1024.size a ≤ S4x12656x1024.size a) : Memref sig .tc .hbm S12656x1024 .bf16 :=
  ((Memref.whole main_v1_0 : Memref sig .tc .hbm S4x12656x1024 .bf16).slice (Rect.unit (s := S4x12656x1024) off S1x12656x1024.size inb) (fun _ => rfl)).squeeze
    S12656x1024 squeezes_S1x12656x1024_S12656x1024

theorem setBig {off : Fin 3 → ℕ} (p : Fin 4) (h : off = ![p.val, 0, 0]) (inb) : (slotBig off inb).view.set = slab (A := 12656) (B := 1024) p := by
  refine (View.set_reshape _ _).trans ((View.set_slice_whole main_v1_0 _).trans ?_)
  exact rect_set (n := 4) (A := 12656) (B := 1024) p h inb

theorem embBig {off : Fin 3 → ℕ} (p : Fin 4) (h : off = ![p.val, 0, 0]) (inb) (j : S12656x1024.Idx) :
    ((slotBig off inb).view.emb j : S4x12656x1024.Idx) = @ix3 4 12656 1024 p (j 0) (j 1) :=
  rect_emb (n := 4) (A := 12656) (B := 1024) p h inb _ j

abbrev argBig (c : Dev nD) (q : PosShare TreeShare) : sProp 𝕄 := ((c.tc : Thread nD τ).loc main_arg0) ↦{q} m ((c.tc : Thread nD τ).loc main_arg0)
abbrev doneBig (c : Dev nD) (p : Fin 4) : sProp 𝕄 := ((c.tc : Thread nD τ).loc main_v1_0) ↦[slab (A := 12656) (B := 1024) p]{fullShare} outBig m c
abbrev todoBig (c : Dev nD) (p : Fin 4) : sProp 𝕄 := ((c.tc : Thread nD τ).loc main_v1_0) ↦[slab (A := 12656) (B := 1024) p]{fullShare} m ((c.tc : Thread nD τ).loc main_v1_0)

/-- The slab of device `d` once the array of chip `chip c` is there. -/
theorem landedBig {off : Fin 3 → ℕ} (c d : Dev nD) (hd : chipOf d (chip c) = c) (h : off = ![(chip c).val, 0, 0]) (inb)
    (g : Buf (Elt F) ((d.tc : Thread nD τ).loc main_v1_0)) :
    (((d.tc : Thread nD τ).loc main_v1_0) ↦[(slotBig off inb).view.set]{fullShare} ((slotBig off inb).view.write (Elt F) g
        (argBigM.view.read (Elt F) (m ((c.tc : Thread nD τ).loc main_arg0))) Finset.univ) : sProp 𝕄) = doneBig m d (chip c) := by
  unfold doneBig
  rw [← setBig (chip c) h inb]
  refine pointsTo_congr (write_agrees (slotBig off inb).view _ _ _ fun x => ?_)
  show (m ((c.tc : Thread nD τ).loc main_arg0) : S12656x1024.Idx → Elt F .bf16) x = outBig m d ((slotBig off inb).view.emb x)
  rw [show ((slotBig off inb).view.emb x : S4x12656x1024.Idx) = _ from embBig (chip c) h inb x]
  show _ = (m (((chipOf d (chip c)).tc : Thread nD τ).loc main_arg0) : S12656x1024.Idx → Elt F .bf16) (@ix2 12656 1024 (x 0) (x 1))
  rw [hd, ← show x = @ix2 12656 1024 (x 0) (x 1) from eq_ix2 (n0 := 12656) (n1 := 1024) x]

/-- The own array as the kernel names it. -/
theorem argBig_view (c : Dev nD) (q : PosShare TreeShare) :
    ((argBigM.view.loc (c.tc : Thread nD τ) ↦[argBigM.view.set]{q} m ((c.tc : Thread nD τ).loc main_arg0)) : sProp 𝕄) = argBig m c q :=
  congrArg (fun S => (((c.tc : Thread nD τ).loc main_arg0) ↦[S]{q} m ((c.tc : Thread nD τ).loc main_arg0) : sProp 𝕄)) (View.set_whole main_arg0)

/-- A slab of the result as the kernel names it. -/
theorem slotBig_view {off : Fin 3 → ℕ} (p : Fin 4) (h : off = ![p.val, 0, 0]) (inb) (d : Dev nD) :
    ((slotBig off inb).view.loc (d.tc : Thread nD τ) ↦[(slotBig off inb).view.set]{fullShare} m ((d.tc : Thread nD τ).loc main_v1_0) : sProp 𝕄) = todoBig m d p :=
  congrArg (fun S => (((d.tc : Thread nD τ).loc main_v1_0) ↦[S]{fullShare} m ((d.tc : Thread nD τ).loc main_v1_0) : sProp 𝕄)) (setBig p h inb)

/-- The whole result as the slabs listed by peer. -/
theorem slabsBig (c : Dev nD) (f : Buf (Elt F) ((c.tc : Thread nD τ).loc main_v1_0)) :
    (((c.tc : Thread nD τ).loc main_v1_0) ↦{fullShare} f : sProp 𝕄)
      = bigSep Finset.univ fun p => ((c.tc : Thread nD τ).loc main_v1_0) ↦[slab (n := 4) (A := 12656) (B := 1024) p]{fullShare} f := by
  rw [← pointsTo_biUnion Finset.univ _ (fun p _ q _ h => slab_disjoint p q h), biUnion_slab]

abbrev argSmallM : Memref sig .tc .hbm S24x1024 .f32 := Memref.whole main_arg1

/-- The slab at offsets `off`. -/
abbrev slotSmall (off : Fin 3 → ℕ) (inb : ∀ a, off a + S1x24x1024.size a ≤ S4x24x1024.size a) : Memref sig .tc .hbm S24x1024 .f32 :=
  ((Memref.whole main_v1_1 : Memref sig .tc .hbm S4x24x1024 .f32).slice (Rect.unit (s := S4x24x1024) off S1x24x1024.size inb) (fun _ => rfl)).squeeze
    S24x1024 squeezes_S1x24x1024_S24x1024

theorem setSmall {off : Fin 3 → ℕ} (p : Fin 4) (h : off = ![p.val, 0, 0]) (inb) : (slotSmall off inb).view.set = slab (A := 24) (B := 1024) p := by
  refine (View.set_reshape _ _).trans ((View.set_slice_whole main_v1_1 _).trans ?_)
  exact rect_set (n := 4) (A := 24) (B := 1024) p h inb

theorem embSmall {off : Fin 3 → ℕ} (p : Fin 4) (h : off = ![p.val, 0, 0]) (inb) (j : S24x1024.Idx) :
    ((slotSmall off inb).view.emb j : S4x24x1024.Idx) = @ix3 4 24 1024 p (j 0) (j 1) :=
  rect_emb (n := 4) (A := 24) (B := 1024) p h inb _ j

abbrev argSmall (c : Dev nD) (q : PosShare TreeShare) : sProp 𝕄 := ((c.tc : Thread nD τ).loc main_arg1) ↦{q} m ((c.tc : Thread nD τ).loc main_arg1)
abbrev doneSmall (c : Dev nD) (p : Fin 4) : sProp 𝕄 := ((c.tc : Thread nD τ).loc main_v1_1) ↦[slab (A := 24) (B := 1024) p]{fullShare} outSmall m c
abbrev todoSmall (c : Dev nD) (p : Fin 4) : sProp 𝕄 := ((c.tc : Thread nD τ).loc main_v1_1) ↦[slab (A := 24) (B := 1024) p]{fullShare} m ((c.tc : Thread nD τ).loc main_v1_1)

/-- The slab of device `d` once the array of chip `chip c` is there. -/
theorem landedSmall {off : Fin 3 → ℕ} (c d : Dev nD) (hd : chipOf d (chip c) = c) (h : off = ![(chip c).val, 0, 0]) (inb)
    (g : Buf (Elt F) ((d.tc : Thread nD τ).loc main_v1_1)) :
    (((d.tc : Thread nD τ).loc main_v1_1) ↦[(slotSmall off inb).view.set]{fullShare} ((slotSmall off inb).view.write (Elt F) g
        (argSmallM.view.read (Elt F) (m ((c.tc : Thread nD τ).loc main_arg1))) Finset.univ) : sProp 𝕄) = doneSmall m d (chip c) := by
  unfold doneSmall
  rw [← setSmall (chip c) h inb]
  refine pointsTo_congr (write_agrees (slotSmall off inb).view _ _ _ fun x => ?_)
  show (m ((c.tc : Thread nD τ).loc main_arg1) : S24x1024.Idx → Elt F .f32) x = outSmall m d ((slotSmall off inb).view.emb x)
  rw [show ((slotSmall off inb).view.emb x : S4x24x1024.Idx) = _ from embSmall (chip c) h inb x]
  show _ = (m (((chipOf d (chip c)).tc : Thread nD τ).loc main_arg1) : S24x1024.Idx → Elt F .f32) (@ix2 24 1024 (x 0) (x 1))
  rw [hd, ← show x = @ix2 24 1024 (x 0) (x 1) from eq_ix2 (n0 := 24) (n1 := 1024) x]

/-- The own array as the kernel names it. -/
theorem argSmall_view (c : Dev nD) (q : PosShare TreeShare) :
    ((argSmallM.view.loc (c.tc : Thread nD τ) ↦[argSmallM.view.set]{q} m ((c.tc : Thread nD τ).loc main_arg1)) : sProp 𝕄) = argSmall m c q :=
  congrArg (fun S => (((c.tc : Thread nD τ).loc main_arg1) ↦[S]{q} m ((c.tc : Thread nD τ).loc main_arg1) : sProp 𝕄)) (View.set_whole main_arg1)

/-- A slab of the result as the kernel names it. -/
theorem slotSmall_view {off : Fin 3 → ℕ} (p : Fin 4) (h : off = ![p.val, 0, 0]) (inb) (d : Dev nD) :
    ((slotSmall off inb).view.loc (d.tc : Thread nD τ) ↦[(slotSmall off inb).view.set]{fullShare} m ((d.tc : Thread nD τ).loc main_v1_1) : sProp 𝕄) = todoSmall m d p :=
  congrArg (fun S => (((d.tc : Thread nD τ).loc main_v1_1) ↦[S]{fullShare} m ((d.tc : Thread nD τ).loc main_v1_1) : sProp 𝕄)) (setSmall p h inb)

/-- The whole result as the slabs listed by peer. -/
theorem slabsSmall (c : Dev nD) (f : Buf (Elt F) ((c.tc : Thread nD τ).loc main_v1_1)) :
    (((c.tc : Thread nD τ).loc main_v1_1) ↦{fullShare} f : sProp 𝕄)
      = bigSep Finset.univ fun p => ((c.tc : Thread nD τ).loc main_v1_1) ↦[slab (n := 4) (A := 24) (B := 1024) p]{fullShare} f := by
  rw [← pointsTo_biUnion Finset.univ _ (fun p _ q _ h => slab_disjoint p q h), biUnion_slab]

/-- The four shares an array is read at: by the three sends and by the copy. -/
def part : Fin 4 → PosShare TreeShare
  | 0 => fullShare.left.left | 1 => fullShare.left.right | 2 => fullShare.right.left | 3 => fullShare.right.right

theorem shareBig (c : Dev nD) : argBig m c fullShare ⊢ iprop((argBig m c (part 0) ∗ argBig m c (part 1)) ∗ (argBig m c (part 2) ∗ argBig m c (part 3))) :=
  (pointsTo_share fullShare.mem_left_op_right).1.trans
    (BI.sep_mono (pointsTo_share fullShare.left.mem_left_op_right).1 (pointsTo_share fullShare.right.mem_left_op_right).1)

theorem unshareBig (c : Dev nD) : iprop((argBig m c (part 0) ∗ argBig m c (part 1)) ∗ (argBig m c (part 2) ∗ argBig m c (part 3))) ⊢ argBig m c fullShare :=
  (BI.sep_mono (pointsTo_share fullShare.left.mem_left_op_right).2 (pointsTo_share fullShare.right.mem_left_op_right).2).trans
    (pointsTo_share fullShare.mem_left_op_right).2

theorem shareSmall (c : Dev nD) : argSmall m c fullShare ⊢ iprop((argSmall m c (part 0) ∗ argSmall m c (part 1)) ∗ (argSmall m c (part 2) ∗ argSmall m c (part 3))) :=
  (pointsTo_share fullShare.mem_left_op_right).1.trans
    (BI.sep_mono (pointsTo_share fullShare.left.mem_left_op_right).1 (pointsTo_share fullShare.right.mem_left_op_right).1)

theorem unshareSmall (c : Dev nD) : iprop((argSmall m c (part 0) ∗ argSmall m c (part 1)) ∗ (argSmall m c (part 2) ∗ argSmall m c (part 3))) ⊢ argSmall m c fullShare :=
  (BI.sep_mono (pointsTo_share fullShare.left.mem_left_op_right).2 (pointsTo_share fullShare.right.mem_left_op_right).2).trans
    (pointsTo_share fullShare.mem_left_op_right).2

/-! ## The plan -/

abbrev amtBig : ℕ := argBigM.view.dmaCredit
abbrev amtSmall : ℕ := argSmallM.view.dmaCredit

/-- The amount one transfer credits. -/
def amount : Fin 14 → ℕ
  | 0 => amtBig
  | 1 => amtSmall
  | 2 => amtBig
  | 3 => amtSmall
  | 4 => amtBig
  | 5 => amtSmall
  | 6 => amtBig
  | 7 => amtSmall
  | 8 => amtBig
  | 9 => amtSmall
  | 10 => amtBig
  | 11 => amtSmall
  | 12 => amtBig
  | 13 => amtSmall

def pay : Fin 14 → Dev nD → sProp 𝕄
  | 0, c => argBig m c (part 0)
  | 1, c => argSmall m c (part 0)
  | 2, c => argBig m c (part 1)
  | 3, c => argSmall m c (part 1)
  | 4, c => argBig m c (part 2)
  | 5, c => argSmall m c (part 2)
  | 6, c => doneBig m c (chip (hop 4 c))
  | 7, c => doneSmall m c (chip (hop 4 c))
  | 8, c => doneBig m c (chip (hop 2 c))
  | 9, c => doneSmall m c (chip (hop 2 c))
  | 10, c => doneBig m c (chip (hop 6 c))
  | 11, c => doneSmall m c (chip (hop 6 c))
  | 12, c => iprop(doneBig m c (chip c) ∗ argBig m c (part 3))
  | 13, c => iprop(doneSmall m c (chip c) ∗ argSmall m c (part 3))

/-- One semaphore of an array of six, and of two. -/
abbrev sem6 (a : DmaSems sig S6) (i : ℕ) (inb : ∀ b, (![i] : Fin 1 → ℕ) b + S1.size b ≤ S6.size b) : SemLoc sig :=
  .dma ((a.slice (Rect.unit (s := S6) ![i] S1.size inb)).squeeze S_ squeezes_S1_S_).sem
abbrev sem2 (a : DmaSems sig S2) (i : ℕ) (inb : ∀ b, (![i] : Fin 1 → ℕ) b + S1.size b ≤ S2.size b) : SemLoc sig :=
  .dma ((a.slice (Rect.unit (s := S2) ![i] S1.size inb)).squeeze S_ squeezes_S1_S_).sem

/-- Semaphores 0 to 5 are credited by the device's sends, semaphores 6 to 11 by what it receives, semaphores 12 and 13 by
    its copies; an even one by the first array, an odd one by the second. -/
def plan : Plan nD τ sig (Elt F) (Fin 14) where
  osem := fun
    | 0 => sem6 cc0_scratch0 0 inb_S6_S1_0
    | 1 => sem6 cc0_scratch0 1 inb_S6_S1_1
    | 2 => sem6 cc0_scratch0 2 inb_S6_S1_2
    | 3 => sem6 cc0_scratch0 3 inb_S6_S1_3
    | 4 => sem6 cc0_scratch0 4 inb_S6_S1_4
    | 5 => sem6 cc0_scratch0 5 inb_S6_S1_5
    | 6 => sem6 cc0_scratch1 0 inb_S6_S1_0
    | 7 => sem6 cc0_scratch1 1 inb_S6_S1_1
    | 8 => sem6 cc0_scratch1 2 inb_S6_S1_2
    | 9 => sem6 cc0_scratch1 3 inb_S6_S1_3
    | 10 => sem6 cc0_scratch1 4 inb_S6_S1_4
    | 11 => sem6 cc0_scratch1 5 inb_S6_S1_5
    | 12 => sem2 cc0_scratch2 0 inb_S2_S1_0
    | 13 => sem2 cc0_scratch2 1 inb_S2_S1_1
  bij := by decide
  amt := amount
  amt_pos k := by fin_cases k <;> exact View.dmaCredit_pos _ (by decide)
  recv := {6, 7, 8, 9, 10, 11}
  dest := fun | 6 | 7 => hop 4 | 8 | 9 => hop 2 | 10 | 11 => hop 6 | _ => Equiv.refl _
  pay := pay m
  storable k c := by fin_cases k <;> (dsimp only [pay]; infer_instance)

theorem pay_0 (c : Dev nD) : (plan m).pay 0 c = argBig m c (part 0) := rfl
theorem pay_1 (c : Dev nD) : (plan m).pay 1 c = argSmall m c (part 0) := rfl
theorem pay_2 (c : Dev nD) : (plan m).pay 2 c = argBig m c (part 1) := rfl
theorem pay_3 (c : Dev nD) : (plan m).pay 3 c = argSmall m c (part 1) := rfl
theorem pay_4 (c : Dev nD) : (plan m).pay 4 c = argBig m c (part 2) := rfl
theorem pay_5 (c : Dev nD) : (plan m).pay 5 c = argSmall m c (part 2) := rfl
theorem pay_6 (c : Dev nD) : (plan m).pay 6 c = doneBig m c (chip (hop 4 c)) := rfl
theorem pay_7 (c : Dev nD) : (plan m).pay 7 c = doneSmall m c (chip (hop 4 c)) := rfl
theorem pay_8 (c : Dev nD) : (plan m).pay 8 c = doneBig m c (chip (hop 2 c)) := rfl
theorem pay_9 (c : Dev nD) : (plan m).pay 9 c = doneSmall m c (chip (hop 2 c)) := rfl
theorem pay_10 (c : Dev nD) : (plan m).pay 10 c = doneBig m c (chip (hop 6 c)) := rfl
theorem pay_11 (c : Dev nD) : (plan m).pay 11 c = doneSmall m c (chip (hop 6 c)) := rfl
theorem pay_12 (c : Dev nD) : (plan m).pay 12 c = iprop(doneBig m c (chip c) ∗ argBig m c (part 3)) := rfl
theorem pay_13 (c : Dev nD) : (plan m).pay 13 c = iprop(doneSmall m c (chip c) ∗ argSmall m c (part 3)) := rfl
theorem peer_6 (c : Dev nD) : (plan m).pay 6 (hop 4 c) = doneBig m (hop 4 c) (chip c) := by rw [pay_6, hop_hop]
theorem peer_7 (c : Dev nD) : (plan m).pay 7 (hop 4 c) = doneSmall m (hop 4 c) (chip c) := by rw [pay_7, hop_hop]
theorem peer_8 (c : Dev nD) : (plan m).pay 8 (hop 2 c) = doneBig m (hop 2 c) (chip c) := by rw [pay_8, hop_hop]
theorem peer_9 (c : Dev nD) : (plan m).pay 9 (hop 2 c) = doneSmall m (hop 2 c) (chip c) := by rw [pay_9, hop_hop]
theorem peer_10 (c : Dev nD) : (plan m).pay 10 (hop 6 c) = doneBig m (hop 6 c) (chip c) := by rw [pay_10, hop_hop]
theorem peer_11 (c : Dev nD) : (plan m).pay 11 (hop 6 c) = doneSmall m (hop 6 c) (chip c) := by rw [pay_11, hop_hop]

/-- What device `c` starts with: its own arrays, and its slabs of its own results and of the other chips'. -/
def mem (c : Dev nD) : sProp 𝕄 :=
  iprop(argBig m c fullShare ∗ argSmall m c fullShare ∗ (bigSep Finset.univ fun j => todoBig m (hop (mask j) c) (chip c))
    ∗ bigSep Finset.univ fun j => todoSmall m (hop (mask j) c) (chip c))

theorem bufs_eq (c : Dev nD) (V : (b : Ref sig .tc) → Buf (Elt F) ((c.tc : Thread nD τ).loc b)) :
    (unscopedBufs c V : sProp 𝕄) = iprop((((c.tc : Thread nD τ).loc main_arg0) ↦{fullShare} V main_arg0)
      ∗ (((c.tc : Thread nD τ).loc main_arg1) ↦{fullShare} V main_arg1)
      ∗ (bigSep Finset.univ fun p => ((c.tc : Thread nD τ).loc main_v1_0) ↦[slab (n := 4) (A := 12656) (B := 1024) p]{fullShare} V main_v1_0)
      ∗ bigSep Finset.univ fun p => ((c.tc : Thread nD τ).loc main_v1_1) ↦[slab (n := 4) (A := 24) (B := 1024) p]{fullShare} V main_v1_1) := by
  rw [← slabsBig, ← slabsSmall]
  unfold unscopedBufs
  exact bigSep_eq_bigSepL_of_eq [main_arg0, main_arg1, main_v1_0, main_v1_1] (by decide) (by decide) _

theorem deal : (bigSep Finset.univ fun c : Dev nD => unscopedBufs c (fun b => m ((c.tc : Thread nD τ).loc b)) : sProp 𝕄)
    ⊢ bigSep Finset.univ (mem m) := by
  unfold mem
  simp only [bufs_eq, bigSep_sep']
  exact Entails.of_eq (congrArg₂ (fun X Y => iprop((bigSep Finset.univ fun c : Dev nD => argBig m c fullShare)
      ∗ (bigSep Finset.univ fun c : Dev nD => argSmall m c fullShare) ∗ X ∗ Y))
    (deal_slabs chip mask peers (todoBig m)) (deal_slabs chip mask peers (todoSmall m)))

/-- The body's moves. -/
def at_ (n : ℕ) : Stage (Fin 14) :=
  .after {6, 7, 8, 9, 10, 11} [.copy 12, .copy 13, .send 0 6, .send 1 7, .send 2 8, .send 3 9, .send 4 10, .send 5 11,
    .wait 6, .wait 7, .wait 8, .wait 9, .wait 10, .wait 11, .wait 0, .wait 1, .wait 2, .wait 3, .wait 4, .wait 5, .wait 12, .wait 13] n

theorem off1 (c : Dev nD) : k0_off1 c = ![(chip c).val, 0, 0] := (k0_off1_eq c).trans (by revert c; decide)
theorem off2 (c : Dev nD) : k0_off2 c = ![(chip c).val, 0, 0] := (k0_off2_eq c).trans (by revert c; decide)

theorem body (c : Dev nD) (N : Dev nD × Fin 14 → ℕ) :
    iprop((plan m).st N c (at_ 0) ∗ mem m c)
      ⊢ wp frame (wpE (defs₀ (F := F)) Variants.none (c.tc : Thread nD τ) none) Set.univ
          (cc0_gather_chips (Memref.whole main_arg0) (Memref.isWhole_whole _) (Memref.whole main_arg1) (Memref.isWhole_whole _)
            (Memref.whole main_v1_0) (Memref.isWhole_whole _) (Memref.whole main_v1_1) (Memref.isWhole_whole _) cc0_scratch0 cc0_scratch1 cc0_scratch2)
          fun _ => iprop(unscopedBufs c (fin m c) ∗ ownSems0 (plan m).osem c
            ∗ ∃ W', owes (c.tc : Thread nD τ) (0 : CellTallies nD τ sig Unit) W') := by
  simp only [cc0_gather_chips_eq_skeleton]; unfold cc0_gather_chips_skel
  simp only [k0_part1_eq_skeleton, k0_part2_eq_skeleton, k0_part3_eq_skeleton, k0_part4_eq_skeleton, k0_part5_eq_skeleton, k0_part6_eq_skeleton]
  unfold k0_part1_skel k0_part2_skel k0_part3_skel k0_part4_skel k0_part5_skel k0_part6_skel
  simp only [Prog.lift, Prog.bind_op, Prog.bind_ret, Prog.pure_eq_ret, wp_deviceId]
  unfold mem
  rw [four, four, hop_self, show hop (mask 1) c = hop 4 c from rfl, show hop (mask 2) c = hop 2 c from rfl, show hop (mask 3) c = hop 6 c from rfl]
  iintro ⟨Hst, HaBig, HaSmall, ⟨HdBig, HdBig0, HdBig1, HdBig2⟩, ⟨HdSmall, HdSmall0, HdSmall1, HdSmall2⟩⟩
  ihave H := (shareBig m c) $$ HaBig
  icases H with ⟨⟨HaBig0, HaBig1⟩, ⟨HaBig2, HaBig⟩⟩
  ihave H := (shareSmall m c) $$ HaSmall
  icases H with ⟨⟨HaSmall0, HaSmall1⟩, ⟨HaSmall2, HaSmall⟩⟩
  iapply ((plan m).copy (N := N) (c := c) (j := 12) (at_ 0) (at_ 1) (by decide) (by decide) rfl rfl
    (src := argBigM) (dst := slotBig (k0_off1 c) (k0_off1_inb c)) (fs := m ((c.tc : Thread nD τ).loc main_arg0)) (fd := m ((c.tc : Thread nD τ).loc main_v1_0)) (q := part 3)
    (Entails.of_eq (argBig_view m c _).symm) (Entails.of_eq (slotBig_view m (chip c) (off1 c) (k0_off1_inb c) c).symm) rfl
    (BI.sep_mono (Entails.of_eq (landedBig m c c (by revert c; decide) (off1 c) (k0_off1_inb c) _)) (Entails.of_eq (argBig_view m c _)))) $$ [Hst HaBig HdBig]
  · isplitl [Hst]; · iexact Hst
    isplitl [HaBig]; · iexact HaBig
    iexact HdBig
  iintro Hst
  iapply ((plan m).copy (N := N) (c := c) (j := 13) (at_ 1) (at_ 2) (by decide) (by decide) rfl rfl
    (src := argSmallM) (dst := slotSmall (k0_off2 c) (k0_off2_inb c)) (fs := m ((c.tc : Thread nD τ).loc main_arg1)) (fd := m ((c.tc : Thread nD τ).loc main_v1_1)) (q := part 3)
    (Entails.of_eq (argSmall_view m c _).symm) (Entails.of_eq (slotSmall_view m (chip c) (off2 c) (k0_off2_inb c) c).symm) rfl
    (BI.sep_mono (Entails.of_eq (landedSmall m c c (by revert c; decide) (off2 c) (k0_off2_inb c) _)) (Entails.of_eq (argSmall_view m c _)))) $$ [Hst HaSmall HdSmall]
  · isplitl [Hst]; · iexact Hst
    isplitl [HaSmall]; · iexact HaSmall
    iexact HdSmall
  iintro Hst
  iapply ((plan m).send (N := N) (c := c) (ks := 0) (kr := 6) (at_ 2) (at_ 3) (by decide) (by decide) rfl rfl (n := ⟨k0_dev1 c, k0_dev1_lt c⟩) rfl
    (show hop 4 c = _ by revert c; decide) (src := argBigM) (dst := slotBig (k0_off1 c) (k0_off1_inb c))
    (fs := m ((c.tc : Thread nD τ).loc main_arg0)) (fd := m (((hop 4 c).tc : Thread nD τ).loc main_v1_0)) (q := part 0)
    (Entails.of_eq (argBig_view m c _).symm) (Entails.of_eq (slotBig_view m (chip c) (off1 c) (k0_off1_inb c) (hop 4 c)).symm) rfl rfl
    (Entails.of_eq (argBig_view m c _))
    ((Entails.of_eq (landedBig m c (hop 4 c) (by revert c; decide) (off1 c) (k0_off1_inb c) _)).trans (Entails.of_eq (peer_6 m c).symm))) $$ [Hst HaBig0 HdBig0]
  · isplitl [Hst]; · iexact Hst
    isplitl [HaBig0]; · iexact HaBig0
    iexact HdBig0
  iintro Hst
  iapply ((plan m).send (N := N) (c := c) (ks := 1) (kr := 7) (at_ 3) (at_ 4) (by decide) (by decide) rfl rfl (n := ⟨k0_dev2 c, k0_dev2_lt c⟩) rfl
    (show hop 4 c = _ by revert c; decide) (src := argSmallM) (dst := slotSmall (k0_off2 c) (k0_off2_inb c))
    (fs := m ((c.tc : Thread nD τ).loc main_arg1)) (fd := m (((hop 4 c).tc : Thread nD τ).loc main_v1_1)) (q := part 0)
    (Entails.of_eq (argSmall_view m c _).symm) (Entails.of_eq (slotSmall_view m (chip c) (off2 c) (k0_off2_inb c) (hop 4 c)).symm) rfl rfl
    (Entails.of_eq (argSmall_view m c _))
    ((Entails.of_eq (landedSmall m c (hop 4 c) (by revert c; decide) (off2 c) (k0_off2_inb c) _)).trans (Entails.of_eq (peer_7 m c).symm))) $$ [Hst HaSmall0 HdSmall0]
  · isplitl [Hst]; · iexact Hst
    isplitl [HaSmall0]; · iexact HaSmall0
    iexact HdSmall0
  iintro Hst
  iapply ((plan m).send (N := N) (c := c) (ks := 2) (kr := 8) (at_ 4) (at_ 5) (by decide) (by decide) rfl rfl (n := ⟨k0_dev3 c, k0_dev3_lt c⟩) rfl
    (show hop 2 c = _ by revert c; decide) (src := argBigM) (dst := slotBig (k0_off1 c) (k0_off1_inb c))
    (fs := m ((c.tc : Thread nD τ).loc main_arg0)) (fd := m (((hop 2 c).tc : Thread nD τ).loc main_v1_0)) (q := part 1)
    (Entails.of_eq (argBig_view m c _).symm) (Entails.of_eq (slotBig_view m (chip c) (off1 c) (k0_off1_inb c) (hop 2 c)).symm) rfl rfl
    (Entails.of_eq (argBig_view m c _))
    ((Entails.of_eq (landedBig m c (hop 2 c) (by revert c; decide) (off1 c) (k0_off1_inb c) _)).trans (Entails.of_eq (peer_8 m c).symm))) $$ [Hst HaBig1 HdBig1]
  · isplitl [Hst]; · iexact Hst
    isplitl [HaBig1]; · iexact HaBig1
    iexact HdBig1
  iintro Hst
  iapply ((plan m).send (N := N) (c := c) (ks := 3) (kr := 9) (at_ 5) (at_ 6) (by decide) (by decide) rfl rfl (n := ⟨k0_dev4 c, k0_dev4_lt c⟩) rfl
    (show hop 2 c = _ by revert c; decide) (src := argSmallM) (dst := slotSmall (k0_off2 c) (k0_off2_inb c))
    (fs := m ((c.tc : Thread nD τ).loc main_arg1)) (fd := m (((hop 2 c).tc : Thread nD τ).loc main_v1_1)) (q := part 1)
    (Entails.of_eq (argSmall_view m c _).symm) (Entails.of_eq (slotSmall_view m (chip c) (off2 c) (k0_off2_inb c) (hop 2 c)).symm) rfl rfl
    (Entails.of_eq (argSmall_view m c _))
    ((Entails.of_eq (landedSmall m c (hop 2 c) (by revert c; decide) (off2 c) (k0_off2_inb c) _)).trans (Entails.of_eq (peer_9 m c).symm))) $$ [Hst HaSmall1 HdSmall1]
  · isplitl [Hst]; · iexact Hst
    isplitl [HaSmall1]; · iexact HaSmall1
    iexact HdSmall1
  iintro Hst
  iapply ((plan m).send (N := N) (c := c) (ks := 4) (kr := 10) (at_ 6) (at_ 7) (by decide) (by decide) rfl rfl (n := ⟨k0_dev5 c, k0_dev5_lt c⟩) rfl
    (show hop 6 c = _ by revert c; decide) (src := argBigM) (dst := slotBig (k0_off1 c) (k0_off1_inb c))
    (fs := m ((c.tc : Thread nD τ).loc main_arg0)) (fd := m (((hop 6 c).tc : Thread nD τ).loc main_v1_0)) (q := part 2)
    (Entails.of_eq (argBig_view m c _).symm) (Entails.of_eq (slotBig_view m (chip c) (off1 c) (k0_off1_inb c) (hop 6 c)).symm) rfl rfl
    (Entails.of_eq (argBig_view m c _))
    ((Entails.of_eq (landedBig m c (hop 6 c) (by revert c; decide) (off1 c) (k0_off1_inb c) _)).trans (Entails.of_eq (peer_10 m c).symm))) $$ [Hst HaBig2 HdBig2]
  · isplitl [Hst]; · iexact Hst
    isplitl [HaBig2]; · iexact HaBig2
    iexact HdBig2
  iintro Hst
  iapply ((plan m).send (N := N) (c := c) (ks := 5) (kr := 11) (at_ 7) (at_ 8) (by decide) (by decide) rfl rfl (n := ⟨k0_dev6 c, k0_dev6_lt c⟩) rfl
    (show hop 6 c = _ by revert c; decide) (src := argSmallM) (dst := slotSmall (k0_off2 c) (k0_off2_inb c))
    (fs := m ((c.tc : Thread nD τ).loc main_arg1)) (fd := m (((hop 6 c).tc : Thread nD τ).loc main_v1_1)) (q := part 2)
    (Entails.of_eq (argSmall_view m c _).symm) (Entails.of_eq (slotSmall_view m (chip c) (off2 c) (k0_off2_inb c) (hop 6 c)).symm) rfl rfl
    (Entails.of_eq (argSmall_view m c _))
    ((Entails.of_eq (landedSmall m c (hop 6 c) (by revert c; decide) (off2 c) (k0_off2_inb c) _)).trans (Entails.of_eq (peer_11 m c).symm))) $$ [Hst HaSmall2 HdSmall2]
  · isplitl [Hst]; · iexact Hst
    isplitl [HaSmall2]; · iexact HaSmall2
    iexact HdSmall2
  iintro Hst
  iapply ((plan m).wp_wait (N := N) (c := c) (j := 6) (at_ 8) (at_ 9) (by decide) (by decide) rfl rfl) $$ Hst
  iintro ⟨Hst, HdBig0⟩
  ihave HdBig0 := (Entails.of_eq (pay_6 m c)) $$ HdBig0
  iapply ((plan m).wp_wait (N := N) (c := c) (j := 7) (at_ 9) (at_ 10) (by decide) (by decide) rfl rfl) $$ Hst
  iintro ⟨Hst, HdSmall0⟩
  ihave HdSmall0 := (Entails.of_eq (pay_7 m c)) $$ HdSmall0
  iapply ((plan m).wp_wait (N := N) (c := c) (j := 8) (at_ 10) (at_ 11) (by decide) (by decide) rfl rfl) $$ Hst
  iintro ⟨Hst, HdBig1⟩
  ihave HdBig1 := (Entails.of_eq (pay_8 m c)) $$ HdBig1
  iapply ((plan m).wp_wait (N := N) (c := c) (j := 9) (at_ 11) (at_ 12) (by decide) (by decide) rfl rfl) $$ Hst
  iintro ⟨Hst, HdSmall1⟩
  ihave HdSmall1 := (Entails.of_eq (pay_9 m c)) $$ HdSmall1
  iapply ((plan m).wp_wait (N := N) (c := c) (j := 10) (at_ 12) (at_ 13) (by decide) (by decide) rfl rfl) $$ Hst
  iintro ⟨Hst, HdBig2⟩
  ihave HdBig2 := (Entails.of_eq (pay_10 m c)) $$ HdBig2
  iapply ((plan m).wp_wait (N := N) (c := c) (j := 11) (at_ 13) (at_ 14) (by decide) (by decide) rfl rfl) $$ Hst
  iintro ⟨Hst, HdSmall2⟩
  ihave HdSmall2 := (Entails.of_eq (pay_11 m c)) $$ HdSmall2
  iapply ((plan m).wp_wait (N := N) (c := c) (j := 0) (at_ 14) (at_ 15) (by decide) (by decide) rfl rfl) $$ Hst
  iintro ⟨Hst, HaBig0⟩
  ihave HaBig0 := (Entails.of_eq (pay_0 m c)) $$ HaBig0
  iapply ((plan m).wp_wait (N := N) (c := c) (j := 1) (at_ 15) (at_ 16) (by decide) (by decide) rfl rfl) $$ Hst
  iintro ⟨Hst, HaSmall0⟩
  ihave HaSmall0 := (Entails.of_eq (pay_1 m c)) $$ HaSmall0
  iapply ((plan m).wp_wait (N := N) (c := c) (j := 2) (at_ 16) (at_ 17) (by decide) (by decide) rfl rfl) $$ Hst
  iintro ⟨Hst, HaBig1⟩
  ihave HaBig1 := (Entails.of_eq (pay_2 m c)) $$ HaBig1
  iapply ((plan m).wp_wait (N := N) (c := c) (j := 3) (at_ 17) (at_ 18) (by decide) (by decide) rfl rfl) $$ Hst
  iintro ⟨Hst, HaSmall1⟩
  ihave HaSmall1 := (Entails.of_eq (pay_3 m c)) $$ HaSmall1
  iapply ((plan m).wp_wait (N := N) (c := c) (j := 4) (at_ 18) (at_ 19) (by decide) (by decide) rfl rfl) $$ Hst
  iintro ⟨Hst, HaBig2⟩
  ihave HaBig2 := (Entails.of_eq (pay_4 m c)) $$ HaBig2
  iapply ((plan m).wp_wait (N := N) (c := c) (j := 5) (at_ 19) (at_ 20) (by decide) (by decide) rfl rfl) $$ Hst
  iintro ⟨Hst, HaSmall2⟩
  ihave HaSmall2 := (Entails.of_eq (pay_5 m c)) $$ HaSmall2
  iapply ((plan m).wp_wait (N := N) (c := c) (j := 12) (at_ 20) (at_ 21) (by decide) (by decide) rfl rfl) $$ Hst
  iintro ⟨Hst, HBig⟩
  ihave HBig := (Entails.of_eq (pay_12 m c)) $$ HBig
  iapply ((plan m).wp_wait (N := N) (c := c) (j := 13) (at_ 21) (at_ 22) (by decide) (by decide) rfl rfl) $$ Hst
  iintro ⟨Hst, HSmall⟩
  ihave HSmall := (Entails.of_eq (pay_13 m c)) $$ HSmall
  icases HBig with ⟨HdBig, HaBig⟩
  icases HSmall with ⟨HdSmall, HaSmall⟩
  rw [wp_ret]; imodintro
  rw [bufs_eq, fin_arg0, fin_arg1, fin_big, fin_small, slabs_by_peer chip mask peers c (doneBig m c), slabs_by_peer chip mask peers c (doneSmall m c),
    four, four, hop_self, show hop (mask 1) c = hop 4 c from rfl, show hop (mask 2) c = hop 2 c from rfl, show hop (mask 3) c = hop 6 c from rfl]
  isplitl [HaBig HaBig0 HaBig1 HaBig2 HaSmall HaSmall0 HaSmall1 HaSmall2 HdBig HdBig0 HdBig1 HdBig2 HdSmall HdSmall0 HdSmall1 HdSmall2]
  · isplitl [HaBig HaBig0 HaBig1 HaBig2]
    · iapply (unshareBig m c)
      isplitl [HaBig0 HaBig1]
      · isplitl [HaBig0]; · iexact HaBig0
        iexact HaBig1
      · isplitl [HaBig2]; · iexact HaBig2
        iexact HaBig
    isplitl [HaSmall HaSmall0 HaSmall1 HaSmall2]
    · iapply (unshareSmall m c)
      isplitl [HaSmall0 HaSmall1]
      · isplitl [HaSmall0]; · iexact HaSmall0
        iexact HaSmall1
      · isplitl [HaSmall2]; · iexact HaSmall2
        iexact HaSmall
    isplitl [HdBig HdBig0 HdBig1 HdBig2]
    · isplitl [HdBig]; · iexact HdBig
      isplitl [HdBig0]; · iexact HdBig0
      isplitl [HdBig1]; · iexact HdBig1
      iexact HdBig2
    · isplitl [HdSmall]; · iexact HdSmall
      isplitl [HdSmall0]; · iexact HdSmall0
      isplitl [HdSmall1]; · iexact HdSmall1
      iexact HdSmall2
  iapply ((plan m).st_end (N := N) (c := c) (at_ 22) (by decide) (by decide)); iexact Hst

theorem run_main (g : Dev nD → PrngReg) :
    θ_run (defs (F := F)) (onTc (τ := τ) (main (F := F))) ⟨m, fun _ => 0, g⟩ (fun r =>
      (∀ c : Dev nD, r.2.mem ((c.tc : Thread nD τ).loc main_v1_0) = outBig m c
        ∧ r.2.mem ((c.tc : Thread nD τ).loc main_v1_1) = outSmall m c
        ∧ r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0) := by
  refine (θ_run _ _ _).mono (fun r h => ⟨fun c => ⟨?_, ?_, ?_, ?_⟩, h.2⟩)
    ((plan m).run (by decide) cfgs ⟨fun w => w.elim0⟩ N_0 cellOf_inj (defs₀ (F := F)) m g (main (F := F)) (fun _ => rfl) (mem m) (deal m) (fin m)
      fun c t N => body m c N)
  · exact (h.1 c main_v1_0 rfl).trans (fin_big m c)
  · exact (h.1 c main_v1_1 rfl).trans (fin_small m c)
  · exact (h.1 c main_arg0 rfl).trans (fin_arg0 m c)
  · exact (h.1 c main_arg1 rfl).trans (fin_arg1 m c)

end Cert.ChipsRun

end
-- ==== Proof.ChipsClaims.lean ====
/-
  The claims about the gather among the four chips: its frames, its reference's frames, and that each device's results are
  the reference's results, at both readings of the numbers.
-/
module

public import proofs.«01_k».proof.Defs
public import proofs.«01_k».proof.Proof.ChipsRun
public import proofs.«01_k».proof.Proof.GatherValue
public import proofs.«01_k».proof.Proof.Gen.Chips
public import proofs.«01_k».proof.Proof.Gen.ChipsRef
public import proofs.«01_k».proof.Proof.Gen.ChipsRef.Run
public import proofs.«01_k».proof.Proof.Gen.ChipsRefIdeal
public import proofs.«01_k».proof.Proof.Gen.ChipsRefIdeal.Run

@[expose] public section

noncomputable section

namespace Cert.ChipsClaims

open Idealize.ShloMosaic Idealize.ShloMosaic.TcCoe Idealize.SL.Sem Cert.Exchange

theorem chipOf_div (c : Fin 8) (p : Fin 4) : (ChipsRun.chipOf c p).val / 2 = p.val := by revert c p; decide

theorem frame_kernel : Cert.quiescent_Chips := fun m g _ =>
  (θ_run Cert.ChipsIdeal.defs _ _).mono (fun _ h => ⟨fun c => (h.1 c).2.2, h.2⟩) (Cert.ChipsRun.run_main (F := Bits) m g)

theorem frame_ideal : Cert.quiescent_ChipsIdeal := fun m g _ =>
  (θ_run Cert.ChipsIdeal.defs _ _).mono (fun _ h => ⟨fun c => (h.1 c).2.2, h.2⟩) (Cert.ChipsRun.run_main (F := Ideal) m g)

theorem frame_ref : Cert.quiescent_ChipsRef := fun m g _ =>
  (θ_run Cert.ChipsRef.defs _ _).mono (fun r h => ⟨fun c => (h c).2.2, sem_eq_zero_of_no_sems (by decide) r.2⟩)
    (Cert.ChipsRef.Value.run (F := Bits) m g)

theorem frame_refIdeal : Cert.quiescent_ChipsRefIdeal := fun m g _ =>
  (θ_run Cert.ChipsRefIdeal.defs _ _).mono (fun r h => ⟨fun c => (h c).2.2, sem_eq_zero_of_no_sems (by decide) r.2⟩)
    (Cert.ChipsRefIdeal.Value.run (F := Ideal) m g)

theorem algebraic : Cert.algebraic_ChipsIdeal_ChipsRefIdeal := fun m g m' g' _ hm =>
  ⟨_, _, (θ_run Cert.ChipsIdeal.defs _ _).mono (fun _ h c => ⟨
        (h.1 c).1.trans (GatherValue.chips_whole (by decide) (fun d : Dev Cert.ChipsIdeal.nD => m ((d.tc : Thread Cert.ChipsIdeal.nD Cert.ChipsIdeal.τ).loc Cert.ChipsIdeal.main_arg0)) _ _ _
          (fun d => (hm d).1) _ (ChipsRun.chipOf c) (chipOf_div c)),
        (h.1 c).2.1.trans (GatherValue.chips_whole (by decide) (fun d : Dev Cert.ChipsIdeal.nD => m ((d.tc : Thread Cert.ChipsIdeal.nD Cert.ChipsIdeal.τ).loc Cert.ChipsIdeal.main_arg1)) _ _ _
          (fun d => (hm d).2) _ (ChipsRun.chipOf c) (chipOf_div c)),
        (h.1 c).2.2⟩)
      (Cert.ChipsRun.run_main (F := Ideal) m g),
    (θ_run Cert.ChipsRefIdeal.defs _ _).mono (fun _ h => h 0) (Cert.ChipsRefIdeal.Value.run (F := Ideal) m' g')⟩

theorem bitexact : Cert.bitexact_Chips_ChipsRef := fun m g m' g' _ hm =>
  ⟨_, _, (θ_run Cert.ChipsIdeal.defs _ _).mono (fun _ h c => ⟨
        (h.1 c).1.trans (GatherValue.chips_whole (by decide) (fun d : Dev Cert.ChipsIdeal.nD => m ((d.tc : Thread Cert.ChipsIdeal.nD Cert.ChipsIdeal.τ).loc Cert.ChipsIdeal.main_arg0)) _ _ _
          (fun d => (hm d).1) _ (ChipsRun.chipOf c) (chipOf_div c)),
        (h.1 c).2.1.trans (GatherValue.chips_whole (by decide) (fun d : Dev Cert.ChipsIdeal.nD => m ((d.tc : Thread Cert.ChipsIdeal.nD Cert.ChipsIdeal.τ).loc Cert.ChipsIdeal.main_arg1)) _ _ _
          (fun d => (hm d).2) _ (ChipsRun.chipOf c) (chipOf_div c)),
        (h.1 c).2.2⟩)
      (Cert.ChipsRun.run_main (F := Bits) m g),
    (θ_run Cert.ChipsRef.defs _ _).mono (fun _ h => h 0) (Cert.ChipsRef.Value.run (F := Bits) m' g')⟩

end Cert.ChipsClaims

end
-- ==== Proof.AddClaims.lean ====
/-
  The claims about the two sums of the reduce-scatter, of what the two cores hold and of what the four chips hold: a sum over
  blocks of rows is the sum of the whole arrays, at both readings of the numbers.
-/
module

public import proofs.«01_k».proof.Defs
public import proofs.«01_k».proof.Proof.Gen.AddCores
public import proofs.«01_k».proof.Proof.Gen.AddCores.Value
public import proofs.«01_k».proof.Proof.Gen.AddCoresIdeal.Value
public import proofs.«01_k».proof.Proof.Gen.AddCoresRef
public import proofs.«01_k».proof.Proof.Gen.AddCoresRef.Run
public import proofs.«01_k».proof.Proof.Gen.AddCoresRefIdeal
public import proofs.«01_k».proof.Proof.Gen.AddCoresRefIdeal.Run
public import proofs.«01_k».proof.Proof.Gen.AddChips
public import proofs.«01_k».proof.Proof.Gen.AddChips.Value
public import proofs.«01_k».proof.Proof.Gen.AddChipsIdeal.Value
public import proofs.«01_k».proof.Proof.Gen.AddChipsRef
public import proofs.«01_k».proof.Proof.Gen.AddChipsRef.Run
public import proofs.«01_k».proof.Proof.Gen.AddChipsRefIdeal
public import proofs.«01_k».proof.Proof.Gen.AddChipsRefIdeal.Run
public import Idealize.ShloMosaic.Lib.Quiescent

@[expose] public section

noncomputable section

/-! ## The two cores' parts -/

namespace Cert.AddCoresClaims

open Idealize.ShloMosaic Idealize.ShloMosaic.TcCoe Idealize.SL.Sem

theorem frame_kernel : Cert.quiescent_AddCores := fun m g _ => Cert.AddCores.Gen.frame (F := Bits) m g

theorem frame_ideal : Cert.quiescent_AddCoresIdeal := fun m g _ => Cert.AddCoresIdeal.Gen.frame (F := Ideal) m g

theorem frame_refIdeal : Cert.quiescent_AddCoresRefIdeal := fun m g _ =>
  (θ_run Cert.AddCoresRefIdeal.defs _ _).mono (fun r h => ⟨fun c => (h c).2, sem_eq_zero_of_no_sems (by decide) r.2⟩)
    (Cert.AddCoresRefIdeal.Value.run (F := Ideal) m g)

theorem frame_ref : Cert.quiescent_AddCoresRef := fun m g _ =>
  (θ_run Cert.AddCoresRef.defs _ _).mono (fun r h => ⟨fun c => (h c).2, sem_eq_zero_of_no_sems (by decide) r.2⟩)
    (Cert.AddCoresRef.Value.run (F := Bits) m g)

theorem algebraic : Cert.algebraic_AddCoresIdeal_AddCoresRefIdeal := fun m g m' g' _ hm =>
  ⟨_, Cert.AddCoresIdeal.Value.run (F := Ideal) m g,
    (θ_run Cert.AddCoresRefIdeal.defs _ _).mono (fun _ h c => ⟨(h c).1.trans (by rw [(hm c).1, (hm c).2]; rfl), (h c).2⟩)
      (Cert.AddCoresRefIdeal.Value.run (F := Ideal) m' g')⟩

theorem bitexact : Cert.bitexact_AddCores_AddCoresRef := fun m g m' g' _ hm =>
  ⟨_, Cert.AddCores.Value.run (F := Bits) m g,
    (θ_run Cert.AddCoresRef.defs _ _).mono (fun _ h c => ⟨(h c).1.trans (by rw [(hm c).1, (hm c).2]; rfl), (h c).2⟩)
      (Cert.AddCoresRef.Value.run (F := Bits) m' g')⟩

end Cert.AddCoresClaims

/-! ## The four chips' parts -/

namespace Cert.AddChipsClaims

open Idealize.ShloMosaic Idealize.ShloMosaic.TcCoe Idealize.SL.Sem

theorem frame_kernel : Cert.quiescent_AddChips := fun m g _ => Cert.AddChips.Gen.frame (F := Bits) m g

theorem frame_ideal : Cert.quiescent_AddChipsIdeal := fun m g _ => Cert.AddChipsIdeal.Gen.frame (F := Ideal) m g

theorem frame_refIdeal : Cert.quiescent_AddChipsRefIdeal := fun m g _ =>
  (θ_run Cert.AddChipsRefIdeal.defs _ _).mono (fun r h => ⟨fun c => (h c).2, sem_eq_zero_of_no_sems (by decide) r.2⟩)
    (Cert.AddChipsRefIdeal.Value.run (F := Ideal) m g)

theorem frame_ref : Cert.quiescent_AddChipsRef := fun m g _ =>
  (θ_run Cert.AddChipsRef.defs _ _).mono (fun r h => ⟨fun c => (h c).2, sem_eq_zero_of_no_sems (by decide) r.2⟩)
    (Cert.AddChipsRef.Value.run (F := Bits) m g)

theorem algebraic : Cert.algebraic_AddChipsIdeal_AddChipsRefIdeal := fun m g m' g' _ hm =>
  ⟨_, Cert.AddChipsIdeal.Value.run (F := Ideal) m g,
    (θ_run Cert.AddChipsRefIdeal.defs _ _).mono (fun _ h c => ⟨(h c).1.trans (by rw [(hm c).1, (hm c).2.1, (hm c).2.2.1, (hm c).2.2.2]; rfl), (h c).2⟩)
      (Cert.AddChipsRefIdeal.Value.run (F := Ideal) m' g')⟩

theorem bitexact : Cert.bitexact_AddChips_AddChipsRef := fun m g m' g' _ hm =>
  ⟨_, Cert.AddChips.Value.run (F := Bits) m g,
    (θ_run Cert.AddChipsRef.defs _ _).mono (fun _ h c => ⟨(h c).1.trans (by rw [(hm c).1, (hm c).2.1, (hm c).2.2.1, (hm c).2.2.2]; rfl), (h c).2⟩)
      (Cert.AddChipsRef.Value.run (F := Bits) m' g')⟩

end Cert.AddChipsClaims

end
-- ==== Proof.AdamClaims.lean ====
/-
  The claims about the AdamW update, of a chip's shard of the weights and of the weights that every device holds: row block
  by row block the call computes the update of the whole arrays. Over the extended reals the two divisions and the two
  square roots are the same functions.
-/
module

public import proofs.«01_k».proof.Defs
public import proofs.«01_k».proof.Proof.Gen.AdamSplit
public import proofs.«01_k».proof.Proof.Gen.AdamSplit.Frame
public import proofs.«01_k».proof.Proof.Gen.AdamSplitIdeal.Value
public import proofs.«01_k».proof.Proof.Gen.AdamSplitRefIdeal
public import proofs.«01_k».proof.Proof.Gen.AdamSplitRefIdeal.Run
public import proofs.«01_k».proof.Proof.Gen.AdamRep
public import proofs.«01_k».proof.Proof.Gen.AdamRep.Frame
public import proofs.«01_k».proof.Proof.Gen.AdamRepIdeal.Value
public import proofs.«01_k».proof.Proof.Gen.AdamRepRefIdeal
public import proofs.«01_k».proof.Proof.Gen.AdamRepRefIdeal.Run
public import Idealize.ShloMosaic.Lib.Quiescent

@[expose] public section

noncomputable section

/-! ## A chip's shard of the weights -/

namespace Cert.AdamSplitClaims

open Idealize.ShloMosaic Idealize.ShloMosaic.TcCoe Idealize.SL.Sem

theorem frame_kernel : Cert.quiescent_AdamSplit := fun m g _ => Cert.AdamSplit.Gen.frame (F := Bits) m g

theorem frame_ideal : Cert.quiescent_AdamSplitIdeal := fun m g _ => Cert.AdamSplitIdeal.Gen.frame (F := Ideal) m g

theorem frame_refIdeal : Cert.quiescent_AdamSplitRefIdeal := fun m g _ =>
  (θ_run Cert.AdamSplitRefIdeal.defs _ _).mono (fun r h => ⟨fun c => (h c).2.2.2, sem_eq_zero_of_no_sems (by decide) r.2⟩)
    (Cert.AdamSplitRefIdeal.Value.run (F := Ideal) m g)

theorem algebraic : Cert.algebraic_AdamSplitIdeal_AdamSplitRefIdeal := fun m g m' g' _ hm =>
  ⟨_, _, _, Cert.AdamSplitIdeal.Value.run (F := Ideal) m g,
    (θ_run Cert.AdamSplitRefIdeal.defs _ _).mono
      (fun _ h c => ⟨(h c).1.trans (by rw [(hm c).1, (hm c).2.1, (hm c).2.2.1, (hm c).2.2.2]; rfl),
        (h c).2.1.trans (by rw [(hm c).2.1, (hm c).2.2.1]; rfl),
        (h c).2.2.1.trans (by rw [(hm c).2.1, (hm c).2.2.2]; rfl), (h c).2.2.2⟩)
      (Cert.AdamSplitRefIdeal.Value.run (F := Ideal) m' g')⟩

end Cert.AdamSplitClaims

/-! ## The weights that every device holds -/

namespace Cert.AdamRepClaims

open Idealize.ShloMosaic Idealize.ShloMosaic.TcCoe Idealize.SL.Sem

theorem frame_kernel : Cert.quiescent_AdamRep := fun m g _ => Cert.AdamRep.Gen.frame (F := Bits) m g

theorem frame_ideal : Cert.quiescent_AdamRepIdeal := fun m g _ => Cert.AdamRepIdeal.Gen.frame (F := Ideal) m g

theorem frame_refIdeal : Cert.quiescent_AdamRepRefIdeal := fun m g _ =>
  (θ_run Cert.AdamRepRefIdeal.defs _ _).mono (fun r h => ⟨fun c => (h c).2.2.2, sem_eq_zero_of_no_sems (by decide) r.2⟩)
    (Cert.AdamRepRefIdeal.Value.run (F := Ideal) m g)

theorem algebraic : Cert.algebraic_AdamRepIdeal_AdamRepRefIdeal := fun m g m' g' _ hm =>
  ⟨_, _, _, Cert.AdamRepIdeal.Value.run (F := Ideal) m g,
    (θ_run Cert.AdamRepRefIdeal.defs _ _).mono
      (fun _ h c => ⟨(h c).1.trans (by rw [(hm c).1, (hm c).2.1, (hm c).2.2.1, (hm c).2.2.2]; rfl),
        (h c).2.1.trans (by rw [(hm c).2.1, (hm c).2.2.1]; rfl),
        (h c).2.2.1.trans (by rw [(hm c).2.1, (hm c).2.2.2]; rfl), (h c).2.2.2⟩)
      (Cert.AdamRepRefIdeal.Value.run (F := Ideal) m' g')⟩

end Cert.AdamRepClaims

end
-- ==== Proof.RowNorm.lean ====
/-
  The gradient of the root-mean-square norm of one row, over the extended reals: the form that the kernel computes and the
  form that differentiating the norm gives are one function, at infinite entries too.
-/
module

public import Idealize.ShloMosaic.Lib.Pointwise

@[expose] public section

noncomputable section

open Idealize.ShloMosaic

namespace Cert.RowNorm

/-! ## Sums over the extended reals -/

theorem mul_self_nonneg (a : EReal) : 0 ≤ a * a := by
  rcases le_total 0 a with h | h
  · exact mul_nonneg h h
  · have h' : 0 ≤ -a := EReal.neg_nonneg.mpr h
    have := mul_nonneg h' h'
    rwa [neg_mul_neg] at this

/-- A positive real factor goes into any sum. -/
theorem mul_sum {ι : Type*} (s : Finset ι) (c : ℝ) (hc : 0 < c) (f : ι → EReal) :
    (c : EReal) * ∑ i ∈ s, f i = ∑ i ∈ s, (c : EReal) * f i := by
  classical
  induction s using Finset.induction_on with
  | empty => simp
  | insert a s ha ih =>
    rw [Finset.sum_insert ha, Finset.sum_insert ha, ← ih]
    exact EReal.left_distrib_of_nonneg_of_ne_top (EReal.coe_nonneg.mpr hc.le) (EReal.coe_ne_top c) _ _

/-- A sum of terms that are not negative, one of them infinite, is infinite. -/
theorem sum_top {ι : Type*} (s : Finset ι) (f : ι → EReal) (h0 : ∀ i ∈ s, 0 ≤ f i) (i : ι) (hi : i ∈ s) (ht : f i = ⊤) :
    ∑ i ∈ s, f i = ⊤ :=
  top_le_iff.mp (ht ▸ Finset.single_le_sum h0 hi)

theorem coe_sum {ι : Type*} (s : Finset ι) (f : ι → ℝ) : (((∑ i ∈ s, f i : ℝ)) : EReal) = ∑ i ∈ s, (f i : EReal) := by
  classical
  induction s using Finset.induction_on with
  | empty => simp
  | insert a s ha ih => rw [Finset.sum_insert ha, Finset.sum_insert ha, EReal.coe_add, ih]

/-! ## The constants -/

/-- The length of a row. -/
theorem width : Ideal.ofBits .f32 0x44800000#32 = ((1024 : ℝ) : EReal) := by
  simp [Ideal.ofBits, Ideal.ieee, -EReal.coe_mul]; norm_num

theorem width_inv : Ideal.ofBits .f32 0x3A800000#32 = ((1 / 1024 : ℝ) : EReal) := by
  simp [Ideal.ofBits, Ideal.ieee, -EReal.coe_mul]; norm_num

/-- The length of a row as the programs write it: the number itself and its reciprocal. -/
structure Len where
  len : BitVec 32
  inv : BitVec 32
  num : ℝ
  pos : 0 < num
  len_eq : Ideal.ofBits .f32 len = (num : EReal)
  inv_eq : Ideal.ofBits .f32 inv = ((1 / num : ℝ) : EReal)

/-- The rows of the residual stream. -/
abbrev L1024 : Len := ⟨0x44800000#32, 0x3A800000#32, 1024, by norm_num, width, width_inv⟩

/-- The rows of the keys' and values' latent. -/
abbrev L256 : Len := ⟨0x43800000#32, 0x3B800000#32, 256, by norm_num,
  by simp [Ideal.ofBits, Ideal.ieee, -EReal.coe_mul]; norm_num, by simp [Ideal.ofBits, Ideal.ieee, -EReal.coe_mul]; norm_num⟩

theorem minus_half : Ideal.ofBits .f32 0xBF000000#32 = ((-(1 / 2) : ℝ) : EReal) := by
  simp [Ideal.ofBits, Ideal.ieee, -EReal.coe_mul, -EReal.coe_neg]; norm_num

/-- The small constant is a positive real. -/
theorem small : ∃ e : ℝ, 0 < e ∧ Ideal.ofBits .f32 0x358637BD#32 = (e : EReal) := by
  simp [Ideal.ofBits, Ideal.ieee, -EReal.coe_mul]

/-! ## One row -/

variable {n : ℕ} (L : Len)

/-- The mean square of a row plus the small constant: the kernel multiplies by the reciprocal of the row's length. -/
def ms (x : Fin n → EReal) : EReal :=
  (∑ k, x k * x k) * Ideal.ofBits .f32 L.inv + Ideal.ofBits .f32 0x358637BD#32

theorem ms_div (x : Fin n → EReal) :
    Ideal.div (∑ k, x k * x k) (Ideal.ofBits .f32 L.len) + Ideal.ofBits .f32 0x358637BD#32 = ms L x := by
  rw [ms, L.len_eq, L.inv_eq, Ideal.div_coe L.pos.ne']

/-- Where an entry is infinite the reciprocal root is zero. -/
theorem ms_top (x : Fin n → EReal) (k : Fin n) (hk : x k = ⊤ ∨ x k = ⊥) : ms L x = ⊤ := by
  obtain ⟨e, -, he⟩ := small
  have h : x k * x k = ⊤ := by rcases hk with h | h <;> rw [h] <;> rfl
  rw [ms, L.inv_eq, he, sum_top _ _ (fun i _ => mul_self_nonneg (x i)) k (Finset.mem_univ k) h,
    EReal.top_mul_coe_of_pos (one_div_pos.mpr L.pos)]
  rfl

/-- Where every entry is real the mean square plus the small constant is a positive real. -/
theorem ms_real (x : Fin n → ℝ) : ∃ s : ℝ, 0 < s ∧ ms L (fun k => (x k : EReal)) = (s : EReal) := by
  obtain ⟨e, he, he'⟩ := small
  refine ⟨(∑ k, x k * x k) * (1 / L.num) + e, ?_, ?_⟩
  · have : 0 ≤ ∑ k, x k * x k := Finset.sum_nonneg fun k _ => _root_.mul_self_nonneg (x k)
    have := L.pos
    positivity
  · rw [ms, L.inv_eq, he', EReal.coe_add, EReal.coe_mul, coe_sum]
    simp only [EReal.coe_mul]

theorem add_self (a : EReal) : a + a = ((2 : ℝ) : EReal) * a := by
  rcases lt_trichotomy a 0 with h | h | h
  · induction a with
    | bot => rw [EReal.coe_mul_bot_of_pos (by norm_num)]; rfl
    | top => exact absurd h (by simp)
    | coe r => rw [← EReal.coe_add, ← EReal.coe_mul, two_mul]
  · subst h; simp
  · induction a with
    | bot => exact absurd h (by simp)
    | top => rw [EReal.coe_mul_top_of_pos (by norm_num)]; rfl
    | coe r => rw [← EReal.coe_add, ← EReal.coe_mul, two_mul]

/-- What the kernel computes for one entry of the row, before the residual is added. -/
def kernelForm (x d : Fin n → EReal) (l : Fin n) : EReal :=
  Ideal.rsqrt (ms L x) * (d l - x l * Ideal.rsqrt (ms L x) * ((∑ k, d k * (x k * Ideal.rsqrt (ms L x))) * Ideal.ofBits .f32 L.inv))

/-- The cotangent of the squares of the row, as differentiating the norm gives it. -/
def cot (x d : Fin n → EReal) : EReal :=
  Ideal.div ((∑ k, x k * d k) * (Ideal.ofBits .f32 0xBF000000#32 * Ideal.div (Ideal.rsqrt (ms L x)) (ms L x))) (Ideal.ofBits .f32 L.len)

/-- What differentiating the norm gives for one entry of the row. -/
def vjpForm (x d : Fin n → EReal) (l : Fin n) : EReal :=
  d l * Ideal.rsqrt (ms L x) + x l * cot L x d + cot L x d * x l

/-- The two forms are one function. -/
theorem kernelForm_eq (x d : Fin n → EReal) (l : Fin n) : kernelForm L x d l = vjpForm L x d l := by
  by_cases hx : ∃ k, x k = ⊤ ∨ x k = ⊥
  · obtain ⟨k, hk⟩ := hx
    have hd : Ideal.div 0 ⊤ = 0 := by rw [Ideal.div, if_neg EReal.top_ne_zero, zero_mul]
    have hw : Ideal.div 0 (Ideal.ofBits .f32 L.len) = 0 := by
      rw [L.len_eq, Ideal.div_coe L.pos.ne', zero_mul]
    simp only [kernelForm, vjpForm, cot, ms_top L x k hk, Ideal.rsqrt_top, hd, hw, mul_zero, zero_mul, add_zero]
  · have hr : ∀ k, ∃ r : ℝ, x k = (r : EReal) := fun k => by
      have h := not_exists.mp hx k
      rw [not_or] at h
      exact ⟨(x k).toReal, (EReal.coe_toReal h.1 h.2).symm⟩
    choose y hy using hr
    obtain rfl : x = fun k => (y k : EReal) := funext hy
    obtain ⟨s, hs, hms⟩ := ms_real L y
    have hq : 0 < Real.sqrt s := Real.sqrt_pos.mpr hs
    obtain ⟨q, hqd⟩ : ∃ q : ℝ, q = (Real.sqrt s)⁻¹ := ⟨_, rfl⟩
    have hq0 : 0 < q := hqd ▸ inv_pos.mpr hq
    have hqq : q * q = 1 / s := by
      rw [hqd, ← mul_inv, Real.mul_self_sqrt hs.le, one_div]
    have hrs : Ideal.rsqrt (ms L fun k => (y k : EReal)) = (q : EReal) := by
      rw [hms, Ideal.rsqrt_coe, if_neg hs.not_gt, if_neg hs.ne', hqd]
    obtain ⟨T, hT⟩ : ∃ T : EReal, T = ∑ k, (y k : EReal) * d k := ⟨_, rfl⟩
    have hsum : ∑ k, d k * ((y k : EReal) * (q : EReal)) = (q : EReal) * T := by
      rw [hT, mul_sum _ _ hq0]
      exact Finset.sum_congr rfl fun k _ => by ac_rfl
    have hcot : cot L (fun k => (y k : EReal)) d = ((-(1 / 2) * (q * (1 / s)) * (1 / L.num) : ℝ) : EReal) * T := by
      rw [cot, hrs, hms, L.len_eq, minus_half, Ideal.div_coe L.pos.ne', Ideal.div_coe hs.ne', ← hT,
        EReal.coe_mul (-(1 / 2) * (q * (1 / s))), EReal.coe_mul (-(1 / 2)), EReal.coe_mul q]
      ac_rfl
    have hl : kernelForm L (fun k => (y k : EReal)) d l
        = (q : EReal) * d l + ((-(q * (y l * q * (q * (1 / L.num)))) : ℝ) : EReal) * T := by
      rw [kernelForm, hrs, hsum, L.inv_eq, sub_eq_add_neg,
        EReal.left_distrib_of_nonneg_of_ne_top (EReal.coe_nonneg.mpr hq0.le) (EReal.coe_ne_top q), mul_neg, EReal.coe_neg, neg_mul,
        EReal.coe_mul q (y l * q * (q * (1 / L.num))), EReal.coe_mul (y l * q), EReal.coe_mul (y l), EReal.coe_mul q (1 / L.num)]
      generalize ((1 / L.num : ℝ) : EReal) = w
      refine congrArg (fun z : EReal => (q : EReal) * d l + -z) ?_
      ac_rfl
    have hrr : vjpForm L (fun k => (y k : EReal)) d l
        = (q : EReal) * d l + ((2 * (y l * (-(1 / 2) * (q * (1 / s)) * (1 / L.num))) : ℝ) : EReal) * T := by
      rw [vjpForm, hrs, hcot, mul_comm (d l), add_assoc, mul_comm (((-(1 / 2) * (q * (1 / s)) * (1 / L.num) : ℝ) : EReal) * T),
        add_self, ← mul_assoc (y l : EReal), ← EReal.coe_mul, ← mul_assoc, ← EReal.coe_mul]
    rw [hl, hrr]
    refine congrArg (fun z : ℝ => (q : EReal) * d l + (z : EReal) * T) ?_
    rw [← hqq]
    ring

end Cert.RowNorm
-- ==== Proof.GradXPure.lean ====
/-
  The gradient of the root-mean-square norm: what one row block of the kernel stores and what the reference computes, entry
  by entry, over the extended reals.
-/
module

public import proofs.«01_k».proof.Defs
public import proofs.«01_k».proof.Proof.Gen.GradXIdeal.Value
public import proofs.«01_k».proof.Proof.Gen.GradXRefIdeal.Run
public import proofs.«01_k».proof.Proof.RowNorm
public import Idealize.ShloMosaic.Lib.Pointwise

@[expose] public section

set_option maxRecDepth 16384

noncomputable section

open Idealize.ShloMosaic Idealize.ShloMosaic.TcCoe Idealize.SL.Sem

namespace Cert.GradXPure

open Cert.RowNorm

section
open Cert.GradXIdeal Cert.GradXIdeal.Gen

/-- An entry of the row block's gradient is the kernel's form at its row. -/
theorem pay5_at (x d res : FVec Ideal S256x1024 .f32) (g : FVec Ideal S1x1024 .f32) (r : Fin 256) (l : Fin 1024) :
    k0_pay5 (F := Ideal) x d res g (ix2 r l)
      = kernelForm L1024 (fun k => x (ix2 r k)) (fun k => d (ix2 r k) * g (ix2 0 k)) l + res (ix2 r l) := by
  pointwise [k0_pay5, k0_pay3, k0_pay2]
  rfl

/-- An entry of the row block's gain gradient is a sum over its rows. -/
theorem pay4_at (x d : FVec Ideal S256x1024 .f32) (l : Fin 1024) :
    k0_pay4 (F := Ideal) x d (ix2 0 l)
      = ∑ r : Fin 256, d (ix2 r l) * (x (ix2 r l) * Ideal.rsqrt (ms L1024 fun k => x (ix2 r k))) := by
  pointwise [k0_pay4, k0_pay3, k0_pay2]
  rfl

end

section
open Cert.GradXRefIdeal Cert.GradXRefIdeal.Gen

/-- The mean square of each row plus the small constant, as the reference computes it. -/
def MS (x : FVec Ideal S8192x1024 .f32) : FVec Ideal S8192x1 .f32 :=
  addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32))

/-- The cotangent of the squares of each row, as the reference computes it. -/
def CT (x : FVec Ideal S8192x1024 .f32) (g : FVec Ideal S1x1024 .f32) (d : FVec Ideal S8192x1024 .f32) : FVec Ideal S8192x1024 .f32 :=
  broadcastInDim S8192x1024 ![0] bcast_S8192_S8192x1024_0 (Host.reduceAdd (Host.divf (mulf (shapeCast _ (Host.reduceAdd (mulf x (mulf d (broadcastInDim S8192x1024 ![0, 1] bcast_S1x1024_S8192x1024_0_1 g))) (constant S_ .f32 0x00000000#32) reducesTo_S8192x1024_S8192_d1 h_S_) shapeCasts_S8192_S8192x1) (mulf (broadcastInDim S8192x1 ![] bcast_S_S8192x1 (constant S_ .f32 0xBF000000#32)) (Host.divf (Host.rsqrt (MS x)) (MS x)))) (broadcastInDim S8192x1 ![] bcast_S_S8192x1 (constant S_ .f32 0x44800000#32))) (constant S_ .f32 0x00000000#32) reducesTo_S8192x1_S8192_d1 h_S_)

/-- The first result of the reference. -/
def DX (x : FVec Ideal S8192x1024 .f32) (g : FVec Ideal S1x1024 .f32) (d res : FVec Ideal S8192x1024 .f32) : FVec Ideal S8192x1024 .f32 :=
  addf (addf (addf (mulf (mulf d (broadcastInDim S8192x1024 ![0, 1] bcast_S1x1024_S8192x1024_0_1 g)) (broadcastInDim S8192x1024 ![0, 1] bcast_S8192x1_S8192x1024_0_1 (Host.rsqrt (MS x)))) (mulf x (CT x g d))) (mulf (CT x g d) x)) res

/-- The second result of the reference. -/
def DG (x d : FVec Ideal S8192x1024 .f32) : FVec Ideal S1x1024 .f32 :=
  shapeCast _ (Host.reduceAdd (mulf (mulf x (broadcastInDim S8192x1024 ![0, 1] bcast_S8192x1_S8192x1024_0_1 (Host.rsqrt (MS x)))) d) (constant S_ .f32 0x00000000#32) reducesTo_S8192x1024_S1024_d0 h_S_) shapeCasts_S1024_S1x1024

/-- An entry of the first result is the form that differentiating the norm gives, at its row. -/
theorem DX_at (x d res : FVec Ideal S8192x1024 .f32) (g : FVec Ideal S1x1024 .f32) (r : Fin 8192) (l : Fin 1024) :
    DX x g d res (ix2 r l)
      = vjpForm L1024 (fun k => x (ix2 r k)) (fun k => d (ix2 r k) * g (ix2 0 k)) l + res (ix2 r l) := by
  pointwise [DX, CT, MS]
  rw [ms_div L1024 fun k => x (ix2 r k), Fin.sum_univ_one]
  rfl

/-- An entry of the second result is the sum over all rows. -/
theorem DG_at (x d : FVec Ideal S8192x1024 .f32) (l : Fin 1024) :
    DG x d (ix2 0 l)
      = ∑ r : Fin 8192, d (ix2 r l) * (x (ix2 r l) * Ideal.rsqrt (ms L1024 fun k => x (ix2 r k))) := by
  pointwise [DG, MS]
  refine Finset.sum_congr rfl fun r _ => ?_
  rw [ms_div L1024 fun k => x (ix2 r k), mul_comm]

end

end Cert.GradXPure
-- ==== Proof.GradXValue.lean ====
/-
  What the gradient of the mixer's norm leaves in its two arrays: the gradient row block by row block, the gain's gradient
  as the running sum over the row blocks.
-/
module

public import proofs.«01_k».proof.Proof.GradXPure
public import Idealize.ShloMosaic.Lib.Pipeline.Value
public import Idealize.ShloMosaic.Lib.Tactic

@[expose] public section

set_option maxRecDepth 16384

noncomputable section

namespace Cert.GradXIdeal.Fold

open Idealize.ShloMosaic Idealize.ShloMosaic.TcCoe Idealize.SL.Sem
open Idealize.ShloMosaic.Pipeline (Dat)
open Cert.GradXIdeal Cert.GradXIdeal.Gen

section
variable {F : FTy → Type} [FloatOps F]

theorem hz : (![0, 0] : Fin 2 → Nat) = fun _ => 0 := funext fun a => by fin_cases a <;> rfl

variable (c : Dev nD) (i : grid0.Coords) (a1 : Memref sig .tc .vmem S256x1024 .f32) (h1 : a1.IsWhole)
  (a2 : Memref sig .tc .vmem S256x1024 .f32) (h2 : a2.IsWhole) (a3 : Memref sig .tc .vmem S256x1024 .f32) (h3 : a3.IsWhole)
  (a4 : Memref sig .tc .vmem S1x1024 .f32) (h4 : a4.IsWhole) (a5 : Memref sig .tc .vmem S256x1024 .f32) (h5 : a5.IsWhole)
  (a6 : Memref sig .tc .vmem S1x1024 .f32) (h6 : a6.IsWhole)
  (x d res : Vec F S256x1024 .f32) (g : Vec F S1x1024 .f32) (acc : Vec F S1x1024 .f32)

theorem out_A_4 (hc0 : cond0_0 i) (hc1 : ¬cond0_1 i) :
    out0_A_4 c i a1 h1 a2 h2 a3 h3 a4 h4 a5 h5 a6 h6 hc0 hc1 x d res g = k0_pay5 x d res g := by
  unfold out0_A_4
  rw [View.read_writes_eq_canon _ _ _ (cover0_A_4 c i a1 h1 a2 h2 a3 h3 a4 h4 a5 h5 a6 h6 hc0 hc1 x d res g)]
  unfold kernelRun0_A
  dsimp only
  rw [View.canon_unit_zero hz]
  simp only [View.readAt_eq_ld, h1.read_unread, h2.read_unread, h3.read_unread, h4.read_unread, View.ld_unit_zero (S := S256x1024) hz,
    View.ld_unit_zero (S := S1x1024) hz]

theorem out_A_5 (hc0 : cond0_0 i) (hc1 : ¬cond0_1 i) :
    out0_A_5 c i a1 h1 a2 h2 a3 h3 a4 h4 a5 h5 a6 h6 hc0 hc1 x d res g = k0_pay4 x d := by
  unfold out0_A_5
  rw [View.read_writes_eq_canon _ _ _ (cover0_A_5 c i a1 h1 a2 h2 a3 h3 a4 h4 a5 h5 a6 h6 hc0 hc1 x d res g)]
  unfold kernelRun0_A
  dsimp only
  rw [View.canon_unit_zero hz]
  simp only [View.readAt_eq_ld, h1.read_unread, h2.read_unread, View.ld_unit_zero (S := S256x1024) hz]

theorem out_B_4 (hc0 : ¬cond0_0 i) (hc1 : cond0_1 i) :
    out0_B_4 c i a1 h1 a2 h2 a3 h3 a4 h4 a5 h5 a6 h6 hc0 hc1 x d res g acc = k0_pay5 x d res g := by
  unfold out0_B_4
  rw [View.read_writes_eq_canon _ _ _ (cover0_B_4 c i a1 h1 a2 h2 a3 h3 a4 h4 a5 h5 a6 h6 hc0 hc1 x d res g acc)]
  unfold kernelRun0_B
  dsimp only
  rw [View.canon_unit_zero hz]
  simp only [View.readAt_eq_ld, h1.read_unread, h2.read_unread, h3.read_unread, h4.read_unread, View.ld_unit_zero (S := S256x1024) hz,
    View.ld_unit_zero (S := S1x1024) hz]

theorem out_B_5 (hc0 : ¬cond0_0 i) (hc1 : cond0_1 i) :
    out0_B_5 c i a1 h1 a2 h2 a3 h3 a4 h4 a5 h5 a6 h6 hc0 hc1 x d res g acc = addf acc (k0_pay4 x d) := by
  unfold out0_B_5
  rw [View.read_writes_eq_canon _ _ _ (cover0_B_5 c i a1 h1 a2 h2 a3 h3 a4 h4 a5 h5 a6 h6 hc0 hc1 x d res g acc)]
  unfold kernelRun0_B
  dsimp only
  rw [View.canon_unit_zero hz]
  sl_unfold_words
  unfold k0_pay1
  simp only [View.readAt_eq_ld, h1.read_unread, h2.read_unread, h6.read_unread, View.ld_unit_zero (S := S256x1024) hz,
    View.ld_unit_zero (S := S1x1024) hz, shapeCast_self]

end

variable (m : (ℓ : Loc nD τ sig) → Buf (Elt Ideal) ℓ) (ρ : Dev nD → PrngReg)

open Cert.RowNorm Cert.GradXPure

/-- Row `r` of row block `t`, in the whole array. -/
abbrev row (t : Fin cfg0.N) (r : Fin 256) : Fin 8192 := ⟨t.val * 256 + r.val, by have := t.isLt; have : cfg0.N = 32 := N_0; omega⟩

/-- The arrays as the call finds them: the activations, the gain, the cotangent of the norm's output, the residual's. -/
abbrev X (c : Dev nD) : FVec Ideal S8192x1024 .f32 := V m c main_arg0
abbrev G (c : Dev nD) : FVec Ideal S1x1024 .f32 := V m c main_arg1
abbrev D (c : Dev nD) : FVec Ideal S8192x1024 .f32 := V m c main_arg2
abbrev R (c : Dev nD) : FVec Ideal S8192x1024 .f32 := V m c main_arg3

/-- Row block `t` of each, and the gain. -/
abbrev xb (c : Dev nD) (t : Fin cfg0.N) : FVec Ideal S256x1024 .f32 := iblk m c 0 t
abbrev db (c : Dev nD) (t : Fin cfg0.N) : FVec Ideal S256x1024 .f32 := iblk m c 1 t
abbrev rb (c : Dev nD) (t : Fin cfg0.N) : FVec Ideal S256x1024 .f32 := iblk m c 2 t
abbrev gb (c : Dev nD) (t : Fin cfg0.N) : FVec Ideal S1x1024 .f32 := iblk m c 3 t

/-- At step `t` the blocks of the activations, of the two cotangents and of the gradient are row block `t`; the gain's blocks stay. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = 0 ∧ win0_5.index t (1 : Fin 2) = 0 :=
  (by decide +kernel : ∀ t : Fin grid0.N, _)

theorem blk0 (c : Dev nD) (t : Fin cfg0.N) (r : Fin 256) (l : Fin 1024) :
    (xb m c t) (ix2 r l) = X m c (ix2 (row t r) l) := by
  unfold xb iblk
  rw [View.read_apply]
  show V m c main_arg0 _ = _
  congr 1
  obtain ⟨e0, e1, _⟩ := idx_facts t
  funext a; apply Fin.ext
  match a with
  | ⟨0, _⟩ => show win0_0.index t 0 * 256 + 1 * r.val = t.val * 256 + r.val; rw [e0]; omega
  | ⟨1, _⟩ => show win0_0.index t 1 * 1024 + 1 * l.val = l.val; rw [e1]; omega

theorem blk1 (c : Dev nD) (t : Fin cfg0.N) (r : Fin 256) (l : Fin 1024) :
    (db m c t) (ix2 r l) = D m c (ix2 (row t r) l) := by
  unfold db iblk
  rw [View.read_apply]
  show V m c main_arg2 _ = _
  congr 1
  obtain ⟨_, _, e0, e1, _⟩ := idx_facts t
  funext a; apply Fin.ext
  match a with
  | ⟨0, _⟩ => show win0_1.index t 0 * 256 + 1 * r.val = t.val * 256 + r.val; rw [e0]; omega
  | ⟨1, _⟩ => show win0_1.index t 1 * 1024 + 1 * l.val = l.val; rw [e1]; omega

theorem blk2 (c : Dev nD) (t : Fin cfg0.N) (r : Fin 256) (l : Fin 1024) :
    (rb m c t) (ix2 r l) = R m c (ix2 (row t r) l) := by
  unfold rb iblk
  rw [View.read_apply]
  show V m c main_arg3 _ = _
  congr 1
  obtain ⟨_, _, _, _, e0, e1, _⟩ := idx_facts t
  funext a; apply Fin.ext
  match a with
  | ⟨0, _⟩ => show win0_2.index t 0 * 256 + 1 * r.val = t.val * 256 + r.val; rw [e0]; omega
  | ⟨1, _⟩ => show win0_2.index t 1 * 1024 + 1 * l.val = l.val; rw [e1]; omega

theorem blk3 (c : Dev nD) (t : Fin cfg0.N) (l : Fin 1024) :
    (gb m c t) (ix2 0 l) = G m c (ix2 0 l) := by
  unfold gb iblk
  rw [View.read_apply]
  show V m c main_arg1 _ = _
  congr 1
  obtain ⟨_, _, _, _, _, _, e0, e1, _⟩ := idx_facts t
  funext a; apply Fin.ext
  match a with
  | ⟨0, _⟩ => show win0_3.index t 0 * 1 + 1 * 0 = 0; rw [e0]
  | ⟨1, _⟩ => show win0_3.index t 1 * 1024 + 1 * l.val = l.val; rw [e1]; omega

/-- After every step the gradient's block is the norm's gradient of that step's row block. -/
theorem outs1 (c : Dev nD) (t : Fin cfg0.N) :
    (outsAt0 m c t.val t.isLt).1 = k0_pay5 (F := Ideal) (xb m c t) (db m c t)
      (rb m c t) (gb m c t) := by
  have hN : cfg0.N = 32 := N_0
  have := t.isLt
  by_cases h : t.val = 0
  · rw [outsAt0_A m c t (by omega) (by omega)]
    dsimp only
    rw [out_A_4]
  · rw [outsAt0_B m c t (by omega) (by omega)]
    dsimp only
    rw [out_B_4]

/-- The gain's gradient over row block `t`. -/
def part (c : Dev nD) (t : Fin cfg0.N) (l : Fin 1024) : EReal :=
  ∑ r : Fin 256, D m c (ix2 (row t r) l)
    * (X m c (ix2 (row t r) l) * Ideal.rsqrt (ms L1024 fun k => X m c (ix2 (row t r) k)))

theorem part_eq (c : Dev nD) (t : Fin cfg0.N) (l : Fin 1024) :
    k0_pay4 (F := Ideal) (xb m c t) (db m c t) (ix2 0 l) = part m c t l := by
  rw [pay4_at]
  simp only [blk0, blk1]
  rfl

/-- After step `n` the gain's gradient holds the sum over the row blocks up to `n`. -/
theorem outs2 (c : Dev nD) (l : Fin 1024) : ∀ (n : ℕ) (h : n < cfg0.N),
    (outsAt0 m c n h).2 (ix2 0 l) = ∑ k : Fin (n + 1), part m c ⟨k.val, by omega⟩ l
  | 0, h => by
    rw [outsAt0_A m c ⟨0, h⟩ (Nat.zero_mod _) (Nat.not_succ_le_zero 0)]
    dsimp only
    rw [out_A_5]
    refine (part_eq m c ⟨0, h⟩ l).trans ?_
    exact (Fin.sum_univ_one (fun k : Fin 1 => part m c ⟨k.val, by omega⟩ l)).symm
  | n + 1, h => by
    have hN : cfg0.N = 32 := N_0
    rw [outsAt0_B m c ⟨n + 1, h⟩ (by dsimp only; omega) (by dsimp only; omega)]
    dsimp only
    rw [out_B_5, Fin.sum_univ_castSucc]
    show (outsAt0 m c n _).2 (ix2 0 l) + k0_pay4 (F := Ideal) (xb m c ⟨n + 1, h⟩) (db m c ⟨n + 1, h⟩) (ix2 0 l) = _
    rw [part_eq, outs2 c l n (by omega)]
    rfl

/-- The gradient's array after the run. -/
theorem final4 (c : Dev nD) : (dats m 0 c).arrAt 4 cfg0.N
    = DX (X m c) (G m c) (D m c) (R m c) := by
  refine (dats m 0 c).arrAt_eq_of_cover 4 _ (fun t _ => ?_) fun i => ?_
  · rw [Value.flushed4, outs1]
    funext j
    obtain ⟨r, l, rfl⟩ : ∃ (r : Fin 256) (l : Fin 1024), j = ix2 r l := ⟨j 0, j 1, eq_ix2 (n0 := 256) (n1 := 1024) j⟩
    rw [View.read_apply]
    have e : ((cfg0.win 4).blk t).view.emb (ix2 r l) = ix2 (row t r) l := by
      obtain ⟨_, _, _, _, _, _, _, _, e0, e1, _⟩ := idx_facts t
      funext a; apply Fin.ext
      match a with
      | ⟨0, _⟩ => show win0_4.index t 0 * 256 + 1 * r.val = t.val * 256 + r.val; rw [e0]; omega
      | ⟨1, _⟩ => show win0_4.index t 1 * 1024 + 1 * l.val = l.val; rw [e1]; omega
    rw [e]
    refine Eq.trans ?_ (DX_at ..).symm
    refine (pay5_at _ _ _ _ r l).trans ?_
    simp only [blk0, blk1, blk2, blk3]
    rw [kernelForm_eq]
  · have hi0 : (i 0 : Nat) < 8192 := (i 0).isLt
    have hi1 : (i 1 : Nat) < 1024 := (i 1).isLt
    have hN : cfg0.N = 32 := N_0
    let t : Fin cfg0.N := ⟨(i 0 : Nat) / 256, by omega⟩
    refine ⟨t, flush0_4 t, ?_⟩
    show i ∈ ((View.whole main_v0_0).slice (win0_4.rect t)).set
    rw [View.set_slice_whole, Rect.mem_set_unit]
    obtain ⟨_, _, _, _, _, _, _, _, e0, e1, _⟩ := idx_facts t
    have ht : t.val = (i 0 : Nat) / 256 := rfl
    intro a
    match a with
    | ⟨0, _⟩ => show win0_4.index t 0 * 256 ≤ (i 0 : Nat) ∧ (i 0 : Nat) < win0_4.index t 0 * 256 + 256; rw [e0]; omega
    | ⟨1, _⟩ => show win0_4.index t 1 * 1024 ≤ (i 1 : Nat) ∧ (i 1 : Nat) < win0_4.index t 1 * 1024 + 1024; rw [e1]; omega

/-- The sum over the 32 row blocks is the sum over all rows. -/
theorem parts (c : Dev nD) (l : Fin 1024) (h : ∀ k : Fin 32, k.val < cfg0.N) :
    ∑ k : Fin 32, part m c ⟨k.val, h k⟩ l = DG (X m c) (D m c) (ix2 0 l) := by
  rw [DG_at]
  exact (Fin.sum_univ_tiles 32 256 rfl fun r : Fin 8192 => D m c (ix2 r l) * (X m c (ix2 r l) * Ideal.rsqrt (ms L1024 fun k => X m c (ix2 r k)))).symm

/-- The gain's gradient after the run. -/
theorem final5 (c : Dev nD) : (dats m 0 c).arrAt 5 cfg0.N = DG (X m c) (D m c) := by
  have hN : cfg0.N = 32 := N_0
  refine (dats m 0 c).arrAt_eq_of_cover 5 _ (fun t hf => ?_) fun i => ?_
  · have h31 : t.val = 31 := by have := (flush0_5 t).mp hf; have := t.isLt; omega
    rw [Value.flushed5]
    funext j
    obtain ⟨r, l, rfl⟩ : ∃ (r : Fin 1) (l : Fin 1024), j = ix2 r l := ⟨j 0, j 1, eq_ix2 (n0 := 1) (n1 := 1024) j⟩
    obtain rfl : r = 0 := Subsingleton.elim _ _
    rw [View.read_apply]
    have e : ((cfg0.win 5).blk t).view.emb (ix2 0 l) = ix2 0 l := by
      obtain ⟨_, _, _, _, _, _, _, _, _, _, e0, e1⟩ := idx_facts t
      funext a; apply Fin.ext
      match a with
      | ⟨0, _⟩ => show win0_5.index t 0 * 1 + 1 * 0 = 0; rw [e0]
      | ⟨1, _⟩ => show win0_5.index t 1 * 1024 + 1 * l.val = l.val; rw [e1]; omega
    rw [e]
    refine Eq.trans ?_ (parts m c l fun k => by omega)
    obtain ⟨n, hn⟩ := t
    obtain rfl : n = 31 := h31
    exact outs2 m c l 31 hn
  · have hi0 : (i 0 : Nat) < 1 := (i 0).isLt
    have hi1 : (i 1 : Nat) < 1024 := (i 1).isLt
    let t : Fin cfg0.N := ⟨31, by omega⟩
    refine ⟨t, (flush0_5 t).mpr rfl, ?_⟩
    show i ∈ ((View.whole main_v0_1).slice (win0_5.rect t)).set
    rw [View.set_slice_whole, Rect.mem_set_unit]
    obtain ⟨_, _, _, _, _, _, _, _, _, _, e0, e1⟩ := idx_facts t
    intro a
    match a with
    | ⟨0, _⟩ => show win0_5.index t 0 * 1 ≤ (i 0 : Nat) ∧ (i 0 : Nat) < win0_5.index t 0 * 1 + 1; rw [e0]; omega
    | ⟨1, _⟩ => show win0_5.index t 1 * 1024 ≤ (i 1 : Nat) ∧ (i 1 : Nat) < win0_5.index t 1 * 1024 + 1024; rw [e1]; omega

/-- The run, read: both arrays as the reference computes them, the arguments unchanged. -/
theorem run : θ_run defs (onTc (τ := τ) (main (F := Ideal))) ⟨m, fun _ => 0, ρ⟩ fun r => ∀ c : Dev nD,
      r.2.mem ((c : Thread nD τ).loc main_v0_0) = DX (m ((c : Thread nD τ).loc main_arg0)) (m ((c : Thread nD τ).loc main_arg1))
        (m ((c : Thread nD τ).loc main_arg2)) (m ((c : Thread nD τ).loc main_arg3))
      ∧ r.2.mem ((c : Thread nD τ).loc main_v0_1) = DG (m ((c : Thread nD τ).loc main_arg0)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final4 m c), (h c).2.1.trans (final5 m c), (h c).2.2⟩) (Value.run_blocks m ρ)

end Cert.GradXIdeal.Fold
-- ==== Proof.GradXClaims.lean ====
/-
  The claims about the gradient of the mixer's norm: what the call leaves row block by row block is the gradient that the
  reference takes of the norm of the whole array.
-/
module

public import proofs.«01_k».proof.Proof.GradXValue
public import proofs.«01_k».proof.Proof.Gen.GradX
public import proofs.«01_k».proof.Proof.Gen.GradX.Frame
public import proofs.«01_k».proof.Proof.Gen.GradXRefIdeal
public import Idealize.ShloMosaic.Lib.Quiescent

@[expose] public section

noncomputable section

namespace Cert.GradXClaims

open Idealize.ShloMosaic Idealize.ShloMosaic.TcCoe Idealize.SL.Sem

theorem frame_kernel : Cert.quiescent_GradX := fun m g _ => Cert.GradX.Gen.frame (F := Bits) m g

theorem frame_ideal : Cert.quiescent_GradXIdeal := fun m g _ => Cert.GradXIdeal.Gen.frame (F := Ideal) m g

theorem frame_refIdeal : Cert.quiescent_GradXRefIdeal := fun m g _ =>
  (θ_run Cert.GradXRefIdeal.defs _ _).mono (fun r h => ⟨fun c => (h c).2.2, sem_eq_zero_of_no_sems (by decide) r.2⟩)
    (Cert.GradXRefIdeal.Value.run (F := Ideal) m g)

theorem algebraic : Cert.algebraic_GradXIdeal_GradXRefIdeal := fun m g m' g' _ hm =>
  ⟨_, _, Cert.GradXIdeal.Fold.run m g,
    (θ_run Cert.GradXRefIdeal.defs _ _).mono
      (fun _ h c => ⟨(h c).1.trans (by rw [(hm c).1, (hm c).2.1, (hm c).2.2.1, (hm c).2.2.2]; rfl),
        (h c).2.1.trans (by rw [(hm c).1, (hm c).2.2.1]; rfl), (h c).2.2⟩)
      (Cert.GradXRefIdeal.Value.run (F := Ideal) m' g')⟩

end Cert.GradXClaims

end
-- ==== Proof.LossBody.lean ====
/-
  The head of the loss on one device, row block by row block: from a block of the last layer's output and one of the target
  it stores the block of the cotangent and adds the block's column sums of squares to a running row.
-/
module

public import proofs.«01_k».proof.Proof.Gen.LossIdeal
public import proofs.«01_k».proof.Proof.Gen.LossIdeal.Skeleton
public import proofs.«01_k».proof.Proof.Gen.LossIdeal.Launch
public import proofs.«01_k».proof.Proof.Gen.LossIdeal.Points
public import Idealize.ShloMosaic.Lib.Pipeline.FrameBody
public import Idealize.ShloMosaic.Lib.Pipeline.TableIdle
public import Idealize.ShloMosaic.Lib.Pipeline.Value
public import Idealize.ShloMosaic.Lib.Ring
public import Idealize.ShloMosaic.Lib.Tactic
public import Idealize.ShloMosaic.Lib.WordCmp

@[expose] public section

set_option maxRecDepth 16384

noncomputable section

namespace Cert.LossRun

open Cert.LossIdeal Cert.LossIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The ghost state: the call's staging cells, and the sum over the devices. -/
abbrev UU : Type := UR sig nD τ × Sites.UC

local notation "𝕄" => MT nD τ sig ℕ (Elt F) ℕ UU ℕ

variable (m : (ℓ : Loc nD τ sig) → Buf (Elt F) ℓ)

/-! ## The blocks -/

/-- Row block `t` of the window's array, as the device was launched with it. -/
def iblk (c : Dev nD) (w : Fin cfg0.W) (t : Fin cfg0.N) : ((cfg0.win w).xblock (cfg0.grid.coords t)).Idx → Elt F (cfg0.win w).elt :=
  ((cfg0.win w).blk t).view.read (Elt F) (m ((c : Thread nD τ).loc (Pipeline.arrRef spec0 w)))

/-- Row block `t` of the last layer's output and of the target. -/
abbrev yb (c : Dev nD) (t : Fin cfg0.N) : Vec F S256x1024 .f32 := iblk m c 0 t
abbrev tb (c : Dev nD) (t : Fin cfg0.N) : Vec F S256x1024 .f32 := iblk m c 1 t

/-- The running row of column sums after step `n`. -/
def sqAt (c : Dev nD) : (n : ℕ) → n < cfg0.N → Vec F S1x1024 .f32
  | 0, h => k0_pay3 (yb m c ⟨0, h⟩) (tb m c ⟨0, h⟩)
  | n + 1, h => k0_pay4 (yb m c ⟨n + 1, h⟩) (tb m c ⟨n + 1, h⟩) (sqAt c n (Nat.lt_of_succ_lt h))

/-- The call's proof data: its arrays as launched; after step `t` the two inputs' blocks as fetched, the cotangent's block,
    the running row; the device owing its part of the sum over the devices throughout. -/
def dat0 (c : Dev nD) : Dat τ (Elt F) ℕ ℕ UU ℕ cfg0 c where
  A w := m ((c : Thread nD τ).loc (Pipeline.arrRef spec0 w))
  after w t := match w with
    | ⟨0, _⟩ => iblk m c 0 t
    | ⟨1, _⟩ => iblk m c 1 t
    | ⟨2, _⟩ => k0_pay2 (yb m c t) (tb m c t)
    | ⟨3, _⟩ => sqAt m c t.val t.isLt
  Φ _ := iprop(emp)
  q _ := fullShare
  owed _ := Sites.O0 (F := F) c

theorem after_0 (c : Dev nD) (t : Fin cfg0.N) : (dat0 m c).after 0 t = iblk m c 0 t := by dsimp only [dat0]
theorem after_1 (c : Dev nD) (t : Fin cfg0.N) : (dat0 m c).after 1 t = iblk m c 1 t := by dsimp only [dat0]
theorem after_2 (c : Dev nD) (t : Fin cfg0.N) : (dat0 m c).after 2 t = k0_pay2 (yb m c t) (tb m c t) := by dsimp only [dat0]
theorem after_3 (c : Dev nD) (t : Fin cfg0.N) : (dat0 m c).after 3 t = sqAt m c t.val t.isLt := by dsimp only [dat0]

theorem before_0 (c : Dev nD) (t : Fin cfg0.N) (d) : (dat0 m c).before 0 t d = iblk m c 0 t :=
  ((dat0 m c).before_in_eq_fetched 0 rfl (fun _ => rfl) (fun _ _ _ => rfl) (fun t => by rw [after_0]; rfl) t d).trans rfl
theorem before_1 (c : Dev nD) (t : Fin cfg0.N) (d) : (dat0 m c).before 1 t d = iblk m c 1 t :=
  ((dat0 m c).before_in_eq_fetched 1 rfl (fun _ => rfl) (fun _ _ _ => rfl) (fun t => by rw [after_1]; rfl) t d).trans rfl

/-! ## The two cases of the body: the first block, a later one -/

/-- The first branch is taken at the first block only, -/
theorem hcond1 : ∀ t : Fin cfg0.N, k0_cond1 (grid0.coords t) = 1#1 ↔ t.val = 0 :=
  (by decide +kernel : ∀ t : Fin grid0.N, k0_cond1 (grid0.coords t) = 1#1 ↔ t.val = 0)
/-- the second at every later one. -/
theorem hcond2 : ∀ t : Fin cfg0.N, k0_cond2 (grid0.coords t) = 1#1 ↔ t.val ≠ 0 :=
  (by decide +kernel : ∀ t : Fin grid0.N, k0_cond2 (grid0.coords t) = 1#1 ↔ t.val ≠ 0)

/-- Every window is stored or read at every step. -/
theorem live : ∀ (w : Fin cfg0.W) (t : Fin cfg0.N), cfg0.idle w (grid0.coords t) = false :=
  (by decide +kernel : ∀ (w : Fin cfg0.W) (t : Fin grid0.N), cfg0.idle w (grid0.coords t) = false)

/-- The running row's buffer has been stored into at every step but the first: it is written back after the last step only. -/
def freshTab : ℕ → Bool
  | 0 => true
  | n + 1 => (0x80000000 : ℕ).testBit n
theorem freshTab_step : ∀ t : Fin cfg0.N,
    freshTab (t.val + 1) = ((cfg0.win 3).flush t || (cfg0.idle 3 (cfg0.grid.coords t) && freshTab t.val)) := by decide +kernel
theorem notFresh : ∀ t : Fin cfg0.N, t.val ≠ 0 → cfg0.fresh 3 t.val = false := by
  intro t; rw [Pipeline.Cfg.fresh_tab cfg0 3 freshTab rfl freshTab_step t.val (Nat.le_of_lt t.isLt)]; revert t; decide +kernel

/-- At a later block the running row is what the step before left. -/
theorem before_3 (c : Dev nD) (t : Fin cfg0.N) (h : t.val ≠ 0) (d) :
    (dat0 m c).before 3 t d = sqAt m c (t.val - 1) (Nat.lt_of_le_of_lt (Nat.sub_le _ _) t.isLt) := by
  rw [Dat.before_out_traj _ 3 rfl (fun _ _ => rfl)
      (fun t _ hi _ => absurd ((live 3 t).symm.trans hi) Bool.false_ne_true) t.val t rfl d,
    if_neg (by rw [notFresh t h]; exact Bool.false_ne_true)]
  dsimp only [dat0]

theorem sqAt_first (c : Dev nD) (t : Fin cfg0.N) (h : t.val = 0) : sqAt m c t.val t.isLt = k0_pay3 (yb m c t) (tb m c t) := by
  obtain ⟨n, hn⟩ := t; obtain rfl : n = 0 := h; rfl
theorem sqAt_later (c : Dev nD) (t : Fin cfg0.N) (h : t.val ≠ 0) : sqAt m c t.val t.isLt
    = k0_pay4 (yb m c t) (tb m c t) (sqAt m c (t.val - 1) (Nat.lt_of_le_of_lt (Nat.sub_le _ _) t.isLt)) := by
  obtain ⟨n, hn⟩ := t
  cases n with
  | zero => exact absurd rfl h
  | succ n => rfl

theorem hz : (![0, 0] : Fin 2 → Nat) = fun _ => 0 := funext fun a => by fin_cases a <;> rfl

section Runs
variable (c : Dev nD) (i : grid0.Coords) (a1 : Memref sig .tc .vmem S256x1024 .f32) (h1 : a1.IsWhole)
  (a2 : Memref sig .tc .vmem S256x1024 .f32) (h2 : a2.IsWhole) (a3 : Memref sig .tc .vmem S256x1024 .f32) (h3 : a3.IsWhole)
  (a4 : Memref sig .tc .vmem S1x1024 .f32) (h4 : a4.IsWhole) (x t : Vec F S256x1024 .f32)

/-- A whole store, read back, is what was stored. -/
theorem read_store {S : Shape} {off : Fin S.rank → Nat} (h : off = fun _ => 0) (inb : ∀ a, off a + S.size a ≤ S.size a)
    (a : Memref sig .tc .vmem S .f32) (f : a.view.ty.Contents (Elt F)) (w : Vec F S .f32) :
    a.view.read (Elt F) (a.view.writes (Elt F) f [⟨Rect.unit off S.size inb, w⟩]) = w := by
  rw [View.read_writes_eq_canon _ _ _ (fun y => ⟨_, List.mem_singleton_self _, by
      show y ∈ (Rect.unit off S.size inb).set
      rw [Rect.mem_set_unit]; subst h
      exact fun a => ⟨Nat.zero_le _, by simpa using (y a).isLt⟩⟩),
    View.canon_unit_zero h]

/-- The first block: the cotangent's block and the running row's first value stored. -/
theorem run_first (hc1 : k0_cond1 i = 1#1) (hc2 : ¬k0_cond2 i = 1#1) (K : PUnit → sProp 𝕄) :
    iprop(owns (c : Thread nD τ) a1 fullShare x ∗ owns (c : Thread nD τ) a2 fullShare t
        ∗ (∃ d, owns (c : Thread nD τ) a3 fullShare d) ∗ (∃ d, owns (c : Thread nD τ) a4 fullShare d)
        ∗ (iprop(owns (c : Thread nD τ) a1 fullShare x ∗ owns (c : Thread nD τ) a2 fullShare t
            ∗ owns (c : Thread nD τ) a3 fullShare (k0_pay2 x t) ∗ owns (c : Thread nD τ) a4 fullShare (k0_pay3 x t)) -∗ K ⟨⟩))
      ⊢ wp frame (wpE (defs₀ (F := F)) Variants.none c none) Set.univ (cc0_loss_head i a1 h1 a2 h2 a3 h3 a4 h4) K := by
  simp only [cc0_loss_head_eq_skeleton]; unfold cc0_loss_head_skel
  unfold owns
  iintro ⟨⟨%f0, %hf0, H0⟩, ⟨%f1, %hf1, H1⟩, ⟨%d2, %f2, -, H2⟩, ⟨%d3, %f3, -, H3⟩, Hk⟩
  obtain rfl := h1.eq_unread hf0; obtain rfl := h2.eq_unread hf1
  sl_exec (disch := first | sl_exact hc1 | sl_exact hc2)
  sl_step
  iapply Hk
  isplitl [H0]
  · iexists _; isplitr; · ipureintro; exact h1.read_unread _
    iexact H0
  isplitl [H1]
  · iexists _; isplitr; · ipureintro; exact h2.read_unread _
    iexact H1
  isplitl [H2]
  · iexists _; isplitr; swap; · iexact H2
    ipureintro
    rw [read_store hz]
    simp only [View.readAt_eq_ld, h1.read_unread, h2.read_unread, View.ld_unit_zero (S := S256x1024) hz]
  · iexists _; isplitr; swap; · iexact H3
    ipureintro
    rw [read_store hz]
    simp only [View.readAt_eq_ld, h1.read_unread, h2.read_unread, View.ld_unit_zero (S := S256x1024) hz]

/-- A later block: the cotangent's block stored, the block's column sums added to the running row. -/
theorem run_later (hc1 : ¬k0_cond1 i = 1#1) (hc2 : k0_cond2 i = 1#1) (acc : Vec F S1x1024 .f32) (K : PUnit → sProp 𝕄) :
    iprop(owns (c : Thread nD τ) a1 fullShare x ∗ owns (c : Thread nD τ) a2 fullShare t
        ∗ (∃ d, owns (c : Thread nD τ) a3 fullShare d) ∗ owns (c : Thread nD τ) a4 fullShare acc
        ∗ (iprop(owns (c : Thread nD τ) a1 fullShare x ∗ owns (c : Thread nD τ) a2 fullShare t
            ∗ owns (c : Thread nD τ) a3 fullShare (k0_pay2 x t) ∗ owns (c : Thread nD τ) a4 fullShare (k0_pay4 x t acc)) -∗ K ⟨⟩))
      ⊢ wp frame (wpE (defs₀ (F := F)) Variants.none c none) Set.univ (cc0_loss_head i a1 h1 a2 h2 a3 h3 a4 h4) K := by
  simp only [cc0_loss_head_eq_skeleton]; unfold cc0_loss_head_skel
  unfold owns
  iintro ⟨⟨%f0, %hf0, H0⟩, ⟨%f1, %hf1, H1⟩, ⟨%d2, %f2, -, H2⟩, ⟨%f3, %hf3, H3⟩, Hk⟩
  obtain rfl := h1.eq_unread hf0; obtain rfl := h2.eq_unread hf1; obtain rfl := h4.eq_unread hf3
  sl_exec (disch := first | sl_exact hc1 | sl_exact hc2)
  sl_step
  iapply Hk
  isplitl [H0]
  · iexists _; isplitr; · ipureintro; exact h1.read_unread _
    iexact H0
  isplitl [H1]
  · iexists _; isplitr; · ipureintro; exact h2.read_unread _
    iexact H1
  isplitl [H2]
  · iexists _; isplitr; swap; · iexact H2
    ipureintro
    rw [read_store hz]
    simp only [View.readAt_eq_ld, h1.read_unread, h2.read_unread, View.ld_unit_zero (S := S256x1024) hz]
  · iexists _; isplitr; swap; · iexact H3
    ipureintro
    rw [read_store hz]
    sl_unfold_words
    simp only [View.readAt_eq_ld, h1.read_unread, h2.read_unread, h4.read_unread, View.ld_unit_zero (S := S256x1024) hz,
      View.ld_unit_zero (S := S1x1024) hz]

end Runs

/-! ## The body at every step -/

/-- Each window's buffer at step `t`. -/
abbrev ms0 (t : Fin cfg0.N) : Memref sig .tc .vmem S256x1024 .f32 := win0_0.stage (cfg0.slots t 0)
abbrev ms1 (t : Fin cfg0.N) : Memref sig .tc .vmem S256x1024 .f32 := win0_1.stage (cfg0.slots t 1)
abbrev ms2 (t : Fin cfg0.N) : Memref sig .tc .vmem S256x1024 .f32 := win0_2.stage (cfg0.slots t 2)
abbrev ms3 (t : Fin cfg0.N) : Memref sig .tc .vmem S1x1024 .f32 := win0_3.stage (cfg0.slots t 3)

/-- What the body is called with at step `t`, and what it returns. -/
def bodyPre (c : Dev nD) (t : Fin cfg0.N) : sProp 𝕄 :=
  iprop((dat0 m c).Φ t.castSucc ∗ (dat0 m c).owesAt Sites.ιp t.castSucc
    ∗ (∃ d, owns (c : Thread nD τ) (ms0 t) fullShare ((dat0 m c).before 0 t d))
    ∗ (∃ d, owns (c : Thread nD τ) (ms1 t) fullShare ((dat0 m c).before 1 t d))
    ∗ (∃ d, owns (c : Thread nD τ) (ms2 t) fullShare ((dat0 m c).before 2 t d))
    ∗ (∃ d, owns (c : Thread nD τ) (ms3 t) fullShare ((dat0 m c).before 3 t d)))
def bodyPost (c : Dev nD) (t : Fin cfg0.N) : sProp 𝕄 :=
  iprop((dat0 m c).Φ t.succ ∗ (dat0 m c).owesAt Sites.ιp t.succ
    ∗ (dat0 m c).leavesExact 0 t ∗ (dat0 m c).leavesExact 1 t ∗ (dat0 m c).leavesExact 2 t ∗ (dat0 m c).leavesExact 3 t)

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dat0 m c).Φ t.succ = (dat0 m c).Φ t.castSucc from rfl,
    show (dat0 m c).owesAt Sites.ιp t.succ = (dat0 m c).owesAt Sites.ιp t.castSucc from rfl,
    show (dat0 m c).leavesExact 0 t = owns (c : Thread nD τ) (ms0 t) fullShare ((dat0 m c).after 0 t) from by
      unfold Dat.leavesExact; rw [live 0 t], after_0,
    show (dat0 m c).leavesExact 1 t = owns (c : Thread nD τ) (ms1 t) fullShare ((dat0 m c).after 1 t) from by
      unfold Dat.leavesExact; rw [live 1 t], after_1,
    show (dat0 m c).leavesExact 2 t = owns (c : Thread nD τ) (ms2 t) fullShare ((dat0 m c).after 2 t) from by
      unfold Dat.leavesExact; rw [live 2 t], after_2,
    show (dat0 m c).leavesExact 3 t = owns (c : Thread nD τ) (ms3 t) fullShare ((dat0 m c).after 3 t) from by
      unfold Dat.leavesExact; rw [live 3 t], after_3]
  by_cases h : t.val = 0
  · rw [sqAt_first m c t h]
    iintro ⟨HΦ, Ho, ⟨%d0, H0⟩, ⟨%d1, H1⟩, ⟨%d2, H2⟩, ⟨%d3, H3⟩⟩
    iapply (run_first c (grid0.coords t) _ _ _ _ _ _ _ _ (yb m c t) (tb m c t) ((hcond1 t).mpr h) (fun h' => (hcond2 t).mp h' h) _)
    isplitl [H0]; · iexact H0
    isplitl [H1]; · iexact H1
    isplitl [H2]; · iexists _; iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2] <;> iassumption
  · rw [sqAt_later m c t h]
    simp only [before_3 m c t h]
    iintro ⟨HΦ, Ho, ⟨%d0, H0⟩, ⟨%d1, H1⟩, ⟨%d2, H2⟩, ⟨%d3, H3⟩⟩
    iapply (run_later c (grid0.coords t) _ _ _ _ _ _ _ _ (yb m c t) (tb m c t) (fun h' => h ((hcond1 t).mp h')) ((hcond2 t).mpr h) _ _)
    isplitl [H0]; · iexact H0
    isplitl [H1]; · iexact H1
    isplitl [H2]; · iexists _; iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2] <;> iassumption

/-- The body's row of the table of bodies is the body at step `t`. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dat0 (F := F) m c) (defs₀ (F := F)) Variants.none Sites.ιp Set.univ := fun t => by
  rw [bigSep_W0, bigSep_W0, defs₀_row]
  exact triple_restated (sound_body m c t) rfl .rfl fun _ => .rfl

end Cert.LossRun

end
-- ==== Proof.LossRun.lean ====
/-
  The loss on the eight devices: the head over a device's rows, the sum of its running row, the sum over the devices. From any
  memory every device's program ends; every array then holds what these three parts leave in it.
-/
module

public import proofs.«01_k».proof.Proof.LossBody
public import Idealize.ShloMosaic.Lib.StableHlo.CollectiveRules
public import Idealize.ShloMosaic.Lib.Pipeline.Regions
public import Idealize.ShloMosaic.Lib.Pipeline.FrameTail
public import Idealize.ShloMosaic.Lib.Pipeline.CollectiveSegs
public import Idealize.ShloMosaic.Lib.Pipeline.Kit
public import Idealize.ShloMosaic.Lib.Tactic

@[expose] public section

noncomputable section

namespace Cert.LossRun

open Cert.LossIdeal Cert.LossIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.AllReduce

variable {F : FTy → Type} [FloatOps F]

local notation "𝕄" => MT nD τ sig ℕ (Elt F) ℕ UU ℕ

abbrev EP : Emb (UR sig nD τ) (MT nD τ sig ℕ (Elt F) ℕ UU ℕ) := embL
abbrev EC : Emb Sites.UC (MT nD τ sig ℕ (Elt F) ℕ UU ℕ) := embR

variable (m : (ℓ : Loc nD τ sig) → Buf (Elt F) ℓ) (ρ : Dev nD → PrngReg)

/-! ## The device's arrays: at launch, after the head, after the sum of its running row, after the sum over the devices -/

abbrev V₀ (c : Dev nD) : Valuation τ sig (Elt F) := StableHlo.launchContents m c
abbrev V₁ (c : Dev nD) : Valuation τ sig (Elt F) := Pipeline.afterRegion (dat0 m c) (V₀ m c)
abbrev V₂ (c : Dev nD) : Valuation τ sig (Elt F) := StableHlo.after hostOps1 (V₁ m c)
abbrev V₃ (c : Dev nD) : Valuation τ sig (Elt F) := (ar0 (F := F)).after₀ (V₂ m) c

abbrev adm : (p : Fin 1) → (pcfgs (F := F) p).Adm := fun p => (cfgs p).toPCfg_adm
def pdats : (p : Fin 1) → (c : Dev nD) → Pipeline.Dat τ (Elt F) ℕ ℕ UU ℕ (Pipeline.pin (pcfgs (F := F)) adm p) c
  | 0 => dat0 m

abbrev 𝒱₀ : Variants := Variants.none

/-- What of the sum over the devices rides along until it runs, and the record of its semaphores, which may be copied. -/
abbrev dat : AllReduce.Dat ℕ ℕ UU ℕ (ar0 (F := F)) := AllReduce.Dat.once (ar0 (F := F)) (V₂ m)
abbrev invs : sProp 𝕄 := iprop(∃ κ, (dat m).cellInvs (Sites.E0 EC) κ)

local notation "ℍ" => Pipeline.HostSeg (Name := ℕ) (U := UU) (pcfgs (F := F)) defs₀ 𝒱₀ Sites.L Sites.lv
local notation "ℝ𝕊" => Pipeline.RegionSeg (pcfgs (F := F)) adm (pdats m) Sites.ιp defs₀ 𝒱₀ Sites.L Sites.lv

/-- A device may wait on a copy of the head while it still owes its part of the sum over the devices. -/
theorem mayWait_stage (c : Dev nD) (q : DmaSem sig) :
    (levAts Sites.L Sites.lv : sProp 𝕄) ⊢ MayWait (c : Thread nD τ) (.dma q) Sites.ιp (Sites.O0 (F := F) c) :=
  MayOwe.of_cut (lev := Sites.lv) 0 (fun p hp => by rw [Finset.mem_singleton.mp hp]; exact Sites.mem_L _ _ (by decide : (0 : ℕ) < 4))
    (fun g i hg => (Sites.O0_pos hg).1) (fun p hp => by rw [Finset.mem_singleton.mp hp]; exact le_refl _)
    (fun g i hg => Nat.lt_of_lt_of_le (by decide) (Sites.O0_pos hg).2)

/-! ## The three parts -/

set_option backward.isDefEq.respectTransparency.types false in
/-- The head. -/
def reg0 : ℝ𝕊 0 where
  win := launch0.win.to₀
  block_pos := launch0.block_pos
  stage_whole := launch0.stage_whole
  K := PEmpty
  osem k := k.elim
  ho := Pipeline.OwnSemFacts.none _
  hbody c := (body_obligation m c).loose
  hwaits c := Pipeline.cellsWaits_intro _ (pdats m) Sites.ιp 0 c fun w s t => mayWait_stage c _
  pre c := iprop(StableHlo.held (c : Thread nD τ) (Pipeline.ucRefs τ sig) (V₀ m c) ∗ Sites.Es EC (V₂ m) 0 c)
  post c := iprop(StableHlo.held (c : Thread nD τ) (Pipeline.ucRefs τ sig) (V₁ m c) ∗ Sites.Es EC (V₂ m) 0 c)
  X _ := iprop(emp)
  Y _ := iprop(emp)
  Z c := iprop(Pipeline.unscopedRest (Ix := ℕ) (Name := ℕ) (U := UU) (Lvl := ℕ) spec0 c (fun b => V₀ m c (Proc.devRef .tc b))
    ∗ (∃ r, prngReg c r) ∗ Sites.rides0 EC (V₂ m) c)
  hentry c := by
    rw [Pipeline.ownSems0_none, Sites.Es_0,
      show StableHlo.held (c : Thread nD τ) (Pipeline.ucRefs τ sig) (V₀ m c) = unscopedBufs c (fun b => V₀ m c (Proc.devRef .tc b))
        from (Pipeline.unscopedBufs_held (Ix := ℕ) (Name := ℕ) (U := UU) (Lvl := ℕ) c (V₀ m c)).symm]
    have hsplit := Pipeline.arrays_of_unscopedBufs (pcfgs (F := F)) adm (pdats m) launch0.win launch0.arr_whole c
      ((pdats m 0 c).share_full fun _ => rfl) (fun b => V₀ m c (Proc.devRef .tc b)) fun _ => rfl
    iintro ⟨⟨Hub, ⟨%W, HO⟩, Hp, Hg⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun _ _ => Or.inl trivial
      iexact HO
    isplitr; · iempintro
    isplitl [Hr]; · iexact Hr
    isplitl [Hp] <;> iassumption
  hin c := by iintro -; iempintro
  hout c := by
    rw [Pipeline.ownSems0_none, scopedRest0_eq]
    iintro -; isplitr; · iempintro
    isplitr <;> iempintro
  hexit c := by
    rw [Sites.Es_0,
      show StableHlo.held (c : Thread nD τ) (Pipeline.ucRefs τ sig) (V₁ m c) = unscopedBufs c (fun b => V₁ m c (Proc.devRef .tc b))
        from (Pipeline.unscopedBufs_held (Ix := ℕ) (Name := ℕ) (U := UU) (Lvl := ℕ) c (V₁ m c)).symm]
    have hjoin := Pipeline.unscopedBufs_of_arrays (p := 0) (pcfgs (F := F)) adm (Ix := ℕ) (Name := ℕ) (U := UU) (Lvl := ℕ)
      launch0.win launch0.arr_whole c (pdats m) ((pdats m 0 c).share_full fun _ => rfl)
      (fun b => V₀ m c (Proc.devRef .tc b)) (fun b => V₁ m c (Proc.devRef .tc b)) ((pdats m 0 c).arrAt · cfg0.N)
      (fun w => (Pipeline.afterRegion_arr (dat0 m c) (V₀ m c) launch0.win.arr_inj w).symm)
      (fun b hb => Pipeline.afterRegion_of_not_arr (dat0 m c) (V₀ m c)
        fun w h => hb (h ▸ Finset.mem_image.mpr ⟨w, Finset.mem_univ _, rfl⟩))
    iintro ⟨Ha, HO, -, Hrest, Hp, Hg⟩
    imodintro
    isplitl [Ha Hrest]
    · iapply hjoin; isplitl [Ha] <;> iassumption
    isplitl [HO]
    · unfold Pipeline.Dat.owesAt Pipeline.owesWithin
      icases HO with ⟨%W, -, HO⟩; iexists W; iexact HO
    isplitl [Hp] <;> iassumption

theorem ops1_fresh : ∀ op ∈ (hostOps1 : List (HloOp τ sig (Elt F))), op.fresh = ∅ := by
  intro _ h; (repeat (cases h with | head => rfl | tail _ h => ?_)); exact nomatch h

/-- The sum of the running row, halved and divided by the row length. -/
def seg1 : ℍ := Pipeline.HostSeg.ofOps _ _ _ _ _ (Pipeline.ucRefs τ sig) (hostOps1 (F := F))
  (fun op h => Pipeline.sub_ucRefs op ((List.forall_iff_forall_mem.mp hostOps1_sub) op h)) ops1_fresh (V₁ m) (Sites.Es EC (V₂ m) 0)

/-- The sum over the devices. -/
def seg2 : ℍ := Sites.seg0 EC 𝒱₀ (V₂ m) (Sites.Rest0 (V₂ m) fun _ => invs m)

def segs : List (Pipeline.Seg (pcfgs (F := F)) adm (pdats m) Sites.ιp defs₀ 𝒱₀ Sites.L Sites.lv) := [.region (reg0 m), .host (seg1 m), .host (seg2 m)]

theorem main_eq (c : Dev nD) : main (F := F) c = Pipeline.Seg.run (segs m) :=
  main_segs adm (pdats m) Sites.ιp 𝒱₀ Sites.L Sites.lv (seg1 m) (seg2 m) (reg0 m) rfl rfl c

theorem seg1_seg2 (c : Dev nD) : (seg1 m).post c ⊢ (seg2 (F := F) m).pre c := by
  refine BIBase.Entails.trans ?_ (Sites.pre0 EC 𝒱₀ (V₂ m) (fun _ => invs m) c)
  show iprop(StableHlo.held (c : Thread nD τ) (Pipeline.ucRefs τ sig) (V₂ m c) ∗ Sites.Es EC (V₂ m) 0 c) ⊢ _
  rw [Sites.Es_0]
  iintro ⟨Hh, HO, Hp, Hrg⟩
  ihave #Hi := (show Sites.rides0 EC (V₂ m) c ⊢ invs m from by unfold Sites.rides0 AllReduce.Dat.rides; iintro ⟨Hi, -⟩; iexact Hi) $$ Hrg
  isplitl [Hh]; · iexact Hh
  isplitl [HO Hp Hrg]
  · isplitl [HO]; · iexact HO
    isplitl [Hp] <;> iassumption
  iexact Hi

/-- The last state of a device. -/
abbrev Tₙ (c : Dev nD) : sProp 𝕄 :=
  iprop(StableHlo.held (c : Thread nD τ) (Pipeline.ucRefs τ sig) (V₃ m c) ∗ (Sites.Ghost0 EC c ∗ invs m))

theorem seg2_Tₙ (c : Dev nD) : (seg2 (F := F) m).post c ⊢ iprop(Tₙ m c ∗ ∃ W, owes (c : Thread nD τ) (0 : CellTallies nD τ sig ℕ) W) := by
  refine (Sites.post0 EC 𝒱₀ (V₂ m) (fun _ => invs m) c).trans ?_
  iintro ⟨Hh, HE, HG⟩
  ihave HO := (Sites.hE_last EC (V₂ m) c) $$ HE
  isplitr [HO]
  · isplitl [Hh] <;> iassumption
  iexact HO

/-! ## The launch -/

def u₀ : UU :=
  (initOf (Pipeline.cells (Pipeline.pin (pcfgs (F := F)) adm) cellOf_inj) (Pipeline.launchToks (Pipeline.pin (pcfgs (F := F)) adm) cellOf_inj),
    Sites.uC (U := UU) (V₂ m))

theorem init :
    iprop((bigSep Finset.univ fun c : Dev nD => iprop(unscopedBufs c (fun b => m ((c : Thread nD τ).loc b)) ∗ unscopedSems0 c
          ∗ owes (c : Thread nD τ) (Sites.O0 (F := F) c) ∅ ∗ Pipeline.launchCred (Sites.O0 (F := F)) c ∗ prngReg c (ρ c) ∗ Sites.G EC (V₂ m) c)) ∗ levAts Sites.L Sites.lv)
      ⊢ (|={Set.univ}=> bigSep Finset.univ (fun c => (reg0 m).pre c) : sProp 𝕄) := by
  have h1 (c : Dev nD) : (unscopedBufs c (fun b => m ((c : Thread nD τ).loc b)) : sProp 𝕄)
      = StableHlo.held (c : Thread nD τ) (Pipeline.ucRefs τ sig) (V₀ m c) :=
    Pipeline.unscopedBufs_held (Ix := ℕ) (Name := ℕ) (U := UU) (Lvl := ℕ) c (V₀ m c)
  have h2 (c : Dev nD) : iprop(StableHlo.held (c : Thread nD τ) (Pipeline.ucRefs τ sig) (V₀ m c) ∗ Sites.Es EC (V₂ m) 0 c)
      ⊢ ((reg0 m).pre c : sProp 𝕄) := by
    unfold reg0
    iintro ⟨Hh, HE⟩
    isplitl [Hh] <;> iassumption
  simp only [h1]
  iintro ⟨H, Hl⟩
  ihave H' := (show _ ⊢ iprop((bigSep Finset.univ fun c : Dev nD => StableHlo.held (c : Thread nD τ) (Pipeline.ucRefs τ sig) (V₀ m c))
        ∗ bigSep Finset.univ fun c : Dev nD => iprop(unscopedSems0 c
          ∗ owes (c : Thread nD τ) (Sites.O0 (F := F) c) ∅ ∗ Pipeline.launchCred (Sites.O0 (F := F)) c ∗ prngReg c (ρ c) ∗ Sites.G EC (V₂ m) c))
      from by rw [← bigSep_sep']) $$ H
  icases H' with ⟨Hh, H⟩
  imod (Sites.hE0 EC (V₂ m) ρ) $$ [H Hl] with HE
  · isplitl [H] <;> iassumption
  imodintro
  iapply (show iprop((bigSep Finset.univ fun c : Dev nD => StableHlo.held (c : Thread nD τ) (Pipeline.ucRefs τ sig) (V₀ m c))
        ∗ bigSep Finset.univ (Sites.Es EC (V₂ m) 0)) ⊢ bigSep Finset.univ (fun c => (reg0 m).pre c)
      from by rw [← bigSep_sep']; exact bigSep_mono fun c _ => h2 c)
  isplitl [Hh] <;> iassumption

set_option backward.isDefEq.respectTransparency.types false in
/-- The run: every array ends as the three parts leave it, every semaphore at zero. -/
theorem run_main : θ_run defs (onTc (τ := τ) (main (F := F))) (s₀ m ρ)
    (fun r => (∀ (c : Dev nD), ∀ b ∈ Pipeline.ucRefs τ sig, r.2.mem ((c : Thread nD τ).1, b) = V₃ m c b) ∧ r.2.sem = fun _ => 0) :=
  Pipeline.θ_run_regions_kit_sems (pcfgs (F := F)) adm (pdats m) Sites.ιp cellOf_inj EP defs₀ 𝒱₀ Sites.L Sites.lv m ρ main (segs m)
    (fun c Q => by rw [main_eq m c])
    (by simp only [segs, Pipeline.Seg.pipes_host, Pipeline.Seg.pipes_region, Pipeline.Seg.pipes_nil]; decide)
    (O₀ := Sites.O0 (F := F)) (hL := Sites.hL) (G := Sites.G EC (V₂ m)) (u₀ := u₀ m)
    (hu₀ := by
      unfold u₀
      iintro Hu
      ihave H := (ownU_pair _ _) $$ Hu
      icases H with ⟨HP, HX⟩
      imodintro
      isplitl [HP]; · iexact HP
      rw [Sites.bigSep_G]; iexact HX)
    (T₀ := fun c => (reg0 m).pre c) (Tₙ := Tₙ m)
    (hch := ⟨fun c => .rfl, fun c => .rfl, seg1_seg2 m, seg2_Tₙ m⟩)
    (hinit := init m ρ)
    (QY := fun c s => (∀ b ∈ Pipeline.ucRefs τ sig, s.mem ((c : Thread nD τ).1, b) = V₃ m c b)
      ∧ s.sem ((ar0 (F := F)).barrierCell c) = 0 ∧ s.sem ((ar0 (F := F)).recvCell c) = 0 ∧ s.sem ((ar0 (F := F)).sendCell c) = 0)
    (hfin := fun c s' => by
      iintro ⟨⟨Hh, HG, Hi⟩, HSI⟩
      imod ((dat m).ghostAfter_read (Sites.E0 EC) c (k := 0) le_rfl s') $$ [HG Hi HSI] with ⟨%hz, HSI⟩
      · isplitl [HG Hi]
        · isplitl [Hi] <;> iassumption
        iexact HSI
      unfold StableHlo.held
      ihave Hr := (pointsTo_read_all (Pipeline.ucRefs τ sig) (fun b => ((c : Thread nD τ).1, b)) (V₃ m c) s') $$ [Hh HSI]
      · isplitl [Hh] <;> iassumption
      icases Hr with ⟨%hr, HSI⟩
      imodintro
      isplitr; · ipureintro; exact ⟨hr, hz⟩
      iexact HSI)
    (hQ := fun s h hs => ⟨fun c => (h c).1, sem_eq_zero hs fun c sm hsm => by
      have hl : ∀ sm : SemLoc sig, sm.isScoped .tc = false → sm = .reg ar0_barrier ∨ sm = .dma ar0_recv ∨ sm = .dma ar0_send := by decide
      rcases hl sm hsm with rfl | rfl | rfl
      exacts [(h c).2.1, (h c).2.2.1, (h c).2.2.2]⟩)

/-! ## The results read -/

/-- A device's loss: its running row, after the last step, summed and scaled. -/
def lossOf (sq : FVec F S1x1024 .f32) : FVec F S_ .f32 :=
  mulf (constant S_ .f32 0x3A000000#32) (Host.reduceAdd sq (constant S_ .f32 0x00000000#32) reducesTo_S1x1024_S_d0_1 h_S_)

theorem V₁_arr (c : Dev nD) (w : Fin cfg0.W) : V₁ m c (Proc.devRef .tc (Pipeline.arrRef spec0 w)) = (dat0 m c).arrAt w cfg0.N :=
  Pipeline.afterRegion_arr (dat0 m c) (V₀ m c) launch0.win.arr_inj w

theorem V₂_v3 (c : Dev nD) : V₂ m c (Proc.devRef .tc main_v3) = lossOf ((dat0 m c).arrAt 3 cfg0.N) := by
  have h : V₂ m c (Proc.devRef .tc main_v3) = lossOf (V₁ m c (Proc.devRef .tc main_v1_1)) := by
    unfold V₂ lossOf; generalize V₁ m c = V; after_results
  exact h.trans (congrArg lossOf (V₁_arr m c 3))

/-- An array the last two parts do not write. -/
theorem V₃_arr (c : Dev nD) (w : Fin cfg0.W) (h : w ≠ 3) :
    V₃ m c (Proc.devRef .tc (Pipeline.arrRef spec0 w)) = (dat0 m c).arrAt w cfg0.N := by
  refine ((ar0 (F := F)).after₀_off_siteRefs (V₂ m) c ?_).trans (Eq.trans ?_ (V₁_arr m c w))
  · intro hb
    rcases (ar0 (F := F)).mem_siteRefs.mp hb with e | e | ⟨k, e⟩
    · exact (by decide : ∀ w : Fin 4, Pipeline.arrRef spec0 w ≠ main_v4) w (Proc.devRef_injective _ e)
    · exact (by decide : ∀ w : Fin 4, Pipeline.arrRef spec0 w ≠ main_v3) w (Proc.devRef_injective _ e)
    · exact (by decide : ∀ (w : Fin 4) (k : Fin 8), Pipeline.arrRef spec0 w ≠ ar0_stage k) w k (Proc.devRef_injective _ e)
  · unfold V₂; generalize V₁ m c = V
    match w, h with
    | ⟨0, _⟩, _ => show StableHlo.after hostOps1 V (Proc.devRef .tc main_arg0) = _; after_results
    | ⟨1, _⟩, _ => show StableHlo.after hostOps1 V (Proc.devRef .tc main_arg1) = _; after_results
    | ⟨2, _⟩, _ => show StableHlo.after hostOps1 V (Proc.devRef .tc main_v1_0) = _; after_results
    | ⟨3, _⟩, h => exact absurd rfl h

theorem peer_eq (d : Dev nD) (k : Fin 8) : (ar0 (F := F)).peer d k = (k : Dev nD) := by fin_cases d <;> fin_cases k <;> rfl

/-- The loss on every device: the devices' losses, added in the devices' order. -/
theorem V₃_v4 (c : Dev nD) (j : S_.Idx) : (V₃ m c (Proc.devRef .tc main_v4) : FVec F S_ .f32) j
    = ((List.finRange 8).drop 1).foldl (fun a d => FloatOps.collectiveReduce .add a (lossOf ((dat0 m d).arrAt 3 cfg0.N) j))
        (lossOf ((dat0 m (0 : Dev nD)).arrAt 3 cfg0.N) j) := by
  refine (congrFun ((ar0 (F := F)).after₀_result (V₂ m) c) j).trans ?_
  show ((List.finRange 8).drop 1).foldl
      (fun a d => FloatOps.collectiveReduce .add a ((V₂ m ((ar0 (F := F)).peer c d) (Proc.devRef .tc main_v3) : FVec F S_ .f32) j))
      ((V₂ m ((ar0 (F := F)).peer c 0) (Proc.devRef .tc main_v3) : FVec F S_ .f32) j) = _
  simp only [peer_eq]
  have h : (fun d : Dev nD => (V₂ m d (Proc.devRef .tc main_v3) : FVec F S_ .f32) j) = fun d => lossOf ((dat0 m d).arrAt 3 cfg0.N) j :=
    funext fun d => congrFun (V₂_v3 m d) j
  exact congrArg (fun f : Dev nD → F .f32 => ((List.finRange 8).drop 1).foldl (fun a d => FloatOps.collectiveReduce .add a (f d)) (f 0)) h

/-- The run, read: the loss and its gradient on every device, the arguments unchanged, no signal outstanding. -/
theorem run : θ_run defs (onTc (τ := τ) (main (F := F))) (s₀ m ρ) (fun r => (∀ c : Dev nD,
      (∀ j : S_.Idx, (r.2.mem ((c : Thread nD τ).loc main_v4) : FVec F S_ .f32) j
        = ((List.finRange 8).drop 1).foldl (fun a d => FloatOps.collectiveReduce .add a (lossOf ((dat0 m d).arrAt 3 cfg0.N) j))
            (lossOf ((dat0 m (0 : Dev nD)).arrAt 3 cfg0.N) j))
      ∧ r.2.mem ((c : Thread nD τ).loc main_v1_0) = (dat0 m c).arrAt 2 cfg0.N
      ∧ r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  (θ_run defs _ _).mono (fun r h => ⟨fun c => ⟨
    fun j => (congrFun (h.1 c _ (Pipeline.devRef_mem_ucRefs (b := main_v4) rfl)) j).trans (V₃_v4 m c j),
    (h.1 c _ (Pipeline.devRef_mem_ucRefs (b := main_v1_0) rfl)).trans (V₃_arr m c 2 (by decide)),
    (h.1 c _ (Pipeline.devRef_mem_ucRefs (b := main_arg0) rfl)).trans ((V₃_arr m c 0 (by decide)).trans ((dat0 m c).arrAt_in 0 rfl _)),
    (h.1 c _ (Pipeline.devRef_mem_ucRefs (b := main_arg1) rfl)).trans ((V₃_arr m c 1 (by decide)).trans ((dat0 m c).arrAt_in 1 rfl _))⟩, h.2⟩)
    (run_main m ρ)

end Cert.LossRun

end
-- ==== Proof.LossPure.lean ====
/-
  The loss and its gradient: what one row block of the kernel stores and what the reference computes, entry by entry, over
  the extended reals, and that the devices' losses add up to the reference's.
-/
module

public import proofs.«01_k».proof.Defs
public import proofs.«01_k».proof.Proof.LossRun
public import proofs.«01_k».proof.Proof.Gen.LossRefIdeal.Run
public import proofs.«01_k».proof.Proof.RowNorm
public import Idealize.ShloMosaic.Lib.Pointwise

@[expose] public section

set_option maxRecDepth 16384

noncomputable section

open Idealize.ShloMosaic Idealize.ShloMosaic.TcCoe Idealize.SL.Sem

namespace Cert.LossPure

open Cert.RowNorm

section
open Cert.LossIdeal Cert.LossIdeal.Gen

/-- An entry of the row block's cotangent. -/
theorem pay2_at (y t : FVec Ideal S256x1024 .f32) (r : Fin 256) (l : Fin 1024) :
    k0_pay2 (F := Ideal) y t (ix2 r l) = (y (ix2 r l) - t (ix2 r l)) * Ideal.ofBits .f32 0x3A800000#32 := by
  pointwise [k0_pay2, k0_pay1]

/-- An entry of the row block's column sums. -/
theorem pay3_at (y t : FVec Ideal S256x1024 .f32) (l : Fin 1024) :
    k0_pay3 (F := Ideal) y t (ix2 0 l)
      = ∑ r : Fin 256, (y (ix2 r l) - t (ix2 r l)) * (y (ix2 r l) - t (ix2 r l)) := by
  pointwise [k0_pay3, k0_pay1]

/-- A later row block's column sums are added to the running row. -/
theorem pay4_at (y t : FVec Ideal S256x1024 .f32) (a : FVec Ideal S1x1024 .f32) (l : Fin 1024) :
    k0_pay4 (F := Ideal) y t a (ix2 0 l) = a (ix2 0 l) + k0_pay3 (F := Ideal) y t (ix2 0 l) := by
  unfold k0_pay4
  rw [shapeCast_self]
  rfl

/-- A device's loss is its running row's sum, scaled. -/
theorem lossOf_at (a : FVec Ideal S1x1024 .f32) (j : S_.Idx) :
    Cert.LossRun.lossOf (F := Ideal) a j = Ideal.ofBits .f32 0x3A000000#32 * ∑ l : Fin 1024, a (ix2 0 l) := by
  pointwise [Cert.LossRun.lossOf]
  rw [Fin.sum_univ_one]

end

section
open Cert.LossRefIdeal Cert.LossRefIdeal.Gen

/-- The loss, as the reference computes it. -/
def LOSS (y t : FVec Ideal S65536x1024 .f32) : FVec Ideal S_ .f32 :=
  mulf (constant S_ .f32 0x3F000000#32) (Host.reduceAdd (Host.divf (Host.reduceAdd (mulf (subf y t) (subf y t)) (constant S_ .f32 0x00000000#32) reducesTo_S65536x1024_S65536_d1 h_S_) (broadcastInDim S65536 ![] bcast_S_S65536 (constant S_ .f32 0x44800000#32))) (constant S_ .f32 0x00000000#32) reducesTo_S65536_S_d0 h_S_)

/-- The loss's gradient, as the reference computes it. -/
def DY (y t : FVec Ideal S65536x1024 .f32) : FVec Ideal S65536x1024 .f32 :=
  mulf (broadcastInDim S65536x1024 ![0] bcast_S65536_S65536x1024_0 (Host.divf (broadcastInDim S65536 ![] bcast_S_S65536 (mulf (constant S_ .f32 0x3F000000#32) (constant S_ .f32 0x3F800000#32))) (broadcastInDim S65536 ![] bcast_S_S65536 (constant S_ .f32 0x44800000#32)))) (mulf (broadcastInDim S65536x1024 ![] bcast_S_S65536x1024 (constant S_ .f32 0x40000000#32)) (subf y t))

/-- The loss is half the sum over the rows of the rows' mean squares. -/
theorem LOSS_at (y t : FVec Ideal S65536x1024 .f32) (j : S_.Idx) :
    LOSS y t j = Ideal.ofBits .f32 0x3F000000#32
      * ∑ r : Fin 65536, Ideal.div (∑ l : Fin 1024, (y (ix2 r l) - t (ix2 r l)) * (y (ix2 r l) - t (ix2 r l))) (Ideal.ofBits .f32 0x44800000#32) := by
  pointwise [LOSS]

/-- An entry of the gradient. -/
theorem DY_at (y t : FVec Ideal S65536x1024 .f32) (r : Fin 65536) (l : Fin 1024) :
    DY y t (ix2 r l) = Ideal.div (Ideal.ofBits .f32 0x3F000000#32) (Ideal.ofBits .f32 0x44800000#32)
      * (Ideal.ofBits .f32 0x40000000#32 * (y (ix2 r l) - t (ix2 r l))) := by
  pointwise [DY]

end

/-! ## The constants -/

theorem half : Ideal.ofBits .f32 0x3F000000#32 = ((1 / 2 : ℝ) : EReal) := by
  simp [Ideal.ofBits, Ideal.ieee, -EReal.coe_mul]; norm_num

theorem two : Ideal.ofBits .f32 0x40000000#32 = ((2 : ℝ) : EReal) := by
  simp [Ideal.ofBits, Ideal.ieee, -EReal.coe_mul]; norm_num

/-- Half the reciprocal of a row's length. -/
theorem scale : Ideal.ofBits .f32 0x3A000000#32 = ((1 / 2048 : ℝ) : EReal) := by
  simp [Ideal.ofBits, Ideal.ieee, -EReal.coe_mul]; norm_num

/-! ## The two forms agree -/

/-- The kernel multiplies an error by the reciprocal of the row's length; differentiating the loss gives twice the error
    times half that reciprocal. -/
theorem grad_eq (e : EReal) : e * Ideal.ofBits .f32 0x3A800000#32
    = Ideal.div (Ideal.ofBits .f32 0x3F000000#32) (Ideal.ofBits .f32 0x44800000#32) * (Ideal.ofBits .f32 0x40000000#32 * e) := by
  rw [width, width_inv, half, two, Ideal.div_coe (by norm_num), ← mul_assoc, ← EReal.coe_mul, ← EReal.coe_mul, mul_comm]
  norm_num

/-- The devices' losses, each half the reciprocal of a row's length times the sum over its own rows, added in the devices'
    order, are half the sum over all rows of the rows' means. -/
theorem loss_eq (f : Fin 65536 → Fin 1024 → EReal) (g : Fin 8 → EReal)
    (hg : ∀ d : Fin 8, g d = Ideal.ofBits .f32 0x3A000000#32
      * ∑ l : Fin 1024, ∑ r : Fin 8192, f ⟨d.val * 8192 + r.val, by omega⟩ l) :
    ((List.finRange 8).drop 1).foldl (fun a d => FloatOps.collectiveReduce (F := Ideal) (φ := .f32) .add a (g d)) (g 0)
      = Ideal.ofBits .f32 0x3F000000#32 * ∑ r : Fin 65536, Ideal.div (∑ l : Fin 1024, f r l) (Ideal.ofBits .f32 0x44800000#32) := by
  have h : ((List.finRange 8).drop 1).foldl (fun a d => FloatOps.collectiveReduce (F := Ideal) (φ := .f32) .add a (g d)) (g 0)
      = ∑ d : Fin 8, g d := by
    rw [Fin.sum_univ_eight]; rfl
  rw [h, width, half]
  simp only [hg, scale, Ideal.div_coe (show (1024 : ℝ) ≠ 0 by norm_num)]
  rw [← mul_sum _ _ (by norm_num)]
  have e : ∀ r : Fin 65536, (∑ l, f r l) * (((1 / 1024 : ℝ)) : EReal) = ((1 / 1024 : ℝ) : EReal) * ∑ l, f r l := fun r => mul_comm _ _
  simp only [e]
  rw [← mul_sum _ _ (by norm_num), ← mul_assoc, ← EReal.coe_mul, show (1 / 2 * (1 / 1024) : ℝ) = 1 / 2048 by norm_num]
  refine congrArg _ ?_
  rw [Fin.sum_univ_tiles 8 8192 rfl fun r => ∑ l, f r l]
  exact Finset.sum_congr rfl fun d _ => Finset.sum_comm

end Cert.LossPure
-- ==== Proof.LossValue.lean ====
/-
  What the loss's call leaves in its two arrays: the cotangent row block by row block, the row of column sums as the running
  sum over the row blocks.
-/
module

public import proofs.«01_k».proof.Proof.LossPure
public import Idealize.ShloMosaic.Lib.Pipeline.Value
public import Idealize.ShloMosaic.Lib.Layout

@[expose] public section

set_option maxRecDepth 16384

noncomputable section

namespace Cert.LossValue

open Idealize.ShloMosaic Idealize.ShloMosaic.TcCoe Idealize.SL.Sem
open Idealize.ShloMosaic.Pipeline (Dat)
open Cert.LossIdeal Cert.LossIdeal.Gen Cert.LossRun Cert.LossPure

variable (m : (ℓ : Loc nD τ sig) → Buf (Elt Ideal) ℓ) (ρ : Dev nD → PrngReg)

/-- Row `r` of row block `t`, in the device's array. -/
abbrev row (t : Fin cfg0.N) (r : Fin 256) : Fin 8192 := ⟨t.val * 256 + r.val, by have := t.isLt; have : cfg0.N = 32 := N_0; omega⟩

/-- The device's rows of the last layer's output and of the target. -/
abbrev Y (c : Dev nD) : FVec Ideal S8192x1024 .f32 := m ((c : Thread nD τ).loc main_arg0)
abbrev T (c : Dev nD) : FVec Ideal S8192x1024 .f32 := m ((c : Thread nD τ).loc main_arg1)

/-- Row block `t` of each. -/
abbrev yv (c : Dev nD) (t : Fin cfg0.N) : FVec Ideal S256x1024 .f32 := iblk m c 0 t
abbrev tv (c : Dev nD) (t : Fin cfg0.N) : FVec Ideal S256x1024 .f32 := iblk m c 1 t

/-- At step `t` the blocks of the output, of the target and of the cotangent are row block `t`; the running row's stays. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0 :=
  (by decide +kernel : ∀ t : Fin grid0.N, _)

theorem blk0 (c : Dev nD) (t : Fin cfg0.N) (r : Fin 256) (l : Fin 1024) :
    (yv m c t) (ix2 r l) = Y m c (ix2 (row t r) l) := by
  unfold yv iblk
  rw [View.read_apply]
  show Y m c _ = _
  congr 1
  obtain ⟨e0, e1, _⟩ := idx_facts t
  funext a; apply Fin.ext
  match a with
  | ⟨0, _⟩ => show win0_0.index t 0 * 256 + 1 * r.val = t.val * 256 + r.val; rw [e0]; omega
  | ⟨1, _⟩ => show win0_0.index t 1 * 1024 + 1 * l.val = l.val; rw [e1]; omega

theorem blk1 (c : Dev nD) (t : Fin cfg0.N) (r : Fin 256) (l : Fin 1024) :
    (tv m c t) (ix2 r l) = T m c (ix2 (row t r) l) := by
  unfold tv iblk
  rw [View.read_apply]
  show T m c _ = _
  congr 1
  obtain ⟨_, _, e0, e1, _⟩ := idx_facts t
  funext a; apply Fin.ext
  match a with
  | ⟨0, _⟩ => show win0_1.index t 0 * 256 + 1 * r.val = t.val * 256 + r.val; rw [e0]; omega
  | ⟨1, _⟩ => show win0_1.index t 1 * 1024 + 1 * l.val = l.val; rw [e1]; omega

/-- The square of one error. -/
def sq (c : Dev nD) (r : Fin 8192) (l : Fin 1024) : EReal :=
  (Y m c (ix2 r l) - T m c (ix2 r l)) * (Y m c (ix2 r l) - T m c (ix2 r l))

/-- The column sums over row block `t`. -/
def part (c : Dev nD) (t : Fin cfg0.N) (l : Fin 1024) : EReal := ∑ r : Fin 256, sq m c (row t r) l

theorem part_eq (c : Dev nD) (t : Fin cfg0.N) (l : Fin 1024) :
    k0_pay3 (F := Ideal) (yv m c t) (tv m c t) (ix2 0 l) = part m c t l := by
  rw [pay3_at]
  simp only [blk0, blk1]
  rfl

/-- After step `n` the running row holds the sums over the row blocks up to `n`. -/
theorem sqAt_eq (c : Dev nD) (l : Fin 1024) : ∀ (n : ℕ) (h : n < cfg0.N),
    (sqAt m c n h : FVec Ideal S1x1024 .f32) (ix2 0 l) = ∑ k : Fin (n + 1), part m c ⟨k.val, by omega⟩ l
  | 0, h => by
    refine (part_eq m c ⟨0, h⟩ l).trans ?_
    exact (Fin.sum_univ_one (fun k : Fin 1 => part m c ⟨k.val, by omega⟩ l)).symm
  | n + 1, h => by
    have hN : cfg0.N = 32 := N_0
    rw [Fin.sum_univ_castSucc]
    refine (pay4_at (yv m c ⟨n + 1, h⟩) (tv m c ⟨n + 1, h⟩) (sqAt m c n (by omega)) l).trans ?_
    rw [part_eq, sqAt_eq c l n (by omega)]
    rfl

/-- The cotangent: every error times the reciprocal of the row's length. -/
def DYv (c : Dev nD) : FVec Ideal S8192x1024 .f32 := fun j => (Y m c j - T m c j) * Ideal.ofBits .f32 0x3A800000#32

/-- The cotangent's array after the run. -/
theorem final2 (c : Dev nD) : (dat0 m c).arrAt 2 cfg0.N = DYv m c := by
  refine (dat0 m c).arrAt_eq_of_cover 2 _ (fun t _ => ?_) fun i => ?_
  · show (cfg0.win 2).cut (grid0.coords t) ((dat0 m c).after 2 t) = _
    rw [after_2]
    funext j
    obtain ⟨r, l, rfl⟩ : ∃ (r : Fin 256) (l : Fin 1024), j = ix2 r l := ⟨j 0, j 1, eq_ix2 (n0 := 256) (n1 := 1024) j⟩
    rw [View.read_apply]
    have e : ((cfg0.win 2).blk t).view.emb (ix2 r l) = ix2 (row t r) l := by
      obtain ⟨_, _, _, _, e0, e1, _⟩ := idx_facts t
      funext a; apply Fin.ext
      match a with
      | ⟨0, _⟩ => show win0_2.index t 0 * 256 + 1 * r.val = t.val * 256 + r.val; rw [e0]; omega
      | ⟨1, _⟩ => show win0_2.index t 1 * 1024 + 1 * l.val = l.val; rw [e1]; omega
    rw [e]
    refine (pay2_at (yv m c t) (tv m c t) r l).trans ?_
    rw [blk0, blk1]
    rfl
  · have hi0 : (i 0 : Nat) < 8192 := (i 0).isLt
    have hi1 : (i 1 : Nat) < 1024 := (i 1).isLt
    have hN : cfg0.N = 32 := N_0
    let t : Fin cfg0.N := ⟨(i 0 : Nat) / 256, by omega⟩
    refine ⟨t, flush0_2 t, ?_⟩
    show i ∈ ((View.whole main_v1_0).slice (win0_2.rect t)).set
    rw [View.set_slice_whole, Rect.mem_set_unit]
    obtain ⟨_, _, _, _, e0, e1, _⟩ := idx_facts t
    have ht : t.val = (i 0 : Nat) / 256 := rfl
    intro a
    match a with
    | ⟨0, _⟩ => show win0_2.index t 0 * 256 ≤ (i 0 : Nat) ∧ (i 0 : Nat) < win0_2.index t 0 * 256 + 256; rw [e0]; omega
    | ⟨1, _⟩ => show win0_2.index t 1 * 1024 ≤ (i 1 : Nat) ∧ (i 1 : Nat) < win0_2.index t 1 * 1024 + 1024; rw [e1]; omega

/-- The column sums over all the device's rows. -/
def SQv (c : Dev nD) : FVec Ideal S1x1024 .f32 := fun j => ∑ r : Fin 8192, sq m c r (j 1)

/-- The sum over the 32 row blocks is the sum over all rows. -/
theorem parts (c : Dev nD) (l : Fin 1024) (h : ∀ k : Fin 32, k.val < cfg0.N) :
    ∑ k : Fin 32, part m c ⟨k.val, h k⟩ l = SQv m c (ix2 0 l) :=
  (Fin.sum_univ_tiles 32 256 rfl fun r : Fin 8192 => sq m c r l).symm

/-- The running row's array after the run. -/
theorem final3 (c : Dev nD) : (dat0 m c).arrAt 3 cfg0.N = SQv m c := by
  have hN : cfg0.N = 32 := N_0
  refine (dat0 m c).arrAt_eq_of_cover 3 _ (fun t hf => ?_) fun i => ?_
  · have h31 : t.val = 31 := by have := (flush0_3 t).mp hf; have := t.isLt; omega
    show (cfg0.win 3).cut (grid0.coords t) ((dat0 m c).after 3 t) = _
    rw [after_3]
    funext j
    obtain ⟨r, l, rfl⟩ : ∃ (r : Fin 1) (l : Fin 1024), j = ix2 r l := ⟨j 0, j 1, eq_ix2 (n0 := 1) (n1 := 1024) j⟩
    obtain rfl : r = 0 := Subsingleton.elim _ _
    rw [View.read_apply]
    have e : ((cfg0.win 3).blk t).view.emb (ix2 0 l) = ix2 0 l := by
      obtain ⟨_, _, _, _, _, _, e0, e1⟩ := idx_facts t
      funext a; apply Fin.ext
      match a with
      | ⟨0, _⟩ => show win0_3.index t 0 * 1 + 1 * 0 = 0; rw [e0]
      | ⟨1, _⟩ => show win0_3.index t 1 * 1024 + 1 * l.val = l.val; rw [e1]; omega
    rw [e]
    refine Eq.trans ?_ (parts m c l fun k => by omega)
    obtain ⟨n, hn⟩ := t
    obtain rfl : n = 31 := h31
    exact sqAt_eq m c l 31 hn
  · have hi0 : (i 0 : Nat) < 1 := (i 0).isLt
    have hi1 : (i 1 : Nat) < 1024 := (i 1).isLt
    let t : Fin cfg0.N := ⟨31, by omega⟩
    refine ⟨t, (flush0_3 t).mpr rfl, ?_⟩
    show i ∈ ((View.whole main_v1_1).slice (win0_3.rect t)).set
    rw [View.set_slice_whole, Rect.mem_set_unit]
    obtain ⟨_, _, _, _, _, _, e0, e1⟩ := idx_facts t
    intro a
    match a with
    | ⟨0, _⟩ => show win0_3.index t 0 * 1 ≤ (i 0 : Nat) ∧ (i 0 : Nat) < win0_3.index t 0 * 1 + 1; rw [e0]; omega
    | ⟨1, _⟩ => show win0_3.index t 1 * 1024 ≤ (i 1 : Nat) ∧ (i 1 : Nat) < win0_3.index t 1 * 1024 + 1024; rw [e1]; omega

/-! ## Against the whole arrays -/

/-- Where row `r` of device `c` lies in the whole array. -/
theorem block_idx (c : Fin 8) (r : Fin 8192) (l : Fin 1024) (h : Layout.Tiles ⟨2, ![8192, 1024]⟩ ⟨2, ![65536, 1024]⟩ 0 8) :
    h.idx c (ix2 r l) = ix2 (⟨c.val * 8192 + r.val, by omega⟩ : Fin 65536) l := by
  funext a; apply Fin.ext
  match a with
  | ⟨0, _⟩ => rfl
  | ⟨1, _⟩ => rfl

variable (y t : FVec Ideal Cert.LossRefIdeal.S65536x1024 .f32)
  (h : Layout.Tiles ⟨2, ![8192, 1024]⟩ ⟨2, ![65536, 1024]⟩ 0 8)
  (hy : ∀ c : Dev nD, Y m c = Layout.block ⟨2, ![8192, 1024]⟩ ⟨2, ![65536, 1024]⟩ 0 8 c y h)
  (ht : ∀ c : Dev nD, T m c = Layout.block ⟨2, ![8192, 1024]⟩ ⟨2, ![65536, 1024]⟩ 0 8 c t h)
include hy ht

/-- Each device's cotangent is its rows of the reference's gradient. -/
theorem dy_block (c : Dev nD) : DYv m c = Layout.block ⟨2, ![8192, 1024]⟩ ⟨2, ![65536, 1024]⟩ 0 8 c (DY y t) h := by
  funext j
  obtain ⟨r, l, rfl⟩ : ∃ (r : Fin 8192) (l : Fin 1024), j = ix2 r l := ⟨j 0, j 1, eq_ix2 (n0 := 8192) (n1 := 1024) j⟩
  unfold DYv
  rw [hy, ht, Layout.block_apply, Layout.block_apply, Layout.block_apply, block_idx, DY_at, grad_eq]

/-- The devices' losses add up to the reference's loss. -/
theorem loss_sum (j : S_.Idx) :
    ((List.finRange 8).drop 1).foldl (fun a d => FloatOps.collectiveReduce (F := Ideal) (φ := .f32) .add a (lossOf (F := Ideal) ((dat0 m d).arrAt 3 cfg0.N) j))
        (lossOf (F := Ideal) ((dat0 m (0 : Dev nD)).arrAt 3 cfg0.N) j)
      = LOSS y t j := by
  rw [LOSS_at]
  refine loss_eq (fun r l => (y (ix2 r l) - t (ix2 r l)) * (y (ix2 r l) - t (ix2 r l)))
    (fun d => lossOf (F := Ideal) ((dat0 m d).arrAt 3 cfg0.N) j) fun d => ?_
  refine (congrArg (fun a : FVec Ideal S1x1024 .f32 => lossOf (F := Ideal) a j) (final3 m d)).trans ((lossOf_at _ j).trans ?_)
  refine congrArg _ (Finset.sum_congr rfl fun l _ => Finset.sum_congr rfl fun r _ => ?_)
  unfold sq
  rw [hy, ht, Layout.block_apply, Layout.block_apply]
  show (y (h.idx d (ix2 r l)) - t (h.idx d (ix2 r l))) * (y (h.idx d (ix2 r l)) - t (h.idx d (ix2 r l))) = _
  rw [block_idx]

end Cert.LossValue
-- ==== Proof.LossClaims.lean ====
/-
  The claims about the loss and its gradient: every device ends holding the reference's loss and its own rows of the
  reference's gradient.
-/
module

public import proofs.«01_k».proof.Proof.LossValue
public import proofs.«01_k».proof.Proof.Gen.Loss
public import proofs.«01_k».proof.Proof.Gen.LossRefIdeal
public import Idealize.ShloMosaic.Lib.Quiescent

@[expose] public section

noncomputable section

namespace Cert.LossClaims

open Idealize.ShloMosaic Idealize.ShloMosaic.TcCoe Idealize.SL.Sem

/-- The kernel's program is the same text at both readings of the numbers. -/
theorem bodies_eq : Cert.Loss.defs₀ (F := Bits) = Cert.LossIdeal.defs₀ (F := Bits) := by
  unfold Cert.Loss.defs₀ Cert.LossIdeal.defs₀
  refine congrArg Defs.onTc ?_
  funext l a
  match l, a with
  | 0, (t, s) => rfl

theorem defs_eq : Cert.Loss.defs (F := Bits) = Cert.LossIdeal.defs (F := Bits) :=
  congrArg (Pipeline.defs Cert.LossIdeal.pcfgs) bodies_eq

theorem frame_kernel : Cert.quiescent_Loss := fun m g _ => by
  have e := congrArg (fun D => θ_run D (onTc (τ := Cert.LossIdeal.τ) (Cert.LossIdeal.main (F := Bits))) ⟨m, fun _ => 0, g⟩
      (fun r => (∀ c : Dev Cert.LossIdeal.nD,
        r.2.mem ((c.tc : Thread Cert.LossIdeal.nD Cert.LossIdeal.τ).loc Cert.LossIdeal.main_arg0) = m ((c.tc : Thread Cert.LossIdeal.nD Cert.LossIdeal.τ).loc Cert.LossIdeal.main_arg0)
        ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
        ∧ r.2.sem = fun _ => 0)) defs_eq
  exact e.mpr ((θ_run Cert.LossIdeal.defs _ _).mono (fun _ h => ⟨fun c => (h.1 c).2.2, h.2⟩) (Cert.LossRun.run (F := Bits) m g))

theorem frame_ideal : Cert.quiescent_LossIdeal := fun m g _ =>
  (θ_run Cert.LossIdeal.defs _ _).mono (fun _ h => ⟨fun c => (h.1 c).2.2, h.2⟩) (Cert.LossRun.run (F := Ideal) m g)

theorem frame_refIdeal : Cert.quiescent_LossRefIdeal := fun m g _ =>
  (θ_run Cert.LossRefIdeal.defs _ _).mono (fun r h => ⟨fun c => (h c).2.2, sem_eq_zero_of_no_sems (by decide) r.2⟩)
    (Cert.LossRefIdeal.Value.run (F := Ideal) m g)

theorem algebraic : Cert.algebraic_LossIdeal_LossRefIdeal := fun m g m' g' _ hm =>
  ⟨_, _, (θ_run Cert.LossIdeal.defs _ _).mono (fun _ h c =>
      ⟨funext fun j => ((h.1 c).1 j).trans (LossValue.loss_sum m _ _ (by decide) (fun c => (hm c).1) (fun c => (hm c).2) j),
        (h.1 c).2.1.trans ((LossValue.final2 m c).trans (LossValue.dy_block m _ _ (by decide) (fun c => (hm c).1) (fun c => (hm c).2) c)),
        (h.1 c).2.2⟩)
      (Cert.LossRun.run (F := Ideal) m g),
    (θ_run Cert.LossRefIdeal.defs _ _).mono (fun _ h => h 0) (Cert.LossRefIdeal.Value.run (F := Ideal) m' g')⟩

end Cert.LossClaims

end
-- ==== Proof.FfnNormValue.lean ====
/-
  What the MLP's norm leaves: each row divided by its root mean square and scaled, as the reference computes it.
-/
module

public import proofs.«01_k».proof.Defs
public import proofs.«01_k».proof.Proof.Gen.FfnNormIdeal.Value
public import proofs.«01_k».proof.Proof.Gen.FfnNormRefIdeal.Run
public import proofs.«01_k».proof.Proof.RowNorm
public import Idealize.ShloMosaic.Lib.Pipeline.Value
public import Idealize.ShloMosaic.Lib.Tactic

@[expose] public section

set_option maxRecDepth 16384

noncomputable section

namespace Cert.FfnNormIdeal.Norm

open Idealize.ShloMosaic Idealize.ShloMosaic.TcCoe Idealize.SL.Sem
open Idealize.ShloMosaic.Pipeline (Dat)
open Cert.RowNorm

section
open Cert.FfnNormRefIdeal Cert.FfnNormRefIdeal.Gen

/-- The reference's result. -/
def Y (x : FVec Ideal S8192x1024 .f32) (g : FVec Ideal S1x1024 .f32) : FVec Ideal S8192x1024 .bf16 :=
  truncf .bf16 (mulf (mulf x (broadcastInDim S8192x1024 ![0, 1] bcast_S8192x1_S8192x1024_0_1 (Host.rsqrt (addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 g)) bitsLt_bf16_f32

/-- An entry of it. -/
theorem Y_at (x : FVec Ideal S8192x1024 .f32) (g : FVec Ideal S1x1024 .f32) (r : Fin 8192) (l : Fin 1024) :
    Y x g (ix2 r l) = x (ix2 r l) * Ideal.rsqrt (ms L1024 fun k => x (ix2 r k)) * g (ix2 0 l) := by
  pointwise [Y]
  rw [ms_div L1024 fun k => x (ix2 r k)]

end

open Cert.FfnNormIdeal Cert.FfnNormIdeal.Gen

theorem hz : (![0, 0] : Fin 2 → Nat) = fun _ => 0 := funext fun a => by fin_cases a <;> rfl

/-- A step stores the norm of its row block. -/
theorem stored (x : FVec Ideal S256x1024 .f32) (g : FVec Ideal S1x1024 .f32) :
    out0_2 (F := Ideal) x g = k0_pay1 (F := Ideal) x g := by
  unfold out0_2
  rw [View.canon_unit_zero hz, View.ld_unit_zero (S := S256x1024) hz, View.ld_unit_zero (S := S1x1024) hz]

theorem pay1_at (x : FVec Ideal S256x1024 .f32) (g : FVec Ideal S1x1024 .f32) (r : Fin 256) (l : Fin 1024) :
    k0_pay1 (F := Ideal) x g (ix2 r l) = x (ix2 r l) * Ideal.rsqrt (ms L1024 fun k => x (ix2 r k)) * g (ix2 0 l) := by
  pointwise [k0_pay1]
  rfl

variable (m : (ℓ : Loc nD τ sig) → Buf (Elt Ideal) ℓ) (ρ : Dev nD → PrngReg)

/-- The arrays as the call finds them, and the blocks of step `t`. -/
abbrev X (c : Dev nD) : FVec Ideal S8192x1024 .f32 := V m c main_arg0
abbrev G (c : Dev nD) : FVec Ideal S1x1024 .f32 := V m c main_arg1
abbrev xb (c : Dev nD) (t : Fin cfg0.N) : FVec Ideal S256x1024 .f32 := iblk m c 0 t
abbrev gb (c : Dev nD) (t : Fin cfg0.N) : FVec Ideal S1x1024 .f32 := iblk m c 1 t

/-- Row `r` of step `t`'s block, in the whole array. -/
abbrev row (t : Fin cfg0.N) (r : Fin 256) : Fin 8192 :=
  ⟨t.val * 256 + r.val, by have : cfg0.N = 32 := N_0; omega⟩

theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem blk0 (c : Dev nD) (t : Fin cfg0.N) (r : Fin 256) (l : Fin 1024) :
    xb m c t (ix2 r l) = X m c (ix2 (row t r) l) := by
  unfold xb iblk
  rw [View.read_apply]
  show V m c main_arg0 _ = _
  congr 1
  obtain ⟨e0, e1, _⟩ := idx_facts t
  funext a; apply Fin.ext
  match a with
  | ⟨0, _⟩ => show win0_0.index t 0 * 256 + 1 * r.val = t.val * 256 + r.val; rw [e0]; omega
  | ⟨1, _⟩ => show win0_0.index t 1 * 1024 + 1 * l.val = l.val; rw [e1]; omega

theorem blk1 (c : Dev nD) (t : Fin cfg0.N) (l : Fin 1024) : gb m c t (ix2 0 l) = G m c (ix2 0 l) := by
  unfold gb iblk
  rw [View.read_apply]
  show V m c main_arg1 _ = _
  congr 1
  obtain ⟨_, _, e0, e1, _⟩ := idx_facts t
  funext a; apply Fin.ext
  match a with
  | ⟨0, _⟩ => show win0_1.index t 0 * 1 + 1 * 0 = 0; rw [e0]
  | ⟨1, _⟩ => show win0_1.index t 1 * 1024 + 1 * l.val = l.val; rw [e1]; omega

/-- The array after the run. -/
theorem final (c : Dev nD) : (dats m 0 c).arrAt 2 cfg0.N = Y (X m c) (G m c) := by
  have hN : cfg0.N = 32 := N_0
  refine (dats m 0 c).arrAt_eq_of_cover 2 _ (fun t _ => ?_) fun i => ?_
  · rw [Value.flushed2]
    funext j
    obtain ⟨r, l, rfl⟩ : ∃ (r : Fin 256) (l : Fin 1024), j = ix2 r l := ⟨j 0, j 1, eq_ix2 (n0 := 256) (n1 := 1024) j⟩
    rw [View.read_apply]
    have e : ((cfg0.win 2).blk t).view.emb (ix2 r l) = ix2 (row t r) l := by
      obtain ⟨_, _, _, _, e0, e1⟩ := idx_facts t
      funext a; apply Fin.ext
      match a with
      | ⟨0, _⟩ => show win0_2.index t 0 * 256 + 1 * r.val = t.val * 256 + r.val; rw [e0]; omega
      | ⟨1, _⟩ => show win0_2.index t 1 * 1024 + 1 * l.val = l.val; rw [e1]; omega
    rw [e]
    refine Eq.trans ?_ (Y_at ..).symm
    refine (congrFun (stored (xb m c t) (gb m c t)) (ix2 r l)).trans ?_
    rw [pay1_at]
    simp only [blk0, blk1]
  · have hi0 : (i 0 : Nat) < 8192 := (i 0).isLt
    have hi1 : (i 1 : Nat) < 1024 := (i 1).isLt
    let t : Fin cfg0.N := ⟨(i 0 : Nat) / 256, by omega⟩
    have ht : t.val = (i 0 : Nat) / 256 := rfl
    refine ⟨t, flush0_2 t, ?_⟩
    show i ∈ ((View.whole main_v0).slice (win0_2.rect t)).set
    rw [View.set_slice_whole, Rect.mem_set_unit]
    obtain ⟨_, _, _, _, e0, e1⟩ := idx_facts t
    intro a
    match a with
    | ⟨0, _⟩ => show win0_2.index t 0 * 256 ≤ (i 0 : Nat) ∧ (i 0 : Nat) < win0_2.index t 0 * 256 + 256; rw [e0]; omega
    | ⟨1, _⟩ => show win0_2.index t 1 * 1024 ≤ (i 1 : Nat) ∧ (i 1 : Nat) < win0_2.index t 1 * 1024 + 1024; rw [e1]; omega

/-- The run, read: the array as the reference's result, the arguments unchanged. -/
theorem run : θ_run defs (onTc (τ := τ) (main (F := Ideal))) ⟨m, fun _ => 0, ρ⟩ fun r => ∀ c : Dev nD,
      r.2.mem ((c : Thread nD τ).loc main_v0) = Y (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.FfnNormIdeal.Norm

end
-- ==== Proof.FfnNormClaims.lean ====
/-
  The claims about the MLP's norm: what the call leaves row block by row block is the reference's norm of the whole array.
-/
module

public import proofs.«01_k».proof.Proof.FfnNormValue
public import proofs.«01_k».proof.Proof.Gen.FfnNorm
public import proofs.«01_k».proof.Proof.Gen.FfnNorm.Frame
public import proofs.«01_k».proof.Proof.Gen.FfnNormRefIdeal
public import Idealize.ShloMosaic.Lib.Quiescent

@[expose] public section

noncomputable section

namespace Cert.FfnNormClaims

open Idealize.ShloMosaic Idealize.ShloMosaic.TcCoe Idealize.SL.Sem

theorem frame_kernel : Cert.quiescent_FfnNorm := fun m g _ => Cert.FfnNorm.Gen.frame (F := Bits) m g

theorem frame_ideal : Cert.quiescent_FfnNormIdeal := fun m g _ => Cert.FfnNormIdeal.Gen.frame (F := Ideal) m g

theorem frame_refIdeal : Cert.quiescent_FfnNormRefIdeal := fun m g _ =>
  (θ_run Cert.FfnNormRefIdeal.defs _ _).mono (fun r h => ⟨fun c => (h c).2, sem_eq_zero_of_no_sems (by decide) r.2⟩)
    (Cert.FfnNormRefIdeal.Value.run (F := Ideal) m g)

theorem algebraic : Cert.algebraic_FfnNormIdeal_FfnNormRefIdeal := fun m g m' g' _ hm =>
  ⟨_, Cert.FfnNormIdeal.Norm.run m g,
    (θ_run Cert.FfnNormRefIdeal.defs _ _).mono
      (fun _ h c => ⟨(h c).1.trans (by rw [(hm c).1, (hm c).2]; rfl), (h c).2⟩)
      (Cert.FfnNormRefIdeal.Value.run (F := Ideal) m' g')⟩

end Cert.FfnNormClaims

end
-- ==== Proof.Gated.lean ====
/-
  The gated activation over the extended reals: a centred convolution of width 3 over the rows of an array's first half, its
  product with its own sigmoid, and the product with the second half. Past the ends the array counts as zero. And the rows
  that a row block sees: eight rows of the block before, its own, and eight of the block after.
-/
module

public import Idealize.ShloMosaic.Lib.Pointwise

@[expose] public section

noncomputable section

open Idealize.ShloMosaic

namespace Cert.Gated

/-- The row before `r`, zero before the first. -/
def above (u : Fin 8192 → EReal) (r : Fin 8192) : EReal :=
  if h : 1 ≤ r.val then u ⟨r.val - 1, by omega⟩ else 0

/-- The row after `r`, zero after the last. -/
def below (u : Fin 8192 → EReal) (r : Fin 8192) : EReal :=
  if h : r.val + 1 < 8192 then u ⟨r.val + 1, h⟩ else 0

/-- The sigmoid. -/
def sigmoid (z : EReal) : EReal := Ideal.div 1 (1 + Ideal.exp (-z))

/-- The convolution at one place, from the place before, itself and the place after. -/
def conv (w : Fin 3 → EReal) (b a x z : EReal) : EReal := w 0 * a + w 1 * x + w 2 * z + b

/-- The convolution of a column at row `r`. -/
def convAt (w : Fin 3 → EReal) (b : EReal) (u : Fin 8192 → EReal) (r : Fin 8192) : EReal :=
  conv w b (above u r) (u r) (below u r)

/-- Eight rows, a block's own 256 and eight more, in one list. -/
def halo {α : Type} (P : Fin 8 → α) (X : Fin 256 → α) (N : Fin 8 → α) (k : ℕ) (hk : k < 272) : α :=
  if h : k < 8 then P ⟨k, h⟩ else if h' : k - 8 < 256 then X ⟨k - 8, h'⟩ else N ⟨k - 8 - 256, by omega⟩

/-- The list moved down by one: at the block's row `r` it holds the row before. -/
theorem halo_above {α : Type} (P : Fin 8 → α) (X : Fin 256 → α) (N : Fin 8 → α) (r : Fin 256) (h) :
    halo P X N ((8 + r.val + 272 - 1) % 272) h = if hr : 1 ≤ r.val then X ⟨r.val - 1, by omega⟩ else P 7 := by
  have e : (8 + r.val + 272 - 1) % 272 = 7 + r.val := by omega
  unfold halo
  simp only [e]
  by_cases hr : 1 ≤ r.val
  · rw [dif_pos hr, dif_neg (by omega), dif_pos (by omega)]
    exact congrArg X (Fin.ext (by dsimp only; omega))
  · rw [dif_neg hr, dif_pos (by omega)]
    exact congrArg P (Fin.ext (by show 7 + r.val = 7; omega))

/-- The list moved up by one: at the block's row `r` it holds the row after. -/
theorem halo_below {α : Type} (P : Fin 8 → α) (X : Fin 256 → α) (N : Fin 8 → α) (r : Fin 256) (h) :
    halo P X N ((8 + r.val + 272 - 271) % 272) h = if hr : r.val + 1 < 256 then X ⟨r.val + 1, hr⟩ else N 0 := by
  have e : (8 + r.val + 272 - 271) % 272 = 9 + r.val := by omega
  unfold halo
  simp only [e]
  rw [dif_neg (by omega)]
  by_cases hr : r.val + 1 < 256
  · rw [dif_pos hr, dif_pos (by omega)]
    exact congrArg X (Fin.ext (by dsimp only; omega))
  · rw [dif_neg hr, dif_neg (by omega)]
    exact congrArg N (Fin.ext (by show 9 + r.val - 8 - 256 = 0; omega))

/-- A choice by a comparison of two small numbers. -/
theorem select_eq (k j : ℕ) (hk : k < 32) (hj : j < 32) (a b : EReal) :
    Scalar.select (Scalar.cmpi CmpIPredicate.eq (BitVec.ofNat 32 k) (BitVec.ofNat 32 j)) a b = if k = j then a else b := by
  have h : BitVec.ofNat 32 k = BitVec.ofNat 32 j ↔ k = j := by
    rw [← BitVec.toNat_inj, BitVec.toNat_ofNat, BitVec.toNat_ofNat, Nat.mod_eq_of_lt (by omega), Nat.mod_eq_of_lt (by omega)]
  by_cases e : k = j
  · subst e; simp [Scalar.select, Scalar.cmpi, IntOp.cmpi]
  · have e' : ¬BitVec.ofNat 32 k = BitVec.ofNat 32 j := fun h' => e (h.mp h')
    simp [Scalar.select, Scalar.cmpi, IntOp.cmpi, e, beq_false_of_ne e']

theorem sitofp_zero : (FloatOps.sitofp FTy.f32 0#32 : Ideal FTy.f32) = 0 := by
  simp [FloatOps.sitofp]

end Cert.Gated

end
-- ==== Proof.FfnActValue.lean ====
/-
  What the MLP's gated activation leaves: row block by row block, the rows just outside a block included, it is the
  reference's activation of the whole array.
-/
module

public import proofs.«01_k».proof.Defs
public import proofs.«01_k».proof.Proof.Gen.FfnActIdeal.Value
public import proofs.«01_k».proof.Proof.Gated
public import Idealize.ShloMosaic.Lib.Pipeline.Value
public import Idealize.ShloMosaic.Lib.Tactic

@[expose] public section

set_option maxRecDepth 16384

noncomputable section

namespace Cert.FfnActIdeal.Act

open Idealize.ShloMosaic Idealize.ShloMosaic.TcCoe Idealize.SL.Sem
open Idealize.ShloMosaic.Pipeline (Dat)
open Cert.Gated

/-- The gated activation of the two halves of an array. -/
def Y (u : FVec Ideal Cert.FfnActIdeal.S8192x5632 .f32) (w : FVec Ideal Cert.FfnActIdeal.S3x2816 .f32)
    (b : FVec Ideal Cert.FfnActIdeal.S1x2816 .f32) : FVec Ideal Cert.FfnActIdeal.S8192x2816 .bf16 := fun i =>
  let z := convAt (fun k => w (ix2 k (i 1))) (b (ix2 0 (i 1))) (fun r => u (ix2 r ⟨(i 1).val, by have : (i 1).val < 2816 := (i 1).isLt; omega⟩)) (i 0)
  z * sigmoid z * u (ix2 (i 0) ⟨2816 + (i 1).val, by have : (i 1).val < 2816 := (i 1).isLt; omega⟩)

/-- An entry of it. -/
theorem Y_at (u : FVec Ideal Cert.FfnActIdeal.S8192x5632 .f32) (w : FVec Ideal Cert.FfnActIdeal.S3x2816 .f32)
    (b : FVec Ideal Cert.FfnActIdeal.S1x2816 .f32) (r : Fin 8192) (l : Fin 2816) :
    Y u w b (ix2 r l)
      = convAt (fun k => w (ix2 k l)) (b (ix2 0 l)) (fun r => u (ix2 r ⟨l.val, by omega⟩)) r
        * sigmoid (convAt (fun k => w (ix2 k l)) (b (ix2 0 l)) (fun r => u (ix2 r ⟨l.val, by omega⟩)) r)
        * u (ix2 r ⟨2816 + l.val, by omega⟩) := rfl

open Cert.FfnActIdeal Cert.FfnActIdeal.Gen

theorem hz : (![0, 0] : Fin 2 → Nat) = fun _ => 0 := funext fun a => by fin_cases a <;> rfl

/-- A step stores the activation of its row block. -/
theorem stored (i : grid0.Coords) (p n : FVec Ideal S8x1408 .f32) (x v : FVec Ideal S256x1408 .f32) (w : FVec Ideal S3x1408 .f32)
    (b : FVec Ideal S1x1408 .f32) :
    out0_6 (F := Ideal) i p x n v w b = k0_pay1 (F := Ideal) (k0_pay2 (F := Ideal) i p n x w b) v := by
  unfold out0_6
  rw [View.canon_unit_zero hz, View.ld_unit_zero (S := S8x1408) hz, View.ld_unit_zero (S := S8x1408) hz,
    View.ld_unit_zero (S := S256x1408) hz, View.ld_unit_zero (S := S256x1408) hz, View.ld_unit_zero (S := S3x1408) hz,
    View.ld_unit_zero (S := S1x1408) hz]

/-- A column of the rows that the step sees: the blocks at the array's two ends see zeros beyond it. -/
def rows (i : grid0.Coords) (p n : FVec Ideal S8x1408 .f32) (x : FVec Ideal S256x1408 .f32) (l : Fin 1408) (k : ℕ) (hk : k < 272) : EReal :=
  halo (fun a => Scalar.select (Scalar.cmpi CmpIPredicate.eq (BitVec.ofNat 32 (i 1).val) 0#32) 0 (p (ix2 a l)))
    (fun a => x (ix2 a l))
    (fun a => Scalar.select (Scalar.cmpi CmpIPredicate.eq (BitVec.ofNat 32 (i 1).val) 31#32) 0 (n (ix2 a l))) k hk

theorem pay_at (i : grid0.Coords) (p n : FVec Ideal S8x1408 .f32) (x v : FVec Ideal S256x1408 .f32) (w : FVec Ideal S3x1408 .f32)
    (b : FVec Ideal S1x1408 .f32) (r : Fin 256) (l : Fin 1408) (z : EReal)
    (hz : z = conv (fun k => w (ix2 k l)) (b (ix2 0 l)) (rows i p n x l ((8 + r.val + 272 - 1) % 272) (by omega)) (x (ix2 r l))
      (rows i p n x l ((8 + r.val + 272 - 271) % 272) (by omega))) :
    k0_pay1 (F := Ideal) (k0_pay2 (F := Ideal) i p n x w b) v (ix2 r l) = z * sigmoid z * v (ix2 r l) := by
  rw [hz]
  unfold sigmoid
  pointwise [k0_pay1, k0_pay2]
  simp only [zero_sub]
  rfl

variable (m : (ℓ : Loc nD τ sig) → Buf (Elt Ideal) ℓ) (ρ : Dev nD → PrngReg)

/-- The arrays as the call finds them, and the blocks of step `t`. -/
abbrev U (c : Dev nD) : FVec Ideal S8192x5632 .f32 := V m c main_arg0
abbrev W (c : Dev nD) : FVec Ideal S3x2816 .f32 := V m c main_arg1
abbrev B (c : Dev nD) : FVec Ideal S1x2816 .f32 := V m c main_arg2
abbrev pb (c : Dev nD) (t : Fin cfg0.N) : FVec Ideal S8x1408 .f32 := iblk m c 0 t
abbrev xb (c : Dev nD) (t : Fin cfg0.N) : FVec Ideal S256x1408 .f32 := iblk m c 1 t
abbrev nb (c : Dev nD) (t : Fin cfg0.N) : FVec Ideal S8x1408 .f32 := iblk m c 2 t
abbrev vb (c : Dev nD) (t : Fin cfg0.N) : FVec Ideal S256x1408 .f32 := iblk m c 3 t
abbrev wb (c : Dev nD) (t : Fin cfg0.N) : FVec Ideal S3x1408 .f32 := iblk m c 4 t
abbrev bb (c : Dev nD) (t : Fin cfg0.N) : FVec Ideal S1x1408 .f32 := iblk m c 5 t

/-- Row `r` and column `l` of step `t`'s block, in the whole arrays. -/
abbrev row (t : Fin cfg0.N) (r : Fin 256) : Fin 8192 := ⟨t.val % 32 * 256 + r.val, by omega⟩
abbrev col (t : Fin cfg0.N) (l : Fin 1408) : Fin 2816 :=
  ⟨t.val / 32 * 1408 + l.val, by have : cfg0.N = 64 := N_0; omega⟩
abbrev half (l : Fin 2816) : Fin 5632 := ⟨l.val, by omega⟩

theorem idx_facts : ∀ t : Fin cfg0.N, ((grid0.coords t) 1).val = t.val % 32
    ∧ win0_0.index t (0 : Fin 2) = t.val % 32 * 32 - 1 ∧ win0_0.index t (1 : Fin 2) = t.val / 32
    ∧ win0_1.index t (0 : Fin 2) = t.val % 32 ∧ win0_1.index t (1 : Fin 2) = t.val / 32
    ∧ win0_2.index t (0 : Fin 2) = min ((t.val % 32 + 1) * 32) 1023 ∧ win0_2.index t (1 : Fin 2) = t.val / 32
    ∧ win0_3.index t (0 : Fin 2) = t.val % 32 ∧ win0_3.index t (1 : Fin 2) = 2 + t.val / 32
    ∧ win0_4.index t (0 : Fin 2) = 0 ∧ win0_4.index t (1 : Fin 2) = t.val / 32
    ∧ win0_5.index t (0 : Fin 2) = 0 ∧ win0_5.index t (1 : Fin 2) = t.val / 32
    ∧ win0_6.index t (0 : Fin 2) = t.val % 32 ∧ win0_6.index t (1 : Fin 2) = t.val / 32 :=
  (by decide +kernel : ∀ t : Fin grid0.N, _)

/-- The last of the eight rows before the block. -/
theorem blk0 (c : Dev nD) (t : Fin cfg0.N) (h : ¬t.val % 32 = 0) (l : Fin 1408) :
    pb m c t (ix2 7 l) = U m c (ix2 ⟨t.val % 32 * 256 - 1, by omega⟩ (half (col t l))) := by
  unfold pb iblk
  rw [View.read_apply]
  show V m c main_arg0 _ = _
  congr 1
  obtain ⟨_, e0, e1, _⟩ := idx_facts t
  funext a; apply Fin.ext
  match a with
  | ⟨0, _⟩ => show win0_0.index t 0 * 8 + 1 * 7 = t.val % 32 * 256 - 1; rw [e0]; omega
  | ⟨1, _⟩ => show win0_0.index t 1 * 1408 + 1 * l.val = t.val / 32 * 1408 + l.val; rw [e1]; omega

theorem blk1 (c : Dev nD) (t : Fin cfg0.N) (r : Fin 256) (l : Fin 1408) :
    xb m c t (ix2 r l) = U m c (ix2 (row t r) (half (col t l))) := by
  unfold xb iblk
  rw [View.read_apply]
  show V m c main_arg0 _ = _
  congr 1
  obtain ⟨_, _, _, e0, e1, _⟩ := idx_facts t
  funext a; apply Fin.ext
  match a with
  | ⟨0, _⟩ => show win0_1.index t 0 * 256 + 1 * r.val = t.val % 32 * 256 + r.val; rw [e0]; omega
  | ⟨1, _⟩ => show win0_1.index t 1 * 1408 + 1 * l.val = t.val / 32 * 1408 + l.val; rw [e1]; omega

/-- The first of the eight rows after the block. -/
theorem blk2 (c : Dev nD) (t : Fin cfg0.N) (h : ¬t.val % 32 = 31) (l : Fin 1408) :
    nb m c t (ix2 0 l) = U m c (ix2 ⟨(t.val % 32 + 1) * 256, by omega⟩ (half (col t l))) := by
  unfold nb iblk
  rw [View.read_apply]
  show V m c main_arg0 _ = _
  congr 1
  obtain ⟨_, _, _, _, _, e0, e1, _⟩ := idx_facts t
  funext a; apply Fin.ext
  match a with
  | ⟨0, _⟩ => show win0_2.index t 0 * 8 + 1 * 0 = (t.val % 32 + 1) * 256; rw [e0]; omega
  | ⟨1, _⟩ => show win0_2.index t 1 * 1408 + 1 * l.val = t.val / 32 * 1408 + l.val; rw [e1]; omega

theorem blk3 (c : Dev nD) (t : Fin cfg0.N) (r : Fin 256) (l : Fin 1408) :
    vb m c t (ix2 r l) = U m c (ix2 (row t r) ⟨2816 + (col t l).val, by omega⟩) := by
  unfold vb iblk
  rw [View.read_apply]
  show V m c main_arg0 _ = _
  congr 1
  obtain ⟨_, _, _, _, _, _, _, e0, e1, _⟩ := idx_facts t
  funext a; apply Fin.ext
  match a with
  | ⟨0, _⟩ => show win0_3.index t 0 * 256 + 1 * r.val = t.val % 32 * 256 + r.val; rw [e0]; omega
  | ⟨1, _⟩ => show win0_3.index t 1 * 1408 + 1 * l.val = 2816 + (t.val / 32 * 1408 + l.val); rw [e1]; omega

theorem blk4 (c : Dev nD) (t : Fin cfg0.N) (k : Fin 3) (l : Fin 1408) :
    wb m c t (ix2 k l) = W m c (ix2 k (col t l)) := by
  unfold wb iblk
  rw [View.read_apply]
  show V m c main_arg1 _ = _
  congr 1
  obtain ⟨_, _, _, _, _, _, _, _, _, e0, e1, _⟩ := idx_facts t
  funext a; apply Fin.ext
  match a with
  | ⟨0, _⟩ => show win0_4.index t 0 * 3 + 1 * k.val = k.val; rw [e0]; omega
  | ⟨1, _⟩ => show win0_4.index t 1 * 1408 + 1 * l.val = t.val / 32 * 1408 + l.val; rw [e1]; omega

theorem blk5 (c : Dev nD) (t : Fin cfg0.N) (l : Fin 1408) : bb m c t (ix2 0 l) = B m c (ix2 0 (col t l)) := by
  unfold bb iblk
  rw [View.read_apply]
  show V m c main_arg2 _ = _
  congr 1
  obtain ⟨_, _, _, _, _, _, _, _, _, _, _, e0, e1, _⟩ := idx_facts t
  funext a; apply Fin.ext
  match a with
  | ⟨0, _⟩ => show win0_5.index t 0 * 1 + 1 * 0 = 0; rw [e0]
  | ⟨1, _⟩ => show win0_5.index t 1 * 1408 + 1 * l.val = t.val / 32 * 1408 + l.val; rw [e1]; omega

/-- The row before a row of the block. -/
theorem rows_above (c : Dev nD) (t : Fin cfg0.N) (r : Fin 256) (l : Fin 1408) (h) :
    rows (grid0.coords t) (pb m c t) (nb m c t) (xb m c t) l ((8 + r.val + 272 - 1) % 272) h
      = above (fun r => U m c (ix2 r (half (col t l)))) (row t r) := by
  have hi := (idx_facts t).1
  unfold rows above
  rw [halo_above]
  by_cases hr : 1 ≤ r.val
  · rw [dif_pos hr, dif_pos (by dsimp only; omega)]
    refine (blk1 m c t _ l).trans (congrArg (fun r => U m c (ix2 r (half (col t l)))) (Fin.ext ?_))
    dsimp only; omega
  · rw [dif_neg hr]
    refine (select_eq _ 0 (by omega) (by omega) _ _).trans ?_
    rw [hi]
    by_cases ht : t.val % 32 = 0
    · rw [if_pos ht, dif_neg (by dsimp only; omega)]
    · rw [if_neg ht, dif_pos (by dsimp only; omega), blk0 m c t ht]
      refine congrArg (fun r => U m c (ix2 r (half (col t l)))) (Fin.ext ?_)
      dsimp only; omega

/-- The row after a row of the block. -/
theorem rows_below (c : Dev nD) (t : Fin cfg0.N) (r : Fin 256) (l : Fin 1408) (h) :
    rows (grid0.coords t) (pb m c t) (nb m c t) (xb m c t) l ((8 + r.val + 272 - 271) % 272) h
      = below (fun r => U m c (ix2 r (half (col t l)))) (row t r) := by
  have hi := (idx_facts t).1
  unfold rows below
  rw [halo_below]
  by_cases hr : r.val + 1 < 256
  · rw [dif_pos hr, dif_pos (by dsimp only; omega)]
    refine (blk1 m c t _ l).trans (congrArg (fun r => U m c (ix2 r (half (col t l)))) (Fin.ext ?_))
    dsimp only; omega
  · rw [dif_neg hr]
    refine (select_eq _ 31 (by omega) (by omega) _ _).trans ?_
    rw [hi]
    by_cases ht : t.val % 32 = 31
    · rw [if_pos ht, dif_neg (by dsimp only; omega)]
    · rw [if_neg ht, dif_pos (by dsimp only; omega), blk2 m c t ht]
      refine congrArg (fun r => U m c (ix2 r (half (col t l)))) (Fin.ext ?_)
      dsimp only; omega

/-- The array after the run. -/
theorem final (c : Dev nD) : (dats m 0 c).arrAt 6 cfg0.N = Y (U m c) (W m c) (B m c) := by
  have hN : cfg0.N = 64 := N_0
  refine (dats m 0 c).arrAt_eq_of_cover 6 _ (fun t _ => ?_) fun i => ?_
  · rw [Value.flushed6]
    funext j
    obtain ⟨r, l, rfl⟩ : ∃ (r : Fin 256) (l : Fin 1408), j = ix2 r l := ⟨j 0, j 1, eq_ix2 (n0 := 256) (n1 := 1408) j⟩
    rw [View.read_apply]
    have e : ((cfg0.win 6).blk t).view.emb (ix2 r l) = ix2 (row t r) (col t l) := by
      obtain ⟨_, _, _, _, _, _, _, _, _, _, _, _, _, e0, e1⟩ := idx_facts t
      funext a; apply Fin.ext
      match a with
      | ⟨0, _⟩ => show win0_6.index t 0 * 256 + 1 * r.val = t.val % 32 * 256 + r.val; rw [e0]; omega
      | ⟨1, _⟩ => show win0_6.index t 1 * 1408 + 1 * l.val = t.val / 32 * 1408 + l.val; rw [e1]; omega
    rw [e]
    refine Eq.trans ?_ (Y_at ..).symm
    refine (congrFun (stored (grid0.coords t) (pb m c t) (nb m c t) (xb m c t) (vb m c t) (wb m c t) (bb m c t)) (ix2 r l)).trans ?_
    rw [← blk3]
    refine pay_at _ _ _ _ _ _ _ r l _ ?_
    rw [rows_above, rows_below, blk1, blk5]
    simp only [blk4]
    rfl
  · have hi0 : (i 0 : Nat) < 8192 := (i 0).isLt
    have hi1 : (i 1 : Nat) < 2816 := (i 1).isLt
    let t : Fin cfg0.N := ⟨32 * ((i 1 : Nat) / 1408) + (i 0 : Nat) / 256, by omega⟩
    have ht : t.val = 32 * ((i 1 : Nat) / 1408) + (i 0 : Nat) / 256 := rfl
    refine ⟨t, flush0_6 t, ?_⟩
    show i ∈ ((View.whole main_v0).slice (win0_6.rect t)).set
    rw [View.set_slice_whole, Rect.mem_set_unit]
    obtain ⟨_, _, _, _, _, _, _, _, _, _, _, _, _, e0, e1⟩ := idx_facts t
    intro a
    match a with
    | ⟨0, _⟩ => show win0_6.index t 0 * 256 ≤ (i 0 : Nat) ∧ (i 0 : Nat) < win0_6.index t 0 * 256 + 256; rw [e0]; omega
    | ⟨1, _⟩ => show win0_6.index t 1 * 1408 ≤ (i 1 : Nat) ∧ (i 1 : Nat) < win0_6.index t 1 * 1408 + 1408; rw [e1]; omega

/-- The run, read: the array as the activation, the arguments unchanged. -/
theorem run : θ_run defs (onTc (τ := τ) (main (F := Ideal))) ⟨m, fun _ => 0, ρ⟩ fun r => ∀ c : Dev nD,
      r.2.mem ((c : Thread nD τ).loc main_v0) = Y (m ((c : Thread nD τ).loc main_arg0))
        (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.FfnActIdeal.Act

end
-- ==== Proof.FfnActClaims.lean ====
/-
  The claims about the MLP's gated activation: what the call leaves block by block is the reference's activation of the
  whole array.
-/
module

public import proofs.«01_k».proof.Proof.FfnActValue
public import proofs.«01_k».proof.Proof.Gen.FfnAct
public import proofs.«01_k».proof.Proof.Gen.FfnAct.Frame
public import proofs.«01_k».proof.Proof.Gen.FfnActRefIdeal
public import proofs.«01_k».proof.Proof.Gen.FfnActRefIdeal.Run
public import Idealize.ShloMosaic.Lib.Quiescent

@[expose] public section

noncomputable section

namespace Cert.FfnActClaims

open Idealize.ShloMosaic Idealize.ShloMosaic.TcCoe Idealize.SL.Sem

theorem frame_kernel : Cert.quiescent_FfnAct := fun m g _ => Cert.FfnAct.Gen.frame (F := Bits) m g

theorem frame_ideal : Cert.quiescent_FfnActIdeal := fun m g _ => Cert.FfnActIdeal.Gen.frame (F := Ideal) m g

theorem frame_refIdeal : Cert.quiescent_FfnActRefIdeal := fun m g _ =>
  (θ_run Cert.FfnActRefIdeal.defs _ _).mono (fun r h => ⟨fun c => (h c).2, sem_eq_zero_of_no_sems (by decide) r.2⟩)
    (Cert.FfnActRefIdeal.Value.run (F := Ideal) m g)

section
open Cert.Gated Cert.FfnActIdeal.Act Cert.FfnActRefIdeal Cert.FfnActRefIdeal.Gen

/-- The reference's result is the activation. -/
theorem reference (m : (ℓ : Loc nD τ sig) → Buf (Elt Ideal) ℓ) (c : Dev nD) :
    Value.res_main_v29 m c
      = Y (m ((c : Thread nD τ).loc main_arg0)) (m ((c : Thread nD τ).loc main_arg1)) (m ((c : Thread nD τ).loc main_arg2)) := by
  funext i
  obtain ⟨r, l, rfl⟩ : ∃ (r : Fin 8192) (l : Fin 2816), i = ix2 r l := ⟨i 0, i 1, eq_ix2 (n0 := 8192) (n1 := 2816) i⟩
  refine Eq.trans ?_ (Y_at ..).symm
  pointwise [Value.res_main_v29]
  have e1 : ∀ u : Fin 8192 → EReal, (if h : 1 ≤ r.val ∧ r.val - 1 < 8192 then u ⟨r.val - 1, h.2⟩
      else (FloatOps.sitofp FTy.f32 0#32 : Ideal FTy.f32)) = above u r := fun u => by
    unfold above
    by_cases h : 1 ≤ r.val
    · rw [dif_pos ⟨h, by omega⟩, dif_pos h]
    · rw [dif_neg fun h' => h h'.1, dif_neg h, sitofp_zero]
  have e2 : ∀ u : Fin 8192 → EReal, (if h : 1 ≤ 2 + r.val ∧ 2 + r.val - 1 < 8192 then u ⟨2 + r.val - 1, h.2⟩
      else (FloatOps.sitofp FTy.f32 0#32 : Ideal FTy.f32)) = below u r := fun u => by
    unfold below
    by_cases h : r.val + 1 < 8192
    · rw [dif_pos ⟨by omega, by omega⟩, dif_pos h]
      exact congrArg u (Fin.ext (by dsimp only; omega))
    · rw [dif_neg fun h' => h (by omega), dif_neg h, sitofp_zero]
  unfold convAt sigmoid conv
  rw [← e1, ← e2]

end

theorem algebraic : Cert.algebraic_FfnActIdeal_FfnActRefIdeal := fun m g m' g' _ hm =>
  ⟨_, Cert.FfnActIdeal.Act.run m g,
    (θ_run Cert.FfnActRefIdeal.defs _ _).mono
      (fun _ h c => ⟨(h c).1.trans ((reference m' c).trans (by rw [(hm c).1, (hm c).2.1, (hm c).2.2])), (h c).2⟩)
      (Cert.FfnActRefIdeal.Value.run (F := Ideal) m' g')⟩

end Cert.FfnActClaims

end
-- ==== Proof.Partial.lean ====
/-
  A matrix product whose contracted axis is summed piece by piece: the three products, entry by entry, and the running sum
  that starts afresh every `J` steps.
-/
module

public import proofs.«01_k».proof.Defs
public import Idealize.ShloMosaic.Lib.Pipeline.ValueKit
public import Idealize.ShloMosaic.Lib.Pointwise

@[expose] public section

noncomputable section

open Idealize.ShloMosaic Idealize.ShloMosaic.TcCoe Idealize.SL.Sem

namespace Cert.Partial

section
variable {M K N : ℕ}

/-- The product of two matrices. -/
def plain (a : (⟨2, ![M, K]⟩ : Shape).Idx → EReal) (b : (⟨2, ![K, N]⟩ : Shape).Idx → EReal) : (⟨2, ![M, N]⟩ : Shape).Idx → EReal :=
  fun i => ∑ k : Fin K, a (ix2 (i 0) k) * b (ix2 k (i 1))

/-- The product of a matrix with the other's transpose. -/
def right (a : (⟨2, ![M, K]⟩ : Shape).Idx → EReal) (b : (⟨2, ![N, K]⟩ : Shape).Idx → EReal) : (⟨2, ![M, N]⟩ : Shape).Idx → EReal :=
  fun i => ∑ k : Fin K, a (ix2 (i 0) k) * b (ix2 (i 1) k)

/-- The product of a matrix's transpose with the other. -/
def left (a : (⟨2, ![K, M]⟩ : Shape).Idx → EReal) (b : (⟨2, ![K, N]⟩ : Shape).Idx → EReal) : (⟨2, ![M, N]⟩ : Shape).Idx → EReal :=
  fun i => ∑ k : Fin K, a (ix2 k (i 0)) * b (ix2 k (i 1))

end

/-- A sum of `J T` terms `g` taken in `J` pieces of `T`: `f` starts afresh with the piece `part` at the multiples of `J` and
    adds the step's piece elsewhere, so the last of `J` steps leaves the whole sum. -/
theorem total {N M T : ℕ} {ι : Type} (f : (n : ℕ) → n < N → ι → EReal) (J : ℕ) [NeZero J] (part : Fin N → ι → Fin T → EReal)
    (start : ∀ t : Fin N, t.val % J = 0 → ∀ i, f t.val t.isLt i = ∑ k : Fin T, part t i k)
    (step : ∀ t : Fin N, ¬t.val % J = 0 → ∀ i,
      f t.val t.isLt i = f (t.val - 1) (Nat.lt_of_le_of_lt (Nat.sub_le _ _) t.isLt) i + ∑ k : Fin T, part t i k)
    (t : Fin N) (last : t.val % J = J - 1) (i : ι) (g : Fin M → EReal) (size : M = J * T)
    (terms : ∀ (s : Fin J) (k : Fin T) (h : s.val * T + k.val < M),
      part ⟨J * (t.val / J) + s.val, Pipeline.run_point_lt_of_flush t last s⟩ i k = g ⟨s.val * T + k.val, h⟩) :
    f t.val t.isLt i = ∑ k : Fin M, g k := by
  rw [Pipeline.eq_sum_fin_of_reset_step_apply_of_flush f J (fun _ => 0) (fun t i => ∑ k : Fin T, part t i k)
    (fun t h i => by rw [start t h i, zero_add]) step t last i, zero_add]
  exact Fin.sum_mul_add_congr terms size

end Cert.Partial
-- ==== Proof.FfnProducts.lean ====
/-
  What the calls of the MLP's two projections leave, forward and backward: each the product of two whole matrices, one of
  them transposed in the gradients, whose contracted axis is summed in pieces.
-/
module

public import proofs.«01_k».proof.Proof.Gen.FfnUpIdeal.Value
public import proofs.«01_k».proof.Proof.Gen.FfnDownIdeal.Value
public import proofs.«01_k».proof.Proof.Gen.FfnDownDxIdeal.Value
public import proofs.«01_k».proof.Proof.Gen.FfnDownDwIdeal.Value
public import proofs.«01_k».proof.Proof.Gen.FfnUpDxIdeal.Value
public import proofs.«01_k».proof.Proof.Gen.FfnUpDwIdeal.Value
public import proofs.«01_k».proof.Proof.Partial
public import Idealize.ShloMosaic.Lib.Pipeline.Value
public import Idealize.ShloMosaic.Lib.Tactic

@[expose] public section

set_option maxRecDepth 16384

noncomputable section

open Idealize.ShloMosaic Idealize.ShloMosaic.TcCoe Idealize.SL.Sem

namespace Cert.FfnUpIdeal.Product

open Cert.FfnUpIdeal Cert.FfnUpIdeal.Gen

variable (m : (ℓ : Loc nD τ sig) → Buf (Elt Ideal) ℓ) (ρ : Dev nD → PrngReg)

theorem idx : ∀ t : Fin cfg0.N, win0_0.index t = ![t.val / 22, t.val % 2] ∧ win0_1.index t = ![t.val % 2, t.val / 2 % 11]
    ∧ win0_2.index t = ![t.val / 22, t.val / 2 % 11] :=
  (by decide +kernel : ∀ t : Fin grid0.N, _)

theorem zero (j : S512x512.Idx) : k0_pay1 (F := Ideal) j = 0 := by pointwise [k0_pay1]

theorem step (x w : FVec Ideal S512x512 .bf16) (acc : FVec Ideal S512x512 .f32) (j : S512x512.Idx) :
    k0_pay2 (F := Ideal) x w acc j = acc j + ∑ k : Fin 512, x (ix2 (j 0) k) * w (ix2 k (j 1)) := by
  pointwise [k0_pay2]

theorem final (c : Dev nD) : (dats m 0 c).arrAt 2 cfg0.N = Partial.plain (V m c main_arg0) (V m c main_arg1) := by
  refine (dats m 0 c).arrAt_eq_of_covers 2 _ (by decide +kernel) fun t hf y => ?_
  have ht := (flush0_2 t).mp hf
  have out : (outsAt0 m c t.val t.isLt).1 = (outsAt0 m c t.val t.isLt).2 := by
    rw [outsAt0_B m c t (by omega) ht]; frame_out
  blk_simp
  rw [after0_2, out]
  refine Partial.total (fun n h => (outsAt0 m c n h).2) 2 _
    (fun t h j => by rw [outsAt0_A m c t h (by omega)]; frame_out; rw [step, zero, zero_add])
    (fun t h j => by rw [outsAt0_B m c t h (by omega)]; frame_out; rw [step, (Memref.isWhole_whole cc0_scratch0).read_unread])
    t ht y _ rfl fun s k hl => ?_
  have e := idx ⟨_, Pipeline.run_point_lt_of_flush t ht s⟩
  have e' := idx t
  congr 1 <;> blk_ext [iblk, V, e.1, e.2.1, e'.2.2]

theorem run : θ_run defs (onTc (τ := τ) (main (F := Ideal))) ⟨m, fun _ => 0, ρ⟩ fun r => ∀ c : Dev nD,
      r.2.mem ((c : Thread nD τ).loc main_v0) = Partial.plain (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.FfnUpIdeal.Product

namespace Cert.FfnDownIdeal.Product

open Cert.FfnDownIdeal Cert.FfnDownIdeal.Gen

variable (m : (ℓ : Loc nD τ sig) → Buf (Elt Ideal) ℓ) (ρ : Dev nD → PrngReg)

theorem idx : ∀ t : Fin cfg0.N, win0_0.index t = ![t.val / 11, t.val % 11] ∧ win0_1.index t = ![t.val % 11, 0]
    ∧ win0_2.index t = ![t.val / 11, 0] ∧ win0_3.index t = ![t.val / 11, 0] :=
  (by decide +kernel : ∀ t : Fin grid0.N, _)

theorem zero (j : S512x1024.Idx) : k0_pay1 (F := Ideal) j = 0 := by pointwise [k0_pay1]

theorem step (x : FVec Ideal S512x256 .bf16) (w : FVec Ideal S256x1024 .bf16) (acc : FVec Ideal S512x1024 .f32)
    (j : S512x1024.Idx) :
    k0_pay2 (F := Ideal) x w acc j = acc j + ∑ k : Fin 256, x (ix2 (j 0) k) * w (ix2 k (j 1)) := by
  pointwise [k0_pay2]

theorem residual (s res : FVec Ideal S512x1024 .f32) (j : S512x1024.Idx) : k0_pay3 (F := Ideal) s res j = s j + res j := by
  pointwise [k0_pay3]

theorem final (c : Dev nD) : (dats m 0 c).arrAt 3 cfg0.N
    = fun i => Partial.plain (V m c main_arg0) (V m c main_arg1) i + V m c main_arg2 i := by
  refine (dats m 0 c).arrAt_eq_of_covers 3 _ (by decide +kernel) fun t hf y => ?_
  have ht := (flush0_3 t).mp hf
  have out : (outsAt0 m c t.val t.isLt).1 = k0_pay3 (outsAt0 m c t.val t.isLt).2 (iblk m c 2 t) := by
    rw [outsAt0_C m c t (by omega) ht]; frame_out
  have e' := idx t
  blk_simp
  rw [after0_3, out, residual]
  refine congrArg₂ (· + ·) ?_ (by blk_ext [iblk, V, e'.2.2.1, e'.2.2.2])
  refine Partial.total (fun n h => (outsAt0 m c n h).2) 11 _
    (fun t h j => by rw [outsAt0_A m c t h (by omega)]; frame_out; rw [step, zero, zero_add])
    (fun t h j => by
      by_cases h' : t.val % 11 = 10
      · rw [outsAt0_C m c t h h']; frame_out; rw [step, (Memref.isWhole_whole cc0_scratch0).read_unread]
      · rw [outsAt0_B m c t h h']; frame_out; rw [step, (Memref.isWhole_whole cc0_scratch0).read_unread])
    t ht y _ rfl fun s k hl => ?_
  have e := idx ⟨_, Pipeline.run_point_lt_of_flush t ht s⟩
  congr 1 <;> blk_ext [iblk, V, e.1, e.2.1, e'.2.2.2]

theorem run : θ_run defs (onTc (τ := τ) (main (F := Ideal))) ⟨m, fun _ => 0, ρ⟩ fun r => ∀ c : Dev nD,
      r.2.mem ((c : Thread nD τ).loc main_v0)
        = (fun i => Partial.plain (m ((c : Thread nD τ).loc main_arg0)) (m ((c : Thread nD τ).loc main_arg1)) i
            + m ((c : Thread nD τ).loc main_arg2) i)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.FfnDownIdeal.Product

namespace Cert.FfnDownDxIdeal.Product

open Cert.FfnDownDxIdeal Cert.FfnDownDxIdeal.Gen

variable (m : (ℓ : Loc nD τ sig) → Buf (Elt Ideal) ℓ) (ρ : Dev nD → PrngReg)

theorem idx : ∀ t : Fin cfg0.N, win0_0.index t = ![t.val / 22, t.val % 2] ∧ win0_1.index t = ![t.val / 2 % 11, t.val % 2]
    ∧ win0_2.index t = ![t.val / 22, t.val / 2 % 11] :=
  (by decide +kernel : ∀ t : Fin grid0.N, _)

theorem zero (j : S512x256.Idx) : k0_pay1 (F := Ideal) j = 0 := by pointwise [k0_pay1]

theorem step (x : FVec Ideal S512x512 .f32) (w : FVec Ideal S256x512 .bf16) (acc : FVec Ideal S512x256 .f32)
    (j : S512x256.Idx) :
    k0_pay2 (F := Ideal) x w acc j = acc j + ∑ k : Fin 512, x (ix2 (j 0) k) * w (ix2 (j 1) k) := by
  pointwise [k0_pay2]

theorem final (c : Dev nD) : (dats m 0 c).arrAt 2 cfg0.N = Partial.right (V m c main_arg0) (V m c main_arg1) := by
  refine (dats m 0 c).arrAt_eq_of_covers 2 _ (by decide +kernel) fun t hf y => ?_
  have ht := (flush0_2 t).mp hf
  have out : (outsAt0 m c t.val t.isLt).1 = (outsAt0 m c t.val t.isLt).2 := by
    rw [outsAt0_B m c t (by omega) ht]; frame_out
  blk_simp
  rw [after0_2, out]
  refine Partial.total (fun n h => (outsAt0 m c n h).2) 2 _
    (fun t h j => by rw [outsAt0_A m c t h (by omega)]; frame_out; rw [step, zero, zero_add])
    (fun t h j => by rw [outsAt0_B m c t h (by omega)]; frame_out; rw [step, (Memref.isWhole_whole cc0_scratch0).read_unread])
    t ht y _ rfl fun s k hl => ?_
  have e := idx ⟨_, Pipeline.run_point_lt_of_flush t ht s⟩
  have e' := idx t
  congr 1 <;> blk_ext [iblk, V, e.1, e.2.1, e'.2.2]

theorem run : θ_run defs (onTc (τ := τ) (main (F := Ideal))) ⟨m, fun _ => 0, ρ⟩ fun r => ∀ c : Dev nD,
      r.2.mem ((c : Thread nD τ).loc main_v0) = Partial.right (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.FfnDownDxIdeal.Product

namespace Cert.FfnDownDwIdeal.Product

open Cert.FfnDownDwIdeal Cert.FfnDownDwIdeal.Gen

variable (m : (ℓ : Loc nD τ sig) → Buf (Elt Ideal) ℓ) (ρ : Dev nD → PrngReg)

theorem idx : ∀ t : Fin cfg0.N, win0_0.index t = ![t.val % 16, t.val / 16] ∧ win0_1.index t = ![t.val % 16, 0]
    ∧ win0_2.index t = ![t.val / 16, 0] :=
  (by decide +kernel : ∀ t : Fin grid0.N, _)

theorem zero (j : S256x1024.Idx) : k0_pay1 (F := Ideal) j = 0 := by pointwise [k0_pay1]

theorem step (x : FVec Ideal S512x256 .bf16) (w : FVec Ideal S512x1024 .f32) (acc : FVec Ideal S256x1024 .f32)
    (j : S256x1024.Idx) :
    k0_pay2 (F := Ideal) x w acc j = acc j + ∑ k : Fin 512, x (ix2 k (j 0)) * w (ix2 k (j 1)) := by
  pointwise [k0_pay2]

theorem final (c : Dev nD) : (dats m 0 c).arrAt 2 cfg0.N = Partial.left (V m c main_arg0) (V m c main_arg1) := by
  refine (dats m 0 c).arrAt_eq_of_covers 2 _ (by decide +kernel) fun t hf y => ?_
  have ht := (flush0_2 t).mp hf
  have out : (outsAt0 m c t.val t.isLt).1 = (outsAt0 m c t.val t.isLt).2 := by
    rw [outsAt0_C m c t (by omega) ht]; frame_out
  blk_simp
  rw [after0_2, out]
  refine Partial.total (fun n h => (outsAt0 m c n h).2) 16 _
    (fun t h j => by rw [outsAt0_A m c t h (by omega)]; frame_out; rw [step, zero, zero_add])
    (fun t h j => by
      by_cases h' : t.val % 16 = 15
      · rw [outsAt0_C m c t h h']; frame_out; rw [step, (Memref.isWhole_whole cc0_scratch0).read_unread]
      · rw [outsAt0_B m c t h h']; frame_out; rw [step, (Memref.isWhole_whole cc0_scratch0).read_unread])
    t ht y _ rfl fun s k hl => ?_
  have e := idx ⟨_, Pipeline.run_point_lt_of_flush t ht s⟩
  have e' := idx t
  congr 1 <;> blk_ext [iblk, V, e.1, e.2.1, e'.2.2]

theorem run : θ_run defs (onTc (τ := τ) (main (F := Ideal))) ⟨m, fun _ => 0, ρ⟩ fun r => ∀ c : Dev nD,
      r.2.mem ((c : Thread nD τ).loc main_v0) = Partial.left (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.FfnDownDwIdeal.Product

namespace Cert.FfnUpDxIdeal.Product

open Cert.FfnUpDxIdeal Cert.FfnUpDxIdeal.Gen

variable (m : (ℓ : Loc nD τ sig) → Buf (Elt Ideal) ℓ) (ρ : Dev nD → PrngReg)

theorem idx : ∀ t : Fin cfg0.N, win0_0.index t = ![t.val / 11, t.val % 11] ∧ win0_1.index t = ![0, t.val % 11]
    ∧ win0_2.index t = ![t.val / 11, 0] :=
  (by decide +kernel : ∀ t : Fin grid0.N, _)

theorem zero (j : S512x1024.Idx) : k0_pay1 (F := Ideal) j = 0 := by pointwise [k0_pay1]

theorem step (x : FVec Ideal S512x512 .bf16) (w : FVec Ideal S1024x512 .bf16) (acc : FVec Ideal S512x1024 .f32)
    (j : S512x1024.Idx) :
    k0_pay2 (F := Ideal) x w acc j = acc j + ∑ k : Fin 512, x (ix2 (j 0) k) * w (ix2 (j 1) k) := by
  pointwise [k0_pay2]

theorem final (c : Dev nD) : (dats m 0 c).arrAt 2 cfg0.N = Partial.right (V m c main_arg0) (V m c main_arg1) := by
  refine (dats m 0 c).arrAt_eq_of_covers 2 _ (by decide +kernel) fun t hf y => ?_
  have ht := (flush0_2 t).mp hf
  have out : (outsAt0 m c t.val t.isLt).1 = (outsAt0 m c t.val t.isLt).2 := by
    rw [outsAt0_C m c t (by omega) ht]; frame_out
  blk_simp
  rw [after0_2, out]
  refine Partial.total (fun n h => (outsAt0 m c n h).2) 11 _
    (fun t h j => by rw [outsAt0_A m c t h (by omega)]; frame_out; rw [step, zero, zero_add])
    (fun t h j => by
      by_cases h' : t.val % 11 = 10
      · rw [outsAt0_C m c t h h']; frame_out; rw [step, (Memref.isWhole_whole cc0_scratch0).read_unread]
      · rw [outsAt0_B m c t h h']; frame_out; rw [step, (Memref.isWhole_whole cc0_scratch0).read_unread])
    t ht y _ rfl fun s k hl => ?_
  have e := idx ⟨_, Pipeline.run_point_lt_of_flush t ht s⟩
  have e' := idx t
  congr 1 <;> blk_ext [iblk, V, e.1, e.2.1, e'.2.2]

theorem run : θ_run defs (onTc (τ := τ) (main (F := Ideal))) ⟨m, fun _ => 0, ρ⟩ fun r => ∀ c : Dev nD,
      r.2.mem ((c : Thread nD τ).loc main_v0) = Partial.right (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.FfnUpDxIdeal.Product

namespace Cert.FfnUpDwIdeal.Product

open Cert.FfnUpDwIdeal Cert.FfnUpDwIdeal.Gen

variable (m : (ℓ : Loc nD τ sig) → Buf (Elt Ideal) ℓ) (ρ : Dev nD → PrngReg)

theorem idx : ∀ t : Fin cfg0.N, win0_0.index t = ![t.val % 16, t.val / 176] ∧ win0_1.index t = ![t.val % 16, t.val / 16 % 11]
    ∧ win0_2.index t = ![t.val / 176, t.val / 16 % 11] :=
  (by decide +kernel : ∀ t : Fin grid0.N, _)

theorem zero (j : S512x512.Idx) : k0_pay1 (F := Ideal) j = 0 := by pointwise [k0_pay1]

theorem step (x w : FVec Ideal S512x512 .bf16) (acc : FVec Ideal S512x512 .f32) (j : S512x512.Idx) :
    k0_pay2 (F := Ideal) x w acc j = acc j + ∑ k : Fin 512, x (ix2 k (j 0)) * w (ix2 k (j 1)) := by
  pointwise [k0_pay2]

theorem final (c : Dev nD) : (dats m 0 c).arrAt 2 cfg0.N = Partial.left (V m c main_arg0) (V m c main_arg1) := by
  refine (dats m 0 c).arrAt_eq_of_covers 2 _ (by decide +kernel) fun t hf y => ?_
  have ht := (flush0_2 t).mp hf
  have out : (outsAt0 m c t.val t.isLt).1 = (outsAt0 m c t.val t.isLt).2 := by
    rw [outsAt0_C m c t (by omega) ht]; frame_out
  blk_simp
  rw [after0_2, out]
  refine Partial.total (fun n h => (outsAt0 m c n h).2) 16 _
    (fun t h j => by rw [outsAt0_A m c t h (by omega)]; frame_out; rw [step, zero, zero_add])
    (fun t h j => by
      by_cases h' : t.val % 16 = 15
      · rw [outsAt0_C m c t h h']; frame_out; rw [step, (Memref.isWhole_whole cc0_scratch0).read_unread]
      · rw [outsAt0_B m c t h h']; frame_out; rw [step, (Memref.isWhole_whole cc0_scratch0).read_unread])
    t ht y _ rfl fun s k hl => ?_
  have e := idx ⟨_, Pipeline.run_point_lt_of_flush t ht s⟩
  have e' := idx t
  congr 1 <;> blk_ext [iblk, V, e.1, e.2.1, e'.2.2]

theorem run : θ_run defs (onTc (τ := τ) (main (F := Ideal))) ⟨m, fun _ => 0, ρ⟩ fun r => ∀ c : Dev nD,
      r.2.mem ((c : Thread nD τ).loc main_v0) = Partial.left (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.FfnUpDwIdeal.Product

end
-- ==== Proof.FfnProductClaims.lean ====
/-
  The claims about the MLP's two projections, forward and backward: what each call leaves block by block is the product of
  the whole arrays that the reference takes, read entry by entry.
-/
module

public import proofs.«01_k».proof.Proof.FfnProducts
public import proofs.«01_k».proof.Proof.Gen.FfnUp
public import proofs.«01_k».proof.Proof.Gen.FfnUp.Frame
public import proofs.«01_k».proof.Proof.Gen.FfnUpRefIdeal
public import proofs.«01_k».proof.Proof.Gen.FfnUpRefIdeal.Run
public import proofs.«01_k».proof.Proof.Gen.FfnDown
public import proofs.«01_k».proof.Proof.Gen.FfnDown.Frame
public import proofs.«01_k».proof.Proof.Gen.FfnDownRefIdeal
public import proofs.«01_k».proof.Proof.Gen.FfnDownRefIdeal.Run
public import proofs.«01_k».proof.Proof.Gen.FfnDownDx
public import proofs.«01_k».proof.Proof.Gen.FfnDownDx.Frame
public import proofs.«01_k».proof.Proof.Gen.FfnDownDxRefIdeal
public import proofs.«01_k».proof.Proof.Gen.FfnDownDxRefIdeal.Run
public import proofs.«01_k».proof.Proof.Gen.FfnDownDw
public import proofs.«01_k».proof.Proof.Gen.FfnDownDw.Frame
public import proofs.«01_k».proof.Proof.Gen.FfnDownDwRefIdeal
public import proofs.«01_k».proof.Proof.Gen.FfnDownDwRefIdeal.Run
public import proofs.«01_k».proof.Proof.Gen.FfnUpDx
public import proofs.«01_k».proof.Proof.Gen.FfnUpDx.Frame
public import proofs.«01_k».proof.Proof.Gen.FfnUpDxRefIdeal
public import proofs.«01_k».proof.Proof.Gen.FfnUpDxRefIdeal.Run
public import proofs.«01_k».proof.Proof.Gen.FfnUpDw
public import proofs.«01_k».proof.Proof.Gen.FfnUpDw.Frame
public import proofs.«01_k».proof.Proof.Gen.FfnUpDwRefIdeal
public import proofs.«01_k».proof.Proof.Gen.FfnUpDwRefIdeal.Run
public import Idealize.ShloMosaic.Lib.Quiescent

@[expose] public section

noncomputable section

open Idealize.ShloMosaic Idealize.ShloMosaic.TcCoe Idealize.SL.Sem

namespace Cert.FfnUpClaims

theorem frame_kernel : Cert.quiescent_FfnUp := fun m g _ => Cert.FfnUp.Gen.frame (F := Bits) m g

theorem frame_ideal : Cert.quiescent_FfnUpIdeal := fun m g _ => Cert.FfnUpIdeal.Gen.frame (F := Ideal) m g

theorem frame_refIdeal : Cert.quiescent_FfnUpRefIdeal := fun m g _ =>
  (θ_run Cert.FfnUpRefIdeal.defs _ _).mono (fun r h => ⟨fun c => (h c).2, sem_eq_zero_of_no_sems (by decide) r.2⟩)
    (Cert.FfnUpRefIdeal.Value.run (F := Ideal) m g)

theorem algebraic : Cert.algebraic_FfnUpIdeal_FfnUpRefIdeal := fun m g m' g' _ hm =>
  ⟨_, Cert.FfnUpIdeal.Product.run m g,
    (θ_run Cert.FfnUpRefIdeal.defs _ _).mono
      (fun _ h c => ⟨(h c).1.trans (by rw [(hm c).1, (hm c).2]; funext i; pointwise [Partial.plain]), (h c).2⟩)
      (Cert.FfnUpRefIdeal.Value.run (F := Ideal) m' g')⟩

end Cert.FfnUpClaims

namespace Cert.FfnDownClaims

theorem frame_kernel : Cert.quiescent_FfnDown := fun m g _ => Cert.FfnDown.Gen.frame (F := Bits) m g

theorem frame_ideal : Cert.quiescent_FfnDownIdeal := fun m g _ => Cert.FfnDownIdeal.Gen.frame (F := Ideal) m g

theorem frame_refIdeal : Cert.quiescent_FfnDownRefIdeal := fun m g _ =>
  (θ_run Cert.FfnDownRefIdeal.defs _ _).mono (fun r h => ⟨fun c => (h c).2, sem_eq_zero_of_no_sems (by decide) r.2⟩)
    (Cert.FfnDownRefIdeal.Value.run (F := Ideal) m g)

theorem algebraic : Cert.algebraic_FfnDownIdeal_FfnDownRefIdeal := fun m g m' g' _ hm =>
  ⟨_, Cert.FfnDownIdeal.Product.run m g,
    (θ_run Cert.FfnDownRefIdeal.defs _ _).mono
      (fun _ h c => ⟨(h c).1.trans (by
        rw [(hm c).1, (hm c).2.1, (hm c).2.2]; funext i; rw [add_comm]; pointwise [Partial.plain]), (h c).2⟩)
      (Cert.FfnDownRefIdeal.Value.run (F := Ideal) m' g')⟩

end Cert.FfnDownClaims

namespace Cert.FfnDownDxClaims

theorem frame_kernel : Cert.quiescent_FfnDownDx := fun m g _ => Cert.FfnDownDx.Gen.frame (F := Bits) m g

theorem frame_ideal : Cert.quiescent_FfnDownDxIdeal := fun m g _ => Cert.FfnDownDxIdeal.Gen.frame (F := Ideal) m g

theorem frame_refIdeal : Cert.quiescent_FfnDownDxRefIdeal := fun m g _ =>
  (θ_run Cert.FfnDownDxRefIdeal.defs _ _).mono (fun r h => ⟨fun c => (h c).2, sem_eq_zero_of_no_sems (by decide) r.2⟩)
    (Cert.FfnDownDxRefIdeal.Value.run (F := Ideal) m g)

theorem algebraic : Cert.algebraic_FfnDownDxIdeal_FfnDownDxRefIdeal := fun m g m' g' _ hm =>
  ⟨_, Cert.FfnDownDxIdeal.Product.run m g,
    (θ_run Cert.FfnDownDxRefIdeal.defs _ _).mono
      (fun _ h c => ⟨(h c).1.trans (by rw [(hm c).1, (hm c).2]; funext i; pointwise [Partial.right]), (h c).2⟩)
      (Cert.FfnDownDxRefIdeal.Value.run (F := Ideal) m' g')⟩

end Cert.FfnDownDxClaims

namespace Cert.FfnDownDwClaims

theorem frame_kernel : Cert.quiescent_FfnDownDw := fun m g _ => Cert.FfnDownDw.Gen.frame (F := Bits) m g

theorem frame_ideal : Cert.quiescent_FfnDownDwIdeal := fun m g _ => Cert.FfnDownDwIdeal.Gen.frame (F := Ideal) m g

theorem frame_refIdeal : Cert.quiescent_FfnDownDwRefIdeal := fun m g _ =>
  (θ_run Cert.FfnDownDwRefIdeal.defs _ _).mono (fun r h => ⟨fun c => (h c).2, sem_eq_zero_of_no_sems (by decide) r.2⟩)
    (Cert.FfnDownDwRefIdeal.Value.run (F := Ideal) m g)

theorem algebraic : Cert.algebraic_FfnDownDwIdeal_FfnDownDwRefIdeal := fun m g m' g' _ hm =>
  ⟨_, Cert.FfnDownDwIdeal.Product.run m g,
    (θ_run Cert.FfnDownDwRefIdeal.defs _ _).mono
      (fun _ h c => ⟨(h c).1.trans (by rw [(hm c).1, (hm c).2]; funext i; pointwise [Partial.left]), (h c).2⟩)
      (Cert.FfnDownDwRefIdeal.Value.run (F := Ideal) m' g')⟩

end Cert.FfnDownDwClaims

namespace Cert.FfnUpDxClaims

theorem frame_kernel : Cert.quiescent_FfnUpDx := fun m g _ => Cert.FfnUpDx.Gen.frame (F := Bits) m g

theorem frame_ideal : Cert.quiescent_FfnUpDxIdeal := fun m g _ => Cert.FfnUpDxIdeal.Gen.frame (F := Ideal) m g

theorem frame_refIdeal : Cert.quiescent_FfnUpDxRefIdeal := fun m g _ =>
  (θ_run Cert.FfnUpDxRefIdeal.defs _ _).mono (fun r h => ⟨fun c => (h c).2, sem_eq_zero_of_no_sems (by decide) r.2⟩)
    (Cert.FfnUpDxRefIdeal.Value.run (F := Ideal) m g)

theorem algebraic : Cert.algebraic_FfnUpDxIdeal_FfnUpDxRefIdeal := fun m g m' g' _ hm =>
  ⟨_, Cert.FfnUpDxIdeal.Product.run m g,
    (θ_run Cert.FfnUpDxRefIdeal.defs _ _).mono
      (fun _ h c => ⟨(h c).1.trans (by rw [(hm c).1, (hm c).2]; funext i; pointwise [Partial.right]), (h c).2⟩)
      (Cert.FfnUpDxRefIdeal.Value.run (F := Ideal) m' g')⟩

end Cert.FfnUpDxClaims

namespace Cert.FfnUpDwClaims

theorem frame_kernel : Cert.quiescent_FfnUpDw := fun m g _ => Cert.FfnUpDw.Gen.frame (F := Bits) m g

theorem frame_ideal : Cert.quiescent_FfnUpDwIdeal := fun m g _ => Cert.FfnUpDwIdeal.Gen.frame (F := Ideal) m g

theorem frame_refIdeal : Cert.quiescent_FfnUpDwRefIdeal := fun m g _ =>
  (θ_run Cert.FfnUpDwRefIdeal.defs _ _).mono (fun r h => ⟨fun c => (h c).2, sem_eq_zero_of_no_sems (by decide) r.2⟩)
    (Cert.FfnUpDwRefIdeal.Value.run (F := Ideal) m g)

theorem algebraic : Cert.algebraic_FfnUpDwIdeal_FfnUpDwRefIdeal := fun m g m' g' _ hm =>
  ⟨_, Cert.FfnUpDwIdeal.Product.run m g,
    (θ_run Cert.FfnUpDwRefIdeal.defs _ _).mono
      (fun _ h c => ⟨(h c).1.trans (by rw [(hm c).1, (hm c).2]; funext i; pointwise [Partial.left]), (h c).2⟩)
      (Cert.FfnUpDwRefIdeal.Value.run (F := Ideal) m' g')⟩

end Cert.FfnUpDwClaims

end
-- ==== Proof.MixerProducts.lean ====
/-
  What the calls of the projections into the two mixers and out of them leave, forward and backward: each the product of
  two whole matrices, one of them transposed in the gradients, whose contracted axis is summed in pieces.
-/
module

public import proofs.«01_k».proof.Proof.Gen.EvenInIdeal.Value
public import proofs.«01_k».proof.Proof.Gen.EvenOutIdeal.Value
public import proofs.«01_k».proof.Proof.Gen.EvenOutDxIdeal.Value
public import proofs.«01_k».proof.Proof.Gen.EvenOutDwIdeal.Value
public import proofs.«01_k».proof.Proof.Gen.EvenInDxIdeal.Value
public import proofs.«01_k».proof.Proof.Gen.EvenInDwIdeal.Value
public import proofs.«01_k».proof.Proof.Gen.OddInIdeal.Value
public import proofs.«01_k».proof.Proof.Gen.OddOutIdeal.Value
public import proofs.«01_k».proof.Proof.Gen.OddOutDxIdeal.Value
public import proofs.«01_k».proof.Proof.Gen.OddOutDwIdeal.Value
public import proofs.«01_k».proof.Proof.Gen.OddInDxIdeal.Value
public import proofs.«01_k».proof.Proof.Gen.OddInDwIdeal.Value
public import proofs.«01_k».proof.Proof.Partial
public import Idealize.ShloMosaic.Lib.Pipeline.Value
public import Idealize.ShloMosaic.Lib.Tactic

@[expose] public section

set_option maxRecDepth 16384

noncomputable section

open Idealize.ShloMosaic Idealize.ShloMosaic.TcCoe Idealize.SL.Sem

namespace Cert.EvenInIdeal.Product

open Cert.EvenInIdeal Cert.EvenInIdeal.Gen

variable (m : (ℓ : Loc nD τ sig) → Buf (Elt Ideal) ℓ) (ρ : Dev nD → PrngReg)

theorem idx : ∀ t : Fin cfg0.N, win0_0.index t = ![t.val / 10, t.val % 2] ∧ win0_1.index t = ![t.val % 2, t.val / 2 % 5]
    ∧ win0_2.index t = ![t.val / 10, t.val / 2 % 5] :=
  (by decide +kernel : ∀ t : Fin grid0.N, _)

theorem zero (j : S512x1024.Idx) : k0_pay1 (F := Ideal) j = 0 := by pointwise [k0_pay1]

theorem step (x : FVec Ideal S512x512 .bf16) (w : FVec Ideal S512x1024 .bf16) (acc : FVec Ideal S512x1024 .f32)
    (j : S512x1024.Idx) :
    k0_pay2 (F := Ideal) x w acc j = acc j + ∑ k : Fin 512, x (ix2 (j 0) k) * w (ix2 k (j 1)) := by
  pointwise [k0_pay2]

theorem final (c : Dev nD) : (dats m 0 c).arrAt 2 cfg0.N = Partial.plain (V m c main_arg0) (V m c main_arg1) := by
  refine (dats m 0 c).arrAt_eq_of_covers 2 _ (by decide +kernel) fun t hf y => ?_
  have ht := (flush0_2 t).mp hf
  have out : (outsAt0 m c t.val t.isLt).1 = (outsAt0 m c t.val t.isLt).2 := by
    rw [outsAt0_B m c t (by omega) ht]; frame_out
  blk_simp
  rw [after0_2, out]
  refine Partial.total (fun n h => (outsAt0 m c n h).2) 2 _
    (fun t h j => by rw [outsAt0_A m c t h (by omega)]; frame_out; rw [step, zero, zero_add])
    (fun t h j => by rw [outsAt0_B m c t h (by omega)]; frame_out; rw [step, (Memref.isWhole_whole cc0_scratch0).read_unread])
    t ht y _ rfl fun s k hl => ?_
  have e := idx ⟨_, Pipeline.run_point_lt_of_flush t ht s⟩
  have e' := idx t
  congr 1 <;> blk_ext [iblk, V, e.1, e.2.1, e'.2.2]

theorem run : θ_run defs (onTc (τ := τ) (main (F := Ideal))) ⟨m, fun _ => 0, ρ⟩ fun r => ∀ c : Dev nD,
      r.2.mem ((c : Thread nD τ).loc main_v0) = Partial.plain (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.EvenInIdeal.Product

namespace Cert.EvenOutIdeal.Product

open Cert.EvenOutIdeal Cert.EvenOutIdeal.Gen

variable (m : (ℓ : Loc nD τ sig) → Buf (Elt Ideal) ℓ) (ρ : Dev nD → PrngReg)

theorem idx : ∀ t : Fin cfg0.N, win0_0.index t = ![t.val / 4, t.val % 4] ∧ win0_1.index t = ![t.val % 4, 0]
    ∧ win0_2.index t = ![t.val / 4, 0] ∧ win0_3.index t = ![t.val / 4, 0] :=
  (by decide +kernel : ∀ t : Fin grid0.N, _)

theorem zero (j : S512x1024.Idx) : k0_pay1 (F := Ideal) j = 0 := by pointwise [k0_pay1]

theorem step (x : FVec Ideal S512x512 .bf16) (w : FVec Ideal S512x1024 .bf16) (acc : FVec Ideal S512x1024 .f32)
    (j : S512x1024.Idx) :
    k0_pay2 (F := Ideal) x w acc j = acc j + ∑ k : Fin 512, x (ix2 (j 0) k) * w (ix2 k (j 1)) := by
  pointwise [k0_pay2]

theorem residual (s res : FVec Ideal S512x1024 .f32) (j : S512x1024.Idx) : k0_pay3 (F := Ideal) s res j = s j + res j := by
  pointwise [k0_pay3]

theorem final (c : Dev nD) : (dats m 0 c).arrAt 3 cfg0.N
    = fun i => Partial.plain (V m c main_arg0) (V m c main_arg1) i + V m c main_arg2 i := by
  refine (dats m 0 c).arrAt_eq_of_covers 3 _ (by decide +kernel) fun t hf y => ?_
  have ht := (flush0_3 t).mp hf
  have out : (outsAt0 m c t.val t.isLt).1 = k0_pay3 (outsAt0 m c t.val t.isLt).2 (iblk m c 2 t) := by
    rw [outsAt0_C m c t (by omega) ht]; frame_out
  have e' := idx t
  blk_simp
  rw [after0_3, out, residual]
  refine congrArg₂ (· + ·) ?_ (by blk_ext [iblk, V, e'.2.2.1, e'.2.2.2])
  refine Partial.total (fun n h => (outsAt0 m c n h).2) 4 _
    (fun t h j => by rw [outsAt0_A m c t h (by omega)]; frame_out; rw [step, zero, zero_add])
    (fun t h j => by
      by_cases h' : t.val % 4 = 3
      · rw [outsAt0_C m c t h h']; frame_out; rw [step, (Memref.isWhole_whole cc0_scratch0).read_unread]
      · rw [outsAt0_B m c t h h']; frame_out; rw [step, (Memref.isWhole_whole cc0_scratch0).read_unread])
    t ht y _ rfl fun s k hl => ?_
  have e := idx ⟨_, Pipeline.run_point_lt_of_flush t ht s⟩
  congr 1 <;> blk_ext [iblk, V, e.1, e.2.1, e'.2.2.2]

theorem run : θ_run defs (onTc (τ := τ) (main (F := Ideal))) ⟨m, fun _ => 0, ρ⟩ fun r => ∀ c : Dev nD,
      r.2.mem ((c : Thread nD τ).loc main_v0)
        = (fun i => Partial.plain (m ((c : Thread nD τ).loc main_arg0)) (m ((c : Thread nD τ).loc main_arg1)) i
            + m ((c : Thread nD τ).loc main_arg2) i)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.EvenOutIdeal.Product

namespace Cert.EvenOutDxIdeal.Product

open Cert.EvenOutDxIdeal Cert.EvenOutDxIdeal.Gen

variable (m : (ℓ : Loc nD τ sig) → Buf (Elt Ideal) ℓ) (ρ : Dev nD → PrngReg)

theorem idx : ∀ t : Fin cfg0.N, win0_0.index t = ![t.val / 4, t.val % 2] ∧ win0_1.index t = ![t.val / 2 % 2, t.val % 2]
    ∧ win0_2.index t = ![t.val / 4, t.val / 2 % 2] :=
  (by decide +kernel : ∀ t : Fin grid0.N, _)

theorem zero (j : S512x1024.Idx) : k0_pay1 (F := Ideal) j = 0 := by pointwise [k0_pay1]

theorem step (x : FVec Ideal S512x512 .f32) (w : FVec Ideal S1024x512 .bf16) (acc : FVec Ideal S512x1024 .f32)
    (j : S512x1024.Idx) :
    k0_pay2 (F := Ideal) x w acc j = acc j + ∑ k : Fin 512, x (ix2 (j 0) k) * w (ix2 (j 1) k) := by
  pointwise [k0_pay2]

theorem final (c : Dev nD) : (dats m 0 c).arrAt 2 cfg0.N = Partial.right (V m c main_arg0) (V m c main_arg1) := by
  refine (dats m 0 c).arrAt_eq_of_covers 2 _ (by decide +kernel) fun t hf y => ?_
  have ht := (flush0_2 t).mp hf
  have out : (outsAt0 m c t.val t.isLt).1 = (outsAt0 m c t.val t.isLt).2 := by
    rw [outsAt0_B m c t (by omega) ht]; frame_out
  blk_simp
  rw [after0_2, out]
  refine Partial.total (fun n h => (outsAt0 m c n h).2) 2 _
    (fun t h j => by rw [outsAt0_A m c t h (by omega)]; frame_out; rw [step, zero, zero_add])
    (fun t h j => by rw [outsAt0_B m c t h (by omega)]; frame_out; rw [step, (Memref.isWhole_whole cc0_scratch0).read_unread])
    t ht y _ rfl fun s k hl => ?_
  have e := idx ⟨_, Pipeline.run_point_lt_of_flush t ht s⟩
  have e' := idx t
  congr 1 <;> blk_ext [iblk, V, e.1, e.2.1, e'.2.2]

theorem run : θ_run defs (onTc (τ := τ) (main (F := Ideal))) ⟨m, fun _ => 0, ρ⟩ fun r => ∀ c : Dev nD,
      r.2.mem ((c : Thread nD τ).loc main_v0) = Partial.right (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.EvenOutDxIdeal.Product

namespace Cert.EvenOutDwIdeal.Product

open Cert.EvenOutDwIdeal Cert.EvenOutDwIdeal.Gen

variable (m : (ℓ : Loc nD τ sig) → Buf (Elt Ideal) ℓ) (ρ : Dev nD → PrngReg)

theorem idx : ∀ t : Fin cfg0.N, win0_0.index t = ![t.val % 16, t.val / 16] ∧ win0_1.index t = ![t.val % 16, 0]
    ∧ win0_2.index t = ![t.val / 16, 0] :=
  (by decide +kernel : ∀ t : Fin grid0.N, _)

theorem zero (j : S512x1024.Idx) : k0_pay1 (F := Ideal) j = 0 := by pointwise [k0_pay1]

theorem step (x : FVec Ideal S512x512 .bf16) (w : FVec Ideal S512x1024 .f32) (acc : FVec Ideal S512x1024 .f32)
    (j : S512x1024.Idx) :
    k0_pay2 (F := Ideal) x w acc j = acc j + ∑ k : Fin 512, x (ix2 k (j 0)) * w (ix2 k (j 1)) := by
  pointwise [k0_pay2]

theorem final (c : Dev nD) : (dats m 0 c).arrAt 2 cfg0.N = Partial.left (V m c main_arg0) (V m c main_arg1) := by
  refine (dats m 0 c).arrAt_eq_of_covers 2 _ (by decide +kernel) fun t hf y => ?_
  have ht := (flush0_2 t).mp hf
  have out : (outsAt0 m c t.val t.isLt).1 = (outsAt0 m c t.val t.isLt).2 := by
    rw [outsAt0_C m c t (by omega) ht]; frame_out
  blk_simp
  rw [after0_2, out]
  refine Partial.total (fun n h => (outsAt0 m c n h).2) 16 _
    (fun t h j => by rw [outsAt0_A m c t h (by omega)]; frame_out; rw [step, zero, zero_add])
    (fun t h j => by
      by_cases h' : t.val % 16 = 15
      · rw [outsAt0_C m c t h h']; frame_out; rw [step, (Memref.isWhole_whole cc0_scratch0).read_unread]
      · rw [outsAt0_B m c t h h']; frame_out; rw [step, (Memref.isWhole_whole cc0_scratch0).read_unread])
    t ht y _ rfl fun s k hl => ?_
  have e := idx ⟨_, Pipeline.run_point_lt_of_flush t ht s⟩
  have e' := idx t
  congr 1 <;> blk_ext [iblk, V, e.1, e.2.1, e'.2.2]

theorem run : θ_run defs (onTc (τ := τ) (main (F := Ideal))) ⟨m, fun _ => 0, ρ⟩ fun r => ∀ c : Dev nD,
      r.2.mem ((c : Thread nD τ).loc main_v0) = Partial.left (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.EvenOutDwIdeal.Product

namespace Cert.EvenInDxIdeal.Product

open Cert.EvenInDxIdeal Cert.EvenInDxIdeal.Gen

variable (m : (ℓ : Loc nD τ sig) → Buf (Elt Ideal) ℓ) (ρ : Dev nD → PrngReg)

theorem idx : ∀ t : Fin cfg0.N, win0_0.index t = ![t.val / 10, t.val % 10] ∧ win0_1.index t = ![0, t.val % 10]
    ∧ win0_2.index t = ![t.val / 10, 0] :=
  (by decide +kernel : ∀ t : Fin grid0.N, _)

theorem zero (j : S512x1024.Idx) : k0_pay1 (F := Ideal) j = 0 := by pointwise [k0_pay1]

theorem step (x : FVec Ideal S512x512 .bf16) (w : FVec Ideal S1024x512 .bf16) (acc : FVec Ideal S512x1024 .f32)
    (j : S512x1024.Idx) :
    k0_pay2 (F := Ideal) x w acc j = acc j + ∑ k : Fin 512, x (ix2 (j 0) k) * w (ix2 (j 1) k) := by
  pointwise [k0_pay2]

theorem final (c : Dev nD) : (dats m 0 c).arrAt 2 cfg0.N = Partial.right (V m c main_arg0) (V m c main_arg1) := by
  refine (dats m 0 c).arrAt_eq_of_covers 2 _ (by decide +kernel) fun t hf y => ?_
  have ht := (flush0_2 t).mp hf
  have out : (outsAt0 m c t.val t.isLt).1 = (outsAt0 m c t.val t.isLt).2 := by
    rw [outsAt0_C m c t (by omega) ht]; frame_out
  blk_simp
  rw [after0_2, out]
  refine Partial.total (fun n h => (outsAt0 m c n h).2) 10 _
    (fun t h j => by rw [outsAt0_A m c t h (by omega)]; frame_out; rw [step, zero, zero_add])
    (fun t h j => by
      by_cases h' : t.val % 10 = 9
      · rw [outsAt0_C m c t h h']; frame_out; rw [step, (Memref.isWhole_whole cc0_scratch0).read_unread]
      · rw [outsAt0_B m c t h h']; frame_out; rw [step, (Memref.isWhole_whole cc0_scratch0).read_unread])
    t ht y _ rfl fun s k hl => ?_
  have e := idx ⟨_, Pipeline.run_point_lt_of_flush t ht s⟩
  have e' := idx t
  congr 1 <;> blk_ext [iblk, V, e.1, e.2.1, e'.2.2]

theorem run : θ_run defs (onTc (τ := τ) (main (F := Ideal))) ⟨m, fun _ => 0, ρ⟩ fun r => ∀ c : Dev nD,
      r.2.mem ((c : Thread nD τ).loc main_v0) = Partial.right (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.EvenInDxIdeal.Product

namespace Cert.EvenInDwIdeal.Product

open Cert.EvenInDwIdeal Cert.EvenInDwIdeal.Gen

variable (m : (ℓ : Loc nD τ sig) → Buf (Elt Ideal) ℓ) (ρ : Dev nD → PrngReg)

theorem idx : ∀ t : Fin cfg0.N, win0_0.index t = ![t.val % 16, t.val / 80] ∧ win0_1.index t = ![t.val % 16, t.val / 16 % 5]
    ∧ win0_2.index t = ![t.val / 80, t.val / 16 % 5] :=
  (by decide +kernel : ∀ t : Fin grid0.N, _)

theorem zero (j : S512x1024.Idx) : k0_pay1 (F := Ideal) j = 0 := by pointwise [k0_pay1]

theorem step (x : FVec Ideal S512x512 .bf16) (w : FVec Ideal S512x1024 .bf16) (acc : FVec Ideal S512x1024 .f32)
    (j : S512x1024.Idx) :
    k0_pay2 (F := Ideal) x w acc j = acc j + ∑ k : Fin 512, x (ix2 k (j 0)) * w (ix2 k (j 1)) := by
  pointwise [k0_pay2]

theorem final (c : Dev nD) : (dats m 0 c).arrAt 2 cfg0.N = Partial.left (V m c main_arg0) (V m c main_arg1) := by
  refine (dats m 0 c).arrAt_eq_of_covers 2 _ (by decide +kernel) fun t hf y => ?_
  have ht := (flush0_2 t).mp hf
  have out : (outsAt0 m c t.val t.isLt).1 = (outsAt0 m c t.val t.isLt).2 := by
    rw [outsAt0_C m c t (by omega) ht]; frame_out
  blk_simp
  rw [after0_2, out]
  refine Partial.total (fun n h => (outsAt0 m c n h).2) 16 _
    (fun t h j => by rw [outsAt0_A m c t h (by omega)]; frame_out; rw [step, zero, zero_add])
    (fun t h j => by
      by_cases h' : t.val % 16 = 15
      · rw [outsAt0_C m c t h h']; frame_out; rw [step, (Memref.isWhole_whole cc0_scratch0).read_unread]
      · rw [outsAt0_B m c t h h']; frame_out; rw [step, (Memref.isWhole_whole cc0_scratch0).read_unread])
    t ht y _ rfl fun s k hl => ?_
  have e := idx ⟨_, Pipeline.run_point_lt_of_flush t ht s⟩
  have e' := idx t
  congr 1 <;> blk_ext [iblk, V, e.1, e.2.1, e'.2.2]

theorem run : θ_run defs (onTc (τ := τ) (main (F := Ideal))) ⟨m, fun _ => 0, ρ⟩ fun r => ∀ c : Dev nD,
      r.2.mem ((c : Thread nD τ).loc main_v0) = Partial.left (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.EvenInDwIdeal.Product

namespace Cert.OddInIdeal.Product

open Cert.OddInIdeal Cert.OddInIdeal.Gen

variable (m : (ℓ : Loc nD τ sig) → Buf (Elt Ideal) ℓ) (ρ : Dev nD → PrngReg)

theorem idx : ∀ t : Fin cfg0.N, win0_0.index t = ![t.val / 10, t.val % 2] ∧ win0_1.index t = ![t.val % 2, t.val / 2 % 5]
    ∧ win0_2.index t = ![t.val / 10, t.val / 2 % 5] :=
  (by decide +kernel : ∀ t : Fin grid0.N, _)

theorem zero (j : S512x640.Idx) : k0_pay1 (F := Ideal) j = 0 := by pointwise [k0_pay1]

theorem step (x : FVec Ideal S512x512 .bf16) (w : FVec Ideal S512x640 .bf16) (acc : FVec Ideal S512x640 .f32)
    (j : S512x640.Idx) :
    k0_pay2 (F := Ideal) x w acc j = acc j + ∑ k : Fin 512, x (ix2 (j 0) k) * w (ix2 k (j 1)) := by
  pointwise [k0_pay2]

theorem final (c : Dev nD) : (dats m 0 c).arrAt 2 cfg0.N = Partial.plain (V m c main_arg0) (V m c main_arg1) := by
  refine (dats m 0 c).arrAt_eq_of_covers 2 _ (by decide +kernel) fun t hf y => ?_
  have ht := (flush0_2 t).mp hf
  have out : (outsAt0 m c t.val t.isLt).1 = (outsAt0 m c t.val t.isLt).2 := by
    rw [outsAt0_B m c t (by omega) ht]; frame_out
  blk_simp
  rw [after0_2, out]
  refine Partial.total (fun n h => (outsAt0 m c n h).2) 2 _
    (fun t h j => by rw [outsAt0_A m c t h (by omega)]; frame_out; rw [step, zero, zero_add])
    (fun t h j => by rw [outsAt0_B m c t h (by omega)]; frame_out; rw [step, (Memref.isWhole_whole cc0_scratch0).read_unread])
    t ht y _ rfl fun s k hl => ?_
  have e := idx ⟨_, Pipeline.run_point_lt_of_flush t ht s⟩
  have e' := idx t
  congr 1 <;> blk_ext [iblk, V, e.1, e.2.1, e'.2.2]

theorem run : θ_run defs (onTc (τ := τ) (main (F := Ideal))) ⟨m, fun _ => 0, ρ⟩ fun r => ∀ c : Dev nD,
      r.2.mem ((c : Thread nD τ).loc main_v0) = Partial.plain (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.OddInIdeal.Product

namespace Cert.OddOutIdeal.Product

open Cert.OddOutIdeal Cert.OddOutIdeal.Gen

variable (m : (ℓ : Loc nD τ sig) → Buf (Elt Ideal) ℓ) (ρ : Dev nD → PrngReg)

theorem idx : ∀ t : Fin cfg0.N, win0_0.index t = ![t.val / 2, t.val % 2] ∧ win0_1.index t = ![t.val % 2, 0]
    ∧ win0_2.index t = ![t.val / 2, 0] ∧ win0_3.index t = ![t.val / 2, 0] :=
  (by decide +kernel : ∀ t : Fin grid0.N, _)

theorem zero (j : S512x1024.Idx) : k0_pay1 (F := Ideal) j = 0 := by pointwise [k0_pay1]

theorem step (x : FVec Ideal S512x512 .bf16) (w : FVec Ideal S512x1024 .bf16) (acc : FVec Ideal S512x1024 .f32)
    (j : S512x1024.Idx) :
    k0_pay2 (F := Ideal) x w acc j = acc j + ∑ k : Fin 512, x (ix2 (j 0) k) * w (ix2 k (j 1)) := by
  pointwise [k0_pay2]

theorem residual (s res : FVec Ideal S512x1024 .f32) (j : S512x1024.Idx) : k0_pay3 (F := Ideal) s res j = s j + res j := by
  pointwise [k0_pay3]

theorem final (c : Dev nD) : (dats m 0 c).arrAt 3 cfg0.N
    = fun i => Partial.plain (V m c main_arg0) (V m c main_arg1) i + V m c main_arg2 i := by
  refine (dats m 0 c).arrAt_eq_of_covers 3 _ (by decide +kernel) fun t hf y => ?_
  have ht := (flush0_3 t).mp hf
  have out : (outsAt0 m c t.val t.isLt).1 = k0_pay3 (outsAt0 m c t.val t.isLt).2 (iblk m c 2 t) := by
    rw [outsAt0_B m c t (by omega) ht]; frame_out
  have e' := idx t
  blk_simp
  rw [after0_3, out, residual]
  refine congrArg₂ (· + ·) ?_ (by blk_ext [iblk, V, e'.2.2.1, e'.2.2.2])
  refine Partial.total (fun n h => (outsAt0 m c n h).2) 2 _
    (fun t h j => by rw [outsAt0_A m c t h (by omega)]; frame_out; rw [step, zero, zero_add])
    (fun t h j => by rw [outsAt0_B m c t h (by omega)]; frame_out; rw [step, (Memref.isWhole_whole cc0_scratch0).read_unread])
    t ht y _ rfl fun s k hl => ?_
  have e := idx ⟨_, Pipeline.run_point_lt_of_flush t ht s⟩
  congr 1 <;> blk_ext [iblk, V, e.1, e.2.1, e'.2.2.2]

theorem run : θ_run defs (onTc (τ := τ) (main (F := Ideal))) ⟨m, fun _ => 0, ρ⟩ fun r => ∀ c : Dev nD,
      r.2.mem ((c : Thread nD τ).loc main_v0)
        = (fun i => Partial.plain (m ((c : Thread nD τ).loc main_arg0)) (m ((c : Thread nD τ).loc main_arg1)) i
            + m ((c : Thread nD τ).loc main_arg2) i)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.OddOutIdeal.Product

namespace Cert.OddOutDxIdeal.Product

open Cert.OddOutDxIdeal Cert.OddOutDxIdeal.Gen

variable (m : (ℓ : Loc nD τ sig) → Buf (Elt Ideal) ℓ) (ρ : Dev nD → PrngReg)

theorem idx : ∀ t : Fin cfg0.N, win0_0.index t = ![t.val / 2, t.val % 2] ∧ win0_1.index t = ![0, t.val % 2]
    ∧ win0_2.index t = ![t.val / 2, 0] :=
  (by decide +kernel : ∀ t : Fin grid0.N, _)

theorem zero (j : S512x1024.Idx) : k0_pay1 (F := Ideal) j = 0 := by pointwise [k0_pay1]

theorem step (x : FVec Ideal S512x512 .f32) (w : FVec Ideal S1024x512 .bf16) (acc : FVec Ideal S512x1024 .f32)
    (j : S512x1024.Idx) :
    k0_pay2 (F := Ideal) x w acc j = acc j + ∑ k : Fin 512, x (ix2 (j 0) k) * w (ix2 (j 1) k) := by
  pointwise [k0_pay2]

theorem final (c : Dev nD) : (dats m 0 c).arrAt 2 cfg0.N = Partial.right (V m c main_arg0) (V m c main_arg1) := by
  refine (dats m 0 c).arrAt_eq_of_covers 2 _ (by decide +kernel) fun t hf y => ?_
  have ht := (flush0_2 t).mp hf
  have out : (outsAt0 m c t.val t.isLt).1 = (outsAt0 m c t.val t.isLt).2 := by
    rw [outsAt0_B m c t (by omega) ht]; frame_out
  blk_simp
  rw [after0_2, out]
  refine Partial.total (fun n h => (outsAt0 m c n h).2) 2 _
    (fun t h j => by rw [outsAt0_A m c t h (by omega)]; frame_out; rw [step, zero, zero_add])
    (fun t h j => by rw [outsAt0_B m c t h (by omega)]; frame_out; rw [step, (Memref.isWhole_whole cc0_scratch0).read_unread])
    t ht y _ rfl fun s k hl => ?_
  have e := idx ⟨_, Pipeline.run_point_lt_of_flush t ht s⟩
  have e' := idx t
  congr 1 <;> blk_ext [iblk, V, e.1, e.2.1, e'.2.2]

theorem run : θ_run defs (onTc (τ := τ) (main (F := Ideal))) ⟨m, fun _ => 0, ρ⟩ fun r => ∀ c : Dev nD,
      r.2.mem ((c : Thread nD τ).loc main_v0) = Partial.right (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.OddOutDxIdeal.Product

namespace Cert.OddOutDwIdeal.Product

open Cert.OddOutDwIdeal Cert.OddOutDwIdeal.Gen

variable (m : (ℓ : Loc nD τ sig) → Buf (Elt Ideal) ℓ) (ρ : Dev nD → PrngReg)

theorem idx : ∀ t : Fin cfg0.N, win0_0.index t = ![t.val % 16, t.val / 16] ∧ win0_1.index t = ![t.val % 16, 0]
    ∧ win0_2.index t = ![t.val / 16, 0] :=
  (by decide +kernel : ∀ t : Fin grid0.N, _)

theorem zero (j : S512x1024.Idx) : k0_pay1 (F := Ideal) j = 0 := by pointwise [k0_pay1]

theorem step (x : FVec Ideal S512x512 .bf16) (w : FVec Ideal S512x1024 .f32) (acc : FVec Ideal S512x1024 .f32)
    (j : S512x1024.Idx) :
    k0_pay2 (F := Ideal) x w acc j = acc j + ∑ k : Fin 512, x (ix2 k (j 0)) * w (ix2 k (j 1)) := by
  pointwise [k0_pay2]

theorem final (c : Dev nD) : (dats m 0 c).arrAt 2 cfg0.N = Partial.left (V m c main_arg0) (V m c main_arg1) := by
  refine (dats m 0 c).arrAt_eq_of_covers 2 _ (by decide +kernel) fun t hf y => ?_
  have ht := (flush0_2 t).mp hf
  have out : (outsAt0 m c t.val t.isLt).1 = (outsAt0 m c t.val t.isLt).2 := by
    rw [outsAt0_C m c t (by omega) ht]; frame_out
  blk_simp
  rw [after0_2, out]
  refine Partial.total (fun n h => (outsAt0 m c n h).2) 16 _
    (fun t h j => by rw [outsAt0_A m c t h (by omega)]; frame_out; rw [step, zero, zero_add])
    (fun t h j => by
      by_cases h' : t.val % 16 = 15
      · rw [outsAt0_C m c t h h']; frame_out; rw [step, (Memref.isWhole_whole cc0_scratch0).read_unread]
      · rw [outsAt0_B m c t h h']; frame_out; rw [step, (Memref.isWhole_whole cc0_scratch0).read_unread])
    t ht y _ rfl fun s k hl => ?_
  have e := idx ⟨_, Pipeline.run_point_lt_of_flush t ht s⟩
  have e' := idx t
  congr 1 <;> blk_ext [iblk, V, e.1, e.2.1, e'.2.2]

theorem run : θ_run defs (onTc (τ := τ) (main (F := Ideal))) ⟨m, fun _ => 0, ρ⟩ fun r => ∀ c : Dev nD,
      r.2.mem ((c : Thread nD τ).loc main_v0) = Partial.left (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.OddOutDwIdeal.Product

namespace Cert.OddInDxIdeal.Product

open Cert.OddInDxIdeal Cert.OddInDxIdeal.Gen

variable (m : (ℓ : Loc nD τ sig) → Buf (Elt Ideal) ℓ) (ρ : Dev nD → PrngReg)

theorem idx : ∀ t : Fin cfg0.N, win0_0.index t = ![t.val / 25, t.val % 25] ∧ win0_1.index t = ![0, t.val % 25]
    ∧ win0_2.index t = ![t.val / 25, 0] :=
  (by decide +kernel : ∀ t : Fin grid0.N, _)

theorem zero (j : S512x1024.Idx) : k0_pay1 (F := Ideal) j = 0 := by pointwise [k0_pay1]

theorem step (x : FVec Ideal S512x128 .bf16) (w : FVec Ideal S1024x128 .bf16) (acc : FVec Ideal S512x1024 .f32)
    (j : S512x1024.Idx) :
    k0_pay2 (F := Ideal) x w acc j = acc j + ∑ k : Fin 128, x (ix2 (j 0) k) * w (ix2 (j 1) k) := by
  pointwise [k0_pay2]

theorem final (c : Dev nD) : (dats m 0 c).arrAt 2 cfg0.N = Partial.right (V m c main_arg0) (V m c main_arg1) := by
  refine (dats m 0 c).arrAt_eq_of_covers 2 _ (by decide +kernel) fun t hf y => ?_
  have ht := (flush0_2 t).mp hf
  have out : (outsAt0 m c t.val t.isLt).1 = (outsAt0 m c t.val t.isLt).2 := by
    rw [outsAt0_C m c t (by omega) ht]; frame_out
  blk_simp
  rw [after0_2, out]
  refine Partial.total (fun n h => (outsAt0 m c n h).2) 25 _
    (fun t h j => by rw [outsAt0_A m c t h (by omega)]; frame_out; rw [step, zero, zero_add])
    (fun t h j => by
      by_cases h' : t.val % 25 = 24
      · rw [outsAt0_C m c t h h']; frame_out; rw [step, (Memref.isWhole_whole cc0_scratch0).read_unread]
      · rw [outsAt0_B m c t h h']; frame_out; rw [step, (Memref.isWhole_whole cc0_scratch0).read_unread])
    t ht y _ rfl fun s k hl => ?_
  have e := idx ⟨_, Pipeline.run_point_lt_of_flush t ht s⟩
  have e' := idx t
  congr 1 <;> blk_ext [iblk, V, e.1, e.2.1, e'.2.2]

theorem run : θ_run defs (onTc (τ := τ) (main (F := Ideal))) ⟨m, fun _ => 0, ρ⟩ fun r => ∀ c : Dev nD,
      r.2.mem ((c : Thread nD τ).loc main_v0) = Partial.right (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.OddInDxIdeal.Product

namespace Cert.OddInDwIdeal.Product

open Cert.OddInDwIdeal Cert.OddInDwIdeal.Gen

variable (m : (ℓ : Loc nD τ sig) → Buf (Elt Ideal) ℓ) (ρ : Dev nD → PrngReg)

theorem idx : ∀ t : Fin cfg0.N, win0_0.index t = ![t.val % 16, t.val / 80] ∧ win0_1.index t = ![t.val % 16, t.val / 16 % 5]
    ∧ win0_2.index t = ![t.val / 80, t.val / 16 % 5] :=
  (by decide +kernel : ∀ t : Fin grid0.N, _)

theorem zero (j : S512x640.Idx) : k0_pay1 (F := Ideal) j = 0 := by pointwise [k0_pay1]

theorem step (x : FVec Ideal S512x512 .bf16) (w : FVec Ideal S512x640 .bf16) (acc : FVec Ideal S512x640 .f32)
    (j : S512x640.Idx) :
    k0_pay2 (F := Ideal) x w acc j = acc j + ∑ k : Fin 512, x (ix2 k (j 0)) * w (ix2 k (j 1)) := by
  pointwise [k0_pay2]

theorem final (c : Dev nD) : (dats m 0 c).arrAt 2 cfg0.N = Partial.left (V m c main_arg0) (V m c main_arg1) := by
  refine (dats m 0 c).arrAt_eq_of_covers 2 _ (by decide +kernel) fun t hf y => ?_
  have ht := (flush0_2 t).mp hf
  have out : (outsAt0 m c t.val t.isLt).1 = (outsAt0 m c t.val t.isLt).2 := by
    rw [outsAt0_C m c t (by omega) ht]; frame_out
  blk_simp
  rw [after0_2, out]
  refine Partial.total (fun n h => (outsAt0 m c n h).2) 16 _
    (fun t h j => by rw [outsAt0_A m c t h (by omega)]; frame_out; rw [step, zero, zero_add])
    (fun t h j => by
      by_cases h' : t.val % 16 = 15
      · rw [outsAt0_C m c t h h']; frame_out; rw [step, (Memref.isWhole_whole cc0_scratch0).read_unread]
      · rw [outsAt0_B m c t h h']; frame_out; rw [step, (Memref.isWhole_whole cc0_scratch0).read_unread])
    t ht y _ rfl fun s k hl => ?_
  have e := idx ⟨_, Pipeline.run_point_lt_of_flush t ht s⟩
  have e' := idx t
  congr 1 <;> blk_ext [iblk, V, e.1, e.2.1, e'.2.2]

theorem run : θ_run defs (onTc (τ := τ) (main (F := Ideal))) ⟨m, fun _ => 0, ρ⟩ fun r => ∀ c : Dev nD,
      r.2.mem ((c : Thread nD τ).loc main_v0) = Partial.left (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.OddInDwIdeal.Product

end
-- ==== Proof.MixerProductClaims.lean ====
/-
  The claims about the projections of the two mixers, forward and backward: what each call leaves block by block is the
  product of the whole arrays that the reference takes, read entry by entry.
-/
module

public import proofs.«01_k».proof.Proof.MixerProducts
public import proofs.«01_k».proof.Proof.Gen.EvenIn
public import proofs.«01_k».proof.Proof.Gen.EvenIn.Frame
public import proofs.«01_k».proof.Proof.Gen.EvenInRefIdeal
public import proofs.«01_k».proof.Proof.Gen.EvenInRefIdeal.Run
public import proofs.«01_k».proof.Proof.Gen.EvenOut
public import proofs.«01_k».proof.Proof.Gen.EvenOut.Frame
public import proofs.«01_k».proof.Proof.Gen.EvenOutRefIdeal
public import proofs.«01_k».proof.Proof.Gen.EvenOutRefIdeal.Run
public import proofs.«01_k».proof.Proof.Gen.EvenOutDx
public import proofs.«01_k».proof.Proof.Gen.EvenOutDx.Frame
public import proofs.«01_k».proof.Proof.Gen.EvenOutDxRefIdeal
public import proofs.«01_k».proof.Proof.Gen.EvenOutDxRefIdeal.Run
public import proofs.«01_k».proof.Proof.Gen.EvenOutDw
public import proofs.«01_k».proof.Proof.Gen.EvenOutDw.Frame
public import proofs.«01_k».proof.Proof.Gen.EvenOutDwRefIdeal
public import proofs.«01_k».proof.Proof.Gen.EvenOutDwRefIdeal.Run
public import proofs.«01_k».proof.Proof.Gen.EvenInDx
public import proofs.«01_k».proof.Proof.Gen.EvenInDx.Frame
public import proofs.«01_k».proof.Proof.Gen.EvenInDxRefIdeal
public import proofs.«01_k».proof.Proof.Gen.EvenInDxRefIdeal.Run
public import proofs.«01_k».proof.Proof.Gen.EvenInDw
public import proofs.«01_k».proof.Proof.Gen.EvenInDw.Frame
public import proofs.«01_k».proof.Proof.Gen.EvenInDwRefIdeal
public import proofs.«01_k».proof.Proof.Gen.EvenInDwRefIdeal.Run
public import proofs.«01_k».proof.Proof.Gen.OddIn
public import proofs.«01_k».proof.Proof.Gen.OddIn.Frame
public import proofs.«01_k».proof.Proof.Gen.OddInRefIdeal
public import proofs.«01_k».proof.Proof.Gen.OddInRefIdeal.Run
public import proofs.«01_k».proof.Proof.Gen.OddOut
public import proofs.«01_k».proof.Proof.Gen.OddOut.Frame
public import proofs.«01_k».proof.Proof.Gen.OddOutRefIdeal
public import proofs.«01_k».proof.Proof.Gen.OddOutRefIdeal.Run
public import proofs.«01_k».proof.Proof.Gen.OddOutDx
public import proofs.«01_k».proof.Proof.Gen.OddOutDx.Frame
public import proofs.«01_k».proof.Proof.Gen.OddOutDxRefIdeal
public import proofs.«01_k».proof.Proof.Gen.OddOutDxRefIdeal.Run
public import proofs.«01_k».proof.Proof.Gen.OddOutDw
public import proofs.«01_k».proof.Proof.Gen.OddOutDw.Frame
public import proofs.«01_k».proof.Proof.Gen.OddOutDwRefIdeal
public import proofs.«01_k».proof.Proof.Gen.OddOutDwRefIdeal.Run
public import proofs.«01_k».proof.Proof.Gen.OddInDx
public import proofs.«01_k».proof.Proof.Gen.OddInDx.Frame
public import proofs.«01_k».proof.Proof.Gen.OddInDxRefIdeal
public import proofs.«01_k».proof.Proof.Gen.OddInDxRefIdeal.Run
public import proofs.«01_k».proof.Proof.Gen.OddInDw
public import proofs.«01_k».proof.Proof.Gen.OddInDw.Frame
public import proofs.«01_k».proof.Proof.Gen.OddInDwRefIdeal
public import proofs.«01_k».proof.Proof.Gen.OddInDwRefIdeal.Run
public import Idealize.ShloMosaic.Lib.Quiescent

@[expose] public section

noncomputable section

open Idealize.ShloMosaic Idealize.ShloMosaic.TcCoe Idealize.SL.Sem

namespace Cert.EvenInClaims

theorem frame_kernel : Cert.quiescent_EvenIn := fun m g _ => Cert.EvenIn.Gen.frame (F := Bits) m g

theorem frame_ideal : Cert.quiescent_EvenInIdeal := fun m g _ => Cert.EvenInIdeal.Gen.frame (F := Ideal) m g

theorem frame_refIdeal : Cert.quiescent_EvenInRefIdeal := fun m g _ =>
  (θ_run Cert.EvenInRefIdeal.defs _ _).mono (fun r h => ⟨fun c => (h c).2, sem_eq_zero_of_no_sems (by decide) r.2⟩)
    (Cert.EvenInRefIdeal.Value.run (F := Ideal) m g)

theorem algebraic : Cert.algebraic_EvenInIdeal_EvenInRefIdeal := fun m g m' g' _ hm =>
  ⟨_, Cert.EvenInIdeal.Product.run m g,
    (θ_run Cert.EvenInRefIdeal.defs _ _).mono
      (fun _ h c => ⟨(h c).1.trans (by rw [(hm c).1, (hm c).2]; funext i; pointwise [Partial.plain]), (h c).2⟩)
      (Cert.EvenInRefIdeal.Value.run (F := Ideal) m' g')⟩

end Cert.EvenInClaims

namespace Cert.EvenOutClaims

theorem frame_kernel : Cert.quiescent_EvenOut := fun m g _ => Cert.EvenOut.Gen.frame (F := Bits) m g

theorem frame_ideal : Cert.quiescent_EvenOutIdeal := fun m g _ => Cert.EvenOutIdeal.Gen.frame (F := Ideal) m g

theorem frame_refIdeal : Cert.quiescent_EvenOutRefIdeal := fun m g _ =>
  (θ_run Cert.EvenOutRefIdeal.defs _ _).mono (fun r h => ⟨fun c => (h c).2, sem_eq_zero_of_no_sems (by decide) r.2⟩)
    (Cert.EvenOutRefIdeal.Value.run (F := Ideal) m g)

theorem algebraic : Cert.algebraic_EvenOutIdeal_EvenOutRefIdeal := fun m g m' g' _ hm =>
  ⟨_, Cert.EvenOutIdeal.Product.run m g,
    (θ_run Cert.EvenOutRefIdeal.defs _ _).mono
      (fun _ h c => ⟨(h c).1.trans (by
        rw [(hm c).1, (hm c).2.1, (hm c).2.2]; funext i; rw [add_comm]; pointwise [Partial.plain]), (h c).2⟩)
      (Cert.EvenOutRefIdeal.Value.run (F := Ideal) m' g')⟩

end Cert.EvenOutClaims

namespace Cert.EvenOutDxClaims

theorem frame_kernel : Cert.quiescent_EvenOutDx := fun m g _ => Cert.EvenOutDx.Gen.frame (F := Bits) m g

theorem frame_ideal : Cert.quiescent_EvenOutDxIdeal := fun m g _ => Cert.EvenOutDxIdeal.Gen.frame (F := Ideal) m g

theorem frame_refIdeal : Cert.quiescent_EvenOutDxRefIdeal := fun m g _ =>
  (θ_run Cert.EvenOutDxRefIdeal.defs _ _).mono (fun r h => ⟨fun c => (h c).2, sem_eq_zero_of_no_sems (by decide) r.2⟩)
    (Cert.EvenOutDxRefIdeal.Value.run (F := Ideal) m g)

theorem algebraic : Cert.algebraic_EvenOutDxIdeal_EvenOutDxRefIdeal := fun m g m' g' _ hm =>
  ⟨_, Cert.EvenOutDxIdeal.Product.run m g,
    (θ_run Cert.EvenOutDxRefIdeal.defs _ _).mono
      (fun _ h c => ⟨(h c).1.trans (by rw [(hm c).1, (hm c).2]; funext i; pointwise [Partial.right]), (h c).2⟩)
      (Cert.EvenOutDxRefIdeal.Value.run (F := Ideal) m' g')⟩

end Cert.EvenOutDxClaims

namespace Cert.EvenOutDwClaims

theorem frame_kernel : Cert.quiescent_EvenOutDw := fun m g _ => Cert.EvenOutDw.Gen.frame (F := Bits) m g

theorem frame_ideal : Cert.quiescent_EvenOutDwIdeal := fun m g _ => Cert.EvenOutDwIdeal.Gen.frame (F := Ideal) m g

theorem frame_refIdeal : Cert.quiescent_EvenOutDwRefIdeal := fun m g _ =>
  (θ_run Cert.EvenOutDwRefIdeal.defs _ _).mono (fun r h => ⟨fun c => (h c).2, sem_eq_zero_of_no_sems (by decide) r.2⟩)
    (Cert.EvenOutDwRefIdeal.Value.run (F := Ideal) m g)

theorem algebraic : Cert.algebraic_EvenOutDwIdeal_EvenOutDwRefIdeal := fun m g m' g' _ hm =>
  ⟨_, Cert.EvenOutDwIdeal.Product.run m g,
    (θ_run Cert.EvenOutDwRefIdeal.defs _ _).mono
      (fun _ h c => ⟨(h c).1.trans (by rw [(hm c).1, (hm c).2]; funext i; pointwise [Partial.left]), (h c).2⟩)
      (Cert.EvenOutDwRefIdeal.Value.run (F := Ideal) m' g')⟩

end Cert.EvenOutDwClaims

namespace Cert.EvenInDxClaims

theorem frame_kernel : Cert.quiescent_EvenInDx := fun m g _ => Cert.EvenInDx.Gen.frame (F := Bits) m g

theorem frame_ideal : Cert.quiescent_EvenInDxIdeal := fun m g _ => Cert.EvenInDxIdeal.Gen.frame (F := Ideal) m g

theorem frame_refIdeal : Cert.quiescent_EvenInDxRefIdeal := fun m g _ =>
  (θ_run Cert.EvenInDxRefIdeal.defs _ _).mono (fun r h => ⟨fun c => (h c).2, sem_eq_zero_of_no_sems (by decide) r.2⟩)
    (Cert.EvenInDxRefIdeal.Value.run (F := Ideal) m g)

theorem algebraic : Cert.algebraic_EvenInDxIdeal_EvenInDxRefIdeal := fun m g m' g' _ hm =>
  ⟨_, Cert.EvenInDxIdeal.Product.run m g,
    (θ_run Cert.EvenInDxRefIdeal.defs _ _).mono
      (fun _ h c => ⟨(h c).1.trans (by rw [(hm c).1, (hm c).2]; funext i; pointwise [Partial.right]), (h c).2⟩)
      (Cert.EvenInDxRefIdeal.Value.run (F := Ideal) m' g')⟩

end Cert.EvenInDxClaims

namespace Cert.EvenInDwClaims

theorem frame_kernel : Cert.quiescent_EvenInDw := fun m g _ => Cert.EvenInDw.Gen.frame (F := Bits) m g

theorem frame_ideal : Cert.quiescent_EvenInDwIdeal := fun m g _ => Cert.EvenInDwIdeal.Gen.frame (F := Ideal) m g

theorem frame_refIdeal : Cert.quiescent_EvenInDwRefIdeal := fun m g _ =>
  (θ_run Cert.EvenInDwRefIdeal.defs _ _).mono (fun r h => ⟨fun c => (h c).2, sem_eq_zero_of_no_sems (by decide) r.2⟩)
    (Cert.EvenInDwRefIdeal.Value.run (F := Ideal) m g)

theorem algebraic : Cert.algebraic_EvenInDwIdeal_EvenInDwRefIdeal := fun m g m' g' _ hm =>
  ⟨_, Cert.EvenInDwIdeal.Product.run m g,
    (θ_run Cert.EvenInDwRefIdeal.defs _ _).mono
      (fun _ h c => ⟨(h c).1.trans (by rw [(hm c).1, (hm c).2]; funext i; pointwise [Partial.left]), (h c).2⟩)
      (Cert.EvenInDwRefIdeal.Value.run (F := Ideal) m' g')⟩

end Cert.EvenInDwClaims

namespace Cert.OddInClaims

theorem frame_kernel : Cert.quiescent_OddIn := fun m g _ => Cert.OddIn.Gen.frame (F := Bits) m g

theorem frame_ideal : Cert.quiescent_OddInIdeal := fun m g _ => Cert.OddInIdeal.Gen.frame (F := Ideal) m g

theorem frame_refIdeal : Cert.quiescent_OddInRefIdeal := fun m g _ =>
  (θ_run Cert.OddInRefIdeal.defs _ _).mono (fun r h => ⟨fun c => (h c).2, sem_eq_zero_of_no_sems (by decide) r.2⟩)
    (Cert.OddInRefIdeal.Value.run (F := Ideal) m g)

theorem algebraic : Cert.algebraic_OddInIdeal_OddInRefIdeal := fun m g m' g' _ hm =>
  ⟨_, Cert.OddInIdeal.Product.run m g,
    (θ_run Cert.OddInRefIdeal.defs _ _).mono
      (fun _ h c => ⟨(h c).1.trans (by rw [(hm c).1, (hm c).2]; funext i; pointwise [Partial.plain]), (h c).2⟩)
      (Cert.OddInRefIdeal.Value.run (F := Ideal) m' g')⟩

end Cert.OddInClaims

namespace Cert.OddOutClaims

theorem frame_kernel : Cert.quiescent_OddOut := fun m g _ => Cert.OddOut.Gen.frame (F := Bits) m g

theorem frame_ideal : Cert.quiescent_OddOutIdeal := fun m g _ => Cert.OddOutIdeal.Gen.frame (F := Ideal) m g

theorem frame_refIdeal : Cert.quiescent_OddOutRefIdeal := fun m g _ =>
  (θ_run Cert.OddOutRefIdeal.defs _ _).mono (fun r h => ⟨fun c => (h c).2, sem_eq_zero_of_no_sems (by decide) r.2⟩)
    (Cert.OddOutRefIdeal.Value.run (F := Ideal) m g)

theorem algebraic : Cert.algebraic_OddOutIdeal_OddOutRefIdeal := fun m g m' g' _ hm =>
  ⟨_, Cert.OddOutIdeal.Product.run m g,
    (θ_run Cert.OddOutRefIdeal.defs _ _).mono
      (fun _ h c => ⟨(h c).1.trans (by
        rw [(hm c).1, (hm c).2.1, (hm c).2.2]; funext i; rw [add_comm]; pointwise [Partial.plain]), (h c).2⟩)
      (Cert.OddOutRefIdeal.Value.run (F := Ideal) m' g')⟩

end Cert.OddOutClaims

namespace Cert.OddOutDxClaims

theorem frame_kernel : Cert.quiescent_OddOutDx := fun m g _ => Cert.OddOutDx.Gen.frame (F := Bits) m g

theorem frame_ideal : Cert.quiescent_OddOutDxIdeal := fun m g _ => Cert.OddOutDxIdeal.Gen.frame (F := Ideal) m g

theorem frame_refIdeal : Cert.quiescent_OddOutDxRefIdeal := fun m g _ =>
  (θ_run Cert.OddOutDxRefIdeal.defs _ _).mono (fun r h => ⟨fun c => (h c).2, sem_eq_zero_of_no_sems (by decide) r.2⟩)
    (Cert.OddOutDxRefIdeal.Value.run (F := Ideal) m g)

theorem algebraic : Cert.algebraic_OddOutDxIdeal_OddOutDxRefIdeal := fun m g m' g' _ hm =>
  ⟨_, Cert.OddOutDxIdeal.Product.run m g,
    (θ_run Cert.OddOutDxRefIdeal.defs _ _).mono
      (fun _ h c => ⟨(h c).1.trans (by rw [(hm c).1, (hm c).2]; funext i; pointwise [Partial.right]), (h c).2⟩)
      (Cert.OddOutDxRefIdeal.Value.run (F := Ideal) m' g')⟩

end Cert.OddOutDxClaims

namespace Cert.OddOutDwClaims

theorem frame_kernel : Cert.quiescent_OddOutDw := fun m g _ => Cert.OddOutDw.Gen.frame (F := Bits) m g

theorem frame_ideal : Cert.quiescent_OddOutDwIdeal := fun m g _ => Cert.OddOutDwIdeal.Gen.frame (F := Ideal) m g

theorem frame_refIdeal : Cert.quiescent_OddOutDwRefIdeal := fun m g _ =>
  (θ_run Cert.OddOutDwRefIdeal.defs _ _).mono (fun r h => ⟨fun c => (h c).2, sem_eq_zero_of_no_sems (by decide) r.2⟩)
    (Cert.OddOutDwRefIdeal.Value.run (F := Ideal) m g)

theorem algebraic : Cert.algebraic_OddOutDwIdeal_OddOutDwRefIdeal := fun m g m' g' _ hm =>
  ⟨_, Cert.OddOutDwIdeal.Product.run m g,
    (θ_run Cert.OddOutDwRefIdeal.defs _ _).mono
      (fun _ h c => ⟨(h c).1.trans (by rw [(hm c).1, (hm c).2]; funext i; pointwise [Partial.left]), (h c).2⟩)
      (Cert.OddOutDwRefIdeal.Value.run (F := Ideal) m' g')⟩

end Cert.OddOutDwClaims

namespace Cert.OddInDxClaims

theorem frame_kernel : Cert.quiescent_OddInDx := fun m g _ => Cert.OddInDx.Gen.frame (F := Bits) m g

theorem frame_ideal : Cert.quiescent_OddInDxIdeal := fun m g _ => Cert.OddInDxIdeal.Gen.frame (F := Ideal) m g

theorem frame_refIdeal : Cert.quiescent_OddInDxRefIdeal := fun m g _ =>
  (θ_run Cert.OddInDxRefIdeal.defs _ _).mono (fun r h => ⟨fun c => (h c).2, sem_eq_zero_of_no_sems (by decide) r.2⟩)
    (Cert.OddInDxRefIdeal.Value.run (F := Ideal) m g)

theorem algebraic : Cert.algebraic_OddInDxIdeal_OddInDxRefIdeal := fun m g m' g' _ hm =>
  ⟨_, Cert.OddInDxIdeal.Product.run m g,
    (θ_run Cert.OddInDxRefIdeal.defs _ _).mono
      (fun _ h c => ⟨(h c).1.trans (by rw [(hm c).1, (hm c).2]; funext i; pointwise [Partial.right]), (h c).2⟩)
      (Cert.OddInDxRefIdeal.Value.run (F := Ideal) m' g')⟩

end Cert.OddInDxClaims

namespace Cert.OddInDwClaims

theorem frame_kernel : Cert.quiescent_OddInDw := fun m g _ => Cert.OddInDw.Gen.frame (F := Bits) m g

theorem frame_ideal : Cert.quiescent_OddInDwIdeal := fun m g _ => Cert.OddInDwIdeal.Gen.frame (F := Ideal) m g

theorem frame_refIdeal : Cert.quiescent_OddInDwRefIdeal := fun m g _ =>
  (θ_run Cert.OddInDwRefIdeal.defs _ _).mono (fun r h => ⟨fun c => (h c).2, sem_eq_zero_of_no_sems (by decide) r.2⟩)
    (Cert.OddInDwRefIdeal.Value.run (F := Ideal) m g)

theorem algebraic : Cert.algebraic_OddInDwIdeal_OddInDwRefIdeal := fun m g m' g' _ hm =>
  ⟨_, Cert.OddInDwIdeal.Product.run m g,
    (θ_run Cert.OddInDwRefIdeal.defs _ _).mono
      (fun _ h c => ⟨(h c).1.trans (by rw [(hm c).1, (hm c).2]; funext i; pointwise [Partial.left]), (h c).2⟩)
      (Cert.OddInDwRefIdeal.Value.run (F := Ideal) m' g')⟩

end Cert.OddInDwClaims

end
-- ==== Proof.LatentProducts.lean ====
/-
  What the calls of the projections of latent attention's two latents leave, forward and backward: each the product of two
  whole matrices, one of them transposed in the gradients. Forward a latent is narrow enough to be contracted in one piece.
-/
module

public import proofs.«01_k».proof.Proof.Gen.MlaUqIdeal.Value
public import proofs.«01_k».proof.Proof.Gen.MlaUkvIdeal.Value
public import proofs.«01_k».proof.Proof.Gen.MlaUqDxIdeal.Value
public import proofs.«01_k».proof.Proof.Gen.MlaUqDwIdeal.Value
public import proofs.«01_k».proof.Proof.Gen.MlaUkvDxIdeal.Value
public import proofs.«01_k».proof.Proof.Gen.MlaUkvDwIdeal.Value
public import proofs.«01_k».proof.Proof.Partial
public import Idealize.ShloMosaic.Lib.Pipeline.Value
public import Idealize.ShloMosaic.Lib.Tactic

@[expose] public section

set_option maxRecDepth 16384

noncomputable section

open Idealize.ShloMosaic Idealize.ShloMosaic.TcCoe Idealize.SL.Sem

namespace Cert.MlaUqIdeal.Product

open Cert.MlaUqIdeal Cert.MlaUqIdeal.Gen

variable (m : (ℓ : Loc nD τ sig) → Buf (Elt Ideal) ℓ) (ρ : Dev nD → PrngReg)

theorem idx : ∀ t : Fin cfg0.N, win0_0.index t = ![t.val, 0] ∧ win0_1.index t = ![0, 0] ∧ win0_2.index t = ![t.val, 0] :=
  (by decide +kernel : ∀ t : Fin grid0.N, _)

theorem zero (j : S512x1024.Idx) : k0_pay1 (F := Ideal) j = 0 := by pointwise [k0_pay1]

theorem step (x : FVec Ideal S512x512 .bf16) (w : FVec Ideal S512x1024 .bf16) (acc : FVec Ideal S512x1024 .f32)
    (j : S512x1024.Idx) :
    k0_pay2 (F := Ideal) x w acc j = acc j + ∑ k : Fin 512, x (ix2 (j 0) k) * w (ix2 k (j 1)) := by
  pointwise [k0_pay2]

theorem final (c : Dev nD) : (dats m 0 c).arrAt 2 cfg0.N = Partial.plain (V m c main_arg0) (V m c main_arg1) := by
  refine (dats m 0 c).arrAt_eq_of_covers 2 _ (by decide +kernel) fun t hf y => ?_
  have e := idx t
  blk_simp
  rw [after0_2]
  unfold outsAt0
  frame_out
  rw [step, zero, zero_add]
  refine (Finset.sum_congr rfl fun k _ => ?_ : (_ : EReal) = _)
  congr 1 <;> blk_ext [iblk, V, e.1, e.2.1, e.2.2]

theorem run : θ_run defs (onTc (τ := τ) (main (F := Ideal))) ⟨m, fun _ => 0, ρ⟩ fun r => ∀ c : Dev nD,
      r.2.mem ((c : Thread nD τ).loc main_v0) = Partial.plain (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.MlaUqIdeal.Product

namespace Cert.MlaUkvIdeal.Product

open Cert.MlaUkvIdeal Cert.MlaUkvIdeal.Gen

variable (m : (ℓ : Loc nD τ sig) → Buf (Elt Ideal) ℓ) (ρ : Dev nD → PrngReg)

theorem idx : ∀ t : Fin cfg0.N, win0_0.index t = ![t.val / 2, 0] ∧ win0_1.index t = ![0, t.val % 2]
    ∧ win0_2.index t = ![t.val / 2, t.val % 2] :=
  (by decide +kernel : ∀ t : Fin grid0.N, _)

theorem zero (j : S512x1024.Idx) : k0_pay1 (F := Ideal) j = 0 := by pointwise [k0_pay1]

theorem step (x : FVec Ideal S512x256 .bf16) (w : FVec Ideal S256x1024 .bf16) (acc : FVec Ideal S512x1024 .f32)
    (j : S512x1024.Idx) :
    k0_pay2 (F := Ideal) x w acc j = acc j + ∑ k : Fin 256, x (ix2 (j 0) k) * w (ix2 k (j 1)) := by
  pointwise [k0_pay2]

theorem final (c : Dev nD) : (dats m 0 c).arrAt 2 cfg0.N = Partial.plain (V m c main_arg0) (V m c main_arg1) := by
  refine (dats m 0 c).arrAt_eq_of_covers 2 _ (by decide +kernel) fun t hf y => ?_
  have e := idx t
  blk_simp
  rw [after0_2]
  unfold outsAt0
  frame_out
  rw [step, zero, zero_add]
  refine (Finset.sum_congr rfl fun k _ => ?_ : (_ : EReal) = _)
  congr 1 <;> blk_ext [iblk, V, e.1, e.2.1, e.2.2]

theorem run : θ_run defs (onTc (τ := τ) (main (F := Ideal))) ⟨m, fun _ => 0, ρ⟩ fun r => ∀ c : Dev nD,
      r.2.mem ((c : Thread nD τ).loc main_v0) = Partial.plain (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.MlaUkvIdeal.Product

namespace Cert.MlaUqDxIdeal.Product

open Cert.MlaUqDxIdeal Cert.MlaUqDxIdeal.Gen

variable (m : (ℓ : Loc nD τ sig) → Buf (Elt Ideal) ℓ) (ρ : Dev nD → PrngReg)

theorem idx : ∀ t : Fin cfg0.N, win0_0.index t = ![t.val / 2, t.val % 2] ∧ win0_1.index t = ![0, t.val % 2]
    ∧ win0_2.index t = ![t.val / 2, 0] :=
  (by decide +kernel : ∀ t : Fin grid0.N, _)

theorem zero (j : S512x512.Idx) : k0_pay1 (F := Ideal) j = 0 := by pointwise [k0_pay1]

theorem step (x w : FVec Ideal S512x512 .bf16) (acc : FVec Ideal S512x512 .f32) (j : S512x512.Idx) :
    k0_pay2 (F := Ideal) x w acc j = acc j + ∑ k : Fin 512, x (ix2 (j 0) k) * w (ix2 (j 1) k) := by
  pointwise [k0_pay2]

theorem final (c : Dev nD) : (dats m 0 c).arrAt 2 cfg0.N = Partial.right (V m c main_arg0) (V m c main_arg1) := by
  refine (dats m 0 c).arrAt_eq_of_covers 2 _ (by decide +kernel) fun t hf y => ?_
  have ht := (flush0_2 t).mp hf
  have out : (outsAt0 m c t.val t.isLt).1 = (outsAt0 m c t.val t.isLt).2 := by
    rw [outsAt0_B m c t (by omega) ht]; frame_out
  blk_simp
  rw [after0_2, out]
  refine Partial.total (fun n h => (outsAt0 m c n h).2) 2 _
    (fun t h j => by rw [outsAt0_A m c t h (by omega)]; frame_out; rw [step, zero, zero_add])
    (fun t h j => by rw [outsAt0_B m c t h (by omega)]; frame_out; rw [step, (Memref.isWhole_whole cc0_scratch0).read_unread])
    t ht y _ rfl fun s k hl => ?_
  have e := idx ⟨_, Pipeline.run_point_lt_of_flush t ht s⟩
  have e' := idx t
  congr 1 <;> blk_ext [iblk, V, e.1, e.2.1, e'.2.2]

theorem run : θ_run defs (onTc (τ := τ) (main (F := Ideal))) ⟨m, fun _ => 0, ρ⟩ fun r => ∀ c : Dev nD,
      r.2.mem ((c : Thread nD τ).loc main_v0) = Partial.right (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.MlaUqDxIdeal.Product

namespace Cert.MlaUqDwIdeal.Product

open Cert.MlaUqDwIdeal Cert.MlaUqDwIdeal.Gen

variable (m : (ℓ : Loc nD τ sig) → Buf (Elt Ideal) ℓ) (ρ : Dev nD → PrngReg)

theorem idx : ∀ t : Fin cfg0.N, win0_0.index t = ![t.val % 16, 0] ∧ win0_1.index t = ![t.val % 16, 0] ∧ win0_2.index t = ![0, 0] :=
  (by decide +kernel : ∀ t : Fin grid0.N, _)

theorem zero (j : S512x1024.Idx) : k0_pay1 (F := Ideal) j = 0 := by pointwise [k0_pay1]

theorem step (x : FVec Ideal S512x512 .bf16) (w : FVec Ideal S512x1024 .bf16) (acc : FVec Ideal S512x1024 .f32)
    (j : S512x1024.Idx) :
    k0_pay2 (F := Ideal) x w acc j = acc j + ∑ k : Fin 512, x (ix2 k (j 0)) * w (ix2 k (j 1)) := by
  pointwise [k0_pay2]

theorem final (c : Dev nD) : (dats m 0 c).arrAt 2 cfg0.N = Partial.left (V m c main_arg0) (V m c main_arg1) := by
  refine (dats m 0 c).arrAt_eq_of_covers 2 _ (by decide +kernel) fun t hf y => ?_
  have ht := (flush0_2 t).mp hf
  have out : (outsAt0 m c t.val t.isLt).1 = (outsAt0 m c t.val t.isLt).2 := by
    rw [outsAt0_C m c t (by omega) ht]; frame_out
  blk_simp
  rw [after0_2, out]
  refine Partial.total (fun n h => (outsAt0 m c n h).2) 16 _
    (fun t h j => by rw [outsAt0_A m c t h (by omega)]; frame_out; rw [step, zero, zero_add])
    (fun t h j => by
      by_cases h' : t.val % 16 = 15
      · rw [outsAt0_C m c t h h']; frame_out; rw [step, (Memref.isWhole_whole cc0_scratch0).read_unread]
      · rw [outsAt0_B m c t h h']; frame_out; rw [step, (Memref.isWhole_whole cc0_scratch0).read_unread])
    t ht y _ rfl fun s k hl => ?_
  have e := idx ⟨_, Pipeline.run_point_lt_of_flush t ht s⟩
  have e' := idx t
  congr 1 <;> blk_ext [iblk, V, e.1, e.2.1, e'.2.2]

theorem run : θ_run defs (onTc (τ := τ) (main (F := Ideal))) ⟨m, fun _ => 0, ρ⟩ fun r => ∀ c : Dev nD,
      r.2.mem ((c : Thread nD τ).loc main_v0) = Partial.left (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.MlaUqDwIdeal.Product

namespace Cert.MlaUkvDxIdeal.Product

open Cert.MlaUkvDxIdeal Cert.MlaUkvDxIdeal.Gen

variable (m : (ℓ : Loc nD τ sig) → Buf (Elt Ideal) ℓ) (ρ : Dev nD → PrngReg)

theorem idx : ∀ t : Fin cfg0.N, win0_0.index t = ![t.val / 4, t.val % 4] ∧ win0_1.index t = ![0, t.val % 4]
    ∧ win0_2.index t = ![t.val / 4, 0] :=
  (by decide +kernel : ∀ t : Fin grid0.N, _)

theorem zero (j : S512x256.Idx) : k0_pay1 (F := Ideal) j = 0 := by pointwise [k0_pay1]

theorem step (x : FVec Ideal S512x512 .bf16) (w : FVec Ideal S256x512 .bf16) (acc : FVec Ideal S512x256 .f32)
    (j : S512x256.Idx) :
    k0_pay2 (F := Ideal) x w acc j = acc j + ∑ k : Fin 512, x (ix2 (j 0) k) * w (ix2 (j 1) k) := by
  pointwise [k0_pay2]

theorem final (c : Dev nD) : (dats m 0 c).arrAt 2 cfg0.N = Partial.right (V m c main_arg0) (V m c main_arg1) := by
  refine (dats m 0 c).arrAt_eq_of_covers 2 _ (by decide +kernel) fun t hf y => ?_
  have ht := (flush0_2 t).mp hf
  have out : (outsAt0 m c t.val t.isLt).1 = (outsAt0 m c t.val t.isLt).2 := by
    rw [outsAt0_C m c t (by omega) ht]; frame_out
  blk_simp
  rw [after0_2, out]
  refine Partial.total (fun n h => (outsAt0 m c n h).2) 4 _
    (fun t h j => by rw [outsAt0_A m c t h (by omega)]; frame_out; rw [step, zero, zero_add])
    (fun t h j => by
      by_cases h' : t.val % 4 = 3
      · rw [outsAt0_C m c t h h']; frame_out; rw [step, (Memref.isWhole_whole cc0_scratch0).read_unread]
      · rw [outsAt0_B m c t h h']; frame_out; rw [step, (Memref.isWhole_whole cc0_scratch0).read_unread])
    t ht y _ rfl fun s k hl => ?_
  have e := idx ⟨_, Pipeline.run_point_lt_of_flush t ht s⟩
  have e' := idx t
  congr 1 <;> blk_ext [iblk, V, e.1, e.2.1, e'.2.2]

theorem run : θ_run defs (onTc (τ := τ) (main (F := Ideal))) ⟨m, fun _ => 0, ρ⟩ fun r => ∀ c : Dev nD,
      r.2.mem ((c : Thread nD τ).loc main_v0) = Partial.right (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.MlaUkvDxIdeal.Product

namespace Cert.MlaUkvDwIdeal.Product

open Cert.MlaUkvDwIdeal Cert.MlaUkvDwIdeal.Gen

variable (m : (ℓ : Loc nD τ sig) → Buf (Elt Ideal) ℓ) (ρ : Dev nD → PrngReg)

theorem idx : ∀ t : Fin cfg0.N, win0_0.index t = ![t.val % 16, 0] ∧ win0_1.index t = ![t.val % 16, t.val / 16]
    ∧ win0_2.index t = ![0, t.val / 16] :=
  (by decide +kernel : ∀ t : Fin grid0.N, _)

theorem zero (j : S256x1024.Idx) : k0_pay1 (F := Ideal) j = 0 := by pointwise [k0_pay1]

theorem step (x : FVec Ideal S512x256 .bf16) (w : FVec Ideal S512x1024 .bf16) (acc : FVec Ideal S256x1024 .f32)
    (j : S256x1024.Idx) :
    k0_pay2 (F := Ideal) x w acc j = acc j + ∑ k : Fin 512, x (ix2 k (j 0)) * w (ix2 k (j 1)) := by
  pointwise [k0_pay2]

theorem final (c : Dev nD) : (dats m 0 c).arrAt 2 cfg0.N = Partial.left (V m c main_arg0) (V m c main_arg1) := by
  refine (dats m 0 c).arrAt_eq_of_covers 2 _ (by decide +kernel) fun t hf y => ?_
  have ht := (flush0_2 t).mp hf
  have out : (outsAt0 m c t.val t.isLt).1 = (outsAt0 m c t.val t.isLt).2 := by
    rw [outsAt0_C m c t (by omega) ht]; frame_out
  blk_simp
  rw [after0_2, out]
  refine Partial.total (fun n h => (outsAt0 m c n h).2) 16 _
    (fun t h j => by rw [outsAt0_A m c t h (by omega)]; frame_out; rw [step, zero, zero_add])
    (fun t h j => by
      by_cases h' : t.val % 16 = 15
      · rw [outsAt0_C m c t h h']; frame_out; rw [step, (Memref.isWhole_whole cc0_scratch0).read_unread]
      · rw [outsAt0_B m c t h h']; frame_out; rw [step, (Memref.isWhole_whole cc0_scratch0).read_unread])
    t ht y _ rfl fun s k hl => ?_
  have e := idx ⟨_, Pipeline.run_point_lt_of_flush t ht s⟩
  have e' := idx t
  congr 1 <;> blk_ext [iblk, V, e.1, e.2.1, e'.2.2]

theorem run : θ_run defs (onTc (τ := τ) (main (F := Ideal))) ⟨m, fun _ => 0, ρ⟩ fun r => ∀ c : Dev nD,
      r.2.mem ((c : Thread nD τ).loc main_v0) = Partial.left (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.MlaUkvDwIdeal.Product

end
-- ==== Proof.LatentProductClaims.lean ====
/-
  The claims about the projections of latent attention's two latents, forward and backward: what each call leaves is the
  product of the whole arrays that the reference takes, read entry by entry.
-/
module

public import proofs.«01_k».proof.Proof.LatentProducts
public import proofs.«01_k».proof.Proof.Gen.MlaUq
public import proofs.«01_k».proof.Proof.Gen.MlaUq.Frame
public import proofs.«01_k».proof.Proof.Gen.MlaUqRefIdeal
public import proofs.«01_k».proof.Proof.Gen.MlaUqRefIdeal.Run
public import proofs.«01_k».proof.Proof.Gen.MlaUkv
public import proofs.«01_k».proof.Proof.Gen.MlaUkv.Frame
public import proofs.«01_k».proof.Proof.Gen.MlaUkvRefIdeal
public import proofs.«01_k».proof.Proof.Gen.MlaUkvRefIdeal.Run
public import proofs.«01_k».proof.Proof.Gen.MlaUqDx
public import proofs.«01_k».proof.Proof.Gen.MlaUqDx.Frame
public import proofs.«01_k».proof.Proof.Gen.MlaUqDxRefIdeal
public import proofs.«01_k».proof.Proof.Gen.MlaUqDxRefIdeal.Run
public import proofs.«01_k».proof.Proof.Gen.MlaUqDw
public import proofs.«01_k».proof.Proof.Gen.MlaUqDw.Frame
public import proofs.«01_k».proof.Proof.Gen.MlaUqDwRefIdeal
public import proofs.«01_k».proof.Proof.Gen.MlaUqDwRefIdeal.Run
public import proofs.«01_k».proof.Proof.Gen.MlaUkvDx
public import proofs.«01_k».proof.Proof.Gen.MlaUkvDx.Frame
public import proofs.«01_k».proof.Proof.Gen.MlaUkvDxRefIdeal
public import proofs.«01_k».proof.Proof.Gen.MlaUkvDxRefIdeal.Run
public import proofs.«01_k».proof.Proof.Gen.MlaUkvDw
public import proofs.«01_k».proof.Proof.Gen.MlaUkvDw.Frame
public import proofs.«01_k».proof.Proof.Gen.MlaUkvDwRefIdeal
public import proofs.«01_k».proof.Proof.Gen.MlaUkvDwRefIdeal.Run
public import Idealize.ShloMosaic.Lib.Quiescent

@[expose] public section

noncomputable section

open Idealize.ShloMosaic Idealize.ShloMosaic.TcCoe Idealize.SL.Sem

namespace Cert.MlaUqClaims

theorem frame_kernel : Cert.quiescent_MlaUq := fun m g _ => Cert.MlaUq.Gen.frame (F := Bits) m g

theorem frame_ideal : Cert.quiescent_MlaUqIdeal := fun m g _ => Cert.MlaUqIdeal.Gen.frame (F := Ideal) m g

theorem frame_refIdeal : Cert.quiescent_MlaUqRefIdeal := fun m g _ =>
  (θ_run Cert.MlaUqRefIdeal.defs _ _).mono (fun r h => ⟨fun c => (h c).2, sem_eq_zero_of_no_sems (by decide) r.2⟩)
    (Cert.MlaUqRefIdeal.Value.run (F := Ideal) m g)

theorem algebraic : Cert.algebraic_MlaUqIdeal_MlaUqRefIdeal := fun m g m' g' _ hm =>
  ⟨_, Cert.MlaUqIdeal.Product.run m g,
    (θ_run Cert.MlaUqRefIdeal.defs _ _).mono
      (fun _ h c => ⟨(h c).1.trans (by rw [(hm c).1, (hm c).2]; funext i; pointwise [Partial.plain]), (h c).2⟩)
      (Cert.MlaUqRefIdeal.Value.run (F := Ideal) m' g')⟩

end Cert.MlaUqClaims

namespace Cert.MlaUkvClaims

theorem frame_kernel : Cert.quiescent_MlaUkv := fun m g _ => Cert.MlaUkv.Gen.frame (F := Bits) m g

theorem frame_ideal : Cert.quiescent_MlaUkvIdeal := fun m g _ => Cert.MlaUkvIdeal.Gen.frame (F := Ideal) m g

theorem frame_refIdeal : Cert.quiescent_MlaUkvRefIdeal := fun m g _ =>
  (θ_run Cert.MlaUkvRefIdeal.defs _ _).mono (fun r h => ⟨fun c => (h c).2, sem_eq_zero_of_no_sems (by decide) r.2⟩)
    (Cert.MlaUkvRefIdeal.Value.run (F := Ideal) m g)

theorem algebraic : Cert.algebraic_MlaUkvIdeal_MlaUkvRefIdeal := fun m g m' g' _ hm =>
  ⟨_, Cert.MlaUkvIdeal.Product.run m g,
    (θ_run Cert.MlaUkvRefIdeal.defs _ _).mono
      (fun _ h c => ⟨(h c).1.trans (by rw [(hm c).1, (hm c).2]; funext i; pointwise [Partial.plain]), (h c).2⟩)
      (Cert.MlaUkvRefIdeal.Value.run (F := Ideal) m' g')⟩

end Cert.MlaUkvClaims

namespace Cert.MlaUqDxClaims

theorem frame_kernel : Cert.quiescent_MlaUqDx := fun m g _ => Cert.MlaUqDx.Gen.frame (F := Bits) m g

theorem frame_ideal : Cert.quiescent_MlaUqDxIdeal := fun m g _ => Cert.MlaUqDxIdeal.Gen.frame (F := Ideal) m g

theorem frame_refIdeal : Cert.quiescent_MlaUqDxRefIdeal := fun m g _ =>
  (θ_run Cert.MlaUqDxRefIdeal.defs _ _).mono (fun r h => ⟨fun c => (h c).2, sem_eq_zero_of_no_sems (by decide) r.2⟩)
    (Cert.MlaUqDxRefIdeal.Value.run (F := Ideal) m g)

theorem algebraic : Cert.algebraic_MlaUqDxIdeal_MlaUqDxRefIdeal := fun m g m' g' _ hm =>
  ⟨_, Cert.MlaUqDxIdeal.Product.run m g,
    (θ_run Cert.MlaUqDxRefIdeal.defs _ _).mono
      (fun _ h c => ⟨(h c).1.trans (by rw [(hm c).1, (hm c).2]; funext i; pointwise [Partial.right]), (h c).2⟩)
      (Cert.MlaUqDxRefIdeal.Value.run (F := Ideal) m' g')⟩

end Cert.MlaUqDxClaims

namespace Cert.MlaUqDwClaims

theorem frame_kernel : Cert.quiescent_MlaUqDw := fun m g _ => Cert.MlaUqDw.Gen.frame (F := Bits) m g

theorem frame_ideal : Cert.quiescent_MlaUqDwIdeal := fun m g _ => Cert.MlaUqDwIdeal.Gen.frame (F := Ideal) m g

theorem frame_refIdeal : Cert.quiescent_MlaUqDwRefIdeal := fun m g _ =>
  (θ_run Cert.MlaUqDwRefIdeal.defs _ _).mono (fun r h => ⟨fun c => (h c).2, sem_eq_zero_of_no_sems (by decide) r.2⟩)
    (Cert.MlaUqDwRefIdeal.Value.run (F := Ideal) m g)

theorem algebraic : Cert.algebraic_MlaUqDwIdeal_MlaUqDwRefIdeal := fun m g m' g' _ hm =>
  ⟨_, Cert.MlaUqDwIdeal.Product.run m g,
    (θ_run Cert.MlaUqDwRefIdeal.defs _ _).mono
      (fun _ h c => ⟨(h c).1.trans (by rw [(hm c).1, (hm c).2]; funext i; pointwise [Partial.left]), (h c).2⟩)
      (Cert.MlaUqDwRefIdeal.Value.run (F := Ideal) m' g')⟩

end Cert.MlaUqDwClaims

namespace Cert.MlaUkvDxClaims

theorem frame_kernel : Cert.quiescent_MlaUkvDx := fun m g _ => Cert.MlaUkvDx.Gen.frame (F := Bits) m g

theorem frame_ideal : Cert.quiescent_MlaUkvDxIdeal := fun m g _ => Cert.MlaUkvDxIdeal.Gen.frame (F := Ideal) m g

theorem frame_refIdeal : Cert.quiescent_MlaUkvDxRefIdeal := fun m g _ =>
  (θ_run Cert.MlaUkvDxRefIdeal.defs _ _).mono (fun r h => ⟨fun c => (h c).2, sem_eq_zero_of_no_sems (by decide) r.2⟩)
    (Cert.MlaUkvDxRefIdeal.Value.run (F := Ideal) m g)

theorem algebraic : Cert.algebraic_MlaUkvDxIdeal_MlaUkvDxRefIdeal := fun m g m' g' _ hm =>
  ⟨_, Cert.MlaUkvDxIdeal.Product.run m g,
    (θ_run Cert.MlaUkvDxRefIdeal.defs _ _).mono
      (fun _ h c => ⟨(h c).1.trans (by rw [(hm c).1, (hm c).2]; funext i; pointwise [Partial.right]), (h c).2⟩)
      (Cert.MlaUkvDxRefIdeal.Value.run (F := Ideal) m' g')⟩

end Cert.MlaUkvDxClaims

namespace Cert.MlaUkvDwClaims

theorem frame_kernel : Cert.quiescent_MlaUkvDw := fun m g _ => Cert.MlaUkvDw.Gen.frame (F := Bits) m g

theorem frame_ideal : Cert.quiescent_MlaUkvDwIdeal := fun m g _ => Cert.MlaUkvDwIdeal.Gen.frame (F := Ideal) m g

theorem frame_refIdeal : Cert.quiescent_MlaUkvDwRefIdeal := fun m g _ =>
  (θ_run Cert.MlaUkvDwRefIdeal.defs _ _).mono (fun r h => ⟨fun c => (h c).2, sem_eq_zero_of_no_sems (by decide) r.2⟩)
    (Cert.MlaUkvDwRefIdeal.Value.run (F := Ideal) m g)

theorem algebraic : Cert.algebraic_MlaUkvDwIdeal_MlaUkvDwRefIdeal := fun m g m' g' _ hm =>
  ⟨_, Cert.MlaUkvDwIdeal.Product.run m g,
    (θ_run Cert.MlaUkvDwRefIdeal.defs _ _).mono
      (fun _ h c => ⟨(h c).1.trans (by rw [(hm c).1, (hm c).2]; funext i; pointwise [Partial.left]), (h c).2⟩)
      (Cert.MlaUkvDwRefIdeal.Value.run (F := Ideal) m' g')⟩

end Cert.MlaUkvDwClaims

end
-- ==== Proof.KvNormValue.lean ====
/-
  What the norm of the keys' and values' latent and its gradient leave. The latent is a block of 256 columns of a wider array,
  which the call fetches by row blocks: the gradient is stored row block by row block, the gain's gradient is a running sum over
  the row blocks.
-/
module

public import proofs.«01_k».proof.Proof.Gen.KvNormIdeal.Value
public import proofs.«01_k».proof.Proof.Gen.KvNormBwdIdeal.Value
public import proofs.«01_k».proof.Proof.RowNorm
public import proofs.«01_k».proof.Proof.Partial
public import Idealize.ShloMosaic.Lib.Pipeline.Value
public import Idealize.ShloMosaic.Lib.Tactic

@[expose] public section

set_option maxRecDepth 16384

noncomputable section

open Idealize.ShloMosaic Idealize.ShloMosaic.TcCoe Idealize.SL.Sem
open Idealize.ShloMosaic.Pipeline (Dat)
open Cert.RowNorm

namespace Cert.KvNorm

/-- Entry `k` of row `r` of the latent. -/
def lat (p : FVec Ideal ⟨2, ![8192, 5120]⟩ .f32) (r : Fin 8192) (k : Fin 256) : EReal := p (ix2 r ⟨4608 + k.val, by omega⟩)

/-- The latent's rows, each divided by its root mean square and scaled by the gain. -/
def norm (p : FVec Ideal ⟨2, ![8192, 5120]⟩ .f32) (g : FVec Ideal ⟨2, ![1, 256]⟩ .f32) : FVec Ideal ⟨2, ![8192, 256]⟩ .bf16 :=
  fun i => lat p (i 0) (i 1) * Ideal.rsqrt (ms L256 (lat p (i 0))) * g (ix2 0 (i 1))

/-- The gradient of the latent. -/
def dlat (p : FVec Ideal ⟨2, ![8192, 5120]⟩ .f32) (g : FVec Ideal ⟨2, ![1, 256]⟩ .f32) (d : FVec Ideal ⟨2, ![8192, 256]⟩ .f32) :
    FVec Ideal ⟨2, ![8192, 256]⟩ .f32 :=
  fun i => vjpForm L256 (lat p (i 0)) (fun k => d (ix2 (i 0) k) * g (ix2 0 k)) (i 1)

/-- What row `r` adds to entry `l` of the gain's gradient. -/
def term (p : FVec Ideal ⟨2, ![8192, 5120]⟩ .f32) (d : FVec Ideal ⟨2, ![8192, 256]⟩ .f32) (l : Fin 256) (r : Fin 8192) : EReal :=
  d (ix2 r l) * (lat p r l * Ideal.rsqrt (ms L256 (lat p r)))

/-- The gain's gradient: the sum over all rows. -/
def dgain (p : FVec Ideal ⟨2, ![8192, 5120]⟩ .f32) (d : FVec Ideal ⟨2, ![8192, 256]⟩ .f32) : FVec Ideal ⟨2, ![1, 256]⟩ .f32 :=
  fun i => ∑ r, term p d (i 1) r

end Cert.KvNorm

namespace Cert.KvNormIdeal.Norm

open Cert.KvNormIdeal Cert.KvNormIdeal.Gen

variable (m : (ℓ : Loc nD τ sig) → Buf (Elt Ideal) ℓ) (ρ : Dev nD → PrngReg)

/-- At step `t` the latent's block is row block `t` of the columns from 4608 = 18 * 256. -/
theorem idx : ∀ t : Fin cfg0.N, win0_0.index t = ![t.val, 18] ∧ win0_1.index t = ![0, 0] ∧ win0_2.index t = ![t.val, 0] :=
  (by decide +kernel : ∀ t : Fin grid0.N, _)

theorem stored (x : FVec Ideal S256x256 .f32) (g : FVec Ideal S1x256 .f32) (j : S256x256.Idx) :
    k0_pay1 (F := Ideal) x g j = x j * Ideal.rsqrt (ms L256 fun k => x (ix2 (j 0) k)) * g (ix2 0 (j 1)) := by
  pointwise [k0_pay1]
  rfl

theorem final (c : Dev nD) : (dats m 0 c).arrAt 2 cfg0.N = KvNorm.norm (V m c main_arg0) (V m c main_arg1) := by
  refine (dats m 0 c).arrAt_eq_of_covers 2 _ (by decide +kernel) fun t hf y => ?_
  have e := idx t
  blk_simp
  rw [after0_2]
  unfold out0_2
  frame_out
  rw [stored]
  unfold KvNorm.norm KvNorm.lat
  refine congrArg₂ (· * ·) (congrArg₂ (· * ·) ?_ (congrArg (fun x => Ideal.rsqrt (ms L256 x)) (funext fun k => ?_))) ?_ <;>
    blk_ext [iblk, V, e.1, e.2.1, e.2.2]

theorem run : θ_run defs (onTc (τ := τ) (main (F := Ideal))) ⟨m, fun _ => 0, ρ⟩ fun r => ∀ c : Dev nD,
      r.2.mem ((c : Thread nD τ).loc main_v0) = KvNorm.norm (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KvNormIdeal.Norm

namespace Cert.KvNormBwdIdeal.Fold

open Cert.KvNormBwdIdeal Cert.KvNormBwdIdeal.Gen

variable (m : (ℓ : Loc nD τ sig) → Buf (Elt Ideal) ℓ) (ρ : Dev nD → PrngReg)

theorem idx : ∀ t : Fin cfg0.N, win0_0.index t = ![t.val, 18] ∧ win0_1.index t = ![t.val, 0] ∧ win0_2.index t = ![0, 0]
    ∧ win0_3.index t = ![t.val, 0] ∧ win0_4.index t = ![0, 0] :=
  (by decide +kernel : ∀ t : Fin grid0.N, _)

/-- An entry of the row block's gradient is the gradient of the norm at its row. -/
theorem pay3_at (x d : FVec Ideal S256x256 .f32) (g : FVec Ideal S1x256 .f32) (j : S256x256.Idx) :
    k0_pay3 (F := Ideal) x d g j = vjpForm L256 (fun k => x (ix2 (j 0) k)) (fun k => d (ix2 (j 0) k) * g (ix2 0 k)) (j 1) := by
  obtain ⟨r, l, rfl⟩ : ∃ (r : Fin 256) (l : Fin 256), j = ix2 r l := ⟨j 0, j 1, eq_ix2 (n0 := 256) (n1 := 256) j⟩
  refine Eq.trans ?_ (kernelForm_eq L256 (fun k => x (ix2 r k)) (fun k => d (ix2 r k) * g (ix2 0 k)) l)
  pointwise [k0_pay3, k0_pay2, k0_pay1]
  rfl

/-- An entry of the row block's part of the gain's gradient is a sum over its rows. -/
theorem pay4_at (x d : FVec Ideal S256x256 .f32) (j : S1x256.Idx) :
    k0_pay4 (F := Ideal) x d j
      = ∑ r : Fin 256, d (ix2 r (j 1)) * (x (ix2 r (j 1)) * Ideal.rsqrt (ms L256 fun k => x (ix2 r k))) := by
  pointwise [k0_pay4, k0_pay2, k0_pay1]
  rfl

theorem final3 (c : Dev nD) : (dats m 0 c).arrAt 3 cfg0.N = KvNorm.dlat (V m c main_arg0) (V m c main_arg1) (V m c main_arg2) := by
  refine (dats m 0 c).arrAt_eq_of_covers 3 _ (by decide +kernel) fun t hf y => ?_
  have hN : cfg0.N = 32 := N_0
  have : t.val < cfg0.N := t.isLt
  have e := idx t
  have out : ∀ j, (outsAt0 m c t.val t.isLt).1 j = k0_pay3 (F := Ideal) (iblk m c 0 t) (iblk m c 1 t) (iblk m c 2 t) j := fun j => by
    by_cases h : t.val = 0
    · rw [outsAt0_A m c t (by omega) (by omega)]; frame_out
    · rw [outsAt0_B m c t (by omega) (by omega)]; frame_out
  blk_simp
  rw [after0_3, out, pay3_at]
  unfold KvNorm.dlat KvNorm.lat
  congr 1
  · funext k
    blk_ext [iblk, V, e.1, e.2.1, e.2.2.1, e.2.2.2.1]
  · funext k
    congr 1 <;> blk_ext [iblk, V, e.1, e.2.1, e.2.2.1, e.2.2.2.1]
  · refine Fin.ext ?_
    show (y 1).val = win0_3.index t 1 * 256 + 1 * (y 1).val
    rw [e.2.2.2.1]
    show (y 1).val = 0 * 256 + 1 * (y 1).val
    omega

theorem final4 (c : Dev nD) : (dats m 0 c).arrAt 4 cfg0.N = KvNorm.dgain (V m c main_arg0) (V m c main_arg2) := by
  refine (dats m 0 c).arrAt_eq_of_covers 4 _ (by decide +kernel) fun t hf y => ?_
  have ht := (flush0_4 t).mp hf
  have hN : cfg0.N = 32 := N_0
  blk_simp
  rw [after0_4]
  refine Partial.total (fun n h => (outsAt0 m c n h).2) 32 _
    (fun t h j => by have := t.isLt; rw [outsAt0_A m c t h (by omega)]; frame_out; rw [pay4_at])
    (fun t h j => by have := t.isLt; rw [outsAt0_B m c t h (by omega)]; frame_out; unfold k0_pay5; pointwise; rw [pay4_at])
    t ht y _ rfl fun s k hl => ?_
  have e := idx ⟨_, Pipeline.run_point_lt_of_flush t ht s⟩
  have e' := idx t
  unfold KvNorm.term KvNorm.lat
  refine congrArg₂ (· * ·) ?_ (congrArg₂ (· * ·) ?_ (congrArg (fun x => Ideal.rsqrt (ms L256 x)) (funext fun k => ?_))) <;>
    blk_ext [iblk, V, e.1, e.2.1, e'.2.2.2.2]

theorem run : θ_run defs (onTc (τ := τ) (main (F := Ideal))) ⟨m, fun _ => 0, ρ⟩ fun r => ∀ c : Dev nD,
      r.2.mem ((c : Thread nD τ).loc main_v0_0) = KvNorm.dlat (m ((c : Thread nD τ).loc main_arg0)) (m ((c : Thread nD τ).loc main_arg1))
        (m ((c : Thread nD τ).loc main_arg2))
      ∧ r.2.mem ((c : Thread nD τ).loc main_v0_1) = KvNorm.dgain (m ((c : Thread nD τ).loc main_arg0)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final3 m c), (h c).2.1.trans (final4 m c), (h c).2.2⟩) (Value.run_blocks m ρ)

end Cert.KvNormBwdIdeal.Fold

end
-- ==== Proof.KvNormClaims.lean ====
/-
  The claims about the norm of the keys' and values' latent and about its gradient.
-/
module

public import proofs.«01_k».proof.Defs
public import proofs.«01_k».proof.Proof.Gen.KvNorm
public import proofs.«01_k».proof.Proof.Gen.KvNorm.Frame
public import proofs.«01_k».proof.Proof.KvNormValue
public import proofs.«01_k».proof.Proof.Gen.KvNormRefIdeal
public import proofs.«01_k».proof.Proof.Gen.KvNormRefIdeal.Run
public import proofs.«01_k».proof.Proof.Gen.KvNormBwd
public import proofs.«01_k».proof.Proof.Gen.KvNormBwd.Frame
public import proofs.«01_k».proof.Proof.Gen.KvNormBwdRefIdeal
public import proofs.«01_k».proof.Proof.Gen.KvNormBwdRefIdeal.Run
public import Idealize.ShloMosaic.Lib.Quiescent

@[expose] public section

noncomputable section

open Idealize.ShloMosaic Idealize.ShloMosaic.TcCoe Idealize.SL.Sem
open Cert.RowNorm

namespace Cert.KvNormClaims

theorem frame_kernel : Cert.quiescent_KvNorm := fun m g _ => Cert.KvNorm.Gen.frame (F := Bits) m g

theorem frame_ideal : Cert.quiescent_KvNormIdeal := fun m g _ => Cert.KvNormIdeal.Gen.frame (F := Ideal) m g

theorem frame_refIdeal : Cert.quiescent_KvNormRefIdeal := fun m g _ =>
  (θ_run Cert.KvNormRefIdeal.defs _ _).mono (fun r h => ⟨fun c => (h c).2, sem_eq_zero_of_no_sems (by decide) r.2⟩)
    (Cert.KvNormRefIdeal.Value.run (F := Ideal) m g)

theorem algebraic : Cert.algebraic_KvNormIdeal_KvNormRefIdeal := fun m g m' g' _ hm =>
  ⟨_, Cert.KvNormIdeal.Norm.run m g,
    (θ_run Cert.KvNormRefIdeal.defs _ _).mono
      (fun _ h c => ⟨(h c).1.trans (by
        rw [(hm c).1, (hm c).2]
        funext i
        obtain ⟨r, l, rfl⟩ : ∃ (r : Fin 8192) (l : Fin 256), i = ix2 r l := ⟨i 0, i 1, eq_ix2 (n0 := 8192) (n1 := 256) i⟩
        pointwise
        exact congrArg (fun s => Cert.KvNorm.lat _ r l * Ideal.rsqrt s * _) (ms_div L256 (Cert.KvNorm.lat _ r))), (h c).2⟩)
      (Cert.KvNormRefIdeal.Value.run (F := Ideal) m' g')⟩

end Cert.KvNormClaims

namespace Cert.KvNormBwdClaims

theorem frame_kernel : Cert.quiescent_KvNormBwd := fun m g _ => Cert.KvNormBwd.Gen.frame (F := Bits) m g

theorem frame_ideal : Cert.quiescent_KvNormBwdIdeal := fun m g _ => Cert.KvNormBwdIdeal.Gen.frame (F := Ideal) m g

theorem frame_refIdeal : Cert.quiescent_KvNormBwdRefIdeal := fun m g _ =>
  (θ_run Cert.KvNormBwdRefIdeal.defs _ _).mono (fun r h => ⟨fun c => (h c).2.2, sem_eq_zero_of_no_sems (by decide) r.2⟩)
    (Cert.KvNormBwdRefIdeal.Value.run (F := Ideal) m g)

theorem algebraic : Cert.algebraic_KvNormBwdIdeal_KvNormBwdRefIdeal := fun m g m' g' _ hm =>
  ⟨_, _, Cert.KvNormBwdIdeal.Fold.run m g,
    (θ_run Cert.KvNormBwdRefIdeal.defs _ _).mono
      (fun _ h c => ⟨(h c).1.trans (by
          unfold Cert.KvNormBwdRefIdeal.Value.res_main_v34
          rw [(hm c).1, (hm c).2.1, (hm c).2.2]
          funext i
          obtain ⟨r, l, rfl⟩ : ∃ (r : Fin 8192) (l : Fin 256), i = ix2 r l := ⟨i 0, i 1, eq_ix2 (n0 := 8192) (n1 := 256) i⟩
          pointwise
          simp only [Fin.sum_univ_one]
          unfold Cert.KvNorm.dlat vjpForm cot
          rw [← ms_div]
          rfl),
        (h c).2.1.trans (by
          rw [(hm c).1, (hm c).2.2]
          funext i
          obtain ⟨r, l, rfl⟩ : ∃ (r : Fin 1) (l : Fin 256), i = ix2 r l := ⟨i 0, i 1, eq_ix2 (n0 := 1) (n1 := 256) i⟩
          pointwise
          refine Finset.sum_congr rfl fun r _ => (mul_comm _ _).trans ?_
          exact congrArg (fun s => _ * (Cert.KvNorm.lat _ r l * Ideal.rsqrt s)) (ms_div L256 (Cert.KvNorm.lat _ r))), (h c).2.2⟩)
      (Cert.KvNormBwdRefIdeal.Value.run (F := Ideal) m' g')⟩

end Cert.KvNormBwdClaims

end
-- ==== Proof.GlaPostValue.lean ====
/-
  What the output norm and gate of gated linear attention leaves: row block by row block, the sum of the two directions, each head's
  256 entries divided by their root mean square and scaled by the gain, times the gate and its sigmoid.
-/
module

public import proofs.«01_k».proof.Proof.Gen.GlaPostIdeal.Value
public import proofs.«01_k».proof.Proof.RowNorm
public import proofs.«01_k».proof.Proof.Gated
public import proofs.«01_k».proof.Proof.Partial
public import Idealize.ShloMosaic.Lib.Pipeline.Value
public import Idealize.ShloMosaic.Lib.Tactic

@[expose] public section

set_option maxRecDepth 16384

noncomputable section

open Idealize.ShloMosaic Idealize.ShloMosaic.TcCoe Idealize.SL.Sem
open Idealize.ShloMosaic.Pipeline (Dat)
open Cert.RowNorm

namespace Cert.GlaPost

/-- Entry `k` of the head to which column `l` belongs. -/
abbrev mate (l : Fin 1024) (k : Fin 256) : Fin 1024 := ⟨l.val / 256 * 256 + k.val, by omega⟩

/-- Entry `l` of a row: the head's norm, the gain, and the gate. -/
def entry (x : Fin 1024 → EReal) (gate gain : EReal) (l : Fin 1024) : EReal :=
  gate * Gated.sigmoid gate * (x l * Ideal.rsqrt (ms L256 fun k => x (mate l k)) * gain)

/-- The norm and the gate of the whole array; the gate's columns begin at 2048. -/
def post (o : FVec Ideal ⟨3, ![2, 8192, 1024]⟩ .f32) (p : FVec Ideal ⟨2, ![8192, 3200]⟩ .f32) (g : FVec Ideal ⟨2, ![1, 1024]⟩ .f32) :
    FVec Ideal ⟨2, ![8192, 1024]⟩ .bf16 := fun i =>
  entry (fun l => o (ix3 0 (i 0) l) + o (ix3 1 (i 0) l))
    (p (ix2 (i 0) ⟨2048 + (i 1).val, by have : (i 1).val < 1024 := (i 1).isLt; omega⟩)) (g (ix2 0 (i 1))) (i 1)

end Cert.GlaPost

namespace Cert.GlaPostIdeal.Post

open Cert.GlaPostIdeal Cert.GlaPostIdeal.Gen

variable (m : (ℓ : Loc nD τ sig) → Buf (Elt Ideal) ℓ) (ρ : Dev nD → PrngReg)

theorem idx : ∀ t : Fin cfg0.N, win0_0.index t = ![0, t.val, 0] ∧ win0_1.index t = ![1, t.val, 0] ∧ win0_2.index t = ![t.val, 2]
    ∧ win0_3.index t = ![0, 0] ∧ win0_4.index t = ![t.val, 0] :=
  (by decide +kernel : ∀ t : Fin grid0.N, _)

/-- The sums of the four heads, laid side by side: column `l` has the sum of its own head. -/
theorem pick (f : Fin 1024 → EReal) (l : Fin 1024) :
    (if h : l.val < 256 then ∑ x : Fin 256, f ⟨x.val, by omega⟩
      else if h : l.val - 256 < 256 then ∑ x : Fin 256, f ⟨256 + x.val, by omega⟩
      else if h : l.val - 256 - 256 < 256 then ∑ x : Fin 256, f ⟨512 + x.val, by omega⟩
      else ∑ x : Fin 256, f ⟨768 + x.val, by omega⟩) = ∑ k, f (GlaPost.mate l k) := by
  split_ifs <;> exact Finset.sum_congr rfl fun k _ => congrArg f (Fin.ext (by dsimp only; omega))

/-- The row block's norm, head by head. -/
theorem normed (a b : FVec Ideal S1x256x1024 .f32) (g : FVec Ideal S1x1024 .f32) (r : Fin 256) (l : Fin 1024) :
    k0_pay2 (F := Ideal) a b g (ix2 r l)
      = (a (ix3 0 r l) + b (ix3 0 r l))
        * Ideal.rsqrt (ms L256 fun k => a (ix3 0 r (GlaPost.mate l k)) + b (ix3 0 r (GlaPost.mate l k))) * g (ix2 0 l) := by
  pointwise [k0_pay2]
  rw [pick fun l => (a (ix3 0 r l) + b (ix3 0 r l)) * (a (ix3 0 r l) + b (ix3 0 r l))]
  rfl

/-- A step stores the norm and the gate of its row block. -/
theorem stored (a b : FVec Ideal S1x256x1024 .f32) (x : FVec Ideal S256x1024 .f32) (g : FVec Ideal S1x1024 .f32) (j : S256x1024.Idx) :
    k0_pay1 (F := Ideal) x (k0_pay2 (F := Ideal) a b g) (k0_pay3 (F := Ideal) x) (k0_pay4 (F := Ideal)) j
      = GlaPost.entry (fun l => a (ix3 0 (j 0) l) + b (ix3 0 (j 0) l)) (x j) (g (ix2 0 (j 1))) (j 1) := by
  obtain ⟨r, l, rfl⟩ : ∃ (r : Fin 256) (l : Fin 1024), j = ix2 r l := ⟨j 0, j 1, eq_ix2 (n0 := 256) (n1 := 1024) j⟩
  have h := normed a b g r l
  generalize k0_pay2 (F := Ideal) a b g = y at h ⊢
  unfold GlaPost.entry Gated.sigmoid
  pointwise [k0_pay1, k0_pay3, k0_pay4]
  rw [h, zero_sub]

/-- An entry of the gate's block, in the whole array. -/
theorem gate (c : Dev nD) (t : Fin cfg0.N) (r : Fin 256) (l : Fin 1024) :
    X0_2 m c t (ix2 r l)
      = V m c main_arg1 (ix2 ⟨t.val * 256 + r.val, by have : cfg0.N = 32 := N_0; have := t.isLt; omega⟩ ⟨2048 + l.val, by omega⟩) := by
  unfold X0_2 Pipeline.Window.fill
  rw [dif_pos (moved0_2 t _)]
  unfold iblk
  rw [View.read_apply]
  show V m c main_arg1 _ = _
  congr 1
  have e := (idx t).2.2.1
  funext a; apply Fin.ext
  match a with
  | ⟨0, _⟩ => show win0_2.index t 0 * 256 + 1 * r.val = t.val * 256 + r.val; rw [e]; show t.val * 256 + 1 * r.val = _; omega
  | ⟨1, _⟩ => show win0_2.index t 1 * 1024 + 1 * l.val = 2048 + l.val; rw [e]; show 2 * 1024 + 1 * l.val = _; omega

theorem final (c : Dev nD) :
    (dats m 0 c).arrAt 4 cfg0.N = GlaPost.post (V m c main_arg0) (V m c main_arg1) (V m c main_arg2) := by
  refine (dats m 0 c).arrAt_eq_of_covers 4 _ (by decide +kernel) fun t hf y => ?_
  have e := idx t
  blk_simp
  rw [after0_4]
  unfold outsAt0
  frame_out
  rw [stored]
  unfold GlaPost.post
  congr 1
  · funext l
    congr 1 <;> blk_ext [iblk, V, e.1, e.2.1, e.2.2.2.2]
  · refine (congrArg (X0_2 m c t) (eq_ix2 (n0 := 256) (n1 := 1024) y)).trans ((gate m c t (y 0) (y 1)).trans ?_)
    blk_ext [V, e.2.2.2.2]
  · blk_ext [iblk, V, e.2.2.2.1, e.2.2.2.2]
  · refine Fin.ext ?_
    show (y 1).val = win0_4.index t 1 * 1024 + 1 * (y 1).val
    rw [e.2.2.2.2]
    show (y 1).val = 0 * 1024 + 1 * (y 1).val
    omega

theorem run : θ_run defs (onTc (τ := τ) (main (F := Ideal))) ⟨m, fun _ => 0, ρ⟩ fun r => ∀ c : Dev nD,
      r.2.mem ((c : Thread nD τ).loc main_v0) = GlaPost.post (m ((c : Thread nD τ).loc main_arg0)) (m ((c : Thread nD τ).loc main_arg1))
        (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.GlaPostIdeal.Post

end
-- ==== Proof.GlaPostClaims.lean ====
/-
  The claims about the output norm and gate of gated linear attention.
-/
module

public import proofs.«01_k».proof.Defs
public import proofs.«01_k».proof.Proof.Gen.GlaPost
public import proofs.«01_k».proof.Proof.Gen.GlaPost.Frame
public import proofs.«01_k».proof.Proof.GlaPostValue
public import proofs.«01_k».proof.Proof.Gen.GlaPostRefIdeal
public import proofs.«01_k».proof.Proof.Gen.GlaPostRefIdeal.Run
public import Idealize.ShloMosaic.Lib.Quiescent

@[expose] public section

noncomputable section

open Idealize.ShloMosaic Idealize.ShloMosaic.TcCoe Idealize.SL.Sem
open Cert.RowNorm

namespace Cert.GlaPostClaims

theorem frame_kernel : Cert.quiescent_GlaPost := fun m g _ => Cert.GlaPost.Gen.frame (F := Bits) m g

theorem frame_ideal : Cert.quiescent_GlaPostIdeal := fun m g _ => Cert.GlaPostIdeal.Gen.frame (F := Ideal) m g

theorem frame_refIdeal : Cert.quiescent_GlaPostRefIdeal := fun m g _ =>
  (θ_run Cert.GlaPostRefIdeal.defs _ _).mono (fun r h => ⟨fun c => (h c).2, sem_eq_zero_of_no_sems (by decide) r.2⟩)
    (Cert.GlaPostRefIdeal.Value.run (F := Ideal) m g)

section
open Cert.GlaPostRefIdeal Cert.GlaPostRefIdeal.Gen

/-- The reference's sum of the two directions, head by head. -/
def dirs (o : FVec Ideal S2x8192x1024 .f32) : FVec Ideal S8192x4x256 .f32 :=
  shapeCast _ (addf
    (shapeCast _ (extractStridedSlice S1x8192x1024 ![0, 0, 0] o slices_S2x8192x1024_S1x8192x1024_0_0_0) shapeCasts_S1x8192x1024_S8192x1024)
    (shapeCast _ (extractStridedSlice S1x8192x1024 ![1, 0, 0] o slices_S2x8192x1024_S1x8192x1024_1_0_0) shapeCasts_S1x8192x1024_S8192x1024))
    shapeCasts_S8192x1024_S8192x4x256

/-- The reference's norm of every head, scaled by the gain. -/
def heads (x : FVec Ideal S8192x4x256 .f32) (g : FVec Ideal S1x1024 .f32) : FVec Ideal S8192x4x256 .f32 :=
  mulf (mulf x (broadcastInDim S8192x4x256 ![0, 1, 2] bcast_S8192x4x1_S8192x4x256_0_1_2
      (Host.rsqrt (addf (Host.divf (broadcastInDim S8192x4x1 ![0, 1] bcast_S8192x4_S8192x4x1_0_1
          (Host.reduceAdd (mulf x x) (constant S_ .f32 0x00000000#32) reducesTo_S8192x4x256_S8192x4_d2 h_S_))
          (broadcastInDim S8192x4x1 ![] bcast_S_S8192x4x1 (constant S_ .f32 0x43800000#32)))
        (broadcastInDim S8192x4x1 ![] bcast_S_S8192x4x1 (constant S_ .f32 0x358637BD#32))))))
    (broadcastInDim S8192x4x256 ![0, 1, 2] bcast_S1x4x256_S8192x4x256_0_1_2
      (broadcastInDim S1x4x256 ![1, 2] bcast_S4x256_S1x4x256_1_2 (shapeCast _ g shapeCasts_S1x1024_S4x256)))

/-- An entry of each. -/
theorem dirs_at (o : FVec Ideal S2x8192x1024 .f32) (r : Fin 8192) (h : Fin 4) (k : Fin 256) :
    dirs o (ix3 r h k) = o (ix3 0 r ⟨h.val * 256 + k.val, by omega⟩) + o (ix3 1 r ⟨h.val * 256 + k.val, by omega⟩) := by
  pointwise [dirs]

theorem heads_at (x : FVec Ideal S8192x4x256 .f32) (g : FVec Ideal S1x1024 .f32) (r : Fin 8192) (h : Fin 4) (k : Fin 256) :
    heads x g (ix3 r h k)
      = x (ix3 r h k) * Ideal.rsqrt (ms L256 fun k => x (ix3 r h k)) * g (ix2 0 ⟨h.val * 256 + k.val, by omega⟩) := by
  pointwise [heads]
  exact congrArg (fun s => x (ix3 r h k) * Ideal.rsqrt s * _) (ms_div L256 fun k => x (ix3 r h k))

/-- The reference's gate, on the heads laid side by side again. -/
theorem gated_at (y : FVec Ideal S8192x4x256 .f32) (p : FVec Ideal S8192x3200 .f32) (r : Fin 8192) (l : Fin 1024) :
    truncf .bf16 (mulf (mulf (extractStridedSlice S8192x1024 ![0, 2048] p slices_S8192x3200_S8192x1024_0_2048)
        (Host.divf (broadcastInDim S8192x1024 ![] bcast_S_S8192x1024 (constant S_ .f32 0x3F800000#32))
          (addf (broadcastInDim S8192x1024 ![] bcast_S_S8192x1024 (constant S_ .f32 0x3F800000#32))
            (Host.exp (Host.negf (extractStridedSlice S8192x1024 ![0, 2048] p slices_S8192x3200_S8192x1024_0_2048))))))
        (shapeCast S8192x1024 y shapeCasts_S8192x4x256_S8192x1024)) bitsLt_bf16_f32 (ix2 r l)
      = p (ix2 r ⟨2048 + l.val, by omega⟩) * Gated.sigmoid (p (ix2 r ⟨2048 + l.val, by omega⟩))
        * y (ix3 r ⟨l.val / 256, by omega⟩ ⟨l.val % 256, by omega⟩) := by
  unfold Gated.sigmoid
  pointwise

end

theorem algebraic : Cert.algebraic_GlaPostIdeal_GlaPostRefIdeal := fun m g m' g' _ hm =>
  ⟨_, Cert.GlaPostIdeal.Post.run m g,
    (θ_run Cert.GlaPostRefIdeal.defs _ _).mono
      (fun _ h c => ⟨(h c).1.trans (by
        rw [(hm c).1, (hm c).2.1, (hm c).2.2]
        funext i
        obtain ⟨r, l, rfl⟩ : ∃ (r : Fin 8192) (l : Fin 1024), i = ix2 r l := ⟨i 0, i 1, eq_ix2 (n0 := 8192) (n1 := 1024) i⟩
        refine (gated_at (heads (dirs _) _) _ r l).trans ?_
        rw [heads_at]
        simp only [dirs_at, Nat.div_add_mod']
        rfl), (h c).2⟩)
      (Cert.GlaPostRefIdeal.Value.run (F := Ideal) m' g')⟩

end Cert.GlaPostClaims

end
-- ==== Proof.SumClaims.lean ====
/-
  The claims about the sums over the two directions of a recurrence: a sum over blocks of rows is the sum of the array's two
  halves, at both readings of the numbers.
-/
module

public import proofs.«01_k».proof.Defs
public import proofs.«01_k».proof.Proof.Gen.SumWide
public import proofs.«01_k».proof.Proof.Gen.SumWide.Value
public import proofs.«01_k».proof.Proof.Gen.SumWideIdeal.Value
public import proofs.«01_k».proof.Proof.Gen.SumWideRef
public import proofs.«01_k».proof.Proof.Gen.SumWideRef.Run
public import proofs.«01_k».proof.Proof.Gen.SumWideRefIdeal
public import proofs.«01_k».proof.Proof.Gen.SumWideRefIdeal.Run
public import proofs.«01_k».proof.Proof.Gen.SumHalf
public import proofs.«01_k».proof.Proof.Gen.SumHalf.Value
public import proofs.«01_k».proof.Proof.Gen.SumHalfIdeal.Value
public import proofs.«01_k».proof.Proof.Gen.SumHalfRef
public import proofs.«01_k».proof.Proof.Gen.SumHalfRef.Run
public import proofs.«01_k».proof.Proof.Gen.SumHalfRefIdeal
public import proofs.«01_k».proof.Proof.Gen.SumHalfRefIdeal.Run
public import proofs.«01_k».proof.Proof.Gen.SumLane
public import proofs.«01_k».proof.Proof.Gen.SumLane.Value
public import proofs.«01_k».proof.Proof.Gen.SumLaneIdeal.Value
public import proofs.«01_k».proof.Proof.Gen.SumLaneRef
public import proofs.«01_k».proof.Proof.Gen.SumLaneRef.Run
public import proofs.«01_k».proof.Proof.Gen.SumLaneRefIdeal
public import proofs.«01_k».proof.Proof.Gen.SumLaneRefIdeal.Run
public import Idealize.ShloMosaic.Lib.Pipeline.ValueKit
public import Idealize.ShloMosaic.Lib.Pointwise
public import Idealize.ShloMosaic.Lib.Quiescent

@[expose] public section

set_option maxRecDepth 16384

noncomputable section

open Idealize.ShloMosaic Idealize.ShloMosaic.TcCoe Idealize.SL.Sem

/-- The sum of an array's two halves, entry by entry, rounded as the call's result is. -/
def Cert.halves {F : FTy → Type} [FloatOps F] {R W : ℕ} (a : (⟨3, ![2, R, W]⟩ : Shape).Idx → F .f32) :
    (⟨2, ![R, W]⟩ : Shape).Idx → F .bf16 :=
  fun i => FloatOps.truncf .bf16 (by decide) (FloatOps.addf (a (ix3 0 (i 0) (i 1))) (a (ix3 1 (i 0) (i 1))))

theorem Cert.origin : (![0, 0, 0] : Fin 3 → Nat) = fun _ => 0 := funext fun a => by fin_cases a <;> rfl

/-- The references' way to it: each half sliced off and read as a matrix. -/
theorem Cert.halves_eq {F : FTy → Type} [FloatOps F] {R W : ℕ} (a : Vec F ⟨3, ![2, R, W]⟩ .f32) (h0 h1 s0 s1 ht) :
    truncf .bf16 (addf (shapeCast ⟨2, ![R, W]⟩ (extractStridedSlice ⟨3, ![1, R, W]⟩ ![0, 0, 0] a h0) s0)
      (shapeCast ⟨2, ![R, W]⟩ (extractStridedSlice ⟨3, ![1, R, W]⟩ ![1, 0, 0] a h1) s1)) ht = Cert.halves a := by
  funext i
  have e (o : Fin 3 → Nat) (h s) : shapeCast ⟨2, ![R, W]⟩ (extractStridedSlice ⟨3, ![1, R, W]⟩ o a h) s i
      = extractStridedSlice ⟨3, ![1, R, W]⟩ o a h (ix3 0 (i 0) (i 1)) :=
    shapeCast_apply _ _ i (ix3 0 (i 0) (i 1)) (by
      rw [Shape.rowMajor_val_three, Shape.rowMajor_val_two]
      show (0 * R + (i 0).val) * W + (i 1).val = (i 0).val * W + (i 1).val
      rw [Nat.zero_mul, Nat.zero_add])
  refine congrArg (FloatOps.truncf .bf16 _) (congrArg₂ FloatOps.addf ((e _ h0 s0).trans ?_) ((e _ h1 s1).trans ?_))
    <;> refine congrArg a (funext fun k => Fin.ext ?_)
    <;> fin_cases k <;> simp [ix3]

/-! ## What each call leaves -/

namespace Cert.SumWide

open Cert.SumWide.Gen

variable {F : FTy → Type} [FloatOps F] (m : (ℓ : Loc nD τ sig) → Buf (Elt F) ℓ) (ρ : Dev nD → PrngReg)

theorem idx : ∀ t : Fin cfg0.N, win0_0.index t = ![0, t.val, 0] ∧ win0_1.index t = ![1, t.val, 0] ∧ win0_2.index t = ![t.val, 0] :=
  (by decide +kernel : ∀ t : Fin grid0.N, _)

theorem final (c : Dev nD) : (dats m 0 c).arrAt 2 cfg0.N = Cert.halves (V m c main_arg0) := by
  refine (dats m 0 c).arrAt_eq_of_covers 2 _ (by decide +kernel) fun t hf y => ?_
  have e := idx t
  blk_simp
  rw [after0_2]
  unfold out0_2
  rw [Value.canon2_eq, View.ld_unit_zero (S := S1x256x1024) Cert.origin, View.ld_unit_zero (S := S1x256x1024) Cert.origin]
  unfold Cert.halves
  refine congrArg (FloatOps.truncf .bf16 _) (congrArg₂ FloatOps.addf ?_ ?_) <;> blk_ext [iblk, V, e.1, e.2.1, e.2.2]

theorem run : θ_run defs (onTc (τ := τ) (main (F := F))) ⟨m, fun _ => 0, ρ⟩ fun r => ∀ c : Dev nD,
      r.2.mem ((c : Thread nD τ).loc main_v0) = Cert.halves (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (Value.run_blocks m ρ)

end Cert.SumWide

namespace Cert.SumWideIdeal

open Cert.SumWideIdeal.Gen

variable (m : (ℓ : Loc nD τ sig) → Buf (Elt Ideal) ℓ) (ρ : Dev nD → PrngReg)

theorem idx : ∀ t : Fin cfg0.N, win0_0.index t = ![0, t.val, 0] ∧ win0_1.index t = ![1, t.val, 0] ∧ win0_2.index t = ![t.val, 0] :=
  (by decide +kernel : ∀ t : Fin grid0.N, _)

theorem final (c : Dev nD) : (dats m 0 c).arrAt 2 cfg0.N = Cert.halves (F := Ideal) (V m c main_arg0) := by
  refine (dats m 0 c).arrAt_eq_of_covers 2 _ (by decide +kernel) fun t hf y => ?_
  have e := idx t
  blk_simp
  rw [after0_2]
  unfold out0_2
  rw [Value.canon2_eq, View.ld_unit_zero (S := S1x256x1024) Cert.origin, View.ld_unit_zero (S := S1x256x1024) Cert.origin]
  unfold Cert.halves
  refine congrArg (FloatOps.truncf .bf16 _) (congrArg₂ FloatOps.addf ?_ ?_) <;> blk_ext [iblk, V, e.1, e.2.1, e.2.2]

theorem run : θ_run defs (onTc (τ := τ) (main (F := Ideal))) ⟨m, fun _ => 0, ρ⟩ fun r => ∀ c : Dev nD,
      r.2.mem ((c : Thread nD τ).loc main_v0) = Cert.halves (F := Ideal) (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (Value.run_blocks m ρ)

end Cert.SumWideIdeal

namespace Cert.SumHalf

open Cert.SumHalf.Gen

variable {F : FTy → Type} [FloatOps F] (m : (ℓ : Loc nD τ sig) → Buf (Elt F) ℓ) (ρ : Dev nD → PrngReg)

theorem idx : ∀ t : Fin cfg0.N, win0_0.index t = ![0, t.val, 0] ∧ win0_1.index t = ![1, t.val, 0] ∧ win0_2.index t = ![t.val, 0] :=
  (by decide +kernel : ∀ t : Fin grid0.N, _)

theorem final (c : Dev nD) : (dats m 0 c).arrAt 2 cfg0.N = Cert.halves (V m c main_arg0) := by
  refine (dats m 0 c).arrAt_eq_of_covers 2 _ (by decide +kernel) fun t hf y => ?_
  have e := idx t
  blk_simp
  rw [after0_2]
  unfold out0_2
  rw [Value.canon2_eq, View.ld_unit_zero (S := S1x256x512) Cert.origin, View.ld_unit_zero (S := S1x256x512) Cert.origin]
  unfold Cert.halves
  refine congrArg (FloatOps.truncf .bf16 _) (congrArg₂ FloatOps.addf ?_ ?_) <;> blk_ext [iblk, V, e.1, e.2.1, e.2.2]

theorem run : θ_run defs (onTc (τ := τ) (main (F := F))) ⟨m, fun _ => 0, ρ⟩ fun r => ∀ c : Dev nD,
      r.2.mem ((c : Thread nD τ).loc main_v0) = Cert.halves (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (Value.run_blocks m ρ)

end Cert.SumHalf

namespace Cert.SumHalfIdeal

open Cert.SumHalfIdeal.Gen

variable (m : (ℓ : Loc nD τ sig) → Buf (Elt Ideal) ℓ) (ρ : Dev nD → PrngReg)

theorem idx : ∀ t : Fin cfg0.N, win0_0.index t = ![0, t.val, 0] ∧ win0_1.index t = ![1, t.val, 0] ∧ win0_2.index t = ![t.val, 0] :=
  (by decide +kernel : ∀ t : Fin grid0.N, _)

theorem final (c : Dev nD) : (dats m 0 c).arrAt 2 cfg0.N = Cert.halves (F := Ideal) (V m c main_arg0) := by
  refine (dats m 0 c).arrAt_eq_of_covers 2 _ (by decide +kernel) fun t hf y => ?_
  have e := idx t
  blk_simp
  rw [after0_2]
  unfold out0_2
  rw [Value.canon2_eq, View.ld_unit_zero (S := S1x256x512) Cert.origin, View.ld_unit_zero (S := S1x256x512) Cert.origin]
  unfold Cert.halves
  refine congrArg (FloatOps.truncf .bf16 _) (congrArg₂ FloatOps.addf ?_ ?_) <;> blk_ext [iblk, V, e.1, e.2.1, e.2.2]

theorem run : θ_run defs (onTc (τ := τ) (main (F := Ideal))) ⟨m, fun _ => 0, ρ⟩ fun r => ∀ c : Dev nD,
      r.2.mem ((c : Thread nD τ).loc main_v0) = Cert.halves (F := Ideal) (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (Value.run_blocks m ρ)

end Cert.SumHalfIdeal

namespace Cert.SumLane

open Cert.SumLane.Gen

variable {F : FTy → Type} [FloatOps F] (m : (ℓ : Loc nD τ sig) → Buf (Elt F) ℓ) (ρ : Dev nD → PrngReg)

theorem idx : ∀ t : Fin cfg0.N, win0_0.index t = ![0, t.val, 0] ∧ win0_1.index t = ![1, t.val, 0] ∧ win0_2.index t = ![t.val, 0] :=
  (by decide +kernel : ∀ t : Fin grid0.N, _)

theorem final (c : Dev nD) : (dats m 0 c).arrAt 2 cfg0.N = Cert.halves (V m c main_arg0) := by
  refine (dats m 0 c).arrAt_eq_of_covers 2 _ (by decide +kernel) fun t hf y => ?_
  have e := idx t
  blk_simp
  rw [after0_2]
  unfold out0_2
  rw [Value.canon2_eq, View.ld_unit_zero (S := S1x256x128) Cert.origin, View.ld_unit_zero (S := S1x256x128) Cert.origin]
  unfold Cert.halves
  refine congrArg (FloatOps.truncf .bf16 _) (congrArg₂ FloatOps.addf ?_ ?_) <;> blk_ext [iblk, V, e.1, e.2.1, e.2.2]

theorem run : θ_run defs (onTc (τ := τ) (main (F := F))) ⟨m, fun _ => 0, ρ⟩ fun r => ∀ c : Dev nD,
      r.2.mem ((c : Thread nD τ).loc main_v0) = Cert.halves (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (Value.run_blocks m ρ)

end Cert.SumLane

namespace Cert.SumLaneIdeal

open Cert.SumLaneIdeal.Gen

variable (m : (ℓ : Loc nD τ sig) → Buf (Elt Ideal) ℓ) (ρ : Dev nD → PrngReg)

theorem idx : ∀ t : Fin cfg0.N, win0_0.index t = ![0, t.val, 0] ∧ win0_1.index t = ![1, t.val, 0] ∧ win0_2.index t = ![t.val, 0] :=
  (by decide +kernel : ∀ t : Fin grid0.N, _)

theorem final (c : Dev nD) : (dats m 0 c).arrAt 2 cfg0.N = Cert.halves (F := Ideal) (V m c main_arg0) := by
  refine (dats m 0 c).arrAt_eq_of_covers 2 _ (by decide +kernel) fun t hf y => ?_
  have e := idx t
  blk_simp
  rw [after0_2]
  unfold out0_2
  rw [Value.canon2_eq, View.ld_unit_zero (S := S1x256x128) Cert.origin, View.ld_unit_zero (S := S1x256x128) Cert.origin]
  unfold Cert.halves
  refine congrArg (FloatOps.truncf .bf16 _) (congrArg₂ FloatOps.addf ?_ ?_) <;> blk_ext [iblk, V, e.1, e.2.1, e.2.2]

theorem run : θ_run defs (onTc (τ := τ) (main (F := Ideal))) ⟨m, fun _ => 0, ρ⟩ fun r => ∀ c : Dev nD,
      r.2.mem ((c : Thread nD τ).loc main_v0) = Cert.halves (F := Ideal) (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (Value.run_blocks m ρ)

end Cert.SumLaneIdeal

/-! ## The claims -/

namespace Cert.SumWideClaims

theorem frame_kernel : Cert.quiescent_SumWide := fun m g _ => Cert.SumWide.Gen.frame (F := Bits) m g

theorem frame_ideal : Cert.quiescent_SumWideIdeal := fun m g _ => Cert.SumWideIdeal.Gen.frame (F := Ideal) m g

theorem frame_refIdeal : Cert.quiescent_SumWideRefIdeal := fun m g _ =>
  (θ_run Cert.SumWideRefIdeal.defs _ _).mono (fun r h => ⟨fun c => (h c).2, sem_eq_zero_of_no_sems (by decide) r.2⟩)
    (Cert.SumWideRefIdeal.Value.run (F := Ideal) m g)

theorem frame_ref : Cert.quiescent_SumWideRef := fun m g _ =>
  (θ_run Cert.SumWideRef.defs _ _).mono (fun r h => ⟨fun c => (h c).2, sem_eq_zero_of_no_sems (by decide) r.2⟩)
    (Cert.SumWideRef.Value.run (F := Bits) m g)

theorem algebraic : Cert.algebraic_SumWideIdeal_SumWideRefIdeal := fun m g m' g' _ hm =>
  ⟨_, Cert.SumWideIdeal.run m g,
    (θ_run Cert.SumWideRefIdeal.defs _ _).mono (fun _ h c => ⟨(h c).1.trans (by rw [hm c]; exact Cert.halves_eq ..), (h c).2⟩)
      (Cert.SumWideRefIdeal.Value.run (F := Ideal) m' g')⟩

theorem bitexact : Cert.bitexact_SumWide_SumWideRef := fun m g m' g' _ hm =>
  ⟨_, Cert.SumWide.run (F := Bits) m g,
    (θ_run Cert.SumWideRef.defs _ _).mono (fun _ h c => ⟨(h c).1.trans (by rw [hm c]; exact Cert.halves_eq ..), (h c).2⟩)
      (Cert.SumWideRef.Value.run (F := Bits) m' g')⟩

end Cert.SumWideClaims

namespace Cert.SumHalfClaims

theorem frame_kernel : Cert.quiescent_SumHalf := fun m g _ => Cert.SumHalf.Gen.frame (F := Bits) m g

theorem frame_ideal : Cert.quiescent_SumHalfIdeal := fun m g _ => Cert.SumHalfIdeal.Gen.frame (F := Ideal) m g

theorem frame_refIdeal : Cert.quiescent_SumHalfRefIdeal := fun m g _ =>
  (θ_run Cert.SumHalfRefIdeal.defs _ _).mono (fun r h => ⟨fun c => (h c).2, sem_eq_zero_of_no_sems (by decide) r.2⟩)
    (Cert.SumHalfRefIdeal.Value.run (F := Ideal) m g)

theorem frame_ref : Cert.quiescent_SumHalfRef := fun m g _ =>
  (θ_run Cert.SumHalfRef.defs _ _).mono (fun r h => ⟨fun c => (h c).2, sem_eq_zero_of_no_sems (by decide) r.2⟩)
    (Cert.SumHalfRef.Value.run (F := Bits) m g)

theorem algebraic : Cert.algebraic_SumHalfIdeal_SumHalfRefIdeal := fun m g m' g' _ hm =>
  ⟨_, Cert.SumHalfIdeal.run m g,
    (θ_run Cert.SumHalfRefIdeal.defs _ _).mono (fun _ h c => ⟨(h c).1.trans (by rw [hm c]; exact Cert.halves_eq ..), (h c).2⟩)
      (Cert.SumHalfRefIdeal.Value.run (F := Ideal) m' g')⟩

theorem bitexact : Cert.bitexact_SumHalf_SumHalfRef := fun m g m' g' _ hm =>
  ⟨_, Cert.SumHalf.run (F := Bits) m g,
    (θ_run Cert.SumHalfRef.defs _ _).mono (fun _ h c => ⟨(h c).1.trans (by rw [hm c]; exact Cert.halves_eq ..), (h c).2⟩)
      (Cert.SumHalfRef.Value.run (F := Bits) m' g')⟩

end Cert.SumHalfClaims

namespace Cert.SumLaneClaims

theorem frame_kernel : Cert.quiescent_SumLane := fun m g _ => Cert.SumLane.Gen.frame (F := Bits) m g

theorem frame_ideal : Cert.quiescent_SumLaneIdeal := fun m g _ => Cert.SumLaneIdeal.Gen.frame (F := Ideal) m g

theorem frame_refIdeal : Cert.quiescent_SumLaneRefIdeal := fun m g _ =>
  (θ_run Cert.SumLaneRefIdeal.defs _ _).mono (fun r h => ⟨fun c => (h c).2, sem_eq_zero_of_no_sems (by decide) r.2⟩)
    (Cert.SumLaneRefIdeal.Value.run (F := Ideal) m g)

theorem frame_ref : Cert.quiescent_SumLaneRef := fun m g _ =>
  (θ_run Cert.SumLaneRef.defs _ _).mono (fun r h => ⟨fun c => (h c).2, sem_eq_zero_of_no_sems (by decide) r.2⟩)
    (Cert.SumLaneRef.Value.run (F := Bits) m g)

theorem algebraic : Cert.algebraic_SumLaneIdeal_SumLaneRefIdeal := fun m g m' g' _ hm =>
  ⟨_, Cert.SumLaneIdeal.run m g,
    (θ_run Cert.SumLaneRefIdeal.defs _ _).mono (fun _ h c => ⟨(h c).1.trans (by rw [hm c]; exact Cert.halves_eq ..), (h c).2⟩)
      (Cert.SumLaneRefIdeal.Value.run (F := Ideal) m' g')⟩

theorem bitexact : Cert.bitexact_SumLane_SumLaneRef := fun m g m' g' _ hm =>
  ⟨_, Cert.SumLane.run (F := Bits) m g,
    (θ_run Cert.SumLaneRef.defs _ _).mono (fun _ h c => ⟨(h c).1.trans (by rw [hm c]; exact Cert.halves_eq ..), (h c).2⟩)
      (Cert.SumLaneRef.Value.run (F := Bits) m' g')⟩

end Cert.SumLaneClaims

end
-- ==== Proof.lean ====
/-
  The proof of `Cert.Claim`: the facts the programs need come first, then each claim in the order it is stated. The four
  exchanges are proved one by one in the modules named after them, then the sums, the AdamW updates, the
  gradient of the first norm, the calls of the convolutional MLP, and the loss.
-/
module

public import proofs.«01_k».proof.Defs
public import proofs.«01_k».proof.Proof.Gen.Swap
public import proofs.«01_k».proof.Proof.Gen.SwapIdeal
public import proofs.«01_k».proof.Proof.Gen.SwapRefIdeal
public import proofs.«01_k».proof.Proof.Gen.Scatter
public import proofs.«01_k».proof.Proof.Gen.ScatterIdeal
public import proofs.«01_k».proof.Proof.Gen.ScatterRefIdeal
public import proofs.«01_k».proof.Proof.Gen.Cores
public import proofs.«01_k».proof.Proof.Gen.CoresIdeal
public import proofs.«01_k».proof.Proof.Gen.CoresRefIdeal
public import proofs.«01_k».proof.Proof.Gen.Chips
public import proofs.«01_k».proof.Proof.Gen.ChipsIdeal
public import proofs.«01_k».proof.Proof.Gen.ChipsRefIdeal
public import proofs.«01_k».proof.Proof.Gen.SwapRef
public import proofs.«01_k».proof.Proof.Gen.ScatterRef
public import proofs.«01_k».proof.Proof.Gen.CoresRef
public import proofs.«01_k».proof.Proof.Gen.ChipsRef
public import proofs.«01_k».proof.Proof.Gen.AddCores
public import proofs.«01_k».proof.Proof.Gen.AddCoresIdeal
public import proofs.«01_k».proof.Proof.Gen.AddCoresRefIdeal
public import proofs.«01_k».proof.Proof.Gen.AddCoresRef
public import proofs.«01_k».proof.Proof.Gen.AddChips
public import proofs.«01_k».proof.Proof.Gen.AddChipsIdeal
public import proofs.«01_k».proof.Proof.Gen.AddChipsRefIdeal
public import proofs.«01_k».proof.Proof.Gen.AddChipsRef
public import proofs.«01_k».proof.Proof.Gen.AdamSplit
public import proofs.«01_k».proof.Proof.Gen.AdamSplitIdeal
public import proofs.«01_k».proof.Proof.Gen.AdamSplitRefIdeal
public import proofs.«01_k».proof.Proof.Gen.AdamRep
public import proofs.«01_k».proof.Proof.Gen.AdamRepIdeal
public import proofs.«01_k».proof.Proof.Gen.AdamRepRefIdeal
public import proofs.«01_k».proof.Proof.SwapClaims
public import proofs.«01_k».proof.Proof.ScatterClaims
public import proofs.«01_k».proof.Proof.CoresClaims
public import proofs.«01_k».proof.Proof.ChipsClaims
public import proofs.«01_k».proof.Proof.AddClaims
public import proofs.«01_k».proof.Proof.AdamClaims
public import proofs.«01_k».proof.Proof.GradXClaims
public import proofs.«01_k».proof.Proof.LossClaims
public import proofs.«01_k».proof.Proof.Gen.Loss
public import proofs.«01_k».proof.Proof.Gen.LossIdeal
public import proofs.«01_k».proof.Proof.Gen.LossRefIdeal
public import proofs.«01_k».proof.Proof.Gen.GradX
public import proofs.«01_k».proof.Proof.Gen.GradXIdeal
public import proofs.«01_k».proof.Proof.Gen.GradXRefIdeal
public import proofs.«01_k».proof.Proof.Gen.FfnNorm
public import proofs.«01_k».proof.Proof.Gen.FfnNormIdeal
public import proofs.«01_k».proof.Proof.Gen.FfnNormRefIdeal
public import proofs.«01_k».proof.Proof.Gen.FfnUp
public import proofs.«01_k».proof.Proof.Gen.FfnUpIdeal
public import proofs.«01_k».proof.Proof.Gen.FfnUpRefIdeal
public import proofs.«01_k».proof.Proof.Gen.FfnAct
public import proofs.«01_k».proof.Proof.Gen.FfnActIdeal
public import proofs.«01_k».proof.Proof.Gen.FfnActRefIdeal
public import proofs.«01_k».proof.Proof.Gen.FfnDown
public import proofs.«01_k».proof.Proof.Gen.FfnDownIdeal
public import proofs.«01_k».proof.Proof.Gen.FfnDownRefIdeal
public import proofs.«01_k».proof.Proof.Gen.FfnDownDx
public import proofs.«01_k».proof.Proof.Gen.FfnDownDxIdeal
public import proofs.«01_k».proof.Proof.Gen.FfnDownDxRefIdeal
public import proofs.«01_k».proof.Proof.Gen.FfnDownDw
public import proofs.«01_k».proof.Proof.Gen.FfnDownDwIdeal
public import proofs.«01_k».proof.Proof.Gen.FfnDownDwRefIdeal
public import proofs.«01_k».proof.Proof.Gen.FfnUpDx
public import proofs.«01_k».proof.Proof.Gen.FfnUpDxIdeal
public import proofs.«01_k».proof.Proof.Gen.FfnUpDxRefIdeal
public import proofs.«01_k».proof.Proof.Gen.FfnUpDw
public import proofs.«01_k».proof.Proof.Gen.FfnUpDwIdeal
public import proofs.«01_k».proof.Proof.Gen.FfnUpDwRefIdeal
public import proofs.«01_k».proof.Proof.Gen.EvenIn
public import proofs.«01_k».proof.Proof.Gen.EvenInIdeal
public import proofs.«01_k».proof.Proof.Gen.EvenInRefIdeal
public import proofs.«01_k».proof.Proof.Gen.EvenOut
public import proofs.«01_k».proof.Proof.Gen.EvenOutIdeal
public import proofs.«01_k».proof.Proof.Gen.EvenOutRefIdeal
public import proofs.«01_k».proof.Proof.Gen.EvenOutDx
public import proofs.«01_k».proof.Proof.Gen.EvenOutDxIdeal
public import proofs.«01_k».proof.Proof.Gen.EvenOutDxRefIdeal
public import proofs.«01_k».proof.Proof.Gen.EvenOutDw
public import proofs.«01_k».proof.Proof.Gen.EvenOutDwIdeal
public import proofs.«01_k».proof.Proof.Gen.EvenOutDwRefIdeal
public import proofs.«01_k».proof.Proof.Gen.EvenInDx
public import proofs.«01_k».proof.Proof.Gen.EvenInDxIdeal
public import proofs.«01_k».proof.Proof.Gen.EvenInDxRefIdeal
public import proofs.«01_k».proof.Proof.Gen.EvenInDw
public import proofs.«01_k».proof.Proof.Gen.EvenInDwIdeal
public import proofs.«01_k».proof.Proof.Gen.EvenInDwRefIdeal
public import proofs.«01_k».proof.Proof.Gen.OddIn
public import proofs.«01_k».proof.Proof.Gen.OddInIdeal
public import proofs.«01_k».proof.Proof.Gen.OddInRefIdeal
public import proofs.«01_k».proof.Proof.Gen.OddOut
public import proofs.«01_k».proof.Proof.Gen.OddOutIdeal
public import proofs.«01_k».proof.Proof.Gen.OddOutRefIdeal
public import proofs.«01_k».proof.Proof.Gen.OddOutDx
public import proofs.«01_k».proof.Proof.Gen.OddOutDxIdeal
public import proofs.«01_k».proof.Proof.Gen.OddOutDxRefIdeal
public import proofs.«01_k».proof.Proof.Gen.OddOutDw
public import proofs.«01_k».proof.Proof.Gen.OddOutDwIdeal
public import proofs.«01_k».proof.Proof.Gen.OddOutDwRefIdeal
public import proofs.«01_k».proof.Proof.Gen.OddInDx
public import proofs.«01_k».proof.Proof.Gen.OddInDxIdeal
public import proofs.«01_k».proof.Proof.Gen.OddInDxRefIdeal
public import proofs.«01_k».proof.Proof.Gen.OddInDw
public import proofs.«01_k».proof.Proof.Gen.OddInDwIdeal
public import proofs.«01_k».proof.Proof.Gen.OddInDwRefIdeal
public import proofs.«01_k».proof.Proof.Gen.MlaUq
public import proofs.«01_k».proof.Proof.Gen.MlaUqIdeal
public import proofs.«01_k».proof.Proof.Gen.MlaUqRefIdeal
public import proofs.«01_k».proof.Proof.Gen.MlaUkv
public import proofs.«01_k».proof.Proof.Gen.MlaUkvIdeal
public import proofs.«01_k».proof.Proof.Gen.MlaUkvRefIdeal
public import proofs.«01_k».proof.Proof.Gen.MlaUqDx
public import proofs.«01_k».proof.Proof.Gen.MlaUqDxIdeal
public import proofs.«01_k».proof.Proof.Gen.MlaUqDxRefIdeal
public import proofs.«01_k».proof.Proof.Gen.MlaUqDw
public import proofs.«01_k».proof.Proof.Gen.MlaUqDwIdeal
public import proofs.«01_k».proof.Proof.Gen.MlaUqDwRefIdeal
public import proofs.«01_k».proof.Proof.Gen.MlaUkvDx
public import proofs.«01_k».proof.Proof.Gen.MlaUkvDxIdeal
public import proofs.«01_k».proof.Proof.Gen.MlaUkvDxRefIdeal
public import proofs.«01_k».proof.Proof.Gen.MlaUkvDw
public import proofs.«01_k».proof.Proof.Gen.MlaUkvDwIdeal
public import proofs.«01_k».proof.Proof.Gen.MlaUkvDwRefIdeal
public import proofs.«01_k».proof.Proof.Gen.KvNorm
public import proofs.«01_k».proof.Proof.Gen.KvNormIdeal
public import proofs.«01_k».proof.Proof.Gen.KvNormRefIdeal
public import proofs.«01_k».proof.Proof.Gen.KvNormBwd
public import proofs.«01_k».proof.Proof.Gen.KvNormBwdIdeal
public import proofs.«01_k».proof.Proof.Gen.KvNormBwdRefIdeal
public import proofs.«01_k».proof.Proof.Gen.GlaPost
public import proofs.«01_k».proof.Proof.Gen.GlaPostIdeal
public import proofs.«01_k».proof.Proof.Gen.GlaPostRefIdeal
public import proofs.«01_k».proof.Proof.Gen.SumWide
public import proofs.«01_k».proof.Proof.Gen.SumWideIdeal
public import proofs.«01_k».proof.Proof.Gen.SumWideRefIdeal
public import proofs.«01_k».proof.Proof.Gen.SumHalf
public import proofs.«01_k».proof.Proof.Gen.SumHalfIdeal
public import proofs.«01_k».proof.Proof.Gen.SumHalfRefIdeal
public import proofs.«01_k».proof.Proof.Gen.SumLane
public import proofs.«01_k».proof.Proof.Gen.SumLaneIdeal
public import proofs.«01_k».proof.Proof.Gen.SumLaneRefIdeal
public import proofs.«01_k».proof.Proof.Gen.SumWideRef
public import proofs.«01_k».proof.Proof.Gen.SumHalfRef
public import proofs.«01_k».proof.Proof.Gen.SumLaneRef
public import proofs.«01_k».proof.Proof.FfnNormClaims
public import proofs.«01_k».proof.Proof.FfnActClaims
public import proofs.«01_k».proof.Proof.FfnProductClaims
public import proofs.«01_k».proof.Proof.MixerProductClaims
public import proofs.«01_k».proof.Proof.LatentProductClaims
public import proofs.«01_k».proof.Proof.KvNormClaims
public import proofs.«01_k».proof.Proof.GlaPostClaims
public import proofs.«01_k».proof.Proof.SumClaims

@[expose] public section

noncomputable section

namespace Cert.Proof

theorem claim : Cert.Claim := ⟨Cert.Swap.Gen.facts, Cert.SwapIdeal.Gen.facts, Cert.SwapRefIdeal.Gen.facts,
  Cert.Scatter.Gen.facts, Cert.ScatterIdeal.Gen.facts, Cert.ScatterRefIdeal.Gen.facts,
  Cert.Cores.Gen.facts, Cert.CoresIdeal.Gen.facts, Cert.CoresRefIdeal.Gen.facts,
  Cert.Chips.Gen.facts, Cert.ChipsIdeal.Gen.facts, Cert.ChipsRefIdeal.Gen.facts,
  Cert.AddCores.Gen.facts, Cert.AddCoresIdeal.Gen.facts, Cert.AddCoresRefIdeal.Gen.facts,
  Cert.AddChips.Gen.facts, Cert.AddChipsIdeal.Gen.facts, Cert.AddChipsRefIdeal.Gen.facts,
  Cert.AdamSplit.Gen.facts, Cert.AdamSplitIdeal.Gen.facts, Cert.AdamSplitRefIdeal.Gen.facts,
  Cert.AdamRep.Gen.facts, Cert.AdamRepIdeal.Gen.facts, Cert.AdamRepRefIdeal.Gen.facts,
  Cert.GradX.Gen.facts, Cert.GradXIdeal.Gen.facts, Cert.GradXRefIdeal.Gen.facts,
  Cert.FfnNorm.Gen.facts, Cert.FfnNormIdeal.Gen.facts, Cert.FfnNormRefIdeal.Gen.facts,
  Cert.FfnUp.Gen.facts, Cert.FfnUpIdeal.Gen.facts, Cert.FfnUpRefIdeal.Gen.facts,
  Cert.FfnAct.Gen.facts, Cert.FfnActIdeal.Gen.facts, Cert.FfnActRefIdeal.Gen.facts,
  Cert.FfnDown.Gen.facts, Cert.FfnDownIdeal.Gen.facts, Cert.FfnDownRefIdeal.Gen.facts,
  Cert.FfnDownDx.Gen.facts, Cert.FfnDownDxIdeal.Gen.facts, Cert.FfnDownDxRefIdeal.Gen.facts,
  Cert.FfnDownDw.Gen.facts, Cert.FfnDownDwIdeal.Gen.facts, Cert.FfnDownDwRefIdeal.Gen.facts,
  Cert.FfnUpDx.Gen.facts, Cert.FfnUpDxIdeal.Gen.facts, Cert.FfnUpDxRefIdeal.Gen.facts,
  Cert.FfnUpDw.Gen.facts, Cert.FfnUpDwIdeal.Gen.facts, Cert.FfnUpDwRefIdeal.Gen.facts,
  Cert.EvenIn.Gen.facts, Cert.EvenInIdeal.Gen.facts, Cert.EvenInRefIdeal.Gen.facts,
  Cert.EvenOut.Gen.facts, Cert.EvenOutIdeal.Gen.facts, Cert.EvenOutRefIdeal.Gen.facts,
  Cert.EvenOutDx.Gen.facts, Cert.EvenOutDxIdeal.Gen.facts, Cert.EvenOutDxRefIdeal.Gen.facts,
  Cert.EvenOutDw.Gen.facts, Cert.EvenOutDwIdeal.Gen.facts, Cert.EvenOutDwRefIdeal.Gen.facts,
  Cert.EvenInDx.Gen.facts, Cert.EvenInDxIdeal.Gen.facts, Cert.EvenInDxRefIdeal.Gen.facts,
  Cert.EvenInDw.Gen.facts, Cert.EvenInDwIdeal.Gen.facts, Cert.EvenInDwRefIdeal.Gen.facts,
  Cert.OddIn.Gen.facts, Cert.OddInIdeal.Gen.facts, Cert.OddInRefIdeal.Gen.facts,
  Cert.OddOut.Gen.facts, Cert.OddOutIdeal.Gen.facts, Cert.OddOutRefIdeal.Gen.facts,
  Cert.OddOutDx.Gen.facts, Cert.OddOutDxIdeal.Gen.facts, Cert.OddOutDxRefIdeal.Gen.facts,
  Cert.OddOutDw.Gen.facts, Cert.OddOutDwIdeal.Gen.facts, Cert.OddOutDwRefIdeal.Gen.facts,
  Cert.OddInDx.Gen.facts, Cert.OddInDxIdeal.Gen.facts, Cert.OddInDxRefIdeal.Gen.facts,
  Cert.OddInDw.Gen.facts, Cert.OddInDwIdeal.Gen.facts, Cert.OddInDwRefIdeal.Gen.facts,
  Cert.MlaUq.Gen.facts, Cert.MlaUqIdeal.Gen.facts, Cert.MlaUqRefIdeal.Gen.facts,
  Cert.MlaUkv.Gen.facts, Cert.MlaUkvIdeal.Gen.facts, Cert.MlaUkvRefIdeal.Gen.facts,
  Cert.MlaUqDx.Gen.facts, Cert.MlaUqDxIdeal.Gen.facts, Cert.MlaUqDxRefIdeal.Gen.facts,
  Cert.MlaUqDw.Gen.facts, Cert.MlaUqDwIdeal.Gen.facts, Cert.MlaUqDwRefIdeal.Gen.facts,
  Cert.MlaUkvDx.Gen.facts, Cert.MlaUkvDxIdeal.Gen.facts, Cert.MlaUkvDxRefIdeal.Gen.facts,
  Cert.MlaUkvDw.Gen.facts, Cert.MlaUkvDwIdeal.Gen.facts, Cert.MlaUkvDwRefIdeal.Gen.facts,
  Cert.KvNorm.Gen.facts, Cert.KvNormIdeal.Gen.facts, Cert.KvNormRefIdeal.Gen.facts,
  Cert.KvNormBwd.Gen.facts, Cert.KvNormBwdIdeal.Gen.facts, Cert.KvNormBwdRefIdeal.Gen.facts,
  Cert.GlaPost.Gen.facts, Cert.GlaPostIdeal.Gen.facts, Cert.GlaPostRefIdeal.Gen.facts,
  Cert.SumWide.Gen.facts, Cert.SumWideIdeal.Gen.facts, Cert.SumWideRefIdeal.Gen.facts,
  Cert.SumHalf.Gen.facts, Cert.SumHalfIdeal.Gen.facts, Cert.SumHalfRefIdeal.Gen.facts,
  Cert.SumLane.Gen.facts, Cert.SumLaneIdeal.Gen.facts, Cert.SumLaneRefIdeal.Gen.facts,
  Cert.Loss.Gen.facts, Cert.LossIdeal.Gen.facts, Cert.LossRefIdeal.Gen.facts,
  Cert.SwapRef.Gen.facts, Cert.ScatterRef.Gen.facts, Cert.CoresRef.Gen.facts,
  Cert.ChipsRef.Gen.facts, Cert.AddCoresRef.Gen.facts, Cert.AddChipsRef.Gen.facts,
  Cert.SumWideRef.Gen.facts, Cert.SumHalfRef.Gen.facts, Cert.SumLaneRef.Gen.facts,
  SwapClaims.frame_kernel, SwapClaims.frame_ideal, SwapClaims.frame_refIdeal, ScatterClaims.frame_kernel,
  ScatterClaims.frame_ideal, ScatterClaims.frame_refIdeal, CoresClaims.frame_kernel, CoresClaims.frame_ideal,
  CoresClaims.frame_refIdeal, ChipsClaims.frame_kernel, ChipsClaims.frame_ideal, ChipsClaims.frame_refIdeal,
  AddCoresClaims.frame_kernel, AddCoresClaims.frame_ideal, AddCoresClaims.frame_refIdeal,
  AddChipsClaims.frame_kernel, AddChipsClaims.frame_ideal, AddChipsClaims.frame_refIdeal,
  AdamSplitClaims.frame_kernel, AdamSplitClaims.frame_ideal, AdamSplitClaims.frame_refIdeal,
  AdamRepClaims.frame_kernel, AdamRepClaims.frame_ideal, AdamRepClaims.frame_refIdeal,
  GradXClaims.frame_kernel, GradXClaims.frame_ideal, GradXClaims.frame_refIdeal,
  FfnNormClaims.frame_kernel, FfnNormClaims.frame_ideal, FfnNormClaims.frame_refIdeal,
  FfnUpClaims.frame_kernel, FfnUpClaims.frame_ideal, FfnUpClaims.frame_refIdeal,
  FfnActClaims.frame_kernel, FfnActClaims.frame_ideal, FfnActClaims.frame_refIdeal,
  FfnDownClaims.frame_kernel, FfnDownClaims.frame_ideal, FfnDownClaims.frame_refIdeal,
  FfnDownDxClaims.frame_kernel, FfnDownDxClaims.frame_ideal, FfnDownDxClaims.frame_refIdeal,
  FfnDownDwClaims.frame_kernel, FfnDownDwClaims.frame_ideal, FfnDownDwClaims.frame_refIdeal,
  FfnUpDxClaims.frame_kernel, FfnUpDxClaims.frame_ideal, FfnUpDxClaims.frame_refIdeal,
  FfnUpDwClaims.frame_kernel, FfnUpDwClaims.frame_ideal, FfnUpDwClaims.frame_refIdeal,
  EvenInClaims.frame_kernel, EvenInClaims.frame_ideal, EvenInClaims.frame_refIdeal,
  EvenOutClaims.frame_kernel, EvenOutClaims.frame_ideal, EvenOutClaims.frame_refIdeal,
  EvenOutDxClaims.frame_kernel, EvenOutDxClaims.frame_ideal, EvenOutDxClaims.frame_refIdeal,
  EvenOutDwClaims.frame_kernel, EvenOutDwClaims.frame_ideal, EvenOutDwClaims.frame_refIdeal,
  EvenInDxClaims.frame_kernel, EvenInDxClaims.frame_ideal, EvenInDxClaims.frame_refIdeal,
  EvenInDwClaims.frame_kernel, EvenInDwClaims.frame_ideal, EvenInDwClaims.frame_refIdeal,
  OddInClaims.frame_kernel, OddInClaims.frame_ideal, OddInClaims.frame_refIdeal,
  OddOutClaims.frame_kernel, OddOutClaims.frame_ideal, OddOutClaims.frame_refIdeal,
  OddOutDxClaims.frame_kernel, OddOutDxClaims.frame_ideal, OddOutDxClaims.frame_refIdeal,
  OddOutDwClaims.frame_kernel, OddOutDwClaims.frame_ideal, OddOutDwClaims.frame_refIdeal,
  OddInDxClaims.frame_kernel, OddInDxClaims.frame_ideal, OddInDxClaims.frame_refIdeal,
  OddInDwClaims.frame_kernel, OddInDwClaims.frame_ideal, OddInDwClaims.frame_refIdeal,
  MlaUqClaims.frame_kernel, MlaUqClaims.frame_ideal, MlaUqClaims.frame_refIdeal,
  MlaUkvClaims.frame_kernel, MlaUkvClaims.frame_ideal, MlaUkvClaims.frame_refIdeal,
  MlaUqDxClaims.frame_kernel, MlaUqDxClaims.frame_ideal, MlaUqDxClaims.frame_refIdeal,
  MlaUqDwClaims.frame_kernel, MlaUqDwClaims.frame_ideal, MlaUqDwClaims.frame_refIdeal,
  MlaUkvDxClaims.frame_kernel, MlaUkvDxClaims.frame_ideal, MlaUkvDxClaims.frame_refIdeal,
  MlaUkvDwClaims.frame_kernel, MlaUkvDwClaims.frame_ideal, MlaUkvDwClaims.frame_refIdeal,
  KvNormClaims.frame_kernel, KvNormClaims.frame_ideal, KvNormClaims.frame_refIdeal,
  KvNormBwdClaims.frame_kernel, KvNormBwdClaims.frame_ideal, KvNormBwdClaims.frame_refIdeal,
  GlaPostClaims.frame_kernel, GlaPostClaims.frame_ideal, GlaPostClaims.frame_refIdeal,
  SumWideClaims.frame_kernel, SumWideClaims.frame_ideal, SumWideClaims.frame_refIdeal,
  SumHalfClaims.frame_kernel, SumHalfClaims.frame_ideal, SumHalfClaims.frame_refIdeal,
  SumLaneClaims.frame_kernel, SumLaneClaims.frame_ideal, SumLaneClaims.frame_refIdeal,
  LossClaims.frame_kernel, LossClaims.frame_ideal, LossClaims.frame_refIdeal,
  SwapClaims.frame_ref, ScatterClaims.frame_ref, CoresClaims.frame_ref, ChipsClaims.frame_ref,
  AddCoresClaims.frame_ref, AddChipsClaims.frame_ref,
  SumWideClaims.frame_ref, SumHalfClaims.frame_ref, SumLaneClaims.frame_ref,
  trivial, SwapClaims.algebraic, trivial, ScatterClaims.algebraic,
  trivial, CoresClaims.algebraic, trivial, ChipsClaims.algebraic,
  trivial, AddCoresClaims.algebraic, trivial, AddChipsClaims.algebraic,
  trivial, AdamSplitClaims.algebraic, trivial, AdamRepClaims.algebraic, trivial, GradXClaims.algebraic,
  trivial, FfnNormClaims.algebraic,
  trivial, FfnUpClaims.algebraic,
  trivial, FfnActClaims.algebraic,
  trivial, FfnDownClaims.algebraic,
  trivial, FfnDownDxClaims.algebraic,
  trivial, FfnDownDwClaims.algebraic,
  trivial, FfnUpDxClaims.algebraic,
  trivial, FfnUpDwClaims.algebraic,
  trivial, EvenInClaims.algebraic,
  trivial, EvenOutClaims.algebraic,
  trivial, EvenOutDxClaims.algebraic,
  trivial, EvenOutDwClaims.algebraic,
  trivial, EvenInDxClaims.algebraic,
  trivial, EvenInDwClaims.algebraic,
  trivial, OddInClaims.algebraic,
  trivial, OddOutClaims.algebraic,
  trivial, OddOutDxClaims.algebraic,
  trivial, OddOutDwClaims.algebraic,
  trivial, OddInDxClaims.algebraic,
  trivial, OddInDwClaims.algebraic,
  trivial, MlaUqClaims.algebraic,
  trivial, MlaUkvClaims.algebraic,
  trivial, MlaUqDxClaims.algebraic,
  trivial, MlaUqDwClaims.algebraic,
  trivial, MlaUkvDxClaims.algebraic,
  trivial, MlaUkvDwClaims.algebraic,
  trivial, KvNormClaims.algebraic,
  trivial, KvNormBwdClaims.algebraic,
  trivial, GlaPostClaims.algebraic,
  trivial, SumWideClaims.algebraic,
  trivial, SumHalfClaims.algebraic,
  trivial, SumLaneClaims.algebraic,
  trivial, LossClaims.algebraic,
  SwapClaims.bitexact, ScatterClaims.bitexact, CoresClaims.bitexact, ChipsClaims.bitexact,
  AddCoresClaims.bitexact, AddChipsClaims.bitexact,
  SumWideClaims.bitexact, SumHalfClaims.bitexact, SumLaneClaims.bitexact⟩

end Cert.Proof

end
